-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_SumBranch (m : (ℓ : Loc Cert.SumBranch.nD Cert.SumBranch.τ Cert.SumBranch.sig) → Buf (Elt Bits) ℓ) : Prop :=
  True

def Pre_SumBranchIdeal (m : (ℓ : Loc Cert.SumBranchIdeal.nD Cert.SumBranchIdeal.τ Cert.SumBranchIdeal.sig) → Buf (Elt Ideal) ℓ) : Prop :=
  True

def Pre_SumBranchRefIdeal (m : (ℓ : Loc Cert.SumBranchRefIdeal.nD Cert.SumBranchRefIdeal.τ Cert.SumBranchRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumConv (m : (ℓ : Loc Cert.SumConv.nD Cert.SumConv.τ Cert.SumConv.sig) → Buf (Elt Bits) ℓ) : Prop :=
  True

def Pre_SumConvIdeal (m : (ℓ : Loc Cert.SumConvIdeal.nD Cert.SumConvIdeal.τ Cert.SumConvIdeal.sig) → Buf (Elt Ideal) ℓ) : Prop :=
  True

def Pre_SumConvRefIdeal (m : (ℓ : Loc Cert.SumConvRefIdeal.nD Cert.SumConvRefIdeal.τ Cert.SumConvRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_InProjAttn0 (m : (ℓ : Loc Cert.InProjAttn0.nD Cert.InProjAttn0.τ Cert.InProjAttn0.sig) → Buf (Elt Bits) ℓ) : Prop :=
  True

def Pre_InProjAttn0Ideal (m : (ℓ : Loc Cert.InProjAttn0Ideal.nD Cert.InProjAttn0Ideal.τ Cert.InProjAttn0Ideal.sig) → Buf (Elt Ideal) ℓ) : Prop :=
  True

def Pre_InProjAttn0RefIdeal (m : (ℓ : Loc Cert.InProjAttn0RefIdeal.nD Cert.InProjAttn0RefIdeal.τ Cert.InProjAttn0RefIdeal.sig) → Buf (Elt Ideal) ℓ) : Prop :=
  True

def Pre_InProjAttn1 (m : (ℓ : Loc Cert.InProjAttn1.nD Cert.InProjAttn1.τ Cert.InProjAttn1.sig) → Buf (Elt Bits) ℓ) : Prop :=
  True

def Pre_InProjAttn1Ideal (m : (ℓ : Loc Cert.InProjAttn1Ideal.nD Cert.InProjAttn1Ideal.τ Cert.InProjAttn1Ideal.sig) → Buf (Elt Ideal) ℓ) : Prop :=
  True

def Pre_InProjAttn1RefIdeal (m : (ℓ : Loc Cert.InProjAttn1RefIdeal.nD Cert.InProjAttn1RefIdeal.τ Cert.InProjAttn1RefIdeal.sig) → Buf (Elt Ideal) ℓ) : Prop :=
  True

def Pre_InProjAttn2 (m : (ℓ : Loc Cert.InProjAttn2.nD Cert.InProjAttn2.τ Cert.InProjAttn2.sig) → Buf (Elt Bits) ℓ) : Prop :=
  True

def Pre_InProjAttn2Ideal (m : (ℓ : Loc Cert.InProjAttn2Ideal.nD Cert.InProjAttn2Ideal.τ Cert.InProjAttn2Ideal.sig) → Buf (Elt Ideal) ℓ) : Prop :=
  True

def Pre_InProjAttn2RefIdeal (m : (ℓ : Loc Cert.InProjAttn2RefIdeal.nD Cert.InProjAttn2RefIdeal.τ Cert.InProjAttn2RefIdeal.sig) → Buf (Elt Ideal) ℓ) : Prop :=
  True

def Pre_InProjRest (m : (ℓ : Loc Cert.InProjRest.nD Cert.InProjRest.τ Cert.InProjRest.sig) → Buf (Elt Bits) ℓ) : Prop :=
  True

def Pre_InProjRestIdeal (m : (ℓ : Loc Cert.InProjRestIdeal.nD Cert.InProjRestIdeal.τ Cert.InProjRestIdeal.sig) → Buf (Elt Ideal) ℓ) : Prop :=
  True

def Pre_InProjRestRefIdeal (m : (ℓ : Loc Cert.InProjRestRefIdeal.nD Cert.InProjRestRefIdeal.τ Cert.InProjRestRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_InProjDxAttn1 (m : (ℓ : Loc Cert.InProjDxAttn1.nD Cert.InProjDxAttn1.τ Cert.InProjDxAttn1.sig) → Buf (Elt Bits) ℓ) : Prop :=
  True

def Pre_InProjDxAttn1Ideal (m : (ℓ : Loc Cert.InProjDxAttn1Ideal.nD Cert.InProjDxAttn1Ideal.τ Cert.InProjDxAttn1Ideal.sig) → Buf (Elt Ideal) ℓ) : Prop :=
  True

def Pre_InProjDxAttn1RefIdeal (m : (ℓ : Loc Cert.InProjDxAttn1RefIdeal.nD Cert.InProjDxAttn1RefIdeal.τ Cert.InProjDxAttn1RefIdeal.sig) → Buf (Elt Ideal) ℓ) : Prop :=
  True

def Pre_InProjDxAttn2 (m : (ℓ : Loc Cert.InProjDxAttn2.nD Cert.InProjDxAttn2.τ Cert.InProjDxAttn2.sig) → Buf (Elt Bits) ℓ) : Prop :=
  True

def Pre_InProjDxAttn2Ideal (m : (ℓ : Loc Cert.InProjDxAttn2Ideal.nD Cert.InProjDxAttn2Ideal.τ Cert.InProjDxAttn2Ideal.sig) → Buf (Elt Ideal) ℓ) : Prop :=
  True

def Pre_InProjDxAttn2RefIdeal (m : (ℓ : Loc Cert.InProjDxAttn2RefIdeal.nD Cert.InProjDxAttn2RefIdeal.τ Cert.InProjDxAttn2RefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_SumIn [hPre_names_a_device : Cert.Pre_names_a_device.Facts] (m : (ℓ : Loc Cert.SumIn.nD Cert.SumIn.τ Cert.SumIn.sig) → Buf (Elt Bits) ℓ) : Prop :=
  ∀ c : Dev Cert.SumIn.nD,
    (Cert.Pre_names_a_device.fn (F := Bits) (m ((c.tc : Thread Cert.SumIn.nD Cert.SumIn.τ).loc Cert.SumIn.main_arg0)) (m ((c.tc : Thread Cert.SumIn.nD Cert.SumIn.τ).loc Cert.SumIn.main_arg1)) (m ((c.tc : Thread Cert.SumIn.nD Cert.SumIn.τ).loc Cert.SumIn.main_arg2)) (m ((c.tc : Thread Cert.SumIn.nD Cert.SumIn.τ).loc Cert.SumIn.main_arg3))) = (fun _ => 1#1)

def Pre_SumInIdeal [hPre_names_a_device : Cert.Pre_names_a_device.Facts] (m : (ℓ : Loc Cert.SumInIdeal.nD Cert.SumInIdeal.τ Cert.SumInIdeal.sig) → Buf (Elt Ideal) ℓ) : Prop :=
  ∀ c : Dev Cert.SumInIdeal.nD,
    (Cert.Pre_names_a_device.fn (F := Ideal) (m ((c.tc : Thread Cert.SumInIdeal.nD Cert.SumInIdeal.τ).loc Cert.SumInIdeal.main_arg0)) (m ((c.tc : Thread Cert.SumInIdeal.nD Cert.SumInIdeal.τ).loc Cert.SumInIdeal.main_arg1)) (m ((c.tc : Thread Cert.SumInIdeal.nD Cert.SumInIdeal.τ).loc Cert.SumInIdeal.main_arg2)) (m ((c.tc : Thread Cert.SumInIdeal.nD Cert.SumInIdeal.τ).loc Cert.SumInIdeal.main_arg3))) = (fun _ => 1#1)

def Pre_SumInRefIdeal (m : (ℓ : Loc Cert.SumInRefIdeal.nD Cert.SumInRefIdeal.τ Cert.SumInRefIdeal.sig) → Buf (Elt Ideal) ℓ) : Prop :=
  True

def Pre_SumInRefIdeal_names_a_device [hPre_names_a_device : Cert.Pre_names_a_device.Facts] (m : (ℓ : Loc Cert.SumInRefIdeal.nD Cert.SumInRefIdeal.τ Cert.SumInRefIdeal.sig) → Buf (Elt Ideal) ℓ) : Prop :=
  ∀ c : Dev Cert.SumInRefIdeal.nD,
    (Cert.Pre_names_a_device.fn (F := Ideal) (m ((c.tc : Thread Cert.SumInRefIdeal.nD Cert.SumInRefIdeal.τ).loc Cert.SumInRefIdeal.main_arg0)) (m ((c.tc : Thread Cert.SumInRefIdeal.nD Cert.SumInRefIdeal.τ).loc Cert.SumInRefIdeal.main_arg1)) (m ((c.tc : Thread Cert.SumInRefIdeal.nD Cert.SumInRefIdeal.τ).loc Cert.SumInRefIdeal.main_arg2)) (m ((c.tc : Thread Cert.SumInRefIdeal.nD Cert.SumInRefIdeal.τ).loc Cert.SumInRefIdeal.main_arg3))) = (fun _ => 1#1)

def Pre_PairSum [hPre_names_a_core : Cert.Pre_names_a_core.Facts] (m : (ℓ : Loc Cert.PairSum.nD Cert.PairSum.τ Cert.PairSum.sig) → Buf (Elt Bits) ℓ) : Prop :=
  ∀ c : Dev Cert.PairSum.nD,
    (Cert.Pre_names_a_core.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_names_a_core : Cert.Pre_names_a_core.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_names_a_core.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_names_a_core [hPre_names_a_core : Cert.Pre_names_a_core.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_names_a_core.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0))
      ∧ r.2.sem = fun _ => 0)

def quiescent_SumBranch [hSumBranch : Cert.SumBranch.Facts] : Prop :=
  ∀ (m : (ℓ : Loc Cert.SumBranch.nD Cert.SumBranch.τ Cert.SumBranch.sig) → Buf (Elt Bits) ℓ) (g : Dev Cert.SumBranch.nD → PrngReg), Pre_SumBranch m →
    θ_run (Cert.SumBranch.defs (F := Bits)) (onTc (τ := Cert.SumBranch.τ) (Cert.SumBranch.main (F := Bits))) ⟨m, fun _ => 0, g⟩ (fun r => (∀ c : Dev Cert.SumBranch.nD,
      r.2.mem ((c.tc : Thread Cert.SumBranch.nD Cert.SumBranch.τ).loc Cert.SumBranch.main_arg0) = m ((c.tc : Thread Cert.SumBranch.nD Cert.SumBranch.τ).loc Cert.SumBranch.main_arg0))
      ∧ r.2.sem = fun _ => 0)

def quiescent_SumBranchIdeal [hSumBranchIdeal : Cert.SumBranchIdeal.Facts] : Prop :=
  ∀ (m : (ℓ : Loc Cert.SumBranchIdeal.nD Cert.SumBranchIdeal.τ Cert.SumBranchIdeal.sig) → Buf (Elt Ideal) ℓ) (g : Dev Cert.SumBranchIdeal.nD → PrngReg), Pre_SumBranchIdeal m →
    θ_run (Cert.SumBranchIdeal.defs (F := Ideal)) (onTc (τ := Cert.SumBranchIdeal.τ) (Cert.SumBranchIdeal.main (F := Ideal))) ⟨m, fun _ => 0, g⟩ (fun r => (∀ c : Dev Cert.SumBranchIdeal.nD,
      r.2.mem ((c.tc : Thread Cert.SumBranchIdeal.nD Cert.SumBranchIdeal.τ).loc Cert.SumBranchIdeal.main_arg0) = m ((c.tc : Thread Cert.SumBranchIdeal.nD Cert.SumBranchIdeal.τ).loc Cert.SumBranchIdeal.main_arg0))
      ∧ r.2.sem = fun _ => 0)

def quiescent_SumBranchRefIdeal [hSumBranchRefIdeal : Cert.SumBranchRefIdeal.Facts] : Prop :=
  ∀ (m : (ℓ : Loc Cert.SumBranchRefIdeal.nD Cert.SumBranchRefIdeal.τ Cert.SumBranchRefIdeal.sig) → Buf (Elt Ideal) ℓ) (g : Dev Cert.SumBranchRefIdeal.nD → PrngReg), Pre_SumBranchRefIdeal m →
    θ_run (Cert.SumBranchRefIdeal.defs (F := Ideal)) (onTc (τ := Cert.SumBranchRefIdeal.τ) (Cert.SumBranchRefIdeal.main (F := Ideal))) ⟨m, fun _ => 0, g⟩ (fun r => (∀ c : Dev Cert.SumBranchRefIdeal.nD,
      r.2.mem ((c.tc : Thread Cert.SumBranchRefIdeal.nD Cert.SumBranchRefIdeal.τ).loc Cert.SumBranchRefIdeal.main_arg0) = m ((c.tc : Thread Cert.SumBranchRefIdeal.nD Cert.SumBranchRefIdeal.τ).loc Cert.SumBranchRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumConv [hSumConv : Cert.SumConv.Facts] : Prop :=
  ∀ (m : (ℓ : Loc Cert.SumConv.nD Cert.SumConv.τ Cert.SumConv.sig) → Buf (Elt Bits) ℓ) (g : Dev Cert.SumConv.nD → PrngReg), Pre_SumConv m →
    θ_run (Cert.SumConv.defs (F := Bits)) (onTc (τ := Cert.SumConv.τ) (Cert.SumConv.main (F := Bits))) ⟨m, fun _ => 0, g⟩ (fun r => (∀ c : Dev Cert.SumConv.nD,
      r.2.mem ((c.tc : Thread Cert.SumConv.nD Cert.SumConv.τ).loc Cert.SumConv.main_arg0) = m ((c.tc : Thread Cert.SumConv.nD Cert.SumConv.τ).loc Cert.SumConv.main_arg0))
      ∧ r.2.sem = fun _ => 0)

def quiescent_SumConvIdeal [hSumConvIdeal : Cert.SumConvIdeal.Facts] : Prop :=
  ∀ (m : (ℓ : Loc Cert.SumConvIdeal.nD Cert.SumConvIdeal.τ Cert.SumConvIdeal.sig) → Buf (Elt Ideal) ℓ) (g : Dev Cert.SumConvIdeal.nD → PrngReg), Pre_SumConvIdeal m →
    θ_run (Cert.SumConvIdeal.defs (F := Ideal)) (onTc (τ := Cert.SumConvIdeal.τ) (Cert.SumConvIdeal.main (F := Ideal))) ⟨m, fun _ => 0, g⟩ (fun r => (∀ c : Dev Cert.SumConvIdeal.nD,
      r.2.mem ((c.tc : Thread Cert.SumConvIdeal.nD Cert.SumConvIdeal.τ).loc Cert.SumConvIdeal.main_arg0) = m ((c.tc : Thread Cert.SumConvIdeal.nD Cert.SumConvIdeal.τ).loc Cert.SumConvIdeal.main_arg0))
      ∧ r.2.sem = fun _ => 0)

def quiescent_SumConvRefIdeal [hSumConvRefIdeal : Cert.SumConvRefIdeal.Facts] : Prop :=
  ∀ (m : (ℓ : Loc Cert.SumConvRefIdeal.nD Cert.SumConvRefIdeal.τ Cert.SumConvRefIdeal.sig) → Buf (Elt Ideal) ℓ) (g : Dev Cert.SumConvRefIdeal.nD → PrngReg), Pre_SumConvRefIdeal m →
    θ_run (Cert.SumConvRefIdeal.defs (F := Ideal)) (onTc (τ := Cert.SumConvRefIdeal.τ) (Cert.SumConvRefIdeal.main (F := Ideal))) ⟨m, fun _ => 0, g⟩ (fun r => (∀ c : Dev Cert.SumConvRefIdeal.nD,
      r.2.mem ((c.tc : Thread Cert.SumConvRefIdeal.nD Cert.SumConvRefIdeal.τ).loc Cert.SumConvRefIdeal.main_arg0) = m ((c.tc : Thread Cert.SumConvRefIdeal.nD Cert.SumConvRefIdeal.τ).loc Cert.SumConvRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_InProjAttn0 [hInProjAttn0 : Cert.InProjAttn0.Facts] : Prop :=
  ∀ (m : (ℓ : Loc Cert.InProjAttn0.nD Cert.InProjAttn0.τ Cert.InProjAttn0.sig) → Buf (Elt Bits) ℓ) (g : Dev Cert.InProjAttn0.nD → PrngReg), Pre_InProjAttn0 m →
    θ_run (Cert.InProjAttn0.defs (F := Bits)) (onTc (τ := Cert.InProjAttn0.τ) (Cert.InProjAttn0.main (F := Bits))) ⟨m, fun _ => 0, g⟩ (fun r => (∀ c : Dev Cert.InProjAttn0.nD,
      r.2.mem ((c.tc : Thread Cert.InProjAttn0.nD Cert.InProjAttn0.τ).loc Cert.InProjAttn0.main_arg0) = m ((c.tc : Thread Cert.InProjAttn0.nD Cert.InProjAttn0.τ).loc Cert.InProjAttn0.main_arg0)
      ∧ r.2.mem ((c.tc : Thread Cert.InProjAttn0.nD Cert.InProjAttn0.τ).loc Cert.InProjAttn0.main_arg1) = m ((c.tc : Thread Cert.InProjAttn0.nD Cert.InProjAttn0.τ).loc Cert.InProjAttn0.main_arg1))
      ∧ r.2.sem = fun _ => 0)

def quiescent_InProjAttn0Ideal [hInProjAttn0Ideal : Cert.InProjAttn0Ideal.Facts] : Prop :=
  ∀ (m : (ℓ : Loc Cert.InProjAttn0Ideal.nD Cert.InProjAttn0Ideal.τ Cert.InProjAttn0Ideal.sig) → Buf (Elt Ideal) ℓ) (g : Dev Cert.InProjAttn0Ideal.nD → PrngReg), Pre_InProjAttn0Ideal m →
    θ_run (Cert.InProjAttn0Ideal.defs (F := Ideal)) (onTc (τ := Cert.InProjAttn0Ideal.τ) (Cert.InProjAttn0Ideal.main (F := Ideal))) ⟨m, fun _ => 0, g⟩ (fun r => (∀ c : Dev Cert.InProjAttn0Ideal.nD,
      r.2.mem ((c.tc : Thread Cert.InProjAttn0Ideal.nD Cert.InProjAttn0Ideal.τ).loc Cert.InProjAttn0Ideal.main_arg0) = m ((c.tc : Thread Cert.InProjAttn0Ideal.nD Cert.InProjAttn0Ideal.τ).loc Cert.InProjAttn0Ideal.main_arg0)
      ∧ r.2.mem ((c.tc : Thread Cert.InProjAttn0Ideal.nD Cert.InProjAttn0Ideal.τ).loc Cert.InProjAttn0Ideal.main_arg1) = m ((c.tc : Thread Cert.InProjAttn0Ideal.nD Cert.InProjAttn0Ideal.τ).loc Cert.InProjAttn0Ideal.main_arg1))
      ∧ r.2.sem = fun _ => 0)

def quiescent_InProjAttn0RefIdeal [hInProjAttn0RefIdeal : Cert.InProjAttn0RefIdeal.Facts] : Prop :=
  ∀ (m : (ℓ : Loc Cert.InProjAttn0RefIdeal.nD Cert.InProjAttn0RefIdeal.τ Cert.InProjAttn0RefIdeal.sig) → Buf (Elt Ideal) ℓ) (g : Dev Cert.InProjAttn0RefIdeal.nD → PrngReg), Pre_InProjAttn0RefIdeal m →
    θ_run (Cert.InProjAttn0RefIdeal.defs (F := Ideal)) (onTc (τ := Cert.InProjAttn0RefIdeal.τ) (Cert.InProjAttn0RefIdeal.main (F := Ideal))) ⟨m, fun _ => 0, g⟩ (fun r => (∀ c : Dev Cert.InProjAttn0RefIdeal.nD,
      r.2.mem ((c.tc : Thread Cert.InProjAttn0RefIdeal.nD Cert.InProjAttn0RefIdeal.τ).loc Cert.InProjAttn0RefIdeal.main_arg0) = m ((c.tc : Thread Cert.InProjAttn0RefIdeal.nD Cert.InProjAttn0RefIdeal.τ).loc Cert.InProjAttn0RefIdeal.main_arg0)
      ∧ r.2.mem ((c.tc : Thread Cert.InProjAttn0RefIdeal.nD Cert.InProjAttn0RefIdeal.τ).loc Cert.InProjAttn0RefIdeal.main_arg1) = m ((c.tc : Thread Cert.InProjAttn0RefIdeal.nD Cert.InProjAttn0RefIdeal.τ).loc Cert.InProjAttn0RefIdeal.main_arg1))
      ∧ r.2.sem = fun _ => 0)

def quiescent_InProjAttn1 [hInProjAttn1 : Cert.InProjAttn1.Facts] : Prop :=
  ∀ (m : (ℓ : Loc Cert.InProjAttn1.nD Cert.InProjAttn1.τ Cert.InProjAttn1.sig) → Buf (Elt Bits) ℓ) (g : Dev Cert.InProjAttn1.nD → PrngReg), Pre_InProjAttn1 m →
    θ_run (Cert.InProjAttn1.defs (F := Bits)) (onTc (τ := Cert.InProjAttn1.τ) (Cert.InProjAttn1.main (F := Bits))) ⟨m, fun _ => 0, g⟩ (fun r => (∀ c : Dev Cert.InProjAttn1.nD,
      r.2.mem ((c.tc : Thread Cert.InProjAttn1.nD Cert.InProjAttn1.τ).loc Cert.InProjAttn1.main_arg0) = m ((c.tc : Thread Cert.InProjAttn1.nD Cert.InProjAttn1.τ).loc Cert.InProjAttn1.main_arg0)
      ∧ r.2.mem ((c.tc : Thread Cert.InProjAttn1.nD Cert.InProjAttn1.τ).loc Cert.InProjAttn1.main_arg1) = m ((c.tc : Thread Cert.InProjAttn1.nD Cert.InProjAttn1.τ).loc Cert.InProjAttn1.main_arg1))
      ∧ r.2.sem = fun _ => 0)

def quiescent_InProjAttn1Ideal [hInProjAttn1Ideal : Cert.InProjAttn1Ideal.Facts] : Prop :=
  ∀ (m : (ℓ : Loc Cert.InProjAttn1Ideal.nD Cert.InProjAttn1Ideal.τ Cert.InProjAttn1Ideal.sig) → Buf (Elt Ideal) ℓ) (g : Dev Cert.InProjAttn1Ideal.nD → PrngReg), Pre_InProjAttn1Ideal m →
    θ_run (Cert.InProjAttn1Ideal.defs (F := Ideal)) (onTc (τ := Cert.InProjAttn1Ideal.τ) (Cert.InProjAttn1Ideal.main (F := Ideal))) ⟨m, fun _ => 0, g⟩ (fun r => (∀ c : Dev Cert.InProjAttn1Ideal.nD,
      r.2.mem ((c.tc : Thread Cert.InProjAttn1Ideal.nD Cert.InProjAttn1Ideal.τ).loc Cert.InProjAttn1Ideal.main_arg0) = m ((c.tc : Thread Cert.InProjAttn1Ideal.nD Cert.InProjAttn1Ideal.τ).loc Cert.InProjAttn1Ideal.main_arg0)
      ∧ r.2.mem ((c.tc : Thread Cert.InProjAttn1Ideal.nD Cert.InProjAttn1Ideal.τ).loc Cert.InProjAttn1Ideal.main_arg1) = m ((c.tc : Thread Cert.InProjAttn1Ideal.nD Cert.InProjAttn1Ideal.τ).loc Cert.InProjAttn1Ideal.main_arg1))
      ∧ r.2.sem = fun _ => 0)

def quiescent_InProjAttn1RefIdeal [hInProjAttn1RefIdeal : Cert.InProjAttn1RefIdeal.Facts] : Prop :=
  ∀ (m : (ℓ : Loc Cert.InProjAttn1RefIdeal.nD Cert.InProjAttn1RefIdeal.τ Cert.InProjAttn1RefIdeal.sig) → Buf (Elt Ideal) ℓ) (g : Dev Cert.InProjAttn1RefIdeal.nD → PrngReg), Pre_InProjAttn1RefIdeal m →
    θ_run (Cert.InProjAttn1RefIdeal.defs (F := Ideal)) (onTc (τ := Cert.InProjAttn1RefIdeal.τ) (Cert.InProjAttn1RefIdeal.main (F := Ideal))) ⟨m, fun _ => 0, g⟩ (fun r => (∀ c : Dev Cert.InProjAttn1RefIdeal.nD,
      r.2.mem ((c.tc : Thread Cert.InProjAttn1RefIdeal.nD Cert.InProjAttn1RefIdeal.τ).loc Cert.InProjAttn1RefIdeal.main_arg0) = m ((c.tc : Thread Cert.InProjAttn1RefIdeal.nD Cert.InProjAttn1RefIdeal.τ).loc Cert.InProjAttn1RefIdeal.main_arg0)
      ∧ r.2.mem ((c.tc : Thread Cert.InProjAttn1RefIdeal.nD Cert.InProjAttn1RefIdeal.τ).loc Cert.InProjAttn1RefIdeal.main_arg1) = m ((c.tc : Thread Cert.InProjAttn1RefIdeal.nD Cert.InProjAttn1RefIdeal.τ).loc Cert.InProjAttn1RefIdeal.main_arg1))
      ∧ r.2.sem = fun _ => 0)

def quiescent_InProjAttn2 [hInProjAttn2 : Cert.InProjAttn2.Facts] : Prop :=
  ∀ (m : (ℓ : Loc Cert.InProjAttn2.nD Cert.InProjAttn2.τ Cert.InProjAttn2.sig) → Buf (Elt Bits) ℓ) (g : Dev Cert.InProjAttn2.nD → PrngReg), Pre_InProjAttn2 m →
    θ_run (Cert.InProjAttn2.defs (F := Bits)) (onTc (τ := Cert.InProjAttn2.τ) (Cert.InProjAttn2.main (F := Bits))) ⟨m, fun _ => 0, g⟩ (fun r => (∀ c : Dev Cert.InProjAttn2.nD,
      r.2.mem ((c.tc : Thread Cert.InProjAttn2.nD Cert.InProjAttn2.τ).loc Cert.InProjAttn2.main_arg0) = m ((c.tc : Thread Cert.InProjAttn2.nD Cert.InProjAttn2.τ).loc Cert.InProjAttn2.main_arg0)
      ∧ r.2.mem ((c.tc : Thread Cert.InProjAttn2.nD Cert.InProjAttn2.τ).loc Cert.InProjAttn2.main_arg1) = m ((c.tc : Thread Cert.InProjAttn2.nD Cert.InProjAttn2.τ).loc Cert.InProjAttn2.main_arg1))
      ∧ r.2.sem = fun _ => 0)

def quiescent_InProjAttn2Ideal [hInProjAttn2Ideal : Cert.InProjAttn2Ideal.Facts] : Prop :=
  ∀ (m : (ℓ : Loc Cert.InProjAttn2Ideal.nD Cert.InProjAttn2Ideal.τ Cert.InProjAttn2Ideal.sig) → Buf (Elt Ideal) ℓ) (g : Dev Cert.InProjAttn2Ideal.nD → PrngReg), Pre_InProjAttn2Ideal m →
    θ_run (Cert.InProjAttn2Ideal.defs (F := Ideal)) (onTc (τ := Cert.InProjAttn2Ideal.τ) (Cert.InProjAttn2Ideal.main (F := Ideal))) ⟨m, fun _ => 0, g⟩ (fun r => (∀ c : Dev Cert.InProjAttn2Ideal.nD,
      r.2.mem ((c.tc : Thread Cert.InProjAttn2Ideal.nD Cert.InProjAttn2Ideal.τ).loc Cert.InProjAttn2Ideal.main_arg0) = m ((c.tc : Thread Cert.InProjAttn2Ideal.nD Cert.InProjAttn2Ideal.τ).loc Cert.InProjAttn2Ideal.main_arg0)
      ∧ r.2.mem ((c.tc : Thread Cert.InProjAttn2Ideal.nD Cert.InProjAttn2Ideal.τ).loc Cert.InProjAttn2Ideal.main_arg1) = m ((c.tc : Thread Cert.InProjAttn2Ideal.nD Cert.InProjAttn2Ideal.τ).loc Cert.InProjAttn2Ideal.main_arg1))
      ∧ r.2.sem = fun _ => 0)

def quiescent_InProjAttn2RefIdeal [hInProjAttn2RefIdeal : Cert.InProjAttn2RefIdeal.Facts] : Prop :=
  ∀ (m : (ℓ : Loc Cert.InProjAttn2RefIdeal.nD Cert.InProjAttn2RefIdeal.τ Cert.InProjAttn2RefIdeal.sig) → Buf (Elt Ideal) ℓ) (g : Dev Cert.InProjAttn2RefIdeal.nD → PrngReg), Pre_InProjAttn2RefIdeal m →
    θ_run (Cert.InProjAttn2RefIdeal.defs (F := Ideal)) (onTc (τ := Cert.InProjAttn2RefIdeal.τ) (Cert.InProjAttn2RefIdeal.main (F := Ideal))) ⟨m, fun _ => 0, g⟩ (fun r => (∀ c : Dev Cert.InProjAttn2RefIdeal.nD,
      r.2.mem ((c.tc : Thread Cert.InProjAttn2RefIdeal.nD Cert.InProjAttn2RefIdeal.τ).loc Cert.InProjAttn2RefIdeal.main_arg0) = m ((c.tc : Thread Cert.InProjAttn2RefIdeal.nD Cert.InProjAttn2RefIdeal.τ).loc Cert.InProjAttn2RefIdeal.main_arg0)
      ∧ r.2.mem ((c.tc : Thread Cert.InProjAttn2RefIdeal.nD Cert.InProjAttn2RefIdeal.τ).loc Cert.InProjAttn2RefIdeal.main_arg1) = m ((c.tc : Thread Cert.InProjAttn2RefIdeal.nD Cert.InProjAttn2RefIdeal.τ).loc Cert.InProjAttn2RefIdeal.main_arg1))
      ∧ r.2.sem = fun _ => 0)

def quiescent_InProjRest [hInProjRest : Cert.InProjRest.Facts] : Prop :=
  ∀ (m : (ℓ : Loc Cert.InProjRest.nD Cert.InProjRest.τ Cert.InProjRest.sig) → Buf (Elt Bits) ℓ) (g : Dev Cert.InProjRest.nD → PrngReg), Pre_InProjRest m →
    θ_run (Cert.InProjRest.defs (F := Bits)) (onTc (τ := Cert.InProjRest.τ) (Cert.InProjRest.main (F := Bits))) ⟨m, fun _ => 0, g⟩ (fun r => (∀ c : Dev Cert.InProjRest.nD,
      r.2.mem ((c.tc : Thread Cert.InProjRest.nD Cert.InProjRest.τ).loc Cert.InProjRest.main_arg0) = m ((c.tc : Thread Cert.InProjRest.nD Cert.InProjRest.τ).loc Cert.InProjRest.main_arg0)
      ∧ r.2.mem ((c.tc : Thread Cert.InProjRest.nD Cert.InProjRest.τ).loc Cert.InProjRest.main_arg1) = m ((c.tc : Thread Cert.InProjRest.nD Cert.InProjRest.τ).loc Cert.InProjRest.main_arg1))
      ∧ r.2.sem = fun _ => 0)

def quiescent_InProjRestIdeal [hInProjRestIdeal : Cert.InProjRestIdeal.Facts] : Prop :=
  ∀ (m : (ℓ : Loc Cert.InProjRestIdeal.nD Cert.InProjRestIdeal.τ Cert.InProjRestIdeal.sig) → Buf (Elt Ideal) ℓ) (g : Dev Cert.InProjRestIdeal.nD → PrngReg), Pre_InProjRestIdeal m →
    θ_run (Cert.InProjRestIdeal.defs (F := Ideal)) (onTc (τ := Cert.InProjRestIdeal.τ) (Cert.InProjRestIdeal.main (F := Ideal))) ⟨m, fun _ => 0, g⟩ (fun r => (∀ c : Dev Cert.InProjRestIdeal.nD,
      r.2.mem ((c.tc : Thread Cert.InProjRestIdeal.nD Cert.InProjRestIdeal.τ).loc Cert.InProjRestIdeal.main_arg0) = m ((c.tc : Thread Cert.InProjRestIdeal.nD Cert.InProjRestIdeal.τ).loc Cert.InProjRestIdeal.main_arg0)
      ∧ r.2.mem ((c.tc : Thread Cert.InProjRestIdeal.nD Cert.InProjRestIdeal.τ).loc Cert.InProjRestIdeal.main_arg1) = m ((c.tc : Thread Cert.InProjRestIdeal.nD Cert.InProjRestIdeal.τ).loc Cert.InProjRestIdeal.main_arg1))
      ∧ r.2.sem = fun _ => 0)

def quiescent_InProjRestRefIdeal [hInProjRestRefIdeal : Cert.InProjRestRefIdeal.Facts] : Prop :=
  ∀ (m : (ℓ : Loc Cert.InProjRestRefIdeal.nD Cert.InProjRestRefIdeal.τ Cert.InProjRestRefIdeal.sig) → Buf (Elt Ideal) ℓ) (g : Dev Cert.InProjRestRefIdeal.nD → PrngReg), Pre_InProjRestRefIdeal m →
    θ_run (Cert.InProjRestRefIdeal.defs (F := Ideal)) (onTc (τ := Cert.InProjRestRefIdeal.τ) (Cert.InProjRestRefIdeal.main (F := Ideal))) ⟨m, fun _ => 0, g⟩ (fun r => (∀ c : Dev Cert.InProjRestRefIdeal.nD,
      r.2.mem ((c.tc : Thread Cert.InProjRestRefIdeal.nD Cert.InProjRestRefIdeal.τ).loc Cert.InProjRestRefIdeal.main_arg0) = m ((c.tc : Thread Cert.InProjRestRefIdeal.nD Cert.InProjRestRefIdeal.τ).loc Cert.InProjRestRefIdeal.main_arg0)
      ∧ r.2.mem ((c.tc : Thread Cert.InProjRestRefIdeal.nD Cert.InProjRestRefIdeal.τ).loc Cert.InProjRestRefIdeal.main_arg1) = m ((c.tc : Thread Cert.InProjRestRefIdeal.nD Cert.InProjRestRefIdeal.τ).loc Cert.InProjRestRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_InProjDxAttn1 [hInProjDxAttn1 : Cert.InProjDxAttn1.Facts] : Prop :=
  ∀ (m : (ℓ : Loc Cert.InProjDxAttn1.nD Cert.InProjDxAttn1.τ Cert.InProjDxAttn1.sig) → Buf (Elt Bits) ℓ) (g : Dev Cert.InProjDxAttn1.nD → PrngReg), Pre_InProjDxAttn1 m →
    θ_run (Cert.InProjDxAttn1.defs (F := Bits)) (onTc (τ := Cert.InProjDxAttn1.τ) (Cert.InProjDxAttn1.main (F := Bits))) ⟨m, fun _ => 0, g⟩ (fun r => (∀ c : Dev Cert.InProjDxAttn1.nD,
      r.2.mem ((c.tc : Thread Cert.InProjDxAttn1.nD Cert.InProjDxAttn1.τ).loc Cert.InProjDxAttn1.main_arg0) = m ((c.tc : Thread Cert.InProjDxAttn1.nD Cert.InProjDxAttn1.τ).loc Cert.InProjDxAttn1.main_arg0)
      ∧ r.2.mem ((c.tc : Thread Cert.InProjDxAttn1.nD Cert.InProjDxAttn1.τ).loc Cert.InProjDxAttn1.main_arg1) = m ((c.tc : Thread Cert.InProjDxAttn1.nD Cert.InProjDxAttn1.τ).loc Cert.InProjDxAttn1.main_arg1))
      ∧ r.2.sem = fun _ => 0)

def quiescent_InProjDxAttn1Ideal [hInProjDxAttn1Ideal : Cert.InProjDxAttn1Ideal.Facts] : Prop :=
  ∀ (m : (ℓ : Loc Cert.InProjDxAttn1Ideal.nD Cert.InProjDxAttn1Ideal.τ Cert.InProjDxAttn1Ideal.sig) → Buf (Elt Ideal) ℓ) (g : Dev Cert.InProjDxAttn1Ideal.nD → PrngReg), Pre_InProjDxAttn1Ideal m →
    θ_run (Cert.InProjDxAttn1Ideal.defs (F := Ideal)) (onTc (τ := Cert.InProjDxAttn1Ideal.τ) (Cert.InProjDxAttn1Ideal.main (F := Ideal))) ⟨m, fun _ => 0, g⟩ (fun r => (∀ c : Dev Cert.InProjDxAttn1Ideal.nD,
      r.2.mem ((c.tc : Thread Cert.InProjDxAttn1Ideal.nD Cert.InProjDxAttn1Ideal.τ).loc Cert.InProjDxAttn1Ideal.main_arg0) = m ((c.tc : Thread Cert.InProjDxAttn1Ideal.nD Cert.InProjDxAttn1Ideal.τ).loc Cert.InProjDxAttn1Ideal.main_arg0)
      ∧ r.2.mem ((c.tc : Thread Cert.InProjDxAttn1Ideal.nD Cert.InProjDxAttn1Ideal.τ).loc Cert.InProjDxAttn1Ideal.main_arg1) = m ((c.tc : Thread Cert.InProjDxAttn1Ideal.nD Cert.InProjDxAttn1Ideal.τ).loc Cert.InProjDxAttn1Ideal.main_arg1))
      ∧ r.2.sem = fun _ => 0)

def quiescent_InProjDxAttn1RefIdeal [hInProjDxAttn1RefIdeal : Cert.InProjDxAttn1RefIdeal.Facts] : Prop :=
  ∀ (m : (ℓ : Loc Cert.InProjDxAttn1RefIdeal.nD Cert.InProjDxAttn1RefIdeal.τ Cert.InProjDxAttn1RefIdeal.sig) → Buf (Elt Ideal) ℓ) (g : Dev Cert.InProjDxAttn1RefIdeal.nD → PrngReg), Pre_InProjDxAttn1RefIdeal m →
    θ_run (Cert.InProjDxAttn1RefIdeal.defs (F := Ideal)) (onTc (τ := Cert.InProjDxAttn1RefIdeal.τ) (Cert.InProjDxAttn1RefIdeal.main (F := Ideal))) ⟨m, fun _ => 0, g⟩ (fun r => (∀ c : Dev Cert.InProjDxAttn1RefIdeal.nD,
      r.2.mem ((c.tc : Thread Cert.InProjDxAttn1RefIdeal.nD Cert.InProjDxAttn1RefIdeal.τ).loc Cert.InProjDxAttn1RefIdeal.main_arg0) = m ((c.tc : Thread Cert.InProjDxAttn1RefIdeal.nD Cert.InProjDxAttn1RefIdeal.τ).loc Cert.InProjDxAttn1RefIdeal.main_arg0)
      ∧ r.2.mem ((c.tc : Thread Cert.InProjDxAttn1RefIdeal.nD Cert.InProjDxAttn1RefIdeal.τ).loc Cert.InProjDxAttn1RefIdeal.main_arg1) = m ((c.tc : Thread Cert.InProjDxAttn1RefIdeal.nD Cert.InProjDxAttn1RefIdeal.τ).loc Cert.InProjDxAttn1RefIdeal.main_arg1))
      ∧ r.2.sem = fun _ => 0)

def quiescent_InProjDxAttn2 [hInProjDxAttn2 : Cert.InProjDxAttn2.Facts] : Prop :=
  ∀ (m : (ℓ : Loc Cert.InProjDxAttn2.nD Cert.InProjDxAttn2.τ Cert.InProjDxAttn2.sig) → Buf (Elt Bits) ℓ) (g : Dev Cert.InProjDxAttn2.nD → PrngReg), Pre_InProjDxAttn2 m →
    θ_run (Cert.InProjDxAttn2.defs (F := Bits)) (onTc (τ := Cert.InProjDxAttn2.τ) (Cert.InProjDxAttn2.main (F := Bits))) ⟨m, fun _ => 0, g⟩ (fun r => (∀ c : Dev Cert.InProjDxAttn2.nD,
      r.2.mem ((c.tc : Thread Cert.InProjDxAttn2.nD Cert.InProjDxAttn2.τ).loc Cert.InProjDxAttn2.main_arg0) = m ((c.tc : Thread Cert.InProjDxAttn2.nD Cert.InProjDxAttn2.τ).loc Cert.InProjDxAttn2.main_arg0)
      ∧ r.2.mem ((c.tc : Thread Cert.InProjDxAttn2.nD Cert.InProjDxAttn2.τ).loc Cert.InProjDxAttn2.main_arg1) = m ((c.tc : Thread Cert.InProjDxAttn2.nD Cert.InProjDxAttn2.τ).loc Cert.InProjDxAttn2.main_arg1))
      ∧ r.2.sem = fun _ => 0)

def quiescent_InProjDxAttn2Ideal [hInProjDxAttn2Ideal : Cert.InProjDxAttn2Ideal.Facts] : Prop :=
  ∀ (m : (ℓ : Loc Cert.InProjDxAttn2Ideal.nD Cert.InProjDxAttn2Ideal.τ Cert.InProjDxAttn2Ideal.sig) → Buf (Elt Ideal) ℓ) (g : Dev Cert.InProjDxAttn2Ideal.nD → PrngReg), Pre_InProjDxAttn2Ideal m →
    θ_run (Cert.InProjDxAttn2Ideal.defs (F := Ideal)) (onTc (τ := Cert.InProjDxAttn2Ideal.τ) (Cert.InProjDxAttn2Ideal.main (F := Ideal))) ⟨m, fun _ => 0, g⟩ (fun r => (∀ c : Dev Cert.InProjDxAttn2Ideal.nD,
      r.2.mem ((c.tc : Thread Cert.InProjDxAttn2Ideal.nD Cert.InProjDxAttn2Ideal.τ).loc Cert.InProjDxAttn2Ideal.main_arg0) = m ((c.tc : Thread Cert.InProjDxAttn2Ideal.nD Cert.InProjDxAttn2Ideal.τ).loc Cert.InProjDxAttn2Ideal.main_arg0)
      ∧ r.2.mem ((c.tc : Thread Cert.InProjDxAttn2Ideal.nD Cert.InProjDxAttn2Ideal.τ).loc Cert.InProjDxAttn2Ideal.main_arg1) = m ((c.tc : Thread Cert.InProjDxAttn2Ideal.nD Cert.InProjDxAttn2Ideal.τ).loc Cert.InProjDxAttn2Ideal.main_arg1))
      ∧ r.2.sem = fun _ => 0)

def quiescent_InProjDxAttn2RefIdeal [hInProjDxAttn2RefIdeal : Cert.InProjDxAttn2RefIdeal.Facts] : Prop :=
  ∀ (m : (ℓ : Loc Cert.InProjDxAttn2RefIdeal.nD Cert.InProjDxAttn2RefIdeal.τ Cert.InProjDxAttn2RefIdeal.sig) → Buf (Elt Ideal) ℓ) (g : Dev Cert.InProjDxAttn2RefIdeal.nD → PrngReg), Pre_InProjDxAttn2RefIdeal m →
    θ_run (Cert.InProjDxAttn2RefIdeal.defs (F := Ideal)) (onTc (τ := Cert.InProjDxAttn2RefIdeal.τ) (Cert.InProjDxAttn2RefIdeal.main (F := Ideal))) ⟨m, fun _ => 0, g⟩ (fun r => (∀ c : Dev Cert.InProjDxAttn2RefIdeal.nD,
      r.2.mem ((c.tc : Thread Cert.InProjDxAttn2RefIdeal.nD Cert.InProjDxAttn2RefIdeal.τ).loc Cert.InProjDxAttn2RefIdeal.main_arg0) = m ((c.tc : Thread Cert.InProjDxAttn2RefIdeal.nD Cert.InProjDxAttn2RefIdeal.τ).loc Cert.InProjDxAttn2RefIdeal.main_arg0)
      ∧ r.2.mem ((c.tc : Thread Cert.InProjDxAttn2RefIdeal.nD Cert.InProjDxAttn2RefIdeal.τ).loc Cert.InProjDxAttn2RefIdeal.main_arg1) = m ((c.tc : Thread Cert.InProjDxAttn2RefIdeal.nD Cert.InProjDxAttn2RefIdeal.τ).loc Cert.InProjDxAttn2RefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6))
      ∧ r.2.sem = fun _ => 0)

def quiescent_SumIn [hSumIn : Cert.SumIn.Facts] [hPre_names_a_device : Cert.Pre_names_a_device.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2)
      ∧ r.2.mem ((c.tc : Thread Cert.SumIn.nD Cert.SumIn.τ).loc Cert.SumIn.main_arg3) = m ((c.tc : Thread Cert.SumIn.nD Cert.SumIn.τ).loc Cert.SumIn.main_arg3))
      ∧ r.2.sem = fun _ => 0)

def quiescent_SumInIdeal [hSumInIdeal : Cert.SumInIdeal.Facts] [hPre_names_a_device : Cert.Pre_names_a_device.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
      ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2)
      ∧ r.2.mem ((c.tc : Thread Cert.SumInRefIdeal.nD Cert.SumInRefIdeal.τ).loc Cert.SumInRefIdeal.main_arg3) = m ((c.tc : Thread Cert.SumInRefIdeal.nD Cert.SumInRefIdeal.τ).loc Cert.SumInRefIdeal.main_arg3))
      ∧ r.2.sem = fun _ => 0)

def quiescent_SumInRefIdeal_pre_names_a_device [hSumInRefIdeal : Cert.SumInRefIdeal.Facts] [hPre_names_a_device : Cert.Pre_names_a_device.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal_names_a_device m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2)
      ∧ r.2.mem ((c.tc : Thread Cert.SumInRefIdeal.nD Cert.SumInRefIdeal.τ).loc Cert.SumInRefIdeal.main_arg3) = m ((c.tc : Thread Cert.SumInRefIdeal.nD Cert.SumInRefIdeal.τ).loc Cert.SumInRefIdeal.main_arg3))
      ∧ r.2.sem = fun _ => 0)

def quiescent_PairSum [hPairSum : Cert.PairSum.Facts] [hPre_names_a_core : Cert.Pre_names_a_core.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_names_a_core : Cert.Pre_names_a_core.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_names_a_core [hPairSumRefIdeal : Cert.PairSumRefIdeal.Facts] [hPre_names_a_core : Cert.Pre_names_a_core.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_names_a_core m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![1088, 1024]⟩ ⟨2, ![8704, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1088, 1024]⟩ ⟨2, ![8704, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_Small_SmallIdeal : Prop :=
  True

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![72, 1024]⟩ ⟨2, ![576, 1024]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![72, 1024]⟩ ⟨2, ![576, 1024]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def preserves_Swap_SwapIdeal : Prop :=
  True

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨4, ![4, 2, 1088, 1024]⟩ ⟨4, ![32, 2, 1088, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 1088, 1024]⟩ ⟨3, ![32, 1088, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 1088, 1024]⟩ ⟨4, ![32, 2, 1088, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 1088, 1024]⟩ ⟨3, ![32, 1088, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def preserves_Chips_ChipsIdeal : Prop :=
  True

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 1088, 1024]⟩ ⟨3, ![32, 1088, 1024]⟩ 0 8 c (m' (((0 : Dev Cert.ChipsRef.nD).tc : Thread Cert.ChipsRef.nD Cert.ChipsRef.τ).loc Cert.ChipsRef.main_arg0))) →
    ∃ (v0 : Buf (Elt Bits) (((0 : Dev Cert.ChipsRef.nD).tc : Thread Cert.ChipsRef.nD Cert.ChipsRef.τ).loc Cert.ChipsRef.main_v46)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1) = Layout.block ⟨3, ![3, 1088, 1024]⟩ ⟨3, ![24, 1088, 1024]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v46) = v0
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0))

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 1088, 1024]⟩ ⟨3, ![32, 1088, 1024]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v46)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1) = Layout.block ⟨3, ![3, 1088, 1024]⟩ ⟨3, ![24, 1088, 1024]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v46) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def preserves_SumBranch_SumBranchIdeal : Prop :=
  True

def algebraic_SumBranchIdeal_SumBranchRefIdeal [hSumBranchIdeal : Cert.SumBranchIdeal.Facts] [hSumBranchRefIdeal : Cert.SumBranchRefIdeal.Facts] : Prop :=
  ∀ (m : (ℓ : Loc Cert.SumBranchIdeal.nD Cert.SumBranchIdeal.τ Cert.SumBranchIdeal.sig) → Buf (Elt Ideal) ℓ) (g : Dev Cert.SumBranchIdeal.nD → PrngReg)
    (m' : (ℓ : Loc Cert.SumBranchRefIdeal.nD Cert.SumBranchRefIdeal.τ Cert.SumBranchRefIdeal.sig) → Buf (Elt Ideal) ℓ) (g' : Dev Cert.SumBranchRefIdeal.nD → PrngReg), Pre_SumBranchIdeal m →
    (∀ c : Dev Cert.SumBranchIdeal.nD,
      m' ((c.tc : Thread Cert.SumBranchRefIdeal.nD Cert.SumBranchRefIdeal.τ).loc Cert.SumBranchRefIdeal.main_arg0) = m ((c.tc : Thread Cert.SumBranchIdeal.nD Cert.SumBranchIdeal.τ).loc Cert.SumBranchIdeal.main_arg0)) →
    ∃ (v0 : (c : Dev Cert.SumBranchIdeal.nD) → Buf (Elt Ideal) ((c.tc : Thread Cert.SumBranchIdeal.nD Cert.SumBranchIdeal.τ).loc Cert.SumBranchIdeal.main_v0)),
      θ_run (Cert.SumBranchIdeal.defs (F := Ideal)) (onTc (τ := Cert.SumBranchIdeal.τ) (Cert.SumBranchIdeal.main (F := Ideal))) ⟨m, fun _ => 0, g⟩ (fun r => ∀ c : Dev Cert.SumBranchIdeal.nD,
          r.2.mem ((c.tc : Thread Cert.SumBranchIdeal.nD Cert.SumBranchIdeal.τ).loc Cert.SumBranchIdeal.main_v0) = v0 c
          ∧ r.2.mem ((c.tc : Thread Cert.SumBranchIdeal.nD Cert.SumBranchIdeal.τ).loc Cert.SumBranchIdeal.main_arg0) = m ((c.tc : Thread Cert.SumBranchIdeal.nD Cert.SumBranchIdeal.τ).loc Cert.SumBranchIdeal.main_arg0))
      ∧ θ_run (Cert.SumBranchRefIdeal.defs (F := Ideal)) (onTc (τ := Cert.SumBranchRefIdeal.τ) (Cert.SumBranchRefIdeal.main (F := Ideal))) ⟨m', fun _ => 0, g'⟩ (fun r => ∀ c : Dev Cert.SumBranchRefIdeal.nD,
          r.2.mem ((c.tc : Thread Cert.SumBranchRefIdeal.nD Cert.SumBranchRefIdeal.τ).loc Cert.SumBranchRefIdeal.main_v1) = v0 c
          ∧ r.2.mem ((c.tc : Thread Cert.SumBranchRefIdeal.nD Cert.SumBranchRefIdeal.τ).loc Cert.SumBranchRefIdeal.main_arg0) = m' ((c.tc : Thread Cert.SumBranchRefIdeal.nD Cert.SumBranchRefIdeal.τ).loc Cert.SumBranchRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumConv_SumConvIdeal : Prop :=
  True

def algebraic_SumConvIdeal_SumConvRefIdeal [hSumConvIdeal : Cert.SumConvIdeal.Facts] [hSumConvRefIdeal : Cert.SumConvRefIdeal.Facts] : Prop :=
  ∀ (m : (ℓ : Loc Cert.SumConvIdeal.nD Cert.SumConvIdeal.τ Cert.SumConvIdeal.sig) → Buf (Elt Ideal) ℓ) (g : Dev Cert.SumConvIdeal.nD → PrngReg)
    (m' : (ℓ : Loc Cert.SumConvRefIdeal.nD Cert.SumConvRefIdeal.τ Cert.SumConvRefIdeal.sig) → Buf (Elt Ideal) ℓ) (g' : Dev Cert.SumConvRefIdeal.nD → PrngReg), Pre_SumConvIdeal m →
    (∀ c : Dev Cert.SumConvIdeal.nD,
      m' ((c.tc : Thread Cert.SumConvRefIdeal.nD Cert.SumConvRefIdeal.τ).loc Cert.SumConvRefIdeal.main_arg0) = m ((c.tc : Thread Cert.SumConvIdeal.nD Cert.SumConvIdeal.τ).loc Cert.SumConvIdeal.main_arg0)) →
    ∃ (v0 : (c : Dev Cert.SumConvIdeal.nD) → Buf (Elt Ideal) ((c.tc : Thread Cert.SumConvIdeal.nD Cert.SumConvIdeal.τ).loc Cert.SumConvIdeal.main_v0)),
      θ_run (Cert.SumConvIdeal.defs (F := Ideal)) (onTc (τ := Cert.SumConvIdeal.τ) (Cert.SumConvIdeal.main (F := Ideal))) ⟨m, fun _ => 0, g⟩ (fun r => ∀ c : Dev Cert.SumConvIdeal.nD,
          r.2.mem ((c.tc : Thread Cert.SumConvIdeal.nD Cert.SumConvIdeal.τ).loc Cert.SumConvIdeal.main_v0) = v0 c
          ∧ r.2.mem ((c.tc : Thread Cert.SumConvIdeal.nD Cert.SumConvIdeal.τ).loc Cert.SumConvIdeal.main_arg0) = m ((c.tc : Thread Cert.SumConvIdeal.nD Cert.SumConvIdeal.τ).loc Cert.SumConvIdeal.main_arg0))
      ∧ θ_run (Cert.SumConvRefIdeal.defs (F := Ideal)) (onTc (τ := Cert.SumConvRefIdeal.τ) (Cert.SumConvRefIdeal.main (F := Ideal))) ⟨m', fun _ => 0, g'⟩ (fun r => ∀ c : Dev Cert.SumConvRefIdeal.nD,
          r.2.mem ((c.tc : Thread Cert.SumConvRefIdeal.nD Cert.SumConvRefIdeal.τ).loc Cert.SumConvRefIdeal.main_v0) = v0 c
          ∧ r.2.mem ((c.tc : Thread Cert.SumConvRefIdeal.nD Cert.SumConvRefIdeal.τ).loc Cert.SumConvRefIdeal.main_arg0) = m' ((c.tc : Thread Cert.SumConvRefIdeal.nD Cert.SumConvRefIdeal.τ).loc Cert.SumConvRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_InProjAttn0_InProjAttn0Ideal : Prop :=
  True

def algebraic_InProjAttn0Ideal_InProjAttn0RefIdeal [hInProjAttn0Ideal : Cert.InProjAttn0Ideal.Facts] [hInProjAttn0RefIdeal : Cert.InProjAttn0RefIdeal.Facts] : Prop :=
  ∀ (m : (ℓ : Loc Cert.InProjAttn0Ideal.nD Cert.InProjAttn0Ideal.τ Cert.InProjAttn0Ideal.sig) → Buf (Elt Ideal) ℓ) (g : Dev Cert.InProjAttn0Ideal.nD → PrngReg)
    (m' : (ℓ : Loc Cert.InProjAttn0RefIdeal.nD Cert.InProjAttn0RefIdeal.τ Cert.InProjAttn0RefIdeal.sig) → Buf (Elt Ideal) ℓ) (g' : Dev Cert.InProjAttn0RefIdeal.nD → PrngReg), Pre_InProjAttn0Ideal m →
    (∀ c : Dev Cert.InProjAttn0Ideal.nD,
      m' ((c.tc : Thread Cert.InProjAttn0RefIdeal.nD Cert.InProjAttn0RefIdeal.τ).loc Cert.InProjAttn0RefIdeal.main_arg0) = m ((c.tc : Thread Cert.InProjAttn0Ideal.nD Cert.InProjAttn0Ideal.τ).loc Cert.InProjAttn0Ideal.main_arg0)
      ∧ m' ((c.tc : Thread Cert.InProjAttn0RefIdeal.nD Cert.InProjAttn0RefIdeal.τ).loc Cert.InProjAttn0RefIdeal.main_arg1) = m ((c.tc : Thread Cert.InProjAttn0Ideal.nD Cert.InProjAttn0Ideal.τ).loc Cert.InProjAttn0Ideal.main_arg1)) →
    ∃ (v0 : (c : Dev Cert.InProjAttn0Ideal.nD) → Buf (Elt Ideal) ((c.tc : Thread Cert.InProjAttn0Ideal.nD Cert.InProjAttn0Ideal.τ).loc Cert.InProjAttn0Ideal.main_v0)),
      θ_run (Cert.InProjAttn0Ideal.defs (F := Ideal)) (onTc (τ := Cert.InProjAttn0Ideal.τ) (Cert.InProjAttn0Ideal.main (F := Ideal))) ⟨m, fun _ => 0, g⟩ (fun r => ∀ c : Dev Cert.InProjAttn0Ideal.nD,
          r.2.mem ((c.tc : Thread Cert.InProjAttn0Ideal.nD Cert.InProjAttn0Ideal.τ).loc Cert.InProjAttn0Ideal.main_v0) = v0 c
          ∧ r.2.mem ((c.tc : Thread Cert.InProjAttn0Ideal.nD Cert.InProjAttn0Ideal.τ).loc Cert.InProjAttn0Ideal.main_arg0) = m ((c.tc : Thread Cert.InProjAttn0Ideal.nD Cert.InProjAttn0Ideal.τ).loc Cert.InProjAttn0Ideal.main_arg0)
          ∧ r.2.mem ((c.tc : Thread Cert.InProjAttn0Ideal.nD Cert.InProjAttn0Ideal.τ).loc Cert.InProjAttn0Ideal.main_arg1) = m ((c.tc : Thread Cert.InProjAttn0Ideal.nD Cert.InProjAttn0Ideal.τ).loc Cert.InProjAttn0Ideal.main_arg1))
      ∧ θ_run (Cert.InProjAttn0RefIdeal.defs (F := Ideal)) (onTc (τ := Cert.InProjAttn0RefIdeal.τ) (Cert.InProjAttn0RefIdeal.main (F := Ideal))) ⟨m', fun _ => 0, g'⟩ (fun r => ∀ c : Dev Cert.InProjAttn0RefIdeal.nD,
          r.2.mem ((c.tc : Thread Cert.InProjAttn0RefIdeal.nD Cert.InProjAttn0RefIdeal.τ).loc Cert.InProjAttn0RefIdeal.main_v5) = v0 c
          ∧ r.2.mem ((c.tc : Thread Cert.InProjAttn0RefIdeal.nD Cert.InProjAttn0RefIdeal.τ).loc Cert.InProjAttn0RefIdeal.main_arg0) = m' ((c.tc : Thread Cert.InProjAttn0RefIdeal.nD Cert.InProjAttn0RefIdeal.τ).loc Cert.InProjAttn0RefIdeal.main_arg0)
          ∧ r.2.mem ((c.tc : Thread Cert.InProjAttn0RefIdeal.nD Cert.InProjAttn0RefIdeal.τ).loc Cert.InProjAttn0RefIdeal.main_arg1) = m' ((c.tc : Thread Cert.InProjAttn0RefIdeal.nD Cert.InProjAttn0RefIdeal.τ).loc Cert.InProjAttn0RefIdeal.main_arg1))

def preserves_InProjAttn1_InProjAttn1Ideal : Prop :=
  True

def algebraic_InProjAttn1Ideal_InProjAttn1RefIdeal [hInProjAttn1Ideal : Cert.InProjAttn1Ideal.Facts] [hInProjAttn1RefIdeal : Cert.InProjAttn1RefIdeal.Facts] : Prop :=
  ∀ (m : (ℓ : Loc Cert.InProjAttn1Ideal.nD Cert.InProjAttn1Ideal.τ Cert.InProjAttn1Ideal.sig) → Buf (Elt Ideal) ℓ) (g : Dev Cert.InProjAttn1Ideal.nD → PrngReg)
    (m' : (ℓ : Loc Cert.InProjAttn1RefIdeal.nD Cert.InProjAttn1RefIdeal.τ Cert.InProjAttn1RefIdeal.sig) → Buf (Elt Ideal) ℓ) (g' : Dev Cert.InProjAttn1RefIdeal.nD → PrngReg), Pre_InProjAttn1Ideal m →
    (∀ c : Dev Cert.InProjAttn1Ideal.nD,
      m' ((c.tc : Thread Cert.InProjAttn1RefIdeal.nD Cert.InProjAttn1RefIdeal.τ).loc Cert.InProjAttn1RefIdeal.main_arg0) = m ((c.tc : Thread Cert.InProjAttn1Ideal.nD Cert.InProjAttn1Ideal.τ).loc Cert.InProjAttn1Ideal.main_arg0)
      ∧ m' ((c.tc : Thread Cert.InProjAttn1RefIdeal.nD Cert.InProjAttn1RefIdeal.τ).loc Cert.InProjAttn1RefIdeal.main_arg1) = m ((c.tc : Thread Cert.InProjAttn1Ideal.nD Cert.InProjAttn1Ideal.τ).loc Cert.InProjAttn1Ideal.main_arg1)) →
    ∃ (v0 : (c : Dev Cert.InProjAttn1Ideal.nD) → Buf (Elt Ideal) ((c.tc : Thread Cert.InProjAttn1Ideal.nD Cert.InProjAttn1Ideal.τ).loc Cert.InProjAttn1Ideal.main_v0)),
      θ_run (Cert.InProjAttn1Ideal.defs (F := Ideal)) (onTc (τ := Cert.InProjAttn1Ideal.τ) (Cert.InProjAttn1Ideal.main (F := Ideal))) ⟨m, fun _ => 0, g⟩ (fun r => ∀ c : Dev Cert.InProjAttn1Ideal.nD,
          r.2.mem ((c.tc : Thread Cert.InProjAttn1Ideal.nD Cert.InProjAttn1Ideal.τ).loc Cert.InProjAttn1Ideal.main_v0) = v0 c
          ∧ r.2.mem ((c.tc : Thread Cert.InProjAttn1Ideal.nD Cert.InProjAttn1Ideal.τ).loc Cert.InProjAttn1Ideal.main_arg0) = m ((c.tc : Thread Cert.InProjAttn1Ideal.nD Cert.InProjAttn1Ideal.τ).loc Cert.InProjAttn1Ideal.main_arg0)
          ∧ r.2.mem ((c.tc : Thread Cert.InProjAttn1Ideal.nD Cert.InProjAttn1Ideal.τ).loc Cert.InProjAttn1Ideal.main_arg1) = m ((c.tc : Thread Cert.InProjAttn1Ideal.nD Cert.InProjAttn1Ideal.τ).loc Cert.InProjAttn1Ideal.main_arg1))
      ∧ θ_run (Cert.InProjAttn1RefIdeal.defs (F := Ideal)) (onTc (τ := Cert.InProjAttn1RefIdeal.τ) (Cert.InProjAttn1RefIdeal.main (F := Ideal))) ⟨m', fun _ => 0, g'⟩ (fun r => ∀ c : Dev Cert.InProjAttn1RefIdeal.nD,
          r.2.mem ((c.tc : Thread Cert.InProjAttn1RefIdeal.nD Cert.InProjAttn1RefIdeal.τ).loc Cert.InProjAttn1RefIdeal.main_v5) = v0 c
          ∧ r.2.mem ((c.tc : Thread Cert.InProjAttn1RefIdeal.nD Cert.InProjAttn1RefIdeal.τ).loc Cert.InProjAttn1RefIdeal.main_arg0) = m' ((c.tc : Thread Cert.InProjAttn1RefIdeal.nD Cert.InProjAttn1RefIdeal.τ).loc Cert.InProjAttn1RefIdeal.main_arg0)
          ∧ r.2.mem ((c.tc : Thread Cert.InProjAttn1RefIdeal.nD Cert.InProjAttn1RefIdeal.τ).loc Cert.InProjAttn1RefIdeal.main_arg1) = m' ((c.tc : Thread Cert.InProjAttn1RefIdeal.nD Cert.InProjAttn1RefIdeal.τ).loc Cert.InProjAttn1RefIdeal.main_arg1))

def preserves_InProjAttn2_InProjAttn2Ideal : Prop :=
  True

def algebraic_InProjAttn2Ideal_InProjAttn2RefIdeal [hInProjAttn2Ideal : Cert.InProjAttn2Ideal.Facts] [hInProjAttn2RefIdeal : Cert.InProjAttn2RefIdeal.Facts] : Prop :=
  ∀ (m : (ℓ : Loc Cert.InProjAttn2Ideal.nD Cert.InProjAttn2Ideal.τ Cert.InProjAttn2Ideal.sig) → Buf (Elt Ideal) ℓ) (g : Dev Cert.InProjAttn2Ideal.nD → PrngReg)
    (m' : (ℓ : Loc Cert.InProjAttn2RefIdeal.nD Cert.InProjAttn2RefIdeal.τ Cert.InProjAttn2RefIdeal.sig) → Buf (Elt Ideal) ℓ) (g' : Dev Cert.InProjAttn2RefIdeal.nD → PrngReg), Pre_InProjAttn2Ideal m →
    (∀ c : Dev Cert.InProjAttn2Ideal.nD,
      m' ((c.tc : Thread Cert.InProjAttn2RefIdeal.nD Cert.InProjAttn2RefIdeal.τ).loc Cert.InProjAttn2RefIdeal.main_arg0) = m ((c.tc : Thread Cert.InProjAttn2Ideal.nD Cert.InProjAttn2Ideal.τ).loc Cert.InProjAttn2Ideal.main_arg0)
      ∧ m' ((c.tc : Thread Cert.InProjAttn2RefIdeal.nD Cert.InProjAttn2RefIdeal.τ).loc Cert.InProjAttn2RefIdeal.main_arg1) = m ((c.tc : Thread Cert.InProjAttn2Ideal.nD Cert.InProjAttn2Ideal.τ).loc Cert.InProjAttn2Ideal.main_arg1)) →
    ∃ (v0 : (c : Dev Cert.InProjAttn2Ideal.nD) → Buf (Elt Ideal) ((c.tc : Thread Cert.InProjAttn2Ideal.nD Cert.InProjAttn2Ideal.τ).loc Cert.InProjAttn2Ideal.main_v0)),
      θ_run (Cert.InProjAttn2Ideal.defs (F := Ideal)) (onTc (τ := Cert.InProjAttn2Ideal.τ) (Cert.InProjAttn2Ideal.main (F := Ideal))) ⟨m, fun _ => 0, g⟩ (fun r => ∀ c : Dev Cert.InProjAttn2Ideal.nD,
          r.2.mem ((c.tc : Thread Cert.InProjAttn2Ideal.nD Cert.InProjAttn2Ideal.τ).loc Cert.InProjAttn2Ideal.main_v0) = v0 c
          ∧ r.2.mem ((c.tc : Thread Cert.InProjAttn2Ideal.nD Cert.InProjAttn2Ideal.τ).loc Cert.InProjAttn2Ideal.main_arg0) = m ((c.tc : Thread Cert.InProjAttn2Ideal.nD Cert.InProjAttn2Ideal.τ).loc Cert.InProjAttn2Ideal.main_arg0)
          ∧ r.2.mem ((c.tc : Thread Cert.InProjAttn2Ideal.nD Cert.InProjAttn2Ideal.τ).loc Cert.InProjAttn2Ideal.main_arg1) = m ((c.tc : Thread Cert.InProjAttn2Ideal.nD Cert.InProjAttn2Ideal.τ).loc Cert.InProjAttn2Ideal.main_arg1))
      ∧ θ_run (Cert.InProjAttn2RefIdeal.defs (F := Ideal)) (onTc (τ := Cert.InProjAttn2RefIdeal.τ) (Cert.InProjAttn2RefIdeal.main (F := Ideal))) ⟨m', fun _ => 0, g'⟩ (fun r => ∀ c : Dev Cert.InProjAttn2RefIdeal.nD,
          r.2.mem ((c.tc : Thread Cert.InProjAttn2RefIdeal.nD Cert.InProjAttn2RefIdeal.τ).loc Cert.InProjAttn2RefIdeal.main_v5) = v0 c
          ∧ r.2.mem ((c.tc : Thread Cert.InProjAttn2RefIdeal.nD Cert.InProjAttn2RefIdeal.τ).loc Cert.InProjAttn2RefIdeal.main_arg0) = m' ((c.tc : Thread Cert.InProjAttn2RefIdeal.nD Cert.InProjAttn2RefIdeal.τ).loc Cert.InProjAttn2RefIdeal.main_arg0)
          ∧ r.2.mem ((c.tc : Thread Cert.InProjAttn2RefIdeal.nD Cert.InProjAttn2RefIdeal.τ).loc Cert.InProjAttn2RefIdeal.main_arg1) = m' ((c.tc : Thread Cert.InProjAttn2RefIdeal.nD Cert.InProjAttn2RefIdeal.τ).loc Cert.InProjAttn2RefIdeal.main_arg1))

def preserves_InProjRest_InProjRestIdeal : Prop :=
  True

def algebraic_InProjRestIdeal_InProjRestRefIdeal [hInProjRestIdeal : Cert.InProjRestIdeal.Facts] [hInProjRestRefIdeal : Cert.InProjRestRefIdeal.Facts] : Prop :=
  ∀ (m : (ℓ : Loc Cert.InProjRestIdeal.nD Cert.InProjRestIdeal.τ Cert.InProjRestIdeal.sig) → Buf (Elt Ideal) ℓ) (g : Dev Cert.InProjRestIdeal.nD → PrngReg)
    (m' : (ℓ : Loc Cert.InProjRestRefIdeal.nD Cert.InProjRestRefIdeal.τ Cert.InProjRestRefIdeal.sig) → Buf (Elt Ideal) ℓ) (g' : Dev Cert.InProjRestRefIdeal.nD → PrngReg), Pre_InProjRestIdeal m →
    (∀ c : Dev Cert.InProjRestIdeal.nD,
      m' ((c.tc : Thread Cert.InProjRestRefIdeal.nD Cert.InProjRestRefIdeal.τ).loc Cert.InProjRestRefIdeal.main_arg0) = m ((c.tc : Thread Cert.InProjRestIdeal.nD Cert.InProjRestIdeal.τ).loc Cert.InProjRestIdeal.main_arg0)
      ∧ m' ((c.tc : Thread Cert.InProjRestRefIdeal.nD Cert.InProjRestRefIdeal.τ).loc Cert.InProjRestRefIdeal.main_arg1) = m ((c.tc : Thread Cert.InProjRestIdeal.nD Cert.InProjRestIdeal.τ).loc Cert.InProjRestIdeal.main_arg1)) →
    ∃ (v0 : (c : Dev Cert.InProjRestIdeal.nD) → Buf (Elt Ideal) ((c.tc : Thread Cert.InProjRestIdeal.nD Cert.InProjRestIdeal.τ).loc Cert.InProjRestIdeal.main_v0)),
      θ_run (Cert.InProjRestIdeal.defs (F := Ideal)) (onTc (τ := Cert.InProjRestIdeal.τ) (Cert.InProjRestIdeal.main (F := Ideal))) ⟨m, fun _ => 0, g⟩ (fun r => ∀ c : Dev Cert.InProjRestIdeal.nD,
          r.2.mem ((c.tc : Thread Cert.InProjRestIdeal.nD Cert.InProjRestIdeal.τ).loc Cert.InProjRestIdeal.main_v0) = v0 c
          ∧ r.2.mem ((c.tc : Thread Cert.InProjRestIdeal.nD Cert.InProjRestIdeal.τ).loc Cert.InProjRestIdeal.main_arg0) = m ((c.tc : Thread Cert.InProjRestIdeal.nD Cert.InProjRestIdeal.τ).loc Cert.InProjRestIdeal.main_arg0)
          ∧ r.2.mem ((c.tc : Thread Cert.InProjRestIdeal.nD Cert.InProjRestIdeal.τ).loc Cert.InProjRestIdeal.main_arg1) = m ((c.tc : Thread Cert.InProjRestIdeal.nD Cert.InProjRestIdeal.τ).loc Cert.InProjRestIdeal.main_arg1))
      ∧ θ_run (Cert.InProjRestRefIdeal.defs (F := Ideal)) (onTc (τ := Cert.InProjRestRefIdeal.τ) (Cert.InProjRestRefIdeal.main (F := Ideal))) ⟨m', fun _ => 0, g'⟩ (fun r => ∀ c : Dev Cert.InProjRestRefIdeal.nD,
          r.2.mem ((c.tc : Thread Cert.InProjRestRefIdeal.nD Cert.InProjRestRefIdeal.τ).loc Cert.InProjRestRefIdeal.main_v4) = v0 c
          ∧ r.2.mem ((c.tc : Thread Cert.InProjRestRefIdeal.nD Cert.InProjRestRefIdeal.τ).loc Cert.InProjRestRefIdeal.main_arg0) = m' ((c.tc : Thread Cert.InProjRestRefIdeal.nD Cert.InProjRestRefIdeal.τ).loc Cert.InProjRestRefIdeal.main_arg0)
          ∧ r.2.mem ((c.tc : Thread Cert.InProjRestRefIdeal.nD Cert.InProjRestRefIdeal.τ).loc Cert.InProjRestRefIdeal.main_arg1) = m' ((c.tc : Thread Cert.InProjRestRefIdeal.nD Cert.InProjRestRefIdeal.τ).loc Cert.InProjRestRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v3) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v4) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v5) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v7) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v4) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v3) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v4) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_InProjDxAttn1_InProjDxAttn1Ideal : Prop :=
  True

def algebraic_InProjDxAttn1Ideal_InProjDxAttn1RefIdeal [hInProjDxAttn1Ideal : Cert.InProjDxAttn1Ideal.Facts] [hInProjDxAttn1RefIdeal : Cert.InProjDxAttn1RefIdeal.Facts] : Prop :=
  ∀ (m : (ℓ : Loc Cert.InProjDxAttn1Ideal.nD Cert.InProjDxAttn1Ideal.τ Cert.InProjDxAttn1Ideal.sig) → Buf (Elt Ideal) ℓ) (g : Dev Cert.InProjDxAttn1Ideal.nD → PrngReg)
    (m' : (ℓ : Loc Cert.InProjDxAttn1RefIdeal.nD Cert.InProjDxAttn1RefIdeal.τ Cert.InProjDxAttn1RefIdeal.sig) → Buf (Elt Ideal) ℓ) (g' : Dev Cert.InProjDxAttn1RefIdeal.nD → PrngReg), Pre_InProjDxAttn1Ideal m →
    (∀ c : Dev Cert.InProjDxAttn1Ideal.nD,
      m' ((c.tc : Thread Cert.InProjDxAttn1RefIdeal.nD Cert.InProjDxAttn1RefIdeal.τ).loc Cert.InProjDxAttn1RefIdeal.main_arg0) = m ((c.tc : Thread Cert.InProjDxAttn1Ideal.nD Cert.InProjDxAttn1Ideal.τ).loc Cert.InProjDxAttn1Ideal.main_arg0)
      ∧ m' ((c.tc : Thread Cert.InProjDxAttn1RefIdeal.nD Cert.InProjDxAttn1RefIdeal.τ).loc Cert.InProjDxAttn1RefIdeal.main_arg1) = m ((c.tc : Thread Cert.InProjDxAttn1Ideal.nD Cert.InProjDxAttn1Ideal.τ).loc Cert.InProjDxAttn1Ideal.main_arg1)) →
    ∃ (v0 : (c : Dev Cert.InProjDxAttn1Ideal.nD) → Buf (Elt Ideal) ((c.tc : Thread Cert.InProjDxAttn1Ideal.nD Cert.InProjDxAttn1Ideal.τ).loc Cert.InProjDxAttn1Ideal.main_v0)),
      θ_run (Cert.InProjDxAttn1Ideal.defs (F := Ideal)) (onTc (τ := Cert.InProjDxAttn1Ideal.τ) (Cert.InProjDxAttn1Ideal.main (F := Ideal))) ⟨m, fun _ => 0, g⟩ (fun r => ∀ c : Dev Cert.InProjDxAttn1Ideal.nD,
          r.2.mem ((c.tc : Thread Cert.InProjDxAttn1Ideal.nD Cert.InProjDxAttn1Ideal.τ).loc Cert.InProjDxAttn1Ideal.main_v0) = v0 c
          ∧ r.2.mem ((c.tc : Thread Cert.InProjDxAttn1Ideal.nD Cert.InProjDxAttn1Ideal.τ).loc Cert.InProjDxAttn1Ideal.main_arg0) = m ((c.tc : Thread Cert.InProjDxAttn1Ideal.nD Cert.InProjDxAttn1Ideal.τ).loc Cert.InProjDxAttn1Ideal.main_arg0)
          ∧ r.2.mem ((c.tc : Thread Cert.InProjDxAttn1Ideal.nD Cert.InProjDxAttn1Ideal.τ).loc Cert.InProjDxAttn1Ideal.main_arg1) = m ((c.tc : Thread Cert.InProjDxAttn1Ideal.nD Cert.InProjDxAttn1Ideal.τ).loc Cert.InProjDxAttn1Ideal.main_arg1))
      ∧ θ_run (Cert.InProjDxAttn1RefIdeal.defs (F := Ideal)) (onTc (τ := Cert.InProjDxAttn1RefIdeal.τ) (Cert.InProjDxAttn1RefIdeal.main (F := Ideal))) ⟨m', fun _ => 0, g'⟩ (fun r => ∀ c : Dev Cert.InProjDxAttn1RefIdeal.nD,
          r.2.mem ((c.tc : Thread Cert.InProjDxAttn1RefIdeal.nD Cert.InProjDxAttn1RefIdeal.τ).loc Cert.InProjDxAttn1RefIdeal.main_v3) = v0 c
          ∧ r.2.mem ((c.tc : Thread Cert.InProjDxAttn1RefIdeal.nD Cert.InProjDxAttn1RefIdeal.τ).loc Cert.InProjDxAttn1RefIdeal.main_arg0) = m' ((c.tc : Thread Cert.InProjDxAttn1RefIdeal.nD Cert.InProjDxAttn1RefIdeal.τ).loc Cert.InProjDxAttn1RefIdeal.main_arg0)
          ∧ r.2.mem ((c.tc : Thread Cert.InProjDxAttn1RefIdeal.nD Cert.InProjDxAttn1RefIdeal.τ).loc Cert.InProjDxAttn1RefIdeal.main_arg1) = m' ((c.tc : Thread Cert.InProjDxAttn1RefIdeal.nD Cert.InProjDxAttn1RefIdeal.τ).loc Cert.InProjDxAttn1RefIdeal.main_arg1))

def preserves_InProjDxAttn2_InProjDxAttn2Ideal : Prop :=
  True

def algebraic_InProjDxAttn2Ideal_InProjDxAttn2RefIdeal [hInProjDxAttn2Ideal : Cert.InProjDxAttn2Ideal.Facts] [hInProjDxAttn2RefIdeal : Cert.InProjDxAttn2RefIdeal.Facts] : Prop :=
  ∀ (m : (ℓ : Loc Cert.InProjDxAttn2Ideal.nD Cert.InProjDxAttn2Ideal.τ Cert.InProjDxAttn2Ideal.sig) → Buf (Elt Ideal) ℓ) (g : Dev Cert.InProjDxAttn2Ideal.nD → PrngReg)
    (m' : (ℓ : Loc Cert.InProjDxAttn2RefIdeal.nD Cert.InProjDxAttn2RefIdeal.τ Cert.InProjDxAttn2RefIdeal.sig) → Buf (Elt Ideal) ℓ) (g' : Dev Cert.InProjDxAttn2RefIdeal.nD → PrngReg), Pre_InProjDxAttn2Ideal m →
    (∀ c : Dev Cert.InProjDxAttn2Ideal.nD,
      m' ((c.tc : Thread Cert.InProjDxAttn2RefIdeal.nD Cert.InProjDxAttn2RefIdeal.τ).loc Cert.InProjDxAttn2RefIdeal.main_arg0) = m ((c.tc : Thread Cert.InProjDxAttn2Ideal.nD Cert.InProjDxAttn2Ideal.τ).loc Cert.InProjDxAttn2Ideal.main_arg0)
      ∧ m' ((c.tc : Thread Cert.InProjDxAttn2RefIdeal.nD Cert.InProjDxAttn2RefIdeal.τ).loc Cert.InProjDxAttn2RefIdeal.main_arg1) = m ((c.tc : Thread Cert.InProjDxAttn2Ideal.nD Cert.InProjDxAttn2Ideal.τ).loc Cert.InProjDxAttn2Ideal.main_arg1)) →
    ∃ (v0 : (c : Dev Cert.InProjDxAttn2Ideal.nD) → Buf (Elt Ideal) ((c.tc : Thread Cert.InProjDxAttn2Ideal.nD Cert.InProjDxAttn2Ideal.τ).loc Cert.InProjDxAttn2Ideal.main_v0)),
      θ_run (Cert.InProjDxAttn2Ideal.defs (F := Ideal)) (onTc (τ := Cert.InProjDxAttn2Ideal.τ) (Cert.InProjDxAttn2Ideal.main (F := Ideal))) ⟨m, fun _ => 0, g⟩ (fun r => ∀ c : Dev Cert.InProjDxAttn2Ideal.nD,
          r.2.mem ((c.tc : Thread Cert.InProjDxAttn2Ideal.nD Cert.InProjDxAttn2Ideal.τ).loc Cert.InProjDxAttn2Ideal.main_v0) = v0 c
          ∧ r.2.mem ((c.tc : Thread Cert.InProjDxAttn2Ideal.nD Cert.InProjDxAttn2Ideal.τ).loc Cert.InProjDxAttn2Ideal.main_arg0) = m ((c.tc : Thread Cert.InProjDxAttn2Ideal.nD Cert.InProjDxAttn2Ideal.τ).loc Cert.InProjDxAttn2Ideal.main_arg0)
          ∧ r.2.mem ((c.tc : Thread Cert.InProjDxAttn2Ideal.nD Cert.InProjDxAttn2Ideal.τ).loc Cert.InProjDxAttn2Ideal.main_arg1) = m ((c.tc : Thread Cert.InProjDxAttn2Ideal.nD Cert.InProjDxAttn2Ideal.τ).loc Cert.InProjDxAttn2Ideal.main_arg1))
      ∧ θ_run (Cert.InProjDxAttn2RefIdeal.defs (F := Ideal)) (onTc (τ := Cert.InProjDxAttn2RefIdeal.τ) (Cert.InProjDxAttn2RefIdeal.main (F := Ideal))) ⟨m', fun _ => 0, g'⟩ (fun r => ∀ c : Dev Cert.InProjDxAttn2RefIdeal.nD,
          r.2.mem ((c.tc : Thread Cert.InProjDxAttn2RefIdeal.nD Cert.InProjDxAttn2RefIdeal.τ).loc Cert.InProjDxAttn2RefIdeal.main_v3) = v0 c
          ∧ r.2.mem ((c.tc : Thread Cert.InProjDxAttn2RefIdeal.nD Cert.InProjDxAttn2RefIdeal.τ).loc Cert.InProjDxAttn2RefIdeal.main_arg0) = m' ((c.tc : Thread Cert.InProjDxAttn2RefIdeal.nD Cert.InProjDxAttn2RefIdeal.τ).loc Cert.InProjDxAttn2RefIdeal.main_arg0)
          ∧ r.2.mem ((c.tc : Thread Cert.InProjDxAttn2RefIdeal.nD Cert.InProjDxAttn2RefIdeal.τ).loc Cert.InProjDxAttn2RefIdeal.main_arg1) = m' ((c.tc : Thread Cert.InProjDxAttn2RefIdeal.nD Cert.InProjDxAttn2RefIdeal.τ).loc Cert.InProjDxAttn2RefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v31) = v0 c
          ∧ r.2.mem ((c.tc : Thread Cert.NormBwdRefIdeal.nD Cert.NormBwdRefIdeal.τ).loc Cert.NormBwdRefIdeal.main_v34) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6))

def preserves_SumIn_SumInIdeal : Prop :=
  True

def algebraic_SumInIdeal_SumInRefIdeal [hSumInIdeal : Cert.SumInIdeal.Facts] [hSumInRefIdeal : Cert.SumInRefIdeal.Facts] [hPre_names_a_device : Cert.Pre_names_a_device.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)
      ∧ m' ((c.tc : Thread Cert.SumInRefIdeal.nD Cert.SumInRefIdeal.τ).loc Cert.SumInRefIdeal.main_arg3) = m ((c.tc : Thread Cert.SumInIdeal.nD Cert.SumInIdeal.τ).loc Cert.SumInIdeal.main_arg3)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
          ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v15) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2)
          ∧ r.2.mem ((c.tc : Thread Cert.SumInRefIdeal.nD Cert.SumInRefIdeal.τ).loc Cert.SumInRefIdeal.main_arg3) = m' ((c.tc : Thread Cert.SumInRefIdeal.nD Cert.SumInRefIdeal.τ).loc Cert.SumInRefIdeal.main_arg3))

def preserves_PairSum_PairSumIdeal : Prop :=
  True

def algebraic_PairSumIdeal_PairSumRefIdeal [hPairSumIdeal : Cert.PairSumIdeal.Facts] [hPairSumRefIdeal : Cert.PairSumRefIdeal.Facts] [hPre_names_a_core : Cert.Pre_names_a_core.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v7) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def Claim : Prop :=
  ∃ (hKernel : Cert.Kernel.Facts) (hKernelIdeal : Cert.KernelIdeal.Facts) (hReferenceIdeal : Cert.ReferenceIdeal.Facts) (hReference : Cert.Reference.Facts) (hSmall : Cert.Small.Facts) (hSmallIdeal : Cert.SmallIdeal.Facts) (hSmallRefIdeal : Cert.SmallRefIdeal.Facts) (hSmallRef : Cert.SmallRef.Facts) (hSwap : Cert.Swap.Facts) (hSwapIdeal : Cert.SwapIdeal.Facts) (hSwapRefIdeal : Cert.SwapRefIdeal.Facts) (hSwapRef : Cert.SwapRef.Facts) (hChips : Cert.Chips.Facts) (hChipsIdeal : Cert.ChipsIdeal.Facts) (hChipsRefIdeal : Cert.ChipsRefIdeal.Facts) (hChipsRef : Cert.ChipsRef.Facts) (hSumBranch : Cert.SumBranch.Facts) (hSumBranchIdeal : Cert.SumBranchIdeal.Facts) (hSumBranchRefIdeal : Cert.SumBranchRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumConv : Cert.SumConv.Facts) (hSumConvIdeal : Cert.SumConvIdeal.Facts) (hSumConvRefIdeal : Cert.SumConvRefIdeal.Facts) (hSumSmall : Cert.SumSmall.Facts) (hSumSmallIdeal : Cert.SumSmallIdeal.Facts) (hSumSmallRefIdeal : Cert.SumSmallRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamConv : Cert.AdamConv.Facts) (hAdamConvIdeal : Cert.AdamConvIdeal.Facts) (hAdamConvRefIdeal : Cert.AdamConvRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hInProjAttn0 : Cert.InProjAttn0.Facts) (hInProjAttn0Ideal : Cert.InProjAttn0Ideal.Facts) (hInProjAttn0RefIdeal : Cert.InProjAttn0RefIdeal.Facts) (hInProjAttn1 : Cert.InProjAttn1.Facts) (hInProjAttn1Ideal : Cert.InProjAttn1Ideal.Facts) (hInProjAttn1RefIdeal : Cert.InProjAttn1RefIdeal.Facts) (hInProjAttn2 : Cert.InProjAttn2.Facts) (hInProjAttn2Ideal : Cert.InProjAttn2Ideal.Facts) (hInProjAttn2RefIdeal : Cert.InProjAttn2RefIdeal.Facts) (hInProjRest : Cert.InProjRest.Facts) (hInProjRestIdeal : Cert.InProjRestIdeal.Facts) (hInProjRestRefIdeal : Cert.InProjRestRefIdeal.Facts) (hBranch : Cert.Branch.Facts) (hBranchIdeal : Cert.BranchIdeal.Facts) (hBranchRefIdeal : Cert.BranchRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hInProjDxAttn1 : Cert.InProjDxAttn1.Facts) (hInProjDxAttn1Ideal : Cert.InProjDxAttn1Ideal.Facts) (hInProjDxAttn1RefIdeal : Cert.InProjDxAttn1RefIdeal.Facts) (hInProjDxAttn2 : Cert.InProjDxAttn2.Facts) (hInProjDxAttn2Ideal : Cert.InProjDxAttn2Ideal.Facts) (hInProjDxAttn2RefIdeal : Cert.InProjDxAttn2RefIdeal.Facts) (hNormBwd : Cert.NormBwd.Facts) (hNormBwdIdeal : Cert.NormBwdIdeal.Facts) (hNormBwdRefIdeal : Cert.NormBwdRefIdeal.Facts) (hSumIn : Cert.SumIn.Facts) (hSumInIdeal : Cert.SumInIdeal.Facts) (hSumInRefIdeal : Cert.SumInRefIdeal.Facts) (hPairSum : Cert.PairSum.Facts) (hPairSumIdeal : Cert.PairSumIdeal.Facts) (hPairSumRefIdeal : Cert.PairSumRefIdeal.Facts) (hPre_names_a_device : Cert.Pre_names_a_device.Facts) (hPre_names_a_core : Cert.Pre_names_a_core.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_SumBranch (hSumBranch := hSumBranch)
    ∧ quiescent_SumBranchIdeal (hSumBranchIdeal := hSumBranchIdeal)
    ∧ quiescent_SumBranchRefIdeal (hSumBranchRefIdeal := hSumBranchRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumConv (hSumConv := hSumConv)
    ∧ quiescent_SumConvIdeal (hSumConvIdeal := hSumConvIdeal)
    ∧ quiescent_SumConvRefIdeal (hSumConvRefIdeal := hSumConvRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_InProjAttn0 (hInProjAttn0 := hInProjAttn0)
    ∧ quiescent_InProjAttn0Ideal (hInProjAttn0Ideal := hInProjAttn0Ideal)
    ∧ quiescent_InProjAttn0RefIdeal (hInProjAttn0RefIdeal := hInProjAttn0RefIdeal)
    ∧ quiescent_InProjAttn1 (hInProjAttn1 := hInProjAttn1)
    ∧ quiescent_InProjAttn1Ideal (hInProjAttn1Ideal := hInProjAttn1Ideal)
    ∧ quiescent_InProjAttn1RefIdeal (hInProjAttn1RefIdeal := hInProjAttn1RefIdeal)
    ∧ quiescent_InProjAttn2 (hInProjAttn2 := hInProjAttn2)
    ∧ quiescent_InProjAttn2Ideal (hInProjAttn2Ideal := hInProjAttn2Ideal)
    ∧ quiescent_InProjAttn2RefIdeal (hInProjAttn2RefIdeal := hInProjAttn2RefIdeal)
    ∧ quiescent_InProjRest (hInProjRest := hInProjRest)
    ∧ quiescent_InProjRestIdeal (hInProjRestIdeal := hInProjRestIdeal)
    ∧ quiescent_InProjRestRefIdeal (hInProjRestRefIdeal := hInProjRestRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_InProjDxAttn1 (hInProjDxAttn1 := hInProjDxAttn1)
    ∧ quiescent_InProjDxAttn1Ideal (hInProjDxAttn1Ideal := hInProjDxAttn1Ideal)
    ∧ quiescent_InProjDxAttn1RefIdeal (hInProjDxAttn1RefIdeal := hInProjDxAttn1RefIdeal)
    ∧ quiescent_InProjDxAttn2 (hInProjDxAttn2 := hInProjDxAttn2)
    ∧ quiescent_InProjDxAttn2Ideal (hInProjDxAttn2Ideal := hInProjDxAttn2Ideal)
    ∧ quiescent_InProjDxAttn2RefIdeal (hInProjDxAttn2RefIdeal := hInProjDxAttn2RefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_SumIn (hSumIn := hSumIn) (hPre_names_a_device := hPre_names_a_device)
    ∧ quiescent_SumInIdeal (hSumInIdeal := hSumInIdeal) (hPre_names_a_device := hPre_names_a_device)
    ∧ quiescent_SumInRefIdeal (hSumInRefIdeal := hSumInRefIdeal)
    ∧ quiescent_SumInRefIdeal_pre_names_a_device (hSumInRefIdeal := hSumInRefIdeal) (hPre_names_a_device := hPre_names_a_device)
    ∧ quiescent_PairSum (hPairSum := hPairSum) (hPre_names_a_core := hPre_names_a_core)
    ∧ quiescent_PairSumIdeal (hPairSumIdeal := hPairSumIdeal) (hPre_names_a_core := hPre_names_a_core)
    ∧ quiescent_PairSumRefIdeal (hPairSumRefIdeal := hPairSumRefIdeal)
    ∧ quiescent_PairSumRefIdeal_pre_names_a_core (hPairSumRefIdeal := hPairSumRefIdeal) (hPre_names_a_core := hPre_names_a_core)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Small_SmallIdeal
    ∧ bitexact_Small_SmallRef (hSmall := hSmall) (hSmallRef := hSmallRef)
    ∧ algebraic_SmallIdeal_SmallRefIdeal (hSmallIdeal := hSmallIdeal) (hSmallRefIdeal := hSmallRefIdeal)
    ∧ preserves_Swap_SwapIdeal
    ∧ bitexact_Swap_SwapRef (hSwap := hSwap) (hSwapRef := hSwapRef)
    ∧ algebraic_SwapIdeal_SwapRefIdeal (hSwapIdeal := hSwapIdeal) (hSwapRefIdeal := hSwapRefIdeal)
    ∧ preserves_Chips_ChipsIdeal
    ∧ bitexact_Chips_ChipsRef (hChips := hChips) (hChipsRef := hChipsRef)
    ∧ algebraic_ChipsIdeal_ChipsRefIdeal (hChipsIdeal := hChipsIdeal) (hChipsRefIdeal := hChipsRefIdeal)
    ∧ preserves_SumBranch_SumBranchIdeal
    ∧ algebraic_SumBranchIdeal_SumBranchRefIdeal (hSumBranchIdeal := hSumBranchIdeal) (hSumBranchRefIdeal := hSumBranchRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumConv_SumConvIdeal
    ∧ algebraic_SumConvIdeal_SumConvRefIdeal (hSumConvIdeal := hSumConvIdeal) (hSumConvRefIdeal := hSumConvRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_InProjAttn0_InProjAttn0Ideal
    ∧ algebraic_InProjAttn0Ideal_InProjAttn0RefIdeal (hInProjAttn0Ideal := hInProjAttn0Ideal) (hInProjAttn0RefIdeal := hInProjAttn0RefIdeal)
    ∧ preserves_InProjAttn1_InProjAttn1Ideal
    ∧ algebraic_InProjAttn1Ideal_InProjAttn1RefIdeal (hInProjAttn1Ideal := hInProjAttn1Ideal) (hInProjAttn1RefIdeal := hInProjAttn1RefIdeal)
    ∧ preserves_InProjAttn2_InProjAttn2Ideal
    ∧ algebraic_InProjAttn2Ideal_InProjAttn2RefIdeal (hInProjAttn2Ideal := hInProjAttn2Ideal) (hInProjAttn2RefIdeal := hInProjAttn2RefIdeal)
    ∧ preserves_InProjRest_InProjRestIdeal
    ∧ algebraic_InProjRestIdeal_InProjRestRefIdeal (hInProjRestIdeal := hInProjRestIdeal) (hInProjRestRefIdeal := hInProjRestRefIdeal)
    ∧ preserves_Branch_BranchIdeal
    ∧ algebraic_BranchIdeal_BranchRefIdeal (hBranchIdeal := hBranchIdeal) (hBranchRefIdeal := hBranchRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_InProjDxAttn1_InProjDxAttn1Ideal
    ∧ algebraic_InProjDxAttn1Ideal_InProjDxAttn1RefIdeal (hInProjDxAttn1Ideal := hInProjDxAttn1Ideal) (hInProjDxAttn1RefIdeal := hInProjDxAttn1RefIdeal)
    ∧ preserves_InProjDxAttn2_InProjDxAttn2Ideal
    ∧ algebraic_InProjDxAttn2Ideal_InProjDxAttn2RefIdeal (hInProjDxAttn2Ideal := hInProjDxAttn2Ideal) (hInProjDxAttn2RefIdeal := hInProjDxAttn2RefIdeal)
    ∧ preserves_NormBwd_NormBwdIdeal
    ∧ algebraic_NormBwdIdeal_NormBwdRefIdeal (hNormBwdIdeal := hNormBwdIdeal) (hNormBwdRefIdeal := hNormBwdRefIdeal)
    ∧ preserves_SumIn_SumInIdeal
    ∧ algebraic_SumInIdeal_SumInRefIdeal (hSumInIdeal := hSumInIdeal) (hSumInRefIdeal := hSumInRefIdeal) (hPre_names_a_device := hPre_names_a_device)
    ∧ preserves_PairSum_PairSumIdeal
    ∧ algebraic_PairSumIdeal_PairSumRefIdeal (hPairSumIdeal := hPairSumIdeal) (hPairSumRefIdeal := hPairSumRefIdeal) (hPre_names_a_core := hPre_names_a_core)
-- ==== Pre_names_a_core.lean ====
abbrev S2 : Shape := ⟨1, ![2]⟩
abbrev S4x2x1088x1024 : Shape := ⟨4, ![4, 2, 1088, 1024]⟩
abbrev S4x1088x1024 : Shape := ⟨3, ![4, 1088, 1024]⟩
abbrev S1 : Shape := ⟨1, ![1]⟩
abbrev S_ : Shape := ⟨0, ![]⟩

class Facts : Prop where
  slices_S2_S1_0 : S2.Slices ![0] S1
  bcast_S_S1 : S_.BroadcastsInDim S1 (![] : Fin 0 → Fin S1.rank)

variable [Facts]

def fn {F : FTy → Type} [FloatOps F] (main_arg0 : IVec S2 32) (main_arg1 : FVec F S4x2x1088x1024 .bf16) (main_arg2 : FVec F S4x1088x1024 .bf16) : IVec S1 1 :=
  let main_v0 : IVec S1 32 := (extractStridedSlice S1 ![0] · slices_S2_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S2_S1_0) main_arg0
  let main_c_0 : IVec S_ 32 := constantI S_ 32 2#32
  let main_v4 : IVec S1 32 := broadcastInDim S1 ![] bcast_S_S1 main_c_0
  let main_v5 : IVec S1 1 := cmpi .slt main_v3 main_v4
  let main_v6 : IVec S1 1 := andi main_v2 main_v5
  main_v6
-- ==== Pre_names_a_device.lean ====
abbrev S2 : Shape := ⟨1, ![2]⟩
abbrev S4x2x1088x1024 : Shape := ⟨4, ![4, 2, 1088, 1024]⟩
abbrev S4x1088x1024 : Shape := ⟨3, ![4, 1088, 1024]⟩
abbrev S3x1088x1024 : Shape := ⟨3, ![3, 1088, 1024]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 2#32 | 1 => 4#32
  | _ => 0#32

def fn {F : FTy → Type} [FloatOps F] (main_arg0 : IVec S2 32) (main_arg1 : FVec F S4x2x1088x1024 .bf16) (main_arg2 : FVec F S4x1088x1024 .bf16) (main_arg3 : FVec F S3x1088x1024 .bf16) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg0 main_v0
  let main_v2 : IVec S2 1 := cmpi .slt main_arg0 main_c
  let main_v3 : IVec S2 1 := andi main_v1 main_v2
  main_v3
-- ==== Kernel.lean ====
abbrev S1088x1024 : Shape := ⟨2, ![1088, 1024]⟩
abbrev S8x1088x1024 : Shape := ⟨3, ![8, 1088, 1024]⟩
abbrev S7 : Shape := ⟨1, ![7]⟩
abbrev S_ : Shape := ⟨0, ![]⟩
abbrev S1x1088x1024 : Shape := ⟨3, ![1, 1088, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1088x1024, .bf16⟩
  | .hbm, ⟨1, _⟩ => ⟨S8x1088x1024, .bf16⟩
  | _, _ => ⟨S1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== Reference.lean ====
abbrev S8704x1024 : Shape := ⟨2, ![8704, 1024]⟩
abbrev S8x1088x1024 : Shape := ⟨3, ![8, 1088, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8x1088x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S72x1024 : Shape := ⟨2, ![72, 1024]⟩
abbrev S8x72x1024 : Shape := ⟨3, ![8, 72, 1024]⟩
abbrev S7 : Shape := ⟨1, ![7]⟩
abbrev S_ : Shape := ⟨0, ![]⟩
abbrev S1x72x1024 : Shape := ⟨3, ![1, 72, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S72x1024, .f32⟩
  | .hbm, ⟨1, _⟩ => ⟨S8x72x1024, .f32⟩
  | _, _ => ⟨S72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SmallRef.lean ====
abbrev S576x1024 : Shape := ⟨2, ![576, 1024]⟩
abbrev S8x72x1024 : Shape := ⟨3, ![8, 72, 1024]⟩

abbrev nBuf : Space → Nat
  | .hbm => 2
  | .vmem => 0
  | .smem => 0
  | _ => 0

abbrev bufTy : (tb : Table) → Fin (tcTables nBuf tb) → BufTy
  | .hbm, ⟨0, _⟩ => ⟨S576x1024, .f32⟩
  | .hbm, ⟨1, _⟩ => ⟨S8x72x1024, .f32⟩
  | _, _ => ⟨S576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Swap.lean ====
abbrev S4x2x1088x1024 : Shape := ⟨4, ![4, 2, 1088, 1024]⟩
abbrev S4x1088x1024 : Shape := ⟨3, ![4, 1088, 1024]⟩
abbrev S4 : Shape := ⟨1, ![4]⟩
abbrev S1 : Shape := ⟨1, ![1]⟩
abbrev S_ : Shape := ⟨0, ![]⟩
abbrev S1x1088x1024 : Shape := ⟨3, ![1, 1088, 1024]⟩
abbrev S1088x1024 : Shape := ⟨2, ![1088, 1024]⟩
abbrev S1x1x1088x1024 : Shape := ⟨4, ![1, 1, 1088, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1088x1024, .bf16⟩
  | .hbm, ⟨1, _⟩ => ⟨S4x1088x1024, .bf16⟩
  | _, _ => ⟨S4x2x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== SwapRef.lean ====
abbrev S32x2x1088x1024 : Shape := ⟨4, ![32, 2, 1088, 1024]⟩
abbrev S4x2x4x2x1088x1024 : Shape := ⟨6, ![4, 2, 4, 2, 1088, 1024]⟩
abbrev S4x1x4x1x1088x1024 : Shape := ⟨6, ![4, 1, 4, 1, 1088, 1024]⟩
abbrev S4x4x1088x1024 : Shape := ⟨4, ![4, 4, 1088, 1024]⟩
abbrev S4x1x4x1088x1024 : Shape := ⟨5, ![4, 1, 4, 1088, 1024]⟩
abbrev S4x2x4x1088x1024 : Shape := ⟨5, ![4, 2, 4, 1088, 1024]⟩
abbrev S32x1088x1024 : Shape := ⟨3, ![32, 1088, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x2x1088x1024, .bf16⟩
  | .hbm, ⟨1, _⟩ => ⟨S4x2x4x2x1088x1024, .bf16⟩
  | .hbm, ⟨2, _⟩ => ⟨S4x1x4x1x1088x1024, .bf16⟩
  | .hbm, ⟨3, _⟩ => ⟨S4x4x1088x1024, .bf16⟩
  | .hbm, ⟨4, _⟩ => ⟨S4x1x4x1x1088x1024, .bf16⟩
  | .hbm, ⟨5, _⟩ => ⟨S4x4x1088x1024, .bf16⟩
  | .hbm, ⟨6, _⟩ => ⟨S4x1x4x1088x1024, .bf16⟩
  | .hbm, ⟨7, _⟩ => ⟨S4x1x4x1088x1024, .bf16⟩
  | .hbm, ⟨8, _⟩ => ⟨S4x2x4x1088x1024, .bf16⟩
  | .hbm, ⟨9, _⟩ => ⟨S32x1088x1024, .bf16⟩
  | _, _ => ⟨S32x2x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Chips.lean ====
abbrev S4x1088x1024 : Shape := ⟨3, ![4, 1088, 1024]⟩
abbrev S3x1088x1024 : Shape := ⟨3, ![3, 1088, 1024]⟩
abbrev S3 : Shape := ⟨1, ![3]⟩
abbrev S1 : Shape := ⟨1, ![1]⟩
abbrev S_ : Shape := ⟨0, ![]⟩
abbrev S1x1088x1024 : Shape := ⟨3, ![1, 1088, 1024]⟩
abbrev S1088x1024 : Shape := ⟨2, ![1088, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x1088x1024, .bf16⟩
  | .hbm, ⟨1, _⟩ => ⟨S3x1088x1024, .bf16⟩
  | _, _ => ⟨S4x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c0_i32 : BitVec 32) (c1_i32_3 : BitVec 32) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.xori v2 c0_i32
  let v11 : BitVec 32 := Scalar.muli c2_i32_4 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 c1_i32_3
  let v12 : BitVec 32 := Scalar.addi v11 v10
  let c0_i32_20 : BitVec 32 := 0#32
  let c0_i32_21 : BitVec 32 := 0#32
  ![v12.toNat, 0, 0]
def k0_off1_at (r : Fin 3) : BitVec 32 × BitVec 32 :=
  if r.val < 1 then
    (0#32, 1#32)
  else
    if r.val < 2 then
      (1#32, 0#32)
    else
      (1#32, 1#32)
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.xori v2 c0_i32
  let c4_i32_14 : BitVec 32 := 4#32
  let v21 : BitVec 32 := Scalar.muli v9 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_3 : BitVec 32 := 1#32
  let v10 : BitVec 32 := Scalar.xori v5 c1_i32_3
  let c2_i32_16 : BitVec 32 := 2#32
  let v23 : BitVec 32 := Scalar.muli v10 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_5 : BitVec 32 := 1#32
  let v13 : BitVec 32 := Scalar.xori v2 c1_i32_5
  let c4_i32_25 : BitVec 32 := 4#32
  let v35 : BitVec 32 := Scalar.muli v13 c4_i32_25
  let v36 : BitVec 32 := Scalar.addi c0_i32_26 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_6 : BitVec 32 := 0#32
  let v14 : BitVec 32 := Scalar.xori v5 c0_i32_6
  let c2_i32_27 : BitVec 32 := 2#32
  let v37 : BitVec 32 := Scalar.muli v14 c2_i32_27
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v39 : BitVec 32 := Scalar.muli v8 c1_i32_28
  let v40 : BitVec 32 := Scalar.addi v38 v39
  v40.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_8 : BitVec 32 := 1#32
  let v17 : BitVec 32 := Scalar.xori v2 c1_i32_8
  let c4_i32_36 : BitVec 32 := 4#32
  let v49 : BitVec 32 := Scalar.muli v17 c4_i32_36
  let v50 : BitVec 32 := Scalar.addi c0_i32_37 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v18 : BitVec 32 := Scalar.xori v5 c1_i32_9
  let c2_i32_38 : BitVec 32 := 2#32
  let v51 : BitVec 32 := Scalar.muli v18 c2_i32_38
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v53 : BitVec 32 := Scalar.muli v8 c1_i32_39
  let v54 : BitVec 32 := Scalar.addi v52 v53
  v54.toNat
-- ==== ChipsRef.lean ====
abbrev S32x1088x1024 : Shape := ⟨3, ![32, 1088, 1024]⟩
abbrev S4x2x4x1088x1024 : Shape := ⟨5, ![4, 2, 4, 1088, 1024]⟩
abbrev S1x2x1x1088x1024 : Shape := ⟨5, ![1, 2, 1, 1088, 1024]⟩
abbrev S2x1088x1024 : Shape := ⟨3, ![2, 1088, 1024]⟩
abbrev S2x1x1088x1024 : Shape := ⟨4, ![2, 1, 1088, 1024]⟩
abbrev S2x3x1088x1024 : Shape := ⟨4, ![2, 3, 1088, 1024]⟩
abbrev S1x2x3x1088x1024 : Shape := ⟨5, ![1, 2, 3, 1088, 1024]⟩
abbrev S4x2x3x1088x1024 : Shape := ⟨5, ![4, 2, 3, 1088, 1024]⟩
abbrev S24x1088x1024 : Shape := ⟨3, ![24, 1088, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x1088x1024, .bf16⟩
  | .hbm, ⟨1, _⟩ => ⟨S4x2x4x1088x1024, .bf16⟩
  | .hbm, ⟨2, _⟩ => ⟨S1x2x1x1088x1024, .bf16⟩
  | .hbm, ⟨3, _⟩ => ⟨S2x1088x1024, .bf16⟩
  | .hbm, ⟨4, _⟩ => ⟨S1x2x1x1088x1024, .bf16⟩
  | .hbm, ⟨5, _⟩ => ⟨S2x1088x1024, .bf16⟩
  | .hbm, ⟨6, _⟩ => ⟨S1x2x1x1088x1024, .bf16⟩
  | .hbm, ⟨7, _⟩ => ⟨S2x1088x1024, .bf16⟩
  | .hbm, ⟨8, _⟩ => ⟨S2x1x1088x1024, .bf16⟩
  | .hbm, ⟨9, _⟩ => ⟨S2x1x1088x1024, .bf16⟩
  | .hbm, ⟨10, _⟩ => ⟨S2x1x1088x1024, .bf16⟩
  | .hbm, ⟨11, _⟩ => ⟨S2x3x1088x1024, .bf16⟩
  | .hbm, ⟨12, _⟩ => ⟨S1x2x1x1088x1024, .bf16⟩
  | .hbm, ⟨13, _⟩ => ⟨S2x1088x1024, .bf16⟩
  | .hbm, ⟨14, _⟩ => ⟨S1x2x1x1088x1024, .bf16⟩
  | .hbm, ⟨15, _⟩ => ⟨S2x1088x1024, .bf16⟩
  | .hbm, ⟨16, _⟩ => ⟨S1x2x1x1088x1024, .bf16⟩
  | .hbm, ⟨17, _⟩ => ⟨S2x1088x1024, .bf16⟩
  | .hbm, ⟨18, _⟩ => ⟨S2x1x1088x1024, .bf16⟩
  | .hbm, ⟨19, _⟩ => ⟨S2x1x1088x1024, .bf16⟩
  | .hbm, ⟨20, _⟩ => ⟨S2x1x1088x1024, .bf16⟩
  | .hbm, ⟨21, _⟩ => ⟨S2x3x1088x1024, .bf16⟩
  | .hbm, ⟨22, _⟩ => ⟨S1x2x1x1088x1024, .bf16⟩
  | .hbm, ⟨23, _⟩ => ⟨S2x1088x1024, .bf16⟩
  | .hbm, ⟨24, _⟩ => ⟨S1x2x1x1088x1024, .bf16⟩
  | .hbm, ⟨25, _⟩ => ⟨S2x1088x1024, .bf16⟩
  | .hbm, ⟨26, _⟩ => ⟨S1x2x1x1088x1024, .bf16⟩
  | .hbm, ⟨27, _⟩ => ⟨S2x1088x1024, .bf16⟩
  | .hbm, ⟨28, _⟩ => ⟨S2x1x1088x1024, .bf16⟩
  | .hbm, ⟨29, _⟩ => ⟨S2x1x1088x1024, .bf16⟩
  | .hbm, ⟨30, _⟩ => ⟨S2x1x1088x1024, .bf16⟩
  | .hbm, ⟨31, _⟩ => ⟨S2x3x1088x1024, .bf16⟩
  | .hbm, ⟨32, _⟩ => ⟨S1x2x1x1088x1024, .bf16⟩
  | .hbm, ⟨33, _⟩ => ⟨S2x1088x1024, .bf16⟩
  | .hbm, ⟨34, _⟩ => ⟨S1x2x1x1088x1024, .bf16⟩
  | .hbm, ⟨35, _⟩ => ⟨S2x1088x1024, .bf16⟩
  | .hbm, ⟨36, _⟩ => ⟨S1x2x1x1088x1024, .bf16⟩
  | .hbm, ⟨37, _⟩ => ⟨S2x1088x1024, .bf16⟩
  | .hbm, ⟨38, _⟩ => ⟨S2x1x1088x1024, .bf16⟩
  | .hbm, ⟨39, _⟩ => ⟨S2x1x1088x1024, .bf16⟩
  | .hbm, ⟨40, _⟩ => ⟨S2x1x1088x1024, .bf16⟩
  | .hbm, ⟨41, _⟩ => ⟨S2x3x1088x1024, .bf16⟩
  | .hbm, ⟨42, _⟩ => ⟨S1x2x3x1088x1024, .bf16⟩
  | .hbm, ⟨43, _⟩ => ⟨S1x2x3x1088x1024, .bf16⟩
  | .hbm, ⟨44, _⟩ => ⟨S1x2x3x1088x1024, .bf16⟩
  | .hbm, ⟨45, _⟩ => ⟨S1x2x3x1088x1024, .bf16⟩
  | .hbm, ⟨46, _⟩ => ⟨S4x2x3x1088x1024, .bf16⟩
  | .hbm, ⟨47, _⟩ => ⟨S24x1088x1024, .bf16⟩
  | _, _ => ⟨S32x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩

abbrev nD : Nat := 1
abbrev τ : Topo := Topo.v7x

variable {F : FTy → Type} [FloatOps F]
-- ==== SumBranch.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .local _ .vmem, ⟨0, _⟩ => ⟨S8x512x128, .bf16⟩
  | .local _ .vmem, ⟨1, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumBranchRefIdeal.lean ====
abbrev S8x512x128 : Shape := ⟨3, ![8, 512, 128]⟩
abbrev S_ : Shape := ⟨0, ![]⟩
abbrev S512x128 : Shape := ⟨2, ![512, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .f32⟩
  | .hbm, ⟨2, _⟩ => ⟨S_, .f32⟩
  | .hbm, ⟨3, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumDownRefIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumConv.lean ====
abbrev S8x8x704 : Shape := ⟨3, ![8, 8, 704]⟩
abbrev S8x704 : Shape := ⟨2, ![8, 704]⟩
abbrev S1x8x704 : Shape := ⟨3, ![1, 8, 704]⟩

abbrev nBuf : Space → Nat
  | .hbm => 2
  | .vmem => 2
  | .smem => 0
  | _ => 0

abbrev bufTy : (tb : Table) → Fin (tcTables nBuf tb) → BufTy
  | .hbm, ⟨0, _⟩ => ⟨S8x8x704, .f32⟩
  | .hbm, ⟨1, _⟩ => ⟨S8x704, .f32⟩
  | .local _ .vmem, ⟨0, _⟩ => ⟨S8x8x704, .f32⟩
  | .local _ .vmem, ⟨1, _⟩ => ⟨S8x704, .f32⟩
  | _, _ => ⟨S8x8x704, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumConvRefIdeal.lean ====
abbrev S8x8x704 : Shape := ⟨3, ![8, 8, 704]⟩
abbrev S_ : Shape := ⟨0, ![]⟩
abbrev S8x704 : Shape := ⟨2, ![8, 704]⟩

abbrev nBuf : Space → Nat
  | .hbm => 3
  | .vmem => 0
  | .smem => 0
  | _ => 0

abbrev bufTy : (tb : Table) → Fin (tcTables nBuf tb) → BufTy
  | .hbm, ⟨0, _⟩ => ⟨S8x8x704, .f32⟩
  | .hbm, ⟨1, _⟩ => ⟨S_, .f32⟩
  | .hbm, ⟨2, _⟩ => ⟨S8x704, .f32⟩
  | _, _ => ⟨S8x8x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmall.lean ====
abbrev S8x72x1024 : Shape := ⟨3, ![8, 72, 1024]⟩
abbrev S72x1024 : Shape := ⟨2, ![72, 1024]⟩
abbrev S1x72x1024 : Shape := ⟨3, ![1, 72, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x72x1024, .f32⟩
  | .local _ .vmem, ⟨1, _⟩ => ⟨S72x1024, .f32⟩
  | _, _ => ⟨S8x72x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x72x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x72x1024 : Shape := ⟨3, ![8, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S_, .f32⟩
  | .hbm, ⟨2, _⟩ => ⟨S72x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamIn.lean ====
abbrev S1088x1024 : Shape := ⟨2, ![1088, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S1088x1024, .f32⟩
  | .hbm, ⟨5, _⟩ => ⟨S1088x1024, .f32⟩
  | .hbm, ⟨6, _⟩ => ⟨S1088x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1088x1024 : Shape := ⟨2, ![1088, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S_, .f32⟩
  | .hbm, ⟨5, _⟩ => ⟨S1088x1024, .f32⟩
  | .hbm, ⟨6, _⟩ => ⟨S1088x1024, .f32⟩
  | .hbm, ⟨7, _⟩ => ⟨S_, .f32⟩
  | .hbm, ⟨8, _⟩ => ⟨S1088x1024, .f32⟩
  | .hbm, ⟨9, _⟩ => ⟨S1088x1024, .f32⟩
  | .hbm, ⟨10, _⟩ => ⟨S1088x1024, .f32⟩
  | .hbm, ⟨11, _⟩ => ⟨S_, .f32⟩
  | .hbm, ⟨12, _⟩ => ⟨S1088x1024, .f32⟩
  | .hbm, ⟨13, _⟩ => ⟨S1088x1024, .f32⟩
  | .hbm, ⟨14, _⟩ => ⟨S1088x1024, .f32⟩
  | .hbm, ⟨15, _⟩ => ⟨S_, .f32⟩
  | .hbm, ⟨16, _⟩ => ⟨S1088x1024, .f32⟩
  | .hbm, ⟨17, _⟩ => ⟨S1088x1024, .f32⟩
  | .hbm, ⟨18, _⟩ => ⟨S1088x1024, .f32⟩
  | .hbm, ⟨19, _⟩ => ⟨S_, .f32⟩
  | .hbm, ⟨20, _⟩ => ⟨S1088x1024, .f32⟩
  | .hbm, ⟨21, _⟩ => ⟨S1088x1024, .f32⟩
  | .hbm, ⟨22, _⟩ => ⟨S_, .f32⟩
  | .hbm, ⟨23, _⟩ => ⟨S1088x1024, .f32⟩
  | .hbm, ⟨24, _⟩ => ⟨S1088x1024, .f32⟩
  | .hbm, ⟨25, _⟩ => ⟨S1088x1024, .f32⟩
  | .hbm, ⟨26, _⟩ => ⟨S_, .f32⟩
  | .hbm, ⟨27, _⟩ => ⟨S1088x1024, .f32⟩
  | .hbm, ⟨28, _⟩ => ⟨S1088x1024, .f32⟩
  | .hbm, ⟨29, _⟩ => ⟨S1088x1024, .f32⟩
  | .hbm, ⟨30, _⟩ => ⟨S_, .f32⟩
  | .hbm, ⟨31, _⟩ => ⟨S1088x1024, .f32⟩
  | .hbm, ⟨32, _⟩ => ⟨S1088x1024, .f32⟩
  | .hbm, ⟨33, _⟩ => ⟨S1088x1024, .f32⟩
  | .hbm, ⟨34, _⟩ => ⟨S_, .f32⟩
  | .hbm, ⟨35, _⟩ => ⟨S1088x1024, .f32⟩
  | .hbm, ⟨36, _⟩ => ⟨S1088x1024, .f32⟩
  | _, _ => ⟨S1088x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S3x704 : Shape := ⟨2, ![3, 704]⟩

abbrev nBuf : Space → Nat
  | .hbm => 7
  | .vmem => 7
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .local _ .vmem, ⟨0, _⟩ => ⟨S3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S3x704 : Shape := ⟨2, ![3, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S3x704, .f32⟩
  | .hbm, ⟨10, _⟩ => ⟨S3x704, .f32⟩
  | .hbm, ⟨11, _⟩ => ⟨S_, .f32⟩
  | .hbm, ⟨12, _⟩ => ⟨S3x704, .f32⟩
  | .hbm, ⟨13, _⟩ => ⟨S3x704, .f32⟩
  | .hbm, ⟨14, _⟩ => ⟨S3x704, .f32⟩
  | .hbm, ⟨15, _⟩ => ⟨S_, .f32⟩
  | .hbm, ⟨16, _⟩ => ⟨S3x704, .f32⟩
  | .hbm, ⟨17, _⟩ => ⟨S3x704, .f32⟩
  | .hbm, ⟨18, _⟩ => ⟨S3x704, .f32⟩
  | .hbm, ⟨19, _⟩ => ⟨S_, .f32⟩
  | .hbm, ⟨20, _⟩ => ⟨S3x704, .f32⟩
  | .hbm, ⟨21, _⟩ => ⟨S3x704, .f32⟩
  | .hbm, ⟨22, _⟩ => ⟨S_, .f32⟩
  | .hbm, ⟨23, _⟩ => ⟨S3x704, .f32⟩
  | .hbm, ⟨24, _⟩ => ⟨S3x704, .f32⟩
  | .hbm, ⟨25, _⟩ => ⟨S3x704, .f32⟩
  | .hbm, ⟨26, _⟩ => ⟨S_, .f32⟩
  | .hbm, ⟨27, _⟩ => ⟨S3x704, .f32⟩
  | .hbm, ⟨28, _⟩ => ⟨S3x704, .f32⟩
  | .hbm, ⟨29, _⟩ => ⟨S3x704, .f32⟩
  | .hbm, ⟨30, _⟩ => ⟨S_, .f32⟩
  | .hbm, ⟨31, _⟩ => ⟨S3x704, .f32⟩
  | .hbm, ⟨32, _⟩ => ⟨S3x704, .f32⟩
  | .hbm, ⟨33, _⟩ => ⟨S3x704, .f32⟩
  | .hbm, ⟨34, _⟩ => ⟨S_, .f32⟩
  | .hbm, ⟨35, _⟩ => ⟨S3x704, .f32⟩
  | .hbm, ⟨36, _⟩ => ⟨S3x704, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S64x1024 : Shape := ⟨2, ![64, 1024]⟩

abbrev nBuf : Space → Nat
  | .hbm => 7
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S64x1024 : Shape := ⟨2, ![64, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InProjAttn0.lean ====
abbrev S4096x1024 : Shape := ⟨2, ![4096, 1024]⟩
abbrev S8704x1024 : Shape := ⟨2, ![8704, 1024]⟩
abbrev S4096x1536 : Shape := ⟨2, ![4096, 1536]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjAttn0RefIdeal.lean ====
abbrev S4096x1024 : Shape := ⟨2, ![4096, 1024]⟩
abbrev S8704x1024 : Shape := ⟨2, ![8704, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S1536x1024, .bf16⟩
  | .hbm, ⟨3, _⟩ => ⟨S4096x1024, .f32⟩
  | .hbm, ⟨4, _⟩ => ⟨S1536x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProjAttn1.lean ====
abbrev S4096x1024 : Shape := ⟨2, ![4096, 1024]⟩
abbrev S8704x1024 : Shape := ⟨2, ![8704, 1024]⟩
abbrev S4096x1536 : Shape := ⟨2, ![4096, 1536]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjAttn1RefIdeal.lean ====
abbrev S4096x1024 : Shape := ⟨2, ![4096, 1024]⟩
abbrev S8704x1024 : Shape := ⟨2, ![8704, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S1536x1024, .bf16⟩
  | .hbm, ⟨3, _⟩ => ⟨S4096x1024, .f32⟩
  | .hbm, ⟨4, _⟩ => ⟨S1536x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProjAttn2.lean ====
abbrev S4096x1024 : Shape := ⟨2, ![4096, 1024]⟩
abbrev S8704x1024 : Shape := ⟨2, ![8704, 1024]⟩
abbrev S4096x1536 : Shape := ⟨2, ![4096, 1536]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjAttn2RefIdeal.lean ====
abbrev S4096x1024 : Shape := ⟨2, ![4096, 1024]⟩
abbrev S8704x1024 : Shape := ⟨2, ![8704, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S1536x1024, .bf16⟩
  | .hbm, ⟨3, _⟩ => ⟨S4096x1024, .f32⟩
  | .hbm, ⟨4, _⟩ => ⟨S1536x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProjRest.lean ====
abbrev S4096x1024 : Shape := ⟨2, ![4096, 1024]⟩
abbrev S8704x1024 : Shape := ⟨2, ![8704, 1024]⟩
abbrev S4096x4096 : Shape := ⟨2, ![4096, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRestRefIdeal.lean ====
abbrev S4096x1024 : Shape := ⟨2, ![4096, 1024]⟩
abbrev S8704x1024 : Shape := ⟨2, ![8704, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Branch.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S4096x1024 : Shape := ⟨2, ![4096, 1024]⟩
abbrev S5632x1024 : Shape := ⟨2, ![5632, 1024]⟩
abbrev S4096x5632 : Shape := ⟨2, ![4096, 5632]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDx.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDownDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUpDx.lean ====
abbrev S8192x2816 : Shape := ⟨2, ![8192, 2816]⟩
abbrev S5632x1024 : Shape := ⟨2, ![5632, 1024]⟩
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S5632x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDxRefIdeal.lean ====
abbrev S8192x2816 : Shape := ⟨2, ![8192, 2816]⟩
abbrev S5632x1024 : Shape := ⟨2, ![5632, 1024]⟩
abbrev S4096x2816 : Shape := ⟨2, ![4096, 2816]⟩
abbrev S4096x5632 : Shape := ⟨2, ![4096, 5632]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S5632x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .hbm, ⟨5, _⟩ => ⟨S4096x5632, .f32⟩
  | .hbm, ⟨6, _⟩ => ⟨S5632x1024, .f32⟩
  | .hbm, ⟨7, _⟩ => ⟨S4096x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUpDw.lean ====
abbrev S8192x2816 : Shape := ⟨2, ![8192, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S4096x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.shrsi arg0 c1_i32
  let c2_i32 : BitVec 32 := 2#32
  let v1 : BitVec 32 := Scalar.muli v0 c2_i32
  let v2 : BitVec 32 := Scalar.addi v1 arg2
  let c1_i32_0 : BitVec 32 := 1#32
  let v3 : BitVec 32 := Scalar.andi arg0 c1_i32_0
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S8192x2816 : Shape := ⟨2, ![8192, 2816]⟩
abbrev S4096x1024 : Shape := ⟨2, ![4096, 1024]⟩
abbrev S4096x2816 : Shape := ⟨2, ![4096, 2816]⟩
abbrev S4096x5632 : Shape := ⟨2, ![4096, 5632]⟩
abbrev S5632x4096 : Shape := ⟨2, ![5632, 4096]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S4096x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .hbm, ⟨5, _⟩ => ⟨S4096x5632, .f32⟩
  | .hbm, ⟨6, _⟩ => ⟨S5632x4096, .f32⟩
  | .hbm, ⟨7, _⟩ => ⟨S4096x1024, .f32⟩
  | .hbm, ⟨8, _⟩ => ⟨S5632x1024, .f32⟩
  | .hbm, ⟨9, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProjDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutProjDwRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BranchDx.lean ====
abbrev S4096x1024 : Shape := ⟨2, ![4096, 1024]⟩
abbrev S512x1024 : Shape := ⟨2, ![512, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchDw.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S512x4096, .f32⟩
  | .hbm, ⟨4, _⟩ => ⟨S4096x1024, .f32⟩
  | .hbm, ⟨5, _⟩ => ⟨S512x1024, .f32⟩
  | .hbm, ⟨6, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProjDxAttn1.lean ====
abbrev S4096x1536 : Shape := ⟨2, ![4096, 1536]⟩
abbrev S8704x1024 : Shape := ⟨2, ![8704, 1024]⟩
abbrev S4096x1024 : Shape := ⟨2, ![4096, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S8704x1024, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxAttn1RefIdeal.lean ====
abbrev S4096x1536 : Shape := ⟨2, ![4096, 1536]⟩
abbrev S8704x1024 : Shape := ⟨2, ![8704, 1024]⟩
abbrev S1536x1024 : Shape := ⟨2, ![1536, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S8704x1024, .bf16⟩
  | .hbm, ⟨2, _⟩ => ⟨S1536x1024, .bf16⟩
  | .hbm, ⟨3, _⟩ => ⟨S4096x1536, .f32⟩
  | .hbm, ⟨4, _⟩ => ⟨S1536x1024, .f32⟩
  | .hbm, ⟨5, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjDxAttn2.lean ====
abbrev S4096x1536 : Shape := ⟨2, ![4096, 1536]⟩
abbrev S8704x1024 : Shape := ⟨2, ![8704, 1024]⟩
abbrev S4096x1024 : Shape := ⟨2, ![4096, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S8704x1024, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxAttn2RefIdeal.lean ====
abbrev S4096x1536 : Shape := ⟨2, ![4096, 1536]⟩
abbrev S8704x1024 : Shape := ⟨2, ![8704, 1024]⟩
abbrev S1536x1024 : Shape := ⟨2, ![1536, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S8704x1024, .bf16⟩
  | .hbm, ⟨2, _⟩ => ⟨S1536x1024, .bf16⟩
  | .hbm, ⟨3, _⟩ => ⟨S4096x1536, .f32⟩
  | .hbm, ⟨4, _⟩ => ⟨S1536x1024, .f32⟩
  | .hbm, ⟨5, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S4x1024x1024 : Shape := ⟨3, ![4, 1024, 1024]⟩
abbrev S16x256x1024 : Shape := ⟨3, ![16, 256, 1024]⟩
abbrev S256x1024 : Shape := ⟨2, ![256, 1024]⟩
abbrev S4x64x1024 : Shape := ⟨3, ![4, 64, 1024]⟩
abbrev S16x16x1024 : Shape := ⟨3, ![16, 16, 1024]⟩
abbrev S8x256x128 : Shape := ⟨3, ![8, 256, 128]⟩
abbrev S1x64x1024 : Shape := ⟨3, ![1, 64, 1024]⟩
abbrev S64x1024 : Shape := ⟨2, ![64, 1024]⟩
abbrev S64x128 : Shape := ⟨2, ![64, 128]⟩
abbrev S1x64x128 : Shape := ⟨3, ![1, 64, 128]⟩
abbrev S1x256x128 : Shape := ⟨3, ![1, 256, 128]⟩
abbrev S256x128 : Shape := ⟨2, ![256, 128]⟩
abbrev S1x16x1024 : Shape := ⟨3, ![1, 16, 1024]⟩
abbrev S16x1024 : Shape := ⟨2, ![16, 1024]⟩
abbrev S16x128 : Shape := ⟨2, ![16, 128]⟩
abbrev S1x16x128 : Shape := ⟨3, ![1, 16, 128]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4x1024x1024, .f32⟩
  | .hbm, ⟨8, _⟩ => ⟨S16x256x1024, .f32⟩
  | .hbm, ⟨9, _⟩ => ⟨S4096x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x64x1024, .f32⟩
  | .local _ .vmem, ⟨5, _⟩ => ⟨S4x64x1024, .f32⟩
  | .local _ .vmem, ⟨6, _⟩ => ⟨S16x16x1024, .f32⟩
  | .local _ .vmem, ⟨7, _⟩ => ⟨S16x16x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S8x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S4096x1024 : Shape := ⟨2, ![4096, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S16x256x1024 : Shape := ⟨3, ![16, 256, 1024]⟩
abbrev S256x16x1024 : Shape := ⟨3, ![256, 16, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4x1024x1024, .f32⟩
  | .hbm, ⟨9, _⟩ => ⟨S1024x4x1024, .f32⟩
  | .hbm, ⟨10, _⟩ => ⟨S4096x1024, .f32⟩
  | .hbm, ⟨11, _⟩ => ⟨S4096x1024, .f32⟩
  | .hbm, ⟨12, _⟩ => ⟨S16x256x1024, .f32⟩
  | .hbm, ⟨13, _⟩ => ⟨S256x16x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== SumIn.lean ====
abbrev S2 : Shape := ⟨1, ![2]⟩
abbrev S4x2x1088x1024 : Shape := ⟨4, ![4, 2, 1088, 1024]⟩
abbrev S4x1088x1024 : Shape := ⟨3, ![4, 1088, 1024]⟩
abbrev S3x1088x1024 : Shape := ⟨3, ![3, 1088, 1024]⟩
abbrev S1088x1024 : Shape := ⟨2, ![1088, 1024]⟩
abbrev S1x1x272x1024 : Shape := ⟨4, ![1, 1, 272, 1024]⟩
abbrev S1 : Shape := ⟨1, ![1]⟩
abbrev S1x272x1024 : Shape := ⟨3, ![1, 272, 1024]⟩
abbrev S3x272x1024 : Shape := ⟨3, ![3, 272, 1024]⟩
abbrev S272x1024 : Shape := ⟨2, ![272, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x2x1088x1024, .bf16⟩
  | .hbm, ⟨1, _⟩ => ⟨S4x1088x1024, .bf16⟩
  | .hbm, ⟨2, _⟩ => ⟨S3x1088x1024, .bf16⟩
  | .hbm, ⟨3, _⟩ => ⟨S1088x1024, .f32⟩
  | .local _ .vmem, ⟨0, _⟩ => ⟨S1x1x272x1024, .bf16⟩
  | .local _ .vmem, ⟨1, _⟩ => ⟨S1x1x272x1024, .bf16⟩
  | .local _ .vmem, ⟨2, _⟩ => ⟨S1x272x1024, .bf16⟩
  | .local _ .vmem, ⟨3, _⟩ => ⟨S1x272x1024, .bf16⟩
  | .local _ .vmem, ⟨4, _⟩ => ⟨S3x272x1024, .bf16⟩
  | .local _ .vmem, ⟨5, _⟩ => ⟨S3x272x1024, .bf16⟩
  | .local _ .vmem, ⟨6, _⟩ => ⟨S272x1024, .f32⟩
  | .local _ .vmem, ⟨7, _⟩ => ⟨S272x1024, .f32⟩
  | .local _ .smem, ⟨0, _⟩ => ⟨S2, .i32⟩
  | _, _ => ⟨S4x2x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let c0_i32_0 : BitVec 32 := 0#32
  ![v0.toNat, v1.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumInRefIdeal.lean ====
abbrev S2 : Shape := ⟨1, ![2]⟩
abbrev S4x2x1088x1024 : Shape := ⟨4, ![4, 2, 1088, 1024]⟩
abbrev S4x1088x1024 : Shape := ⟨3, ![4, 1088, 1024]⟩
abbrev S3x1088x1024 : Shape := ⟨3, ![3, 1088, 1024]⟩
abbrev S1 : Shape := ⟨1, ![1]⟩
abbrev S_ : Shape := ⟨0, ![]⟩
abbrev S1x1x1088x1024 : Shape := ⟨4, ![1, 1, 1088, 1024]⟩
abbrev S1x1088x1024 : Shape := ⟨3, ![1, 1088, 1024]⟩
abbrev S1088x1024 : Shape := ⟨2, ![1088, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x1088x1024, .bf16⟩
  | .hbm, ⟨2, _⟩ => ⟨S4x1088x1024, .bf16⟩
  | .hbm, ⟨3, _⟩ => ⟨S3x1088x1024, .bf16⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1x1x1088x1024, .bf16⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1x1088x1024, .bf16⟩
  | .hbm, ⟨16, _⟩ => ⟨S1088x1024, .bf16⟩
  | .hbm, ⟨17, _⟩ => ⟨S1088x1024, .f32⟩
  | .hbm, ⟨18, _⟩ => ⟨S1088x1024, .bf16⟩
  | .hbm, ⟨19, _⟩ => ⟨S1088x1024, .f32⟩
  | .hbm, ⟨20, _⟩ => ⟨S1088x1024, .f32⟩
  | .hbm, ⟨21, _⟩ => ⟨S3x1088x1024, .f32⟩
  | .hbm, ⟨22, _⟩ => ⟨S_, .f32⟩
  | .hbm, ⟨23, _⟩ => ⟨S1088x1024, .f32⟩
  | .hbm, ⟨24, _⟩ => ⟨S1088x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== PairSum.lean ====
abbrev S2 : Shape := ⟨1, ![2]⟩
abbrev S4x2x1088x1024 : Shape := ⟨4, ![4, 2, 1088, 1024]⟩
abbrev S4x1088x1024 : Shape := ⟨3, ![4, 1088, 1024]⟩
abbrev S1x1x272x1024 : Shape := ⟨4, ![1, 1, 272, 1024]⟩
abbrev S1 : Shape := ⟨1, ![1]⟩
abbrev S1x272x1024 : Shape := ⟨3, ![1, 272, 1024]⟩
abbrev S272x1024 : Shape := ⟨2, ![272, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1088x1024, .bf16⟩
  | .hbm, ⟨1, _⟩ => ⟨S4x1088x1024, .bf16⟩
  | .hbm, ⟨2, _⟩ => ⟨S4x1088x1024, .bf16⟩
  | .local _ .vmem, ⟨0, _⟩ => ⟨S1x1x272x1024, .bf16⟩
  | .local _ .vmem, ⟨1, _⟩ => ⟨S1x1x272x1024, .bf16⟩
  | .local _ .vmem, ⟨2, _⟩ => ⟨S1x272x1024, .bf16⟩
  | .local _ .vmem, ⟨3, _⟩ => ⟨S1x272x1024, .bf16⟩
  | .local _ .vmem, ⟨4, _⟩ => ⟨S1x272x1024, .bf16⟩
  | .local _ .vmem, ⟨5, _⟩ => ⟨S1x272x1024, .bf16⟩
  | .local _ .smem, ⟨0, _⟩ => ⟨S2, .i32⟩
  | _, _ => ⟨S4x2x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S2 : Shape := ⟨1, ![2]⟩
abbrev S4x2x1088x1024 : Shape := ⟨4, ![4, 2, 1088, 1024]⟩
abbrev S4x1088x1024 : Shape := ⟨3, ![4, 1088, 1024]⟩
abbrev S1 : Shape := ⟨1, ![1]⟩
abbrev S_ : Shape := ⟨0, ![]⟩
abbrev S4x1x1088x1024 : Shape := ⟨4, ![4, 1, 1088, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x1088x1024, .bf16⟩
  | .hbm, ⟨2, _⟩ => ⟨S4x1088x1024, .bf16⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x1x1088x1024, .bf16⟩
  | .hbm, ⟨9, _⟩ => ⟨S4x1088x1024, .bf16⟩
  | .hbm, ⟨10, _⟩ => ⟨S4x1088x1024, .f32⟩
  | .hbm, ⟨11, _⟩ => ⟨S4x1088x1024, .f32⟩
  | .hbm, ⟨12, _⟩ => ⟨S4x1088x1024, .f32⟩
  | .hbm, ⟨13, _⟩ => ⟨S4x1088x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Start.lean ====
/-
# How the gather's program starts and ends

The program is one kernel call per device, with nothing before or after it, and the call stages nothing: its two arrays
stay where they are and every transfer is the kernel's own.  Since the devices write into one another's result arrays with
no signal beforehand, what a device may write must be handed out across all devices BEFORE any of them starts.  `run_of`
is that start: all devices' scoped semaphores and arrays go through one common step (`hglob`), the pieces come back
device by device, each device's body runs on its piece, and what the bodies leave is read against the final memory.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-- The fifteen transfer semaphores of the call. -/
abbrev osem : Fin 15 → SemLoc sig := fun i => .dma i

theorem ownSemFacts : Pipeline.OwnSemFacts cfg0.spec osem := by decide

/-- A device's fifteen semaphores, all at zero. -/
abbrev sems0 (c : Dev nD) : sProp 𝕄 := Pipeline.ownSems0 osem c

/-- No other semaphore of the call, and none that stages. -/
abbrev idle0 (c : Dev nD) : sProp 𝕄 := Pipeline.idleSems0 cfgs cellOf_inj (0 : Fin 1) ownSemFacts c

omit [FloatOps F] in
theorem scoped_split (c : Dev nD) :
    (scopedSems0 (c.tc : Thread nD τ) : sProp 𝕄) = iprop((Pipeline.cellsSems0 cfgs (0 : Fin 1) c ∗ sems0 c) ∗ idle0 c) :=
  Pipeline.scopedSems0_split cfgs cellOf_inj (0 : Fin 1) winFacts0.to₀ ownSemFacts c

omit [FloatOps F] in
/-- One level per cell, set on every device at once. -/
theorem levels_set (L : GSem nD τ sig → Finset Unit) (lv : GSem nD τ sig → Unit → ℕ) (hL : ∀ g : GSem nD τ sig, g.1.2 ≠ .tc → L g = ∅) :
    (bigSep Finset.univ fun c : Dev nD => levels0 c) ⊢ (|==> levAts L lv : sProp 𝕄) := by
  have hoff : ∀ d : Dev nD, bigSep (Finset.univ.erase Proc.tc) (fun p => (coreLevAts ((d, p) : Thread nD τ) L lv : sProp 𝕄)) = BI.emp := fun d => by
    refine (bigSep_congr (Ψ := fun _ => (BI.emp : sProp 𝕄)) fun p hp => ?_).trans (BI.bigSep_emp_const _)
    unfold coreLevAts
    refine (bigSep_congr (Ψ := fun _ => (BI.emp : sProp 𝕄)) fun sm _ => ?_).trans (BI.bigSep_emp_const _)
    rw [hL ((d, p), sm) (Finset.ne_of_mem_erase hp), BI.bigSep_empty]
  have hall : (levAts L lv : sProp 𝕄) = iprop((bigSep Finset.univ fun d : Dev nD => coreLevAts (d.tc : Thread nD τ) L lv) ∗ BI.emp) := by
    rw [show (levAts L lv : sProp 𝕄) = bigSep Finset.univ fun c : Thread nD τ => coreLevAts c L lv
      from bigSep_univ_prod fun g : GSem nD τ sig => bigSep (L g) fun ι => levAt g ι (lv g ι), bigSep_threads (fun c : Thread nD τ => coreLevAts c L lv)]
    exact congrArg _ ((bigSep_congr fun d _ => hoff d).trans (BI.bigSep_emp_const _))
  have hfin : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_sep']
    iintro ⟨-, H⟩
    isplitl [H]; · iexact H
    iempintro
  exact (bigSep_mono fun c _ => lev_assign_cells (c.tc : Thread nD τ) L lv).trans ((BI.bigSep_bupd _ _).trans (BI.bupd_mono hfin))

omit [FloatOps F] in
/-- Nothing is staged: the call's entry needs no resource of a window. -/
theorem noWin (Φ : Fin cfg0.W → sProp 𝕄) : bigSep Finset.univ Φ = BI.emp := by
  rw [show (Finset.univ : Finset (Fin cfg0.W)) = ∅ from rfl, BI.bigSep_empty]

/-- THE START.  `hglob` deals the scoped semaphores and the arrays of ALL devices at once; then each device's body runs. -/
theorem run_of (dats : (p : Fin 1) → (c : Dev nD) → Dat τ (Elt F) Unit ℕ UU ℕ (cfgs p) c)
    (hbody : ∀ c, BodyObligation (dats 0 c) (defs₀ (F := F)) 𝒱₀ () Set.univ)
    (O₀ : Dev nD → CellTallies nD τ sig Unit) (howed₀ : ∀ c, (dats 0 c).owed 0 = O₀ c) (howedN : ∀ c, (dats 0 c).owed (Fin.last _) = 0)
    (L : GSem nD τ sig → Finset Unit) (lv : GSem nD τ sig → Unit → ℕ) (hL : ∀ g : GSem nD τ sig, g.1.2 ≠ .tc → L g = ∅)
    (G G' : Dev nD → sProp 𝕄) (u₀ : UU) (hu₀ : (ownU u₀ : sProp 𝕄) ⊢ |={Set.univ}=> bigSep Finset.univ G)
    (hglob : (bigSep Finset.univ fun c => iprop(sems0 c ∗ unscopedBufs c (fun b => m ((c.tc : Thread nD τ).loc b)) ∗ G c) : sProp 𝕄)
      ⊢ |={Set.univ}=> bigSep Finset.univ G')
    (hin : ∀ c, iprop(G' c ∗ levAts L lv ∗ Pipeline.launchCred O₀ c) ⊢ (dats 0 c).Φ 0)
    (Y : Dev nD → sProp 𝕄) (hout : ∀ c, (dats 0 c).Φ (Fin.last cfg0.N) ⊢ iprop(Y c ∗ sems0 c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s) → (∀ g' : GSem nD τ sig, (g'.1.2 ≠ .tc ∨ g'.2.isScoped .tc = true) → s.sem g' = 0) → Q (⟨⟩, s)) :
    θ_run defs (onTc (τ := τ) (main (F := F))) ⟨m, fun _ => 0, ρ⟩ Q := by
  classical
  let pre : Dev nD → sProp 𝕄 := fun c =>
    iprop(scopedBufs (c.tc : Thread nD τ) ∗ idle0 c ∗ owes (c.tc : Thread nD τ) (O₀ c) ∅ ∗ levAts L lv ∗ Pipeline.launchCred O₀ c ∗ G' c)
  let fin : Dev nD → sProp 𝕄 := fun c => iprop(Y c ∗ scopedSems0 (c.tc : Thread nD τ))
  refine (θ_run (Pipeline.defs pcfgs defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcfgs defs₀) _ _ _
      (reflect_intro_fupd_tc_sems (X := Unit) (Variants.lift 𝒱₀) (Pipeline.owing O₀) 0 (noBookings fun _ => le_rfl) (Pipeline.owing_of_ne O₀) u₀
        (fun _ => pre) (fun _ => fin) (fun _ => iprop(emp)) Set.univ ?_ (fun _ c => ?_) fun _ => ?_))
  · -- every device's holdings sorted by kind, the levels set, the common step taken
    have hone (c : Dev nD) :
        coreInit (Ix := Unit) (Name := ℕ) (U := UU) (Lvl := ℕ) (Pipeline.owing O₀) 0 (⟨m, fun _ => 0, ρ⟩ : MemSt nD τ sig (Elt F)) (c.tc : Thread nD τ)
          ⊢ iprop((scopedBufs (c.tc : Thread nD τ) ∗ idle0 c ∗ owes (c.tc : Thread nD τ) (O₀ c) ∅ ∗ Pipeline.launchCred O₀ c)
              ∗ levels0 c ∗ sems0 c ∗ unscopedBufs c (fun b => m ((c.tc : Thread nD τ).loc b))) := by
      refine (Pipeline.coreInit_boundary_owing O₀ m ρ c).trans ?_
      unfold boundary
      rw [scoped_split]
      iintro ⟨⟨Hsb, ⟨⟨-, Hown⟩, Hidle⟩, -⟩, Hub, -, Ho, Hlv, -, Hcr⟩
      isplitl [Hsb Hidle Ho Hcr]
      · isplitl [Hsb]; · iexact Hsb
        isplitl [Hidle]; · iexact Hidle
        isplitl [Ho] <;> iassumption
      isplitl [Hlv]; · iexact Hlv
      isplitl [Hown] <;> iassumption
    have hcores : (bigSep Finset.univ fun c : Dev nD =>
          coreInit (Ix := Unit) (Name := ℕ) (U := UU) (Lvl := ℕ) (Pipeline.owing O₀) 0 (⟨m, fun _ => 0, ρ⟩ : MemSt nD τ sig (Elt F)) (c.tc : Thread nD τ))
        ⊢ iprop((bigSep Finset.univ fun c : Dev nD => iprop(scopedBufs (c.tc : Thread nD τ) ∗ idle0 c ∗ owes (c.tc : Thread nD τ) (O₀ c) ∅ ∗ Pipeline.launchCred O₀ c))
            ∗ (bigSep Finset.univ fun c : Dev nD => levels0 c)
            ∗ (bigSep Finset.univ fun c : Dev nD => iprop(sems0 c ∗ unscopedBufs c (fun b => m ((c.tc : Thread nD τ).loc b)))) : sProp 𝕄) := by
      refine (bigSep_mono fun c _ => hone c).trans ?_
      simp only [bigSep_sep']
      exact BI.Entails.refl _
    iintro ⟨Hcores, Hu⟩
    ihave Hc := hcores $$ Hcores
    icases Hc with ⟨Hkeep, Hlv, Hown⟩
    imod (levels_set L lv hL) $$ Hlv with #Hla
    imod hu₀ $$ Hu with HG
    imod hglob $$ [Hown HG] with HG'
    · simp only [bigSep_sep']
      icases Hown with ⟨H1, H2⟩
      isplitl [H1]; · iexact H1
      isplitl [H2] <;> iassumption
    imodintro
    iexists ()
    isplitr []
    · simp only [pre, bigSep_sep']
      icases Hkeep with ⟨H1, H2, H3, H4⟩
      isplitl [H1]; · iexact H1
      isplitl [H2]; · iexact H2
      isplitl [H3]; · iexact H3
      isplitr
      · iapply (BI.bigSep_intro_persistent (S := Finset.univ) fun (c : Dev nD) _ => (BI.Entails.refl (levAts L lv : sProp 𝕄)))
        iexact Hla
      isplitl [H4] <;> iassumption
    · iempintro
  · -- one device: its call, then the return
    have hsb : (scopedBufs (c.tc : Thread nD τ) : sProp 𝕄) = iprop(Dat.staging cfg0 c ∗ Pipeline.scopedRest cfg0.spec c) :=
      Pipeline.scopedBufs_split cfgs (0 : Fin 1) winFacts0.stage_scoped winFacts0.stage_inj stage_whole0 c
    have hpost : Pipeline.EntryPost cfgs dats () (0 : Fin 1) c ⊢ iprop(∃ W, owes (c.tc : Thread nD τ) (0 : CellTallies nD τ sig Unit) W) := by
      unfold Pipeline.EntryPost Pipeline.PerCore.EntryPost Dat.owesAt Pipeline.owesWithin
      rw [howedN c]
      iintro ⟨-, ⟨%W, -, HW⟩⟩
      iexists W; iexact HW
    simp only [pre]
    rw [show main (F := F) c = .op (.customCall (Pipeline.entry 0) ()) fun _ => .ret ⟨⟩ from rfl]
    iintro ⟨Hsb, Hidle, Ho, #Hla, Hcr, HG⟩
    iapply (Pipeline.wp_customCall_entry_frame pcfgs (fun p => (cfgs p).toPCfg_adm) dats () EP (fun _ => 0) cellOf_inj (0 : Fin 1) defs₀ 𝒱₀ (fun _ => fullShare.right) c Set.univ
        (fun _ _ => Set.mem_univ _) (hbody c).loose block_pos0 none (fun u h => nomatch h)
        (X := iprop(G' c ∗ levAts L lv ∗ Pipeline.launchCred O₀ c)) (Y := Y c) (R := Pipeline.scopedRest cfg0.spec c) (I := idle0 c)
        (Entails.of_eq hsb) (by iintro ⟨HX, -, -⟩; iapply (hin c); iexact HX)
        (by
          rw [hsb, scoped_split, scopedRest0_eq]
          iintro ⟨HΦ, Hcells, Hst, Hidle⟩
          ihave H := (hout c) $$ HΦ
          icases H with ⟨HY, Hown⟩
          isplitl [HY]; · iexact HY
          isplitr [Hst]
          · isplitr [Hidle]
            · isplitl [Hcells] <;> iassumption
            iexact Hidle
          isplitl [Hst]; · iexact Hst
          iempintro)
        (k := fun _ => .ret ⟨⟩) (Q := fun _ => post (liftTc fin BI.emp) (c.tc : Thread nD τ))) $$ [Hsb Hidle Ho Hcr HG]
    · isplitl [Ho]
      · unfold Pipeline.EntryPre Pipeline.PerCore.EntryPre Dat.owesAt Pipeline.owesWithin
        rw [howed₀ c]
        unfold Dat.arrays Pipeline.PerCore.cellsWaits Pipeline.PerCore.cellsInit Pipeline.PerCore.toksInit
          Pipeline.PerCore.RDat.cellsWaits Pipeline.PerCore.RDat.cellsInit
        rw [noWin, noWin, noWin, noWin]
        isplitr; · iempintro
        isplitl [Ho]
        · iexists ∅; isplitr; · ipureintro; rw [Finset.coe_empty]; exact Set.empty_subset _
          iexact Ho
        isplitr; · iempintro
        isplitr <;> iempintro
      isplitr
      · unfold Pipeline.prefHeld
        rw [show (Finset.univ : Finset (Fin (pcfgs (F := F) 0).pre.K)) = ∅ from rfl, BI.bigSep_empty]
        iempintro
      isplitl [Hcr HG]
      · isplitl [HG]; · iexact HG
        isplitr; · iexact Hla
        iexact Hcr
      isplitl [Hidle]; · iexact Hidle
      iexact Hsb
    iintro ⟨Hpost, HY, Hss, -⟩
    rw [wp_ret]; imodintro
    unfold post; simp only [liftTc_tc, fin]
    isplitr [Hpost]
    · isplitl [HY] <;> iassumption
    · iapply hpost; iexact Hpost
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.GatherProof

end
-- ==== Proof.Plan.lean ====
/-
# The plan of the gather: who writes what where, and on which semaphore

Device `d = 4x + 2y + c` holds one block.  Write `flip a d` for the device whose number is `d` with the bits of `a`
turned over.  Transfer `k` of device `d` goes to `peer k d`:

* `k = 0` sends `d`'s own block to the other core of its chip (`flip 1`);
* `k = 1, 2, 3` send it to the same core of the three other chips (`flip 4`, `flip 2`, `flip 6`);
* `k = 4, 5, 6` pass the blocks that came from those three chips on to the other core of the own chip (`flip 1`).

Transfer `k` that ends at device `d` fills slot `inSlot k d` of `d`'s result; with the slot `d` fills itself these are the eight
slots, each once (`slotEquiv`).  Every slot is written to hold the block of the device of its number, so one function
`outF` says what all the slots hold, and a slot is handed on with `outF` in it.

Every semaphore counts one transfer.  The receive semaphores 1–3 are waited for while the passing on is still owed, which
the levels allow: what is owed then lies on receive semaphores 4–6 of the other core, one level higher.
-/
module

public import proofs.«01_k».proof.Proof.Start
public import Idealize.ShloMosaic.Lib.Ring

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices and slots -/

/-- The device whose number differs from `c`'s in the bits of `a`. -/
def flip (a : ℕ) (c : Dev nD) : Dev nD := ⟨(c.val ^^^ a) % 8, Nat.mod_lt _ (by decide)⟩

/-- Whom transfer `k` of a device goes to, and from whom transfer `k` comes. -/
def peer (k : Fin 7) (c : Dev nD) : Dev nD := flip ((![1, 4, 2, 6, 1, 1, 1] : Fin 7 → ℕ) k) c

theorem peer_peer (k : Fin 7) (c : Dev nD) : peer k (peer k c) = c := by revert k c; decide

/-- The slot of `c`'s result that transfer `k` fills. -/
def inSlot (k : Fin 7) (c : Dev nD) : Dev nD := flip ((![1, 4, 2, 6, 5, 3, 7] : Fin 7 → ℕ) k) c

/-- The seven slots that are filled by others and the one a device fills itself are all of them. -/
def slotOf (c : Dev nD) : Fin 7 ⊕ Unit → Dev nD
  | .inl k => inSlot k c
  | .inr _ => c
theorem slotOf_bij (c : Dev nD) : Function.Bijective (slotOf c) := by revert c; decide
def slotEquiv (c : Dev nD) : Fin 7 ⊕ Unit ≃ Dev nD := Equiv.ofBijective (slotOf c) (slotOf_bij c)

/-- The transfers paired with their senders, seen from their receivers. -/
def across : Dev nD × Fin 7 ≃ Dev nD × Fin 7 :=
  ⟨fun x => (peer x.2 x.1, x.2), fun x => (peer x.2 x.1, x.2), fun x => by simp only [peer_peer], fun x => by simp only [peer_peer]⟩

/-! ## Arrays -/

abbrev xM : Memref sig .tc .hbm S1088x1024 .bf16 := Memref.whole main_arg0
abbrev oM : Memref sig .tc .hbm S8x1088x1024 .bf16 := Memref.whole main_v1

/-- One block of the result, at an offset. -/
abbrev slotM (off : Fin 3 → ℕ) (h : ∀ a, off a + S1x1088x1024.size a ≤ S8x1088x1024.size a) : Memref sig .tc .hbm S1088x1024 .bf16 :=
  (oM.slice (Rect.unit (s := S8x1088x1024) off S1x1088x1024.size h) (fun _ => rfl)).squeeze S1088x1024 squeezes_S1x1088x1024_S1088x1024

abbrev offJ (j : Dev nD) : Fin 3 → ℕ := ![j.val, 0, 0]
theorem offJ_inb (j : Dev nD) : ∀ a, offJ j a + S1x1088x1024.size a ≤ S8x1088x1024.size a := by revert j; decide

abbrev slotRect (j : Dev nD) : Rect S8x1088x1024 := Rect.unit (s := S8x1088x1024) (offJ j) S1x1088x1024.size (offJ_inb j)
abbrev slot (j : Dev nD) : Memref sig .tc .hbm S1088x1024 .bf16 := slotM (offJ j) (offJ_inb j)

theorem slot_set (j : Dev nD) : (slot j).view.set = (slotRect j).set := by
  have h1 := View.set_reshape ((View.whole main_v1).slice (slotRect j)) squeezes_S1x1088x1024_S1088x1024.numel_eq
  exact h1.trans (View.set_slice_whole main_v1 (slotRect j))

theorem slots_disjoint (j j' : Dev nD) (h : j ≠ j') : Disjoint (slotRect j).set (slotRect j').set :=
  Ring.lead_disjoint (NB := 8) (s := S8x1088x1024) 0 1 offJ S1x1088x1024.size offJ_inb (fun b => by show b.val = _; omega) rfl j j' h

theorem slots_cover : Finset.univ.biUnion (fun j : Dev nD => (slotRect j).set) = Finset.univ :=
  Ring.lead_cover (NB := 8) (s := S8x1088x1024) 0 1 offJ S1x1088x1024.size offJ_inb (fun b => by show b.val = _; omega)
    (by intro b a ha; fin_cases a <;> first | exact absurd rfl ha | rfl) rfl (by intro a ha; fin_cases a <;> first | exact absurd rfl ha | rfl) rfl

/-! ## Contents -/

/-- Where an element of the result comes from: the device of its slot … -/
def dev0 (i : S8x1088x1024.Idx) : Dev nD := ⟨(i (0 : Fin 3)).val, (i (0 : Fin 3)).isLt⟩
/-- … and the place in that device's block. -/
def row (i : S8x1088x1024.Idx) : S1088x1024.Idx := fun a => i (Fin.succ a)

/-- The gathered result: slot `j` holds device `j`'s block. -/
def outF : (main_v1 : Ref sig .tc).ty.Contents (Elt F) := fun i => m ((dev0 i : Thread nD τ).loc main_arg0) (row i)

omit [FloatOps F] in
theorem outF_slot (j : Dev nD) (y : S1088x1024.Idx) :
    outF m ((slot j).view.emb y) = m ((j : Thread nD τ).loc main_arg0) y := by
  have he : ∀ a, ((slot j).view.emb y a).val = offJ j a + 1 * ((Fin.cons ⟨0, Nat.one_pos⟩ y : S1x1088x1024.Idx) a).val := fun a => by
    have e := Shape.reshapeEquiv_cons_one (d := ![1088, 1024]) squeezes_S1x1088x1024_S1088x1024.numel_eq y
    exact congrArg (fun z : S1x1088x1024.Idx => offJ j a + 1 * (z a).val) e
  have h0 : dev0 ((slot j).view.emb y) = j := Fin.ext ((he 0).trans (by show j.val + 1 * 0 = j.val; omega))
  have hr : row ((slot j).view.emb y) = y := funext fun a => Fin.ext ((he a.succ).trans (by
    fin_cases a
    · show 0 + 1 * (y 0).val = (y 0).val; omega
    · show 0 + 1 * (y 1).val = (y 1).val; omega))
  unfold outF
  rw [h0, hr]

omit [FloatOps F] in
/-- A device's block landed in its slot. -/
theorem landed_x (j : Dev nD) (fd : (main_v1 : Ref sig .tc).ty.Contents (Elt F)) (i) (hi : i ∈ (slot j).view.set) :
    (slot j).view.write (Elt F) fd (xM.view.read (Elt F) (m ((j : Thread nD τ).loc main_arg0))) Finset.univ i = outF m i := by
  obtain ⟨y, -, rfl⟩ := Finset.mem_map.mp hi
  rw [View.write_emb_of_mem _ _ (Finset.mem_univ y), outF_slot]; rfl

omit [FloatOps F] in
/-- A slot passed on into the same slot elsewhere. -/
theorem landed_slot (j : Dev nD) (fd : (main_v1 : Ref sig .tc).ty.Contents (Elt F)) (i) (hi : i ∈ (slot j).view.set) :
    (slot j).view.write (Elt F) fd ((slot j).view.read (Elt F) (outF m)) Finset.univ i = outF m i := by
  obtain ⟨y, -, rfl⟩ := Finset.mem_map.mp hi
  rw [View.write_emb_of_mem _ _ (Finset.mem_univ y)]; rfl

/-! ## What a device holds -/

/-- Slot `j` of device `c`'s result, whole, holding `f`. -/
def slotPts (c j : Dev nD) (f : (main_v1 : Ref sig .tc).ty.Contents (Elt F)) : sProp 𝕄 :=
  (slot j).view.loc (c : Thread nD τ) ↦[(slot j).view.set]{fullShare} f

/-- Device `c`'s block at a share. -/
def xPts (q : PosShare TreeShare) (c : Dev nD) : sProp 𝕄 :=
  (xM).view.loc (c : Thread nD τ) ↦[(xM).view.set]{q} m ((c : Thread nD τ).loc main_arg0)

omit [FloatOps F] in
instance slotPts_storable (c j : Dev nD) (f) : BI.Storable (upEmb : UEmb _ 𝕄) (slotPts (F := F) c j f) := by unfold slotPts; infer_instance
omit [FloatOps F] in
instance xPts_storable (q) (c : Dev nD) : BI.Storable (upEmb : UEmb _ 𝕄) (xPts (F := F) m q c) := by unfold xPts; infer_instance

omit [FloatOps F] in
/-- The result held whole is held slot by slot: the seven slots others fill, and the own one. -/
theorem result_slots (c : Dev nD) (f : (main_v1 : Ref sig .tc).ty.Contents (Elt F)) :
    (((c : Thread nD τ).loc main_v1) ↦{fullShare} f : sProp 𝕄)
      = iprop((bigSep Finset.univ fun k : Fin 7 => slotPts c (inSlot k c) f) ∗ slotPts c c f) := by
  have hb : (((c : Thread nD τ).loc main_v1) ↦{fullShare} f : sProp 𝕄) = bigSep Finset.univ fun j : Dev nD => slotPts c j f := by
    refine (Ring.pointsTo_blocks (ℓ := (c : Thread nD τ).loc main_v1) (fun j : Dev nD => (slotRect j).set) slots_disjoint slots_cover f).trans ?_
    exact bigSep_congr fun j _ => by unfold slotPts; rw [slot_set]
  rw [hb]
  refine (bigSep_univ_equiv (slotEquiv c) (fun j : Dev nD => (slotPts c j f : sProp 𝕄))).trans ?_
  rw [bigSep_univ_sum, bigSep_univ_of_subsingleton ()]
  rfl

/-- The five shares of a device's block: four for the first four transfers, one for the copy into the own slot. -/
def shr : ℕ → PosShare TreeShare
  | 0 => fullShare.left
  | 1 => fullShare.right.left
  | 2 => fullShare.right.right.left
  | 3 => fullShare.right.right.right.left
  | _ => fullShare.right.right.right.right

omit [FloatOps F] in
theorem x_shares (c : Dev nD) :
    xPts m fullShare c ⊣⊢ (iprop(xPts m (shr 0) c ∗ xPts m (shr 1) c ∗ xPts m (shr 2) c ∗ xPts m (shr 3) c ∗ xPts m (shr 4) c) : sProp 𝕄) := by
  have h (q : PosShare TreeShare) : xPts m q c ⊣⊢ (iprop(xPts m q.left c ∗ xPts m q.right c) : sProp 𝕄) := by
    unfold xPts; exact pointsTo_share (PosShare.mem_left_op_right q)
  constructor
  · refine (h _).1.trans (sep_mono_right ((h _).1.trans (sep_mono_right ((h _).1.trans (sep_mono_right (h _).1)))))
  · exact (sep_mono_right ((sep_mono_right ((sep_mono_right (h _).2).trans (h _).2)).trans (h _).2)).trans (h _).2

/-! ## The semaphores -/

/-- Send, receive and copy semaphores among the fifteen. -/
abbrev sI (k : Fin 7) : Fin 15 := ⟨k.val, by omega⟩
abbrev vI (k : Fin 7) : Fin 15 := ⟨7 + k.val, by omega⟩
abbrev lI : Fin 15 := 14

def parts : Fin 7 ⊕ Fin 7 ⊕ Unit ≃ Fin 15 where
  toFun | .inl k => sI k | .inr (.inl k) => vI k | .inr (.inr _) => lI
  invFun i := if h : i.val < 7 then .inl ⟨i.val, h⟩ else if h' : i.val < 14 then .inr (.inl ⟨i.val - 7, by omega⟩) else .inr (.inr ())
  left_inv := by decide
  right_inv := by decide

theorem bigSep_parts (Φ : Fin 15 → sProp 𝕄) :
    bigSep Finset.univ Φ = iprop((bigSep Finset.univ fun k : Fin 7 => Φ (sI k)) ∗ (bigSep Finset.univ fun k : Fin 7 => Φ (vI k)) ∗ Φ lI) := by
  rw [bigSep_univ_equiv parts Φ, bigSep_univ_sum, bigSep_univ_sum, bigSep_univ_of_subsingleton ()]
  rfl

abbrev kcell (ck : Dev nD × Fin 15) : GSem nD τ sig := ((ck.1 : Thread nD τ), .dma ck.2)
abbrev sCell (k : Fin 7) (c : Dev nD) : GSem nD τ sig := kcell (c, sI k)
abbrev vCell (k : Fin 7) (c : Dev nD) : GSem nD τ sig := kcell (c, vI k)
abbrev lCell (c : Dev nD) : GSem nD τ sig := kcell (c, lI)

theorem kcell_injective : Function.Injective kcell := by
  rintro ⟨c, i⟩ ⟨c', i'⟩ h
  have h1 : c = c' := congrArg (fun g : GSem nD τ sig => g.1.1) h
  have h2 : i = i' := SemLoc.dma.inj (congrArg Prod.snd h)
  rw [h1, h2]

/-- What one transfer counts. -/
theorem credit_exists : ∃ n : ℕ, 0 < n ∧ ∀ M : Memref sig .tc .hbm S1088x1024 .bf16, M.view.dmaCredit = n :=
  ⟨RefSig.tileCredit S1088x1024 .bf16, RefSig.tileCredit_pos _ _ (Shape.numel_pos (by decide)), fun _ => rfl⟩
def N : ℕ := credit_exists.choose
theorem N_pos : 0 < N := credit_exists.choose_spec.1
theorem credit_N (M : Memref sig .tc .hbm S1088x1024 .bf16) : M.view.dmaCredit = N := credit_exists.choose_spec.2 M

/-! ## The schedule -/

/-- What a send semaphore hands back: a share of the own block, or the slot that was passed on. -/
def sPay (k : Fin 7) (c : Dev nD) : sProp 𝕄 :=
  if k.val < 4 then xPts m (shr k.val) c else slotPts c (inSlot ⟨k.val - 3, by omega⟩ c) (outF m)

/-- What each semaphore hands its device. -/
def payOf (c : Dev nD) : Fin 7 ⊕ Fin 7 ⊕ Unit → sProp 𝕄
  | .inl k => sPay m k c
  | .inr (.inl k) => slotPts c (inSlot k c) (outF m)
  | .inr (.inr _) => iprop(slotPts c c (outF m) ∗ xPts m (shr 4) c)
def pay (c : Dev nD) (i : Fin 15) : sProp 𝕄 := payOf m c (parts.symm i)

omit [FloatOps F] in
theorem pay_s (c : Dev nD) (k : Fin 7) : pay m c (sI k) = sPay m k c := congrArg (payOf m c) (parts.symm_apply_apply (.inl k))
omit [FloatOps F] in
theorem pay_v (c : Dev nD) (k : Fin 7) : pay m c (vI k) = slotPts c (inSlot k c) (outF m) :=
  congrArg (payOf m c) (parts.symm_apply_apply (.inr (.inl k)))
omit [FloatOps F] in
theorem pay_l (c : Dev nD) : pay m c lI = (iprop(slotPts c c (outF m) ∗ xPts m (shr 4) c) : sProp 𝕄) :=
  congrArg (payOf m c) (parts.symm_apply_apply (.inr (.inr ())))

omit [FloatOps F] in
instance pay_storable (c : Dev nD) (i : Fin 15) : BI.Storable (upEmb : UEmb _ 𝕄) (pay (F := F) m c i) := by
  unfold pay payOf sPay
  split
  · split <;> infer_instance
  · infer_instance
  · infer_instance

def isDma : SemLoc sig → Bool
  | .dma _ => true
  | _ => false

def Rd : Rounds.Schedule (GSem nD τ sig) Unit 𝕄 where
  duties g r := if r = 0 ∧ g.1.2 = .tc ∧ isDma g.2 = true then {()} else ∅
  unitless _ := False
  amount _ _ _ := N
  payload g _ _ := match g.2 with
    | .dma i => pay m g.1.1 i
    | _ => iprop(emp)
  amount_pos _ _ _ _ := N_pos

omit [FloatOps F] in
instance Rd_payload_storable (g : GSem nD τ sig) (r : ℕ) (d : Unit) : BI.Storable (upEmb : UEmb _ 𝕄) ((Rd (F := F) m).payload g r d) := by
  show BI.Storable upEmb (match g.2 with
    | .dma i => pay m g.1.1 i
    | _ => iprop(emp))
  split <;> infer_instance

omit [FloatOps F] in
theorem duties_0 (ck : Dev nD × Fin 15) : (Rd (F := F) m).duties (kcell ck) 0 = {()} := by
  unfold Rd; dsimp only; rw [if_pos ⟨rfl, rfl, rfl⟩]
omit [FloatOps F] in
theorem duties_mem (ck : Dev nD × Fin 15) : () ∈ (Rd (F := F) m).duties (kcell ck) 0 := by rw [duties_0]; exact Finset.mem_singleton_self _
omit [FloatOps F] in
theorem duties_later (g : GSem nD τ sig) : ∀ r, 1 ≤ r → (Rd (F := F) m).duties g r = ∅ :=
  fun r hr => by unfold Rd; dsimp only; rw [if_neg (fun h => absurd h.1 (Nat.ne_of_gt hr))]
omit [FloatOps F] in
theorem expect_0 (ck : Dev nD × Fin 15) : (Rd (F := F) m).expect (kcell ck) 0 = N := by
  unfold Schedule.expect Schedule.amountOf; rw [duties_0, Finset.sum_singleton]; rfl
omit [FloatOps F] in
theorem rest_0 (ck : Dev nD × Fin 15) :
    bigSep ((Rd (F := F) m).duties (kcell ck) 0 \ ∅) (fun u => (Rd (F := F) m).payload (kcell ck) 0 u) = pay m ck.1 ck.2 := by
  rw [Finset.sdiff_empty, duties_0, bigSep_singleton]; rfl

/-! ## What is owed, and the levels -/

/-- Still owed by device `c` when the transfers `ks` are yet to be started. -/
def ow (c : Dev nD) : List (Fin 7) → CellTallies nD τ sig Unit
  | [] => 0
  | k :: ks => ow c ks + tallyAt (vCell k (peer k c)) () N

def O₀ (c : Dev nD) : CellTallies nD τ sig Unit := ow c [0, 1, 2, 3, 4, 5, 6]

theorem ow_pos {c : Dev nD} {ks : List (Fin 7)} {g : GSem nD τ sig} {u : Unit} (h : 0 < ow c ks g u) : ∃ k ∈ ks, g = vCell k (peer k c) := by
  induction ks with
  | nil => exact absurd h (Nat.lt_irrefl 0)
  | cons k ks ih =>
    unfold ow at h
    rw [Pi.add_apply, Finsupp.add_apply, tallyAt_apply] at h
    by_cases hg : g = vCell k (peer k c) ∧ u = ()
    · exact ⟨k, List.mem_cons_self, hg.1⟩
    · rw [if_neg hg, Nat.add_zero] at h
      obtain ⟨k', hk', e⟩ := ih h
      exact ⟨k', List.mem_cons_of_mem _ hk', e⟩

def L (g : GSem nD τ sig) : Finset Unit := if g.1.2 = .tc then {()} else ∅
def lvI (i : Fin 15) : ℕ := if 8 ≤ i.val ∧ i.val ≤ 10 then 1 else if 7 ≤ i.val ∧ i.val ≤ 13 then 2 else 0
def lv (g : GSem nD τ sig) (_ : Unit) : ℕ := match g.2 with
  | .dma i => lvI i
  | _ => 0
theorem L_of_ne (g : GSem nD τ sig) (h : g.1.2 ≠ .tc) : L g = ∅ := if_neg h

omit [FloatOps F] in
/-- Waiting for the blocks of the other chips while passing on is still owed. -/
theorem mayWait_chip (c : Dev nD) (i : Fin 15) (hi : lvI i = 1) (ks : List (Fin 7)) (hks : ∀ k ∈ ks, lvI (vI k) = 2) :
    (levAts L lv : sProp 𝕄) ⊢ MayWait (c : Thread nD τ) (.dma i) () (ow c ks) :=
  MayOwe.of_cut (L := L) (lev := lv) 1 (fun p hp => by rw [Finset.mem_singleton.mp hp]; exact Finset.mem_singleton_self _)
    (fun g u hg => by obtain ⟨k, -, rfl⟩ := ow_pos hg; exact Finset.mem_singleton_self _)
    (fun p hp => by rw [Finset.mem_singleton.mp hp]; exact le_of_eq hi)
    (fun g u hg => by
      obtain ⟨k, hk, rfl⟩ := ow_pos hg
      show 1 < lvI (vI k)
      rw [hks k hk]; decide)

/-! ## The credit each device starts with -/

theorem vCell_eq_iff {k k' : Fin 7} {c c' : Dev nD} : Iff (vCell k c = vCell k' c') (k = k' ∧ c = c') :=
  ⟨fun h => by
    have := kcell_injective h
    have h2 : 7 + k.val = 7 + k'.val := congrArg (fun x : Dev nD × Fin 15 => x.2.val) this
    exact ⟨Fin.ext (by omega), congrArg Prod.fst this⟩, fun ⟨h, h'⟩ => by rw [h, h']⟩

theorem ow_at (d c : Dev nD) (k : Fin 7) (ks : List (Fin 7)) : ow d ks (vCell k c) () = if d = peer k c then ks.count k * N else 0 := by
  induction ks with
  | nil => simp only [ow, List.count_nil, Nat.zero_mul, ite_self]; rfl
  | cons k' ks ih =>
    unfold ow
    rw [Pi.add_apply, Finsupp.add_apply, ih, tallyAt_apply]
    by_cases hk : k' = k
    · subst hk
      by_cases hd : d = peer k' c
      · rw [if_pos hd, if_pos hd, if_pos ⟨vCell_eq_iff.mpr ⟨rfl, by rw [hd, peer_peer]⟩, rfl⟩, List.count_cons_self, Nat.succ_mul]
      · rw [if_neg hd, if_neg hd, if_neg (fun ⟨h, _⟩ => hd (by rw [(vCell_eq_iff.mp h).2, peer_peer]))]
    · have hne : ¬ (vCell k c = vCell k' (peer k' d) ∧ () = ()) := fun h => hk (vCell_eq_iff.mp h.1).1.symm
      rw [if_neg hne, List.count_cons_of_ne hk, Nat.add_zero]

omit [FloatOps F] in
theorem launch_v (c : Dev nD) (k : Fin 7) :
    tallyOn (vCell k c) (launchCredit (Pipeline.owing O₀) 0 (vCell k c)) = (tallyAt (vCell k c) () N : CellTallies nD τ sig Unit) := by
  unfold tallyAt; refine congrArg _ (Finsupp.ext fun u => ?_); cases u
  have hc : List.count k [0, 1, 2, 3, 4, 5, 6] = 1 := by revert k; decide
  rw [Pipeline.launchCredit_owing, Finsupp.single_eq_same, Finset.sum_congr rfl fun d _ => show O₀ d (vCell k c) () = if d = peer k c then N else 0 by
      unfold O₀; rw [ow_at, hc, Nat.one_mul],
    Finset.sum_ite_eq' Finset.univ (peer k c) fun _ => N, if_pos (Finset.mem_univ _)]

omit [FloatOps F] in
theorem creds (c : Dev nD) : (Pipeline.launchCred O₀ c : sProp 𝕄) ⊢ bigSep Finset.univ fun k : Fin 7 => cred (tallyAt (vCell k c) () N) := by
  have hinj : Function.Injective fun k : Fin 7 => (SemLoc.dma (vI k) : SemLoc sig) := fun k k' h => by
    have : 7 + k.val = 7 + k'.val := congrArg Fin.val (SemLoc.dma.inj h)
    exact Fin.ext (by omega)
  unfold Pipeline.launchCred
  refine (BI.bigSep_subset (Finset.subset_univ (Finset.univ.map ⟨_, hinj⟩))).trans ?_
  rw [bigSep_map]
  exact Entails.of_eq (bigSep_congr fun k _ => by rw [← launch_v]; rfl)

end Cert.GatherProof

end
-- ==== Proof.Steps.lean ====
/-
# The steps of the kernel, each proved once

A transfer to another device, the copy into the own slot, and a wait — at any device, any transfer, any semaphore.  The
kernel's own offsets, devices and semaphores come in as equations.
-/
module

public import proofs.«01_k».proof.Proof.Plan

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What everybody knows of every semaphore. -/
def records (K : Dev nD × Fin 15 → ℕ) : sProp 𝕄 :=
  iprop((bigSep Finset.univ fun ck => cellInv ER (Rd m) (K ck) (kcell ck)) ∗ bigSep Finset.univ fun ck => reached ER (kcell ck) 0)

instance records_persistent (K : Dev nD × Fin 15 → ℕ) : BI.Persistent (records (F := F) m K) := by unfold records; infer_instance

theorem inv_at (K : Dev nD × Fin 15 → ℕ) (ck : Dev nD × Fin 15) : records m K ⊢ (cellInv ER (Rd m) (K ck) (kcell ck) : sProp 𝕄) := by
  unfold records
  exact sep_elim_left.trans (bigSep_elim (Finset.mem_univ ck))
theorem reached_at (K : Dev nD × Fin 15 → ℕ) (ck : Dev nD × Fin 15) : records m K ⊢ (reached ER (kcell ck) 0 : sProp 𝕄) := by
  unfold records
  exact sep_elim_right.trans (bigSep_elim (Finset.mem_univ ck))

/-- Transfer `k` of device `c`, into slot `j` of `peer k c`. -/
theorem send_step (K : Dev nD × Fin 15 → ℕ) (c : Dev nD) (k : Fin 7) (ks : List (Fin 7)) (j : Dev nD) (hj : inSlot k (peer k c) = j)
    {n : Dev nD} (hn : n = peer k c) {src : Memref sig .tc .hbm S1088x1024 .bf16}
    {off : Fin 3 → ℕ} {h : ∀ a, off a + S1x1088x1024.size a ≤ S8x1088x1024.size a} (hoff : off = offJ j)
    {sS sR : DmaSem sig} (hs : sS = sI k) (hv : sR = vI k)
    {hsc : (slotM off h : Memref sig (Dev.tc n : Thread nD τ).2.kind .hbm S1088x1024 .bf16).view.ref.isScScratch = false}
    {hsrc : src.view.WordExact} {hdst : (slotM off h).view.WordExact}
    {hsem : DmaTarget.Typed .hbm (.dma sR) (.remote (Dev.tc n : Thread nD τ) (slotM off h) (.dma sS) hsc)}
    {q : PosShare TreeShare} {fs : Buf (Elt F) (src.view.loc (c : Thread nD τ))} (fd : (main_v1 : Ref sig .tc).ty.Contents (Elt F))
    (W : Waits sig Unit)
    (hpay : (src.view.loc (c : Thread nD τ) ↦[src.view.set]{q} fs) ⊢ sPay m k c)
    (hland : ∀ i ∈ (slot j).view.set, (slot j).view.write (Elt F) fd (src.view.read (Elt F) fs) Finset.univ i = outF m i)
    {α : Type} {Q : α → sProp 𝕄} {kk : PUnit → Prog (TpuEff nD τ sig (Elt F) Λ₀ .tc) α} :
    iprop(records m K ∗ (src.view.loc (c : Thread nD τ) ↦[src.view.set]{q} fs) ∗ slotPts (peer k c) j fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) (slotM off h) (.dma sS) hsc) (.dma sR) hsrc hdst hsem) kk) Q) := by
  subst hn hoff hs hv
  refine BIBase.Entails.trans ?_ (Rounds.wp_send_pointsTo 𝒱₀ ER (Rd m) (c : Thread nD τ) none (c' := (peer k c : Thread nD τ)) (src := src) (dst := slot j)
    (hsc := hsc) (hsrc := hsrc) (hdst := hdst) (hsem := hsem) (k := kk) (Q := Q) (q := q) (fs := fs)
    (κ₁ := K (c, sI k)) (κ₂ := K (peer k c, vI k)) (r₁ := 0) (r₂ := 0) (d₁ := ()) (d₂ := ()) (fd := fd) (Es := Set.univ)
    (duties_mem m (c, sI k)) (duties_mem m (peer k c, vI k)) () () N (credit_N _) rfl rfl (ow c ks) rfl (W := W)
    (hpay.trans (Entails.of_eq (pay_s m c k).symm))
    (by
      refine BIBase.Entails.trans ?_ (Entails.of_eq (pay_v m (peer k c) k).symm)
      rw [hj]; unfold slotPts
      exact Entails.of_eq (pointsTo_congr hland)))
  unfold slotPts
  iintro ⟨#HR, Hsrc, Hdst, Ho, Ht1, Ht2⟩
  isplitr; · iapply (inv_at m K (c, sI k)); iexact HR
  isplitr; · iapply (inv_at m K (peer k c, vI k)); iexact HR
  isplitl [Hsrc]; · iexact Hsrc
  isplitl [Hdst]; · iexact Hdst
  isplitl [Ho]; · iexact Ho
  isplitl [Ht1]; · iexact Ht1
  isplitr; · iapply (reached_at m K (c, sI k)); iexact HR
  isplitl [Ht2]; · iexact Ht2
  iapply (reached_at m K (peer k c, vI k)); iexact HR

/-- One of the first four transfers: the own block. -/
theorem send_own (K : Dev nD × Fin 15 → ℕ) (c : Dev nD) (k : Fin 7) (hk : k.val < 4) (ks : List (Fin 7)) (hj : inSlot k (peer k c) = c)
    {n : Dev nD} (hn : n = peer k c) {off : Fin 3 → ℕ} {h : ∀ a, off a + S1x1088x1024.size a ≤ S8x1088x1024.size a} (hoff : off = offJ c)
    {sS sR : DmaSem sig} (hs : sS = sI k) (hv : sR = vI k)
    {hsc : (slotM off h : Memref sig (Dev.tc n : Thread nD τ).2.kind .hbm S1088x1024 .bf16).view.ref.isScScratch = false}
    {hsrc : xM.view.WordExact} {hdst : (slotM off h).view.WordExact}
    {hsem : DmaTarget.Typed .hbm (.dma sR) (.remote (Dev.tc n : Thread nD τ) (slotM off h) (.dma sS) hsc)}
    (fd : (main_v1 : Ref sig .tc).ty.Contents (Elt F)) (W : Waits sig Unit)
    {α : Type} {Q : α → sProp 𝕄} {kk : PUnit → Prog (TpuEff nD τ sig (Elt F) Λ₀ .tc) α} :
    iprop(records m K ∗ xPts m (shr k.val) c ∗ slotPts (peer k c) c fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (.remote (Dev.tc n : Thread nD τ) (slotM off h) (.dma sS) hsc) (.dma sR) hsrc hdst hsem) kk) Q) :=
  send_step m K c k ks c hj hn hoff hs hv fd W (by unfold sPay; rw [if_pos hk]; exact Entails.of_eq rfl) (landed_x m c fd)

/-- One of the last three: a slot that has come from another chip. -/
theorem send_on (K : Dev nD × Fin 15 → ℕ) (c : Dev nD) (k : Fin 7) (hk : ¬ k.val < 4) (ks : List (Fin 7)) (j : Dev nD)
    (hj : inSlot k (peer k c) = j) (hj' : inSlot ⟨k.val - 3, by omega⟩ c = j)
    {n : Dev nD} (hn : n = peer k c) {off : Fin 3 → ℕ} {h h' : ∀ a, off a + S1x1088x1024.size a ≤ S8x1088x1024.size a} (hoff : off = offJ j)
    {sS sR : DmaSem sig} (hs : sS = sI k) (hv : sR = vI k)
    {hsc : (slotM off h : Memref sig (Dev.tc n : Thread nD τ).2.kind .hbm S1088x1024 .bf16).view.ref.isScScratch = false}
    {hsrc : (slotM off h').view.WordExact} {hdst : (slotM off h).view.WordExact}
    {hsem : DmaTarget.Typed .hbm (.dma sR) (.remote (Dev.tc n : Thread nD τ) (slotM off h) (.dma sS) hsc)}
    (fd : (main_v1 : Ref sig .tc).ty.Contents (Elt F)) (W : Waits sig Unit)
    {α : Type} {Q : α → sProp 𝕄} {kk : PUnit → Prog (TpuEff nD τ sig (Elt F) Λ₀ .tc) α} :
    iprop(records m K ∗ slotPts c j (outF m) ∗ slotPts (peer k c) j fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM off h') (.remote (Dev.tc n : Thread nD τ) (slotM off h) (.dma sS) hsc) (.dma sR) hsrc hdst hsem) kk) Q) := by
  subst hoff
  exact send_step m K c k ks j hj hn rfl hs hv fd W (src := slot j) (q := fullShare) (fs := outF m)
    (by unfold sPay; rw [if_neg hk, hj']; unfold slotPts; exact Entails.of_eq rfl) (landed_slot m j fd)

/-- The copy of the own block into the own slot. -/
theorem copy_step (K : Dev nD × Fin 15 → ℕ) (c : Dev nD)
    {off : Fin 3 → ℕ} {h : ∀ a, off a + S1x1088x1024.size a ≤ S8x1088x1024.size a} (hoff : off = offJ c)
    {sL : DmaSem sig} (hs : sL = lI) {hsrc : xM.view.WordExact} {hdst : (slotM off h).view.WordExact}
    {hsem : (DmaTarget.here (slotM off h) : DmaTarget nD τ sig (.tc : Proc τ) .hbm S1088x1024 .bf16).Typed .hbm (SemLoc.dma sL)}
    (fd : (main_v1 : Ref sig .tc).ty.Contents (Elt F))
    {α : Type} {Q : α → sProp 𝕄} {kk : PUnit → Prog (TpuEff nD τ sig (Elt F) Λ₀ .tc) α} :
    iprop(records m K ∗ xPts m (shr 4) c ∗ slotPts c c fd ∗ dutyTok ER (lCell c) 0 ())
      ⊢ iprop((cred (tallyAt (lCell c) () N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (.here (slotM off h)) (.dma sL) hsrc hdst hsem) kk) Q) := by
  subst hoff hs
  refine BIBase.Entails.trans ?_ (Rounds.wp_copy_pointsTo 𝒱₀ ER (Rd m) (c : Thread nD τ) none (src := xM) (dst := slot c)
    (hsrc := hsrc) (hdst := hdst) (hsem := hsem) (k := kk) (Q := Q) (q := shr 4) (fs := m ((c : Thread nD τ).loc main_arg0))
    (κ := K (c, lI)) (r := 0) (d := ()) (fd := fd) (Es := Set.univ)
    (duties_mem m (c, lI)) () N (credit_N _) rfl
    (by
      refine BIBase.Entails.trans ?_ (Entails.of_eq (pay_l m c).symm)
      unfold slotPts xPts
      exact sep_mono_left (Entails.of_eq (pointsTo_congr (landed_x m c fd)))))
  unfold slotPts xPts
  iintro ⟨#HR, Hsrc, Hdst, Ht⟩
  isplitr; · iapply (inv_at m K (c, lI)); iexact HR
  isplitl [Hsrc]; · iexact Hsrc
  isplitl [Hdst]; · iexact Hdst
  isplitl [Ht]; · iexact Ht
  iapply (reached_at m K (c, lI)); iexact HR

/-- A wait for one transfer, on any of the fifteen semaphores: what it guards comes with it, and the semaphore is spent. -/
theorem wait_step (K : Dev nD × Fin 15 → ℕ) (c : Dev nD) (i : Fin 15) {s : DmaSem sig} (hs : s = i)
    {sp' : Space} {s' : Shape} {e' : EltTy} {src : Memref sig .tc sp' s' e'} {dst : Memref sig .tc .hbm S1088x1024 .bf16}
    {hsrc : src.view.WordExact} {hdst : dst.view.WordExact} (O : CellTallies nD τ sig Unit) (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) O W ∗ MayWait (c : Thread nD τ) (.dma i) () O
        ∗ atPos ER (kcell (c, i)) 0 ∅ 0)
      ⊢ iprop(((owes (c : Thread nD τ) O (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  iintro ⟨#HR, Hc, Ho, Hm, Hat⟩ Hk
  iapply (Rounds.wp_wait_rest_token 𝒱₀ ER (Rd m) (c : Thread nD τ) none (κ := K (c, s))
      (wpE_waitDma2_eq 𝒱₀ (c : Thread nD τ) none Set.univ) (Set.mem_univ _) () (O := O) (W := W) (R := 0) (m := 0) (T := ∅)
      (by rw [Nat.zero_add, credit_N, expect_0 m (c, s)])) $$ [Hc Ho Hm Hat]
  · isplitr; · iapply (inv_at m K (c, s)); iexact HR
    isplitl [Hc]; · rw [credit_N]; iexact Hc
    isplitl [Ho]; · iexact Ho
    isplitl [Hm]; · iexact Hm
    iexact Hat
  iintro ⟨Ho, Hat, -, Hpay⟩
  ihave Hp := (Entails.of_eq (rest_0 m (c, s))) $$ Hpay
  imod (Rounds.cell_close ER (Rd m) (Set.mem_univ (K (c, s))) (fun h => h) (R := 0 + 1) (duties_later m (kcell (c, s)))) $$ [Hat] with Hz
  · isplitr; · iapply (inv_at m K (c, s)); iexact HR
    iexact Hat
  iapply Hk
  isplitl [Ho]; · iexact Ho
  isplitl [Hp]; · iexact Hp
  iexact Hz

end Cert.GatherProof

end
-- ==== Proof.Walk.lean ====
/-
# The kernel's body, at any device

One walk through the body at a symbolic device `c`, from what the launch deals it (`Φ₀`) to the gathered result with every
semaphore spent (`Φ₁`).
-/
module

public import proofs.«01_k».proof.Proof.Gen.KernelIdeal.Points
public import proofs.«01_k».proof.Proof.Steps

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's devices and offsets -/

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 3 c := Fin.ext ((k0_dev4_eq c).trans (by revert c; decide))
theorem dev5_eq (c : Dev nD) : (⟨k0_dev5 c, k0_dev5_lt c⟩ : Dev nD) = peer 4 c := Fin.ext ((k0_dev5_eq c).trans (by revert c; decide))
theorem dev6_eq (c : Dev nD) : (⟨k0_dev6 c, k0_dev6_lt c⟩ : Dev nD) = peer 5 c := Fin.ext ((k0_dev6_eq c).trans (by revert c; decide))
theorem dev7_eq (c : Dev nD) : (⟨k0_dev7 c, k0_dev7_lt c⟩ : Dev nD) = peer 6 c := Fin.ext ((k0_dev7_eq c).trans (by revert c; decide))

theorem off1_eq (c : Dev nD) : k0_off1 c = offJ c := by rw [k0_off1_eq]; revert c; decide
theorem off2_eq (c : Dev nD) : k0_off2 c = offJ (inSlot 1 c) := by rw [k0_off2_eq]; revert c; decide
theorem off3_eq (c : Dev nD) : k0_off3 c = offJ (inSlot 2 c) := by rw [k0_off3_eq]; revert c; decide
theorem off4_eq (c : Dev nD) : k0_off4 c = offJ (inSlot 3 c) := by rw [k0_off4_eq]; revert c; decide

/-- A block sent to another chip or core lands in the slot of its sender; one passed on lands in the slot it had. -/
theorem lands_own (k : Fin 7) (hk : k.val < 4) (c : Dev nD) : inSlot k (peer k c) = c := by revert k c; decide
theorem lands_on4 (c : Dev nD) : inSlot 4 (peer 4 c) = inSlot 1 c := by revert c; decide
theorem lands_on5 (c : Dev nD) : inSlot 5 (peer 5 c) = inSlot 2 c := by revert c; decide
theorem lands_on6 (c : Dev nD) : inSlot 6 (peer 6 c) = inSlot 3 c := by revert c; decide

/-! ## Before and after -/

/-- The right to pay each transfer, at its sender. -/
def toks (c : Dev nD) : sProp 𝕄 :=
  iprop((bigSep Finset.univ fun k : Fin 7 => dutyTok ER (sCell k c) 0 ()) ∗ (bigSep Finset.univ fun k : Fin 7 => dutyTok ER (vCell k (peer k c)) 0 ())
    ∗ dutyTok ER (lCell c) 0 ())

/-- The slots a device will write, wherever they are, and its own block. -/
def held (c : Dev nD) : sProp 𝕄 :=
  iprop((bigSep Finset.univ fun k : Fin 7 => slotPts (peer k c) (inSlot k (peer k c)) (m ((peer k c : Thread nD τ).loc main_v1)))
    ∗ slotPts c c (m ((c : Thread nD τ).loc main_v1)) ∗ xPts m fullShare c)

def linear (c : Dev nD) : sProp 𝕄 :=
  iprop((bigSep Finset.univ fun i : Fin 15 => atPos ER (kcell (c, i)) 0 ∅ 0) ∗ toks c ∗ held m c)

/-- What each device starts with, apart from credit and levels. -/
def G' (c : Dev nD) : sProp 𝕄 := iprop(∃ K, records m K ∗ linear m c)

def Φ₀ (c : Dev nD) : sProp 𝕄 :=
  iprop(G' m c ∗ levAts L lv ∗ bigSep Finset.univ fun k : Fin 7 => cred (tallyAt (vCell k c) () N))

def Φ₁ (c : Dev nD) : sProp 𝕄 :=
  iprop((((c : Thread nD τ).loc main_v1) ↦{fullShare} outF m) ∗ xPts m fullShare c ∗ bigSep Finset.univ fun i : Fin 15 => semVal (kcell (c, i)) 0)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A wait when nothing is owed any more. -/
theorem wait_free (K : Dev nD × Fin 15 → ℕ) (c : Dev nD) (i : Fin 15) {s : DmaSem sig} (hs : s = i)
    {sp' : Space} {s' : Shape} {e' : EltTy} {src : Memref sig .tc sp' s' e'} {dst : Memref sig .tc .hbm S1088x1024 .bf16}
    {hsrc : src.view.WordExact} {hdst : dst.view.WordExact} (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) (ow c []) W ∗ atPos ER (kcell (c, i)) 0 ∅ 0)
      ⊢ iprop(((owes (c : Thread nD τ) (ow c []) (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  refine BIBase.Entails.trans ?_ (wait_step m K c i hs (ow c []) W)
  iintro ⟨#HR, Hc, Ho, Hat⟩
  isplitr; · iexact HR
  isplitl [Hc]; · iexact Hc
  isplitl [Ho]; · iexact Ho
  isplitr; · rw [show ow c [] = 0 from rfl, MayWait_zero]; iempintro
  iexact Hat

/-! ## The walk -/

set_option maxHeartbeats 2000000 in
set_option maxRecDepth 8000 in
theorem body_walk (K : Dev nD × Fin 15 → ℕ) (c : Dev nD) (W : Waits sig Unit) (Kt : PUnit → sProp 𝕄) :
    iprop((records m K ∗ linear m c ∗ levAts L lv ∗ (bigSep Finset.univ fun k : Fin 7 => cred (tallyAt (vCell k c) () N))
        ∗ owes (c : Thread nD τ) (O₀ c) W) ∗ (Φ₁ m c ∗ (∃ W', owes (c : Thread nD τ) 0 W') -∗ Kt ⟨⟩))
      ⊢ wp frame (wpE (defs₀ (F := F)) 𝒱₀ c none) Set.univ (bodyAt0 t0_0) Kt := by
  unfold bodyAt0
  simp only [cc0_gather_w_in_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton]
  unfold cc0_gather_w_in_skel
  simp only [k0_part10_eq_skeleton]
  unfold k0_part10_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold linear toks held
  rw [bigSep_parts]
  simp only [bigSep_fin7]
  iintro ⟨⟨#HR, ⟨⟨⟨AS0, AS1, AS2, AS3, AS4, AS5, AS6⟩, ⟨AV0, AV1, AV2, AV3, AV4, AV5, AV6⟩, AL⟩,
    ⟨⟨S0, S1, S2, S3, S4, S5, S6⟩, ⟨V0, V1, V2, V3, V4, V5, V6⟩, TL⟩,
    ⟨D0, D1, D2, D3, D4, D5, D6⟩, DL, HX⟩, #Hlev, ⟨C0, C1, C2, C3, C4, C5, C6⟩, HO⟩, Hk⟩
  ihave HX' := (x_shares m c).1 $$ HX
  icases HX' with ⟨X0, X1, X2, X3, XL⟩
  rw [lands_own 0 (by decide) c, lands_own 1 (by decide) c, lands_own 2 (by decide) c, lands_own 3 (by decide) c,
    lands_on4, lands_on5, lands_on6]
  unfold O₀
  -- the own slot
  iapply (copy_step m K c (off1_eq c) rfl _) $$ [XL DL TL]
  · isplitr; · iexact HR
    isplitl [XL]; · iexact XL
    isplitl [DL] <;> iassumption
  iintro CL
  -- the own block, to the other core and to the other chips
  iapply (send_own m K c 0 (by decide) [1, 2, 3, 4, 5, 6] (lands_own 0 (by decide) c) (dev1_eq c) (off1_eq c) rfl rfl _ _) $$ [X0 D0 HO S0 V0]
  · isplitr; · iexact HR
    isplitl [X0]; · iexact X0
    isplitl [D0]; · iexact D0
    isplitl [HO]; · iexact HO
    isplitl [S0] <;> iassumption
  iintro ⟨E0, HO⟩
  iapply (send_own m K c 1 (by decide) [2, 3, 4, 5, 6] (lands_own 1 (by decide) c) (dev2_eq c) (off1_eq c) rfl rfl _ _) $$ [X1 D1 HO S1 V1]
  · isplitr; · iexact HR
    isplitl [X1]; · iexact X1
    isplitl [D1]; · iexact D1
    isplitl [HO]; · iexact HO
    isplitl [S1] <;> iassumption
  iintro ⟨E1, HO⟩
  iapply (send_own m K c 2 (by decide) [3, 4, 5, 6] (lands_own 2 (by decide) c) (dev3_eq c) (off1_eq c) rfl rfl _ _) $$ [X2 D2 HO S2 V2]
  · isplitr; · iexact HR
    isplitl [X2]; · iexact X2
    isplitl [D2]; · iexact D2
    isplitl [HO]; · iexact HO
    isplitl [S2] <;> iassumption
  iintro ⟨E2, HO⟩
  iapply (send_own m K c 3 (by decide) [4, 5, 6] (lands_own 3 (by decide) c) (dev4_eq c) (off1_eq c) rfl rfl _ _) $$ [X3 D3 HO S3 V3]
  · isplitr; · iexact HR
    isplitl [X3]; · iexact X3
    isplitl [D3]; · iexact D3
    isplitl [HO]; · iexact HO
    isplitl [S3] <;> iassumption
  iintro ⟨E3, HO⟩
  -- what comes from the other chips is passed on to the other core
  iapply (wait_step m K c (vI 1) rfl (ow c [4, 5, 6]) _) $$ [C1 HO AV1]
  · isplitr; · iexact HR
    isplitl [C1]; · iexact C1
    isplitl [HO]; · iexact HO
    isplitr; · iapply (mayWait_chip c (vI 1) rfl [4, 5, 6] (by decide)); iexact Hlev
    iexact AV1
  iintro ⟨HO, P1, ZV1⟩
  ihave P1 := (Entails.of_eq (pay_v m c 1)) $$ P1
  iapply (send_on m K c 4 (by decide) [5, 6] (inSlot 1 c) (lands_on4 c) rfl (dev5_eq c) (off2_eq c) rfl rfl _ _) $$ [P1 D4 HO S4 V4]
  · isplitr; · iexact HR
    isplitl [P1]; · iexact P1
    isplitl [D4]; · iexact D4
    isplitl [HO]; · iexact HO
    isplitl [S4] <;> iassumption
  iintro ⟨E4, HO⟩
  iapply (wait_step m K c (vI 2) rfl (ow c [5, 6]) _) $$ [C2 HO AV2]
  · isplitr; · iexact HR
    isplitl [C2]; · iexact C2
    isplitl [HO]; · iexact HO
    isplitr; · iapply (mayWait_chip c (vI 2) rfl [5, 6] (by decide)); iexact Hlev
    iexact AV2
  iintro ⟨HO, P2, ZV2⟩
  ihave P2 := (Entails.of_eq (pay_v m c 2)) $$ P2
  iapply (send_on m K c 5 (by decide) [6] (inSlot 2 c) (lands_on5 c) rfl (dev6_eq c) (off3_eq c) rfl rfl _ _) $$ [P2 D5 HO S5 V5]
  · isplitr; · iexact HR
    isplitl [P2]; · iexact P2
    isplitl [D5]; · iexact D5
    isplitl [HO]; · iexact HO
    isplitl [S5] <;> iassumption
  iintro ⟨E5, HO⟩
  iapply (wait_step m K c (vI 3) rfl (ow c [6]) _) $$ [C3 HO AV3]
  · isplitr; · iexact HR
    isplitl [C3]; · iexact C3
    isplitl [HO]; · iexact HO
    isplitr; · iapply (mayWait_chip c (vI 3) rfl [6] (by decide)); iexact Hlev
    iexact AV3
  iintro ⟨HO, P3, ZV3⟩
  ihave P3 := (Entails.of_eq (pay_v m c 3)) $$ P3
  iapply (send_on m K c 6 (by decide) [] (inSlot 3 c) (lands_on6 c) rfl (dev7_eq c) (off4_eq c) rfl rfl _ _) $$ [P3 D6 HO S6 V6]
  · isplitr; · iexact HR
    isplitl [P3]; · iexact P3
    isplitl [D6]; · iexact D6
    isplitl [HO]; · iexact HO
    isplitl [S6] <;> iassumption
  iintro ⟨E6, HO⟩
  -- the remaining waits
  iapply (wait_free m K c (vI 0) rfl _) $$ [C0 HO AV0]
  · isplitr; · iexact HR
    isplitl [C0]; · iexact C0
    isplitl [HO] <;> iassumption
  iintro ⟨HO, P0, ZV0⟩
  iapply (wait_free m K c (vI 4) rfl _) $$ [C4 HO AV4]
  · isplitr; · iexact HR
    isplitl [C4]; · iexact C4
    isplitl [HO] <;> iassumption
  iintro ⟨HO, P4, ZV4⟩
  iapply (wait_free m K c (vI 5) rfl _) $$ [C5 HO AV5]
  · isplitr; · iexact HR
    isplitl [C5]; · iexact C5
    isplitl [HO] <;> iassumption
  iintro ⟨HO, P5, ZV5⟩
  iapply (wait_free m K c (vI 6) rfl _) $$ [C6 HO AV6]
  · isplitr; · iexact HR
    isplitl [C6]; · iexact C6
    isplitl [HO] <;> iassumption
  iintro ⟨HO, P6, ZV6⟩
  iapply (wait_free m K c (sI 0) rfl _) $$ [E0 HO AS0]
  · isplitr; · iexact HR
    isplitl [E0]; · iexact E0
    isplitl [HO] <;> iassumption
  iintro ⟨HO, Q0, ZS0⟩
  iapply (wait_free m K c (sI 1) rfl _) $$ [E1 HO AS1]
  · isplitr; · iexact HR
    isplitl [E1]; · iexact E1
    isplitl [HO] <;> iassumption
  iintro ⟨HO, Q1, ZS1⟩
  iapply (wait_free m K c (sI 2) rfl _) $$ [E2 HO AS2]
  · isplitr; · iexact HR
    isplitl [E2]; · iexact E2
    isplitl [HO] <;> iassumption
  iintro ⟨HO, Q2, ZS2⟩
  iapply (wait_free m K c (sI 3) rfl _) $$ [E3 HO AS3]
  · isplitr; · iexact HR
    isplitl [E3]; · iexact E3
    isplitl [HO] <;> iassumption
  iintro ⟨HO, Q3, ZS3⟩
  iapply (wait_free m K c (sI 4) rfl _) $$ [E4 HO AS4]
  · isplitr; · iexact HR
    isplitl [E4]; · iexact E4
    isplitl [HO] <;> iassumption
  iintro ⟨HO, Q4, ZS4⟩
  iapply (wait_free m K c (sI 5) rfl _) $$ [E5 HO AS5]
  · isplitr; · iexact HR
    isplitl [E5]; · iexact E5
    isplitl [HO] <;> iassumption
  iintro ⟨HO, Q5, ZS5⟩
  iapply (wait_free m K c (sI 6) rfl _) $$ [E6 HO AS6]
  · isplitr; · iexact HR
    isplitl [E6]; · iexact E6
    isplitl [HO] <;> iassumption
  iintro ⟨HO, Q6, ZS6⟩
  iapply (wait_free m K c (lI) rfl _) $$ [CL HO AL]
  · isplitr; · iexact HR
    isplitl [CL]; · iexact CL
    isplitl [HO] <;> iassumption
  iintro ⟨HO, PL, ZL⟩
  rw [wp_ret]; imodintro
  iapply Hk
  ihave P0 := (Entails.of_eq (pay_v m c 0)) $$ P0
  ihave P4 := (Entails.of_eq (pay_v m c 4)) $$ P4
  ihave P5 := (Entails.of_eq (pay_v m c 5)) $$ P5
  ihave P6 := (Entails.of_eq (pay_v m c 6)) $$ P6
  ihave Q0 := (Entails.of_eq ((pay_s m c 0).trans (if_pos (by decide)))) $$ Q0
  ihave Q1 := (Entails.of_eq ((pay_s m c 1).trans (if_pos (by decide)))) $$ Q1
  ihave Q2 := (Entails.of_eq ((pay_s m c 2).trans (if_pos (by decide)))) $$ Q2
  ihave Q3 := (Entails.of_eq ((pay_s m c 3).trans (if_pos (by decide)))) $$ Q3
  ihave Q4 := (Entails.of_eq ((pay_s m c 4).trans (if_neg (by decide)))) $$ Q4
  ihave Q5 := (Entails.of_eq ((pay_s m c 5).trans (if_neg (by decide)))) $$ Q5
  ihave Q6 := (Entails.of_eq ((pay_s m c 6).trans (if_neg (by decide)))) $$ Q6
  ihave PL := (Entails.of_eq (pay_l m c)) $$ PL
  icases PL with ⟨PL, XL⟩
  isplitr [HO]
  · unfold Φ₁
    rw [result_slots, bigSep_parts]
    simp only [bigSep_fin7]
    isplitl [P0 Q4 Q5 Q6 P4 P5 P6 PL]
    · isplitr [PL]
      · isplitl [P0]; · iexact P0
        isplitl [Q4]; · iexact Q4
        isplitl [Q5]; · iexact Q5
        isplitl [Q6]; · iexact Q6
        isplitl [P4]; · iexact P4
        isplitl [P5] <;> iassumption
      iexact PL
    isplitl [Q0 Q1 Q2 Q3 XL]
    · iapply (x_shares m c).2
      isplitl [Q0]; · iexact Q0
      isplitl [Q1]; · iexact Q1
      isplitl [Q2]; · iexact Q2
      isplitl [Q3]; · iexact Q3
      iexact XL
    isplitl [ZS0 ZS1 ZS2 ZS3 ZS4 ZS5 ZS6]
    · isplitl [ZS0]; · iexact ZS0
      isplitl [ZS1]; · iexact ZS1
      isplitl [ZS2]; · iexact ZS2
      isplitl [ZS3]; · iexact ZS3
      isplitl [ZS4]; · iexact ZS4
      isplitl [ZS5] <;> iassumption
    isplitl [ZV0 ZV1 ZV2 ZV3 ZV4 ZV5 ZV6]
    · isplitl [ZV0]; · iexact ZV0
      isplitl [ZV1]; · iexact ZV1
      isplitl [ZV2]; · iexact ZV2
      isplitl [ZV3]; · iexact ZV3
      isplitl [ZV4]; · iexact ZV4
      isplitl [ZV5] <;> iassumption
    iexact ZL
  iexists _; iexact HO

/-- The body's obligation to the launch. -/
theorem body_obligation (c : Dev nD) : BodyObligation (dats (F := F) m 0 c) (defs₀ (F := F)) 𝒱₀ () Set.univ := fun t => by
  rw [show t = t0_0 from fin_N0 t, noWin, noWin]
  show iprop(Φ₀ m c ∗ (dats (F := F) m 0 c).owesAt () (Fin.castSucc t0_0) ∗ BI.emp) ⊢ wp frame (wpE (defs₀ (F := F)) 𝒱₀ c none) Set.univ
    (bodyAt0 t0_0) (fun _ => iprop(Φ₁ m c ∗ (dats (F := F) m 0 c).owesAt () (Fin.succ t0_0) ∗ BI.emp))
  unfold Φ₀ G' Dat.owesAt Pipeline.owesWithin
  rw [show (dats (F := F) m 0 c).owed (Fin.castSucc t0_0) = O₀ c from rfl, show (dats (F := F) m 0 c).owed (Fin.succ t0_0) = 0 from rfl]
  iintro ⟨⟨⟨%K, #HR, Hlin⟩, #Hlev, Hcr⟩, ⟨%W, %hW, HO⟩, -⟩
  iapply (body_walk m K c W)
  isplitl [Hlin Hcr HO]
  · isplitr; · iexact HR
    isplitl [Hlin]; · iexact Hlin
    isplitr; · iexact Hlev
    isplitl [Hcr] <;> iassumption
  iintro ⟨H1, %W', HO⟩
  isplitl [H1]; · iexact H1
  isplitl [HO]
  · iexists W'
    isplitr; · ipureintro; exact fun _ _ => Or.inl trivial
    iexact HO
  iempintro

end Cert.GatherProof

end
-- ==== Proof.Run.lean ====
/-
# The gather as a whole

The launch deals every device its fifteen semaphores, its block and its result.  The result is dealt on slot by slot: a slot
that device `d` is to fill goes to `d`, whoever it belongs to, and so does the right to pay its receive semaphore.  Both are
one exchange along `across`.  Then every device walks its body, and the final memory is read off.
-/
module

public import proofs.«01_k».proof.Proof.Walk

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records -/

def ringCells : Finset (GSem nD τ sig) := Finset.univ.map ⟨kcell, kcell_injective⟩
def ringToks : Finset (GSem nD τ sig × ℕ × Unit) :=
  Finset.univ.map ⟨fun ck : Dev nD × Fin 15 => (kcell ck, 0, ()), fun _ _ h => kcell_injective (congrArg Prod.fst h)⟩

def u₀ : UU := (initOf ∅ ∅, initOf ringCells ringToks)

/-- What a device gets of the records. -/
def G (c : Dev nD) : sProp 𝕄 :=
  iprop((bigSep Finset.univ fun i : Fin 15 => roundState ER (Rd m) (kcell (c, i)) 0)
    ∗ (bigSep Finset.univ fun i : Fin 15 => reached ER (kcell (c, i)) 0)
    ∗ (bigSep Finset.univ fun i : Fin 15 => atPos ER (kcell (c, i)) 0 ∅ 0)
    ∗ bigSep Finset.univ fun i : Fin 15 => dutyTok ER (kcell (c, i)) 0 ())

theorem records_made : (ownU u₀ : sProp 𝕄) ⊢ |={Set.univ}=> bigSep Finset.univ (G m) := by
  have hc (Φ : GSem nD τ sig → sProp 𝕄) : bigSep ringCells Φ = bigSep Finset.univ fun c : Dev nD => bigSep Finset.univ fun i : Fin 15 => Φ (kcell (c, i)) := by
    unfold ringCells; rw [bigSep_map, bigSep_univ_prod]; rfl
  have ht : (bigSep ringToks fun x => dutyTok ER x.1 x.2.1 x.2.2 : sProp 𝕄)
      = bigSep Finset.univ fun c : Dev nD => bigSep Finset.univ fun i : Fin 15 => dutyTok ER (kcell (c, i)) 0 () := by
    unfold ringToks; rw [bigSep_map, bigSep_univ_prod]; rfl
  have hG : (bigSep Finset.univ (G m) : sProp 𝕄)
      = iprop((bigSep ringCells fun g => roundState ER (Rd m) g 0) ∗ (bigSep ringCells fun g => reached ER g 0)
        ∗ (bigSep ringCells fun g => atPos ER g 0 ∅ 0) ∗ bigSep ringToks fun x => dutyTok ER x.1 x.2.1 x.2.2) := by
    rw [hc, hc, hc, ht]
    unfold G
    simp only [bigSep_sep']
  unfold u₀
  iintro Hu
  ihave H := (ownU_pair (initOf ∅ ∅ : UR sig nD τ) (initOf ringCells ringToks : UR sig nD τ)) $$ Hu
  icases H with ⟨-, HX⟩
  imod (Rounds.fund ER (Rd m) ringCells ringToks) $$ HX with HF
  imodintro
  rw [hG]
  iexact HF

/-! ## Dealing -/

omit [FloatOps F] in
theorem sems0_eq (c : Dev nD) : (sems0 c : sProp 𝕄) = bigSep Finset.univ fun i : Fin 15 => semVal (kcell (c, i)) 0 := rfl

/-- A device's part of the invariants is set up. -/
theorem cells_made (c : Dev nD) :
    iprop(sems0 c ∗ bigSep Finset.univ fun i : Fin 15 => roundState ER (Rd (F := F) m) (kcell (c, i)) 0)
      ⊢ |={Set.univ}=> bigSep Finset.univ fun i : Fin 15 => iprop(∃ κ : ℕ, cellInv ER (Rd (F := F) m) κ (kcell (c, i))) := by
  rw [sems0_eq, ← bigSep_sep']
  exact (bigSep_mono fun i _ => (Rounds.body_intro ER (Rd m) (kcell (c, i))).trans inv_alloc).trans (bigSep_fupd _ _)

/-- Its memory: the block, and the result slot by slot. -/
theorem memory_split (c : Dev nD) :
    (unscopedBufs c (fun b => m ((c : Thread nD τ).loc b)) : sProp 𝕄)
      ⊢ iprop(xPts m fullShare c ∗ (bigSep Finset.univ fun k : Fin 7 => slotPts c (inSlot k c) (m ((c : Thread nD τ).loc main_v1)))
          ∗ slotPts c c (m ((c : Thread nD τ).loc main_v1))) := by
  have h := Pipeline.unscopedBufs_split (Ix := Unit) (Name := ℕ) (U := UU) (Lvl := ℕ) cfgs (0 : Fin 1) winFacts0.arr_unscoped winFacts0.arr_inj c
    (fun b => m ((c : Thread nD τ).loc b))
  rw [h, unscopedRest0_eq, result_slots]
  iintro ⟨-, Hx, Hs⟩
  isplitl [Hx]
  · unfold xPts; rw [View.set_whole]; iexact Hx
  iexact Hs

omit [FloatOps F] in
/-- What belongs to the receivers of the transfers, dealt to their senders. -/
theorem exchange (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer k c) k := by
  have h1 := bigSep_univ_prod (M := 𝕄) fun ck : Dev nD × Fin 7 => Φ ck.1 ck.2
  have h2 := bigSep_univ_equiv across (fun ck : Dev nD × Fin 7 => Φ ck.1 ck.2)
  have h3 := bigSep_univ_prod (M := 𝕄) fun ck : Dev nD × Fin 7 => Φ (peer ck.2 ck.1) ck.2
  exact h1.symm.trans (h2.trans h3)

/-- A device's share of the dealing, before the exchange. -/
def got (c : Dev nD) : sProp 𝕄 :=
  iprop((bigSep Finset.univ fun i : Fin 15 => iprop(∃ κ : ℕ, cellInv ER (Rd (F := F) m) κ (kcell (c, i))))
    ∗ (bigSep Finset.univ fun i : Fin 15 => reached ER (kcell (c, i)) 0)
    ∗ (bigSep Finset.univ fun i : Fin 15 => atPos ER (kcell (c, i)) 0 ∅ 0)
    ∗ (bigSep Finset.univ fun k : Fin 7 => dutyTok ER (sCell k c) 0 ()) ∗ (bigSep Finset.univ fun k : Fin 7 => dutyTok ER (vCell k c) 0 ())
    ∗ dutyTok ER (lCell c) 0 ()
    ∗ xPts m fullShare c ∗ (bigSep Finset.univ fun k : Fin 7 => slotPts c (inSlot k c) (m ((c : Thread nD τ).loc main_v1)))
    ∗ slotPts c c (m ((c : Thread nD τ).loc main_v1)))

/-- Everything dealt. -/
theorem dealt :
    (bigSep Finset.univ fun c => iprop(sems0 c ∗ unscopedBufs c (fun b => m ((c : Thread nD τ).loc b)) ∗ G m c) : sProp 𝕄)
      ⊢ |={Set.univ}=> bigSep Finset.univ (G' m) := by
  have hone (c : Dev nD) : iprop(sems0 c ∗ unscopedBufs c (fun b => m ((c : Thread nD τ).loc b)) ∗ G m c) ⊢ |={Set.univ}=> got m c := by
    have ht := bigSep_parts (F := F) fun i => dutyTok ER (kcell (c, i)) 0 ()
    unfold G got
    iintro ⟨Hs, Hm, Hst, Hr, Hat, Htok⟩
    imod (cells_made m c) $$ [Hs Hst] with HI
    · isplitl [Hs] <;> iassumption
    ihave Hm' := (memory_split m c) $$ Hm
    ihave Ht := (Entails.of_eq ht) $$ Htok
    icases Ht with ⟨Ht1, Ht2, Ht3⟩
    imodintro
    isplitl [HI]; · iexact HI
    isplitl [Hr]; · iexact Hr
    isplitl [Hat]; · iexact Hat
    isplitl [Ht1]; · iexact Ht1
    isplitl [Ht2]; · iexact Ht2
    isplitl [Ht3]; · iexact Ht3
    iexact Hm'
  have hall : (bigSep Finset.univ fun c => iprop(sems0 c ∗ unscopedBufs c (fun b => m ((c : Thread nD τ).loc b)) ∗ G m c) : sProp 𝕄)
      ⊢ |={Set.univ}=> bigSep Finset.univ (got m) := (bigSep_mono fun c _ => hone c).trans (bigSep_fupd Finset.univ (got m))
  suffices hre : (bigSep Finset.univ (got m) : sProp 𝕄) ⊢ bigSep Finset.univ (G' m) by
    exact hall.trans (BI.fupd_mono hre)
  have hI : (bigSep Finset.univ fun c : Dev nD => bigSep Finset.univ fun i : Fin 15 => iprop(∃ κ : ℕ, cellInv ER (Rd (F := F) m) κ (kcell (c, i))))
      = (bigSep Finset.univ fun ck : Dev nD × Fin 15 => iprop(∃ κ : ℕ, cellInv ER (Rd (F := F) m) κ (kcell ck)) : sProp 𝕄) :=
    (bigSep_univ_prod fun ck : Dev nD × Fin 15 => iprop(∃ κ : ℕ, cellInv ER (Rd (F := F) m) κ (kcell ck))).symm
  have hR : (bigSep Finset.univ fun c : Dev nD => bigSep Finset.univ fun i : Fin 15 => (reached ER (kcell (c, i)) 0 : sProp 𝕄))
      = (bigSep Finset.univ fun ck : Dev nD × Fin 15 => reached ER (kcell ck) 0 : sProp 𝕄) :=
    (bigSep_univ_prod fun ck : Dev nD × Fin 15 => reached ER (kcell ck) 0).symm
  have hT := exchange (F := F) fun c k => dutyTok ER (vCell k c) 0 ()
  have hS := exchange (F := F) fun c k => slotPts c (inSlot k c) (m ((c : Thread nD τ).loc main_v1))
  have hpi : (bigSep Finset.univ fun ck : Dev nD × Fin 15 => iprop(∃ κ : ℕ, cellInv ER (Rd (F := F) m) κ (kcell ck)))
      ⊢ (iprop(∃ K : Dev nD × Fin 15 → ℕ, bigSep Finset.univ fun ck => cellInv ER (Rd (F := F) m) (K ck) (kcell ck)) : sProp 𝕄) :=
    BI.bigSep_exists_pi Finset.univ (fun ck κ => cellInv ER (Rd (F := F) m) κ (kcell ck))
  have hwith (K : Dev nD × Fin 15 → ℕ) :
      iprop(records m K ∗ bigSep Finset.univ fun c : Dev nD => linear m c) ⊢ (bigSep Finset.univ (G' m) : sProp 𝕄) := by
    refine (sep_mono_left (BI.bigSep_of_persistent (Finset.univ : Finset (Dev nD)) (records m K))).trans ?_
    rw [← bigSep_sep']
    refine bigSep_mono fun c _ => ?_
    have h : iprop(records m K ∗ linear m c) ⊢ (G' m c : sProp 𝕄) := by
      unfold G'
      iintro H
      iexists K
      iexact H
    exact h
  unfold got
  simp only [bigSep_sep']
  rw [hI, hR, hT, hS]
  iintro ⟨HI, Hr, Hat, Ht1, Ht2, Ht3, Hx, Hsl, Hown⟩
  ihave HK := hpi $$ HI
  icases HK with ⟨%K, HI⟩
  iapply (hwith K)
  isplitl [HI Hr]
  · unfold records
    isplitl [HI] <;> iassumption
  unfold linear toks held
  simp only [bigSep_sep']
  isplitl [Hat]; · iexact Hat
  isplitl [Ht1 Ht2 Ht3]
  · isplitl [Ht1]; · iexact Ht1
    isplitl [Ht2] <;> iassumption
  isplitl [Hsl]; · iexact Hsl
  isplitl [Hown] <;> iassumption

/-! ## The run -/

/-- What each device ends with. -/
def Y (c : Dev nD) : sProp 𝕄 := iprop((((c : Thread nD τ).loc main_v1) ↦{fullShare} outF m) ∗ xPts m fullShare c)

theorem read_off (c : Dev nD) (s' : Phys nD τ sig (Elt F)) :
    iprop(Y m c ∗ SI s') ⊢ |={Set.univ}=>
      iprop(⌜s'.mem.mem ((c : Thread nD τ).loc main_v1) = outF m ∧ s'.mem.mem ((c : Thread nD τ).loc main_arg0) = m ((c : Thread nD τ).loc main_arg0)⌝
        ∗ SI s' : sProp 𝕄) := by
  unfold Y xPts
  rw [View.set_whole]
  iintro ⟨⟨Ho, Hx⟩, HSI⟩
  icombine HSI Ho gives %ho
  icombine HSI Hx gives %hx
  imodintro
  isplitr
  · ipureintro
    exact ⟨Buf.eq_of_forall_mem_univ ho, Buf.eq_of_forall_mem_univ hx⟩
  iexact HSI

/-- From any memory with all semaphores at zero, the gather ends with every device's result being all the blocks in order,
    the blocks as they were, and all semaphores at zero. -/
theorem run_main : θ_run defs (onTc (τ := τ) (main (F := F))) ⟨m, fun _ => 0, ρ⟩ fun r =>
    (∀ c : Dev nD, r.2.mem ((c : Thread nD τ).loc main_v1) = outF m ∧ r.2.mem ((c : Thread nD τ).loc main_arg0) = m ((c : Thread nD τ).loc main_arg0))
      ∧ r.2.sem = fun _ => 0 :=
  run_of m ρ (dats m) (body_obligation m) O₀ (fun _ => rfl) (fun _ => rfl) L lv L_of_ne (G m) (G' m) u₀ (records_made m) (dealt m)
    (fun c => by
      show _ ⊢ Φ₀ m c
      unfold Φ₀
      exact sep_mono_right (sep_mono_right (creds c)))
    (Y m)
    (fun c => by
      show Φ₁ m c ⊢ _
      unfold Φ₁ Y
      iintro ⟨Ho, Hx, Hs⟩
      isplitr [Hs]
      · isplitl [Ho] <;> iassumption
      rw [sems0_eq]
      iexact Hs)
    (fun c s => s.mem ((c : Thread nD τ).loc main_v1) = outF m ∧ s.mem ((c : Thread nD τ).loc main_arg0) = m ((c : Thread nD τ).loc main_arg0))
    (read_off m)
    (fun s h hs => ⟨h, sem_eq_zero_of_scoped (by decide) hs⟩)

end Cert.GatherProof

end
-- ==== Proof.Small.Start.lean ====
/-
# How the gather's program starts and ends

The program is one kernel call per device, with nothing before or after it, and the call stages nothing: its two arrays
stay where they are and every transfer is the kernel's own.  Since the devices write into one another's result arrays with
no signal beforehand, what a device may write must be handed out across all devices BEFORE any of them starts.  `run_of`
is that start: all devices' scoped semaphores and arrays go through one common step (`hglob`), the pieces come back
device by device, each device's body runs on its piece, and what the bodies leave is read against the final memory.
-/
module

public import proofs.«01_k».proof.Proof.Gen.SmallIdeal
public import proofs.«01_k».proof.Proof.Gen.SmallIdeal.Skeleton
public import proofs.«01_k».proof.Proof.Gen.SmallIdeal.Launch
public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.SmallProof

open Cert.SmallIdeal Cert.SmallIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-- The fifteen transfer semaphores of the call. -/
abbrev osem : Fin 15 → SemLoc sig := fun i => .dma i

theorem ownSemFacts : Pipeline.OwnSemFacts cfg0.spec osem := by decide

/-- A device's fifteen semaphores, all at zero. -/
abbrev sems0 (c : Dev nD) : sProp 𝕄 := Pipeline.ownSems0 osem c

/-- No other semaphore of the call, and none that stages. -/
abbrev idle0 (c : Dev nD) : sProp 𝕄 := Pipeline.idleSems0 cfgs cellOf_inj (0 : Fin 1) ownSemFacts c

omit [FloatOps F] in
theorem scoped_split (c : Dev nD) :
    (scopedSems0 (c.tc : Thread nD τ) : sProp 𝕄) = iprop((Pipeline.cellsSems0 cfgs (0 : Fin 1) c ∗ sems0 c) ∗ idle0 c) :=
  Pipeline.scopedSems0_split cfgs cellOf_inj (0 : Fin 1) winFacts0.to₀ ownSemFacts c

omit [FloatOps F] in
/-- One level per cell, set on every device at once. -/
theorem levels_set (L : GSem nD τ sig → Finset Unit) (lv : GSem nD τ sig → Unit → ℕ) (hL : ∀ g : GSem nD τ sig, g.1.2 ≠ .tc → L g = ∅) :
    (bigSep Finset.univ fun c : Dev nD => levels0 c) ⊢ (|==> levAts L lv : sProp 𝕄) := by
  have hoff : ∀ d : Dev nD, bigSep (Finset.univ.erase Proc.tc) (fun p => (coreLevAts ((d, p) : Thread nD τ) L lv : sProp 𝕄)) = BI.emp := fun d => by
    refine (bigSep_congr (Ψ := fun _ => (BI.emp : sProp 𝕄)) fun p hp => ?_).trans (BI.bigSep_emp_const _)
    unfold coreLevAts
    refine (bigSep_congr (Ψ := fun _ => (BI.emp : sProp 𝕄)) fun sm _ => ?_).trans (BI.bigSep_emp_const _)
    rw [hL ((d, p), sm) (Finset.ne_of_mem_erase hp), BI.bigSep_empty]
  have hall : (levAts L lv : sProp 𝕄) = iprop((bigSep Finset.univ fun d : Dev nD => coreLevAts (d.tc : Thread nD τ) L lv) ∗ BI.emp) := by
    rw [show (levAts L lv : sProp 𝕄) = bigSep Finset.univ fun c : Thread nD τ => coreLevAts c L lv
      from bigSep_univ_prod fun g : GSem nD τ sig => bigSep (L g) fun ι => levAt g ι (lv g ι), bigSep_threads (fun c : Thread nD τ => coreLevAts c L lv)]
    exact congrArg _ ((bigSep_congr fun d _ => hoff d).trans (BI.bigSep_emp_const _))
  have hfin : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_sep']
    iintro ⟨-, H⟩
    isplitl [H]; · iexact H
    iempintro
  exact (bigSep_mono fun c _ => lev_assign_cells (c.tc : Thread nD τ) L lv).trans ((BI.bigSep_bupd _ _).trans (BI.bupd_mono hfin))

omit [FloatOps F] in
/-- Nothing is staged: the call's entry needs no resource of a window. -/
theorem noWin (Φ : Fin cfg0.W → sProp 𝕄) : bigSep Finset.univ Φ = BI.emp := by
  rw [show (Finset.univ : Finset (Fin cfg0.W)) = ∅ from rfl, BI.bigSep_empty]

/-- THE START.  `hglob` deals the scoped semaphores and the arrays of ALL devices at once; then each device's body runs. -/
theorem run_of (dats : (p : Fin 1) → (c : Dev nD) → Dat τ (Elt F) Unit ℕ UU ℕ (cfgs p) c)
    (hbody : ∀ c, BodyObligation (dats 0 c) (defs₀ (F := F)) 𝒱₀ () Set.univ)
    (O₀ : Dev nD → CellTallies nD τ sig Unit) (howed₀ : ∀ c, (dats 0 c).owed 0 = O₀ c) (howedN : ∀ c, (dats 0 c).owed (Fin.last _) = 0)
    (L : GSem nD τ sig → Finset Unit) (lv : GSem nD τ sig → Unit → ℕ) (hL : ∀ g : GSem nD τ sig, g.1.2 ≠ .tc → L g = ∅)
    (G G' : Dev nD → sProp 𝕄) (u₀ : UU) (hu₀ : (ownU u₀ : sProp 𝕄) ⊢ |={Set.univ}=> bigSep Finset.univ G)
    (hglob : (bigSep Finset.univ fun c => iprop(sems0 c ∗ unscopedBufs c (fun b => m ((c.tc : Thread nD τ).loc b)) ∗ G c) : sProp 𝕄)
      ⊢ |={Set.univ}=> bigSep Finset.univ G')
    (hin : ∀ c, iprop(G' c ∗ levAts L lv ∗ Pipeline.launchCred O₀ c) ⊢ (dats 0 c).Φ 0)
    (Y : Dev nD → sProp 𝕄) (hout : ∀ c, (dats 0 c).Φ (Fin.last cfg0.N) ⊢ iprop(Y c ∗ sems0 c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s) → (∀ g' : GSem nD τ sig, (g'.1.2 ≠ .tc ∨ g'.2.isScoped .tc = true) → s.sem g' = 0) → Q (⟨⟩, s)) :
    θ_run defs (onTc (τ := τ) (main (F := F))) ⟨m, fun _ => 0, ρ⟩ Q := by
  classical
  let pre : Dev nD → sProp 𝕄 := fun c =>
    iprop(scopedBufs (c.tc : Thread nD τ) ∗ idle0 c ∗ owes (c.tc : Thread nD τ) (O₀ c) ∅ ∗ levAts L lv ∗ Pipeline.launchCred O₀ c ∗ G' c)
  let fin : Dev nD → sProp 𝕄 := fun c => iprop(Y c ∗ scopedSems0 (c.tc : Thread nD τ))
  refine (θ_run (Pipeline.defs pcfgs defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcfgs defs₀) _ _ _
      (reflect_intro_fupd_tc_sems (X := Unit) (Variants.lift 𝒱₀) (Pipeline.owing O₀) 0 (noBookings fun _ => le_rfl) (Pipeline.owing_of_ne O₀) u₀
        (fun _ => pre) (fun _ => fin) (fun _ => iprop(emp)) Set.univ ?_ (fun _ c => ?_) fun _ => ?_))
  · -- every device's holdings sorted by kind, the levels set, the common step taken
    have hone (c : Dev nD) :
        coreInit (Ix := Unit) (Name := ℕ) (U := UU) (Lvl := ℕ) (Pipeline.owing O₀) 0 (⟨m, fun _ => 0, ρ⟩ : MemSt nD τ sig (Elt F)) (c.tc : Thread nD τ)
          ⊢ iprop((scopedBufs (c.tc : Thread nD τ) ∗ idle0 c ∗ owes (c.tc : Thread nD τ) (O₀ c) ∅ ∗ Pipeline.launchCred O₀ c)
              ∗ levels0 c ∗ sems0 c ∗ unscopedBufs c (fun b => m ((c.tc : Thread nD τ).loc b))) := by
      refine (Pipeline.coreInit_boundary_owing O₀ m ρ c).trans ?_
      unfold boundary
      rw [scoped_split]
      iintro ⟨⟨Hsb, ⟨⟨-, Hown⟩, Hidle⟩, -⟩, Hub, -, Ho, Hlv, -, Hcr⟩
      isplitl [Hsb Hidle Ho Hcr]
      · isplitl [Hsb]; · iexact Hsb
        isplitl [Hidle]; · iexact Hidle
        isplitl [Ho] <;> iassumption
      isplitl [Hlv]; · iexact Hlv
      isplitl [Hown] <;> iassumption
    have hcores : (bigSep Finset.univ fun c : Dev nD =>
          coreInit (Ix := Unit) (Name := ℕ) (U := UU) (Lvl := ℕ) (Pipeline.owing O₀) 0 (⟨m, fun _ => 0, ρ⟩ : MemSt nD τ sig (Elt F)) (c.tc : Thread nD τ))
        ⊢ iprop((bigSep Finset.univ fun c : Dev nD => iprop(scopedBufs (c.tc : Thread nD τ) ∗ idle0 c ∗ owes (c.tc : Thread nD τ) (O₀ c) ∅ ∗ Pipeline.launchCred O₀ c))
            ∗ (bigSep Finset.univ fun c : Dev nD => levels0 c)
            ∗ (bigSep Finset.univ fun c : Dev nD => iprop(sems0 c ∗ unscopedBufs c (fun b => m ((c.tc : Thread nD τ).loc b)))) : sProp 𝕄) := by
      refine (bigSep_mono fun c _ => hone c).trans ?_
      simp only [bigSep_sep']
      exact BI.Entails.refl _
    iintro ⟨Hcores, Hu⟩
    ihave Hc := hcores $$ Hcores
    icases Hc with ⟨Hkeep, Hlv, Hown⟩
    imod (levels_set L lv hL) $$ Hlv with #Hla
    imod hu₀ $$ Hu with HG
    imod hglob $$ [Hown HG] with HG'
    · simp only [bigSep_sep']
      icases Hown with ⟨H1, H2⟩
      isplitl [H1]; · iexact H1
      isplitl [H2] <;> iassumption
    imodintro
    iexists ()
    isplitr []
    · simp only [pre, bigSep_sep']
      icases Hkeep with ⟨H1, H2, H3, H4⟩
      isplitl [H1]; · iexact H1
      isplitl [H2]; · iexact H2
      isplitl [H3]; · iexact H3
      isplitr
      · iapply (BI.bigSep_intro_persistent (S := Finset.univ) fun (c : Dev nD) _ => (BI.Entails.refl (levAts L lv : sProp 𝕄)))
        iexact Hla
      isplitl [H4] <;> iassumption
    · iempintro
  · -- one device: its call, then the return
    have hsb : (scopedBufs (c.tc : Thread nD τ) : sProp 𝕄) = iprop(Dat.staging cfg0 c ∗ Pipeline.scopedRest cfg0.spec c) :=
      Pipeline.scopedBufs_split cfgs (0 : Fin 1) winFacts0.stage_scoped winFacts0.stage_inj stage_whole0 c
    have hpost : Pipeline.EntryPost cfgs dats () (0 : Fin 1) c ⊢ iprop(∃ W, owes (c.tc : Thread nD τ) (0 : CellTallies nD τ sig Unit) W) := by
      unfold Pipeline.EntryPost Pipeline.PerCore.EntryPost Dat.owesAt Pipeline.owesWithin
      rw [howedN c]
      iintro ⟨-, ⟨%W, -, HW⟩⟩
      iexists W; iexact HW
    simp only [pre]
    rw [show main (F := F) c = .op (.customCall (Pipeline.entry 0) ()) fun _ => .ret ⟨⟩ from rfl]
    iintro ⟨Hsb, Hidle, Ho, #Hla, Hcr, HG⟩
    iapply (Pipeline.wp_customCall_entry_frame pcfgs (fun p => (cfgs p).toPCfg_adm) dats () EP (fun _ => 0) cellOf_inj (0 : Fin 1) defs₀ 𝒱₀ (fun _ => fullShare.right) c Set.univ
        (fun _ _ => Set.mem_univ _) (hbody c).loose block_pos0 none (fun u h => nomatch h)
        (X := iprop(G' c ∗ levAts L lv ∗ Pipeline.launchCred O₀ c)) (Y := Y c) (R := Pipeline.scopedRest cfg0.spec c) (I := idle0 c)
        (Entails.of_eq hsb) (by iintro ⟨HX, -, -⟩; iapply (hin c); iexact HX)
        (by
          rw [hsb, scoped_split, scopedRest0_eq]
          iintro ⟨HΦ, Hcells, Hst, Hidle⟩
          ihave H := (hout c) $$ HΦ
          icases H with ⟨HY, Hown⟩
          isplitl [HY]; · iexact HY
          isplitr [Hst]
          · isplitr [Hidle]
            · isplitl [Hcells] <;> iassumption
            iexact Hidle
          isplitl [Hst]; · iexact Hst
          iempintro)
        (k := fun _ => .ret ⟨⟩) (Q := fun _ => post (liftTc fin BI.emp) (c.tc : Thread nD τ))) $$ [Hsb Hidle Ho Hcr HG]
    · isplitl [Ho]
      · unfold Pipeline.EntryPre Pipeline.PerCore.EntryPre Dat.owesAt Pipeline.owesWithin
        rw [howed₀ c]
        unfold Dat.arrays Pipeline.PerCore.cellsWaits Pipeline.PerCore.cellsInit Pipeline.PerCore.toksInit
          Pipeline.PerCore.RDat.cellsWaits Pipeline.PerCore.RDat.cellsInit
        rw [noWin, noWin, noWin, noWin]
        isplitr; · iempintro
        isplitl [Ho]
        · iexists ∅; isplitr; · ipureintro; rw [Finset.coe_empty]; exact Set.empty_subset _
          iexact Ho
        isplitr; · iempintro
        isplitr <;> iempintro
      isplitr
      · unfold Pipeline.prefHeld
        rw [show (Finset.univ : Finset (Fin (pcfgs (F := F) 0).pre.K)) = ∅ from rfl, BI.bigSep_empty]
        iempintro
      isplitl [Hcr HG]
      · isplitl [HG]; · iexact HG
        isplitr; · iexact Hla
        iexact Hcr
      isplitl [Hidle]; · iexact Hidle
      iexact Hsb
    iintro ⟨Hpost, HY, Hss, -⟩
    rw [wp_ret]; imodintro
    unfold post; simp only [liftTc_tc, fin]
    isplitr [Hpost]
    · isplitl [HY] <;> iassumption
    · iapply hpost; iexact Hpost
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.SmallProof

end
-- ==== Proof.Small.Plan.lean ====
/-
# The plan of the gather: who writes what where, and on which semaphore

Device `d = 4x + 2y + c` holds one block.  Write `flip a d` for the device whose number is `d` with the bits of `a`
turned over.  Transfer `k` of device `d` goes to `peer k d`:

* `k = 0` sends `d`'s own block to the other core of its chip (`flip 1`);
* `k = 1, 2, 3` send it to the same core of the three other chips (`flip 4`, `flip 2`, `flip 6`);
* `k = 4, 5, 6` pass the blocks that came from those three chips on to the other core of the own chip (`flip 1`).

Transfer `k` that ends at device `d` fills slot `inSlot k d` of `d`'s result; with the slot `d` fills itself these are the eight
slots, each once (`slotEquiv`).  Every slot is written to hold the block of the device of its number, so one function
`outF` says what all the slots hold, and a slot is handed on with `outF` in it.

Every semaphore counts one transfer.  The receive semaphores 1–3 are waited for while the passing on is still owed, which
the levels allow: what is owed then lies on receive semaphores 4–6 of the other core, one level higher.
-/
module

public import proofs.«01_k».proof.Proof.Small.Start
public import Idealize.ShloMosaic.Lib.Ring

@[expose] public section

noncomputable section

namespace Cert.SmallProof

open Cert.SmallIdeal Cert.SmallIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices and slots -/

/-- The device whose number differs from `c`'s in the bits of `a`. -/
def flip (a : ℕ) (c : Dev nD) : Dev nD := ⟨(c.val ^^^ a) % 8, Nat.mod_lt _ (by decide)⟩

/-- Whom transfer `k` of a device goes to, and from whom transfer `k` comes. -/
def peer (k : Fin 7) (c : Dev nD) : Dev nD := flip ((![1, 4, 2, 6, 1, 1, 1] : Fin 7 → ℕ) k) c

theorem peer_peer (k : Fin 7) (c : Dev nD) : peer k (peer k c) = c := by revert k c; decide

/-- The slot of `c`'s result that transfer `k` fills. -/
def inSlot (k : Fin 7) (c : Dev nD) : Dev nD := flip ((![1, 4, 2, 6, 5, 3, 7] : Fin 7 → ℕ) k) c

/-- The seven slots that are filled by others and the one a device fills itself are all of them. -/
def slotOf (c : Dev nD) : Fin 7 ⊕ Unit → Dev nD
  | .inl k => inSlot k c
  | .inr _ => c
theorem slotOf_bij (c : Dev nD) : Function.Bijective (slotOf c) := by revert c; decide
def slotEquiv (c : Dev nD) : Fin 7 ⊕ Unit ≃ Dev nD := Equiv.ofBijective (slotOf c) (slotOf_bij c)

/-- The transfers paired with their senders, seen from their receivers. -/
def across : Dev nD × Fin 7 ≃ Dev nD × Fin 7 :=
  ⟨fun x => (peer x.2 x.1, x.2), fun x => (peer x.2 x.1, x.2), fun x => by simp only [peer_peer], fun x => by simp only [peer_peer]⟩

/-! ## Arrays -/

abbrev xM : Memref sig .tc .hbm S72x1024 .f32 := Memref.whole main_arg0
abbrev oM : Memref sig .tc .hbm S8x72x1024 .f32 := Memref.whole main_v1

/-- One block of the result, at an offset. -/
abbrev slotM (off : Fin 3 → ℕ) (h : ∀ a, off a + S1x72x1024.size a ≤ S8x72x1024.size a) : Memref sig .tc .hbm S72x1024 .f32 :=
  (oM.slice (Rect.unit (s := S8x72x1024) off S1x72x1024.size h) (fun _ => rfl)).squeeze S72x1024 squeezes_S1x72x1024_S72x1024

abbrev offJ (j : Dev nD) : Fin 3 → ℕ := ![j.val, 0, 0]
theorem offJ_inb (j : Dev nD) : ∀ a, offJ j a + S1x72x1024.size a ≤ S8x72x1024.size a := by revert j; decide

abbrev slotRect (j : Dev nD) : Rect S8x72x1024 := Rect.unit (s := S8x72x1024) (offJ j) S1x72x1024.size (offJ_inb j)
abbrev slot (j : Dev nD) : Memref sig .tc .hbm S72x1024 .f32 := slotM (offJ j) (offJ_inb j)

theorem slot_set (j : Dev nD) : (slot j).view.set = (slotRect j).set := by
  have h1 := View.set_reshape ((View.whole main_v1).slice (slotRect j)) squeezes_S1x72x1024_S72x1024.numel_eq
  exact h1.trans (View.set_slice_whole main_v1 (slotRect j))

theorem slots_disjoint (j j' : Dev nD) (h : j ≠ j') : Disjoint (slotRect j).set (slotRect j').set :=
  Ring.lead_disjoint (NB := 8) (s := S8x72x1024) 0 1 offJ S1x72x1024.size offJ_inb (fun b => by show b.val = _; omega) rfl j j' h

theorem slots_cover : Finset.univ.biUnion (fun j : Dev nD => (slotRect j).set) = Finset.univ :=
  Ring.lead_cover (NB := 8) (s := S8x72x1024) 0 1 offJ S1x72x1024.size offJ_inb (fun b => by show b.val = _; omega)
    (by intro b a ha; fin_cases a <;> first | exact absurd rfl ha | rfl) rfl (by intro a ha; fin_cases a <;> first | exact absurd rfl ha | rfl) rfl

/-! ## Contents -/

/-- Where an element of the result comes from: the device of its slot … -/
def dev0 (i : S8x72x1024.Idx) : Dev nD := ⟨(i (0 : Fin 3)).val, (i (0 : Fin 3)).isLt⟩
/-- … and the place in that device's block. -/
def row (i : S8x72x1024.Idx) : S72x1024.Idx := fun a => i (Fin.succ a)

/-- The gathered result: slot `j` holds device `j`'s block. -/
def outF : (main_v1 : Ref sig .tc).ty.Contents (Elt F) := fun i => m ((dev0 i : Thread nD τ).loc main_arg0) (row i)

omit [FloatOps F] in
theorem outF_slot (j : Dev nD) (y : S72x1024.Idx) :
    outF m ((slot j).view.emb y) = m ((j : Thread nD τ).loc main_arg0) y := by
  have he : ∀ a, ((slot j).view.emb y a).val = offJ j a + 1 * ((Fin.cons ⟨0, Nat.one_pos⟩ y : S1x72x1024.Idx) a).val := fun a => by
    have e := Shape.reshapeEquiv_cons_one (d := ![72, 1024]) squeezes_S1x72x1024_S72x1024.numel_eq y
    exact congrArg (fun z : S1x72x1024.Idx => offJ j a + 1 * (z a).val) e
  have h0 : dev0 ((slot j).view.emb y) = j := Fin.ext ((he 0).trans (by show j.val + 1 * 0 = j.val; omega))
  have hr : row ((slot j).view.emb y) = y := funext fun a => Fin.ext ((he a.succ).trans (by
    fin_cases a
    · show 0 + 1 * (y 0).val = (y 0).val; omega
    · show 0 + 1 * (y 1).val = (y 1).val; omega))
  unfold outF
  rw [h0, hr]

omit [FloatOps F] in
/-- A device's block landed in its slot. -/
theorem landed_x (j : Dev nD) (fd : (main_v1 : Ref sig .tc).ty.Contents (Elt F)) (i) (hi : i ∈ (slot j).view.set) :
    (slot j).view.write (Elt F) fd (xM.view.read (Elt F) (m ((j : Thread nD τ).loc main_arg0))) Finset.univ i = outF m i := by
  obtain ⟨y, -, rfl⟩ := Finset.mem_map.mp hi
  rw [View.write_emb_of_mem _ _ (Finset.mem_univ y), outF_slot]; rfl

omit [FloatOps F] in
/-- A slot passed on into the same slot elsewhere. -/
theorem landed_slot (j : Dev nD) (fd : (main_v1 : Ref sig .tc).ty.Contents (Elt F)) (i) (hi : i ∈ (slot j).view.set) :
    (slot j).view.write (Elt F) fd ((slot j).view.read (Elt F) (outF m)) Finset.univ i = outF m i := by
  obtain ⟨y, -, rfl⟩ := Finset.mem_map.mp hi
  rw [View.write_emb_of_mem _ _ (Finset.mem_univ y)]; rfl

/-! ## What a device holds -/

/-- Slot `j` of device `c`'s result, whole, holding `f`. -/
def slotPts (c j : Dev nD) (f : (main_v1 : Ref sig .tc).ty.Contents (Elt F)) : sProp 𝕄 :=
  (slot j).view.loc (c : Thread nD τ) ↦[(slot j).view.set]{fullShare} f

/-- Device `c`'s block at a share. -/
def xPts (q : PosShare TreeShare) (c : Dev nD) : sProp 𝕄 :=
  (xM).view.loc (c : Thread nD τ) ↦[(xM).view.set]{q} m ((c : Thread nD τ).loc main_arg0)

omit [FloatOps F] in
instance slotPts_storable (c j : Dev nD) (f) : BI.Storable (upEmb : UEmb _ 𝕄) (slotPts (F := F) c j f) := by unfold slotPts; infer_instance
omit [FloatOps F] in
instance xPts_storable (q) (c : Dev nD) : BI.Storable (upEmb : UEmb _ 𝕄) (xPts (F := F) m q c) := by unfold xPts; infer_instance

omit [FloatOps F] in
/-- The result held whole is held slot by slot: the seven slots others fill, and the own one. -/
theorem result_slots (c : Dev nD) (f : (main_v1 : Ref sig .tc).ty.Contents (Elt F)) :
    (((c : Thread nD τ).loc main_v1) ↦{fullShare} f : sProp 𝕄)
      = iprop((bigSep Finset.univ fun k : Fin 7 => slotPts c (inSlot k c) f) ∗ slotPts c c f) := by
  have hb : (((c : Thread nD τ).loc main_v1) ↦{fullShare} f : sProp 𝕄) = bigSep Finset.univ fun j : Dev nD => slotPts c j f := by
    refine (Ring.pointsTo_blocks (ℓ := (c : Thread nD τ).loc main_v1) (fun j : Dev nD => (slotRect j).set) slots_disjoint slots_cover f).trans ?_
    exact bigSep_congr fun j _ => by unfold slotPts; rw [slot_set]
  rw [hb]
  refine (bigSep_univ_equiv (slotEquiv c) (fun j : Dev nD => (slotPts c j f : sProp 𝕄))).trans ?_
  rw [bigSep_univ_sum, bigSep_univ_of_subsingleton ()]
  rfl

/-- The five shares of a device's block: four for the first four transfers, one for the copy into the own slot. -/
def shr : ℕ → PosShare TreeShare
  | 0 => fullShare.left
  | 1 => fullShare.right.left
  | 2 => fullShare.right.right.left
  | 3 => fullShare.right.right.right.left
  | _ => fullShare.right.right.right.right

omit [FloatOps F] in
theorem x_shares (c : Dev nD) :
    xPts m fullShare c ⊣⊢ (iprop(xPts m (shr 0) c ∗ xPts m (shr 1) c ∗ xPts m (shr 2) c ∗ xPts m (shr 3) c ∗ xPts m (shr 4) c) : sProp 𝕄) := by
  have h (q : PosShare TreeShare) : xPts m q c ⊣⊢ (iprop(xPts m q.left c ∗ xPts m q.right c) : sProp 𝕄) := by
    unfold xPts; exact pointsTo_share (PosShare.mem_left_op_right q)
  constructor
  · refine (h _).1.trans (sep_mono_right ((h _).1.trans (sep_mono_right ((h _).1.trans (sep_mono_right (h _).1)))))
  · exact (sep_mono_right ((sep_mono_right ((sep_mono_right (h _).2).trans (h _).2)).trans (h _).2)).trans (h _).2

/-! ## The semaphores -/

/-- Send, receive and copy semaphores among the fifteen. -/
abbrev sI (k : Fin 7) : Fin 15 := ⟨k.val, by omega⟩
abbrev vI (k : Fin 7) : Fin 15 := ⟨7 + k.val, by omega⟩
abbrev lI : Fin 15 := 14

def parts : Fin 7 ⊕ Fin 7 ⊕ Unit ≃ Fin 15 where
  toFun | .inl k => sI k | .inr (.inl k) => vI k | .inr (.inr _) => lI
  invFun i := if h : i.val < 7 then .inl ⟨i.val, h⟩ else if h' : i.val < 14 then .inr (.inl ⟨i.val - 7, by omega⟩) else .inr (.inr ())
  left_inv := by decide
  right_inv := by decide

theorem bigSep_parts (Φ : Fin 15 → sProp 𝕄) :
    bigSep Finset.univ Φ = iprop((bigSep Finset.univ fun k : Fin 7 => Φ (sI k)) ∗ (bigSep Finset.univ fun k : Fin 7 => Φ (vI k)) ∗ Φ lI) := by
  rw [bigSep_univ_equiv parts Φ, bigSep_univ_sum, bigSep_univ_sum, bigSep_univ_of_subsingleton ()]
  rfl

abbrev kcell (ck : Dev nD × Fin 15) : GSem nD τ sig := ((ck.1 : Thread nD τ), .dma ck.2)
abbrev sCell (k : Fin 7) (c : Dev nD) : GSem nD τ sig := kcell (c, sI k)
abbrev vCell (k : Fin 7) (c : Dev nD) : GSem nD τ sig := kcell (c, vI k)
abbrev lCell (c : Dev nD) : GSem nD τ sig := kcell (c, lI)

theorem kcell_injective : Function.Injective kcell := by
  rintro ⟨c, i⟩ ⟨c', i'⟩ h
  have h1 : c = c' := congrArg (fun g : GSem nD τ sig => g.1.1) h
  have h2 : i = i' := SemLoc.dma.inj (congrArg Prod.snd h)
  rw [h1, h2]

/-- What one transfer counts. -/
theorem credit_exists : ∃ n : ℕ, 0 < n ∧ ∀ M : Memref sig .tc .hbm S72x1024 .f32, M.view.dmaCredit = n :=
  ⟨RefSig.tileCredit S72x1024 .f32, RefSig.tileCredit_pos _ _ (Shape.numel_pos (by decide)), fun _ => rfl⟩
def N : ℕ := credit_exists.choose
theorem N_pos : 0 < N := credit_exists.choose_spec.1
theorem credit_N (M : Memref sig .tc .hbm S72x1024 .f32) : M.view.dmaCredit = N := credit_exists.choose_spec.2 M

/-! ## The schedule -/

/-- What a send semaphore hands back: a share of the own block, or the slot that was passed on. -/
def sPay (k : Fin 7) (c : Dev nD) : sProp 𝕄 :=
  if k.val < 4 then xPts m (shr k.val) c else slotPts c (inSlot ⟨k.val - 3, by omega⟩ c) (outF m)

/-- What each semaphore hands its device. -/
def payOf (c : Dev nD) : Fin 7 ⊕ Fin 7 ⊕ Unit → sProp 𝕄
  | .inl k => sPay m k c
  | .inr (.inl k) => slotPts c (inSlot k c) (outF m)
  | .inr (.inr _) => iprop(slotPts c c (outF m) ∗ xPts m (shr 4) c)
def pay (c : Dev nD) (i : Fin 15) : sProp 𝕄 := payOf m c (parts.symm i)

omit [FloatOps F] in
theorem pay_s (c : Dev nD) (k : Fin 7) : pay m c (sI k) = sPay m k c := congrArg (payOf m c) (parts.symm_apply_apply (.inl k))
omit [FloatOps F] in
theorem pay_v (c : Dev nD) (k : Fin 7) : pay m c (vI k) = slotPts c (inSlot k c) (outF m) :=
  congrArg (payOf m c) (parts.symm_apply_apply (.inr (.inl k)))
omit [FloatOps F] in
theorem pay_l (c : Dev nD) : pay m c lI = (iprop(slotPts c c (outF m) ∗ xPts m (shr 4) c) : sProp 𝕄) :=
  congrArg (payOf m c) (parts.symm_apply_apply (.inr (.inr ())))

omit [FloatOps F] in
instance pay_storable (c : Dev nD) (i : Fin 15) : BI.Storable (upEmb : UEmb _ 𝕄) (pay (F := F) m c i) := by
  unfold pay payOf sPay
  split
  · split <;> infer_instance
  · infer_instance
  · infer_instance

def isDma : SemLoc sig → Bool
  | .dma _ => true
  | _ => false

def Rd : Rounds.Schedule (GSem nD τ sig) Unit 𝕄 where
  duties g r := if r = 0 ∧ g.1.2 = .tc ∧ isDma g.2 = true then {()} else ∅
  unitless _ := False
  amount _ _ _ := N
  payload g _ _ := match g.2 with
    | .dma i => pay m g.1.1 i
    | _ => iprop(emp)
  amount_pos _ _ _ _ := N_pos

omit [FloatOps F] in
instance Rd_payload_storable (g : GSem nD τ sig) (r : ℕ) (d : Unit) : BI.Storable (upEmb : UEmb _ 𝕄) ((Rd (F := F) m).payload g r d) := by
  show BI.Storable upEmb (match g.2 with
    | .dma i => pay m g.1.1 i
    | _ => iprop(emp))
  split <;> infer_instance

omit [FloatOps F] in
theorem duties_0 (ck : Dev nD × Fin 15) : (Rd (F := F) m).duties (kcell ck) 0 = {()} := by
  unfold Rd; dsimp only; rw [if_pos ⟨rfl, rfl, rfl⟩]
omit [FloatOps F] in
theorem duties_mem (ck : Dev nD × Fin 15) : () ∈ (Rd (F := F) m).duties (kcell ck) 0 := by rw [duties_0]; exact Finset.mem_singleton_self _
omit [FloatOps F] in
theorem duties_later (g : GSem nD τ sig) : ∀ r, 1 ≤ r → (Rd (F := F) m).duties g r = ∅ :=
  fun r hr => by unfold Rd; dsimp only; rw [if_neg (fun h => absurd h.1 (Nat.ne_of_gt hr))]
omit [FloatOps F] in
theorem expect_0 (ck : Dev nD × Fin 15) : (Rd (F := F) m).expect (kcell ck) 0 = N := by
  unfold Schedule.expect Schedule.amountOf; rw [duties_0, Finset.sum_singleton]; rfl
omit [FloatOps F] in
theorem rest_0 (ck : Dev nD × Fin 15) :
    bigSep ((Rd (F := F) m).duties (kcell ck) 0 \ ∅) (fun u => (Rd (F := F) m).payload (kcell ck) 0 u) = pay m ck.1 ck.2 := by
  rw [Finset.sdiff_empty, duties_0, bigSep_singleton]; rfl

/-! ## What is owed, and the levels -/

/-- Still owed by device `c` when the transfers `ks` are yet to be started. -/
def ow (c : Dev nD) : List (Fin 7) → CellTallies nD τ sig Unit
  | [] => 0
  | k :: ks => ow c ks + tallyAt (vCell k (peer k c)) () N

def O₀ (c : Dev nD) : CellTallies nD τ sig Unit := ow c [0, 1, 2, 3, 4, 5, 6]

theorem ow_pos {c : Dev nD} {ks : List (Fin 7)} {g : GSem nD τ sig} {u : Unit} (h : 0 < ow c ks g u) : ∃ k ∈ ks, g = vCell k (peer k c) := by
  induction ks with
  | nil => exact absurd h (Nat.lt_irrefl 0)
  | cons k ks ih =>
    unfold ow at h
    rw [Pi.add_apply, Finsupp.add_apply, tallyAt_apply] at h
    by_cases hg : g = vCell k (peer k c) ∧ u = ()
    · exact ⟨k, List.mem_cons_self, hg.1⟩
    · rw [if_neg hg, Nat.add_zero] at h
      obtain ⟨k', hk', e⟩ := ih h
      exact ⟨k', List.mem_cons_of_mem _ hk', e⟩

def L (g : GSem nD τ sig) : Finset Unit := if g.1.2 = .tc then {()} else ∅
def lvI (i : Fin 15) : ℕ := if 8 ≤ i.val ∧ i.val ≤ 10 then 1 else if 7 ≤ i.val ∧ i.val ≤ 13 then 2 else 0
def lv (g : GSem nD τ sig) (_ : Unit) : ℕ := match g.2 with
  | .dma i => lvI i
  | _ => 0
theorem L_of_ne (g : GSem nD τ sig) (h : g.1.2 ≠ .tc) : L g = ∅ := if_neg h

omit [FloatOps F] in
/-- Waiting for the blocks of the other chips while passing on is still owed. -/
theorem mayWait_chip (c : Dev nD) (i : Fin 15) (hi : lvI i = 1) (ks : List (Fin 7)) (hks : ∀ k ∈ ks, lvI (vI k) = 2) :
    (levAts L lv : sProp 𝕄) ⊢ MayWait (c : Thread nD τ) (.dma i) () (ow c ks) :=
  MayOwe.of_cut (L := L) (lev := lv) 1 (fun p hp => by rw [Finset.mem_singleton.mp hp]; exact Finset.mem_singleton_self _)
    (fun g u hg => by obtain ⟨k, -, rfl⟩ := ow_pos hg; exact Finset.mem_singleton_self _)
    (fun p hp => by rw [Finset.mem_singleton.mp hp]; exact le_of_eq hi)
    (fun g u hg => by
      obtain ⟨k, hk, rfl⟩ := ow_pos hg
      show 1 < lvI (vI k)
      rw [hks k hk]; decide)

/-! ## The credit each device starts with -/

theorem vCell_eq_iff {k k' : Fin 7} {c c' : Dev nD} : Iff (vCell k c = vCell k' c') (k = k' ∧ c = c') :=
  ⟨fun h => by
    have := kcell_injective h
    have h2 : 7 + k.val = 7 + k'.val := congrArg (fun x : Dev nD × Fin 15 => x.2.val) this
    exact ⟨Fin.ext (by omega), congrArg Prod.fst this⟩, fun ⟨h, h'⟩ => by rw [h, h']⟩

theorem ow_at (d c : Dev nD) (k : Fin 7) (ks : List (Fin 7)) : ow d ks (vCell k c) () = if d = peer k c then ks.count k * N else 0 := by
  induction ks with
  | nil => simp only [ow, List.count_nil, Nat.zero_mul, ite_self]; rfl
  | cons k' ks ih =>
    unfold ow
    rw [Pi.add_apply, Finsupp.add_apply, ih, tallyAt_apply]
    by_cases hk : k' = k
    · subst hk
      by_cases hd : d = peer k' c
      · rw [if_pos hd, if_pos hd, if_pos ⟨vCell_eq_iff.mpr ⟨rfl, by rw [hd, peer_peer]⟩, rfl⟩, List.count_cons_self, Nat.succ_mul]
      · rw [if_neg hd, if_neg hd, if_neg (fun ⟨h, _⟩ => hd (by rw [(vCell_eq_iff.mp h).2, peer_peer]))]
    · have hne : ¬ (vCell k c = vCell k' (peer k' d) ∧ () = ()) := fun h => hk (vCell_eq_iff.mp h.1).1.symm
      rw [if_neg hne, List.count_cons_of_ne hk, Nat.add_zero]

omit [FloatOps F] in
theorem launch_v (c : Dev nD) (k : Fin 7) :
    tallyOn (vCell k c) (launchCredit (Pipeline.owing O₀) 0 (vCell k c)) = (tallyAt (vCell k c) () N : CellTallies nD τ sig Unit) := by
  unfold tallyAt; refine congrArg _ (Finsupp.ext fun u => ?_); cases u
  have hc : List.count k [0, 1, 2, 3, 4, 5, 6] = 1 := by revert k; decide
  rw [Pipeline.launchCredit_owing, Finsupp.single_eq_same, Finset.sum_congr rfl fun d _ => show O₀ d (vCell k c) () = if d = peer k c then N else 0 by
      unfold O₀; rw [ow_at, hc, Nat.one_mul],
    Finset.sum_ite_eq' Finset.univ (peer k c) fun _ => N, if_pos (Finset.mem_univ _)]

omit [FloatOps F] in
theorem creds (c : Dev nD) : (Pipeline.launchCred O₀ c : sProp 𝕄) ⊢ bigSep Finset.univ fun k : Fin 7 => cred (tallyAt (vCell k c) () N) := by
  have hinj : Function.Injective fun k : Fin 7 => (SemLoc.dma (vI k) : SemLoc sig) := fun k k' h => by
    have : 7 + k.val = 7 + k'.val := congrArg Fin.val (SemLoc.dma.inj h)
    exact Fin.ext (by omega)
  unfold Pipeline.launchCred
  refine (BI.bigSep_subset (Finset.subset_univ (Finset.univ.map ⟨_, hinj⟩))).trans ?_
  rw [bigSep_map]
  exact Entails.of_eq (bigSep_congr fun k _ => by rw [← launch_v]; rfl)

end Cert.SmallProof

end
-- ==== Proof.Small.Steps.lean ====
/-
# The steps of the kernel, each proved once

A transfer to another device, the copy into the own slot, and a wait — at any device, any transfer, any semaphore.  The
kernel's own offsets, devices and semaphores come in as equations.
-/
module

public import proofs.«01_k».proof.Proof.Small.Plan

@[expose] public section

noncomputable section

namespace Cert.SmallProof

open Cert.SmallIdeal Cert.SmallIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What everybody knows of every semaphore. -/
def records (K : Dev nD × Fin 15 → ℕ) : sProp 𝕄 :=
  iprop((bigSep Finset.univ fun ck => cellInv ER (Rd m) (K ck) (kcell ck)) ∗ bigSep Finset.univ fun ck => reached ER (kcell ck) 0)

instance records_persistent (K : Dev nD × Fin 15 → ℕ) : BI.Persistent (records (F := F) m K) := by unfold records; infer_instance

theorem inv_at (K : Dev nD × Fin 15 → ℕ) (ck : Dev nD × Fin 15) : records m K ⊢ (cellInv ER (Rd m) (K ck) (kcell ck) : sProp 𝕄) := by
  unfold records
  exact sep_elim_left.trans (bigSep_elim (Finset.mem_univ ck))
theorem reached_at (K : Dev nD × Fin 15 → ℕ) (ck : Dev nD × Fin 15) : records m K ⊢ (reached ER (kcell ck) 0 : sProp 𝕄) := by
  unfold records
  exact sep_elim_right.trans (bigSep_elim (Finset.mem_univ ck))

/-- Transfer `k` of device `c`, into slot `j` of `peer k c`. -/
theorem send_step (K : Dev nD × Fin 15 → ℕ) (c : Dev nD) (k : Fin 7) (ks : List (Fin 7)) (j : Dev nD) (hj : inSlot k (peer k c) = j)
    {n : Dev nD} (hn : n = peer k c) {src : Memref sig .tc .hbm S72x1024 .f32}
    {off : Fin 3 → ℕ} {h : ∀ a, off a + S1x72x1024.size a ≤ S8x72x1024.size a} (hoff : off = offJ j)
    {sS sR : DmaSem sig} (hs : sS = sI k) (hv : sR = vI k)
    {hsc : (slotM off h : Memref sig (Dev.tc n : Thread nD τ).2.kind .hbm S72x1024 .f32).view.ref.isScScratch = false}
    {hsrc : src.view.WordExact} {hdst : (slotM off h).view.WordExact}
    {hsem : DmaTarget.Typed .hbm (.dma sR) (.remote (Dev.tc n : Thread nD τ) (slotM off h) (.dma sS) hsc)}
    {q : PosShare TreeShare} {fs : Buf (Elt F) (src.view.loc (c : Thread nD τ))} (fd : (main_v1 : Ref sig .tc).ty.Contents (Elt F))
    (W : Waits sig Unit)
    (hpay : (src.view.loc (c : Thread nD τ) ↦[src.view.set]{q} fs) ⊢ sPay m k c)
    (hland : ∀ i ∈ (slot j).view.set, (slot j).view.write (Elt F) fd (src.view.read (Elt F) fs) Finset.univ i = outF m i)
    {α : Type} {Q : α → sProp 𝕄} {kk : PUnit → Prog (TpuEff nD τ sig (Elt F) Λ₀ .tc) α} :
    iprop(records m K ∗ (src.view.loc (c : Thread nD τ) ↦[src.view.set]{q} fs) ∗ slotPts (peer k c) j fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) (slotM off h) (.dma sS) hsc) (.dma sR) hsrc hdst hsem) kk) Q) := by
  subst hn hoff hs hv
  refine BIBase.Entails.trans ?_ (Rounds.wp_send_pointsTo 𝒱₀ ER (Rd m) (c : Thread nD τ) none (c' := (peer k c : Thread nD τ)) (src := src) (dst := slot j)
    (hsc := hsc) (hsrc := hsrc) (hdst := hdst) (hsem := hsem) (k := kk) (Q := Q) (q := q) (fs := fs)
    (κ₁ := K (c, sI k)) (κ₂ := K (peer k c, vI k)) (r₁ := 0) (r₂ := 0) (d₁ := ()) (d₂ := ()) (fd := fd) (Es := Set.univ)
    (duties_mem m (c, sI k)) (duties_mem m (peer k c, vI k)) () () N (credit_N _) rfl rfl (ow c ks) rfl (W := W)
    (hpay.trans (Entails.of_eq (pay_s m c k).symm))
    (by
      refine BIBase.Entails.trans ?_ (Entails.of_eq (pay_v m (peer k c) k).symm)
      rw [hj]; unfold slotPts
      exact Entails.of_eq (pointsTo_congr hland)))
  unfold slotPts
  iintro ⟨#HR, Hsrc, Hdst, Ho, Ht1, Ht2⟩
  isplitr; · iapply (inv_at m K (c, sI k)); iexact HR
  isplitr; · iapply (inv_at m K (peer k c, vI k)); iexact HR
  isplitl [Hsrc]; · iexact Hsrc
  isplitl [Hdst]; · iexact Hdst
  isplitl [Ho]; · iexact Ho
  isplitl [Ht1]; · iexact Ht1
  isplitr; · iapply (reached_at m K (c, sI k)); iexact HR
  isplitl [Ht2]; · iexact Ht2
  iapply (reached_at m K (peer k c, vI k)); iexact HR

/-- One of the first four transfers: the own block. -/
theorem send_own (K : Dev nD × Fin 15 → ℕ) (c : Dev nD) (k : Fin 7) (hk : k.val < 4) (ks : List (Fin 7)) (hj : inSlot k (peer k c) = c)
    {n : Dev nD} (hn : n = peer k c) {off : Fin 3 → ℕ} {h : ∀ a, off a + S1x72x1024.size a ≤ S8x72x1024.size a} (hoff : off = offJ c)
    {sS sR : DmaSem sig} (hs : sS = sI k) (hv : sR = vI k)
    {hsc : (slotM off h : Memref sig (Dev.tc n : Thread nD τ).2.kind .hbm S72x1024 .f32).view.ref.isScScratch = false}
    {hsrc : xM.view.WordExact} {hdst : (slotM off h).view.WordExact}
    {hsem : DmaTarget.Typed .hbm (.dma sR) (.remote (Dev.tc n : Thread nD τ) (slotM off h) (.dma sS) hsc)}
    (fd : (main_v1 : Ref sig .tc).ty.Contents (Elt F)) (W : Waits sig Unit)
    {α : Type} {Q : α → sProp 𝕄} {kk : PUnit → Prog (TpuEff nD τ sig (Elt F) Λ₀ .tc) α} :
    iprop(records m K ∗ xPts m (shr k.val) c ∗ slotPts (peer k c) c fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (.remote (Dev.tc n : Thread nD τ) (slotM off h) (.dma sS) hsc) (.dma sR) hsrc hdst hsem) kk) Q) :=
  send_step m K c k ks c hj hn hoff hs hv fd W (by unfold sPay; rw [if_pos hk]; exact Entails.of_eq rfl) (landed_x m c fd)

/-- One of the last three: a slot that has come from another chip. -/
theorem send_on (K : Dev nD × Fin 15 → ℕ) (c : Dev nD) (k : Fin 7) (hk : ¬ k.val < 4) (ks : List (Fin 7)) (j : Dev nD)
    (hj : inSlot k (peer k c) = j) (hj' : inSlot ⟨k.val - 3, by omega⟩ c = j)
    {n : Dev nD} (hn : n = peer k c) {off : Fin 3 → ℕ} {h h' : ∀ a, off a + S1x72x1024.size a ≤ S8x72x1024.size a} (hoff : off = offJ j)
    {sS sR : DmaSem sig} (hs : sS = sI k) (hv : sR = vI k)
    {hsc : (slotM off h : Memref sig (Dev.tc n : Thread nD τ).2.kind .hbm S72x1024 .f32).view.ref.isScScratch = false}
    {hsrc : (slotM off h').view.WordExact} {hdst : (slotM off h).view.WordExact}
    {hsem : DmaTarget.Typed .hbm (.dma sR) (.remote (Dev.tc n : Thread nD τ) (slotM off h) (.dma sS) hsc)}
    (fd : (main_v1 : Ref sig .tc).ty.Contents (Elt F)) (W : Waits sig Unit)
    {α : Type} {Q : α → sProp 𝕄} {kk : PUnit → Prog (TpuEff nD τ sig (Elt F) Λ₀ .tc) α} :
    iprop(records m K ∗ slotPts c j (outF m) ∗ slotPts (peer k c) j fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM off h') (.remote (Dev.tc n : Thread nD τ) (slotM off h) (.dma sS) hsc) (.dma sR) hsrc hdst hsem) kk) Q) := by
  subst hoff
  exact send_step m K c k ks j hj hn rfl hs hv fd W (src := slot j) (q := fullShare) (fs := outF m)
    (by unfold sPay; rw [if_neg hk, hj']; unfold slotPts; exact Entails.of_eq rfl) (landed_slot m j fd)

/-- The copy of the own block into the own slot. -/
theorem copy_step (K : Dev nD × Fin 15 → ℕ) (c : Dev nD)
    {off : Fin 3 → ℕ} {h : ∀ a, off a + S1x72x1024.size a ≤ S8x72x1024.size a} (hoff : off = offJ c)
    {sL : DmaSem sig} (hs : sL = lI) {hsrc : xM.view.WordExact} {hdst : (slotM off h).view.WordExact}
    {hsem : (DmaTarget.here (slotM off h) : DmaTarget nD τ sig (.tc : Proc τ) .hbm S72x1024 .f32).Typed .hbm (SemLoc.dma sL)}
    (fd : (main_v1 : Ref sig .tc).ty.Contents (Elt F))
    {α : Type} {Q : α → sProp 𝕄} {kk : PUnit → Prog (TpuEff nD τ sig (Elt F) Λ₀ .tc) α} :
    iprop(records m K ∗ xPts m (shr 4) c ∗ slotPts c c fd ∗ dutyTok ER (lCell c) 0 ())
      ⊢ iprop((cred (tallyAt (lCell c) () N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (.here (slotM off h)) (.dma sL) hsrc hdst hsem) kk) Q) := by
  subst hoff hs
  refine BIBase.Entails.trans ?_ (Rounds.wp_copy_pointsTo 𝒱₀ ER (Rd m) (c : Thread nD τ) none (src := xM) (dst := slot c)
    (hsrc := hsrc) (hdst := hdst) (hsem := hsem) (k := kk) (Q := Q) (q := shr 4) (fs := m ((c : Thread nD τ).loc main_arg0))
    (κ := K (c, lI)) (r := 0) (d := ()) (fd := fd) (Es := Set.univ)
    (duties_mem m (c, lI)) () N (credit_N _) rfl
    (by
      refine BIBase.Entails.trans ?_ (Entails.of_eq (pay_l m c).symm)
      unfold slotPts xPts
      exact sep_mono_left (Entails.of_eq (pointsTo_congr (landed_x m c fd)))))
  unfold slotPts xPts
  iintro ⟨#HR, Hsrc, Hdst, Ht⟩
  isplitr; · iapply (inv_at m K (c, lI)); iexact HR
  isplitl [Hsrc]; · iexact Hsrc
  isplitl [Hdst]; · iexact Hdst
  isplitl [Ht]; · iexact Ht
  iapply (reached_at m K (c, lI)); iexact HR

/-- A wait for one transfer, on any of the fifteen semaphores: what it guards comes with it, and the semaphore is spent. -/
theorem wait_step (K : Dev nD × Fin 15 → ℕ) (c : Dev nD) (i : Fin 15) {s : DmaSem sig} (hs : s = i)
    {sp' : Space} {s' : Shape} {e' : EltTy} {src : Memref sig .tc sp' s' e'} {dst : Memref sig .tc .hbm S72x1024 .f32}
    {hsrc : src.view.WordExact} {hdst : dst.view.WordExact} (O : CellTallies nD τ sig Unit) (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) O W ∗ MayWait (c : Thread nD τ) (.dma i) () O
        ∗ atPos ER (kcell (c, i)) 0 ∅ 0)
      ⊢ iprop(((owes (c : Thread nD τ) O (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  iintro ⟨#HR, Hc, Ho, Hm, Hat⟩ Hk
  iapply (Rounds.wp_wait_rest_token 𝒱₀ ER (Rd m) (c : Thread nD τ) none (κ := K (c, s))
      (wpE_waitDma2_eq 𝒱₀ (c : Thread nD τ) none Set.univ) (Set.mem_univ _) () (O := O) (W := W) (R := 0) (m := 0) (T := ∅)
      (by rw [Nat.zero_add, credit_N, expect_0 m (c, s)])) $$ [Hc Ho Hm Hat]
  · isplitr; · iapply (inv_at m K (c, s)); iexact HR
    isplitl [Hc]; · rw [credit_N]; iexact Hc
    isplitl [Ho]; · iexact Ho
    isplitl [Hm]; · iexact Hm
    iexact Hat
  iintro ⟨Ho, Hat, -, Hpay⟩
  ihave Hp := (Entails.of_eq (rest_0 m (c, s))) $$ Hpay
  imod (Rounds.cell_close ER (Rd m) (Set.mem_univ (K (c, s))) (fun h => h) (R := 0 + 1) (duties_later m (kcell (c, s)))) $$ [Hat] with Hz
  · isplitr; · iapply (inv_at m K (c, s)); iexact HR
    iexact Hat
  iapply Hk
  isplitl [Ho]; · iexact Ho
  isplitl [Hp]; · iexact Hp
  iexact Hz

end Cert.SmallProof

end
-- ==== Proof.Small.Walk.lean ====
/-
# The kernel's body, at any device

One walk through the body at a symbolic device `c`, from what the launch deals it (`Φ₀`) to the gathered result with every
semaphore spent (`Φ₁`).
-/
module

public import proofs.«01_k».proof.Proof.Gen.SmallIdeal.Points
public import proofs.«01_k».proof.Proof.Small.Steps

@[expose] public section

noncomputable section

namespace Cert.SmallProof

open Cert.SmallIdeal Cert.SmallIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's devices and offsets -/

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 3 c := Fin.ext ((k0_dev4_eq c).trans (by revert c; decide))
theorem dev5_eq (c : Dev nD) : (⟨k0_dev5 c, k0_dev5_lt c⟩ : Dev nD) = peer 4 c := Fin.ext ((k0_dev5_eq c).trans (by revert c; decide))
theorem dev6_eq (c : Dev nD) : (⟨k0_dev6 c, k0_dev6_lt c⟩ : Dev nD) = peer 5 c := Fin.ext ((k0_dev6_eq c).trans (by revert c; decide))
theorem dev7_eq (c : Dev nD) : (⟨k0_dev7 c, k0_dev7_lt c⟩ : Dev nD) = peer 6 c := Fin.ext ((k0_dev7_eq c).trans (by revert c; decide))

theorem off1_eq (c : Dev nD) : k0_off1 c = offJ c := by rw [k0_off1_eq]; revert c; decide
theorem off2_eq (c : Dev nD) : k0_off2 c = offJ (inSlot 1 c) := by rw [k0_off2_eq]; revert c; decide
theorem off3_eq (c : Dev nD) : k0_off3 c = offJ (inSlot 2 c) := by rw [k0_off3_eq]; revert c; decide
theorem off4_eq (c : Dev nD) : k0_off4 c = offJ (inSlot 3 c) := by rw [k0_off4_eq]; revert c; decide

/-- A block sent to another chip or core lands in the slot of its sender; one passed on lands in the slot it had. -/
theorem lands_own (k : Fin 7) (hk : k.val < 4) (c : Dev nD) : inSlot k (peer k c) = c := by revert k c; decide
theorem lands_on4 (c : Dev nD) : inSlot 4 (peer 4 c) = inSlot 1 c := by revert c; decide
theorem lands_on5 (c : Dev nD) : inSlot 5 (peer 5 c) = inSlot 2 c := by revert c; decide
theorem lands_on6 (c : Dev nD) : inSlot 6 (peer 6 c) = inSlot 3 c := by revert c; decide

/-! ## Before and after -/

/-- The right to pay each transfer, at its sender. -/
def toks (c : Dev nD) : sProp 𝕄 :=
  iprop((bigSep Finset.univ fun k : Fin 7 => dutyTok ER (sCell k c) 0 ()) ∗ (bigSep Finset.univ fun k : Fin 7 => dutyTok ER (vCell k (peer k c)) 0 ())
    ∗ dutyTok ER (lCell c) 0 ())

/-- The slots a device will write, wherever they are, and its own block. -/
def held (c : Dev nD) : sProp 𝕄 :=
  iprop((bigSep Finset.univ fun k : Fin 7 => slotPts (peer k c) (inSlot k (peer k c)) (m ((peer k c : Thread nD τ).loc main_v1)))
    ∗ slotPts c c (m ((c : Thread nD τ).loc main_v1)) ∗ xPts m fullShare c)

def linear (c : Dev nD) : sProp 𝕄 :=
  iprop((bigSep Finset.univ fun i : Fin 15 => atPos ER (kcell (c, i)) 0 ∅ 0) ∗ toks c ∗ held m c)

/-- What each device starts with, apart from credit and levels. -/
def G' (c : Dev nD) : sProp 𝕄 := iprop(∃ K, records m K ∗ linear m c)

def Φ₀ (c : Dev nD) : sProp 𝕄 :=
  iprop(G' m c ∗ levAts L lv ∗ bigSep Finset.univ fun k : Fin 7 => cred (tallyAt (vCell k c) () N))

def Φ₁ (c : Dev nD) : sProp 𝕄 :=
  iprop((((c : Thread nD τ).loc main_v1) ↦{fullShare} outF m) ∗ xPts m fullShare c ∗ bigSep Finset.univ fun i : Fin 15 => semVal (kcell (c, i)) 0)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A wait when nothing is owed any more. -/
theorem wait_free (K : Dev nD × Fin 15 → ℕ) (c : Dev nD) (i : Fin 15) {s : DmaSem sig} (hs : s = i)
    {sp' : Space} {s' : Shape} {e' : EltTy} {src : Memref sig .tc sp' s' e'} {dst : Memref sig .tc .hbm S72x1024 .f32}
    {hsrc : src.view.WordExact} {hdst : dst.view.WordExact} (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) (ow c []) W ∗ atPos ER (kcell (c, i)) 0 ∅ 0)
      ⊢ iprop(((owes (c : Thread nD τ) (ow c []) (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  refine BIBase.Entails.trans ?_ (wait_step m K c i hs (ow c []) W)
  iintro ⟨#HR, Hc, Ho, Hat⟩
  isplitr; · iexact HR
  isplitl [Hc]; · iexact Hc
  isplitl [Ho]; · iexact Ho
  isplitr; · rw [show ow c [] = 0 from rfl, MayWait_zero]; iempintro
  iexact Hat

/-! ## The walk -/

set_option maxHeartbeats 2000000 in
set_option maxRecDepth 8000 in
theorem body_walk (K : Dev nD × Fin 15 → ℕ) (c : Dev nD) (W : Waits sig Unit) (Kt : PUnit → sProp 𝕄) :
    iprop((records m K ∗ linear m c ∗ levAts L lv ∗ (bigSep Finset.univ fun k : Fin 7 => cred (tallyAt (vCell k c) () N))
        ∗ owes (c : Thread nD τ) (O₀ c) W) ∗ (Φ₁ m c ∗ (∃ W', owes (c : Thread nD τ) 0 W') -∗ Kt ⟨⟩))
      ⊢ wp frame (wpE (defs₀ (F := F)) 𝒱₀ c none) Set.univ (bodyAt0 t0_0) Kt := by
  unfold bodyAt0
  simp only [cc0_gather_small_grads_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton]
  unfold cc0_gather_small_grads_skel
  simp only [k0_part10_eq_skeleton]
  unfold k0_part10_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold linear toks held
  rw [bigSep_parts]
  simp only [bigSep_fin7]
  iintro ⟨⟨#HR, ⟨⟨⟨AS0, AS1, AS2, AS3, AS4, AS5, AS6⟩, ⟨AV0, AV1, AV2, AV3, AV4, AV5, AV6⟩, AL⟩,
    ⟨⟨S0, S1, S2, S3, S4, S5, S6⟩, ⟨V0, V1, V2, V3, V4, V5, V6⟩, TL⟩,
    ⟨D0, D1, D2, D3, D4, D5, D6⟩, DL, HX⟩, #Hlev, ⟨C0, C1, C2, C3, C4, C5, C6⟩, HO⟩, Hk⟩
  ihave HX' := (x_shares m c).1 $$ HX
  icases HX' with ⟨X0, X1, X2, X3, XL⟩
  rw [lands_own 0 (by decide) c, lands_own 1 (by decide) c, lands_own 2 (by decide) c, lands_own 3 (by decide) c,
    lands_on4, lands_on5, lands_on6]
  unfold O₀
  -- the own slot
  iapply (copy_step m K c (off1_eq c) rfl _) $$ [XL DL TL]
  · isplitr; · iexact HR
    isplitl [XL]; · iexact XL
    isplitl [DL] <;> iassumption
  iintro CL
  -- the own block, to the other core and to the other chips
  iapply (send_own m K c 0 (by decide) [1, 2, 3, 4, 5, 6] (lands_own 0 (by decide) c) (dev1_eq c) (off1_eq c) rfl rfl _ _) $$ [X0 D0 HO S0 V0]
  · isplitr; · iexact HR
    isplitl [X0]; · iexact X0
    isplitl [D0]; · iexact D0
    isplitl [HO]; · iexact HO
    isplitl [S0] <;> iassumption
  iintro ⟨E0, HO⟩
  iapply (send_own m K c 1 (by decide) [2, 3, 4, 5, 6] (lands_own 1 (by decide) c) (dev2_eq c) (off1_eq c) rfl rfl _ _) $$ [X1 D1 HO S1 V1]
  · isplitr; · iexact HR
    isplitl [X1]; · iexact X1
    isplitl [D1]; · iexact D1
    isplitl [HO]; · iexact HO
    isplitl [S1] <;> iassumption
  iintro ⟨E1, HO⟩
  iapply (send_own m K c 2 (by decide) [3, 4, 5, 6] (lands_own 2 (by decide) c) (dev3_eq c) (off1_eq c) rfl rfl _ _) $$ [X2 D2 HO S2 V2]
  · isplitr; · iexact HR
    isplitl [X2]; · iexact X2
    isplitl [D2]; · iexact D2
    isplitl [HO]; · iexact HO
    isplitl [S2] <;> iassumption
  iintro ⟨E2, HO⟩
  iapply (send_own m K c 3 (by decide) [4, 5, 6] (lands_own 3 (by decide) c) (dev4_eq c) (off1_eq c) rfl rfl _ _) $$ [X3 D3 HO S3 V3]
  · isplitr; · iexact HR
    isplitl [X3]; · iexact X3
    isplitl [D3]; · iexact D3
    isplitl [HO]; · iexact HO
    isplitl [S3] <;> iassumption
  iintro ⟨E3, HO⟩
  -- what comes from the other chips is passed on to the other core
  iapply (wait_step m K c (vI 1) rfl (ow c [4, 5, 6]) _) $$ [C1 HO AV1]
  · isplitr; · iexact HR
    isplitl [C1]; · iexact C1
    isplitl [HO]; · iexact HO
    isplitr; · iapply (mayWait_chip c (vI 1) rfl [4, 5, 6] (by decide)); iexact Hlev
    iexact AV1
  iintro ⟨HO, P1, ZV1⟩
  ihave P1 := (Entails.of_eq (pay_v m c 1)) $$ P1
  iapply (send_on m K c 4 (by decide) [5, 6] (inSlot 1 c) (lands_on4 c) rfl (dev5_eq c) (off2_eq c) rfl rfl _ _) $$ [P1 D4 HO S4 V4]
  · isplitr; · iexact HR
    isplitl [P1]; · iexact P1
    isplitl [D4]; · iexact D4
    isplitl [HO]; · iexact HO
    isplitl [S4] <;> iassumption
  iintro ⟨E4, HO⟩
  iapply (wait_step m K c (vI 2) rfl (ow c [5, 6]) _) $$ [C2 HO AV2]
  · isplitr; · iexact HR
    isplitl [C2]; · iexact C2
    isplitl [HO]; · iexact HO
    isplitr; · iapply (mayWait_chip c (vI 2) rfl [5, 6] (by decide)); iexact Hlev
    iexact AV2
  iintro ⟨HO, P2, ZV2⟩
  ihave P2 := (Entails.of_eq (pay_v m c 2)) $$ P2
  iapply (send_on m K c 5 (by decide) [6] (inSlot 2 c) (lands_on5 c) rfl (dev6_eq c) (off3_eq c) rfl rfl _ _) $$ [P2 D5 HO S5 V5]
  · isplitr; · iexact HR
    isplitl [P2]; · iexact P2
    isplitl [D5]; · iexact D5
    isplitl [HO]; · iexact HO
    isplitl [S5] <;> iassumption
  iintro ⟨E5, HO⟩
  iapply (wait_step m K c (vI 3) rfl (ow c [6]) _) $$ [C3 HO AV3]
  · isplitr; · iexact HR
    isplitl [C3]; · iexact C3
    isplitl [HO]; · iexact HO
    isplitr; · iapply (mayWait_chip c (vI 3) rfl [6] (by decide)); iexact Hlev
    iexact AV3
  iintro ⟨HO, P3, ZV3⟩
  ihave P3 := (Entails.of_eq (pay_v m c 3)) $$ P3
  iapply (send_on m K c 6 (by decide) [] (inSlot 3 c) (lands_on6 c) rfl (dev7_eq c) (off4_eq c) rfl rfl _ _) $$ [P3 D6 HO S6 V6]
  · isplitr; · iexact HR
    isplitl [P3]; · iexact P3
    isplitl [D6]; · iexact D6
    isplitl [HO]; · iexact HO
    isplitl [S6] <;> iassumption
  iintro ⟨E6, HO⟩
  -- the remaining waits
  iapply (wait_free m K c (vI 0) rfl _) $$ [C0 HO AV0]
  · isplitr; · iexact HR
    isplitl [C0]; · iexact C0
    isplitl [HO] <;> iassumption
  iintro ⟨HO, P0, ZV0⟩
  iapply (wait_free m K c (vI 4) rfl _) $$ [C4 HO AV4]
  · isplitr; · iexact HR
    isplitl [C4]; · iexact C4
    isplitl [HO] <;> iassumption
  iintro ⟨HO, P4, ZV4⟩
  iapply (wait_free m K c (vI 5) rfl _) $$ [C5 HO AV5]
  · isplitr; · iexact HR
    isplitl [C5]; · iexact C5
    isplitl [HO] <;> iassumption
  iintro ⟨HO, P5, ZV5⟩
  iapply (wait_free m K c (vI 6) rfl _) $$ [C6 HO AV6]
  · isplitr; · iexact HR
    isplitl [C6]; · iexact C6
    isplitl [HO] <;> iassumption
  iintro ⟨HO, P6, ZV6⟩
  iapply (wait_free m K c (sI 0) rfl _) $$ [E0 HO AS0]
  · isplitr; · iexact HR
    isplitl [E0]; · iexact E0
    isplitl [HO] <;> iassumption
  iintro ⟨HO, Q0, ZS0⟩
  iapply (wait_free m K c (sI 1) rfl _) $$ [E1 HO AS1]
  · isplitr; · iexact HR
    isplitl [E1]; · iexact E1
    isplitl [HO] <;> iassumption
  iintro ⟨HO, Q1, ZS1⟩
  iapply (wait_free m K c (sI 2) rfl _) $$ [E2 HO AS2]
  · isplitr; · iexact HR
    isplitl [E2]; · iexact E2
    isplitl [HO] <;> iassumption
  iintro ⟨HO, Q2, ZS2⟩
  iapply (wait_free m K c (sI 3) rfl _) $$ [E3 HO AS3]
  · isplitr; · iexact HR
    isplitl [E3]; · iexact E3
    isplitl [HO] <;> iassumption
  iintro ⟨HO, Q3, ZS3⟩
  iapply (wait_free m K c (sI 4) rfl _) $$ [E4 HO AS4]
  · isplitr; · iexact HR
    isplitl [E4]; · iexact E4
    isplitl [HO] <;> iassumption
  iintro ⟨HO, Q4, ZS4⟩
  iapply (wait_free m K c (sI 5) rfl _) $$ [E5 HO AS5]
  · isplitr; · iexact HR
    isplitl [E5]; · iexact E5
    isplitl [HO] <;> iassumption
  iintro ⟨HO, Q5, ZS5⟩
  iapply (wait_free m K c (sI 6) rfl _) $$ [E6 HO AS6]
  · isplitr; · iexact HR
    isplitl [E6]; · iexact E6
    isplitl [HO] <;> iassumption
  iintro ⟨HO, Q6, ZS6⟩
  iapply (wait_free m K c (lI) rfl _) $$ [CL HO AL]
  · isplitr; · iexact HR
    isplitl [CL]; · iexact CL
    isplitl [HO] <;> iassumption
  iintro ⟨HO, PL, ZL⟩
  rw [wp_ret]; imodintro
  iapply Hk
  ihave P0 := (Entails.of_eq (pay_v m c 0)) $$ P0
  ihave P4 := (Entails.of_eq (pay_v m c 4)) $$ P4
  ihave P5 := (Entails.of_eq (pay_v m c 5)) $$ P5
  ihave P6 := (Entails.of_eq (pay_v m c 6)) $$ P6
  ihave Q0 := (Entails.of_eq ((pay_s m c 0).trans (if_pos (by decide)))) $$ Q0
  ihave Q1 := (Entails.of_eq ((pay_s m c 1).trans (if_pos (by decide)))) $$ Q1
  ihave Q2 := (Entails.of_eq ((pay_s m c 2).trans (if_pos (by decide)))) $$ Q2
  ihave Q3 := (Entails.of_eq ((pay_s m c 3).trans (if_pos (by decide)))) $$ Q3
  ihave Q4 := (Entails.of_eq ((pay_s m c 4).trans (if_neg (by decide)))) $$ Q4
  ihave Q5 := (Entails.of_eq ((pay_s m c 5).trans (if_neg (by decide)))) $$ Q5
  ihave Q6 := (Entails.of_eq ((pay_s m c 6).trans (if_neg (by decide)))) $$ Q6
  ihave PL := (Entails.of_eq (pay_l m c)) $$ PL
  icases PL with ⟨PL, XL⟩
  isplitr [HO]
  · unfold Φ₁
    rw [result_slots, bigSep_parts]
    simp only [bigSep_fin7]
    isplitl [P0 Q4 Q5 Q6 P4 P5 P6 PL]
    · isplitr [PL]
      · isplitl [P0]; · iexact P0
        isplitl [Q4]; · iexact Q4
        isplitl [Q5]; · iexact Q5
        isplitl [Q6]; · iexact Q6
        isplitl [P4]; · iexact P4
        isplitl [P5] <;> iassumption
      iexact PL
    isplitl [Q0 Q1 Q2 Q3 XL]
    · iapply (x_shares m c).2
      isplitl [Q0]; · iexact Q0
      isplitl [Q1]; · iexact Q1
      isplitl [Q2]; · iexact Q2
      isplitl [Q3]; · iexact Q3
      iexact XL
    isplitl [ZS0 ZS1 ZS2 ZS3 ZS4 ZS5 ZS6]
    · isplitl [ZS0]; · iexact ZS0
      isplitl [ZS1]; · iexact ZS1
      isplitl [ZS2]; · iexact ZS2
      isplitl [ZS3]; · iexact ZS3
      isplitl [ZS4]; · iexact ZS4
      isplitl [ZS5] <;> iassumption
    isplitl [ZV0 ZV1 ZV2 ZV3 ZV4 ZV5 ZV6]
    · isplitl [ZV0]; · iexact ZV0
      isplitl [ZV1]; · iexact ZV1
      isplitl [ZV2]; · iexact ZV2
      isplitl [ZV3]; · iexact ZV3
      isplitl [ZV4]; · iexact ZV4
      isplitl [ZV5] <;> iassumption
    iexact ZL
  iexists _; iexact HO

/-- The body's obligation to the launch. -/
theorem body_obligation (c : Dev nD) : BodyObligation (dats (F := F) m 0 c) (defs₀ (F := F)) 𝒱₀ () Set.univ := fun t => by
  rw [show t = t0_0 from fin_N0 t, noWin, noWin]
  show iprop(Φ₀ m c ∗ (dats (F := F) m 0 c).owesAt () (Fin.castSucc t0_0) ∗ BI.emp) ⊢ wp frame (wpE (defs₀ (F := F)) 𝒱₀ c none) Set.univ
    (bodyAt0 t0_0) (fun _ => iprop(Φ₁ m c ∗ (dats (F := F) m 0 c).owesAt () (Fin.succ t0_0) ∗ BI.emp))
  unfold Φ₀ G' Dat.owesAt Pipeline.owesWithin
  rw [show (dats (F := F) m 0 c).owed (Fin.castSucc t0_0) = O₀ c from rfl, show (dats (F := F) m 0 c).owed (Fin.succ t0_0) = 0 from rfl]
  iintro ⟨⟨⟨%K, #HR, Hlin⟩, #Hlev, Hcr⟩, ⟨%W, %hW, HO⟩, -⟩
  iapply (body_walk m K c W)
  isplitl [Hlin Hcr HO]
  · isplitr; · iexact HR
    isplitl [Hlin]; · iexact Hlin
    isplitr; · iexact Hlev
    isplitl [Hcr] <;> iassumption
  iintro ⟨H1, %W', HO⟩
  isplitl [H1]; · iexact H1
  isplitl [HO]
  · iexists W'
    isplitr; · ipureintro; exact fun _ _ => Or.inl trivial
    iexact HO
  iempintro

end Cert.SmallProof

end
-- ==== Proof.Small.Run.lean ====
/-
# The gather as a whole

The launch deals every device its fifteen semaphores, its block and its result.  The result is dealt on slot by slot: a slot
that device `d` is to fill goes to `d`, whoever it belongs to, and so does the right to pay its receive semaphore.  Both are
one exchange along `across`.  Then every device walks its body, and the final memory is read off.
-/
module

public import proofs.«01_k».proof.Proof.Small.Walk

@[expose] public section

noncomputable section

namespace Cert.SmallProof

open Cert.SmallIdeal Cert.SmallIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records -/

def ringCells : Finset (GSem nD τ sig) := Finset.univ.map ⟨kcell, kcell_injective⟩
def ringToks : Finset (GSem nD τ sig × ℕ × Unit) :=
  Finset.univ.map ⟨fun ck : Dev nD × Fin 15 => (kcell ck, 0, ()), fun _ _ h => kcell_injective (congrArg Prod.fst h)⟩

def u₀ : UU := (initOf ∅ ∅, initOf ringCells ringToks)

/-- What a device gets of the records. -/
def G (c : Dev nD) : sProp 𝕄 :=
  iprop((bigSep Finset.univ fun i : Fin 15 => roundState ER (Rd m) (kcell (c, i)) 0)
    ∗ (bigSep Finset.univ fun i : Fin 15 => reached ER (kcell (c, i)) 0)
    ∗ (bigSep Finset.univ fun i : Fin 15 => atPos ER (kcell (c, i)) 0 ∅ 0)
    ∗ bigSep Finset.univ fun i : Fin 15 => dutyTok ER (kcell (c, i)) 0 ())

theorem records_made : (ownU u₀ : sProp 𝕄) ⊢ |={Set.univ}=> bigSep Finset.univ (G m) := by
  have hc (Φ : GSem nD τ sig → sProp 𝕄) : bigSep ringCells Φ = bigSep Finset.univ fun c : Dev nD => bigSep Finset.univ fun i : Fin 15 => Φ (kcell (c, i)) := by
    unfold ringCells; rw [bigSep_map, bigSep_univ_prod]; rfl
  have ht : (bigSep ringToks fun x => dutyTok ER x.1 x.2.1 x.2.2 : sProp 𝕄)
      = bigSep Finset.univ fun c : Dev nD => bigSep Finset.univ fun i : Fin 15 => dutyTok ER (kcell (c, i)) 0 () := by
    unfold ringToks; rw [bigSep_map, bigSep_univ_prod]; rfl
  have hG : (bigSep Finset.univ (G m) : sProp 𝕄)
      = iprop((bigSep ringCells fun g => roundState ER (Rd m) g 0) ∗ (bigSep ringCells fun g => reached ER g 0)
        ∗ (bigSep ringCells fun g => atPos ER g 0 ∅ 0) ∗ bigSep ringToks fun x => dutyTok ER x.1 x.2.1 x.2.2) := by
    rw [hc, hc, hc, ht]
    unfold G
    simp only [bigSep_sep']
  unfold u₀
  iintro Hu
  ihave H := (ownU_pair (initOf ∅ ∅ : UR sig nD τ) (initOf ringCells ringToks : UR sig nD τ)) $$ Hu
  icases H with ⟨-, HX⟩
  imod (Rounds.fund ER (Rd m) ringCells ringToks) $$ HX with HF
  imodintro
  rw [hG]
  iexact HF

/-! ## Dealing -/

omit [FloatOps F] in
theorem sems0_eq (c : Dev nD) : (sems0 c : sProp 𝕄) = bigSep Finset.univ fun i : Fin 15 => semVal (kcell (c, i)) 0 := rfl

/-- A device's part of the invariants is set up. -/
theorem cells_made (c : Dev nD) :
    iprop(sems0 c ∗ bigSep Finset.univ fun i : Fin 15 => roundState ER (Rd (F := F) m) (kcell (c, i)) 0)
      ⊢ |={Set.univ}=> bigSep Finset.univ fun i : Fin 15 => iprop(∃ κ : ℕ, cellInv ER (Rd (F := F) m) κ (kcell (c, i))) := by
  rw [sems0_eq, ← bigSep_sep']
  exact (bigSep_mono fun i _ => (Rounds.body_intro ER (Rd m) (kcell (c, i))).trans inv_alloc).trans (bigSep_fupd _ _)

/-- Its memory: the block, and the result slot by slot. -/
theorem memory_split (c : Dev nD) :
    (unscopedBufs c (fun b => m ((c : Thread nD τ).loc b)) : sProp 𝕄)
      ⊢ iprop(xPts m fullShare c ∗ (bigSep Finset.univ fun k : Fin 7 => slotPts c (inSlot k c) (m ((c : Thread nD τ).loc main_v1)))
          ∗ slotPts c c (m ((c : Thread nD τ).loc main_v1))) := by
  have h := Pipeline.unscopedBufs_split (Ix := Unit) (Name := ℕ) (U := UU) (Lvl := ℕ) cfgs (0 : Fin 1) winFacts0.arr_unscoped winFacts0.arr_inj c
    (fun b => m ((c : Thread nD τ).loc b))
  rw [h, unscopedRest0_eq, result_slots]
  iintro ⟨-, Hx, Hs⟩
  isplitl [Hx]
  · unfold xPts; rw [View.set_whole]; iexact Hx
  iexact Hs

omit [FloatOps F] in
/-- What belongs to the receivers of the transfers, dealt to their senders. -/
theorem exchange (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer k c) k := by
  have h1 := bigSep_univ_prod (M := 𝕄) fun ck : Dev nD × Fin 7 => Φ ck.1 ck.2
  have h2 := bigSep_univ_equiv across (fun ck : Dev nD × Fin 7 => Φ ck.1 ck.2)
  have h3 := bigSep_univ_prod (M := 𝕄) fun ck : Dev nD × Fin 7 => Φ (peer ck.2 ck.1) ck.2
  exact h1.symm.trans (h2.trans h3)

/-- A device's share of the dealing, before the exchange. -/
def got (c : Dev nD) : sProp 𝕄 :=
  iprop((bigSep Finset.univ fun i : Fin 15 => iprop(∃ κ : ℕ, cellInv ER (Rd (F := F) m) κ (kcell (c, i))))
    ∗ (bigSep Finset.univ fun i : Fin 15 => reached ER (kcell (c, i)) 0)
    ∗ (bigSep Finset.univ fun i : Fin 15 => atPos ER (kcell (c, i)) 0 ∅ 0)
    ∗ (bigSep Finset.univ fun k : Fin 7 => dutyTok ER (sCell k c) 0 ()) ∗ (bigSep Finset.univ fun k : Fin 7 => dutyTok ER (vCell k c) 0 ())
    ∗ dutyTok ER (lCell c) 0 ()
    ∗ xPts m fullShare c ∗ (bigSep Finset.univ fun k : Fin 7 => slotPts c (inSlot k c) (m ((c : Thread nD τ).loc main_v1)))
    ∗ slotPts c c (m ((c : Thread nD τ).loc main_v1)))

/-- Everything dealt. -/
theorem dealt :
    (bigSep Finset.univ fun c => iprop(sems0 c ∗ unscopedBufs c (fun b => m ((c : Thread nD τ).loc b)) ∗ G m c) : sProp 𝕄)
      ⊢ |={Set.univ}=> bigSep Finset.univ (G' m) := by
  have hone (c : Dev nD) : iprop(sems0 c ∗ unscopedBufs c (fun b => m ((c : Thread nD τ).loc b)) ∗ G m c) ⊢ |={Set.univ}=> got m c := by
    have ht := bigSep_parts (F := F) fun i => dutyTok ER (kcell (c, i)) 0 ()
    unfold G got
    iintro ⟨Hs, Hm, Hst, Hr, Hat, Htok⟩
    imod (cells_made m c) $$ [Hs Hst] with HI
    · isplitl [Hs] <;> iassumption
    ihave Hm' := (memory_split m c) $$ Hm
    ihave Ht := (Entails.of_eq ht) $$ Htok
    icases Ht with ⟨Ht1, Ht2, Ht3⟩
    imodintro
    isplitl [HI]; · iexact HI
    isplitl [Hr]; · iexact Hr
    isplitl [Hat]; · iexact Hat
    isplitl [Ht1]; · iexact Ht1
    isplitl [Ht2]; · iexact Ht2
    isplitl [Ht3]; · iexact Ht3
    iexact Hm'
  have hall : (bigSep Finset.univ fun c => iprop(sems0 c ∗ unscopedBufs c (fun b => m ((c : Thread nD τ).loc b)) ∗ G m c) : sProp 𝕄)
      ⊢ |={Set.univ}=> bigSep Finset.univ (got m) := (bigSep_mono fun c _ => hone c).trans (bigSep_fupd Finset.univ (got m))
  suffices hre : (bigSep Finset.univ (got m) : sProp 𝕄) ⊢ bigSep Finset.univ (G' m) by
    exact hall.trans (BI.fupd_mono hre)
  have hI : (bigSep Finset.univ fun c : Dev nD => bigSep Finset.univ fun i : Fin 15 => iprop(∃ κ : ℕ, cellInv ER (Rd (F := F) m) κ (kcell (c, i))))
      = (bigSep Finset.univ fun ck : Dev nD × Fin 15 => iprop(∃ κ : ℕ, cellInv ER (Rd (F := F) m) κ (kcell ck)) : sProp 𝕄) :=
    (bigSep_univ_prod fun ck : Dev nD × Fin 15 => iprop(∃ κ : ℕ, cellInv ER (Rd (F := F) m) κ (kcell ck))).symm
  have hR : (bigSep Finset.univ fun c : Dev nD => bigSep Finset.univ fun i : Fin 15 => (reached ER (kcell (c, i)) 0 : sProp 𝕄))
      = (bigSep Finset.univ fun ck : Dev nD × Fin 15 => reached ER (kcell ck) 0 : sProp 𝕄) :=
    (bigSep_univ_prod fun ck : Dev nD × Fin 15 => reached ER (kcell ck) 0).symm
  have hT := exchange (F := F) fun c k => dutyTok ER (vCell k c) 0 ()
  have hS := exchange (F := F) fun c k => slotPts c (inSlot k c) (m ((c : Thread nD τ).loc main_v1))
  have hpi : (bigSep Finset.univ fun ck : Dev nD × Fin 15 => iprop(∃ κ : ℕ, cellInv ER (Rd (F := F) m) κ (kcell ck)))
      ⊢ (iprop(∃ K : Dev nD × Fin 15 → ℕ, bigSep Finset.univ fun ck => cellInv ER (Rd (F := F) m) (K ck) (kcell ck)) : sProp 𝕄) :=
    BI.bigSep_exists_pi Finset.univ (fun ck κ => cellInv ER (Rd (F := F) m) κ (kcell ck))
  have hwith (K : Dev nD × Fin 15 → ℕ) :
      iprop(records m K ∗ bigSep Finset.univ fun c : Dev nD => linear m c) ⊢ (bigSep Finset.univ (G' m) : sProp 𝕄) := by
    refine (sep_mono_left (BI.bigSep_of_persistent (Finset.univ : Finset (Dev nD)) (records m K))).trans ?_
    rw [← bigSep_sep']
    refine bigSep_mono fun c _ => ?_
    have h : iprop(records m K ∗ linear m c) ⊢ (G' m c : sProp 𝕄) := by
      unfold G'
      iintro H
      iexists K
      iexact H
    exact h
  unfold got
  simp only [bigSep_sep']
  rw [hI, hR, hT, hS]
  iintro ⟨HI, Hr, Hat, Ht1, Ht2, Ht3, Hx, Hsl, Hown⟩
  ihave HK := hpi $$ HI
  icases HK with ⟨%K, HI⟩
  iapply (hwith K)
  isplitl [HI Hr]
  · unfold records
    isplitl [HI] <;> iassumption
  unfold linear toks held
  simp only [bigSep_sep']
  isplitl [Hat]; · iexact Hat
  isplitl [Ht1 Ht2 Ht3]
  · isplitl [Ht1]; · iexact Ht1
    isplitl [Ht2] <;> iassumption
  isplitl [Hsl]; · iexact Hsl
  isplitl [Hown] <;> iassumption

/-! ## The run -/

/-- What each device ends with. -/
def Y (c : Dev nD) : sProp 𝕄 := iprop((((c : Thread nD τ).loc main_v1) ↦{fullShare} outF m) ∗ xPts m fullShare c)

theorem read_off (c : Dev nD) (s' : Phys nD τ sig (Elt F)) :
    iprop(Y m c ∗ SI s') ⊢ |={Set.univ}=>
      iprop(⌜s'.mem.mem ((c : Thread nD τ).loc main_v1) = outF m ∧ s'.mem.mem ((c : Thread nD τ).loc main_arg0) = m ((c : Thread nD τ).loc main_arg0)⌝
        ∗ SI s' : sProp 𝕄) := by
  unfold Y xPts
  rw [View.set_whole]
  iintro ⟨⟨Ho, Hx⟩, HSI⟩
  icombine HSI Ho gives %ho
  icombine HSI Hx gives %hx
  imodintro
  isplitr
  · ipureintro
    exact ⟨Buf.eq_of_forall_mem_univ ho, Buf.eq_of_forall_mem_univ hx⟩
  iexact HSI

/-- From any memory with all semaphores at zero, the gather ends with every device's result being all the blocks in order,
    the blocks as they were, and all semaphores at zero. -/
theorem run_main : θ_run defs (onTc (τ := τ) (main (F := F))) ⟨m, fun _ => 0, ρ⟩ fun r =>
    (∀ c : Dev nD, r.2.mem ((c : Thread nD τ).loc main_v1) = outF m ∧ r.2.mem ((c : Thread nD τ).loc main_arg0) = m ((c : Thread nD τ).loc main_arg0))
      ∧ r.2.sem = fun _ => 0 :=
  run_of m ρ (dats m) (body_obligation m) O₀ (fun _ => rfl) (fun _ => rfl) L lv L_of_ne (G m) (G' m) u₀ (records_made m) (dealt m)
    (fun c => by
      show _ ⊢ Φ₀ m c
      unfold Φ₀
      exact sep_mono_right (sep_mono_right (creds c)))
    (Y m)
    (fun c => by
      show Φ₁ m c ⊢ _
      unfold Φ₁ Y
      iintro ⟨Ho, Hx, Hs⟩
      isplitr [Hs]
      · isplitl [Ho] <;> iassumption
      rw [sems0_eq]
      iexact Hs)
    (fun c s => s.mem ((c : Thread nD τ).loc main_v1) = outF m ∧ s.mem ((c : Thread nD τ).loc main_arg0) = m ((c : Thread nD τ).loc main_arg0))
    (read_off m)
    (fun s h hs => ⟨h, sem_eq_zero_of_scoped (by decide) hs⟩)

end Cert.SmallProof

end
-- ==== Proof.PartLemmas.lean ====
/- What the version's calls without an exchange compute, in shapes as variables: the sum of eight slots and the step of Adam. -/
module

public import Idealize.ShloMosaic.Adequacy
public import Idealize.ShloMosaic.Init
public import Idealize.ShloMosaic.Lib.IdealHost
public import Idealize.ShloMosaic.Lib.Pipeline.Value
public import Idealize.ShloMosaic.PureOps.Ideal.Laws
public import Idealize.ShloMosaic.Lib.Pointwise.Reduce

@[expose] public section

noncomputable section

namespace Cert.Parts

open Idealize.ShloMosaic

/-! ## The sum of eight slots -/

/-- Entry `j` of slot `k`. -/
abbrev slotAt {r n : ℕ} (k : Fin 8) (j : (⟨2, ![r, n]⟩ : Shape).Idx) : (⟨3, ![8, r, n]⟩ : Shape).Idx := ix3 k (j 0) (j 1)

/-- The eight slots added entry by entry. -/
def slotSum {r n : ℕ} (x : (⟨3, ![8, r, n]⟩ : Shape).Idx → EReal) : (⟨2, ![r, n]⟩ : Shape).Idx → EReal := fun j => ∑ k : Fin 8, x (slotAt k j)

/-- The host's sum along the first axis, started at zero, is that sum. -/
theorem host_slotSum {r n : ℕ} {u : Shape} (x : FVec Ideal (⟨3, ![8, r, n]⟩ : Shape) .f32)
    (h : (⟨3, ![8, r, n]⟩ : Shape).ReducesTo [0] ⟨2, ![r, n]⟩) (hu : 0 < u.numel) :
    Host.reduceAdd x (constant u .f32 0x00000000#32) h hu = slotSum x := by
  funext j
  rw [ValueIdx.hostReduceAdd_apply, Ideal.hostReduceAdd, h.sum_fiber_r3_a0 j]
  show Ideal.ofBits .f32 0x00000000#32 + _ = _
  rw [Ideal.ofBits_zero_f32, zero_add]
  rfl

/-- One slot loaded as a block with a first axis of one, which is then dropped. -/
theorem slot_block {α : Type} {r n : ℕ} (x : (⟨3, ![8, r, n]⟩ : Shape).Idx → α) (k : Fin 8)
    (hin : ∀ a, (![k.val, 0, 0] : Fin 3 → ℕ) a + (![1, r, n] : Fin 3 → ℕ) a ≤ (⟨3, ![8, r, n]⟩ : Shape).size a)
    (h : (⟨3, ![1, r, n]⟩ : Shape).ShapeCasts ⟨2, ![r, n]⟩) (j : (⟨2, ![r, n]⟩ : Shape).Idx) :
    shapeCast ⟨2, ![r, n]⟩ (fun i => x ((Rect.unit (s := ⟨3, ![8, r, n]⟩) ![k.val, 0, 0] ![1, r, n] hin).idx i)) h j = x (slotAt k j) := by
  refine (congrArg (fun i => x ((Rect.unit (s := ⟨3, ![8, r, n]⟩) ![k.val, 0, 0] ![1, r, n] hin).idx i))
    (Shape.reshapeEquiv_eq_of_rowMajor h (y := ix3 0 (j 0) (j 1)) ?_)).trans (congrArg x ?_)
  · rw [Shape.rowMajor_val_two, Shape.rowMajor_val_three]
    show ((0 * r + (j 0).val) * n + (j 1).val : ℕ) = (j 0).val * n + (j 1).val
    rw [zero_mul, zero_add]
  · funext a
    apply Fin.ext
    match a with
    | ⟨0, _⟩ => show k.val + 1 * 0 = k.val; omega
    | ⟨1, _⟩ => show 0 + 1 * (j 0).val = (j 0).val; omega
    | ⟨2, _⟩ => show 0 + 1 * (j 1).val = (j 1).val; omega

/-- Slot `k` loaded as such a block. -/
def slotBlock {r n : ℕ} (x : (⟨3, ![8, r, n]⟩ : Shape).Idx → EReal)
    (hin : ∀ (k : Fin 8) (a : Fin 3), (![k.val, 0, 0] : Fin 3 → ℕ) a + (![1, r, n] : Fin 3 → ℕ) a ≤ (⟨3, ![8, r, n]⟩ : Shape).size a)
    (h : (⟨3, ![1, r, n]⟩ : Shape).ShapeCasts ⟨2, ![r, n]⟩) (k : Fin 8) : FVec Ideal (⟨2, ![r, n]⟩ : Shape) .f32 :=
  shapeCast ⟨2, ![r, n]⟩ (fun i => x ((Rect.unit (s := ⟨3, ![8, r, n]⟩) ![k.val, 0, 0] ![1, r, n] (hin k)).idx i)) h

/-- Eight slots, each loaded as such a block, added in their order. -/
theorem body_slotSum {r n : ℕ} (x : (⟨3, ![8, r, n]⟩ : Shape).Idx → EReal)
    (hin : ∀ (k : Fin 8) (a : Fin 3), (![k.val, 0, 0] : Fin 3 → ℕ) a + (![1, r, n] : Fin 3 → ℕ) a ≤ (⟨3, ![8, r, n]⟩ : Shape).size a)
    (h : (⟨3, ![1, r, n]⟩ : Shape).ShapeCasts ⟨2, ![r, n]⟩) :
    addf (addf (addf (addf (addf (addf (addf (slotBlock x hin h 0) (slotBlock x hin h 1)) (slotBlock x hin h 2)) (slotBlock x hin h 3))
      (slotBlock x hin h 4)) (slotBlock x hin h 5)) (slotBlock x hin h 6)) (slotBlock x hin h 7) = slotSum x := by
  funext j
  have e : ∀ k, x (slotAt k j) = slotBlock x hin h k j := fun k => (slot_block x k (hin k) h j).symm
  simp only [slotSum, Fin.sum_univ_eight, e]
  rfl

end Cert.Parts
-- ==== Proof.Updates.lean ====
/- The step of Adam on each weight: what the kernel leaves, index by index, is the reference's step. -/
module

public import proofs.«01_k».proof.Defs
public import proofs.«01_k».proof.Proof.PartLemmas
public import proofs.«01_k».proof.Proof.Gen.AdamInIdeal.Value
public import proofs.«01_k».proof.Proof.Gen.AdamInRefIdeal.Run
public import proofs.«01_k».proof.Proof.Gen.AdamBranchIdeal.Value
public import proofs.«01_k».proof.Proof.Gen.AdamBranchRefIdeal.Run
public import proofs.«01_k».proof.Proof.Gen.AdamOutIdeal.Value
public import proofs.«01_k».proof.Proof.Gen.AdamOutRefIdeal.Run
public import proofs.«01_k».proof.Proof.Gen.AdamUpIdeal.Value
public import proofs.«01_k».proof.Proof.Gen.AdamUpRefIdeal.Run
public import proofs.«01_k».proof.Proof.Gen.AdamConvIdeal.Value
public import proofs.«01_k».proof.Proof.Gen.AdamConvRefIdeal.Run
public import proofs.«01_k».proof.Proof.Gen.AdamDownIdeal.Value
public import proofs.«01_k».proof.Proof.Gen.AdamDownRefIdeal.Run
public import proofs.«01_k».proof.Proof.Gen.AdamSmallIdeal.Value
public import proofs.«01_k».proof.Proof.Gen.AdamSmallRefIdeal.Run

@[expose] public section

noncomputable section

namespace Cert.Parts

open Idealize.ShloMosaic Idealize.ShloMosaic.TcCoe Idealize.SL.Sem

theorem adam_in : Cert.algebraic_AdamInIdeal_AdamInRefIdeal := fun m ρ m' ρ' _ hm =>
  ⟨_, _, _, Cert.AdamInIdeal.Value.run m ρ,
    (θ_run Cert.AdamInRefIdeal.defs _ _).mono (fun _ h c => by
      obtain ⟨e0, e1, e2, e3⟩ := hm c
      have hc := h c
      rw [e0, e1, e2, e3] at hc ⊢
      exact hc) (Cert.AdamInRefIdeal.Value.run m' ρ')⟩

theorem adam_branch : Cert.algebraic_AdamBranchIdeal_AdamBranchRefIdeal := fun m ρ m' ρ' _ hm =>
  ⟨_, _, _, Cert.AdamBranchIdeal.Value.run m ρ,
    (θ_run Cert.AdamBranchRefIdeal.defs _ _).mono (fun _ h c => by
      obtain ⟨e0, e1, e2, e3⟩ := hm c
      have hc := h c
      rw [e0, e1, e2, e3] at hc ⊢
      exact hc) (Cert.AdamBranchRefIdeal.Value.run m' ρ')⟩

theorem adam_out : Cert.algebraic_AdamOutIdeal_AdamOutRefIdeal := fun m ρ m' ρ' _ hm =>
  ⟨_, _, _, Cert.AdamOutIdeal.Value.run m ρ,
    (θ_run Cert.AdamOutRefIdeal.defs _ _).mono (fun _ h c => by
      obtain ⟨e0, e1, e2, e3⟩ := hm c
      have hc := h c
      rw [e0, e1, e2, e3] at hc ⊢
      exact hc) (Cert.AdamOutRefIdeal.Value.run m' ρ')⟩

theorem adam_up : Cert.algebraic_AdamUpIdeal_AdamUpRefIdeal := fun m ρ m' ρ' _ hm =>
  ⟨_, _, _, Cert.AdamUpIdeal.Value.run m ρ,
    (θ_run Cert.AdamUpRefIdeal.defs _ _).mono (fun _ h c => by
      obtain ⟨e0, e1, e2, e3⟩ := hm c
      have hc := h c
      rw [e0, e1, e2, e3] at hc ⊢
      exact hc) (Cert.AdamUpRefIdeal.Value.run m' ρ')⟩

theorem adam_conv : Cert.algebraic_AdamConvIdeal_AdamConvRefIdeal := fun m ρ m' ρ' _ hm =>
  ⟨_, _, _, Cert.AdamConvIdeal.Value.run m ρ,
    (θ_run Cert.AdamConvRefIdeal.defs _ _).mono (fun _ h c => by
      obtain ⟨e0, e1, e2, e3⟩ := hm c
      have hc := h c
      rw [e0, e1, e2, e3] at hc ⊢
      exact hc) (Cert.AdamConvRefIdeal.Value.run m' ρ')⟩

theorem adam_down : Cert.algebraic_AdamDownIdeal_AdamDownRefIdeal := fun m ρ m' ρ' _ hm =>
  ⟨_, _, _, Cert.AdamDownIdeal.Value.run m ρ,
    (θ_run Cert.AdamDownRefIdeal.defs _ _).mono (fun _ h c => by
      obtain ⟨e0, e1, e2, e3⟩ := hm c
      have hc := h c
      rw [e0, e1, e2, e3] at hc ⊢
      exact hc) (Cert.AdamDownRefIdeal.Value.run m' ρ')⟩

theorem adam_small : Cert.algebraic_AdamSmallIdeal_AdamSmallRefIdeal := fun m ρ m' ρ' _ hm =>
  ⟨_, _, _, Cert.AdamSmallIdeal.Value.run m ρ,
    (θ_run Cert.AdamSmallRefIdeal.defs _ _).mono (fun _ h c => by
      obtain ⟨e0, e1, e2, e3⟩ := hm c
      have hc := h c
      rw [e0, e1, e2, e3] at hc ⊢
      exact hc) (Cert.AdamSmallRefIdeal.Value.run m' ρ')⟩

end Cert.Parts
-- ==== Proof.ProductLemmas.lean ====
/- A product of two matrices, in shapes as variables: what the matrix unit and the host's product compute, and how a product is cut
   into tiles and into halves of its sum. -/
module

public import Idealize.ShloMosaic.Adequacy
public import Idealize.ShloMosaic.Init
public import Idealize.ShloMosaic.Lib.IdealHost
public import Idealize.ShloMosaic.Lib.MatmulPlain
public import Idealize.ShloMosaic.Lib.Pipeline.Value
public import Idealize.ShloMosaic.Lib.ValueLayout
public import Idealize.ShloMosaic.PureOps.Ideal.Laws

@[expose] public section

noncomputable section

namespace Cert.Products

open Idealize.ShloMosaic
open Idealize.ShloMosaic.ValueIdx
open scoped BigOperators

/-- Index pairs of a matrix. -/
local notation "Idx2[" r ", " n "]" => Shape.Idx (Shape.mk 2 ![r, n])

theorem origin : (![0, 0] : Fin 2 → Nat) = fun _ => 0 := funext fun a => by fin_cases a <;> rfl

/-- Rows of one matrix times rows of another: the sum over the position they share. -/
def dots {r n k : ℕ} (a : Fin r → Fin k → EReal) (b : Fin n → Fin k → EReal) : Idx2[r, n] → EReal := fun j => ∑ q : Fin k, a (j 0) q * b (j 1) q

/-- A matrix by its rows, and by its columns. -/
def byRow {r k : ℕ} (x : Idx2[r, k] → EReal) : Fin r → Fin k → EReal := fun i q => x (ix2 i q)
def byCol {r k : ℕ} (x : Idx2[k, r] → EReal) : Fin r → Fin k → EReal := fun i q => x (ix2 q i)

/-- An entry of a tile is the entry of the whole product at whose row and column the tile's operands agree with the whole's. -/
theorem dots_entry {r n r' n' k : ℕ} {a : Fin r → Fin k → EReal} {b : Fin n → Fin k → EReal} {a' : Fin r' → Fin k → EReal}
    {b' : Fin n' → Fin k → EReal} (j : Idx2[r, n]) (j' : Idx2[r', n']) (ha : ∀ q, a (j 0) q = a' (j' 0) q)
    (hb : ∀ q, b (j 1) q = b' (j' 1) q) : dots a b j = dots a' b' j' := by
  show (∑ q : Fin k, a (j 0) q * b (j 1) q) = ∑ q : Fin k, a' (j' 0) q * b' (j' 1) q
  exact Finset.sum_congr rfl fun q _ => by rw [ha q, hb q]

/-- The same when the sum is cut into two halves, each with its own tiles. -/
theorem dots_halves {r n r' n' k : ℕ} {a₀ a₁ : Fin r → Fin k → EReal} {b₀ b₁ : Fin n → Fin k → EReal} {a' : Fin r' → Fin (k + k) → EReal}
    {b' : Fin n' → Fin (k + k) → EReal} (j : Idx2[r, n]) (j' : Idx2[r', n'])
    (ha₀ : ∀ q, a₀ (j 0) q = a' (j' 0) (Fin.castAdd k q)) (hb₀ : ∀ q, b₀ (j 1) q = b' (j' 1) (Fin.castAdd k q))
    (ha₁ : ∀ q, a₁ (j 0) q = a' (j' 0) (Fin.natAdd k q)) (hb₁ : ∀ q, b₁ (j 1) q = b' (j' 1) (Fin.natAdd k q)) :
    dots a₀ b₀ j + dots a₁ b₁ j = dots a' b' j' := by
  show (∑ q : Fin k, a₀ (j 0) q * b₀ (j 1) q) + (∑ q : Fin k, a₁ (j 0) q * b₁ (j 1) q) = ∑ q : Fin (k + k), a' (j' 0) q * b' (j' 1) q
  rw [Fin.sum_univ_add]
  exact congrArg₂ (· + ·) (Finset.sum_congr rfl fun q _ => by rw [ha₀ q, hb₀ q]) (Finset.sum_congr rfl fun q _ => by rw [ha₁ q, hb₁ q])

/-! ## The matrix unit -/

theorem unit_nn {r n k : ℕ} {φ₁ φ₂ : FTy} (a : FVec Ideal ⟨2, ![r, k]⟩ φ₁) (b : FVec Ideal ⟨2, ![k, n]⟩ φ₂) :
    matmul (DotDims.plain r k n) none a b (constant ⟨2, ![r, n]⟩ .f32 0x00000000#32) = dots (byRow a) (byCol b) := by
  funext j
  obtain ⟨i, l, rfl⟩ : ∃ i l, j = ix2 i l := ⟨j 0, j 1, Shape.idx_ext₂ rfl rfl⟩
  refine (Ideal.matmul_plain_apply none a b _ i l).trans ?_
  show Ideal.ofBits .f32 0x00000000#32 + _ = _
  rw [Ideal.ofBits_zero_f32, zero_add]
  rfl

theorem unit_nt {r n k : ℕ} {φ₁ φ₂ : FTy} (a : FVec Ideal ⟨2, ![r, k]⟩ φ₁) (b : FVec Ideal ⟨2, ![n, k]⟩ φ₂) :
    matmul (DotDims.transposedRhs r k n) none a b (constant ⟨2, ![r, n]⟩ .f32 0x00000000#32) = dots (byRow a) (byRow b) := by
  funext j
  obtain ⟨i, l, rfl⟩ : ∃ i l, j = ix2 i l := ⟨j 0, j 1, Shape.idx_ext₂ rfl rfl⟩
  refine (Ideal.matmul_transposedRhs_apply none a b _ i l).trans ?_
  show Ideal.ofBits .f32 0x00000000#32 + _ = _
  rw [Ideal.ofBits_zero_f32, zero_add]
  rfl

/-- Both operands contracted over their rows. -/
abbrev bothT (r k n : ℕ) (wf : DotDims.WF ⟨2, ![k, r]⟩ ⟨2, ![k, n]⟩ ⟨2, ![r, n]⟩ [0] [0] [1] [1] [] []) :
    DotDims ⟨2, ![k, r]⟩ ⟨2, ![k, n]⟩ ⟨2, ![r, n]⟩ where
  lhsContracting := [0]
  rhsContracting := [0]
  lhsNonContracting := [1]
  rhsNonContracting := [1]
  lhsBatch := []
  rhsBatch := []
  wf := wf

theorem unit_tn {r n k : ℕ} {φ₁ φ₂ : FTy} (a : FVec Ideal ⟨2, ![k, r]⟩ φ₁) (b : FVec Ideal ⟨2, ![k, n]⟩ φ₂)
    (wf : DotDims.WF ⟨2, ![k, r]⟩ ⟨2, ![k, n]⟩ ⟨2, ![r, n]⟩ [0] [0] [1] [1] [] []) :
    matmul (bothT r k n wf) none a b (constant ⟨2, ![r, n]⟩ .f32 0x00000000#32) = dots (byCol a) (byCol b) := by
  have hr : (bothT r k n wf).contr.rank = 1 := rfl
  have hs : (bothT r k n wf).contr.size ⟨0, by rw [hr]; exact Nat.one_pos⟩ = k := rfl
  funext j
  refine (Ideal.matmul_constant_zero_apply _ none a b j).trans ?_
  rw [← Equiv.sum_comp (ValueIdx.contrEquiv1 (bothT r k n wf) k hr hs).symm]
  refine Finset.sum_congr rfl fun q _ => ?_
  have hq := ValueIdx.contrEquiv1_symm_val (bothT r k n wf) k hr hs q
  refine congrArg₂ (· * ·) (congrArg a ?_) (congrArg b ?_)
  · funext x; apply Fin.ext
    match x with
    | ⟨0, _⟩ => exact hq
    | ⟨1, _⟩ => rfl
  · funext x; apply Fin.ext
    match x with
    | ⟨0, _⟩ => exact hq
    | ⟨1, _⟩ => rfl

/-! ## The host -/

theorem host_dots {r n k : ℕ} {φ₁ φ₂ : FTy} (a : FVec Ideal ⟨2, ![r, k]⟩ φ₁) (b : FVec Ideal ⟨2, ![k, n]⟩ φ₂) :
    Host.dotGeneral (DotDims.plain r k n) none a b = dots (byRow a) (byCol b) := by
  rw [← unit_nn a b]
  funext j
  simp only [Host.dotGeneral, matmul]
  rw [Ideal.dotGeneral_apply, Ideal.matmul_constant_zero_apply]

theorem byCol_transpose {r k : ℕ} (x : Idx2[r, k] → EReal) (h : (⟨2, ![r, k]⟩ : Shape).Transposes [1, 0] ⟨2, ![k, r]⟩) :
    byCol (transpose ⟨2, ![k, r]⟩ [1, 0] x h) = byRow x := funext fun _ => funext fun _ => transpose_ix2_apply x h _ _

theorem byRow_transpose {r k : ℕ} (x : Idx2[k, r] → EReal) (h : (⟨2, ![k, r]⟩ : Shape).Transposes [1, 0] ⟨2, ![r, k]⟩) :
    byRow (transpose ⟨2, ![r, k]⟩ [1, 0] x h) = byCol x := funext fun _ => funext fun _ => transpose_ix2_apply x h _ _

/-- The rows from `o` on. -/
def rowsFrom {r n k : ℕ} (o : ℕ) (h : o + r ≤ n) (a : Fin n → Fin k → EReal) : Fin r → Fin k → EReal :=
  fun i q => a ⟨o + i.val, Nat.lt_of_lt_of_le (Nat.add_lt_add_left i.isLt o) h⟩ q

theorem byRow_slice {r n k : ℕ} (o : ℕ) (h : o + r ≤ n) (x : Idx2[n, k] → EReal) (hs : (⟨2, ![n, k]⟩ : Shape).Slices ![o, 0] ⟨2, ![r, k]⟩) :
    byRow (extractStridedSlice ⟨2, ![r, k]⟩ ![o, 0] x hs) = rowsFrom o h (byRow x) := by
  funext i q
  refine extractStridedSlice_apply ![o, 0] x hs (ix2 i q) _ fun a => ?_
  match a with
  | ⟨0, _⟩ => rfl
  | ⟨1, _⟩ => exact (Nat.zero_add q.val).symm

theorem byCol_slice {r n k : ℕ} (o : ℕ) (h : o + r ≤ n) (x : Idx2[n, k] → EReal) (hs : (⟨2, ![n, k]⟩ : Shape).Slices ![o, 0] ⟨2, ![r, k]⟩) :
    byCol (extractStridedSlice ⟨2, ![r, k]⟩ ![o, 0] x hs) = fun i q => rowsFrom o h (byRow x) q i := by
  funext i q
  exact congrFun (congrFun (byRow_slice o h x hs) q) i

/-- Two matrices lying under each other, set side by side. -/
@[irreducible] def beside {r k : ℕ} (x : Idx2[r + r, k] → EReal) : Fin r → Fin (k + k) → EReal :=
  fun i q => Fin.addCases (fun p => x (ix2 (Fin.castAdd r i) p)) (fun p => x (ix2 (Fin.natAdd r i) p)) q

theorem byRow_beside {r k : ℕ} (x : Idx2[r + r, k] → EReal) (h₀ : (⟨2, ![r + r, k]⟩ : Shape).Slices ![0, 0] ⟨2, ![r, k]⟩)
    (h₁ : (⟨2, ![r + r, k]⟩ : Shape).Slices ![r, 0] ⟨2, ![r, k]⟩)
    (h : Shape.Concatenates [(⟨2, ![r, k]⟩ : Shape), ⟨2, ![r, k]⟩] ⟨2, ![r, k + k]⟩ (1 : Fin 2)) :
    byRow (concatenate ⟨2, ![r, k + k]⟩ (1 : Fin 2) [⟨⟨2, ![r, k]⟩, extractStridedSlice ⟨2, ![r, k]⟩ ![0, 0] x h₀⟩,
      ⟨⟨2, ![r, k]⟩, extractStridedSlice ⟨2, ![r, k]⟩ ![r, 0] x h₁⟩] h) = beside x := by
  funext i q
  refine Fin.addCases (fun p => ?_) (fun p => ?_) q
  · refine (concatenate_pair_apply_left (t := ⟨2, ![r, k + k]⟩) (1 : Fin 2) _ _ h _ rfl (ix2 i p) fun b => ?_).trans ?_
    · match b with
      | ⟨0, _⟩ => rfl
      | ⟨1, _⟩ => rfl
    · refine (congrFun (congrFun (byRow_slice 0 (by omega) x h₀) i) p).trans ?_
      unfold beside
      rw [Fin.addCases_left]
      exact congrArg x (Shape.idx_ext₂ (Nat.zero_add i.val) rfl)
  · refine (concatenate_pair_apply_right (t := ⟨2, ![r, k + k]⟩) (1 : Fin 2) _ _ h _ rfl rfl (ix2 i p) (fun b hb => ?_) ?_).trans ?_
    · match b with
      | ⟨0, _⟩ => rfl
      | ⟨1, _⟩ => exact absurd rfl hb
    · exact Nat.add_comm p.val k
    · refine (congrFun (congrFun (byRow_slice r (by omega) x h₁) i) p).trans ?_
      unfold beside
      rw [Fin.addCases_right]
      rfl

/-- The same by its place in numbers. -/
theorem beside_eq {r k : ℕ} (x : Idx2[r + r, k] → EReal) (i : Fin r) (q : Fin (k + k)) (j : Idx2[r + r, k])
    (h : (q.val < k ∧ (j 0).val = i.val ∧ (j 1).val = q.val) ∨ (k ≤ q.val ∧ (j 0).val = r + i.val ∧ k + (j 1).val = q.val)) :
    x j = beside x i q := by
  unfold beside
  rcases h with ⟨hq, h0, h1⟩ | ⟨hq, h0, h1⟩
  · rw [show q = Fin.castAdd k ⟨q.val, hq⟩ from rfl, Fin.addCases_left]
    exact congrArg x (Shape.idx_ext₂ h0 h1)
  · have hp : q.val - k < k := by omega
    rw [show q = Fin.natAdd k ⟨q.val - k, hp⟩ from Fin.ext (by show q.val = k + (q.val - k); omega), Fin.addCases_right]
    exact congrArg x (Shape.idx_ext₂ h0 (by show (j 1).val = q.val - k; omega))

end Cert.Products
-- ==== Proof.Products.Forward.lean ====
/- Products of the forward pass whose windows tile their arrays: what the kernel's grid computes is the reference's product. -/
module

public import proofs.«01_k».proof.Defs
public import proofs.«01_k».proof.Proof.ProductLemmas
public import proofs.«01_k».proof.Proof.Gen.InProjRestIdeal.Value
public import proofs.«01_k».proof.Proof.Gen.InProjRestRefIdeal.Run
public import proofs.«01_k».proof.Proof.Gen.BranchIdeal.Value
public import proofs.«01_k».proof.Proof.Gen.BranchRefIdeal.Run
public import proofs.«01_k».proof.Proof.Gen.OutProjIdeal.Value
public import proofs.«01_k».proof.Proof.Gen.OutProjRefIdeal.Run
public import proofs.«01_k».proof.Proof.Gen.FfnUpIdeal.Value
public import proofs.«01_k».proof.Proof.Gen.FfnUpRefIdeal.Run
public import proofs.«01_k».proof.Proof.Gen.FfnDownIdeal.Value
public import proofs.«01_k».proof.Proof.Gen.FfnDownRefIdeal.Run

@[expose] public section

noncomputable section

namespace Cert.Products

open Idealize.ShloMosaic Idealize.ShloMosaic.TcCoe Idealize.SL.Sem Idealize.ShloMosaic.ValueIdx

/-! ## The input projection's columns after the attention's -/

section InProjRest

open Cert.InProjRestIdeal Cert.InProjRestIdeal.Gen Cert.InProjRestIdeal.Value

variable (m : (ℓ : Loc nD τ sig) → Buf (Elt Ideal) ℓ)

theorem rest_index : ∀ t : Fin cfg0.N, win0_0.index t (0 : Fin 2) = win0_2.index t (0 : Fin 2) ∧ win0_0.index t (1 : Fin 2) = 0
    ∧ win0_1.index t (0 : Fin 2) = win0_2.index t (1 : Fin 2) + 9 ∧ win0_1.index t (1 : Fin 2) = 0 :=
  (by decide +kernel : ∀ t : Fin grid0.N, _)

theorem rest_onto : ∀ (p : Fin 2) (q : Fin 8), ∃ t : Fin cfg0.N, win0_2.index t (0 : Fin 2) = p.val ∧ win0_2.index t (1 : Fin 2) = q.val :=
  (by decide +kernel : ∀ (p : Fin 2) (q : Fin 8), ∃ t : Fin grid0.N, win0_2.index t (0 : Fin 2) = p.val ∧ win0_2.index t (1 : Fin 2) = q.val)

theorem rest_flushed (c : Dev nD) (t : Fin cfg0.N) : (dats m 0 c).flushed 2 t = ((cfg0.win 2).blk t).view.read (Elt Ideal)
    (dots (r := 4096) (n := 4096) (k := 1024) (byRow (V m c main_arg0)) (rowsFrom 4608 (by decide) (byRow (V m c main_arg1)))) := by
  rw [flushed2]
  unfold out0_2
  rw [View.canon_unit_zero origin]
  rw [View.ld_unit_zero (S := S2048x1024) origin, View.ld_unit_zero (S := S512x1024) origin]
  unfold k0_pay1
  refine (unit_nt (r := 2048) (n := 512) (k := 1024) (φ₁ := .bf16) (φ₂ := .bf16) (iblk m c 0 t) (iblk m c 1 t)).trans ?_
  funext j
  obtain ⟨e0, e1, e2, e3⟩ := rest_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 2048 + 1 * (j 0).val = win0_2.index t (0 : Fin 2) * 2048 + 1 * (j 0).val; omega
  · show win0_0.index t (1 : Fin 2) * 1024 + 1 * q.val = q.val; omega
  · show win0_1.index t (0 : Fin 2) * 512 + 1 * (j 1).val = 4608 + (win0_2.index t (1 : Fin 2) * 512 + 1 * (j 1).val); omega
  · show win0_1.index t (1 : Fin 2) * 1024 + 1 * q.val = q.val; omega

theorem rest_covered (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, h0, h1⟩ := rest_onto ⟨(i 0).val / 2048, by omega⟩ ⟨(i 1).val / 512, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

theorem kernel_rest (c : Dev nD) : (dats m 0 c).arrAt 2 cfg0.N =
    dots (r := 4096) (n := 4096) (k := 1024) (byRow (m ((c : Thread nD τ).loc main_arg0))) (rowsFrom 4608 (by decide) (byRow (m ((c : Thread nD τ).loc main_arg1)))) :=
  ((dats m 0 c).arrAt_eq_of_cover 2 _ (fun t _ => rest_flushed m c t) rest_covered).trans (by rw [V_main_arg0, V_main_arg1])

end InProjRest

theorem product_rest : Cert.algebraic_InProjRestIdeal_InProjRestRefIdeal := fun m ρ m' ρ' _ hm =>
  ⟨_, Cert.InProjRestIdeal.Value.run_blocks m ρ,
    (θ_run Cert.InProjRestRefIdeal.defs _ _).mono (fun r h c => ⟨by
      rw [(h c).1, (hm c).1, (hm c).2]
      refine ((host_dots (r := 4096) (n := 4096) (k := 1024) (φ₁ := .f32) (φ₂ := .f32) _ _).trans ?_).trans (kernel_rest m c).symm
      rw [byCol_transpose]
      exact congrArg (dots (r := 4096) (n := 4096) (k := 1024) _) (byRow_slice (r := 4096) (n := 8704) (k := 1024) 4608 (by decide) _ Cert.InProjRestRefIdeal.Gen.slices_S8704x1024_S4096x1024_4608_0), (h c).2⟩) (Cert.InProjRestRefIdeal.Value.run m' ρ')⟩

/-! ## A branch's projection -/

section Branch

open Cert.BranchIdeal Cert.BranchIdeal.Gen Cert.BranchIdeal.Value

variable (m : (ℓ : Loc nD τ sig) → Buf (Elt Ideal) ℓ)

theorem branch_index : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem branch_onto : ∀ (p : Fin 2) (q : Fin 1), ∃ t : Fin cfg0.N, win0_2.index t (0 : Fin 2) = p.val ∧ win0_2.index t (1 : Fin 2) = q.val :=
  (by decide +kernel : ∀ (p : Fin 2) (q : Fin 1), ∃ t : Fin grid0.N, win0_2.index t (0 : Fin 2) = p.val ∧ win0_2.index t (1 : Fin 2) = q.val)

theorem branch_flushed (c : Dev nD) (t : Fin cfg0.N) : (dats m 0 c).flushed 2 t = ((cfg0.win 2).blk t).view.read (Elt Ideal)
    (dots (r := 4096) (n := 1024) (k := 512) (byRow (V m c main_arg0)) (byCol (V m c main_arg1))) := by
  rw [flushed2]
  unfold out0_2
  rw [View.canon_unit_zero origin]
  rw [View.ld_unit_zero (S := S2048x512) origin, View.ld_unit_zero (S := S512x1024) origin]
  unfold k0_pay1
  refine (unit_nn (r := 2048) (n := 1024) (k := 512) (φ₁ := .bf16) (φ₂ := .bf16) (iblk m c 0 t) (iblk m c 1 t)).trans ?_
  funext j
  obtain ⟨e0, e1, e2, e3⟩ := branch_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 2048 + 1 * (j 0).val = win0_2.index t (0 : Fin 2) * 2048 + 1 * (j 0).val; omega
  · show win0_0.index t (1 : Fin 2) * 512 + 1 * q.val = q.val; omega
  · show win0_1.index t (0 : Fin 2) * 512 + 1 * q.val = q.val; omega
  · show win0_1.index t (1 : Fin 2) * 1024 + 1 * (j 1).val = win0_2.index t (1 : Fin 2) * 1024 + 1 * (j 1).val; omega

theorem branch_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, h0, h1⟩ := branch_onto ⟨(i 0).val / 2048, by omega⟩ ⟨(i 1).val / 1024, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

theorem kernel_branch (c : Dev nD) : (dats m 0 c).arrAt 2 cfg0.N =
    dots (r := 4096) (n := 1024) (k := 512) (byRow (m ((c : Thread nD τ).loc main_arg0))) (byCol (m ((c : Thread nD τ).loc main_arg1))) :=
  ((dats m 0 c).arrAt_eq_of_cover 2 _ (fun t _ => branch_flushed m c t) branch_covered).trans (by rw [V_main_arg0, V_main_arg1])

end Branch

theorem product_branch : Cert.algebraic_BranchIdeal_BranchRefIdeal := fun m ρ m' ρ' _ hm =>
  ⟨_, Cert.BranchIdeal.Value.run_blocks m ρ,
    (θ_run Cert.BranchRefIdeal.defs _ _).mono (fun r h c => ⟨by
      rw [(h c).1, (hm c).1, (hm c).2]
      exact (host_dots (r := 4096) (n := 1024) (k := 512) (φ₁ := .f32) (φ₂ := .f32) _ _).trans (kernel_branch m c).symm, (h c).2⟩) (Cert.BranchRefIdeal.Value.run m' ρ')⟩

/-! ## The output projection -/

section OutProj

open Cert.OutProjIdeal Cert.OutProjIdeal.Gen Cert.OutProjIdeal.Value

variable (m : (ℓ : Loc nD τ sig) → Buf (Elt Ideal) ℓ)

theorem out_index : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem out_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

theorem out_flushed (c : Dev nD) (t : Fin cfg0.N) : (dats m 0 c).flushed 2 t = ((cfg0.win 2).blk t).view.read (Elt Ideal)
    (dots (r := 4096) (n := 1024) (k := 1024) (byRow (V m c main_arg0)) (byCol (V m c main_arg1))) := by
  rw [flushed2]
  unfold out0_2
  rw [View.canon_unit_zero origin]
  rw [View.ld_unit_zero (S := S1024x1024) origin, View.ld_unit_zero (S := S1024x1024) origin]
  unfold k0_pay1
  refine (unit_nn (r := 1024) (n := 1024) (k := 1024) (φ₁ := .bf16) (φ₂ := .bf16) (iblk m c 0 t) (iblk m c 1 t)).trans ?_
  funext j
  obtain ⟨e0, e1, e2, e3⟩ := out_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 1024 + 1 * (j 0).val = win0_2.index t (0 : Fin 2) * 1024 + 1 * (j 0).val; omega
  · show win0_0.index t (1 : Fin 2) * 1024 + 1 * q.val = q.val; omega
  · show win0_1.index t (0 : Fin 2) * 1024 + 1 * q.val = q.val; omega
  · show win0_1.index t (1 : Fin 2) * 1024 + 1 * (j 1).val = win0_2.index t (1 : Fin 2) * 1024 + 1 * (j 1).val; omega

theorem out_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, h0, h1⟩ := out_onto ⟨(i 0).val / 1024, by omega⟩ ⟨(i 1).val / 1024, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_out (c : Dev nD) : (dats m 0 c).arrAt 2 cfg0.N =
    dots (r := 4096) (n := 1024) (k := 1024) (byRow (m ((c : Thread nD τ).loc main_arg0))) (byCol (m ((c : Thread nD τ).loc main_arg1))) :=
  ((dats m 0 c).arrAt_eq_of_cover 2 _ (fun t _ => out_flushed m c t) out_covered).trans (by rw [V_main_arg0, V_main_arg1])

end OutProj

theorem product_out : Cert.algebraic_OutProjIdeal_OutProjRefIdeal := fun m ρ m' ρ' _ hm =>
  ⟨_, Cert.OutProjIdeal.Value.run_blocks m ρ,
    (θ_run Cert.OutProjRefIdeal.defs _ _).mono (fun r h c => ⟨by
      rw [(h c).1, (hm c).1, (hm c).2]
      exact (host_dots (r := 4096) (n := 1024) (k := 1024) (φ₁ := .f32) (φ₂ := .f32) _ _).trans (kernel_out m c).symm, (h c).2⟩) (Cert.OutProjRefIdeal.Value.run m' ρ')⟩

/-! ## The feed-forward block's first product -/

section FfnUp

open Cert.FfnUpIdeal Cert.FfnUpIdeal.Gen Cert.FfnUpIdeal.Value

variable (m : (ℓ : Loc nD τ sig) → Buf (Elt Ideal) ℓ)

theorem up_index : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem up_onto : ∀ (p : Fin 2) (q : Fin 11), ∃ t : Fin cfg0.N, win0_2.index t (0 : Fin 2) = p.val ∧ win0_2.index t (1 : Fin 2) = q.val :=
  (by decide +kernel : ∀ (p : Fin 2) (q : Fin 11), ∃ t : Fin grid0.N, win0_2.index t (0 : Fin 2) = p.val ∧ win0_2.index t (1 : Fin 2) = q.val)

theorem up_flushed (c : Dev nD) (t : Fin cfg0.N) : (dats m 0 c).flushed 2 t = ((cfg0.win 2).blk t).view.read (Elt Ideal)
    (dots (r := 4096) (n := 5632) (k := 1024) (byRow (V m c main_arg0)) (byRow (V m c main_arg1))) := by
  rw [flushed2]
  unfold out0_2
  rw [View.canon_unit_zero origin]
  rw [View.ld_unit_zero (S := S2048x1024) origin, View.ld_unit_zero (S := S512x1024) origin]
  unfold k0_pay1
  refine (unit_nt (r := 2048) (n := 512) (k := 1024) (φ₁ := .bf16) (φ₂ := .bf16) (iblk m c 0 t) (iblk m c 1 t)).trans ?_
  funext j
  obtain ⟨e0, e1, e2, e3⟩ := up_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 2048 + 1 * (j 0).val = win0_2.index t (0 : Fin 2) * 2048 + 1 * (j 0).val; omega
  · show win0_0.index t (1 : Fin 2) * 1024 + 1 * q.val = q.val; omega
  · show win0_1.index t (0 : Fin 2) * 512 + 1 * (j 1).val = win0_2.index t (1 : Fin 2) * 512 + 1 * (j 1).val; omega
  · show win0_1.index t (1 : Fin 2) * 1024 + 1 * q.val = q.val; omega

theorem up_covered (i : S4096x5632.Idx) : ∃ t : Fin cfg0.N, (cfg0.win 2).flush t = true ∧ i ∈ ((cfg0.win 2).blk t).view.set := by
  have hi0 : (i 0).val < 4096 := (i 0).isLt
  have hi1 : (i 1).val < 5632 := (i 1).isLt
  obtain ⟨t, h0, h1⟩ := up_onto ⟨(i 0).val / 2048, by omega⟩ ⟨(i 1).val / 512, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

theorem kernel_up (c : Dev nD) : (dats m 0 c).arrAt 2 cfg0.N =
    dots (r := 4096) (n := 5632) (k := 1024) (byRow (m ((c : Thread nD τ).loc main_arg0))) (byRow (m ((c : Thread nD τ).loc main_arg1))) :=
  ((dats m 0 c).arrAt_eq_of_cover 2 _ (fun t _ => up_flushed m c t) up_covered).trans (by rw [V_main_arg0, V_main_arg1])

end FfnUp

theorem product_up : Cert.algebraic_FfnUpIdeal_FfnUpRefIdeal := fun m ρ m' ρ' _ hm =>
  ⟨_, Cert.FfnUpIdeal.Value.run_blocks m ρ,
    (θ_run Cert.FfnUpRefIdeal.defs _ _).mono (fun r h c => ⟨by
      rw [(h c).1, (hm c).1, (hm c).2]
      refine ((host_dots (r := 4096) (n := 5632) (k := 1024) (φ₁ := .f32) (φ₂ := .f32) _ _).trans ?_).trans (kernel_up m c).symm
      rw [byCol_transpose]
      rfl, (h c).2⟩) (Cert.FfnUpRefIdeal.Value.run m' ρ')⟩

/-! ## Its second -/

section FfnDown

open Cert.FfnDownIdeal Cert.FfnDownIdeal.Gen Cert.FfnDownIdeal.Value

variable (m : (ℓ : Loc nD τ sig) → Buf (Elt Ideal) ℓ)

theorem down_index : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem down_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

theorem down_flushed (c : Dev nD) (t : Fin cfg0.N) : (dats m 0 c).flushed 2 t = ((cfg0.win 2).blk t).view.read (Elt Ideal)
    (dots (r := 4096) (n := 1024) (k := 2816) (byRow (V m c main_arg0)) (byCol (V m c main_arg1))) := by
  rw [flushed2]
  unfold out0_2
  rw [View.canon_unit_zero origin]
  rw [View.ld_unit_zero (S := S1024x2816) origin, View.ld_unit_zero (S := S2816x1024) origin]
  unfold k0_pay1
  refine (unit_nn (r := 1024) (n := 1024) (k := 2816) (φ₁ := .bf16) (φ₂ := .bf16) (iblk m c 0 t) (iblk m c 1 t)).trans ?_
  funext j
  obtain ⟨e0, e1, e2, e3⟩ := down_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 1024 + 1 * (j 0).val = win0_2.index t (0 : Fin 2) * 1024 + 1 * (j 0).val; omega
  · show win0_0.index t (1 : Fin 2) * 2816 + 1 * q.val = q.val; omega
  · show win0_1.index t (0 : Fin 2) * 2816 + 1 * q.val = q.val; omega
  · show win0_1.index t (1 : Fin 2) * 1024 + 1 * (j 1).val = win0_2.index t (1 : Fin 2) * 1024 + 1 * (j 1).val; omega

theorem down_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, h0, h1⟩ := down_onto ⟨(i 0).val / 1024, by omega⟩ ⟨(i 1).val / 1024, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_down (c : Dev nD) : (dats m 0 c).arrAt 2 cfg0.N =
    dots (r := 4096) (n := 1024) (k := 2816) (byRow (m ((c : Thread nD τ).loc main_arg0))) (byCol (m ((c : Thread nD τ).loc main_arg1))) :=
  ((dats m 0 c).arrAt_eq_of_cover 2 _ (fun t _ => down_flushed m c t) down_covered).trans (by rw [V_main_arg0, V_main_arg1])

end FfnDown

theorem product_down : Cert.algebraic_FfnDownIdeal_FfnDownRefIdeal := fun m ρ m' ρ' _ hm =>
  ⟨_, Cert.FfnDownIdeal.Value.run_blocks m ρ,
    (θ_run Cert.FfnDownRefIdeal.defs _ _).mono (fun r h c => ⟨by
      rw [(h c).1, (hm c).1, (hm c).2]
      exact (host_dots (r := 4096) (n := 1024) (k := 2816) (φ₁ := .f32) (φ₂ := .f32) _ _).trans (kernel_down m c).symm, (h c).2⟩) (Cert.FfnDownRefIdeal.Value.run m' ρ')⟩

end Cert.Products
-- ==== Proof.Products.Backward.lean ====
/- Products of the backward pass with a weight, summed at once: what the kernel's grid computes is the reference's product. -/
module

public import proofs.«01_k».proof.Defs
public import proofs.«01_k».proof.Proof.ProductLemmas
public import proofs.«01_k».proof.Proof.Gen.FfnDownDxIdeal.Value
public import proofs.«01_k».proof.Proof.Gen.FfnDownDxRefIdeal.Run
public import proofs.«01_k».proof.Proof.Gen.OutProjDxIdeal.Value
public import proofs.«01_k».proof.Proof.Gen.OutProjDxRefIdeal.Run
public import proofs.«01_k».proof.Proof.Gen.BranchDxIdeal.Value
public import proofs.«01_k».proof.Proof.Gen.BranchDxRefIdeal.Run

@[expose] public section

noncomputable section

namespace Cert.Products

open Idealize.ShloMosaic Idealize.ShloMosaic.TcCoe Idealize.SL.Sem Idealize.ShloMosaic.ValueIdx

/-! ## Through the feed-forward block's second product -/

section FfnDownDx

open Cert.FfnDownDxIdeal Cert.FfnDownDxIdeal.Gen Cert.FfnDownDxIdeal.Value

variable (m : (ℓ : Loc nD τ sig) → Buf (Elt Ideal) ℓ)

theorem downDx_index : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem downDx_onto : ∀ (p : Fin 8) (q : Fin 1), ∃ t : Fin cfg0.N, win0_2.index t (0 : Fin 2) = p.val ∧ win0_2.index t (1 : Fin 2) = q.val :=
  (by decide +kernel : ∀ (p : Fin 8) (q : Fin 1), ∃ t : Fin grid0.N, win0_2.index t (0 : Fin 2) = p.val ∧ win0_2.index t (1 : Fin 2) = q.val)

theorem downDx_flushed (c : Dev nD) (t : Fin cfg0.N) : (dats m 0 c).flushed 2 t = ((cfg0.win 2).blk t).view.read (Elt Ideal)
    (dots (r := 4096) (n := 2816) (k := 1024) (byRow (V m c main_arg0)) (byRow (V m c main_arg1))) := by
  rw [flushed2]
  unfold out0_2
  rw [View.canon_unit_zero origin]
  rw [View.ld_unit_zero (S := S512x1024) origin, View.ld_unit_zero (S := S2816x1024) origin]
  unfold k0_pay1
  refine (unit_nt (r := 512) (n := 2816) (k := 1024) (φ₁ := .bf16) (φ₂ := .bf16) (iblk m c 0 t) (iblk m c 1 t)).trans ?_
  funext j
  obtain ⟨e0, e1, e2, e3⟩ := downDx_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 512 + 1 * (j 0).val = win0_2.index t (0 : Fin 2) * 512 + 1 * (j 0).val; omega
  · show win0_0.index t (1 : Fin 2) * 1024 + 1 * q.val = q.val; omega
  · show win0_1.index t (0 : Fin 2) * 2816 + 1 * (j 1).val = win0_2.index t (1 : Fin 2) * 2816 + 1 * (j 1).val; omega
  · show win0_1.index t (1 : Fin 2) * 1024 + 1 * q.val = q.val; omega

theorem downDx_covered (i : S4096x2816.Idx) : ∃ t : Fin cfg0.N, (cfg0.win 2).flush t = true ∧ i ∈ ((cfg0.win 2).blk t).view.set := by
  have hi0 : (i 0).val < 4096 := (i 0).isLt
  have hi1 : (i 1).val < 2816 := (i 1).isLt
  obtain ⟨t, h0, h1⟩ := downDx_onto ⟨(i 0).val / 512, by omega⟩ ⟨(i 1).val / 2816, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2816 ≤ (i 1).val ∧ (i 1).val < win0_2.index t (1 : Fin 2) * 2816 + 2816; omega

theorem kernel_downDx (c : Dev nD) : (dats m 0 c).arrAt 2 cfg0.N =
    dots (r := 4096) (n := 2816) (k := 1024) (byRow (m ((c : Thread nD τ).loc main_arg0))) (byRow (m ((c : Thread nD τ).loc main_arg1))) :=
  ((dats m 0 c).arrAt_eq_of_cover 2 _ (fun t _ => downDx_flushed m c t) downDx_covered).trans (by rw [V_main_arg0, V_main_arg1])

end FfnDownDx

theorem product_downDx : Cert.algebraic_FfnDownDxIdeal_FfnDownDxRefIdeal := fun m ρ m' ρ' _ hm =>
  ⟨_, Cert.FfnDownDxIdeal.Value.run_blocks m ρ,
    (θ_run Cert.FfnDownDxRefIdeal.defs _ _).mono (fun r h c => ⟨by
      rw [(h c).1, (hm c).1, (hm c).2]
      refine ((host_dots (r := 4096) (n := 2816) (k := 1024) (φ₁ := .f32) (φ₂ := .f32) _ _).trans ?_).trans (kernel_downDx m c).symm
      rw [byCol_transpose]
      rfl, (h c).2⟩) (Cert.FfnDownDxRefIdeal.Value.run m' ρ')⟩

/-! ## Through the output projection -/

section OutProjDx

open Cert.OutProjDxIdeal Cert.OutProjDxIdeal.Gen Cert.OutProjDxIdeal.Value

variable (m : (ℓ : Loc nD τ sig) → Buf (Elt Ideal) ℓ)

theorem outDx_index : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem outDx_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

theorem outDx_flushed (c : Dev nD) (t : Fin cfg0.N) : (dats m 0 c).flushed 2 t = ((cfg0.win 2).blk t).view.read (Elt Ideal)
    (dots (r := 4096) (n := 1024) (k := 1024) (byRow (V m c main_arg0)) (byRow (V m c main_arg1))) := by
  rw [flushed2]
  unfold out0_2
  rw [View.canon_unit_zero origin]
  rw [View.ld_unit_zero (S := S1024x1024) origin, View.ld_unit_zero (S := S1024x1024) origin]
  unfold k0_pay1
  refine (unit_nt (r := 1024) (n := 1024) (k := 1024) (φ₁ := .bf16) (φ₂ := .bf16) (iblk m c 0 t) (iblk m c 1 t)).trans ?_
  funext j
  obtain ⟨e0, e1, e2, e3⟩ := outDx_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 1024 + 1 * (j 0).val = win0_2.index t (0 : Fin 2) * 1024 + 1 * (j 0).val; omega
  · show win0_0.index t (1 : Fin 2) * 1024 + 1 * q.val = q.val; omega
  · show win0_1.index t (0 : Fin 2) * 1024 + 1 * (j 1).val = win0_2.index t (1 : Fin 2) * 1024 + 1 * (j 1).val; omega
  · show win0_1.index t (1 : Fin 2) * 1024 + 1 * q.val = q.val; omega

theorem outDx_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, h0, h1⟩ := outDx_onto ⟨(i 0).val / 1024, by omega⟩ ⟨(i 1).val / 1024, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_outDx (c : Dev nD) : (dats m 0 c).arrAt 2 cfg0.N =
    dots (r := 4096) (n := 1024) (k := 1024) (byRow (m ((c : Thread nD τ).loc main_arg0))) (byRow (m ((c : Thread nD τ).loc main_arg1))) :=
  ((dats m 0 c).arrAt_eq_of_cover 2 _ (fun t _ => outDx_flushed m c t) outDx_covered).trans (by rw [V_main_arg0, V_main_arg1])

end OutProjDx

theorem product_outDx : Cert.algebraic_OutProjDxIdeal_OutProjDxRefIdeal := fun m ρ m' ρ' _ hm =>
  ⟨_, Cert.OutProjDxIdeal.Value.run_blocks m ρ,
    (θ_run Cert.OutProjDxRefIdeal.defs _ _).mono (fun r h c => ⟨by
      rw [(h c).1, (hm c).1, (hm c).2]
      refine ((host_dots (r := 4096) (n := 1024) (k := 1024) (φ₁ := .f32) (φ₂ := .f32) _ _).trans ?_).trans (kernel_outDx m c).symm
      rw [byCol_transpose]
      rfl, (h c).2⟩) (Cert.OutProjDxRefIdeal.Value.run m' ρ')⟩

/-! ## Through a branch's projection -/

section BranchDx

open Cert.BranchDxIdeal Cert.BranchDxIdeal.Gen Cert.BranchDxIdeal.Value

variable (m : (ℓ : Loc nD τ sig) → Buf (Elt Ideal) ℓ)

theorem branchDx_index : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem branchDx_onto : ∀ (p : Fin 2) (q : Fin 1), ∃ t : Fin cfg0.N, win0_2.index t (0 : Fin 2) = p.val ∧ win0_2.index t (1 : Fin 2) = q.val :=
  (by decide +kernel : ∀ (p : Fin 2) (q : Fin 1), ∃ t : Fin grid0.N, win0_2.index t (0 : Fin 2) = p.val ∧ win0_2.index t (1 : Fin 2) = q.val)

theorem branchDx_flushed (c : Dev nD) (t : Fin cfg0.N) : (dats m 0 c).flushed 2 t = ((cfg0.win 2).blk t).view.read (Elt Ideal)
    (dots (r := 4096) (n := 512) (k := 1024) (byRow (V m c main_arg0)) (byRow (V m c main_arg1))) := by
  rw [flushed2]
  unfold out0_2
  rw [View.canon_unit_zero origin]
  rw [View.ld_unit_zero (S := S2048x1024) origin, View.ld_unit_zero (S := S512x1024) origin]
  unfold k0_pay1
  refine (unit_nt (r := 2048) (n := 512) (k := 1024) (φ₁ := .bf16) (φ₂ := .bf16) (iblk m c 0 t) (iblk m c 1 t)).trans ?_
  funext j
  obtain ⟨e0, e1, e2, e3⟩ := branchDx_index t
  refine dots_entry j (((cfg0.win 2).blk t).view.emb j) (fun q => congrArg (V m c main_arg0) (Shape.idx_ext₂ ?_ ?_))
    fun q => congrArg (V m c main_arg1) (Shape.idx_ext₂ ?_ ?_)
  · show win0_0.index t (0 : Fin 2) * 2048 + 1 * (j 0).val = win0_2.index t (0 : Fin 2) * 2048 + 1 * (j 0).val; omega
  · show win0_0.index t (1 : Fin 2) * 1024 + 1 * q.val = q.val; omega
  · show win0_1.index t (0 : Fin 2) * 512 + 1 * (j 1).val = win0_2.index t (1 : Fin 2) * 512 + 1 * (j 1).val; omega
  · show win0_1.index t (1 : Fin 2) * 1024 + 1 * q.val = q.val; omega

theorem branchDx_covered (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, h0, h1⟩ := branchDx_onto ⟨(i 0).val / 2048, by omega⟩ ⟨(i 1).val / 512, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

theorem kernel_branchDx (c : Dev nD) : (dats m 0 c).arrAt 2 cfg0.N =
    dots (r := 4096) (n := 512) (k := 1024) (byRow (m ((c : Thread nD τ).loc main_arg0))) (byRow (m ((c : Thread nD τ).loc main_arg1))) :=
  ((dats m 0 c).arrAt_eq_of_cover 2 _ (fun t _ => branchDx_flushed m c t) branchDx_covered).trans (by rw [V_main_arg0, V_main_arg1])

end BranchDx

theorem product_branchDx : Cert.algebraic_BranchDxIdeal_BranchDxRefIdeal := fun m ρ m' ρ' _ hm =>
  ⟨_, Cert.BranchDxIdeal.Value.run_blocks m ρ,
    (θ_run Cert.BranchDxRefIdeal.defs _ _).mono (fun r h c => ⟨by
      rw [(h c).1, (hm c).1, (hm c).2]
      refine ((host_dots (r := 4096) (n := 512) (k := 1024) (φ₁ := .f32) (φ₂ := .f32) _ _).trans ?_).trans (kernel_branchDx m c).symm
      rw [byCol_transpose]
      rfl, (h c).2⟩) (Cert.BranchDxRefIdeal.Value.run m' ρ')⟩

end Cert.Products
-- ==== Proof.Products.Attention.lean ====
/- The input projection's products for the three groups of attention heads. Their tiles of 1536 rows do not tile the weight's 8704. -/
module

public import proofs.«01_k».proof.Defs
public import proofs.«01_k».proof.Proof.ProductLemmas
public import proofs.«01_k».proof.Proof.Gen.InProjAttn0Ideal.Value
public import proofs.«01_k».proof.Proof.Gen.InProjAttn0RefIdeal.Run
public import proofs.«01_k».proof.Proof.Gen.InProjAttn1Ideal.Value
public import proofs.«01_k».proof.Proof.Gen.InProjAttn1RefIdeal.Run
public import proofs.«01_k».proof.Proof.Gen.InProjAttn2Ideal.Value
public import proofs.«01_k».proof.Proof.Gen.InProjAttn2RefIdeal.Run
public import proofs.«01_k».proof.Proof.Gen.InProjDxAttn1Ideal.Value
public import proofs.«01_k».proof.Proof.Gen.InProjDxAttn1RefIdeal.Run
public import proofs.«01_k».proof.Proof.Gen.InProjDxAttn2Ideal.Value
public import proofs.«01_k».proof.Proof.Gen.InProjDxAttn2RefIdeal.Run

@[expose] public section

noncomputable section

namespace Cert.Products

open Idealize.ShloMosaic Idealize.ShloMosaic.TcCoe Idealize.SL.Sem Idealize.ShloMosaic.ValueIdx

/-! ## Group 0 -/

section InProjAttn0

open Cert.InProjAttn0Ideal Cert.InProjAttn0Ideal.Gen Cert.InProjAttn0Ideal.Value

variable (m : (ℓ : Loc nD τ sig) → Buf (Elt Ideal) ℓ)

theorem attn0_index : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem attn0_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

/-- No block of the weight that a point reads is cut. -/
theorem attn0_fill (c : Dev nD) (t : Fin cfg0.N) (y : S8704x1024.Idx → EReal) (j : S1536x1024.Idx) (k : S8704x1024.Idx) (hy : y = V m c main_arg1)
    (h0 : win0_1.index t (0 : Fin 2) * 1536 + 1 * (j 0).val = (k 0).val) (h1 : win0_1.index t (1 : Fin 2) * 1024 + 1 * (j 1).val = (k 1).val) :
    X0_1 m c t j = y k := by
  subst hy
  unfold X0_1 Pipeline.Window.fill
  rw [dif_pos (moved0_1 t j)]
  exact congrArg (V m c main_arg1) (Shape.idx_ext₂ h0 h1)

theorem attn0_point (c : Dev nD) (i : grid0.Coords) (a3 : Memref sig .tc .vmem S1024x1024 .bf16) (h3 : a3.IsWhole)
    (a4 : Memref sig .tc .vmem S1536x1024 .bf16) (h4 : a4.IsWhole) (a5 : Memref sig .tc .vmem S1024x1536 .bf16) (h5 : a5.IsWhole)
    (x : Vec Ideal S1024x1024 .bf16) (y : Vec Ideal S1536x1024 .bf16) :
    out0_A_2 c i a3 h3 a4 h4 a5 h5 x y = dots (byRow x) (byRow y) := by
  unfold out0_A_2
  rw [View.read_writes_eq_canon _ _ _ (cover0_A_2 c i a3 h3 a4 h4 a5 h5 x y)]
  unfold kernelRun0_A
  dsimp only
  sl_unfold_words
  rw [View.canon_unit_zero origin]
  unfold k0_pay1
  simp only [View.readAt_eq_ld, h3.read_unread, h4.read_unread, View.ld_unit_zero (S := S1024x1024) origin, View.ld_unit_zero (S := S1536x1024) origin]
  exact unit_nt (r := 1024) (n := 1536) (k := 1024) (φ₁ := .bf16) (φ₂ := .bf16) x y

theorem attn0_flushed (c : Dev nD) (t : Fin cfg0.N) : (dats m 0 c).flushed 2 t = ((cfg0.win 2).blk t).view.read (Elt Ideal)
    (dots (r := 4096) (n := 1536) (k := 1024) (byRow (V m c main_arg0)) (rowsFrom 0 (by decide) (byRow (V m c main_arg1)))) := by
  rw [flushed2_A, attn0_point]
  funext j
  obtain ⟨e0, e1, e2, e3⟩ := attn0_index t
  show dots (r := 1024) (n := 1536) (k := 1024) (byRow (iblk m c 0 t)) (byRow (X0_1 m c t)) j =
    dots (r := 4096) (n := 1536) (k := 1024) (byRow (V m c main_arg0)) (rowsFrom 0 (by decide) (byRow (V m c main_arg1))) (((cfg0.win 2).blk t).view.emb j)
  refine dots_entry j (((cfg0.win 2).blk t).view.emb j) (fun q => ?_) fun q => ?_
  · refine congrArg (V m c main_arg0) (Shape.idx_ext₂ ?_ ?_)
    · show win0_0.index t (0 : Fin 2) * 1024 + 1 * (j 0).val = win0_2.index t (0 : Fin 2) * 1024 + 1 * (j 0).val; omega
    · show win0_0.index t (1 : Fin 2) * 1024 + 1 * q.val = q.val; omega
  · refine attn0_fill m c t _ _ _ rfl ?_ ?_
    · show win0_1.index t (0 : Fin 2) * 1536 + 1 * (j 1).val = 0 + (win0_2.index t (1 : Fin 2) * 1536 + 1 * (j 1).val); omega
    · show win0_1.index t (1 : Fin 2) * 1024 + 1 * q.val = q.val; omega

theorem attn0_covered (i : S4096x1536.Idx) : ∃ t : Fin cfg0.N, (cfg0.win 2).flush t = true ∧ i ∈ ((cfg0.win 2).blk t).view.set := by
  have hi0 : (i 0).val < 4096 := (i 0).isLt
  have hi1 : (i 1).val < 1536 := (i 1).isLt
  obtain ⟨t, h0, h1⟩ := attn0_onto ⟨(i 0).val / 1024, by omega⟩ ⟨(i 1).val / 1536, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1536 ≤ (i 1).val ∧ (i 1).val < win0_2.index t (1 : Fin 2) * 1536 + 1536; omega

theorem kernel_attn0 (c : Dev nD) : (dats m 0 c).arrAt 2 cfg0.N =
    dots (r := 4096) (n := 1536) (k := 1024) (byRow (m ((c : Thread nD τ).loc main_arg0))) (rowsFrom 0 (by decide) (byRow (m ((c : Thread nD τ).loc main_arg1)))) :=
  ((dats m 0 c).arrAt_eq_of_cover 2 _ (fun t _ => attn0_flushed m c t) attn0_covered).trans (by rw [V_main_arg0, V_main_arg1])

end InProjAttn0

theorem product_attn0 : Cert.algebraic_InProjAttn0Ideal_InProjAttn0RefIdeal := fun m ρ m' ρ' _ hm =>
  ⟨_, Cert.InProjAttn0Ideal.Value.run_blocks m ρ,
    (θ_run Cert.InProjAttn0RefIdeal.defs _ _).mono (fun r h c => ⟨by
      rw [(h c).1, (hm c).1, (hm c).2]
      refine ((host_dots (r := 4096) (n := 1536) (k := 1024) (φ₁ := .f32) (φ₂ := .f32) _ _).trans ?_).trans (kernel_attn0 m c).symm
      rw [byCol_transpose]
      exact congrArg (dots (r := 4096) (n := 1536) (k := 1024) _) (byRow_slice (r := 1536) (n := 8704) (k := 1024) 0 (by decide) _ Cert.InProjAttn0RefIdeal.Gen.slices_S8704x1024_S1536x1024_0_0), (h c).2⟩) (Cert.InProjAttn0RefIdeal.Value.run m' ρ')⟩

/-! ## Group 1 -/

section InProjAttn1

open Cert.InProjAttn1Ideal Cert.InProjAttn1Ideal.Gen Cert.InProjAttn1Ideal.Value

variable (m : (ℓ : Loc nD τ sig) → Buf (Elt Ideal) ℓ)

theorem attn1_index : ∀ t : Fin cfg0.N, win0_0.index t (0 : Fin 2) = win0_2.index t (0 : Fin 2) ∧ win0_0.index t (1 : Fin 2) = 0
    ∧ win0_1.index t (0 : Fin 2) = win0_2.index t (1 : Fin 2) + 1 ∧ win0_1.index t (1 : Fin 2) = 0 :=
  (by decide +kernel : ∀ t : Fin grid0.N, _)

theorem attn1_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

/-- No block of the weight that a point reads is cut. -/
theorem attn1_fill (c : Dev nD) (t : Fin cfg0.N) (y : S8704x1024.Idx → EReal) (j : S1536x1024.Idx) (k : S8704x1024.Idx) (hy : y = V m c main_arg1)
    (h0 : win0_1.index t (0 : Fin 2) * 1536 + 1 * (j 0).val = (k 0).val) (h1 : win0_1.index t (1 : Fin 2) * 1024 + 1 * (j 1).val = (k 1).val) :
    X0_1 m c t j = y k := by
  subst hy
  unfold X0_1 Pipeline.Window.fill
  rw [dif_pos (moved0_1 t j)]
  exact congrArg (V m c main_arg1) (Shape.idx_ext₂ h0 h1)

theorem attn1_point (c : Dev nD) (i : grid0.Coords) (a3 : Memref sig .tc .vmem S1024x1024 .bf16) (h3 : a3.IsWhole)
    (a4 : Memref sig .tc .vmem S1536x1024 .bf16) (h4 : a4.IsWhole) (a5 : Memref sig .tc .vmem S1024x1536 .bf16) (h5 : a5.IsWhole)
    (x : Vec Ideal S1024x1024 .bf16) (y : Vec Ideal S1536x1024 .bf16) :
    out0_A_2 c i a3 h3 a4 h4 a5 h5 x y = dots (byRow x) (byRow y) := by
  unfold out0_A_2
  rw [View.read_writes_eq_canon _ _ _ (cover0_A_2 c i a3 h3 a4 h4 a5 h5 x y)]
  unfold kernelRun0_A
  dsimp only
  sl_unfold_words
  rw [View.canon_unit_zero origin]
  unfold k0_pay1
  simp only [View.readAt_eq_ld, h3.read_unread, h4.read_unread, View.ld_unit_zero (S := S1024x1024) origin, View.ld_unit_zero (S := S1536x1024) origin]
  exact unit_nt (r := 1024) (n := 1536) (k := 1024) (φ₁ := .bf16) (φ₂ := .bf16) x y

theorem attn1_flushed (c : Dev nD) (t : Fin cfg0.N) : (dats m 0 c).flushed 2 t = ((cfg0.win 2).blk t).view.read (Elt Ideal)
    (dots (r := 4096) (n := 1536) (k := 1024) (byRow (V m c main_arg0)) (rowsFrom 1536 (by decide) (byRow (V m c main_arg1)))) := by
  rw [flushed2_A, attn1_point]
  funext j
  obtain ⟨e0, e1, e2, e3⟩ := attn1_index t
  show dots (r := 1024) (n := 1536) (k := 1024) (byRow (iblk m c 0 t)) (byRow (X0_1 m c t)) j =
    dots (r := 4096) (n := 1536) (k := 1024) (byRow (V m c main_arg0)) (rowsFrom 1536 (by decide) (byRow (V m c main_arg1))) (((cfg0.win 2).blk t).view.emb j)
  refine dots_entry j (((cfg0.win 2).blk t).view.emb j) (fun q => ?_) fun q => ?_
  · refine congrArg (V m c main_arg0) (Shape.idx_ext₂ ?_ ?_)
    · show win0_0.index t (0 : Fin 2) * 1024 + 1 * (j 0).val = win0_2.index t (0 : Fin 2) * 1024 + 1 * (j 0).val; omega
    · show win0_0.index t (1 : Fin 2) * 1024 + 1 * q.val = q.val; omega
  · refine attn1_fill m c t _ _ _ rfl ?_ ?_
    · show win0_1.index t (0 : Fin 2) * 1536 + 1 * (j 1).val = 1536 + (win0_2.index t (1 : Fin 2) * 1536 + 1 * (j 1).val); omega
    · show win0_1.index t (1 : Fin 2) * 1024 + 1 * q.val = q.val; omega

theorem attn1_covered (i : S4096x1536.Idx) : ∃ t : Fin cfg0.N, (cfg0.win 2).flush t = true ∧ i ∈ ((cfg0.win 2).blk t).view.set := by
  have hi0 : (i 0).val < 4096 := (i 0).isLt
  have hi1 : (i 1).val < 1536 := (i 1).isLt
  obtain ⟨t, h0, h1⟩ := attn1_onto ⟨(i 0).val / 1024, by omega⟩ ⟨(i 1).val / 1536, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1536 ≤ (i 1).val ∧ (i 1).val < win0_2.index t (1 : Fin 2) * 1536 + 1536; omega

theorem kernel_attn1 (c : Dev nD) : (dats m 0 c).arrAt 2 cfg0.N =
    dots (r := 4096) (n := 1536) (k := 1024) (byRow (m ((c : Thread nD τ).loc main_arg0))) (rowsFrom 1536 (by decide) (byRow (m ((c : Thread nD τ).loc main_arg1)))) :=
  ((dats m 0 c).arrAt_eq_of_cover 2 _ (fun t _ => attn1_flushed m c t) attn1_covered).trans (by rw [V_main_arg0, V_main_arg1])

end InProjAttn1

theorem product_attn1 : Cert.algebraic_InProjAttn1Ideal_InProjAttn1RefIdeal := fun m ρ m' ρ' _ hm =>
  ⟨_, Cert.InProjAttn1Ideal.Value.run_blocks m ρ,
    (θ_run Cert.InProjAttn1RefIdeal.defs _ _).mono (fun r h c => ⟨by
      rw [(h c).1, (hm c).1, (hm c).2]
      refine ((host_dots (r := 4096) (n := 1536) (k := 1024) (φ₁ := .f32) (φ₂ := .f32) _ _).trans ?_).trans (kernel_attn1 m c).symm
      rw [byCol_transpose]
      exact congrArg (dots (r := 4096) (n := 1536) (k := 1024) _) (byRow_slice (r := 1536) (n := 8704) (k := 1024) 1536 (by decide) _ Cert.InProjAttn1RefIdeal.Gen.slices_S8704x1024_S1536x1024_1536_0), (h c).2⟩) (Cert.InProjAttn1RefIdeal.Value.run m' ρ')⟩

/-! ## Group 2 -/

section InProjAttn2

open Cert.InProjAttn2Ideal Cert.InProjAttn2Ideal.Gen Cert.InProjAttn2Ideal.Value

variable (m : (ℓ : Loc nD τ sig) → Buf (Elt Ideal) ℓ)

theorem attn2_index : ∀ t : Fin cfg0.N, win0_0.index t (0 : Fin 2) = win0_2.index t (0 : Fin 2) ∧ win0_0.index t (1 : Fin 2) = 0
    ∧ win0_1.index t (0 : Fin 2) = win0_2.index t (1 : Fin 2) + 2 ∧ win0_1.index t (1 : Fin 2) = 0 :=
  (by decide +kernel : ∀ t : Fin grid0.N, _)

theorem attn2_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

/-- No block of the weight that a point reads is cut. -/
theorem attn2_fill (c : Dev nD) (t : Fin cfg0.N) (y : S8704x1024.Idx → EReal) (j : S1536x1024.Idx) (k : S8704x1024.Idx) (hy : y = V m c main_arg1)
    (h0 : win0_1.index t (0 : Fin 2) * 1536 + 1 * (j 0).val = (k 0).val) (h1 : win0_1.index t (1 : Fin 2) * 1024 + 1 * (j 1).val = (k 1).val) :
    X0_1 m c t j = y k := by
  subst hy
  unfold X0_1 Pipeline.Window.fill
  rw [dif_pos (moved0_1 t j)]
  exact congrArg (V m c main_arg1) (Shape.idx_ext₂ h0 h1)

theorem attn2_point (c : Dev nD) (i : grid0.Coords) (a3 : Memref sig .tc .vmem S1024x1024 .bf16) (h3 : a3.IsWhole)
    (a4 : Memref sig .tc .vmem S1536x1024 .bf16) (h4 : a4.IsWhole) (a5 : Memref sig .tc .vmem S1024x1536 .bf16) (h5 : a5.IsWhole)
    (x : Vec Ideal S1024x1024 .bf16) (y : Vec Ideal S1536x1024 .bf16) :
    out0_A_2 c i a3 h3 a4 h4 a5 h5 x y = dots (byRow x) (byRow y) := by
  unfold out0_A_2
  rw [View.read_writes_eq_canon _ _ _ (cover0_A_2 c i a3 h3 a4 h4 a5 h5 x y)]
  unfold kernelRun0_A
  dsimp only
  sl_unfold_words
  rw [View.canon_unit_zero origin]
  unfold k0_pay1
  simp only [View.readAt_eq_ld, h3.read_unread, h4.read_unread, View.ld_unit_zero (S := S1024x1024) origin, View.ld_unit_zero (S := S1536x1024) origin]
  exact unit_nt (r := 1024) (n := 1536) (k := 1024) (φ₁ := .bf16) (φ₂ := .bf16) x y

theorem attn2_flushed (c : Dev nD) (t : Fin cfg0.N) : (dats m 0 c).flushed 2 t = ((cfg0.win 2).blk t).view.read (Elt Ideal)
    (dots (r := 4096) (n := 1536) (k := 1024) (byRow (V m c main_arg0)) (rowsFrom 3072 (by decide) (byRow (V m c main_arg1)))) := by
  rw [flushed2_A, attn2_point]
  funext j
  obtain ⟨e0, e1, e2, e3⟩ := attn2_index t
  show dots (r := 1024) (n := 1536) (k := 1024) (byRow (iblk m c 0 t)) (byRow (X0_1 m c t)) j =
    dots (r := 4096) (n := 1536) (k := 1024) (byRow (V m c main_arg0)) (rowsFrom 3072 (by decide) (byRow (V m c main_arg1))) (((cfg0.win 2).blk t).view.emb j)
  refine dots_entry j (((cfg0.win 2).blk t).view.emb j) (fun q => ?_) fun q => ?_
  · refine congrArg (V m c main_arg0) (Shape.idx_ext₂ ?_ ?_)
    · show win0_0.index t (0 : Fin 2) * 1024 + 1 * (j 0).val = win0_2.index t (0 : Fin 2) * 1024 + 1 * (j 0).val; omega
    · show win0_0.index t (1 : Fin 2) * 1024 + 1 * q.val = q.val; omega
  · refine attn2_fill m c t _ _ _ rfl ?_ ?_
    · show win0_1.index t (0 : Fin 2) * 1536 + 1 * (j 1).val = 3072 + (win0_2.index t (1 : Fin 2) * 1536 + 1 * (j 1).val); omega
    · show win0_1.index t (1 : Fin 2) * 1024 + 1 * q.val = q.val; omega

theorem attn2_covered (i : S4096x1536.Idx) : ∃ t : Fin cfg0.N, (cfg0.win 2).flush t = true ∧ i ∈ ((cfg0.win 2).blk t).view.set := by
  have hi0 : (i 0).val < 4096 := (i 0).isLt
  have hi1 : (i 1).val < 1536 := (i 1).isLt
  obtain ⟨t, h0, h1⟩ := attn2_onto ⟨(i 0).val / 1024, by omega⟩ ⟨(i 1).val / 1536, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1536 ≤ (i 1).val ∧ (i 1).val < win0_2.index t (1 : Fin 2) * 1536 + 1536; omega

theorem kernel_attn2 (c : Dev nD) : (dats m 0 c).arrAt 2 cfg0.N =
    dots (r := 4096) (n := 1536) (k := 1024) (byRow (m ((c : Thread nD τ).loc main_arg0))) (rowsFrom 3072 (by decide) (byRow (m ((c : Thread nD τ).loc main_arg1)))) :=
  ((dats m 0 c).arrAt_eq_of_cover 2 _ (fun t _ => attn2_flushed m c t) attn2_covered).trans (by rw [V_main_arg0, V_main_arg1])

end InProjAttn2

theorem product_attn2 : Cert.algebraic_InProjAttn2Ideal_InProjAttn2RefIdeal := fun m ρ m' ρ' _ hm =>
  ⟨_, Cert.InProjAttn2Ideal.Value.run_blocks m ρ,
    (θ_run Cert.InProjAttn2RefIdeal.defs _ _).mono (fun r h c => ⟨by
      rw [(h c).1, (hm c).1, (hm c).2]
      refine ((host_dots (r := 4096) (n := 1536) (k := 1024) (φ₁ := .f32) (φ₂ := .f32) _ _).trans ?_).trans (kernel_attn2 m c).symm
      rw [byCol_transpose]
      exact congrArg (dots (r := 4096) (n := 1536) (k := 1024) _) (byRow_slice (r := 1536) (n := 8704) (k := 1024) 3072 (by decide) _ Cert.InProjAttn2RefIdeal.Gen.slices_S8704x1024_S1536x1024_3072_0), (h c).2⟩) (Cert.InProjAttn2RefIdeal.Value.run m' ρ')⟩

/-! ## Back through group 1 -/

section InProjDxAttn1

open Cert.InProjDxAttn1Ideal Cert.InProjDxAttn1Ideal.Gen Cert.InProjDxAttn1Ideal.Value

variable (m : (ℓ : Loc nD τ sig) → Buf (Elt Ideal) ℓ)

theorem dxAttn1_index : ∀ t : Fin cfg0.N, win0_0.index t (0 : Fin 2) = win0_2.index t (0 : Fin 2) ∧ win0_0.index t (1 : Fin 2) = 0
    ∧ win0_1.index t (0 : Fin 2) = 1 ∧ win0_1.index t (1 : Fin 2) = win0_2.index t (1 : Fin 2) :=
  (by decide +kernel : ∀ t : Fin grid0.N, _)

theorem dxAttn1_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

/-- No block of the weight that a point reads is cut. -/
theorem dxAttn1_fill (c : Dev nD) (t : Fin cfg0.N) (y : S8704x1024.Idx → EReal) (j : S1536x1024.Idx) (k : S8704x1024.Idx) (hy : y = V m c main_arg1)
    (h0 : win0_1.index t (0 : Fin 2) * 1536 + 1 * (j 0).val = (k 0).val) (h1 : win0_1.index t (1 : Fin 2) * 1024 + 1 * (j 1).val = (k 1).val) :
    X0_1 m c t j = y k := by
  subst hy
  unfold X0_1 Pipeline.Window.fill
  rw [dif_pos (moved0_1 t j)]
  exact congrArg (V m c main_arg1) (Shape.idx_ext₂ h0 h1)

theorem dxAttn1_point (c : Dev nD) (i : grid0.Coords) (a3 : Memref sig .tc .vmem S1024x1536 .bf16) (h3 : a3.IsWhole)
    (a4 : Memref sig .tc .vmem S1536x1024 .bf16) (h4 : a4.IsWhole) (a5 : Memref sig .tc .vmem S1024x1024 .f32) (h5 : a5.IsWhole)
    (x : Vec Ideal S1024x1536 .bf16) (y : Vec Ideal S1536x1024 .bf16) :
    out0_A_2 c i a3 h3 a4 h4 a5 h5 x y = dots (byRow x) (byCol y) := by
  unfold out0_A_2
  rw [View.read_writes_eq_canon _ _ _ (cover0_A_2 c i a3 h3 a4 h4 a5 h5 x y)]
  unfold kernelRun0_A
  dsimp only
  sl_unfold_words
  rw [View.canon_unit_zero origin]
  unfold k0_pay1
  simp only [View.readAt_eq_ld, h3.read_unread, h4.read_unread, View.ld_unit_zero (S := S1024x1536) origin, View.ld_unit_zero (S := S1536x1024) origin]
  exact unit_nn (r := 1024) (n := 1024) (k := 1536) (φ₁ := .bf16) (φ₂ := .bf16) x y

theorem dxAttn1_flushed (c : Dev nD) (t : Fin cfg0.N) : (dats m 0 c).flushed 2 t = ((cfg0.win 2).blk t).view.read (Elt Ideal)
    (dots (r := 4096) (n := 1024) (k := 1536) (byRow (V m c main_arg0)) (fun i q => rowsFrom (r := 1536) 1536 (by decide) (byRow (V m c main_arg1)) q i)) := by
  rw [flushed2_A, dxAttn1_point]
  funext j
  obtain ⟨e0, e1, e2, e3⟩ := dxAttn1_index t
  show dots (r := 1024) (n := 1024) (k := 1536) (byRow (iblk m c 0 t)) (byCol (X0_1 m c t)) j =
    dots (r := 4096) (n := 1024) (k := 1536) (byRow (V m c main_arg0)) (fun i q => rowsFrom (r := 1536) 1536 (by decide) (byRow (V m c main_arg1)) q i) (((cfg0.win 2).blk t).view.emb j)
  refine dots_entry j (((cfg0.win 2).blk t).view.emb j) (fun q => ?_) fun q => ?_
  · refine congrArg (V m c main_arg0) (Shape.idx_ext₂ ?_ ?_)
    · show win0_0.index t (0 : Fin 2) * 1024 + 1 * (j 0).val = win0_2.index t (0 : Fin 2) * 1024 + 1 * (j 0).val; omega
    · show win0_0.index t (1 : Fin 2) * 1536 + 1 * q.val = q.val; omega
  · refine dxAttn1_fill m c t _ _ _ rfl ?_ ?_
    · show win0_1.index t (0 : Fin 2) * 1536 + 1 * q.val = 1536 + q.val; omega
    · show win0_1.index t (1 : Fin 2) * 1024 + 1 * (j 1).val = win0_2.index t (1 : Fin 2) * 1024 + 1 * (j 1).val; omega

theorem dxAttn1_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, h0, h1⟩ := dxAttn1_onto ⟨(i 0).val / 1024, by omega⟩ ⟨(i 1).val / 1024, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_dxAttn1 (c : Dev nD) : (dats m 0 c).arrAt 2 cfg0.N =
    dots (r := 4096) (n := 1024) (k := 1536) (byRow (m ((c : Thread nD τ).loc main_arg0))) (fun i q => rowsFrom (r := 1536) 1536 (by decide) (byRow (m ((c : Thread nD τ).loc main_arg1))) q i) :=
  ((dats m 0 c).arrAt_eq_of_cover 2 _ (fun t _ => dxAttn1_flushed m c t) dxAttn1_covered).trans (by rw [V_main_arg0, V_main_arg1])

end InProjDxAttn1

theorem product_dxAttn1 : Cert.algebraic_InProjDxAttn1Ideal_InProjDxAttn1RefIdeal := fun m ρ m' ρ' _ hm =>
  ⟨_, Cert.InProjDxAttn1Ideal.Value.run_blocks m ρ,
    (θ_run Cert.InProjDxAttn1RefIdeal.defs _ _).mono (fun r h c => ⟨by
      rw [(h c).1, (hm c).1, (hm c).2]
      refine ((host_dots (r := 4096) (n := 1024) (k := 1536) (φ₁ := .f32) (φ₂ := .f32) _ _).trans ?_).trans (kernel_dxAttn1 m c).symm
      exact congrArg (dots (r := 4096) (n := 1024) (k := 1536) _) (byCol_slice (r := 1536) (n := 8704) (k := 1024) 1536 (by decide) _ Cert.InProjDxAttn1RefIdeal.Gen.slices_S8704x1024_S1536x1024_1536_0), (h c).2⟩) (Cert.InProjDxAttn1RefIdeal.Value.run m' ρ')⟩

/-! ## Back through group 2 -/

section InProjDxAttn2

open Cert.InProjDxAttn2Ideal Cert.InProjDxAttn2Ideal.Gen Cert.InProjDxAttn2Ideal.Value

variable (m : (ℓ : Loc nD τ sig) → Buf (Elt Ideal) ℓ)

theorem dxAttn2_index : ∀ t : Fin cfg0.N, win0_0.index t (0 : Fin 2) = win0_2.index t (0 : Fin 2) ∧ win0_0.index t (1 : Fin 2) = 0
    ∧ win0_1.index t (0 : Fin 2) = 2 ∧ win0_1.index t (1 : Fin 2) = win0_2.index t (1 : Fin 2) :=
  (by decide +kernel : ∀ t : Fin grid0.N, _)

theorem dxAttn2_onto : ∀ (p : Fin 4) (q : Fin 1), ∃ t : Fin cfg0.N, win0_2.index t (0 : Fin 2) = p.val ∧ win0_2.index t (1 : Fin 2) = q.val :=
  (by decide +kernel : ∀ (p : Fin 4) (q : Fin 1), ∃ t : Fin grid0.N, win0_2.index t (0 : Fin 2) = p.val ∧ win0_2.index t (1 : Fin 2) = q.val)

/-- No block of the weight that a point reads is cut. -/
theorem dxAttn2_fill (c : Dev nD) (t : Fin cfg0.N) (y : S8704x1024.Idx → EReal) (j : S1536x1024.Idx) (k : S8704x1024.Idx) (hy : y = V m c main_arg1)
    (h0 : win0_1.index t (0 : Fin 2) * 1536 + 1 * (j 0).val = (k 0).val) (h1 : win0_1.index t (1 : Fin 2) * 1024 + 1 * (j 1).val = (k 1).val) :
    X0_1 m c t j = y k := by
  subst hy
  unfold X0_1 Pipeline.Window.fill
  rw [dif_pos (moved0_1 t j)]
  exact congrArg (V m c main_arg1) (Shape.idx_ext₂ h0 h1)

theorem dxAttn2_point (c : Dev nD) (i : grid0.Coords) (a3 : Memref sig .tc .vmem S1024x1536 .bf16) (h3 : a3.IsWhole)
    (a4 : Memref sig .tc .vmem S1536x1024 .bf16) (h4 : a4.IsWhole) (a5 : Memref sig .tc .vmem S1024x1024 .f32) (h5 : a5.IsWhole)
    (x : Vec Ideal S1024x1536 .bf16) (y : Vec Ideal S1536x1024 .bf16) :
    out0_A_2 c i a3 h3 a4 h4 a5 h5 x y = dots (byRow x) (byCol y) := by
  unfold out0_A_2
  rw [View.read_writes_eq_canon _ _ _ (cover0_A_2 c i a3 h3 a4 h4 a5 h5 x y)]
  unfold kernelRun0_A
  dsimp only
  sl_unfold_words
  rw [View.canon_unit_zero origin]
  unfold k0_pay1
  simp only [View.readAt_eq_ld, h3.read_unread, h4.read_unread, View.ld_unit_zero (S := S1024x1536) origin, View.ld_unit_zero (S := S1536x1024) origin]
  exact unit_nn (r := 1024) (n := 1024) (k := 1536) (φ₁ := .bf16) (φ₂ := .bf16) x y

theorem dxAttn2_flushed (c : Dev nD) (t : Fin cfg0.N) : (dats m 0 c).flushed 2 t = ((cfg0.win 2).blk t).view.read (Elt Ideal)
    (dots (r := 4096) (n := 1024) (k := 1536) (byRow (V m c main_arg0)) (fun i q => rowsFrom (r := 1536) 3072 (by decide) (byRow (V m c main_arg1)) q i)) := by
  rw [flushed2_A, dxAttn2_point]
  funext j
  obtain ⟨e0, e1, e2, e3⟩ := dxAttn2_index t
  show dots (r := 1024) (n := 1024) (k := 1536) (byRow (iblk m c 0 t)) (byCol (X0_1 m c t)) j =
    dots (r := 4096) (n := 1024) (k := 1536) (byRow (V m c main_arg0)) (fun i q => rowsFrom (r := 1536) 3072 (by decide) (byRow (V m c main_arg1)) q i) (((cfg0.win 2).blk t).view.emb j)
  refine dots_entry j (((cfg0.win 2).blk t).view.emb j) (fun q => ?_) fun q => ?_
  · refine congrArg (V m c main_arg0) (Shape.idx_ext₂ ?_ ?_)
    · show win0_0.index t (0 : Fin 2) * 1024 + 1 * (j 0).val = win0_2.index t (0 : Fin 2) * 1024 + 1 * (j 0).val; omega
    · show win0_0.index t (1 : Fin 2) * 1536 + 1 * q.val = q.val; omega
  · refine dxAttn2_fill m c t _ _ _ rfl ?_ ?_
    · show win0_1.index t (0 : Fin 2) * 1536 + 1 * q.val = 3072 + q.val; omega
    · show win0_1.index t (1 : Fin 2) * 1024 + 1 * (j 1).val = win0_2.index t (1 : Fin 2) * 1024 + 1 * (j 1).val; omega

theorem dxAttn2_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, h0, h1⟩ := dxAttn2_onto ⟨(i 0).val / 1024, by omega⟩ ⟨(i 1).val / 1024, by omega⟩
  dsimp only at h0 h1
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_dxAttn2 (c : Dev nD) : (dats m 0 c).arrAt 2 cfg0.N =
    dots (r := 4096) (n := 1024) (k := 1536) (byRow (m ((c : Thread nD τ).loc main_arg0))) (fun i q => rowsFrom (r := 1536) 3072 (by decide) (byRow (m ((c : Thread nD τ).loc main_arg1))) q i) :=
  ((dats m 0 c).arrAt_eq_of_cover 2 _ (fun t _ => dxAttn2_flushed m c t) dxAttn2_covered).trans (by rw [V_main_arg0, V_main_arg1])

end InProjDxAttn2

theorem product_dxAttn2 : Cert.algebraic_InProjDxAttn2Ideal_InProjDxAttn2RefIdeal := fun m ρ m' ρ' _ hm =>
  ⟨_, Cert.InProjDxAttn2Ideal.Value.run_blocks m ρ,
    (θ_run Cert.InProjDxAttn2RefIdeal.defs _ _).mono (fun r h c => ⟨by
      rw [(h c).1, (hm c).1, (hm c).2]
      refine ((host_dots (r := 4096) (n := 1024) (k := 1536) (φ₁ := .f32) (φ₂ := .f32) _ _).trans ?_).trans (kernel_dxAttn2 m c).symm
      exact congrArg (dots (r := 4096) (n := 1024) (k := 1536) _) (byCol_slice (r := 1536) (n := 8704) (k := 1024) 3072 (by decide) _ Cert.InProjDxAttn2RefIdeal.Gen.slices_S8704x1024_S1536x1024_3072_0), (h c).2⟩) (Cert.InProjDxAttn2RefIdeal.Value.run m' ρ')⟩

end Cert.Products
-- ==== Proof.Products.TwoStep.lean ====
/- Products of the backward pass that sum in two steps: the first point of a tile leaves its half in an accumulator, the second adds its
   own and hands the sum out. -/
module

public import proofs.«01_k».proof.Defs
public import proofs.«01_k».proof.Proof.ProductLemmas
public import proofs.«01_k».proof.Proof.Gen.FfnDownDwIdeal.Value
public import proofs.«01_k».proof.Proof.Gen.FfnDownDwRefIdeal.Run
public import proofs.«01_k».proof.Proof.Gen.FfnUpDxIdeal.Value
public import proofs.«01_k».proof.Proof.Gen.FfnUpDxRefIdeal.Run
public import proofs.«01_k».proof.Proof.Gen.FfnUpDwIdeal.Value
public import proofs.«01_k».proof.Proof.Gen.FfnUpDwRefIdeal.Run
public import proofs.«01_k».proof.Proof.Gen.OutProjDwIdeal.Value
public import proofs.«01_k».proof.Proof.Gen.OutProjDwRefIdeal.Run
public import proofs.«01_k».proof.Proof.Gen.BranchDwIdeal.Value
public import proofs.«01_k».proof.Proof.Gen.BranchDwRefIdeal.Run

@[expose] public section

-- the widths 2816 + 2816 and 5632 are compared by counting
set_option maxRecDepth 16384

noncomputable section

namespace Cert.Products

open Idealize.ShloMosaic Idealize.ShloMosaic.TcCoe Idealize.SL.Sem Idealize.ShloMosaic.ValueIdx

/-! ## The gradient of the feed-forward block's second weight -/

section FfnDownDw

open Cert.FfnDownDwIdeal Cert.FfnDownDwIdeal.Gen Cert.FfnDownDwIdeal.Value

variable (m : (ℓ : Loc nD τ sig) → Buf (Elt Ideal) ℓ)

/-- The first point of a tile leaves its product in the accumulator. -/
theorem downDw_first (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (p0 : cond0_0 i) (p1 : ¬cond0_1 i) (p2 : ¬cond0_2 i)
    (x : Vec Ideal S2048x1408 .bf16) (y : Vec Ideal S2048x1024 .bf16) :
    sout0_A_0 c i a3 h3 a4 h4 a5 h5 a6 h6 p0 p1 p2 x y = dots (byCol x) (byCol y) := by
  unfold sout0_A_0
  rw [View.read_writes_eq_canon _ _ _ (scover0_A_0 c i a3 h3 a4 h4 a5 h5 a6 h6 p0 p1 p2 x y)]
  unfold kernelRun0_A
  dsimp only
  sl_unfold_words
  rw [View.canon_unit_zero origin]
  unfold k0_pay2 k0_pay1
  simp only [View.readAt_eq_ld, h3.read_unread, h4.read_unread, View.ld_unit_zero (S := S2048x1408) origin, View.ld_unit_zero (S := S2048x1024) origin, shapeCast_self]
  exact unit_tn (r := 1408) (n := 1024) (k := 2048) (φ₁ := .bf16) (φ₂ := .bf16) x y _

/-- The second adds its own and hands the sum out. -/
theorem downDw_second (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (p0 : ¬cond0_0 i) (p1 : cond0_1 i) (p2 : cond0_2 i)
    (x : Vec Ideal S2048x1408 .bf16) (y : Vec Ideal S2048x1024 .bf16) (z : Vec Ideal S1408x1024 .f32) :
    out0_B_2 c i a3 h3 a4 h4 a5 h5 a6 h6 p0 p1 p2 x y z = fun j => z j + dots (byCol x) (byCol y) j := by
  unfold out0_B_2
  rw [View.read_writes_eq_canon _ _ _ (cover0_B_2 c i a3 h3 a4 h4 a5 h5 a6 h6 p0 p1 p2 x y z)]
  unfold kernelRun0_B
  dsimp only
  sl_unfold_words
  rw [View.canon_unit_zero origin, View.readCov_unit_zero (S := S1408x1024) _ origin]
  unfold k0_pay4 k0_pay3 k0_pay1
  simp only [View.readAt_eq_ld, h3.read_unread, h4.read_unread, h6.read_unread, View.ld_unit_zero (S := S2048x1408) origin, View.ld_unit_zero (S := S2048x1024) origin, View.ld_unit_zero (S := S1408x1024) origin, shapeCast_self]
  exact funext fun j => congrArg (z j + ·) (congrFun (unit_tn (r := 1408) (n := 1024) (k := 2048) (φ₁ := .bf16) (φ₂ := .bf16) x y _) j)

theorem downDw_index : ∀ t : Fin cfg0.N, win0_0.index t (0 : Fin 2) = t.val % 2
    ∧ win0_0.index t (1 : Fin 2) = win0_2.index t (0 : Fin 2) ∧ win0_1.index t (0 : Fin 2) = t.val % 2
    ∧ win0_1.index t (1 : Fin 2) = win0_2.index t (1 : Fin 2) ∧ win0_2.index t (0 : Fin 2) < 2 :=
  (by decide +kernel : ∀ t : Fin grid0.N, _)

/-- The two points of one tile. -/
theorem downDw_pair : ∀ t u : Fin cfg0.N, t.val % 2 = 1 → u.val = t.val - 1 → win0_2.index u (0 : Fin 2) = win0_2.index t (0 : Fin 2)
    ∧ win0_2.index u (1 : Fin 2) = win0_2.index t (1 : Fin 2) :=
  (by decide +kernel : ∀ t u : Fin grid0.N, _)

theorem downDw_onto : ∀ (p : Fin 2) (q : Fin 1), ∃ t : Fin cfg0.N, t.val % 2 = 1 ∧ win0_2.index t (0 : Fin 2) = p.val
    ∧ win0_2.index t (1 : Fin 2) = q.val :=
  (by decide +kernel : ∀ (p : Fin 2) (q : Fin 1), ∃ t : Fin grid0.N, t.val % 2 = 1 ∧ win0_2.index t (0 : Fin 2) = p.val
    ∧ win0_2.index t (1 : Fin 2) = q.val)

theorem downDw_flushed (c : Dev nD) (t : Fin cfg0.N) (hf : (cfg0.win 2).flush t = true) :
    (dats m 0 c).flushed 2 t = ((cfg0.win 2).blk t).view.read (Elt Ideal)
      (dots (r := 2816) (n := 1024) (k := 2048 + 2048) (byCol (V m c main_arg0)) (byCol (V m c main_arg1))) := by
  have ht : t.val % 2 = 1 := (flush0_2 t).mp hf
  have hu : t.val - 1 < cfg0.N := Nat.lt_of_le_of_lt (Nat.sub_le _ _) t.isLt
  have hA := outsAt0_A m c ⟨t.val - 1, hu⟩ (by dsimp only; omega) (by dsimp only; omega) (by dsimp only; omega)
  dsimp only at hA
  rw [flushed2_B m c t (by omega) ht ht, downDw_second, hA]
  dsimp only
  rw [downDw_first]
  funext j
  obtain ⟨e0, e1, e2, e3, e4⟩ := downDw_index t
  obtain ⟨f0, f1, f2, f3, f4⟩ := downDw_index ⟨t.val - 1, hu⟩
  obtain ⟨g0, g1⟩ := downDw_pair t ⟨t.val - 1, hu⟩ ht rfl
  simp only [g0, g1] at f0 f1 f3
  have hq : (⟨t.val - 1, hu⟩ : Fin cfg0.N).val % 2 = 0 := by dsimp only; omega
  have hj : (j 0).val < 1408 := (j 0).isLt
  refine dots_halves j (((cfg0.win 2).blk t).view.emb j) (fun q => ?_) (fun q => ?_) (fun q => ?_) fun q => ?_
  · refine congrArg (V m c main_arg0) (Shape.idx_ext₂ ?_ ?_)
    · show win0_0.index _ (0 : Fin 2) * 2048 + 1 * q.val = q.val; omega
    · show win0_0.index _ (1 : Fin 2) * 1408 + 1 * (j 0).val = win0_2.index t (0 : Fin 2) * 1408 + 1 * (j 0).val; omega
  · refine congrArg (V m c main_arg1) (Shape.idx_ext₂ ?_ ?_)
    · show win0_1.index _ (0 : Fin 2) * 2048 + 1 * q.val = q.val; omega
    · show win0_1.index _ (1 : Fin 2) * 1024 + 1 * (j 1).val = win0_2.index t (1 : Fin 2) * 1024 + 1 * (j 1).val; omega
  · refine congrArg (V m c main_arg0) (Shape.idx_ext₂ ?_ ?_)
    · show win0_0.index _ (0 : Fin 2) * 2048 + 1 * q.val = 2048 + q.val; omega
    · show win0_0.index _ (1 : Fin 2) * 1408 + 1 * (j 0).val = win0_2.index t (0 : Fin 2) * 1408 + 1 * (j 0).val; omega
  · refine congrArg (V m c main_arg1) (Shape.idx_ext₂ ?_ ?_)
    · show win0_1.index _ (0 : Fin 2) * 2048 + 1 * q.val = 2048 + q.val; omega
    · show win0_1.index _ (1 : Fin 2) * 1024 + 1 * (j 1).val = win0_2.index t (1 : Fin 2) * 1024 + 1 * (j 1).val; omega

theorem downDw_covered (i : S2816x1024.Idx) : ∃ t : Fin cfg0.N, (cfg0.win 2).flush t = true ∧ i ∈ ((cfg0.win 2).blk t).view.set := by
  have hi0 : (i 0).val < 2816 := (i 0).isLt
  have hi1 : (i 1).val < 1024 := (i 1).isLt
  obtain ⟨t, ht, h0, h1⟩ := downDw_onto ⟨(i 0).val / 1408, by omega⟩ ⟨(i 1).val / 1024, by omega⟩
  dsimp only at h0 h1
  refine ⟨t, (flush0_2 t).mpr ht, ?_⟩
  show i ∈ ((View.whole main_v0).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408; omega
  | ⟨1, _⟩ => show win0_2.index t (1 : Fin 2) * 1024 ≤ (i 1).val ∧ (i 1).val < win0_2.index t (1 : Fin 2) * 1024 + 1024; omega

theorem kernel_downDw (c : Dev nD) : (dats m 0 c).arrAt 2 cfg0.N =
    dots (r := 2816) (n := 1024) (k := 4096) (byCol (m ((c : Thread nD τ).loc main_arg0))) (byCol (m ((c : Thread nD τ).loc main_arg1))) :=
  ((dats m 0 c).arrAt_eq_of_cover 2 _ (downDw_flushed m c) downDw_covered).trans (by rw [V_main_arg0, V_main_arg1])

end FfnDownDw

theorem product_downDw : Cert.algebraic_FfnDownDwIdeal_FfnDownDwRefIdeal := fun m ρ m' ρ' _ hm =>
  ⟨_, Cert.FfnDownDwIdeal.Value.run_blocks m ρ,
    (θ_run Cert.FfnDownDwRefIdeal.defs _ _).mono (fun r h c => ⟨by
      rw [(h c).1, (hm c).1, (hm c).2]
      refine ((host_dots (r := 2816) (n := 1024) (k := 4096) (φ₁ := .f32) (φ₂ := .f32) _ _).trans ?_).trans (kernel_downDw m c).symm
      rw [byRow_transpose]
      rfl, (h c).2⟩) (Cert.FfnDownDwRefIdeal.Value.run m' ρ')⟩

/-! ## Through the feed-forward block's first product -/

section FfnUpDx

open Cert.FfnUpDxIdeal Cert.FfnUpDxIdeal.Gen Cert.FfnUpDxIdeal.Value

variable (m : (ℓ : Loc nD τ sig) → Buf (Elt Ideal) ℓ)

/-- The first point of a tile leaves its product in the accumulator. -/
theorem upDx_first (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .f32) (h5 : a5.IsWhole)
    (a6 : Memref sig .tc .vmem S1024x1024 .f32) (h6 : a6.IsWhole) (p0 : cond0_0 i) (p1 : ¬cond0_1 i) (p2 : ¬cond0_2 i)
    (x : Vec Ideal S1024x2816 .bf16) (y : Vec Ideal S2816x1024 .bf16) :
    sout0_A_0 c i a3 h3 a4 h4 a5 h5 a6 h6 p0 p1 p2 x y = dots (byRow x) (byCol y) := by
  unfold sout0_A_0
  rw [View.read_writes_eq_canon _ _ _ (scover0_A_0 c i a3 h3 a4 h4 a5 h5 a6 h6 p0 p1 p2 x y)]
  unfold kernelRun0_A
  dsimp only
  sl_unfold_words
  rw [View.canon_unit_zero origin]
  unfold k0_pay2 k0_pay1
  simp only [View.readAt_eq_ld, h3.read_unread, h4.read_unread, View.ld_unit_zero (S := S1024x2816) origin, View.ld_unit_zero (S := S2816x1024) origin, shapeCast_self]
  exact unit_nn (r := 1024) (n := 1024) (k := 2816) (φ₁ := .bf16) (φ₂ := .bf16) x y

/-- The second adds its own and hands the sum out. -/
theorem upDx_second (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .f32) (h5 : a5.IsWhole)
    (a6 : Memref sig .tc .vmem S1024x1024 .f32) (h6 : a6.IsWhole) (p0 : ¬cond0_0 i) (p1 : cond0_1 i) (p2 : cond0_2 i)
    (x : Vec Ideal S1024x2816 .bf16) (y : Vec Ideal S2816x1024 .bf16) (z : Vec Ideal S1024x1024 .f32) :
    out0_B_2 c i a3 h3 a4 h4 a5 h5 a6 h6 p0 p1 p2 x y z = fun j => z j + dots (byRow x) (byCol y) j := by
  unfold out0_B_2
  rw [View.read_writes_eq_canon _ _ _ (cover0_B_2 c i a3 h3 a4 h4 a5 h5 a6 h6 p0 p1 p2 x y z)]
  unfold kernelRun0_B
  dsimp only
  sl_unfold_words
  rw [View.canon_unit_zero origin, View.readCov_unit_zero (S := S1024x1024) _ origin]
  unfold k0_pay3 k0_pay1
  simp only [View.readAt_eq_ld, h3.read_unread, h4.read_unread, h6.read_unread, View.ld_unit_zero (S := S1024x2816) origin, View.ld_unit_zero (S := S2816x1024) origin, View.ld_unit_zero (S := S1024x1024) origin, shapeCast_self]
  exact funext fun j => congrArg (z j + ·) (congrFun (unit_nn (r := 1024) (n := 1024) (k := 2816) (φ₁ := .bf16) (φ₂ := .bf16) x y) j)

theorem upDx_index : ∀ t : Fin cfg0.N, win0_0.index t (0 : Fin 2) = t.val % 2 * 4 + win0_2.index t (0 : Fin 2)
    ∧ win0_0.index t (1 : Fin 2) = 0 ∧ win0_1.index t (0 : Fin 2) = t.val % 2
    ∧ win0_1.index t (1 : Fin 2) = win0_2.index t (1 : Fin 2) ∧ win0_2.index t (0 : Fin 2) < 4 :=
  (by decide +kernel : ∀ t : Fin grid0.N, _)

/-- The two points of one tile. -/
theorem upDx_pair : ∀ t u : Fin cfg0.N, t.val % 2 = 1 → u.val = t.val - 1 → win0_2.index u (0 : Fin 2) = win0_2.index t (0 : Fin 2)
    ∧ win0_2.index u (1 : Fin 2) = win0_2.index t (1 : Fin 2) :=
  (by decide +kernel : ∀ t u : Fin grid0.N, _)

theorem upDx_onto : ∀ (p : Fin 4) (q : Fin 1), ∃ t : Fin cfg0.N, t.val % 2 = 1 ∧ win0_2.index t (0 : Fin 2) = p.val
    ∧ win0_2.index t (1 : Fin 2) = q.val :=
  (by decide +kernel : ∀ (p : Fin 4) (q : Fin 1), ∃ t : Fin grid0.N, t.val % 2 = 1 ∧ win0_2.index t (0 : Fin 2) = p.val
    ∧ win0_2.index t (1 : Fin 2) = q.val)

theorem upDx_flushed (c : Dev nD) (t : Fin cfg0.N) (hf : (cfg0.win 2).flush t = true) :
    (dats m 0 c).flushed 2 t = ((cfg0.win 2).blk t).view.read (Elt Ideal)
      (dots (r := 4096) (n := 1024) (k := 2816 + 2816) (beside (r := 4096) (k := 2816) (V m c main_arg0)) (byCol (V m c main_arg1))) := by
  have ht : t.val % 2 = 1 := (flush0_2 t).mp hf
  have hu : t.val - 1 < cfg0.N := Nat.lt_of_le_of_lt (Nat.sub_le _ _) t.isLt
  have hA := outsAt0_A m c ⟨t.val - 1, hu⟩ (by dsimp only; omega) (by dsimp only; omega) (by dsimp only; omega)
  dsimp only at hA
  rw [flushed2_B m c t (by omega) ht ht, upDx_second, hA]
  dsimp only
  rw [upDx_first]
  funext j
  obtain ⟨e0, e1, e2, e3, e4⟩ := upDx_index t
  obtain ⟨f0, f1, f2, f3, f4⟩ := upDx_index ⟨t.val - 1, hu⟩
  obtain ⟨g0, g1⟩ := upDx_pair t ⟨t.val - 1, hu⟩ ht rfl
  simp only [g0, g1] at f0 f1 f3
  have hq : (⟨t.val - 1, hu⟩ : Fin cfg0.N).val % 2 = 0 := by dsimp only; omega
  have hj : (j 0).val < 1024 := (j 0).isLt
  refine dots_halves (r := 1024) (n := 1024) (r' := 4096) (n' := 1024) (k := 2816) (a₀ := byRow (iblk m c 0 ⟨t.val - 1, hu⟩)) (a₁ := byRow (iblk m c 0 t))
    (b₀ := byCol (iblk m c 1 ⟨t.val - 1, hu⟩)) (b₁ := byCol (iblk m c 1 t)) (a' := beside (r := 4096) (k := 2816) (V m c main_arg0))
    (b' := byCol (V m c main_arg1)) j (((cfg0.win 2).blk t).view.emb j)
    (fun q => ?_) (fun q => ?_) (fun q => ?_) fun q => ?_
  · refine beside_eq (r := 4096) (k := 2816) (V m c main_arg0) _ _ _ (Or.inl ⟨q.isLt, ?_, ?_⟩)
    · show win0_0.index _ (0 : Fin 2) * 1024 + 1 * (j 0).val = win0_2.index t (0 : Fin 2) * 1024 + 1 * (j 0).val; omega
    · show win0_0.index _ (1 : Fin 2) * 2816 + 1 * q.val = q.val; omega
  · refine congrArg (V m c main_arg1) (Shape.idx_ext₂ ?_ ?_)
    · show win0_1.index _ (0 : Fin 2) * 2816 + 1 * q.val = q.val; omega
    · show win0_1.index _ (1 : Fin 2) * 1024 + 1 * (j 1).val = win0_2.index t (1 : Fin 2) * 1024 + 1 * (j 1).val; omega
  · refine beside_eq (r := 4096) (k := 2816) (V m c main_arg0) _ _ _ (Or.inr ⟨Nat.le_add_right 2816 q.val, ?_, ?_⟩)
    · show win0_0.index _ (0 : Fin 2) * 1024 + 1 * (j 0).val = 4096 + (win0_2.index t (0 : Fin 2) * 1024 + 1 * (j 0).val); omega
    · show 2816 + (win0_0.index _ (1 : Fin 2) * 2816 + 1 * q.val) = 2816 + q.val; omega
  · refine congrArg (V m c main_arg1) (Shape.idx_ext₂ ?_ ?_)
    · show win0_1.index _ (0 : Fin 2) * 2816 + 1 * q.val = 2816 + q.val; omega
    · show win0_1.index _ (1 : Fin 2) * 1024 + 1 * (j 1).val = win0_2.index t (1 : Fin 2) * 1024 + 1 * (j 1).val; omega

theorem upDx_covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht, h0, h1⟩ := upDx_onto ⟨(i 0).val / 1024, by omega⟩ ⟨(i 1).val / 1024, by omega⟩
  dsimp only at h0 h1
  refine ⟨t, (flush0_2 t).mpr ht, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_upDx (c : Dev nD) : (dats m 0 c).arrAt 2 cfg0.N =
    dots (r := 4096) (n := 1024) (k := 5632) (beside (r := 4096) (k := 2816) (m ((c : Thread nD τ).loc main_arg0))) (byCol (m ((c : Thread nD τ).loc main_arg1))) :=
  ((dats m 0 c).arrAt_eq_of_cover 2 _ (upDx_flushed m c) upDx_covered).trans (by rw [V_main_arg0, V_main_arg1])

end FfnUpDx

theorem product_upDx : Cert.algebraic_FfnUpDxIdeal_FfnUpDxRefIdeal := fun m ρ m' ρ' _ hm =>
  ⟨_, Cert.FfnUpDxIdeal.Value.run_blocks m ρ,
    (θ_run Cert.FfnUpDxRefIdeal.defs _ _).mono (fun r h c => ⟨by
      rw [(h c).1, (hm c).1, (hm c).2]
      refine ((host_dots (r := 4096) (n := 1024) (k := 5632) (φ₁ := .f32) (φ₂ := .f32) _ _).trans ?_).trans (kernel_upDx m c).symm
      exact congrArg (fun a => dots (r := 4096) (n := 1024) (k := 5632) a _)
        (byRow_beside (r := 4096) (k := 2816) _ Cert.FfnUpDxRefIdeal.Gen.slices_S8192x2816_S4096x2816_0_0 Cert.FfnUpDxRefIdeal.Gen.slices_S8192x2816_S4096x2816_4096_0 Cert.FfnUpDxRefIdeal.Gen.concatenates_S4096x2816_S4096x2816_S4096x5632_d1), (h c).2⟩) (Cert.FfnUpDxRefIdeal.Value.run m' ρ')⟩

/-! ## The gradient of its first weight -/

section FfnUpDw

open Cert.FfnUpDwIdeal Cert.FfnUpDwIdeal.Gen Cert.FfnUpDwIdeal.Value

variable (m : (ℓ : Loc nD τ sig) → Buf (Elt Ideal) ℓ)

/-- The first point of a tile leaves its product in the accumulator. -/
theorem upDw_first (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (p0 : cond0_0 i) (p1 : ¬cond0_1 i) (p2 : ¬cond0_2 i)
    (x : Vec Ideal S2048x1408 .bf16) (y : Vec Ideal S2048x1024 .bf16) :
    sout0_A_0 c i a3 h3 a4 h4 a5 h5 a6 h6 p0 p1 p2 x y = dots (byCol x) (byCol y) := by
  unfold sout0_A_0
  rw [View.read_writes_eq_canon _ _ _ (scover0_A_0 c i a3 h3 a4 h4 a5 h5 a6 h6 p0 p1 p2 x y)]
  unfold kernelRun0_A
  dsimp only
  sl_unfold_words
  rw [View.canon_unit_zero origin]
  unfold k0_pay2 k0_pay1
  simp only [View.readAt_eq_ld, h3.read_unread, h4.read_unread, View.ld_unit_zero (S := S2048x1408) origin, View.ld_unit_zero (S := S2048x1024) origin, shapeCast_self]
  exact unit_tn (r := 1408) (n := 1024) (k := 2048) (φ₁ := .bf16) (φ₂ := .bf16) x y _

/-- The second adds its own and hands the sum out. -/
theorem upDw_second (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (p0 : ¬cond0_0 i) (p1 : cond0_1 i) (p2 : cond0_2 i)
    (x : Vec Ideal S2048x1408 .bf16) (y : Vec Ideal S2048x1024 .bf16) (z : Vec Ideal S1408x1024 .f32) :
    out0_B_2 c i a3 h3 a4 h4 a5 h5 a6 h6 p0 p1 p2 x y z = fun j => z j + dots (byCol x) (byCol y) j := by
  unfold out0_B_2
  rw [View.read_writes_eq_canon _ _ _ (cover0_B_2 c i a3 h3 a4 h4 a5 h5 a6 h6 p0 p1 p2 x y z)]
  unfold kernelRun0_B
  dsimp only
  sl_unfold_words
  rw [View.canon_unit_zero origin, View.readCov_unit_zero (S := S1408x1024) _ origin]
  unfold k0_pay4 k0_pay3 k0_pay1
  simp only [View.readAt_eq_ld, h3.read_unread, h4.read_unread, h6.read_unread, View.ld_unit_zero (S := S2048x1408) origin, View.ld_unit_zero (S := S2048x1024) origin, View.ld_unit_zero (S := S1408x1024) origin, shapeCast_self]
  exact funext fun j => congrArg (z j + ·) (congrFun (unit_tn (r := 1408) (n := 1024) (k := 2048) (φ₁ := .bf16) (φ₂ := .bf16) x y _) j)

theorem upDw_index : ∀ t : Fin cfg0.N, win0_0.index t (0 : Fin 2) = win0_2.index t (0 : Fin 2) / 2 * 2 + t.val % 2
    ∧ win0_0.index t (1 : Fin 2) = win0_2.index t (0 : Fin 2) % 2 ∧ win0_1.index t (0 : Fin 2) = t.val % 2
    ∧ win0_1.index t (1 : Fin 2) = win0_2.index t (1 : Fin 2) ∧ win0_2.index t (0 : Fin 2) < 4 :=
  (by decide +kernel : ∀ t : Fin grid0.N, _)

/-- The two points of one tile. -/
theorem upDw_pair : ∀ t u : Fin cfg0.N, t.val % 2 = 1 → u.val = t.val - 1 → win0_2.index u (0 : Fin 2) = win0_2.index t (0 : Fin 2)
    ∧ win0_2.index u (1 : Fin 2) = win0_2.index t (1 : Fin 2) :=
  (by decide +kernel : ∀ t u : Fin grid0.N, _)

theorem upDw_onto : ∀ (p : Fin 4) (q : Fin 1), ∃ t : Fin cfg0.N, t.val % 2 = 1 ∧ win0_2.index t (0 : Fin 2) = p.val
    ∧ win0_2.index t (1 : Fin 2) = q.val :=
  (by decide +kernel : ∀ (p : Fin 4) (q : Fin 1), ∃ t : Fin grid0.N, t.val % 2 = 1 ∧ win0_2.index t (0 : Fin 2) = p.val
    ∧ win0_2.index t (1 : Fin 2) = q.val)

theorem upDw_flushed (c : Dev nD) (t : Fin cfg0.N) (hf : (cfg0.win 2).flush t = true) :
    (dats m 0 c).flushed 2 t = ((cfg0.win 2).blk t).view.read (Elt Ideal)
      (dots (r := 5632) (n := 1024) (k := 2048 + 2048) (fun i q => beside (r := 4096) (k := 2816) (V m c main_arg0) q i) (byCol (V m c main_arg1))) := by
  have ht : t.val % 2 = 1 := (flush0_2 t).mp hf
  have hu : t.val - 1 < cfg0.N := Nat.lt_of_le_of_lt (Nat.sub_le _ _) t.isLt
  have hA := outsAt0_A m c ⟨t.val - 1, hu⟩ (by dsimp only; omega) (by dsimp only; omega) (by dsimp only; omega)
  dsimp only at hA
  rw [flushed2_B m c t (by omega) ht ht, upDw_second, hA]
  dsimp only
  rw [upDw_first]
  funext j
  obtain ⟨e0, e1, e2, e3, e4⟩ := upDw_index t
  obtain ⟨f0, f1, f2, f3, f4⟩ := upDw_index ⟨t.val - 1, hu⟩
  obtain ⟨g0, g1⟩ := upDw_pair t ⟨t.val - 1, hu⟩ ht rfl
  simp only [g0, g1] at f0 f1 f3
  have hq : (⟨t.val - 1, hu⟩ : Fin cfg0.N).val % 2 = 0 := by dsimp only; omega
  have hj : (j 0).val < 1408 := (j 0).isLt
  refine dots_halves (r := 1408) (n := 1024) (r' := 5632) (n' := 1024) (k := 2048) (a₀ := byCol (iblk m c 0 ⟨t.val - 1, hu⟩)) (a₁ := byCol (iblk m c 0 t))
    (b₀ := byCol (iblk m c 1 ⟨t.val - 1, hu⟩)) (b₁ := byCol (iblk m c 1 t)) (a' := fun i q => beside (r := 4096) (k := 2816) (V m c main_arg0) q i)
    (b' := byCol (V m c main_arg1)) j (((cfg0.win 2).blk t).view.emb j)
    (fun q => ?_) (fun q => ?_) (fun q => ?_) fun q => ?_
  · refine beside_eq (r := 4096) (k := 2816) (V m c main_arg0) _ _ _ ?_
    show (win0_2.index t (0 : Fin 2) * 1408 + 1 * (j 0).val < 2816 ∧ win0_0.index _ (0 : Fin 2) * 2048 + 1 * q.val = q.val
      ∧ win0_0.index _ (1 : Fin 2) * 1408 + 1 * (j 0).val = win0_2.index t (0 : Fin 2) * 1408 + 1 * (j 0).val)
      ∨ (2816 ≤ win0_2.index t (0 : Fin 2) * 1408 + 1 * (j 0).val ∧ win0_0.index _ (0 : Fin 2) * 2048 + 1 * q.val = 4096 + (q.val)
      ∧ 2816 + (win0_0.index _ (1 : Fin 2) * 1408 + 1 * (j 0).val) = win0_2.index t (0 : Fin 2) * 1408 + 1 * (j 0).val)
    omega
  · refine congrArg (V m c main_arg1) (Shape.idx_ext₂ ?_ ?_)
    · show win0_1.index _ (0 : Fin 2) * 2048 + 1 * q.val = q.val; omega
    · show win0_1.index _ (1 : Fin 2) * 1024 + 1 * (j 1).val = win0_2.index t (1 : Fin 2) * 1024 + 1 * (j 1).val; omega
  · refine beside_eq (r := 4096) (k := 2816) (V m c main_arg0) _ _ _ ?_
    show (win0_2.index t (0 : Fin 2) * 1408 + 1 * (j 0).val < 2816 ∧ win0_0.index _ (0 : Fin 2) * 2048 + 1 * q.val = 2048 + q.val
      ∧ win0_0.index _ (1 : Fin 2) * 1408 + 1 * (j 0).val = win0_2.index t (0 : Fin 2) * 1408 + 1 * (j 0).val)
      ∨ (2816 ≤ win0_2.index t (0 : Fin 2) * 1408 + 1 * (j 0).val ∧ win0_0.index _ (0 : Fin 2) * 2048 + 1 * q.val = 4096 + (2048 + q.val)
      ∧ 2816 + (win0_0.index _ (1 : Fin 2) * 1408 + 1 * (j 0).val) = win0_2.index t (0 : Fin 2) * 1408 + 1 * (j 0).val)
    omega
  · refine congrArg (V m c main_arg1) (Shape.idx_ext₂ ?_ ?_)
    · show win0_1.index _ (0 : Fin 2) * 2048 + 1 * q.val = 2048 + q.val; omega
    · show win0_1.index _ (1 : Fin 2) * 1024 + 1 * (j 1).val = win0_2.index t (1 : Fin 2) * 1024 + 1 * (j 1).val; omega

theorem upDw_covered (i : S5632x1024.Idx) : ∃ t : Fin cfg0.N, (cfg0.win 2).flush t = true ∧ i ∈ ((cfg0.win 2).blk t).view.set := by
  have hi0 : (i 0).val < 5632 := (i 0).isLt
  have hi1 : (i 1).val < 1024 := (i 1).isLt
  obtain ⟨t, ht, h0, h1⟩ := upDw_onto ⟨(i 0).val / 1408, by omega⟩ ⟨(i 1).val / 1024, by omega⟩
  dsimp only at h0 h1
  refine ⟨t, (flush0_2 t).mpr ht, ?_⟩
  show i ∈ ((View.whole main_v0).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408; omega
  | ⟨1, _⟩ => show win0_2.index t (1 : Fin 2) * 1024 ≤ (i 1).val ∧ (i 1).val < win0_2.index t (1 : Fin 2) * 1024 + 1024; omega

theorem kernel_upDw (c : Dev nD) : (dats m 0 c).arrAt 2 cfg0.N =
    dots (r := 5632) (n := 1024) (k := 4096) (fun i q => beside (r := 4096) (k := 2816) (m ((c : Thread nD τ).loc main_arg0)) q i) (byCol (m ((c : Thread nD τ).loc main_arg1))) :=
  ((dats m 0 c).arrAt_eq_of_cover 2 _ (upDw_flushed m c) upDw_covered).trans (by rw [V_main_arg0, V_main_arg1])

end FfnUpDw

theorem product_upDw : Cert.algebraic_FfnUpDwIdeal_FfnUpDwRefIdeal := fun m ρ m' ρ' _ hm =>
  ⟨_, Cert.FfnUpDwIdeal.Value.run_blocks m ρ,
    (θ_run Cert.FfnUpDwRefIdeal.defs _ _).mono (fun r h c => ⟨by
      rw [(h c).1, (hm c).1, (hm c).2]
      refine ((host_dots (r := 5632) (n := 1024) (k := 4096) (φ₁ := .f32) (φ₂ := .f32) _ _).trans ?_).trans (kernel_upDw m c).symm
      rw [byRow_transpose]
      exact congrArg (fun a => dots (r := 5632) (n := 1024) (k := 4096) (fun i q => a q i) _)
        (byRow_beside (r := 4096) (k := 2816) _ Cert.FfnUpDwRefIdeal.Gen.slices_S8192x2816_S4096x2816_0_0 Cert.FfnUpDwRefIdeal.Gen.slices_S8192x2816_S4096x2816_4096_0 Cert.FfnUpDwRefIdeal.Gen.concatenates_S4096x2816_S4096x2816_S4096x5632_d1), (h c).2⟩) (Cert.FfnUpDwRefIdeal.Value.run m' ρ')⟩

/-! ## The gradient of the output projection's weight -/

section OutProjDw

open Cert.OutProjDwIdeal Cert.OutProjDwIdeal.Gen Cert.OutProjDwIdeal.Value

variable (m : (ℓ : Loc nD τ sig) → Buf (Elt Ideal) ℓ)

/-- The first point of a tile leaves its product in the accumulator. -/
theorem outDw_first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (p0 : cond0_0 i) (p1 : ¬cond0_1 i) (p2 : ¬cond0_2 i)
    (x : Vec Ideal S2048x1024 .bf16) (y : Vec Ideal S2048x1024 .bf16) :
    sout0_A_0 c i a3 h3 a4 h4 a5 h5 a6 h6 p0 p1 p2 x y = dots (byCol x) (byCol y) := by
  unfold sout0_A_0
  rw [View.read_writes_eq_canon _ _ _ (scover0_A_0 c i a3 h3 a4 h4 a5 h5 a6 h6 p0 p1 p2 x y)]
  unfold kernelRun0_A
  dsimp only
  sl_unfold_words
  rw [View.canon_unit_zero origin]
  unfold k0_pay2 k0_pay1
  simp only [View.readAt_eq_ld, h3.read_unread, h4.read_unread, View.ld_unit_zero (S := S2048x1024) origin, shapeCast_self]
  exact unit_tn (r := 1024) (n := 1024) (k := 2048) (φ₁ := .bf16) (φ₂ := .bf16) x y _

/-- The second adds its own and hands the sum out. -/
theorem outDw_second (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (p0 : ¬cond0_0 i) (p1 : cond0_1 i) (p2 : cond0_2 i)
    (x : Vec Ideal S2048x1024 .bf16) (y : Vec Ideal S2048x1024 .bf16) (z : Vec Ideal S1024x1024 .f32) :
    out0_B_2 c i a3 h3 a4 h4 a5 h5 a6 h6 p0 p1 p2 x y z = fun j => z j + dots (byCol x) (byCol y) j := by
  unfold out0_B_2
  rw [View.read_writes_eq_canon _ _ _ (cover0_B_2 c i a3 h3 a4 h4 a5 h5 a6 h6 p0 p1 p2 x y z)]
  unfold kernelRun0_B
  dsimp only
  sl_unfold_words
  rw [View.canon_unit_zero origin, View.readCov_unit_zero (S := S1024x1024) _ origin]
  unfold k0_pay4 k0_pay3 k0_pay1
  simp only [View.readAt_eq_ld, h3.read_unread, h4.read_unread, h6.read_unread, View.ld_unit_zero (S := S2048x1024) origin, View.ld_unit_zero (S := S1024x1024) origin, shapeCast_self]
  exact funext fun j => congrArg (z j + ·) (congrFun (unit_tn (r := 1024) (n := 1024) (k := 2048) (φ₁ := .bf16) (φ₂ := .bf16) x y _) j)

theorem outDw_index : ∀ t : Fin cfg0.N, win0_0.index t (0 : Fin 2) = t.val % 2
    ∧ win0_0.index t (1 : Fin 2) = win0_2.index t (0 : Fin 2) ∧ win0_1.index t (0 : Fin 2) = t.val % 2
    ∧ win0_1.index t (1 : Fin 2) = win0_2.index t (1 : Fin 2) ∧ win0_2.index t (0 : Fin 2) < 1 :=
  (by decide +kernel : ∀ t : Fin grid0.N, _)

/-- The two points of one tile. -/
theorem outDw_pair : ∀ t u : Fin cfg0.N, t.val % 2 = 1 → u.val = t.val - 1 → win0_2.index u (0 : Fin 2) = win0_2.index t (0 : Fin 2)
    ∧ win0_2.index u (1 : Fin 2) = win0_2.index t (1 : Fin 2) :=
  (by decide +kernel : ∀ t u : Fin grid0.N, _)

theorem outDw_onto : ∀ (p : Fin 1) (q : Fin 1), ∃ t : Fin cfg0.N, t.val % 2 = 1 ∧ win0_2.index t (0 : Fin 2) = p.val
    ∧ win0_2.index t (1 : Fin 2) = q.val :=
  (by decide +kernel : ∀ (p : Fin 1) (q : Fin 1), ∃ t : Fin grid0.N, t.val % 2 = 1 ∧ win0_2.index t (0 : Fin 2) = p.val
    ∧ win0_2.index t (1 : Fin 2) = q.val)

theorem outDw_flushed (c : Dev nD) (t : Fin cfg0.N) (hf : (cfg0.win 2).flush t = true) :
    (dats m 0 c).flushed 2 t = ((cfg0.win 2).blk t).view.read (Elt Ideal)
      (dots (r := 1024) (n := 1024) (k := 2048 + 2048) (byCol (V m c main_arg0)) (byCol (V m c main_arg1))) := by
  have ht : t.val % 2 = 1 := (flush0_2 t).mp hf
  have hu : t.val - 1 < cfg0.N := Nat.lt_of_le_of_lt (Nat.sub_le _ _) t.isLt
  have hA := outsAt0_A m c ⟨t.val - 1, hu⟩ (by dsimp only; omega) (by dsimp only; omega) (by dsimp only; omega)
  dsimp only at hA
  rw [flushed2_B m c t (by omega) ht ht, outDw_second, hA]
  dsimp only
  rw [outDw_first]
  funext j
  obtain ⟨e0, e1, e2, e3, e4⟩ := outDw_index t
  obtain ⟨f0, f1, f2, f3, f4⟩ := outDw_index ⟨t.val - 1, hu⟩
  obtain ⟨g0, g1⟩ := outDw_pair t ⟨t.val - 1, hu⟩ ht rfl
  simp only [g0, g1] at f0 f1 f3
  have hq : (⟨t.val - 1, hu⟩ : Fin cfg0.N).val % 2 = 0 := by dsimp only; omega
  have hj : (j 0).val < 1024 := (j 0).isLt
  refine dots_halves j (((cfg0.win 2).blk t).view.emb j) (fun q => ?_) (fun q => ?_) (fun q => ?_) fun q => ?_
  · refine congrArg (V m c main_arg0) (Shape.idx_ext₂ ?_ ?_)
    · show win0_0.index _ (0 : Fin 2) * 2048 + 1 * q.val = q.val; omega
    · show win0_0.index _ (1 : Fin 2) * 1024 + 1 * (j 0).val = win0_2.index t (0 : Fin 2) * 1024 + 1 * (j 0).val; omega
  · refine congrArg (V m c main_arg1) (Shape.idx_ext₂ ?_ ?_)
    · show win0_1.index _ (0 : Fin 2) * 2048 + 1 * q.val = q.val; omega
    · show win0_1.index _ (1 : Fin 2) * 1024 + 1 * (j 1).val = win0_2.index t (1 : Fin 2) * 1024 + 1 * (j 1).val; omega
  · refine congrArg (V m c main_arg0) (Shape.idx_ext₂ ?_ ?_)
    · show win0_0.index _ (0 : Fin 2) * 2048 + 1 * q.val = 2048 + q.val; omega
    · show win0_0.index _ (1 : Fin 2) * 1024 + 1 * (j 0).val = win0_2.index t (0 : Fin 2) * 1024 + 1 * (j 0).val; omega
  · refine congrArg (V m c main_arg1) (Shape.idx_ext₂ ?_ ?_)
    · show win0_1.index _ (0 : Fin 2) * 2048 + 1 * q.val = 2048 + q.val; omega
    · show win0_1.index _ (1 : Fin 2) * 1024 + 1 * (j 1).val = win0_2.index t (1 : Fin 2) * 1024 + 1 * (j 1).val; omega

theorem outDw_covered (i : S1024x1024.Idx) : ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht, h0, h1⟩ := outDw_onto ⟨(i 0).val / 1024, by omega⟩ ⟨(i 1).val / 1024, by omega⟩
  dsimp only at h0 h1
  refine ⟨t, (flush0_2 t).mpr ht, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem kernel_outDw (c : Dev nD) : (dats m 0 c).arrAt 2 cfg0.N =
    dots (r := 1024) (n := 1024) (k := 4096) (byCol (m ((c : Thread nD τ).loc main_arg0))) (byCol (m ((c : Thread nD τ).loc main_arg1))) :=
  ((dats m 0 c).arrAt_eq_of_cover 2 _ (outDw_flushed m c) outDw_covered).trans (by rw [V_main_arg0, V_main_arg1])

end OutProjDw

theorem product_outDw : Cert.algebraic_OutProjDwIdeal_OutProjDwRefIdeal := fun m ρ m' ρ' _ hm =>
  ⟨_, Cert.OutProjDwIdeal.Value.run_blocks m ρ,
    (θ_run Cert.OutProjDwRefIdeal.defs _ _).mono (fun r h c => ⟨by
      rw [(h c).1, (hm c).1, (hm c).2]
      refine ((host_dots (r := 1024) (n := 1024) (k := 4096) (φ₁ := .f32) (φ₂ := .f32) _ _).trans ?_).trans (kernel_outDw m c).symm
      rw [byRow_transpose]
      rfl, (h c).2⟩) (Cert.OutProjDwRefIdeal.Value.run m' ρ')⟩

/-! ## The gradient of a branch's weight -/

section BranchDw

open Cert.BranchDwIdeal Cert.BranchDwIdeal.Gen Cert.BranchDwIdeal.Value

variable (m : (ℓ : Loc nD τ sig) → Buf (Elt Ideal) ℓ)

/-- The first point of a tile leaves its product in the accumulator. -/
theorem branchDw_first (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .bf16) (h5 : a5.IsWhole)
    (a6 : Memref sig .tc .vmem S512x1024 .f32) (h6 : a6.IsWhole) (p0 : cond0_0 i) (p1 : ¬cond0_1 i) (p2 : ¬cond0_2 i)
    (x : Vec Ideal S2048x512 .bf16) (y : Vec Ideal S2048x1024 .bf16) :
    sout0_A_0 c i a3 h3 a4 h4 a5 h5 a6 h6 p0 p1 p2 x y = dots (byCol x) (byCol y) := by
  unfold sout0_A_0
  rw [View.read_writes_eq_canon _ _ _ (scover0_A_0 c i a3 h3 a4 h4 a5 h5 a6 h6 p0 p1 p2 x y)]
  unfold kernelRun0_A
  dsimp only
  sl_unfold_words
  rw [View.canon_unit_zero origin]
  unfold k0_pay2 k0_pay1
  simp only [View.readAt_eq_ld, h3.read_unread, h4.read_unread, View.ld_unit_zero (S := S2048x512) origin, View.ld_unit_zero (S := S2048x1024) origin, shapeCast_self]
  exact unit_tn (r := 512) (n := 1024) (k := 2048) (φ₁ := .bf16) (φ₂ := .bf16) x y _

/-- The second adds its own and hands the sum out. -/
theorem branchDw_second (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .bf16) (h5 : a5.IsWhole)
    (a6 : Memref sig .tc .vmem S512x1024 .f32) (h6 : a6.IsWhole) (p0 : ¬cond0_0 i) (p1 : cond0_1 i) (p2 : cond0_2 i)
    (x : Vec Ideal S2048x512 .bf16) (y : Vec Ideal S2048x1024 .bf16) (z : Vec Ideal S512x1024 .f32) :
    out0_B_2 c i a3 h3 a4 h4 a5 h5 a6 h6 p0 p1 p2 x y z = fun j => z j + dots (byCol x) (byCol y) j := by
  unfold out0_B_2
  rw [View.read_writes_eq_canon _ _ _ (cover0_B_2 c i a3 h3 a4 h4 a5 h5 a6 h6 p0 p1 p2 x y z)]
  unfold kernelRun0_B
  dsimp only
  sl_unfold_words
  rw [View.canon_unit_zero origin, View.readCov_unit_zero (S := S512x1024) _ origin]
  unfold k0_pay4 k0_pay3 k0_pay1
  simp only [View.readAt_eq_ld, h3.read_unread, h4.read_unread, h6.read_unread, View.ld_unit_zero (S := S2048x512) origin, View.ld_unit_zero (S := S2048x1024) origin, View.ld_unit_zero (S := S512x1024) origin, shapeCast_self]
  exact funext fun j => congrArg (z j + ·) (congrFun (unit_tn (r := 512) (n := 1024) (k := 2048) (φ₁ := .bf16) (φ₂ := .bf16) x y _) j)

theorem branchDw_index : ∀ t : Fin cfg0.N, win0_0.index t (0 : Fin 2) = t.val % 2
    ∧ win0_0.index t (1 : Fin 2) = win0_2.index t (0 : Fin 2) ∧ win0_1.index t (0 : Fin 2) = t.val % 2
    ∧ win0_1.index t (1 : Fin 2) = win0_2.index t (1 : Fin 2) ∧ win0_2.index t (0 : Fin 2) < 1 :=
  (by decide +kernel : ∀ t : Fin grid0.N, _)

/-- The two points of one tile. -/
theorem branchDw_pair : ∀ t u : Fin cfg0.N, t.val % 2 = 1 → u.val = t.val - 1 → win0_2.index u (0 : Fin 2) = win0_2.index t (0 : Fin 2)
    ∧ win0_2.index u (1 : Fin 2) = win0_2.index t (1 : Fin 2) :=
  (by decide +kernel : ∀ t u : Fin grid0.N, _)

theorem branchDw_onto : ∀ (p : Fin 1) (q : Fin 1), ∃ t : Fin cfg0.N, t.val % 2 = 1 ∧ win0_2.index t (0 : Fin 2) = p.val
    ∧ win0_2.index t (1 : Fin 2) = q.val :=
  (by decide +kernel : ∀ (p : Fin 1) (q : Fin 1), ∃ t : Fin grid0.N, t.val % 2 = 1 ∧ win0_2.index t (0 : Fin 2) = p.val
    ∧ win0_2.index t (1 : Fin 2) = q.val)

theorem branchDw_flushed (c : Dev nD) (t : Fin cfg0.N) (hf : (cfg0.win 2).flush t = true) :
    (dats m 0 c).flushed 2 t = ((cfg0.win 2).blk t).view.read (Elt Ideal)
      (dots (r := 512) (n := 1024) (k := 2048 + 2048) (byCol (V m c main_arg0)) (byCol (V m c main_arg1))) := by
  have ht : t.val % 2 = 1 := (flush0_2 t).mp hf
  have hu : t.val - 1 < cfg0.N := Nat.lt_of_le_of_lt (Nat.sub_le _ _) t.isLt
  have hA := outsAt0_A m c ⟨t.val - 1, hu⟩ (by dsimp only; omega) (by dsimp only; omega) (by dsimp only; omega)
  dsimp only at hA
  rw [flushed2_B m c t (by omega) ht ht, branchDw_second, hA]
  dsimp only
  rw [branchDw_first]
  funext j
  obtain ⟨e0, e1, e2, e3, e4⟩ := branchDw_index t
  obtain ⟨f0, f1, f2, f3, f4⟩ := branchDw_index ⟨t.val - 1, hu⟩
  obtain ⟨g0, g1⟩ := branchDw_pair t ⟨t.val - 1, hu⟩ ht rfl
  simp only [g0, g1] at f0 f1 f3
  have hq : (⟨t.val - 1, hu⟩ : Fin cfg0.N).val % 2 = 0 := by dsimp only; omega
  have hj : (j 0).val < 512 := (j 0).isLt
  refine dots_halves j (((cfg0.win 2).blk t).view.emb j) (fun q => ?_) (fun q => ?_) (fun q => ?_) fun q => ?_
  · refine congrArg (V m c main_arg0) (Shape.idx_ext₂ ?_ ?_)
    · show win0_0.index _ (0 : Fin 2) * 2048 + 1 * q.val = q.val; omega
    · show win0_0.index _ (1 : Fin 2) * 512 + 1 * (j 0).val = win0_2.index t (0 : Fin 2) * 512 + 1 * (j 0).val; omega
  · refine congrArg (V m c main_arg1) (Shape.idx_ext₂ ?_ ?_)
    · show win0_1.index _ (0 : Fin 2) * 2048 + 1 * q.val = q.val; omega
    · show win0_1.index _ (1 : Fin 2) * 1024 + 1 * (j 1).val = win0_2.index t (1 : Fin 2) * 1024 + 1 * (j 1).val; omega
  · refine congrArg (V m c main_arg0) (Shape.idx_ext₂ ?_ ?_)
    · show win0_0.index _ (0 : Fin 2) * 2048 + 1 * q.val = 2048 + q.val; omega
    · show win0_0.index _ (1 : Fin 2) * 512 + 1 * (j 0).val = win0_2.index t (0 : Fin 2) * 512 + 1 * (j 0).val; omega
  · refine congrArg (V m c main_arg1) (Shape.idx_ext₂ ?_ ?_)
    · show win0_1.index _ (0 : Fin 2) * 2048 + 1 * q.val = 2048 + q.val; omega
    · show win0_1.index _ (1 : Fin 2) * 1024 + 1 * (j 1).val = win0_2.index t (1 : Fin 2) * 1024 + 1 * (j 1).val; omega

theorem branchDw_covered (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht, h0, h1⟩ := branchDw_onto ⟨(i 0).val / 512, by omega⟩ ⟨(i 1).val / 1024, by omega⟩
  dsimp only at h0 h1
  refine ⟨t, (flush0_2 t).mpr ht, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

theorem kernel_branchDw (c : Dev nD) : (dats m 0 c).arrAt 2 cfg0.N =
    dots (r := 512) (n := 1024) (k := 4096) (byCol (m ((c : Thread nD τ).loc main_arg0))) (byCol (m ((c : Thread nD τ).loc main_arg1))) :=
  ((dats m 0 c).arrAt_eq_of_cover 2 _ (branchDw_flushed m c) branchDw_covered).trans (by rw [V_main_arg0, V_main_arg1])

end BranchDw

theorem product_branchDw : Cert.algebraic_BranchDwIdeal_BranchDwRefIdeal := fun m ρ m' ρ' _ hm =>
  ⟨_, Cert.BranchDwIdeal.Value.run_blocks m ρ,
    (θ_run Cert.BranchDwRefIdeal.defs _ _).mono (fun r h c => ⟨by
      rw [(h c).1, (hm c).1, (hm c).2]
      refine ((host_dots (r := 512) (n := 1024) (k := 4096) (φ₁ := .f32) (φ₂ := .f32) _ _).trans ?_).trans (kernel_branchDw m c).symm
      rw [byRow_transpose]
      rfl, (h c).2⟩) (Cert.BranchDwRefIdeal.Value.run m' ρ')⟩

end Cert.Products
-- ==== Proof.Products.Frames.lean ====
/- The products end as they should: the frames of each, of its ideal reading and of its reference. -/
module

public import proofs.«01_k».proof.Defs
public import proofs.«01_k».proof.Proof.Products.Forward
public import proofs.«01_k».proof.Proof.Products.Backward
public import proofs.«01_k».proof.Proof.Products.Attention
public import proofs.«01_k».proof.Proof.Products.TwoStep
public import proofs.«01_k».proof.Proof.Gen.InProjAttn0.Frame
public import proofs.«01_k».proof.Proof.Gen.InProjAttn1.Frame
public import proofs.«01_k».proof.Proof.Gen.InProjAttn2.Frame
public import proofs.«01_k».proof.Proof.Gen.InProjRest.Frame
public import proofs.«01_k».proof.Proof.Gen.Branch.Frame
public import proofs.«01_k».proof.Proof.Gen.OutProj.Frame
public import proofs.«01_k».proof.Proof.Gen.FfnUp.Frame
public import proofs.«01_k».proof.Proof.Gen.FfnDown.Frame
public import proofs.«01_k».proof.Proof.Gen.FfnDownDx.Frame
public import proofs.«01_k».proof.Proof.Gen.FfnDownDw.Frame
public import proofs.«01_k».proof.Proof.Gen.FfnUpDx.Frame
public import proofs.«01_k».proof.Proof.Gen.FfnUpDw.Frame
public import proofs.«01_k».proof.Proof.Gen.OutProjDx.Frame
public import proofs.«01_k».proof.Proof.Gen.OutProjDw.Frame
public import proofs.«01_k».proof.Proof.Gen.BranchDx.Frame
public import proofs.«01_k».proof.Proof.Gen.BranchDw.Frame
public import proofs.«01_k».proof.Proof.Gen.InProjDxAttn1.Frame
public import proofs.«01_k».proof.Proof.Gen.InProjDxAttn2.Frame

@[expose] public section

noncomputable section

namespace Cert.Products

open Idealize.ShloMosaic Idealize.ShloMosaic.TcCoe Idealize.SL.Sem

theorem frames_attn0 : Cert.quiescent_InProjAttn0 ∧ Cert.quiescent_InProjAttn0Ideal ∧ Cert.quiescent_InProjAttn0RefIdeal :=
  ⟨fun m ρ _ => Cert.InProjAttn0.Gen.frame m ρ, fun m ρ _ => Cert.InProjAttn0Ideal.Gen.frame (F := Ideal) m ρ, fun m ρ _ =>
    (θ_run Cert.InProjAttn0RefIdeal.defs _ _).mono (fun r h => ⟨fun c => (h c).2, sem_eq_zero_of_no_sems (by decide) r.2⟩)
      (Cert.InProjAttn0RefIdeal.Value.run (F := Ideal) m ρ)⟩

theorem frames_attn1 : Cert.quiescent_InProjAttn1 ∧ Cert.quiescent_InProjAttn1Ideal ∧ Cert.quiescent_InProjAttn1RefIdeal :=
  ⟨fun m ρ _ => Cert.InProjAttn1.Gen.frame m ρ, fun m ρ _ => Cert.InProjAttn1Ideal.Gen.frame (F := Ideal) m ρ, fun m ρ _ =>
    (θ_run Cert.InProjAttn1RefIdeal.defs _ _).mono (fun r h => ⟨fun c => (h c).2, sem_eq_zero_of_no_sems (by decide) r.2⟩)
      (Cert.InProjAttn1RefIdeal.Value.run (F := Ideal) m ρ)⟩

theorem frames_attn2 : Cert.quiescent_InProjAttn2 ∧ Cert.quiescent_InProjAttn2Ideal ∧ Cert.quiescent_InProjAttn2RefIdeal :=
  ⟨fun m ρ _ => Cert.InProjAttn2.Gen.frame m ρ, fun m ρ _ => Cert.InProjAttn2Ideal.Gen.frame (F := Ideal) m ρ, fun m ρ _ =>
    (θ_run Cert.InProjAttn2RefIdeal.defs _ _).mono (fun r h => ⟨fun c => (h c).2, sem_eq_zero_of_no_sems (by decide) r.2⟩)
      (Cert.InProjAttn2RefIdeal.Value.run (F := Ideal) m ρ)⟩

theorem frames_rest : Cert.quiescent_InProjRest ∧ Cert.quiescent_InProjRestIdeal ∧ Cert.quiescent_InProjRestRefIdeal :=
  ⟨fun m ρ _ => Cert.InProjRest.Gen.frame m ρ, fun m ρ _ => Cert.InProjRestIdeal.Gen.frame (F := Ideal) m ρ, fun m ρ _ =>
    (θ_run Cert.InProjRestRefIdeal.defs _ _).mono (fun r h => ⟨fun c => (h c).2, sem_eq_zero_of_no_sems (by decide) r.2⟩)
      (Cert.InProjRestRefIdeal.Value.run (F := Ideal) m ρ)⟩

theorem frames_branch : Cert.quiescent_Branch ∧ Cert.quiescent_BranchIdeal ∧ Cert.quiescent_BranchRefIdeal :=
  ⟨fun m ρ _ => Cert.Branch.Gen.frame m ρ, fun m ρ _ => Cert.BranchIdeal.Gen.frame (F := Ideal) m ρ, fun m ρ _ =>
    (θ_run Cert.BranchRefIdeal.defs _ _).mono (fun r h => ⟨fun c => (h c).2, sem_eq_zero_of_no_sems (by decide) r.2⟩)
      (Cert.BranchRefIdeal.Value.run (F := Ideal) m ρ)⟩

theorem frames_out : Cert.quiescent_OutProj ∧ Cert.quiescent_OutProjIdeal ∧ Cert.quiescent_OutProjRefIdeal :=
  ⟨fun m ρ _ => Cert.OutProj.Gen.frame m ρ, fun m ρ _ => Cert.OutProjIdeal.Gen.frame (F := Ideal) m ρ, fun m ρ _ =>
    (θ_run Cert.OutProjRefIdeal.defs _ _).mono (fun r h => ⟨fun c => (h c).2, sem_eq_zero_of_no_sems (by decide) r.2⟩)
      (Cert.OutProjRefIdeal.Value.run (F := Ideal) m ρ)⟩

theorem frames_up : Cert.quiescent_FfnUp ∧ Cert.quiescent_FfnUpIdeal ∧ Cert.quiescent_FfnUpRefIdeal :=
  ⟨fun m ρ _ => Cert.FfnUp.Gen.frame m ρ, fun m ρ _ => Cert.FfnUpIdeal.Gen.frame (F := Ideal) m ρ, fun m ρ _ =>
    (θ_run Cert.FfnUpRefIdeal.defs _ _).mono (fun r h => ⟨fun c => (h c).2, sem_eq_zero_of_no_sems (by decide) r.2⟩)
      (Cert.FfnUpRefIdeal.Value.run (F := Ideal) m ρ)⟩

theorem frames_down : Cert.quiescent_FfnDown ∧ Cert.quiescent_FfnDownIdeal ∧ Cert.quiescent_FfnDownRefIdeal :=
  ⟨fun m ρ _ => Cert.FfnDown.Gen.frame m ρ, fun m ρ _ => Cert.FfnDownIdeal.Gen.frame (F := Ideal) m ρ, fun m ρ _ =>
    (θ_run Cert.FfnDownRefIdeal.defs _ _).mono (fun r h => ⟨fun c => (h c).2, sem_eq_zero_of_no_sems (by decide) r.2⟩)
      (Cert.FfnDownRefIdeal.Value.run (F := Ideal) m ρ)⟩

theorem frames_downDx : Cert.quiescent_FfnDownDx ∧ Cert.quiescent_FfnDownDxIdeal ∧ Cert.quiescent_FfnDownDxRefIdeal :=
  ⟨fun m ρ _ => Cert.FfnDownDx.Gen.frame m ρ, fun m ρ _ => Cert.FfnDownDxIdeal.Gen.frame (F := Ideal) m ρ, fun m ρ _ =>
    (θ_run Cert.FfnDownDxRefIdeal.defs _ _).mono (fun r h => ⟨fun c => (h c).2, sem_eq_zero_of_no_sems (by decide) r.2⟩)
      (Cert.FfnDownDxRefIdeal.Value.run (F := Ideal) m ρ)⟩

theorem frames_downDw : Cert.quiescent_FfnDownDw ∧ Cert.quiescent_FfnDownDwIdeal ∧ Cert.quiescent_FfnDownDwRefIdeal :=
  ⟨fun m ρ _ => Cert.FfnDownDw.Gen.frame m ρ, fun m ρ _ => Cert.FfnDownDwIdeal.Gen.frame (F := Ideal) m ρ, fun m ρ _ =>
    (θ_run Cert.FfnDownDwRefIdeal.defs _ _).mono (fun r h => ⟨fun c => (h c).2, sem_eq_zero_of_no_sems (by decide) r.2⟩)
      (Cert.FfnDownDwRefIdeal.Value.run (F := Ideal) m ρ)⟩

theorem frames_upDx : Cert.quiescent_FfnUpDx ∧ Cert.quiescent_FfnUpDxIdeal ∧ Cert.quiescent_FfnUpDxRefIdeal :=
  ⟨fun m ρ _ => Cert.FfnUpDx.Gen.frame m ρ, fun m ρ _ => Cert.FfnUpDxIdeal.Gen.frame (F := Ideal) m ρ, fun m ρ _ =>
    (θ_run Cert.FfnUpDxRefIdeal.defs _ _).mono (fun r h => ⟨fun c => (h c).2, sem_eq_zero_of_no_sems (by decide) r.2⟩)
      (Cert.FfnUpDxRefIdeal.Value.run (F := Ideal) m ρ)⟩

theorem frames_upDw : Cert.quiescent_FfnUpDw ∧ Cert.quiescent_FfnUpDwIdeal ∧ Cert.quiescent_FfnUpDwRefIdeal :=
  ⟨fun m ρ _ => Cert.FfnUpDw.Gen.frame m ρ, fun m ρ _ => Cert.FfnUpDwIdeal.Gen.frame (F := Ideal) m ρ, fun m ρ _ =>
    (θ_run Cert.FfnUpDwRefIdeal.defs _ _).mono (fun r h => ⟨fun c => (h c).2, sem_eq_zero_of_no_sems (by decide) r.2⟩)
      (Cert.FfnUpDwRefIdeal.Value.run (F := Ideal) m ρ)⟩

theorem frames_outDx : Cert.quiescent_OutProjDx ∧ Cert.quiescent_OutProjDxIdeal ∧ Cert.quiescent_OutProjDxRefIdeal :=
  ⟨fun m ρ _ => Cert.OutProjDx.Gen.frame m ρ, fun m ρ _ => Cert.OutProjDxIdeal.Gen.frame (F := Ideal) m ρ, fun m ρ _ =>
    (θ_run Cert.OutProjDxRefIdeal.defs _ _).mono (fun r h => ⟨fun c => (h c).2, sem_eq_zero_of_no_sems (by decide) r.2⟩)
      (Cert.OutProjDxRefIdeal.Value.run (F := Ideal) m ρ)⟩

theorem frames_outDw : Cert.quiescent_OutProjDw ∧ Cert.quiescent_OutProjDwIdeal ∧ Cert.quiescent_OutProjDwRefIdeal :=
  ⟨fun m ρ _ => Cert.OutProjDw.Gen.frame m ρ, fun m ρ _ => Cert.OutProjDwIdeal.Gen.frame (F := Ideal) m ρ, fun m ρ _ =>
    (θ_run Cert.OutProjDwRefIdeal.defs _ _).mono (fun r h => ⟨fun c => (h c).2, sem_eq_zero_of_no_sems (by decide) r.2⟩)
      (Cert.OutProjDwRefIdeal.Value.run (F := Ideal) m ρ)⟩

theorem frames_branchDx : Cert.quiescent_BranchDx ∧ Cert.quiescent_BranchDxIdeal ∧ Cert.quiescent_BranchDxRefIdeal :=
  ⟨fun m ρ _ => Cert.BranchDx.Gen.frame m ρ, fun m ρ _ => Cert.BranchDxIdeal.Gen.frame (F := Ideal) m ρ, fun m ρ _ =>
    (θ_run Cert.BranchDxRefIdeal.defs _ _).mono (fun r h => ⟨fun c => (h c).2, sem_eq_zero_of_no_sems (by decide) r.2⟩)
      (Cert.BranchDxRefIdeal.Value.run (F := Ideal) m ρ)⟩

theorem frames_branchDw : Cert.quiescent_BranchDw ∧ Cert.quiescent_BranchDwIdeal ∧ Cert.quiescent_BranchDwRefIdeal :=
  ⟨fun m ρ _ => Cert.BranchDw.Gen.frame m ρ, fun m ρ _ => Cert.BranchDwIdeal.Gen.frame (F := Ideal) m ρ, fun m ρ _ =>
    (θ_run Cert.BranchDwRefIdeal.defs _ _).mono (fun r h => ⟨fun c => (h c).2, sem_eq_zero_of_no_sems (by decide) r.2⟩)
      (Cert.BranchDwRefIdeal.Value.run (F := Ideal) m ρ)⟩

theorem frames_dxAttn1 : Cert.quiescent_InProjDxAttn1 ∧ Cert.quiescent_InProjDxAttn1Ideal ∧ Cert.quiescent_InProjDxAttn1RefIdeal :=
  ⟨fun m ρ _ => Cert.InProjDxAttn1.Gen.frame m ρ, fun m ρ _ => Cert.InProjDxAttn1Ideal.Gen.frame (F := Ideal) m ρ, fun m ρ _ =>
    (θ_run Cert.InProjDxAttn1RefIdeal.defs _ _).mono (fun r h => ⟨fun c => (h c).2, sem_eq_zero_of_no_sems (by decide) r.2⟩)
      (Cert.InProjDxAttn1RefIdeal.Value.run (F := Ideal) m ρ)⟩

theorem frames_dxAttn2 : Cert.quiescent_InProjDxAttn2 ∧ Cert.quiescent_InProjDxAttn2Ideal ∧ Cert.quiescent_InProjDxAttn2RefIdeal :=
  ⟨fun m ρ _ => Cert.InProjDxAttn2.Gen.frame m ρ, fun m ρ _ => Cert.InProjDxAttn2Ideal.Gen.frame (F := Ideal) m ρ, fun m ρ _ =>
    (θ_run Cert.InProjDxAttn2RefIdeal.defs _ _).mono (fun r h => ⟨fun c => (h c).2, sem_eq_zero_of_no_sems (by decide) r.2⟩)
      (Cert.InProjDxAttn2RefIdeal.Value.run (F := Ideal) m ρ)⟩

end Cert.Products
-- ==== Proof.SlabLemmas.lean ====
/- Rows kept as d interleaved subsequences: what lies in the slab after each subsequence is stored with stride d,
   and the rows read back side by side. -/
module

public import proofs.«01_k».proof.Defs
public import Idealize.ShloMosaic.Lib.Pipeline.Value
public import Idealize.ShloMosaic.Lib.ValueIdx

@[expose] public section

noncomputable section

namespace Cert.Norm

open Idealize.ShloMosaic Idealize.ShloMosaic.ValueIdx

local notation "Mat[" r ", " n "]" => Idealize.ShloMosaic.Shape.Idx (Idealize.ShloMosaic.Shape.mk 2 ![r, n])
local notation "Cube[" a ", " b ", " c "]" => Idealize.ShloMosaic.Shape.Idx (Idealize.ShloMosaic.Shape.mk 3 ![a, b, c])

/-- Row `p` of the rows that `x` keeps as `d` interleaved subsequences: row `p / d` of subsequence `p % d`. -/
def woven {d n k : ℕ} (hd : 0 < d) (x : Cube[d, n, k] → EReal) (r : ℕ) (h : r ≤ n * d) (p : Fin r) (q : Fin k) : EReal :=
  x (ix3 ⟨p.val % d, Nat.mod_lt _ hd⟩ ⟨p.val / d, (Nat.div_lt_iff_lt_mul hd).mpr (lt_of_lt_of_le p.isLt h)⟩ q)

/-- The entry of the slab: plane `y 0` holds columns `128 * y 0` and on. -/
def slab {d n : ℕ} (hd : 0 < d) (h : 256 ≤ n * d) (x : Cube[d, n, 1024] → EReal) (y : Cube[8, 256, 128]) : EReal :=
  woven hd x 256 h (y 1) ⟨128 * (y 0).val + (y 2).val, by
    have h0 : (y 0).val < 8 := (y 0).isLt
    have h2 : (y 2).val < 128 := (y 2).isLt
    omega⟩

/-- Which store, the newest counted as 0, fills the entry. -/
def place (d : ℕ) (y : Cube[8, 256, 128]) : ℕ := 8 * (d - 1 - (y 1).val % d) + (7 - (y 0).val)

/-- An entry of what one store writes. -/
theorem piece_entry {d n : ℕ} (x : Cube[d, n, 1024] → EReal) (r j o : ℕ) (hr : r < d) (hj : j < 8) (ho : o = 128 * j)
    (inb : ∀ a, (![r, 0, 0] : Fin 3 → ℕ) a + (![1, n, 1024] : Fin 3 → ℕ) a ≤ (Shape.mk 3 ![d, n, 1024]).size a)
    (h1 : Shape.ShapeCasts ⟨3, ![1, n, 1024]⟩ ⟨2, ![n, 1024]⟩)
    (h2 : (Shape.mk 2 ![n, 1024]).Slices ![0, o] ⟨2, ![n, 128]⟩)
    (h3 : Shape.ShapeCasts ⟨2, ![n, 128]⟩ ⟨3, ![1, n, 128]⟩) (z : Cube[1, n, 128]) :
    shapeCast ⟨3, ![1, n, 128]⟩ (extractStridedSlice ⟨2, ![n, 128]⟩ ![0, o]
        (shapeCast ⟨2, ![n, 1024]⟩ (fun z : Cube[1, n, 1024] => x ((Rect.unit (s := ⟨3, ![d, n, 1024]⟩) ![r, 0, 0] ![1, n, 1024] inb).idx z)) h1) h2) h3 z
      = x (ix3 ⟨r, hr⟩ (z 1) ⟨128 * j + (z 2).val, by have h2 : (z 2).val < 128 := (z 2).isLt; omega⟩) := by
  have hz0 : (z 0).val < 1 := (z 0).isLt
  have hz2 : (z 2).val < 128 := (z 2).isLt
  refine (shapeCast_addUnit_apply ![n, 128] _ h3 z).trans ?_
  refine (extractStridedSlice_apply _ _ h2 _ (ix2 (z 1) (⟨128 * j + (z 2).val, by omega⟩ : Fin 1024)) ?_).trans ?_
  · intro a
    match a with
    | ⟨0, _⟩ => show (z 1).val = 0 + (z 1).val; omega
    | ⟨1, _⟩ => show 128 * j + (z 2).val = o + (z 2).val; omega
  refine (shapeCast_dropUnit_apply ![n, 1024] _ h1 _).trans ?_
  refine congrArg x (funext fun a => Fin.ext ?_)
  match a with
  | ⟨0, _⟩ => show r + 1 * 0 = r; omega
  | ⟨1, _⟩ => show 0 + 1 * (z 1).val = (z 1).val; omega
  | ⟨2, _⟩ => show 0 + 1 * (128 * j + (z 2).val) = 128 * j + (z 2).val; omega

/-- An entry that the newest store fills. -/
theorem canon_at {s : Shape} (r : Rect s) (w : r.shape.Idx → Elt Ideal .f32) (L : List (View.Piece (Elt Ideal) s .f32)) (z : r.shape.Idx)
    (y : s.Idx) (hz : r.emb z = y) : View.canon (⟨r, w⟩ :: L) y = w z :=
  hz ▸ View.canon_cons_emb r w L z

theorem row_fits {d r : ℕ} (n : ℕ) (hr : r < d) (a : Fin 3) : (![r, 0, 0] : Fin 3 → ℕ) a + (![1, n, 1024] : Fin 3 → ℕ) a ≤ (Shape.mk 3 ![d, n, 1024]).size a := by
  match a with
  | ⟨0, _⟩ => exact hr
  | ⟨1, _⟩ => show 0 + n ≤ n; omega
  | ⟨2, _⟩ => exact Nat.le_refl _

theorem columns_fit {j o : ℕ} (n : ℕ) (hj : j < 8) (ho : o = 128 * j) : (Shape.mk 2 ![n, 1024]).Slices ![0, o] ⟨2, ![n, 128]⟩ :=
  ⟨rfl, fun a => by
    match a with
    | ⟨0, _⟩ => show 0 + n ≤ n; omega
    | ⟨1, _⟩ => show o + 128 ≤ 1024; omega⟩

theorem drop_fits (n : ℕ) : Shape.ShapeCasts ⟨3, ![1, n, 1024]⟩ ⟨2, ![n, 1024]⟩ := by
  simp [Shape.ShapeCasts, Shape.numel, Fin.prod_univ_succ]

theorem add_fits (n : ℕ) : Shape.ShapeCasts ⟨2, ![n, 128]⟩ ⟨3, ![1, n, 128]⟩ := by
  simp [Shape.ShapeCasts, Shape.numel, Fin.prod_univ_succ]

/-- One store of the slab: an entry that it fills holds the slab's value, and any other is an older store's. -/
theorem slab_step {d n : ℕ} (hd : 0 < d) (h : 256 ≤ n * d) (x : Cube[d, n, 1024] → EReal) (y : Cube[8, 256, 128])
    {k r j o : ℕ} (hk : k ≤ place d y) (hr : r + k / 8 + 1 = d) (hj : j + k % 8 = 7) (ho : o = 128 * j)
    {L : List (View.Piece (Elt Ideal) (Shape.mk 3 ![8, 256, 128]) .f32)}
    {inb' : _} {pos' : _} {w : Cube[1, n, 128] → EReal}
    (hw : w = shapeCast ⟨3, ![1, n, 128]⟩ (extractStridedSlice ⟨2, ![n, 128]⟩ ![0, o]
        (shapeCast ⟨2, ![n, 1024]⟩ (fun z : Cube[1, n, 1024] =>
          x ((Rect.unit (s := ⟨3, ![d, n, 1024]⟩) ![r, 0, 0] ![1, n, 1024] (row_fits n (by omega))).idx z)) (drop_fits n))
        (columns_fit n (by omega) ho)) (add_fits n))
    (hL : k + 1 ≤ place d y → View.canon L y = slab hd h x y) :
    View.canon (⟨{ off := ![j, r, 0], size := ![1, n, 128], stride := ![1, d, 1], inb := inb', stride_pos := pos' },
      w⟩ :: L) y
      = slab hd h x y := by
  have hy0 : (y 0).val < 8 := (y 0).isLt
  have hy1 : (y 1).val < 256 := (y 1).isLt
  have hy2 : (y 2).val < 128 := (y 2).isLt
  have hmod : (y 1).val % d < d := Nat.mod_lt _ hd
  have hdiv : (y 1).val % d + d * ((y 1).val / d) = (y 1).val := Nat.mod_add_div _ _
  have hquo : (y 1).val / d < n := (Nat.div_lt_iff_lt_mul hd).mpr (by omega)
  by_cases hin : (y 0).val = j ∧ (y 1).val % d = r
  · obtain ⟨e0, e1⟩ := hin
    refine (canon_at _ _ L (ix3 (0 : Fin 1) ⟨(y 1).val / d, hquo⟩ (y 2)) y ?_).trans ?_
    · funext a
      apply Fin.ext
      match a with
      | ⟨0, _⟩ => show j + 1 * 0 = (y 0).val; omega
      | ⟨1, _⟩ => show r + d * ((y 1).val / d) = (y 1).val; omega
      | ⟨2, _⟩ => show 0 + 1 * (y 2).val = (y 2).val; omega
    subst hw
    refine (piece_entry x r j o (by omega) (by omega) ho _ _ _ _ _).trans ?_
    refine congrArg x (funext fun a => Fin.ext ?_)
    match a with
    | ⟨0, _⟩ => exact e1.symm
    | ⟨1, _⟩ => rfl
    | ⟨2, _⟩ => show 128 * j + (y 2).val = 128 * (y 0).val + (y 2).val; omega
  · refine (View.canon_cons_of_not_mem _ _ fun hmem => hin ?_).trans (hL ?_)
    · obtain ⟨z, hz⟩ := LoadRect.exists_idx_of_mem _ hmem
      have hz0 : (z 0).val < 1 := (z 0).isLt
      have c0 : j + 1 * (z 0).val = (y 0).val := congrArg (fun w : Cube[8, 256, 128] => (w 0).val) hz
      have c1 : r + d * (z 1).val = (y 1).val := congrArg (fun w : Cube[8, 256, 128] => (w 1).val) hz
      refine ⟨by omega, ?_⟩
      rw [← c1, Nat.add_mul_mod_self_left, Nat.mod_eq_of_lt (by omega)]
    · unfold place at hk ⊢
      omega

/-- Eight planes of 128 columns side by side. -/
theorem planes_beside {d n : ℕ} (hd : 0 < d) (h : 256 ≤ n * d) (x : Cube[d, n, 1024] → EReal)
    (f : Fin 8 → Mat[256, 128] → EReal)
    (hf : ∀ q p l, f q (ix2 p l) = slab hd h x (ix3 q p l))
    (hc : Shape.Concatenates ((List.ofFn fun q : Fin 8 => (⟨⟨2, ![256, 128]⟩, f q⟩ : (s : Shape) × (s.Idx → EReal))).map (·.1)) ⟨2, ![256, 1024]⟩ 1)
    (j : Mat[256, 1024]) :
    concatenate ⟨2, ![256, 1024]⟩ 1 (List.ofFn fun q : Fin 8 => (⟨⟨2, ![256, 128]⟩, f q⟩ : (s : Shape) × (s.Idx → EReal))) hc j
      = woven hd x 256 h (j 0) (j 1) := by
  have hj : (j 1).val < 1024 := (j 1).isLt
  refine (concatenate_ofFn_apply (t := ⟨2, ![256, 1024]⟩) (s₁ := ⟨2, ![256, 128]⟩) 1 f hc rfl 128 rfl j ⟨(j 1).val / 128, by omega⟩ rfl
    (ix2 (j 0) ⟨(j 1).val % 128, by omega⟩) rfl ?_).trans ?_
  · intro b hb
    match b with
    | ⟨0, _⟩ => rfl
    | ⟨1, _⟩ => exact absurd rfl hb
  · refine (hf _ _ _).trans ?_
    refine congrArg (woven hd x 256 h (j 0)) (Fin.ext ?_)
    show 128 * ((j 1).val / 128) + (j 1).val % 128 = (j 1).val
    omega

theorem plane_fits (q : Fin 8) (a : Fin 3) : (![q.val, 0, 0] : Fin 3 → ℕ) a + (![1, 256, 128] : Fin 3 → ℕ) a ≤ (Shape.mk 3 ![8, 256, 128]).size a := by
  match a with
  | ⟨0, _⟩ => show q.val + 1 ≤ 8; have := q.isLt; omega
  | ⟨1, _⟩ => exact Nat.le_refl _
  | ⟨2, _⟩ => exact Nat.le_refl _

/-- Plane `q` of the slab, read back as a matrix. -/
def plane {sig : RefSig} {κ : Kind} {sp : Space} (v : View sig κ sp (Shape.mk 3 ![8, 256, 128]) .f32)
    (L : List (View.Piece (Elt Ideal) (Shape.mk 3 ![8, 256, 128]) .f32)) (h : Shape.ShapeCasts ⟨3, ![1, 256, 128]⟩ ⟨2, ![256, 128]⟩) (q : Fin 8) :
    Mat[256, 128] → EReal :=
  shapeCast ⟨2, ![256, 128]⟩ (v.readCov L (Rect.unit (s := ⟨3, ![8, 256, 128]⟩) ![q.val, 0, 0] ![1, 256, 128] (plane_fits q)).toLoadRect) h

/-- The eight planes read back side by side are the interleaved rows. -/
theorem slab_read {sig : RefSig} {κ : Kind} {sp : Space} (v : View sig κ sp (Shape.mk 3 ![8, 256, 128]) .f32)
    (L : List (View.Piece (Elt Ideal) (Shape.mk 3 ![8, 256, 128]) .f32)) (h : Shape.ShapeCasts ⟨3, ![1, 256, 128]⟩ ⟨2, ![256, 128]⟩)
    {d n : ℕ} (hd : 0 < d) (hn : 256 ≤ n * d) (x : Cube[d, n, 1024] → EReal) (hL : ∀ y, View.canon L y = slab hd hn x y)
    (hc : Shape.Concatenates ((List.ofFn fun q : Fin 8 => (⟨⟨2, ![256, 128]⟩, plane v L h q⟩ : (s : Shape) × (s.Idx → EReal))).map (·.1)) ⟨2, ![256, 1024]⟩ 1)
    (j : Mat[256, 1024]) :
    concatenate ⟨2, ![256, 1024]⟩ 1 (List.ofFn fun q : Fin 8 => (⟨⟨2, ![256, 128]⟩, plane v L h q⟩ : (s : Shape) × (s.Idx → EReal))) hc j
      = woven hd x 256 hn (j 0) (j 1) := by
  refine planes_beside hd hn x (plane v L h) (fun q p l => ?_) hc j
  refine (shapeCast_dropUnit_apply ![256, 128] _ h _).trans ?_
  rw [View.readCov_eq_canon']
  refine (hL _).trans (congrArg (slab hd hn x) (funext fun a => Fin.ext ?_))
  match a with
  | ⟨0, _⟩ => show q.val + 1 * 0 = q.val; omega
  | ⟨1, _⟩ => show 0 + 1 * p.val = p.val; omega
  | ⟨2, _⟩ => show 0 + 1 * l.val = l.val; omega

/-- The sum of the four branches' gradients: two in row order, one in four and one in sixteen subsequences. -/
def joined {n4 n16 r : ℕ} (h4 : r ≤ n4 * 4) (h16 : r ≤ n16 * 16) (x0 x1 : Mat[r, 1024] → EReal) (x2 : Cube[4, n4, 1024] → EReal)
    (x3 : Cube[16, n16, 1024] → EReal) : Mat[r, 1024] → EReal :=
  fun j => x0 j + x1 j + woven (by decide) x2 r h4 (j 0) (j 1) + woven (by decide) x3 r h16 (j 0) (j 1)

end Cert.Norm
-- ==== Proof.NormLemmas.lean ====
/- The gradient of a root-mean-square norm, in the number of rows as a variable: what a tile computes, what the host computes,
   and that both are the same function of their rows. -/
module

public import proofs.«01_k».proof.Proof.SlabLemmas
public import Idealize.ShloMosaic.Lib.IdealHost
public import Idealize.ShloMosaic.Lib.Pointwise
public import Idealize.ShloMosaic.PureOps.Ideal.Laws

@[expose] public section

noncomputable section

namespace Cert.Norm

open Idealize.ShloMosaic hiding ix1 ix2 ix3 eq_ix2
open Idealize.ShloMosaic.ValueIdx
open scoped BigOperators

local notation "Mat[" r ", " n "]" => Idealize.ShloMosaic.Shape.Idx (Idealize.ShloMosaic.Shape.mk 2 ![r, n])
local notation "Cube[" a ", " b ", " c "]" => Idealize.ShloMosaic.Shape.Idx (Idealize.ShloMosaic.Shape.mk 3 ![a, b, c])

/-- The width of a row. -/
def width : EReal := Ideal.ofBits .f32 0x44800000#32
/-- What keeps the root from zero. -/
def tiny : EReal := Ideal.ofBits .f32 0x358637BD#32

/-- One over the root of the mean square of row `p`. -/
def rowScale {r : ℕ} (x : Mat[r, 1024] → EReal) (p : Fin r) : EReal :=
  Ideal.rsqrt (Ideal.div (∑ q : Fin 1024, x (ix2 p q) * x (ix2 p q)) width + tiny)

/-- The rows scaled. -/
def unitRows {r : ℕ} (x : Mat[r, 1024] → EReal) : Mat[r, 1024] → EReal := fun j => x j * rowScale x (j 0)

/-- The gradient of the input: what the norm gives, and the part `y` that goes around it. -/
def gradIn {r : ℕ} (dh x y : Mat[r, 1024] → EReal) (w : Mat[1, 1024] → EReal) : Mat[r, 1024] → EReal := fun j =>
  y j + rowScale x (j 0) * (dh j * w (ix2 0 (j 1))
    - unitRows x j * Ideal.div (∑ q : Fin 1024, dh (ix2 (j 0) q) * w (ix2 0 q) * unitRows x (ix2 (j 0) q)) width)

/-- The gradient of the norm's weights: a sum over the rows. -/
def gradW {r : ℕ} (dh x : Mat[r, 1024] → EReal) : Mat[1, 1024] → EReal := fun j =>
  ∑ p : Fin r, dh (ix2 p (j 1)) * unitRows x (ix2 p (j 1))

/-! ## Sums and broadcasts, on the device and on the host -/

section Reads

variable {r : ℕ}

theorem device_rowSum (v : FVec Ideal (Shape.mk 2 ![r, 1024]) .f32) (acc : BitVec (FTy.f32).bits) (h : (Shape.mk 2 ![r, 1024]).Reduces [1] ⟨1, ![r]⟩)
    (hφ : FKind.Formats .f32) (hacc : acc = FKind.add.neutral .f32 hφ) (hc : Shape.ShapeCasts ⟨1, ![r]⟩ ⟨2, ![r, 1]⟩) (p : Fin r) (z : Fin 1) :
    shapeCast ⟨2, ![r, 1]⟩ (multiReduction .add [1] ⟨1, ![r]⟩ v acc h hφ hacc) hc (ix2 p z) = ∑ q : Fin 1024, v (ix2 p q) := by
  refine (shapeCast_apply _ hc (ix2 p z) (ix1 p) ?_).trans ?_
  · rw [Shape.rowMajor_val_one, Shape.rowMajor_val_two]
    show p.val = p.val * 1 + z.val
    omega
  · exact (Ideal.reduceAdd_r2_a1 h v (ix1 p)).trans rfl

theorem device_columnSum (v : FVec Ideal (Shape.mk 2 ![r, 1024]) .f32) (acc : BitVec (FTy.f32).bits) (h : (Shape.mk 2 ![r, 1024]).Reduces [0] ⟨1, ![1024]⟩)
    (hφ : FKind.Formats .f32) (hacc : acc = FKind.add.neutral .f32 hφ) (hc : Shape.ShapeCasts ⟨1, ![1024]⟩ ⟨2, ![1, 1024]⟩) (j : Mat[1, 1024]) :
    shapeCast ⟨2, ![1, 1024]⟩ (multiReduction .add [0] ⟨1, ![1024]⟩ v acc h hφ hacc) hc j = ∑ p : Fin r, v (ix2 p (j 1)) := by
  have hj : (j 0).val < 1 := (j 0).isLt
  refine (shapeCast_apply _ hc j (ix1 (j 1)) ?_).trans ?_
  · rw [Shape.rowMajor_val_one, Shape.rowMajor_val_two]
    show (j 1).val = (j 0).val * 1024 + (j 1).val
    omega
  · exact (Ideal.reduceAdd_r2_a0 h v (ix1 (j 1))).trans rfl

theorem device_column (v : Mat[r, 1] → EReal) (h : (Shape.mk 2 ![r, 1]).Broadcasts ⟨2, ![r, 1024]⟩) (p : Fin r) (q : Fin 1024) :
    broadcastTo ⟨2, ![r, 1024]⟩ v h (ix2 p q) = v (ix2 p 0) := by
  refine broadcastTo_apply v h _ _ fun a => ?_
  match a with
  | ⟨0, _⟩ =>
    show p.val = if r = 1 then 0 else p.val
    have hp := p.isLt
    split <;> omega
  | ⟨1, _⟩ => rfl

theorem device_row (v : Mat[1, 1024] → EReal) (h : (Shape.mk 2 ![1, 1024]).Broadcasts ⟨2, ![r, 1024]⟩) (p : Fin r) (q : Fin 1024) :
    broadcastTo ⟨2, ![r, 1024]⟩ v h (ix2 p q) = v (ix2 0 q) := by
  refine broadcastTo_apply v h _ _ fun a => ?_
  match a with
  | ⟨0, _⟩ => rfl
  | ⟨1, _⟩ => rfl

theorem host_rowSum {u : Shape} (v : FVec Ideal (Shape.mk 2 ![r, 1024]) .f32) (h : (Shape.mk 2 ![r, 1024]).ReducesTo [1] ⟨1, ![r]⟩) (hu : 0 < u.numel)
    (hb : (Shape.mk 1 ![r]).BroadcastsInDim ⟨2, ![r, 1]⟩ ![0]) (p : Fin r) (z : Fin 1) :
    broadcastInDim ⟨2, ![r, 1]⟩ ![0] hb (Host.reduceAdd v (constant u .f32 0x00000000#32) h hu) (ix2 p z) = ∑ q : Fin 1024, v (ix2 p q) := by
  refine (broadcastInDim_apply _ hb _ _ (ix1 p) fun a => ?_).trans ?_
  · match a with
    | ⟨0, _⟩ =>
      show p.val = if r = 1 then 0 else p.val
      have hp := p.isLt
      split <;> omega
  · rw [ValueIdx.hostReduceAdd_apply, Ideal.hostReduceAdd_r2_a1]
    show Ideal.ofBits .f32 0x00000000#32 + _ = _
    rw [Ideal.ofBits_zero_f32, zero_add]
    rfl

theorem host_columnSum {u : Shape} (v : FVec Ideal (Shape.mk 2 ![r, 1024]) .f32) (h : (Shape.mk 2 ![r, 1024]).ReducesTo [0] ⟨1, ![1024]⟩) (hu : 0 < u.numel)
    (hb : (Shape.mk 1 ![1024]).BroadcastsInDim ⟨2, ![1, 1024]⟩ ![1]) (j : Mat[1, 1024]) :
    broadcastInDim ⟨2, ![1, 1024]⟩ ![1] hb (Host.reduceAdd v (constant u .f32 0x00000000#32) h hu) j = ∑ p : Fin r, v (ix2 p (j 1)) := by
  refine (broadcastInDim_apply _ hb _ _ (ix1 (j 1)) fun a => ?_).trans ?_
  · match a with
    | ⟨0, _⟩ => rfl
  · rw [ValueIdx.hostReduceAdd_apply, Ideal.hostReduceAdd_r2_a0]
    show Ideal.ofBits .f32 0x00000000#32 + _ = _
    rw [Ideal.ofBits_zero_f32, zero_add]
    rfl

theorem host_column (v : Mat[r, 1] → EReal) (h : (Shape.mk 2 ![r, 1]).BroadcastsInDim ⟨2, ![r, 1024]⟩ ![0, 1]) (p : Fin r) (q : Fin 1024) :
    broadcastInDim ⟨2, ![r, 1024]⟩ ![0, 1] h v (ix2 p q) = v (ix2 p 0) := by
  refine broadcastInDim_apply _ h v _ _ fun a => ?_
  match a with
  | ⟨0, _⟩ =>
    show p.val = if r = 1 then 0 else p.val
    have hp := p.isLt
    split <;> omega
  | ⟨1, _⟩ => rfl

theorem host_row (v : Mat[1, 1024] → EReal) (h : (Shape.mk 2 ![1, 1024]).BroadcastsInDim ⟨2, ![r, 1024]⟩ ![0, 1]) (p : Fin r) (q : Fin 1024) :
    broadcastInDim ⟨2, ![r, 1024]⟩ ![0, 1] h v (ix2 p q) = v (ix2 0 q) := by
  refine broadcastInDim_apply _ h v _ _ fun a => ?_
  match a with
  | ⟨0, _⟩ => rfl
  | ⟨1, _⟩ => rfl

end Reads

/-- The host brings rows kept as `d` subsequences back in order. -/
theorem host_in_order {d n r : ℕ} (hd : 0 < d) (hr : r ≤ n * d) (hr' : n * d ≤ r) (x : Cube[d, n, 1024] → EReal)
    (ht : (Shape.mk 3 ![d, n, 1024]).Transposes [1, 0, 2] ⟨3, ![n, d, 1024]⟩) (hc : Shape.ShapeCasts ⟨3, ![n, d, 1024]⟩ ⟨2, ![r, 1024]⟩) (j : Mat[r, 1024]) :
    shapeCast ⟨2, ![r, 1024]⟩ (transpose ⟨3, ![n, d, 1024]⟩ [1, 0, 2] x ht) hc j = woven hd x r hr (j 0) (j 1) := by
  have hj : (j 0).val < r := (j 0).isLt
  have hq : (j 0).val / d < n := (Nat.div_lt_iff_lt_mul hd).mpr (by omega)
  refine (shapeCast_apply _ hc j (ix3 ⟨(j 0).val / d, hq⟩ ⟨(j 0).val % d, Nat.mod_lt _ hd⟩ (j 1)) ?_).trans ?_
  · rw [Shape.rowMajor_val_two, Shape.rowMajor_val_three]
    show ((j 0).val / d * d + (j 0).val % d) * 1024 + (j 1).val = (j 0).val * 1024 + (j 1).val
    rw [Nat.div_add_mod']
  · refine transpose_apply _ _ ht _ _ fun a => ?_
    match a with
    | ⟨0, _⟩ => rfl
    | ⟨1, _⟩ => rfl
    | ⟨2, _⟩ => rfl

/-! ## What the host computes -/

section Host

variable {r : ℕ} {u : Shape} (hu : 0 < u.numel)
  (h1 : (Shape.mk 2 ![r, 1024]).ReducesTo [1] ⟨1, ![r]⟩) (h0 : (Shape.mk 2 ![r, 1024]).ReducesTo [0] ⟨1, ![1024]⟩)
  (hb : (Shape.mk 1 ![r]).BroadcastsInDim ⟨2, ![r, 1]⟩ ![0]) (hs : (Shape.mk 0 ![]).BroadcastsInDim ⟨2, ![r, 1]⟩ ![])
  (hcol : (Shape.mk 2 ![r, 1]).BroadcastsInDim ⟨2, ![r, 1024]⟩ ![0, 1]) (hrow : (Shape.mk 2 ![1, 1024]).BroadcastsInDim ⟨2, ![r, 1024]⟩ ![0, 1])
  (hw : (Shape.mk 1 ![1024]).BroadcastsInDim ⟨2, ![1, 1024]⟩ ![1])
  (dh x y : FVec Ideal (Shape.mk 2 ![r, 1024]) .f32) (w : FVec Ideal (Shape.mk 2 ![1, 1024]) .f32)

/-- The host's column of row scales. -/
def hostScale : FVec Ideal (Shape.mk 2 ![r, 1]) .f32 :=
  Host.rsqrt (addf (Host.divf (broadcastInDim ⟨2, ![r, 1]⟩ ![0] hb (Host.reduceAdd (mulf x x) (constant u .f32 0x00000000#32) h1 hu))
    (broadcastInDim ⟨2, ![r, 1]⟩ ![] hs (constant ⟨0, ![]⟩ .f32 0x44800000#32))) (broadcastInDim ⟨2, ![r, 1]⟩ ![] hs (constant ⟨0, ![]⟩ .f32 0x358637BD#32)))

theorem hostScale_apply (p : Fin r) (z : Fin 1) : hostScale hu h1 hb hs x (ix2 p z) = rowScale x p := by
  show Ideal.rsqrt (Ideal.div (broadcastInDim ⟨2, ![r, 1]⟩ ![0] hb (Host.reduceAdd (mulf x x) (constant u .f32 0x00000000#32) h1 hu) (ix2 p z)) width + tiny) = _
  rw [host_rowSum]
  rfl

theorem host_unitRows (S : FVec Ideal (Shape.mk 2 ![r, 1]) .f32) (hS : ∀ p, S (ix2 p 0) = rowScale x p) :
    mulf x (broadcastInDim ⟨2, ![r, 1024]⟩ ![0, 1] hcol S) = unitRows x := by
  funext j
  obtain ⟨p, q, rfl⟩ : ∃ p q, j = ix2 p q := ⟨j 0, j 1, eq_ix2 j⟩
  exact congrArg (x (ix2 p q) * ·) ((host_column S hcol p q).trans (hS p))

/-- The host's gradient, off the column `S` of row scales and the column `m` of row sums. -/
theorem host_combine (S m : FVec Ideal (Shape.mk 2 ![r, 1]) .f32) (n : FVec Ideal (Shape.mk 2 ![r, 1024]) .f32) (hS : ∀ p, S (ix2 p 0) = rowScale x p)
    (hn : n = unitRows x) (hm : ∀ p, m (ix2 p 0) = ∑ q : Fin 1024, dh (ix2 p q) * w (ix2 0 q) * n (ix2 p q)) :
    addf y (mulf (broadcastInDim ⟨2, ![r, 1024]⟩ ![0, 1] hcol S) (subf (mulf dh (broadcastInDim ⟨2, ![r, 1024]⟩ ![0, 1] hrow w))
        (mulf n (broadcastInDim ⟨2, ![r, 1024]⟩ ![0, 1] hcol
          (Host.divf m (broadcastInDim ⟨2, ![r, 1]⟩ ![] hs (constant ⟨0, ![]⟩ .f32 0x44800000#32)))))))
      = gradIn dh x y w := by
  subst hn
  funext j
  obtain ⟨p, q, rfl⟩ : ∃ p q, j = ix2 p q := ⟨j 0, j 1, eq_ix2 j⟩
  have eS := (host_column S hcol p q).trans (hS p)
  have ew := host_row w hrow p q
  have em := (host_column (Host.divf m (broadcastInDim ⟨2, ![r, 1]⟩ ![] hs (constant ⟨0, ![]⟩ .f32 0x44800000#32))) hcol p q).trans
    (congrArg (fun e => Ideal.div e width) (hm p))
  exact congrArg (y (ix2 p q) + ·) (congrArg₂ (· * ·) eS (congrArg₂ (· - ·) (congrArg (dh (ix2 p q) * ·) ew) (congrArg (unitRows x (ix2 p q) * ·) em)))

theorem host_gradIn :
    addf y (mulf (broadcastInDim ⟨2, ![r, 1024]⟩ ![0, 1] hcol (hostScale hu h1 hb hs x))
      (subf (mulf dh (broadcastInDim ⟨2, ![r, 1024]⟩ ![0, 1] hrow w))
        (mulf (mulf x (broadcastInDim ⟨2, ![r, 1024]⟩ ![0, 1] hcol (hostScale hu h1 hb hs x)))
          (broadcastInDim ⟨2, ![r, 1024]⟩ ![0, 1] hcol
            (Host.divf (broadcastInDim ⟨2, ![r, 1]⟩ ![0] hb (Host.reduceAdd
                (mulf (mulf dh (broadcastInDim ⟨2, ![r, 1024]⟩ ![0, 1] hrow w))
                  (mulf x (broadcastInDim ⟨2, ![r, 1024]⟩ ![0, 1] hcol (hostScale hu h1 hb hs x)))) (constant u .f32 0x00000000#32) h1 hu))
              (broadcastInDim ⟨2, ![r, 1]⟩ ![] hs (constant ⟨0, ![]⟩ .f32 0x44800000#32)))))))
      = gradIn dh x y w := by
  refine host_combine hs hcol hrow dh x y w (hostScale hu h1 hb hs x) _ _ (fun p => hostScale_apply hu h1 hb hs x p 0)
    (host_unitRows hcol x _ fun p => hostScale_apply hu h1 hb hs x p 0) fun p => ?_
  refine (host_rowSum _ h1 hu hb p 0).trans (Finset.sum_congr rfl fun q _ => ?_)
  exact congrArg (fun e => dh (ix2 p q) * e * _) (host_row w hrow p q)

theorem host_gradW :
    broadcastInDim ⟨2, ![1, 1024]⟩ ![1] hw (Host.reduceAdd
        (mulf dh (mulf x (broadcastInDim ⟨2, ![r, 1024]⟩ ![0, 1] hcol (hostScale hu h1 hb hs x)))) (constant u .f32 0x00000000#32) h0 hu)
      = gradW dh x := by
  rw [host_unitRows hcol x _ fun p => hostScale_apply hu h1 hb hs x p 0]
  funext j
  exact host_columnSum _ h0 hu hw j

theorem host_joined {n4 n16 : ℕ} (h4 : r ≤ n4 * 4) (h4' : n4 * 4 ≤ r) (h16 : r ≤ n16 * 16) (h16' : n16 * 16 ≤ r)
    (x0 x1 : FVec Ideal (Shape.mk 2 ![r, 1024]) .f32) (x2 : FVec Ideal (Shape.mk 3 ![4, n4, 1024]) .f32) (x3 : FVec Ideal (Shape.mk 3 ![16, n16, 1024]) .f32)
    (ht4 : (Shape.mk 3 ![4, n4, 1024]).Transposes [1, 0, 2] ⟨3, ![n4, 4, 1024]⟩) (hc4 : Shape.ShapeCasts ⟨3, ![n4, 4, 1024]⟩ ⟨2, ![r, 1024]⟩)
    (ht16 : (Shape.mk 3 ![16, n16, 1024]).Transposes [1, 0, 2] ⟨3, ![n16, 16, 1024]⟩) (hc16 : Shape.ShapeCasts ⟨3, ![n16, 16, 1024]⟩ ⟨2, ![r, 1024]⟩) :
    addf (addf (addf x0 x1) (shapeCast ⟨2, ![r, 1024]⟩ (transpose ⟨3, ![n4, 4, 1024]⟩ [1, 0, 2] x2 ht4) hc4))
      (shapeCast ⟨2, ![r, 1024]⟩ (transpose ⟨3, ![n16, 16, 1024]⟩ [1, 0, 2] x3 ht16) hc16) = joined h4 h16 x0 x1 x2 x3 := by
  funext j
  refine (show _ = x0 j + x1 j + shapeCast ⟨2, ![r, 1024]⟩ (transpose ⟨3, ![n4, 4, 1024]⟩ [1, 0, 2] x2 ht4) hc4 j
    + shapeCast ⟨2, ![r, 1024]⟩ (transpose ⟨3, ![n16, 16, 1024]⟩ [1, 0, 2] x3 ht16) hc16 j from rfl).trans ?_
  exact congrArg₂ (· + ·) (congrArg (x0 j + x1 j + ·) (host_in_order (by decide) h4 h4' x2 ht4 hc4 j)) (host_in_order (by decide) h16 h16' x3 ht16 hc16 j)

end Host

/-! ## A tile of the rows -/

section Tile

variable {r R : ℕ}

/-- If the rows of a tile are rows of the whole, so are their gradients. -/
theorem gradIn_tile (dh x y : Mat[r, 1024] → EReal) (dH X Y : Mat[R, 1024] → EReal) (w : Mat[1, 1024] → EReal) (p : Fin r) (P : Fin R)
    (e0 : ∀ q, dh (ix2 p q) = dH (ix2 P q)) (e1 : ∀ q, x (ix2 p q) = X (ix2 P q)) (e2 : ∀ q, y (ix2 p q) = Y (ix2 P q)) (q : Fin 1024) :
    gradIn dh x y w (ix2 p q) = gradIn dH X Y w (ix2 P q) := by
  show y (ix2 p q) + rowScale x p * (dh (ix2 p q) * w (ix2 0 q)
      - x (ix2 p q) * rowScale x p * Ideal.div (∑ q : Fin 1024, dh (ix2 p q) * w (ix2 0 q) * (x (ix2 p q) * rowScale x p)) width)
    = Y (ix2 P q) + rowScale X P * (dH (ix2 P q) * w (ix2 0 q)
      - X (ix2 P q) * rowScale X P * Ideal.div (∑ q : Fin 1024, dH (ix2 P q) * w (ix2 0 q) * (X (ix2 P q) * rowScale X P)) width)
  have es : rowScale x p = rowScale X P := by simp only [rowScale, e1]
  simp only [e0, e1, e2, es]

theorem term_tile (dh x : Mat[r, 1024] → EReal) (dH X : Mat[R, 1024] → EReal) (p : Fin r) (P : Fin R)
    (e0 : ∀ q, dh (ix2 p q) = dH (ix2 P q)) (e1 : ∀ q, x (ix2 p q) = X (ix2 P q)) (q : Fin 1024) :
    dh (ix2 p q) * unitRows x (ix2 p q) = dH (ix2 P q) * unitRows X (ix2 P q) := by
  show dh (ix2 p q) * (x (ix2 p q) * rowScale x p) = dH (ix2 P q) * (X (ix2 P q) * rowScale X P)
  have es : rowScale x p = rowScale X P := by simp only [rowScale, e1]
  rw [e0, e1, es]

end Tile

end Cert.Norm
-- ==== Proof.InputGrad.lean ====
/- The gradient of the input: what the kernel's grid computes is the reference's. -/
module

public import proofs.«01_k».proof.Defs
public import proofs.«01_k».proof.Proof.NormLemmas
public import proofs.«01_k».proof.Proof.Gen.NormBwd.Frame
public import proofs.«01_k».proof.Proof.Gen.NormBwdIdeal.Value
public import proofs.«01_k».proof.Proof.Gen.NormBwdRefIdeal.Run

@[expose] public section

set_option maxRecDepth 16384

noncomputable section

namespace Cert.Norm

open Idealize.ShloMosaic hiding ix1 ix2 ix3 eq_ix2
open Idealize.ShloMosaic.TcCoe Idealize.ShloMosaic.ValueIdx Idealize.SL.Sem
open Cert.NormBwdIdeal Cert.NormBwdIdeal.Gen

/-- After the stores of the four subsequences. -/
theorem four_B (c : Dev nD) (arg3 : Memref sig .tc .vmem S4x64x1024 .f32) (harg3 : arg3.IsWhole) (x2 : Vec Ideal S4x64x1024 .f32) (y : S8x256x128.Idx) :
    View.canon (kernelRun0_B.sl.HS0_32 (F := Ideal) c arg3 harg3 x2) y
      = slab (d := 4) (n := 64) (by decide) (by decide) (arg3.view.read (Elt Ideal) (harg3.unread x2)) y := by
  have hk : 0 ≤ place 4 y := Nat.zero_le _
  unfold kernelRun0_B.sl.HS0_32
  iterate 32
    refine slab_step (d := 4) (n := 64) (by decide) (by decide) (arg3.view.read (Elt Ideal) (harg3.unread x2)) y hk rfl rfl rfl rfl fun hk => ?_
  exfalso
  unfold place at hk
  omega

/-- After the stores of the sixteen subsequences. -/
theorem sixteen_B (c : Dev nD) (arg3 : Memref sig .tc .vmem S4x64x1024 .f32) (harg3 : arg3.IsWhole) (arg4 : Memref sig .tc .vmem S16x16x1024 .f32)
    (harg4 : arg4.IsWhole) (x2 : Vec Ideal S4x64x1024 .f32) (x3 : Vec Ideal S16x16x1024 .f32) (y : S8x256x128.Idx) :
    View.canon (kernelRun0_B.sl.HS0_160 (F := Ideal) c arg3 harg3 arg4 harg4 x2 x3) y
      = slab (d := 16) (n := 16) (by decide) (by decide) (arg4.view.read (Elt Ideal) (harg4.unread x3)) y := by
  have hk : 0 ≤ place 16 y := Nat.zero_le _
  unfold kernelRun0_B.sl.HS0_160
  iterate 128
    refine slab_step (d := 16) (n := 16) (by decide) (by decide) (arg4.view.read (Elt Ideal) (harg4.unread x3)) y hk rfl rfl rfl rfl fun hk => ?_
  exfalso
  unfold place at hk
  omega

theorem origin : (![0, 0] : Fin 2 → Nat) = fun _ => 0 := funext fun a => by fin_cases a <;> rfl

/-- A whole block loaded. -/
theorem read_whole {S : Shape} {off : Fin S.rank → ℕ} (h0 : off = fun _ => 0) (arg : Memref sig .tc .vmem S .f32) (harg : arg.IsWhole) (x : Vec Ideal S .f32)
    (inb : ∀ a, off a + S.size a ≤ S.size a) :
    View.readAt (Elt Ideal) arg.view (Rect.unit off S.size inb).toLoadRect (harg.unread x) = x := by
  rw [View.readAt_eq_ld, harg.read_unread, View.ld_unit_zero h0]

section Tile

variable (c : Dev nD) (arg1 : Memref sig .tc .vmem S256x1024 .f32) (harg1 : arg1.IsWhole) (arg2 : Memref sig .tc .vmem S256x1024 .f32) (harg2 : arg2.IsWhole)
  (arg3 : Memref sig .tc .vmem S4x64x1024 .f32) (harg3 : arg3.IsWhole) (arg4 : Memref sig .tc .vmem S16x16x1024 .f32) (harg4 : arg4.IsWhole)
  (arg10 : Memref sig .tc .vmem S8x256x128 .f32)
  (x0 x1 : Vec Ideal S256x1024 .f32) (x2 : Vec Ideal S4x64x1024 .f32) (x3 : Vec Ideal S16x16x1024 .f32)

/-- The branches' gradients of a tile, added up. -/
theorem joined_B : kernelRun0_B.sl.r_47 (F := Ideal) c arg1 harg1 arg2 harg2 arg3 harg3 arg4 harg4 arg10 x0 x1 x2 x3
    = joined (n4 := 64) (n16 := 16) (r := 256) (by decide) (by decide) x0 x1 x2 x3 := by
  funext j
  have e4 := slab_read arg10.view (kernelRun0_B.sl.HS0_32 (F := Ideal) c arg3 harg3 x2) shapeCasts_S1x256x128_S256x128 (d := 4) (n := 64) (by decide)
    (by decide) _ (four_B c arg3 harg3 x2) concatenates_S256x128_S256x128_S256x128_S256x128_S256x128_S256x128_S256x128_S256x128_S256x1024_d1 j
  have e16 := slab_read arg10.view (kernelRun0_B.sl.HS0_160 (F := Ideal) c arg3 harg3 arg4 harg4 x2 x3) shapeCasts_S1x256x128_S256x128 (d := 16) (n := 16)
    (by decide) (by decide) _ (sixteen_B c arg3 harg3 arg4 harg4 x2 x3) concatenates_S256x128_S256x128_S256x128_S256x128_S256x128_S256x128_S256x128_S256x128_S256x1024_d1 j
  rw [harg3.read_unread] at e4
  rw [harg4.read_unread] at e16
  have e0 := read_whole origin arg1 harg1 x0 inb_S256x1024_S256x1024_0_0
  have e1 := read_whole origin arg2 harg2 x1 inb_S256x1024_S256x1024_0_0
  have h10 : kernelRun0_B.sl.r_10 (F := Ideal) c arg1 harg1 arg2 harg2 arg3 harg3 arg10 x0 x1 x2 j
      = x0 j + x1 j + woven (d := 4) (by decide) x2 256 (by decide) (j 0) (j 1) := by
    refine Eq.trans ?_ (congrArg₂ (· + ·) (congrArg₂ (· + ·) (congrFun e0 j) (congrFun e1 j)) e4)
    rfl
  refine Eq.trans ?_ (congrArg₂ (· + ·) h10 e16)
  rfl

end Tile

/-! ## What a tile computes -/

theorem tile_scale (x : FVec Ideal S256x1024 .f32) (p : Fin 256) : k0_pay211 (F := Ideal) x (ix2 p 0) = rowScale x p := by
  refine congrArg (fun e => Ideal.rsqrt (Ideal.div e width + tiny)) ?_
  exact device_rowSum (mulf x x) _ reduces_S256x1024_S256 (.inl rfl) rfl shapeCasts_S256_S256x1 p 0

theorem tile_unitRows (x : FVec Ideal S256x1024 .f32) : k0_pay212 (F := Ideal) x = unitRows x := by
  funext j
  obtain ⟨p, q, rfl⟩ : ∃ p q, j = ix2 p q := ⟨j 0, j 1, eq_ix2 j⟩
  exact congrArg (x (ix2 p q) * ·) ((device_column (k0_pay211 (F := Ideal) x) broadcasts_S256x1_S256x1024 p q).trans (tile_scale x p))

theorem tile_gradIn (dh x y : FVec Ideal S256x1024 .f32) (w : FVec Ideal S1x1024 .f32) :
    k0_pay1 (F := Ideal) (k0_pay211 x) (k0_pay212 x) y (mulf dh (broadcastTo S256x1024 w broadcasts_S1x1024_S256x1024))
        (shapeCast S256x1 (multiReduction .add [1] S256 (mulf (mulf dh (broadcastTo S256x1024 w broadcasts_S1x1024_S256x1024)) (k0_pay212 x))
          0x00000000#32 reduces_S256x1024_S256 (.inl rfl) rfl) shapeCasts_S256_S256x1)
      = gradIn dh x y w := by
  rw [tile_unitRows]
  funext j
  obtain ⟨p, q, rfl⟩ : ∃ p q, j = ix2 p q := ⟨j 0, j 1, eq_ix2 j⟩
  have eS := (device_column (k0_pay211 (F := Ideal) x) broadcasts_S256x1_S256x1024 p q).trans (tile_scale x p)
  have ew := fun q => device_row w broadcasts_S1x1024_S256x1024 p q
  have em := (device_rowSum (mulf (mulf dh (broadcastTo S256x1024 w broadcasts_S1x1024_S256x1024)) (unitRows x)) 0x00000000#32
    reduces_S256x1024_S256 (.inl rfl) rfl shapeCasts_S256_S256x1 p 0).trans
    (Finset.sum_congr rfl fun q _ => congrArg (fun e => dh (ix2 p q) * e * unitRows x (ix2 p q)) (ew q))
  have ed := (device_column (divf (shapeCast S256x1 (multiReduction .add [1] S256 (mulf (mulf dh (broadcastTo S256x1024 w broadcasts_S1x1024_S256x1024))
    (unitRows x)) 0x00000000#32 reduces_S256x1024_S256 (.inl rfl) rfl) shapeCasts_S256_S256x1) (broadcast S256x1 (Scalar.ofBits .f32 0x44800000#32)))
    broadcasts_S256x1_S256x1024 p q).trans (congrArg (fun e => Ideal.div e width) em)
  exact congrArg (y (ix2 p q) + ·) (congrArg₂ (· * ·) eS (congrArg₂ (· - ·) (congrArg (dh (ix2 p q) * ·) (ew q)) (congrArg (unitRows x (ix2 p q) * ·) ed)))

theorem tile_gradW (dh x : FVec Ideal S256x1024 .f32) (acc : FVec Ideal S1x1024 .f32) :
    k0_pay3 (F := Ideal) dh (k0_pay212 x) acc = fun j => acc j + gradW dh x j := by
  rw [tile_unitRows]
  funext j
  exact congrArg₂ (· + ·) (congrFun (shapeCast_self acc shapeCasts_S1x1024_S1x1024) j)
    (device_columnSum (mulf dh (unitRows x)) 0x00000000#32 reduces_S256x1024_S1024 (.inl rfl) rfl shapeCasts_S1024_S1x1024 j)

/-! ## What the grid's points leave in the two outputs -/

section Outputs

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S4x64x1024 .f32) (harg3 : arg3.IsWhole) (arg4 : Memref sig .tc .vmem S16x16x1024 .f32) (harg4 : arg4.IsWhole)
  (arg5 : Memref sig .tc .vmem S256x1024 .f32) (harg5 : arg5.IsWhole) (arg6 : Memref sig .tc .vmem S256x1024 .f32) (harg6 : arg6.IsWhole)
  (arg7 : Memref sig .tc .vmem S1x1024 .f32) (harg7 : arg7.IsWhole) (arg8 : Memref sig .tc .vmem S256x1024 .f32) (harg8 : arg8.IsWhole)
  (arg9 : Memref sig .tc .vmem S1x1024 .f32) (harg9 : arg9.IsWhole) (arg10 : Memref sig .tc .vmem S8x256x128 .f32) (harg10 : arg10.IsWhole)
  (x0 x1 : Vec Ideal S256x1024 .f32) (x2 : Vec Ideal S4x64x1024 .f32) (x3 : Vec Ideal S16x16x1024 .f32) (x4 x5 : Vec Ideal S256x1024 .f32)
  (x6 xo : Vec Ideal S1x1024 .f32)

/-- The four branches' gradients of a tile added up. -/
abbrev tileSum : Vec Ideal S256x1024 .f32 := joined (n4 := 64) (n16 := 16) (r := 256) (by decide) (by decide) x0 x1 x2 x3

/-- The weighted gradient, and the sums of its rows against the scaled rows, that the combination of a tile takes. -/
def weighted (dh : FVec Ideal S256x1024 .f32) (w : FVec Ideal S1x1024 .f32) : FVec Ideal S256x1024 .f32 :=
  mulf dh (broadcastTo S256x1024 w broadcasts_S1x1024_S256x1024)

def against (dh x : FVec Ideal S256x1024 .f32) (w : FVec Ideal S1x1024 .f32) : FVec Ideal S256x1 .f32 :=
  shapeCast S256x1 (multiReduction .add [1] S256 (mulf (weighted dh w) (k0_pay212 x)) 0x00000000#32 reduces_S256x1024_S256 (.inl rfl) rfl)
    shapeCasts_S256_S256x1

theorem scale_B : kernelRun0_B.sl.r_48 (F := Ideal) c arg5 harg5 x4 = k0_pay211 x4 :=
  congrArg k0_pay211 (read_whole origin arg5 harg5 x4 inb_S256x1024_S256x1024_0_0)

theorem scaled_B : kernelRun0_B.sl.r_49 (F := Ideal) c arg5 harg5 x4 = k0_pay212 x4 :=
  congrArg k0_pay212 (read_whole origin arg5 harg5 x4 inb_S256x1024_S256x1024_0_0)

theorem added_B : kernelRun0_B.sl.r_50 (F := Ideal) c arg6 harg6 x5 = x5 :=
  read_whole origin arg6 harg6 x5 inb_S256x1024_S256x1024_0_0

theorem weighted_B : kernelRun0_B.sl.r_51 (F := Ideal) c arg1 harg1 arg2 harg2 arg3 harg3 arg4 harg4 arg7 harg7 arg10 x0 x1 x2 x3 x6
    = weighted (tileSum x0 x1 x2 x3) x6 :=
  congrArg₂ weighted (joined_B c arg1 harg1 arg2 harg2 arg3 harg3 arg4 harg4 arg10 x0 x1 x2 x3)
    (read_whole origin arg7 harg7 x6 inb_S1x1024_S1x1024_0_0)

theorem against_B : kernelRun0_B.sl.r_52 (F := Ideal) c arg1 harg1 arg2 harg2 arg3 harg3 arg4 harg4 arg5 harg5 arg7 harg7 arg10 x0 x1 x2 x3 x4 x6
    = against (tileSum x0 x1 x2 x3) x4 x6 := by
  refine Eq.trans ?_ (congr (congrArg₂ against (joined_B c arg1 harg1 arg2 harg2 arg3 harg3 arg4 harg4 arg10 x0 x1 x2 x3)
    (read_whole origin arg5 harg5 x4 inb_S256x1024_S256x1024_0_0)) (read_whole origin arg7 harg7 x6 inb_S1x1024_S1x1024_0_0))
  rfl

theorem out_B_7 (hc : ¬cond0_0 i) :
    out0_B_7 (F := Ideal) c i arg1 harg1 arg2 harg2 arg3 harg3 arg4 harg4 arg5 harg5 arg6 harg6 arg7 harg7 arg8 harg8 arg9 harg9 arg10 harg10 hc
      x0 x1 x2 x3 x4 x5 x6 xo = gradIn (tileSum x0 x1 x2 x3) x4 x5 x6 := by
  unfold out0_B_7
  rw [View.read_writes_junk_eq_canon]
  unfold kernelRun0_B
  dsimp only
  rw [View.canon_unit_zero origin, scale_B, scaled_B, added_B, weighted_B, against_B]
  exact tile_gradIn (tileSum x0 x1 x2 x3) x4 x5 x6

theorem out_B_8 (hc : ¬cond0_0 i) :
    out0_B_8 (F := Ideal) c i arg1 harg1 arg2 harg2 arg3 harg3 arg4 harg4 arg5 harg5 arg6 harg6 arg7 harg7 arg8 harg8 arg9 harg9 arg10 harg10 hc
      x0 x1 x2 x3 x4 x5 x6 xo = fun j => xo j + gradW (tileSum x0 x1 x2 x3) x4 j := by
  unfold out0_B_8
  rw [View.read_writes_junk_eq_canon]
  unfold kernelRun0_B
  dsimp only
  rw [View.canon_unit_zero origin, scaled_B, joined_B, read_whole origin arg9 harg9 xo]
  exact tile_gradW (tileSum x0 x1 x2 x3) x4 xo

/-! At the first point the second output is cleared beforehand; the rest is the same. -/

theorem out_A_7 (hc : cond0_0 i) :
    out0_A_7 (F := Ideal) c i arg1 harg1 arg2 harg2 arg3 harg3 arg4 harg4 arg5 harg5 arg6 harg6 arg7 harg7 arg8 harg8 arg9 harg9 arg10 harg10 hc
      x0 x1 x2 x3 x4 x5 x6 = gradIn (tileSum x0 x1 x2 x3) x4 x5 x6 := by
  unfold out0_A_7
  rw [View.read_writes_junk_eq_canon]
  unfold kernelRun0_A
  dsimp only
  rw [View.canon_unit_zero origin]
  rw [show kernelRun0_A.sl.r_48 (F := Ideal) c arg5 harg5 x4 = _ from scale_B c arg5 harg5 x4,
    show kernelRun0_A.sl.r_49 (F := Ideal) c arg5 harg5 x4 = _ from scaled_B c arg5 harg5 x4,
    show kernelRun0_A.sl.r_50 (F := Ideal) c arg6 harg6 x5 = _ from added_B c arg6 harg6 x5,
    show kernelRun0_A.sl.r_51 (F := Ideal) c arg1 harg1 arg2 harg2 arg3 harg3 arg4 harg4 arg7 harg7 arg10 x0 x1 x2 x3 x6 = _
      from weighted_B c arg1 harg1 arg2 harg2 arg3 harg3 arg4 harg4 arg7 harg7 arg10 x0 x1 x2 x3 x6,
    show kernelRun0_A.sl.r_52 (F := Ideal) c arg1 harg1 arg2 harg2 arg3 harg3 arg4 harg4 arg5 harg5 arg7 harg7 arg10 x0 x1 x2 x3 x4 x6 = _
      from against_B c arg1 harg1 arg2 harg2 arg3 harg3 arg4 harg4 arg5 harg5 arg7 harg7 arg10 x0 x1 x2 x3 x4 x6]
  exact tile_gradIn (tileSum x0 x1 x2 x3) x4 x5 x6

theorem cleared : kernelRun0_A.sl.v749 (F := Ideal) c arg9 = k0_pay2 (F := Ideal) := by
  unfold kernelRun0_A.sl.v749 kernelRun0_A.sl.H8_1
  exact View.readCov_unit_zero (Val := Elt Ideal) arg9.view origin inb_S1x1024_S1x1024_0_0 (k0_pay2 (F := Ideal))

theorem out_A_8 (hc : cond0_0 i) :
    out0_A_8 (F := Ideal) c i arg1 harg1 arg2 harg2 arg3 harg3 arg4 harg4 arg5 harg5 arg6 harg6 arg7 harg7 arg8 harg8 arg9 harg9 arg10 harg10 hc
      x0 x1 x2 x3 x4 x5 x6 = gradW (tileSum x0 x1 x2 x3) x4 := by
  unfold out0_A_8
  rw [View.read_writes_junk_eq_canon]
  unfold kernelRun0_A
  dsimp only
  rw [View.canon_cons_unit_zero origin,
    show kernelRun0_A.sl.r_49 (F := Ideal) c arg5 harg5 x4 = _ from scaled_B c arg5 harg5 x4,
    show kernelRun0_A.sl.r_47 (F := Ideal) c arg1 harg1 arg2 harg2 arg3 harg3 arg4 harg4 arg10 x0 x1 x2 x3 = _
      from joined_B c arg1 harg1 arg2 harg2 arg3 harg3 arg4 harg4 arg10 x0 x1 x2 x3, cleared]
  refine (tile_gradW (tileSum x0 x1 x2 x3) x4 k0_pay2).trans (funext fun j => ?_)
  exact (congrArg (· + gradW (tileSum x0 x1 x2 x3) x4 j) Ideal.ofBits_zero_f32).trans (zero_add _)

end Outputs

/-! ## The blocks of the arguments -/

section Grid

open Cert.NormBwdIdeal.Value

variable (m : (ℓ : Loc nD τ sig) → Buf (Elt Ideal) ℓ) (c : Dev nD)

/-- Where the windows of the arguments stand at a grid point. -/
theorem stand : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = 0 ∧ win0_6.index t (1 : Fin 2) = 0) ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

theorem few (t : Fin cfg0.N) : t.val < 16 := t.isLt

/-- Row `p` of tile `t` among all the rows. -/
def row (t : Fin cfg0.N) (p : Fin 256) : Fin 4096 := ⟨t.val * 256 + p.val, by have := few t; omega⟩

theorem block_0 (t : Fin cfg0.N) (p : Fin 256) (q : Fin 1024) : iblk m c 0 t (ix2 p q) = V m c main_arg0 (ix2 (row t p) q) := by
  obtain ⟨⟨e0, e1⟩, -⟩ := stand t
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * q.val = q.val; omega

theorem block_1 (t : Fin cfg0.N) (p : Fin 256) (q : Fin 1024) : iblk m c 1 t (ix2 p q) = V m c main_arg1 (ix2 (row t p) q) := by
  obtain ⟨-, ⟨e0, e1⟩, -⟩ := stand t
  refine congrArg (V m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * q.val = q.val; omega

theorem block_4 (t : Fin cfg0.N) (p : Fin 256) (q : Fin 1024) : iblk m c 4 t (ix2 p q) = V m c main_arg4 (ix2 (row t p) q) := by
  obtain ⟨-, -, -, -, ⟨e0, e1⟩, -⟩ := stand t
  refine congrArg (V m c main_arg4) (funext fun a => Fin.ext ?_)
  match a with
  | ⟨0, _⟩ => show win0_4.index t (0 : Fin 2) * 256 + 1 * p.val = t.val * 256 + p.val; omega
  | ⟨1, _⟩ => show win0_4.index t (1 : Fin 2) * 1024 + 1 * q.val = q.val; omega

theorem block_5 (t : Fin cfg0.N) (p : Fin 256) (q : Fin 1024) : iblk m c 5 t (ix2 p q) = V m c main_arg5 (ix2 (row t p) q) := by
  obtain ⟨-, -, -, -, -, ⟨e0, e1⟩, -⟩ := stand t
  refine congrArg (V m c main_arg5) (funext fun a => Fin.ext ?_)
  match a with
  | ⟨0, _⟩ => show win0_5.index t (0 : Fin 2) * 256 + 1 * p.val = t.val * 256 + p.val; omega
  | ⟨1, _⟩ => show win0_5.index t (1 : Fin 2) * 1024 + 1 * q.val = q.val; omega

theorem block_6 (t : Fin cfg0.N) : (iblk m c 6 t : S1x1024.Idx → EReal) = V m c main_arg6 := by
  obtain ⟨-, -, -, -, -, -, ⟨e0, e1⟩, -⟩ := stand t
  funext j
  refine congrArg (V m c main_arg6) (funext fun a => Fin.ext ?_)
  match a with
  | ⟨0, _⟩ => show win0_6.index t (0 : Fin 2) * 1 + 1 * (j 0).val = (j 0).val; omega
  | ⟨1, _⟩ => show win0_6.index t (1 : Fin 2) * 1024 + 1 * (j 1).val = (j 1).val; omega

theorem block_2 (t : Fin cfg0.N) (p : Fin 256) (q : Fin 1024) :
    woven (d := 4) (n := 64) (by decide) (iblk m c 2 t) 256 (by decide) p q
      = woven (d := 4) (n := 1024) (by decide) (V m c main_v0) 4096 (by decide) (row t p) q := by
  obtain ⟨-, -, ⟨e0, e1, e2⟩, -⟩ := stand t
  refine congrArg (V m c main_v0) (funext fun a => Fin.ext ?_)
  match a with
  | ⟨0, _⟩ => show win0_2.index t (0 : Fin 3) * 4 + 1 * (p.val % 4) = (t.val * 256 + p.val) % 4; omega
  | ⟨1, _⟩ => show win0_2.index t (1 : Fin 3) * 64 + 1 * (p.val / 4) = (t.val * 256 + p.val) / 4; omega
  | ⟨2, _⟩ => show win0_2.index t (2 : Fin 3) * 1024 + 1 * q.val = q.val; omega

theorem block_3 (t : Fin cfg0.N) (p : Fin 256) (q : Fin 1024) :
    woven (d := 16) (n := 16) (by decide) (iblk m c 3 t) 256 (by decide) p q
      = woven (d := 16) (n := 256) (by decide) (V m c main_v1) 4096 (by decide) (row t p) q := by
  obtain ⟨-, -, -, ⟨e0, e1, e2⟩, -⟩ := stand t
  refine congrArg (V m c main_v1) (funext fun a => Fin.ext ?_)
  match a with
  | ⟨0, _⟩ => show win0_3.index t (0 : Fin 3) * 16 + 1 * (p.val % 16) = (t.val * 256 + p.val) % 16; omega
  | ⟨1, _⟩ => show win0_3.index t (1 : Fin 3) * 16 + 1 * (p.val / 16) = (t.val * 256 + p.val) / 16; omega
  | ⟨2, _⟩ => show win0_3.index t (2 : Fin 3) * 1024 + 1 * q.val = q.val; omega

/-! ## The two results -/

/-- The four branches' gradients of all the rows added up. -/
abbrev allSum : S4096x1024.Idx → EReal :=
  joined (n4 := 1024) (n16 := 256) (r := 4096) (by decide) (by decide) (V m c main_arg0) (V m c main_arg1) (V m c main_v0) (V m c main_v1)

theorem sum_tile (t : Fin cfg0.N) (p : Fin 256) (q : Fin 1024) :
    tileSum (iblk m c 0 t) (iblk m c 1 t) (iblk m c 2 t) (iblk m c 3 t) (ix2 p q) = allSum m c (ix2 (row t p) q) :=
  congrArg₂ (· + ·) (congrArg₂ (· + ·) (congrArg₂ (· + ·) (block_0 m c t p q) (block_1 m c t p q)) (block_2 m c t p q)) (block_3 m c t p q)

/-- What every grid point leaves in the first output. -/
theorem left_7 (t : Fin cfg0.N) : (outsAt0 m c t.val t.isLt).1
    = gradIn (tileSum (iblk m c 0 t) (iblk m c 1 t) (iblk m c 2 t) (iblk m c 3 t)) (iblk m c 4 t) (iblk m c 5 t) (iblk m c 6 t) := by
  by_cases h : t.val % 16 = 0
  · rw [outsAt0_A m c t h, out_A_7]
  · rw [outsAt0_B m c t h, out_B_7]

theorem flushed_7 (t : Fin cfg0.N) : (dats m 0 c).flushed 7 t
    = ((cfg0.win 7).blk t).view.read (Elt Ideal) (gradIn (allSum m c) (V m c main_arg4) (V m c main_arg5) (V m c main_arg6)) := by
  rw [flushed7, left_7, block_6]
  obtain ⟨-, -, -, -, -, -, -, ⟨e0, e1⟩, -⟩ := stand t
  funext j
  obtain ⟨p, q, rfl⟩ : ∃ p q, j = ix2 p q := ⟨j 0, j 1, eq_ix2 j⟩
  refine (gradIn_tile (r := 256) (R := 4096) _ _ _ (allSum m c) (V m c main_arg4) (V m c main_arg5) (V m c main_arg6) p (row t p)
    (sum_tile m c t p) (block_4 m c t p) (block_5 m c t p) q).trans ?_
  refine congrArg (gradIn (allSum m c) (V m c main_arg4) (V m c main_arg5) (V m c main_arg6)) (funext fun a => Fin.ext ?_)
  match a with
  | ⟨0, _⟩ => show t.val * 256 + p.val = win0_7.index t (0 : Fin 2) * 256 + 1 * p.val; omega
  | ⟨1, _⟩ => show q.val = win0_7.index t (1 : Fin 2) * 1024 + 1 * q.val; omega

theorem covered_7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ : ∃ t : Fin cfg0.N, t.val = (i 0).val / 256 := ⟨⟨(i 0).val / 256, show _ < 16 by omega⟩, rfl⟩
  refine ⟨t, flush0_7 t, ?_⟩
  obtain ⟨-, -, -, -, -, -, -, ⟨e0, e1⟩, -⟩ := stand t
  show i ∈ ((View.whole main_v2_0).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    rw [e0]
    omega
  | ⟨1, _⟩ =>
    show win0_7.index t (1 : Fin 2) * 1024 ≤ (i 1).val ∧ (i 1).val < win0_7.index t (1 : Fin 2) * 1024 + 1024
    rw [e1]
    omega

theorem result_7 : (dats m 0 c).arrAt 7 cfg0.N = gradIn (allSum m c) (V m c main_arg4) (V m c main_arg5) (V m c main_arg6) :=
  (dats m 0 c).arrAt_eq_of_cover 7 _ (fun t _ => flushed_7 m c t) covered_7

/-- One row's term in the gradient of the norm's weights. -/
abbrev term (q : Fin 1024) (P : Fin 4096) : EReal := allSum m c (ix2 P q) * unitRows (V m c main_arg4) (ix2 P q)

theorem gradW_tile (t : Fin cfg0.N) (j : S1x1024.Idx) :
    gradW (tileSum (iblk m c 0 t) (iblk m c 1 t) (iblk m c 2 t) (iblk m c 3 t)) (iblk m c 4 t) j = ∑ p : Fin 256, term m c (j 1) (row t p) :=
  Finset.sum_congr rfl fun p _ => term_tile (r := 256) (R := 4096) _ _ (allSum m c) (V m c main_arg4) p (row t p)
    (sum_tile m c t p) (block_4 m c t p) (j 1)

/-- After `n` further points the second output holds the sums over the tiles so far. -/
theorem left_8 (j : S1x1024.Idx) : ∀ (n : ℕ) (hn : n < cfg0.N),
    (outsAt0 m c n hn).2 j = ∑ k : Fin (n + 1), ∑ p : Fin 256, term m c (j 1) (row ⟨k.val, lt_of_lt_of_le k.isLt hn⟩ p)
  | 0, hn => by
    rw [Fin.sum_univ_one]
    refine Eq.trans ?_ (gradW_tile m c ⟨0, hn⟩ j)
    refine congrFun ?_ j
    refine (congrArg Prod.snd (outsAt0_A m c ⟨0, hn⟩ rfl)).trans ?_
    rw [out_A_8]
  | n + 1, hn => by
    have h16 : n + 1 < 16 := hn
    rw [Fin.sum_univ_castSucc]
    refine Eq.trans ?_ (congrArg₂ (· + ·) (left_8 j n (Nat.lt_of_succ_lt hn)) (gradW_tile m c ⟨n + 1, hn⟩ j))
    refine (congrFun (congrArg Prod.snd (outsAt0_B m c ⟨n + 1, hn⟩ (by dsimp only; omega))) j).trans ?_
    rw [out_B_8]
    rfl

/-- The rows, tile by tile. -/
theorem sum_rows (f : Fin 4096 → EReal) : ∑ k : Fin 16, ∑ p : Fin 256, f (row k p) = ∑ P : Fin 4096, f P := by
  rw [← Fintype.sum_prod_type' (f := fun (k : Fin 16) (p : Fin 256) => f (row k p))]
  refine Fintype.sum_equiv (finProdFinEquiv (m := 16) (n := 256)) _ _ fun kp => congrArg f (Fin.ext ?_)
  show kp.1.val * 256 + kp.2.val = kp.2.val + 256 * kp.1.val
  omega

theorem flushed_8 (t : Fin cfg0.N) (hf : (cfg0.win 8).flush t = true) : (dats m 0 c).flushed 8 t
    = ((cfg0.win 8).blk t).view.read (Elt Ideal) (gradW (allSum m c) (V m c main_arg4)) := by
  have ht : t.val = 15 := by have := (flush0_8 t).mp hf; have := few t; omega
  obtain ⟨-, -, -, -, -, -, -, -, ⟨e0, e1⟩⟩ := stand t
  rw [flushed8]
  funext j
  have hw : ∀ (n : ℕ) (hn : n < cfg0.N), n = 15 → (outsAt0 m c n hn).2 j = gradW (allSum m c) (V m c main_arg4) j := by
    rintro n hn rfl
    exact (left_8 m c j 15 hn).trans (sum_rows (term m c (j 1)))
  refine (hw t.val t.isLt ht).trans ?_
  refine congrArg (gradW (allSum m c) (V m c main_arg4)) (funext fun a => Fin.ext ?_)
  match a with
  | ⟨0, _⟩ => show (j 0).val = win0_8.index t (0 : Fin 2) * 1 + 1 * (j 0).val; omega
  | ⟨1, _⟩ => show (j 1).val = win0_8.index t (1 : Fin 2) * 1024 + 1 * (j 1).val; omega

theorem covered_8 (i : S1x1024.Idx) : ∃ t : Fin cfg0.N, (cfg0.win 8).flush t = true ∧ i ∈ ((cfg0.win 8).blk t).view.set := by
  have hi0 : (i 0).val < 1 := (i 0).isLt
  have hi1 : (i 1).val < 1024 := (i 1).isLt
  obtain ⟨t, ht⟩ : ∃ t : Fin cfg0.N, t.val = 15 := ⟨⟨15, show 15 < 16 by decide⟩, rfl⟩
  refine ⟨t, (flush0_8 t).mpr (by omega), ?_⟩
  obtain ⟨-, -, -, -, -, -, -, -, ⟨e0, e1⟩⟩ := stand t
  show i ∈ ((View.whole main_v2_1).slice (win0_8.rect t)).set
  rw [View.set_slice_whole, Rect.mem_set_unit]
  intro a
  match a with
  | ⟨0, _⟩ =>
    show win0_8.index t (0 : Fin 2) * 1 ≤ (i 0).val ∧ (i 0).val < win0_8.index t (0 : Fin 2) * 1 + 1
    rw [e0]
    omega
  | ⟨1, _⟩ =>
    show win0_8.index t (1 : Fin 2) * 1024 ≤ (i 1).val ∧ (i 1).val < win0_8.index t (1 : Fin 2) * 1024 + 1024
    rw [e1]
    omega

theorem result_8 : (dats m 0 c).arrAt 8 cfg0.N = gradW (allSum m c) (V m c main_arg4) :=
  (dats m 0 c).arrAt_eq_of_cover 8 _ (fun t hf => flushed_8 m c t hf) covered_8

/-- The two arguments that the host reshapes first. -/
theorem reshaped_2 : V m c main_v0 = shapeCast S4x1024x1024 (m ((c : Thread nD τ).loc main_arg2)) shapeCasts_S4096x1024_S4x1024x1024 := by
  show StableHlo.after hostOps0 (fun b => m (c, b)) main_v0 = _
  after_results_simp <;> rfl

theorem reshaped_3 : V m c main_v1 = shapeCast S16x256x1024 (m ((c : Thread nD τ).loc main_arg3)) shapeCasts_S4096x1024_S16x256x1024 := by
  show StableHlo.after hostOps0 (fun b => m (c, b)) main_v1 = _
  after_results_simp <;> rfl

theorem allSum_eq : allSum m c = joined (n4 := 1024) (n16 := 256) (r := 4096) (by decide) (by decide)
    (m ((c : Thread nD τ).loc main_arg0)) (m ((c : Thread nD τ).loc main_arg1))
    (shapeCast S4x1024x1024 (m ((c : Thread nD τ).loc main_arg2)) shapeCasts_S4096x1024_S4x1024x1024)
    (shapeCast S16x256x1024 (m ((c : Thread nD τ).loc main_arg3)) shapeCasts_S4096x1024_S16x256x1024) := by
  unfold allSum
  rw [V_main_arg0, V_main_arg1, reshaped_2, reshaped_3]

end Grid

/-- The reference's sum of the four branches' gradients. -/
theorem host_sum (x0 x1 : FVec Ideal S4096x1024 .f32) (x2 : FVec Ideal S4x1024x1024 .f32) (x3 : FVec Ideal S16x256x1024 .f32) :
    addf (addf (addf x0 x1) (shapeCast S4096x1024 (transpose Cert.NormBwdRefIdeal.S1024x4x1024 [1, 0, 2] x2
        Cert.NormBwdRefIdeal.Gen.transposes_S4x1024x1024_S1024x4x1024_1_0_2) Cert.NormBwdRefIdeal.Gen.shapeCasts_S1024x4x1024_S4096x1024))
      (shapeCast S4096x1024 (transpose Cert.NormBwdRefIdeal.S256x16x1024 [1, 0, 2] x3
        Cert.NormBwdRefIdeal.Gen.transposes_S16x256x1024_S256x16x1024_1_0_2) Cert.NormBwdRefIdeal.Gen.shapeCasts_S256x16x1024_S4096x1024)
      = joined (n4 := 1024) (n16 := 256) (r := 4096) (by decide) (by decide) x0 x1 x2 x3 :=
  host_joined (by decide) (by decide) (by decide) (by decide) x0 x1 x2 x3 _ _ _ _

/-- On every device both results are the reference's. -/
theorem input_grad : Cert.algebraic_NormBwdIdeal_NormBwdRefIdeal := fun m ρ m' ρ' _ hm =>
  ⟨_, _, Cert.NormBwdIdeal.Value.run_blocks m ρ,
    (θ_run Cert.NormBwdRefIdeal.defs _ _).mono (fun r h c => by
      obtain ⟨h31, h34, hk⟩ := h c
      obtain ⟨a0, a1, a2, a3, a4, a5, a6⟩ := hm c
      refine ⟨h31.trans ?_, h34.trans ?_, hk⟩
      · rw [result_7, allSum_eq, V_main_arg4, V_main_arg5, V_main_arg6, a0, a1, a2, a3, a4, a5, a6]
        refine Eq.trans ?_ (congrArg (fun d => gradIn d _ _ _) (host_sum _ _ _ _))
        exact host_gradIn Cert.NormBwdRefIdeal.Gen.h_S_ Cert.NormBwdRefIdeal.Gen.reducesTo_S4096x1024_S4096_d1
          Cert.NormBwdRefIdeal.Gen.bcast_S4096_S4096x1_0 Cert.NormBwdRefIdeal.Gen.bcast_S_S4096x1
          Cert.NormBwdRefIdeal.Gen.bcast_S4096x1_S4096x1024_0_1 Cert.NormBwdRefIdeal.Gen.bcast_S1x1024_S4096x1024_0_1 _ _ _ _
      · rw [result_8, allSum_eq, V_main_arg4, a0, a1, a2, a3, a4]
        refine Eq.trans ?_ (congrArg (fun d => gradW d _) (host_sum _ _ _ _))
        exact host_gradW Cert.NormBwdRefIdeal.Gen.h_S_ Cert.NormBwdRefIdeal.Gen.reducesTo_S4096x1024_S4096_d1
          Cert.NormBwdRefIdeal.Gen.reducesTo_S4096x1024_S1024_d0 Cert.NormBwdRefIdeal.Gen.bcast_S4096_S4096x1_0
          Cert.NormBwdRefIdeal.Gen.bcast_S_S4096x1 Cert.NormBwdRefIdeal.Gen.bcast_S4096x1_S4096x1024_0_1
          Cert.NormBwdRefIdeal.Gen.bcast_S1024_S1x1024_1 _ _) (Cert.NormBwdRefIdeal.Value.run m' ρ')⟩

theorem frames_input_grad : Cert.quiescent_NormBwd ∧ Cert.quiescent_NormBwdIdeal ∧ Cert.quiescent_NormBwdRefIdeal :=
  ⟨fun m ρ _ => Cert.NormBwd.Gen.frame m ρ, fun m ρ _ => Cert.NormBwdIdeal.Gen.frame (F := Ideal) m ρ, fun m ρ _ =>
    (θ_run Cert.NormBwdRefIdeal.defs _ _).mono (fun r h => ⟨fun c => (h c).2.2, sem_eq_zero_of_no_sems (by decide) r.2⟩)
      (Cert.NormBwdRefIdeal.Value.run (F := Ideal) m ρ)⟩

end Cert.Norm
-- ==== Proof.InputSumRef.lean ====
/- The reference's sum of the gradient of w_in over the devices: what its operations leave. -/
module

public import proofs.«01_k».proof.Defs
public import proofs.«01_k».proof.Proof.Gen.SumInRefIdeal
public import Idealize.ShloMosaic.Lib.StableHlo.Run
public import Idealize.ShloMosaic.Lib.StableHlo.RunClose

@[expose] public section

noncomputable section

namespace Cert.InputSum

open Cert.SumInRefIdeal Cert.SumInRefIdeal.Gen
open Idealize.ShloMosaic Idealize.ShloMosaic.TcCoe Idealize.SL.Sem Idealize.ShloMosaic.StableHlo

variable {F : FTy → Type} [FloatOps F]

/-- The operations of the reference, in their order. -/
abbrev refOps : List (HloOp τ sig (Elt F)) :=
  [unary main_arg0 main_v0 ((extractStridedSlice S1 ![1] · slices_S2_S1_1) : (⟨S2, .i32⟩ : BufTy).Contents (Elt F) → (⟨S1, .i32⟩ : BufTy).Contents (Elt F)),
    reshape main_v0 main_v1 (rfl : (.i32 : EltTy) = .i32) shapeCasts_S1_S_,
    unary main_arg0 main_v2 ((extractStridedSlice S1 ![0] · slices_S2_S1_0) : (⟨S2, .i32⟩ : BufTy).Contents (Elt F) → (⟨S1, .i32⟩ : BufTy).Contents (Elt F)),
    reshape main_v2 main_v3 (rfl : (.i32 : EltTy) = .i32) shapeCasts_S1_S_,
    nullary main_c (constantI S_ 32 0#32),
    nullary main_c_0 (constantI S_ 32 0#32),
    unaryIndexed main_arg1 ![main_v1, main_v3, main_c, main_c_0] ⟨S_, .i32⟩ main_v4 ((fun x i => Host.dynamicSlice S1x1x1088x1024 x (fun k => (i k (Shape.Idx.first h_S_)).toInt) sliceFits_S4x2x1088x1024_S1x1x1088x1024) : (⟨S4x2x1088x1024, .bf16⟩ : BufTy).Contents (Elt F) → (Fin 4 → (⟨S_, .i32⟩ : BufTy).Contents (Elt F)) → (⟨S1x1x1088x1024, .bf16⟩ : BufTy).Contents (Elt F)),
    unary main_arg0 main_v5 ((extractStridedSlice S1 ![1] · slices_S2_S1_1) : (⟨S2, .i32⟩ : BufTy).Contents (Elt F) → (⟨S1, .i32⟩ : BufTy).Contents (Elt F)),
    reshape main_v5 main_v6 (rfl : (.i32 : EltTy) = .i32) shapeCasts_S1_S_,
    nullary main_c_1 (constantI S_ 32 0#32),
    nullary main_c_2 (constantI S_ 32 0#32),
    unaryIndexed main_arg2 ![main_v6, main_c_1, main_c_2] ⟨S_, .i32⟩ main_v7 ((fun x i => Host.dynamicSlice S1x1088x1024 x (fun k => (i k (Shape.Idx.first h_S_)).toInt) sliceFits_S4x1088x1024_S1x1088x1024) : (⟨S4x1088x1024, .bf16⟩ : BufTy).Contents (Elt F) → (Fin 3 → (⟨S_, .i32⟩ : BufTy).Contents (Elt F)) → (⟨S1x1088x1024, .bf16⟩ : BufTy).Contents (Elt F)),
    reshape main_v4 main_v8 (rfl : (.bf16 : EltTy) = .bf16) shapeCasts_S1x1x1088x1024_S1088x1024,
    unary main_v8 main_v9 ((extf .f32 · bitsLt_bf16_f32) : (⟨S1088x1024, .bf16⟩ : BufTy).Contents (Elt F) → (⟨S1088x1024, .f32⟩ : BufTy).Contents (Elt F)),
    reshape main_v7 main_v10 (rfl : (.bf16 : EltTy) = .bf16) shapeCasts_S1x1088x1024_S1088x1024,
    unary main_v10 main_v11 ((extf .f32 · bitsLt_bf16_f32) : (⟨S1088x1024, .bf16⟩ : BufTy).Contents (Elt F) → (⟨S1088x1024, .f32⟩ : BufTy).Contents (Elt F)),
    binary main_v9 main_v11 main_v12 (addf : (⟨S1088x1024, .f32⟩ : BufTy).Contents (Elt F) → (⟨S1088x1024, .f32⟩ : BufTy).Contents (Elt F) → (⟨S1088x1024, .f32⟩ : BufTy).Contents (Elt F)),
    unary main_arg3 main_v13 ((extf .f32 · bitsLt_bf16_f32) : (⟨S3x1088x1024, .bf16⟩ : BufTy).Contents (Elt F) → (⟨S3x1088x1024, .f32⟩ : BufTy).Contents (Elt F)),
    nullary main_cst (constant S_ .f32 0x00000000#32),
    binary main_v13 main_cst main_v14 ((fun x v => Host.reduceAdd x v reducesTo_S3x1088x1024_S1088x1024_d0 h_S_) : (⟨S3x1088x1024, .f32⟩ : BufTy).Contents (Elt F) → (⟨S_, .f32⟩ : BufTy).Contents (Elt F) → (⟨S1088x1024, .f32⟩ : BufTy).Contents (Elt F)),
    binary main_v12 main_v14 main_v15 (addf : (⟨S1088x1024, .f32⟩ : BufTy).Contents (Elt F) → (⟨S1088x1024, .f32⟩ : BufTy).Contents (Elt F) → (⟨S1088x1024, .f32⟩ : BufTy).Contents (Elt F))]

/-- The word naming the chip, as the reference reads it. -/
def refChip (w : IVec S2 32) : IVec S_ 32 := shapeCast S_ (extractStridedSlice S1 ![1] w slices_S2_S1_1) shapeCasts_S1_S_

/-- The word naming the core, as the reference reads it. -/
def refCore (w : IVec S2 32) : IVec S_ 32 := shapeCast S_ (extractStridedSlice S1 ![0] w slices_S2_S1_0) shapeCasts_S1_S_

/-- The device's own block, at the two words. -/
def refOwn (w : IVec S2 32) (x : FVec F S4x2x1088x1024 .bf16) : FVec F S1x1x1088x1024 .bf16 :=
  Host.dynamicSlice S1x1x1088x1024 x (fun k => ((![refChip w, refCore w, constantI S_ 32 0#32, constantI S_ 32 0#32] : Fin 4 → IVec S_ 32) k
    (Shape.Idx.first h_S_)).toInt) sliceFits_S4x2x1088x1024_S1x1x1088x1024

/-- The block from the chip's other core, at the word naming the chip. -/
def refSibling (w : IVec S2 32) (x : FVec F S4x1088x1024 .bf16) : FVec F S1x1088x1024 .bf16 :=
  Host.dynamicSlice S1x1088x1024 x (fun k => ((![refChip w, constantI S_ 32 0#32, constantI S_ 32 0#32] : Fin 3 → IVec S_ 32) k
    (Shape.Idx.first h_S_)).toInt) sliceFits_S4x1088x1024_S1x1088x1024

/-- The reference's sum. -/
def refSum (w : IVec S2 32) (x : FVec F S4x2x1088x1024 .bf16) (y : FVec F S4x1088x1024 .bf16) (z : FVec F S3x1088x1024 .bf16) :
    FVec F S1088x1024 .f32 :=
  addf (addf (extf .f32 (shapeCast S1088x1024 (refOwn w x) shapeCasts_S1x1x1088x1024_S1088x1024) bitsLt_bf16_f32)
      (extf .f32 (shapeCast S1088x1024 (refSibling w y) shapeCasts_S1x1088x1024_S1088x1024) bitsLt_bf16_f32))
    (Host.reduceAdd (extf .f32 z bitsLt_bf16_f32) (constant S_ .f32 0x00000000#32) reducesTo_S3x1088x1024_S1088x1024_d0 h_S_)

theorem refOps_sub : (refOps : List (HloOp τ sig (Elt F))).Forall fun op => op.bufs ⊆ tcRefs τ sig :=
  ⟨unary_bufs_sub .., reshape_bufs_sub .., unary_bufs_sub .., reshape_bufs_sub .., nullary_bufs_sub .., nullary_bufs_sub .., unaryIndexed_bufs_sub .., unary_bufs_sub .., reshape_bufs_sub .., nullary_bufs_sub .., nullary_bufs_sub .., unaryIndexed_bufs_sub .., reshape_bufs_sub .., unary_bufs_sub .., reshape_bufs_sub .., unary_bufs_sub .., binary_bufs_sub .., unary_bufs_sub .., nullary_bufs_sub .., binary_bufs_sub .., binary_bufs_sub ..⟩

theorem refOps_sum (V : Valuation τ sig (Elt F)) :
    after (refOps (F := F)) V (Proc.devRef .tc main_v15) = refSum (F := F) (V (Proc.devRef .tc main_arg0)) (V (Proc.devRef .tc main_arg1))
      (V (Proc.devRef .tc main_arg2)) (V (Proc.devRef .tc main_arg3)) := by
  after_results_entrywise []

/-- The operations leave the arguments as they were. -/
theorem refOps_args (V : Valuation τ sig (Elt F)) :
    after (refOps (F := F)) V (Proc.devRef .tc main_arg0) = V (Proc.devRef .tc main_arg0)
      ∧ after (refOps (F := F)) V (Proc.devRef .tc main_arg1) = V (Proc.devRef .tc main_arg1)
      ∧ after (refOps (F := F)) V (Proc.devRef .tc main_arg2) = V (Proc.devRef .tc main_arg2)
      ∧ after (refOps (F := F)) V (Proc.devRef .tc main_arg3) = V (Proc.devRef .tc main_arg3) := by
  refine ⟨?_, ?_, ?_, ?_⟩ <;> after_results_simp

theorem main_refOps (c : Dev nD) : main (F := F) c = seq refOps := rfl

/-- The reference ends with its sum at its result, and with its arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = refSum (F := F) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (refOps_sum _), (h c main_arg0).trans (refOps_args _).1,
      (h c main_arg1).trans (refOps_args _).2.1, (h c main_arg2).trans (refOps_args _).2.2.1, (h c main_arg3).trans (refOps_args _).2.2.2⟩)
    (run_seq (by decide) (by decide) defs main (fun _ => refOps) main_refOps (fun _ => refOps_sub) m ρ)

end Cert.InputSum
-- ==== Proof.InputSum.lean ====
/- The sum of the gradient of w_in over the devices: what the kernel adds is the reference's sum. -/
module

public import proofs.«01_k».proof.Defs
public import proofs.«01_k».proof.Proof.Gen.SumIn.Frame
public import proofs.«01_k».proof.Proof.Gen.SumInIdeal.Frame
public import proofs.«01_k».proof.Proof.InputSumRef
public import proofs.«01_k».proof.Proof.Gen.Pre_names_a_device
public import Idealize.ShloMosaic.Lib.ValueIdx
public import Idealize.ShloMosaic.Lib.IdealHost
public import Idealize.ShloMosaic.PureOps.Ideal.Laws
public import Idealize.ShloMosaic.Lib.Pointwise.Reduce
public import Idealize.ShloMosaic.Lib.Pointwise.ShapeOpsCore
public import Idealize.ShloMosaic.Lib.Pipeline.Value

@[expose] public section

set_option maxRecDepth 16384

noncomputable section

namespace Cert.InputSum

open Idealize.ShloMosaic hiding ix1 ix2 ix3 ix4 eq_ix2
open Idealize.ShloMosaic.TcCoe Idealize.ShloMosaic.ValueIdx Idealize.SL.Sem

/-! ## The two words -/

/-- A word that is not negative and is below a small bound, read as a natural number and as an integer. -/
theorem word_below (w k : BitVec 32) (hk : k.toNat ≤ 4)
    (h : IntOp.andi (IntOp.cmpi .sge w 0#32) (IntOp.cmpi .slt w k) = 1#1) : w.toNat < k.toNat ∧ w.toInt = w.toNat := by
  have both (a b : BitVec 1) : IntOp.andi a b = 1#1 ↔ a = 1#1 ∧ b = 1#1 := by revert a b; decide
  have one (b : Bool) : BitVec.ofBool b = 1#1 ↔ b = true := by cases b <;> decide
  obtain ⟨h0, h1⟩ := (both _ _).mp h
  simp only [IntOp.cmpi, BitVec.sle, BitVec.slt, one, decide_eq_true_eq] at h0 h1
  have hw := w.isLt
  have e0 : (0#32 : BitVec 32).toInt = 0 := rfl
  rw [e0] at h0
  rw [BitVec.toInt_eq_toNat_cond] at h0 h1
  rw [BitVec.toInt_eq_toNat_cond] at h1
  rw [BitVec.toInt_eq_toNat_cond]
  split at h0 <;> split at h1 <;> (try split at h1) <;> constructor <;> omega

variable {F : FTy → Type} [FloatOps F]

/-- What the precondition says of the two words. -/
theorem words (w : IVec (⟨1, ![2]⟩ : Shape) 32) (a : FVec F (⟨4, ![4, 2, 1088, 1024]⟩ : Shape) .bf16)
    (b : FVec F (⟨3, ![4, 1088, 1024]⟩ : Shape) .bf16) (c : FVec F (⟨3, ![3, 1088, 1024]⟩ : Shape) .bf16)
    (h : Cert.Pre_names_a_device.fn (F := F) w a b c = fun _ => 1#1) :
    ((w (ix1 0)).toNat < 2 ∧ (w (ix1 0)).toInt = (w (ix1 0)).toNat) ∧ ((w (ix1 1)).toNat < 4 ∧ (w (ix1 1)).toInt = (w (ix1 1)).toNat) :=
  ⟨word_below (w (ix1 0)) 2#32 (by decide) (congrFun h (ix1 0)), word_below (w (ix1 1)) 4#32 (by decide) (congrFun h (ix1 1))⟩

section Run

open Cert.SumInIdeal Cert.SumInIdeal.Gen

variable (m : (ℓ : Loc nD τ sig) → Buf (Elt F) ℓ)

/-- The word naming the core. -/
def core : ℕ := ((m ((0 : Dev nD).tc.loc main_arg0) : IVec S2 32) (ix1 0)).toNat

/-- The word naming the chip. -/
def chip : ℕ := ((m ((0 : Dev nD).tc.loc main_arg0) : IVec S2 32) (ix1 1)).toNat

/-- Where the first window stands at a grid point. -/
theorem index_0 (i : grid0.Coords) : cc0_transform_0 inb_S2_S1_1 numel1_S1 inb_S2_S1_0 (tbl m) i = ![chip m, core m, (i 0).val, 0] := by
  have hi : (i 0).val < 4 := (i 0).isLt
  have e1 : ((Rect.unit (s := S2) ![1] S1.size inb_S2_S1_1).emb (Shape.Idx.first (numel1_S1.symm ▸ Nat.one_pos)) : S2.Idx) = ix1 1 :=
    funext fun a => by obtain rfl : a = 0 := Subsingleton.elim _ _; exact Fin.ext rfl
  have e0 : ((Rect.unit (s := S2) ![0] S1.size inb_S2_S1_0).emb (Shape.Idx.first (numel1_S1.symm ▸ Nat.one_pos)) : S2.Idx) = ix1 0 :=
    funext fun a => by obtain rfl : a = 0 := Subsingleton.elim _ _; exact Fin.ext rfl
  have h1 : ((tbl m).at 0 (Rect.unit (s := S2) ![1] S1.size inb_S2_S1_1) numel1_S1 : BitVec 32).toNat = chip m :=
    congrArg (fun y => ((m ((0 : Dev nD).tc.loc main_arg0) : IVec S2 32) y).toNat) e1
  have h0 : ((tbl m).at 0 (Rect.unit (s := S2) ![0] S1.size inb_S2_S1_0) numel1_S1 : BitVec 32).toNat = core m :=
    congrArg (fun y => ((m ((0 : Dev nD).tc.loc main_arg0) : IVec S2 32) y).toNat) e0
  have h2 : (BitVec.ofNat 32 (i 0).val).toNat = (i 0).val := by rw [BitVec.toNat_ofNat]; omega
  unfold cc0_transform_0
  dsimp only
  rw [h0, h1, h2]
  rfl

/-- Where the second window stands at a grid point. -/
theorem index_1 (i : grid0.Coords) : cc0_transform_1 inb_S2_S1_1 numel1_S1 (tbl m) i = ![chip m, (i 0).val, 0] := by
  have hi : (i 0).val < 4 := (i 0).isLt
  have e1 : ((Rect.unit (s := S2) ![1] S1.size inb_S2_S1_1).emb (Shape.Idx.first (numel1_S1.symm ▸ Nat.one_pos)) : S2.Idx) = ix1 1 :=
    funext fun a => by obtain rfl : a = 0 := Subsingleton.elim _ _; exact Fin.ext rfl
  have h1 : ((tbl m).at 0 (Rect.unit (s := S2) ![1] S1.size inb_S2_S1_1) numel1_S1 : BitVec 32).toNat = chip m :=
    congrArg (fun y => ((m ((0 : Dev nD).tc.loc main_arg0) : IVec S2 32) y).toNat) e1
  have h2 : (BitVec.ofNat 32 (i 0).val).toNat = (i 0).val := by rw [BitVec.toNat_ofNat]; omega
  unfold cc0_transform_1
  dsimp only
  rw [h1, h2]
  rfl

/-- Where the words name a core and a chip, every block the grid reads lies in its array. -/
theorem blocks_inside (h0 : core m < 2) (h1 : chip m < 4) : Ok m := by
  refine ⟨fun i => ⟨?_, .inr (Affine.block_words_dvd (of_decide_eq_true rfl) (by decide))⟩,
    fun i => ⟨?_, .inr (Affine.block_words_dvd (of_decide_eq_true rfl) (by decide))⟩⟩
  · have hi : (i 0).val < 4 := (i 0).isLt
    rw [index_0]
    intro a
    match a with
    | ⟨0, _⟩ => show (chip m + 1) * 1 ≤ 4; omega
    | ⟨1, _⟩ => show (core m + 1) * 1 ≤ 2; omega
    | ⟨2, _⟩ => show ((i 0).val + 1) * 272 ≤ 1088; omega
    | ⟨3, _⟩ => show (0 + 1) * 1024 ≤ 1024; omega
  · have hi : (i 0).val < 4 := (i 0).isLt
    rw [index_1]
    intro a
    match a with
    | ⟨0, _⟩ => show (chip m + 1) * 1 ≤ 4; omega
    | ⟨1, _⟩ => show ((i 0).val + 1) * 272 ≤ 1088; omega
    | ⟨2, _⟩ => show (0 + 1) * 1024 ≤ 1024; omega

end Run

/-! ## The sum -/

/-- The own block of the chip and core, the block of the chip's other core, and the blocks of the three other chips, added entry by entry. -/
def total {r n : ℕ} (k : Fin 4) (h : Fin 2) (x : (⟨4, ![4, 2, r, n]⟩ : Shape).Idx → EReal) (y : (⟨3, ![4, r, n]⟩ : Shape).Idx → EReal)
    (z : (⟨3, ![3, r, n]⟩ : Shape).Idx → EReal) : (⟨2, ![r, n]⟩ : Shape).Idx → EReal :=
  fun j => x (ix4 k h (j 0) (j 1)) + y (ix3 k (j 0) (j 1)) + ∑ s : Fin 3, z (ix3 s (j 0) (j 1))

/-- A first axis of one dropped. -/
theorem drop_one {α : Type} {r n : ℕ} (x : (⟨3, ![1, r, n]⟩ : Shape).Idx → α) (h : (⟨3, ![1, r, n]⟩ : Shape).ShapeCasts ⟨2, ![r, n]⟩)
    (j : (⟨2, ![r, n]⟩ : Shape).Idx) : shapeCast ⟨2, ![r, n]⟩ x h j = x (ix3 0 (j 0) (j 1)) := by
  refine congrArg x (Shape.reshapeEquiv_eq_of_rowMajor h (y := ix3 0 (j 0) (j 1)) ?_)
  rw [Shape.rowMajor_val_two, Shape.rowMajor_val_three]
  show ((0 * r + (j 0).val) * n + (j 1).val : ℕ) = (j 0).val * n + (j 1).val
  rw [zero_mul, zero_add]

/-- Two first axes of one dropped. -/
theorem drop_two {α : Type} {r n : ℕ} (x : (⟨4, ![1, 1, r, n]⟩ : Shape).Idx → α)
    (h : (⟨4, ![1, 1, r, n]⟩ : Shape).ShapeCasts ⟨2, ![r, n]⟩)
    (j : (⟨2, ![r, n]⟩ : Shape).Idx) : shapeCast ⟨2, ![r, n]⟩ x h j = x (ix4 0 0 (j 0) (j 1)) := by
  refine congrArg x (Shape.reshapeEquiv_eq_of_rowMajor h (y := ix4 0 0 (j 0) (j 1)) ?_)
  rw [Shape.rowMajor_val_two, Shape.rowMajor_val_four]
  show (((0 * 1 + 0) * r + (j 0).val) * n + (j 1).val : ℕ) = (j 0).val * n + (j 1).val
  rw [zero_mul, zero_add, zero_mul, zero_add]

/-- One of the three slots loaded as a block with a first axis of one, which is then dropped. -/
theorem drop_slot {α : Type} {r n : ℕ} (x : (⟨3, ![3, r, n]⟩ : Shape).Idx → α) (k : Fin 3)
    (hin : ∀ a, (![k.val, 0, 0] : Fin 3 → ℕ) a + (![1, r, n] : Fin 3 → ℕ) a ≤ (⟨3, ![3, r, n]⟩ : Shape).size a)
    (h : (⟨3, ![1, r, n]⟩ : Shape).ShapeCasts ⟨2, ![r, n]⟩) (j : (⟨2, ![r, n]⟩ : Shape).Idx) :
    shapeCast ⟨2, ![r, n]⟩ (fun i => x ((Rect.unit (s := ⟨3, ![3, r, n]⟩) ![k.val, 0, 0] ![1, r, n] hin).idx i)) h j
      = x (ix3 k (j 0) (j 1)) := by
  refine (drop_one _ h j).trans (congrArg x (funext fun a => Fin.ext ?_))
  match a with
  | ⟨0, _⟩ => show k.val + 1 * 0 = k.val; omega
  | ⟨1, _⟩ => show 0 + 1 * (j 0).val = (j 0).val; omega
  | ⟨2, _⟩ => show 0 + 1 * (j 1).val = (j 1).val; omega

/-- A block of whole rows, taken at two starting positions. -/
theorem slice_four {α : Type} {a b r n : ℕ} (x : (⟨4, ![a, b, r, n]⟩ : Shape).Idx → α) (start : Fin 4 → ℤ)
    (hs : (⟨4, ![a, b, r, n]⟩ : Shape).Slices (fun _ => 0) ⟨4, ![1, 1, r, n]⟩) (k : Fin a) (h : Fin b) (e0 : start 0 = k.val)
    (e1 : start 1 = h.val) (e2 : start 2 = (0 : ℕ)) (e3 : start 3 = (0 : ℕ)) (p : Fin r) (q : Fin n) :
    Host.dynamicSlice (⟨4, ![1, 1, r, n]⟩ : Shape) x start hs (ix4 0 0 p q) = x (ix4 k h p q) := by
  have hk := k.isLt
  have hh := h.isLt
  have c0 : Host.clampedStart ⟨4, ![a, b, r, n]⟩ ⟨4, ![1, 1, r, n]⟩ hs.1 start (0 : Fin 4) = k.val :=
    Host.clampedStart_of_le hs.1 start (0 : Fin 4) k.val e0 (show k.val + 1 ≤ a from hk)
  have c1 : Host.clampedStart ⟨4, ![a, b, r, n]⟩ ⟨4, ![1, 1, r, n]⟩ hs.1 start (1 : Fin 4) = h.val :=
    Host.clampedStart_of_le hs.1 start (1 : Fin 4) h.val e1 (show h.val + 1 ≤ b from hh)
  have c2 : Host.clampedStart ⟨4, ![a, b, r, n]⟩ ⟨4, ![1, 1, r, n]⟩ hs.1 start (2 : Fin 4) = 0 :=
    Host.clampedStart_of_le hs.1 start (2 : Fin 4) 0 e2 (show 0 + r ≤ r by omega)
  have c3 : Host.clampedStart ⟨4, ![a, b, r, n]⟩ ⟨4, ![1, 1, r, n]⟩ hs.1 start (3 : Fin 4) = 0 :=
    Host.clampedStart_of_le hs.1 start (3 : Fin 4) 0 e3 (show 0 + n ≤ n by omega)
  rw [Host.dynamicSlice_apply]
  refine congrArg x (funext fun d => Fin.ext ?_)
  match d with
  | ⟨0, _⟩ => exact (congrArg (· + 0) c0).trans (add_zero _)
  | ⟨1, _⟩ => exact (congrArg (· + 0) c1).trans (add_zero _)
  | ⟨2, _⟩ => exact (congrArg (· + p.val) c2).trans (zero_add _)
  | ⟨3, _⟩ => exact (congrArg (· + q.val) c3).trans (zero_add _)

/-- A block of whole rows, taken at one starting position. -/
theorem slice_three {α : Type} {a r n : ℕ} (x : (⟨3, ![a, r, n]⟩ : Shape).Idx → α) (start : Fin 3 → ℤ)
    (hs : (⟨3, ![a, r, n]⟩ : Shape).Slices (fun _ => 0) ⟨3, ![1, r, n]⟩) (k : Fin a) (e0 : start 0 = k.val)
    (e1 : start 1 = (0 : ℕ)) (e2 : start 2 = (0 : ℕ)) (p : Fin r) (q : Fin n) :
    Host.dynamicSlice (⟨3, ![1, r, n]⟩ : Shape) x start hs (ix3 0 p q) = x (ix3 k p q) := by
  have hk := k.isLt
  have c0 : Host.clampedStart ⟨3, ![a, r, n]⟩ ⟨3, ![1, r, n]⟩ hs.1 start (0 : Fin 3) = k.val :=
    Host.clampedStart_of_le hs.1 start (0 : Fin 3) k.val e0 (show k.val + 1 ≤ a from hk)
  have c1 : Host.clampedStart ⟨3, ![a, r, n]⟩ ⟨3, ![1, r, n]⟩ hs.1 start (1 : Fin 3) = 0 :=
    Host.clampedStart_of_le hs.1 start (1 : Fin 3) 0 e1 (show 0 + r ≤ r by omega)
  have c2 : Host.clampedStart ⟨3, ![a, r, n]⟩ ⟨3, ![1, r, n]⟩ hs.1 start (2 : Fin 3) = 0 :=
    Host.clampedStart_of_le hs.1 start (2 : Fin 3) 0 e2 (show 0 + n ≤ n by omega)
  rw [Host.dynamicSlice_apply]
  refine congrArg x (funext fun d => Fin.ext ?_)
  match d with
  | ⟨0, _⟩ => exact (congrArg (· + 0) c0).trans (add_zero _)
  | ⟨1, _⟩ => exact (congrArg (· + p.val) c1).trans (zero_add _)
  | ⟨2, _⟩ => exact (congrArg (· + q.val) c2).trans (zero_add _)

/-! ## The host's sum -/

section Host

open Cert.SumInRefIdeal Cert.SumInRefIdeal.Gen

variable (w : IVec S2 32) (k : Fin 4) (h : Fin 2) (hk : (w (ix1 1)).toInt = k.val) (hh : (w (ix1 0)).toInt = h.val)

theorem refChip_eq (i : S_.Idx) : refChip w i = w (ix1 1) :=
  congrArg w (funext fun a => by
    obtain rfl : a = 0 := Subsingleton.elim _ _
    exact Fin.ext (Nat.add_eq_left.mpr (Nat.lt_one_iff.mp (Fin.isLt _))))

theorem refCore_eq (i : S_.Idx) : refCore w i = w (ix1 0) :=
  congrArg w (funext fun a => by
    obtain rfl : a = 0 := Subsingleton.elim _ _
    exact Fin.ext (Nat.add_eq_left.mpr (Nat.lt_one_iff.mp (Fin.isLt _))))

include hk hh in
theorem own_at (x : FVec Ideal S4x2x1088x1024 .bf16) (p : Fin 1088) (q : Fin 1024) :
    refOwn w x (ix4 0 0 p q) = x (ix4 k h p q) :=
  slice_four (r := 1088) (n := 1024) x _ _ k h ((congrArg BitVec.toInt (refChip_eq w _)).trans hk)
    ((congrArg BitVec.toInt (refCore_eq w _)).trans hh) rfl rfl p q

include hk in
theorem sibling_at (y : FVec Ideal S4x1088x1024 .bf16) (p : Fin 1088) (q : Fin 1024) :
    refSibling w y (ix3 0 p q) = y (ix3 k p q) :=
  slice_three (r := 1088) (n := 1024) y _ _ k ((congrArg BitVec.toInt (refChip_eq w _)).trans hk) rfl rfl p q

include hk hh in
/-- The reference's sum, where the words name chip `k` and core `h`. -/
theorem host_total (x : FVec Ideal S4x2x1088x1024 .bf16) (y : FVec Ideal S4x1088x1024 .bf16) (z : FVec Ideal S3x1088x1024 .bf16) :
    refSum w x y z = total (r := 1088) (n := 1024) k h x y z := by
  funext j
  have ho : shapeCast S1088x1024 (refOwn w x) shapeCasts_S1x1x1088x1024_S1088x1024 j = x (ix4 k h (j 0) (j 1)) :=
    (drop_two (r := 1088) (n := 1024) (refOwn w x) shapeCasts_S1x1x1088x1024_S1088x1024 j).trans (own_at w k h hk hh x (j 0) (j 1))
  have hs : shapeCast S1088x1024 (refSibling w y) shapeCasts_S1x1088x1024_S1088x1024 j = y (ix3 k (j 0) (j 1)) :=
    (drop_one (r := 1088) (n := 1024) (refSibling w y) shapeCasts_S1x1088x1024_S1088x1024 j).trans (sibling_at w k hk y (j 0) (j 1))
  have hz : Host.reduceAdd (extf .f32 z bitsLt_bf16_f32) (constant S_ .f32 0x00000000#32) reducesTo_S3x1088x1024_S1088x1024_d0 h_S_ j
      = ∑ s : Fin 3, z (ix3 s (j 0) (j 1)) := by
    rw [ValueIdx.hostReduceAdd_apply, Ideal.hostReduceAdd, reducesTo_S3x1088x1024_S1088x1024_d0.sum_fiber_r3_a0 j]
    show Ideal.ofBits .f32 0x00000000#32 + _ = _
    rw [Ideal.ofBits_zero_f32, zero_add]
    rfl
  exact congrArg₂ (· + ·) (congrArg₂ (· + ·) ho hs) hz

end Host

/-! ## The kernel's sum -/

section Kernel

open Cert.SumInIdeal Cert.SumInIdeal.Gen

theorem origin_2 : (![0, 0] : Fin 2 → ℕ) = fun _ => 0 := funext fun a => by fin_cases a <;> rfl

theorem origin_3 : (![0, 0, 0] : Fin 3 → ℕ) = fun _ => 0 := funext fun a => by fin_cases a <;> rfl

theorem origin_4 : (![0, 0, 0, 0] : Fin 4 → ℕ) = fun _ => 0 := funext fun a => by fin_cases a <;> rfl

/-- What the body computes of its blocks. -/
theorem body_total (x : FVec Ideal S1x1x272x1024 .bf16) (y : FVec Ideal S1x272x1024 .bf16) (z : FVec Ideal S3x272x1024 .bf16) (j : S272x1024.Idx) :
    k0_pay1 (F := Ideal) x y (View.ld z (Rect.unit (s := S3x272x1024) ![0, 0, 0] S1x272x1024.size inb_S3x272x1024_S1x272x1024_0_0_0))
      (View.ld z (Rect.unit (s := S3x272x1024) ![1, 0, 0] S1x272x1024.size inb_S3x272x1024_S1x272x1024_1_0_0))
      (View.ld z (Rect.unit (s := S3x272x1024) ![2, 0, 0] S1x272x1024.size inb_S3x272x1024_S1x272x1024_2_0_0)) j
      = x (ix4 0 0 (j 0) (j 1)) + y (ix3 0 (j 0) (j 1)) + ∑ s : Fin 3, z (ix3 s (j 0) (j 1)) := by
  have h0 := drop_two (r := 272) (n := 1024) x shapeCasts_S1x1x272x1024_S272x1024 j
  have h1 := drop_one (r := 272) (n := 1024) y shapeCasts_S1x272x1024_S272x1024 j
  have h2 := drop_slot (r := 272) (n := 1024) z 0 inb_S3x272x1024_S1x272x1024_0_0_0 shapeCasts_S1x272x1024_S272x1024 j
  have h3 := drop_slot (r := 272) (n := 1024) z 1 inb_S3x272x1024_S1x272x1024_1_0_0 shapeCasts_S1x272x1024_S272x1024 j
  have h4 := drop_slot (r := 272) (n := 1024) z 2 inb_S3x272x1024_S1x272x1024_2_0_0 shapeCasts_S1x272x1024_S272x1024 j
  rw [Fin.sum_univ_three, ← add_assoc, ← add_assoc]
  exact congrArg₂ (· + ·) (congrArg₂ (· + ·) (congrArg₂ (· + ·) (congrArg₂ (· + ·) h0 h1) h2) h3) h4

theorem out_A (c : Dev nD) (i : grid0.Coords) (arg2 : Memref sig .tc .vmem S1x1x272x1024 .bf16) (h2 : arg2.IsWhole)
    (arg3 : Memref sig .tc .vmem S1x272x1024 .bf16) (h3 : arg3.IsWhole) (arg4 : Memref sig .tc .vmem S3x272x1024 .bf16) (h4 : arg4.IsWhole)
    (arg5 : Memref sig .tc .vmem S272x1024 .f32) (h5 : arg5.IsWhole) (x : Vec Ideal S1x1x272x1024 .bf16) (y : Vec Ideal S1x272x1024 .bf16)
    (z : Vec Ideal S3x272x1024 .bf16) (w) (j : S272x1024.Idx) :
    out0_A_3 (F := Ideal) c i arg2 h2 arg3 h3 arg4 h4 arg5 h5 x y z w j
      = x (ix4 0 0 (j 0) (j 1)) + y (ix3 0 (j 0) (j 1)) + ∑ s : Fin 3, z (ix3 s (j 0) (j 1)) := by
  unfold out0_A_3
  rw [View.read_writes_junk_eq_canon]
  unfold kernelRun0_A
  dsimp only
  rw [View.canon_unit_zero origin_2]
  rw [View.readAt_eq_ld, View.readAt_eq_ld, View.readAt_eq_ld, View.readAt_eq_ld, View.readAt_eq_ld,
    h2.read_unread, h3.read_unread, h4.read_unread, View.ld_unit_zero origin_4, View.ld_unit_zero origin_3]
  exact body_total x y z j

variable (m : (ℓ : Loc nD τ sig) → Buf (Elt Ideal) ℓ) (hO : Ok m) (c : Dev nD)

/-- A grid point's coordinate is its number. -/
theorem coord : ∀ t : Fin grid0.N, (grid0.coords t 0).val = t.val := by decide +kernel

theorem few (t : Fin (cfgM m hO).N) : t.val < 4 := t.isLt

/-- Row `p` of tile `t` among all the rows. -/
def row (t : Fin (cfgM m hO).N) (p : Fin 272) : Fin 1088 := ⟨t.val * 272 + p.val, by have := few m hO t; omega⟩

theorem stand_0 (t : Fin (cfgM m hO).N) : ((cfgM m hO).win 0).index t = ![chip m, core m, t.val, 0] := by
  refine (index_0 m (grid0.coords t)).trans ?_
  rw [coord t]

theorem stand_1 (t : Fin (cfgM m hO).N) : ((cfgM m hO).win 1).index t = ![chip m, t.val, 0] := by
  refine (index_1 m (grid0.coords t)).trans ?_
  rw [coord t]

theorem stand_2 (t : Fin (cfgM m hO).N) : ((cfgM m hO).win 2).index t = ![0, t.val, 0] :=
  (by decide +kernel : ∀ t : Fin grid0.N, cc0_transform_2 (grid0.coords t) = ![0, t.val, 0]) t

theorem stand_3 (t : Fin (cfgM m hO).N) : ((cfgM m hO).win 3).index t = ![t.val, 0] :=
  (by decide +kernel : ∀ t : Fin grid0.N, cc0_transform_3 (grid0.coords t) = ![t.val, 0]) t

theorem block_0 (h : core m < 2) (k : chip m < 4) (t : Fin (cfgM m hO).N) (p : Fin 272) (q : Fin 1024) :
    (iblk m hO c 0 t : S1x1x272x1024.Idx → EReal) (ix4 0 0 p q) = V m c main_arg1 (ix4 ⟨chip m, k⟩ ⟨core m, h⟩ (row m hO t p) q) := by
  have e := stand_0 m hO t
  refine congrArg (V m c main_arg1) (funext fun a => Fin.ext ?_)
  match a with
  | ⟨0, _⟩ =>
    show ((cfgM m hO).win 0).index t (0 : Fin 4) * 1 + 1 * 0 = chip m
    rw [e]; show chip m * 1 + 1 * 0 = chip m; omega
  | ⟨1, _⟩ =>
    show ((cfgM m hO).win 0).index t (1 : Fin 4) * 1 + 1 * 0 = core m
    rw [e]; show core m * 1 + 1 * 0 = core m; omega
  | ⟨2, _⟩ =>
    show ((cfgM m hO).win 0).index t (2 : Fin 4) * 272 + 1 * p.val = t.val * 272 + p.val
    rw [e]; show t.val * 272 + 1 * p.val = t.val * 272 + p.val; omega
  | ⟨3, _⟩ =>
    show ((cfgM m hO).win 0).index t (3 : Fin 4) * 1024 + 1 * q.val = q.val
    rw [e]; show 0 * 1024 + 1 * q.val = q.val; omega

theorem block_1 (k : chip m < 4) (t : Fin (cfgM m hO).N) (p : Fin 272) (q : Fin 1024) :
    (iblk m hO c 1 t : S1x272x1024.Idx → EReal) (ix3 0 p q) = V m c main_arg2 (ix3 ⟨chip m, k⟩ (row m hO t p) q) := by
  have e := stand_1 m hO t
  refine congrArg (V m c main_arg2) (funext fun a => Fin.ext ?_)
  match a with
  | ⟨0, _⟩ =>
    show ((cfgM m hO).win 1).index t (0 : Fin 3) * 1 + 1 * 0 = chip m
    rw [e]; show chip m * 1 + 1 * 0 = chip m; omega
  | ⟨1, _⟩ =>
    show ((cfgM m hO).win 1).index t (1 : Fin 3) * 272 + 1 * p.val = t.val * 272 + p.val
    rw [e]; show t.val * 272 + 1 * p.val = t.val * 272 + p.val; omega
  | ⟨2, _⟩ =>
    show ((cfgM m hO).win 1).index t (2 : Fin 3) * 1024 + 1 * q.val = q.val
    rw [e]; show 0 * 1024 + 1 * q.val = q.val; omega

theorem block_2 (s : Fin 3) (t : Fin (cfgM m hO).N) (p : Fin 272) (q : Fin 1024) :
    (iblk m hO c 2 t : S3x272x1024.Idx → EReal) (ix3 s p q) = V m c main_arg3 (ix3 s (row m hO t p) q) := by
  have e := stand_2 m hO t
  refine congrArg (V m c main_arg3) (funext fun a => Fin.ext ?_)
  match a with
  | ⟨0, _⟩ =>
    show ((cfgM m hO).win 2).index t (0 : Fin 3) * 3 + 1 * s.val = s.val
    rw [e]; show 0 * 3 + 1 * s.val = s.val; omega
  | ⟨1, _⟩ =>
    show ((cfgM m hO).win 2).index t (1 : Fin 3) * 272 + 1 * p.val = t.val * 272 + p.val
    rw [e]; show t.val * 272 + 1 * p.val = t.val * 272 + p.val; omega
  | ⟨2, _⟩ =>
    show ((cfgM m hO).win 2).index t (2 : Fin 3) * 1024 + 1 * q.val = q.val
    rw [e]; show 0 * 1024 + 1 * q.val = q.val; omega

/-- The sum of the launch's arguments. -/
abbrev sumOf (h : core m < 2) (k : chip m < 4) : S1088x1024.Idx → EReal :=
  total (r := 1088) (n := 1024) ⟨chip m, k⟩ ⟨core m, h⟩ (V m c main_arg1) (V m c main_arg2) (V m c main_arg3)

/-- What a grid point writes back is its rows of the sum. -/
theorem flushed_3 (h : core m < 2) (k : chip m < 4) (t : Fin (cfgM m hO).N) :
    (dats m hO 0 c).flushed 3 t = (((cfgM m hO).win 3).blk t).view.read (Elt Ideal) (sumOf m c h k) := by
  show ((cfgM m hO).win 3).cut (grid0.coords t) ((dats m hO 0 c).after 3 t) = _
  rw [after0_3]
  have e := stand_3 m hO t
  have key (j : S272x1024.Idx) : outsAt0 m hO c t j = sumOf m c h k (ix2 (row m hO t (j 0)) (j 1)) := by
    unfold outsAt0
    refine (out_A c (grid0.coords t) _ _ _ _ _ _ _ _ (iblk m hO c 0 t) (iblk m hO c 1 t) (iblk m hO c 2 t) _ j).trans ?_
    exact congrArg₂ (· + ·) (congrArg₂ (· + ·) (block_0 m hO c h k t (j 0) (j 1)) (block_1 m hO c k t (j 0) (j 1)))
      (Finset.sum_congr rfl fun s _ => block_2 m hO c s t (j 0) (j 1))
  refine funext fun (j : S272x1024.Idx) => (key j).trans ?_
  refine congrArg (sumOf m c h k) (funext fun a => Fin.ext ?_)
  match a with
  | ⟨0, _⟩ =>
    show t.val * 272 + (j 0).val = ((cfgM m hO).win 3).index t (0 : Fin 2) * 272 + 1 * (j 0).val
    rw [e]; show t.val * 272 + (j 0).val = t.val * 272 + 1 * (j 0).val; omega
  | ⟨1, _⟩ =>
    show (j 1).val = ((cfgM m hO).win 3).index t (1 : Fin 2) * 1024 + 1 * (j 1).val
    rw [e]; show (j 1).val = 0 * 1024 + 1 * (j 1).val; omega

/-- Every entry lies in the rows of some grid point. -/
theorem covered_3 (i : S1088x1024.Idx) :
    ∃ t : Fin (cfgM m hO).N, ((cfgM m hO).win 3).flush t = true ∧ i ∈ (((cfgM m hO).win 3).blk t).view.set := by
  have hi0 : (i 0).val < 1088 := (i 0).isLt
  have hi1 : (i 1).val < 1024 := (i 1).isLt
  obtain ⟨t, ht⟩ : ∃ t : Fin (cfgM m hO).N, t.val = (i 0).val / 272 := ⟨⟨(i 0).val / 272, show _ < 4 by omega⟩, rfl⟩
  have e := stand_3 m hO t
  refine ⟨t, flush0_3 (adm m hO) t, ?_⟩
  refine (congrArg (i ∈ ·) (View.set_slice_whole main_v0 (((cfgM m hO).win 3).rect t))).mpr ?_
  refine Rect.mem_set_unit.mpr fun a => ?_
  match a with
  | ⟨0, _⟩ =>
    show ((cfgM m hO).win 3).index t (0 : Fin 2) * 272 ≤ (i 0).val ∧ (i 0).val < ((cfgM m hO).win 3).index t (0 : Fin 2) * 272 + 272
    rw [e]; show t.val * 272 ≤ (i 0).val ∧ (i 0).val < t.val * 272 + 272; omega
  | ⟨1, _⟩ =>
    show ((cfgM m hO).win 3).index t (1 : Fin 2) * 1024 ≤ (i 1).val ∧ (i 1).val < ((cfgM m hO).win 3).index t (1 : Fin 2) * 1024 + 1024
    rw [e]; show 0 * 1024 ≤ (i 1).val ∧ (i 1).val < 0 * 1024 + 1024; omega

theorem result_3 (h : core m < 2) (k : chip m < 4) : (dats m hO 0 c).arrAt 3 (cfgM m hO).N = sumOf m c h k :=
  (dats m hO 0 c).arrAt_eq_of_cover 3 _ (fun t _ => flushed_3 m hO c h k t) (covered_3 m hO)

/-- The kernel ends with the sum at its result, and with its arguments unchanged. -/
theorem kernel_run (ρ : Dev nD → PrngReg) (h : core m < 2) (k : chip m < 4) :
    θ_run defs (onTc (τ := τ) (main (F := Ideal))) ⟨m, fun _ => 0, ρ⟩ fun r => ∀ c : Dev nD,
      r.2.mem ((c.tc : Thread nD τ).loc main_v0) = sumOf m c h k
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have hO := blocks_inside m h k
  (θ_run defs _ _).mono (fun r hr c =>
    ⟨((hr c).1 3).trans (result_3 m hO c h k),
      (hr c).2 main_arg0 (by decide : main_arg0 ∈ Pipeline.restRefs sig spec0),
      ((hr c).1 0).trans (((dats m hO 0 c).arrAt_in 0 rfl _).trans (A_eq m hO c 0)),
      ((hr c).1 1).trans (((dats m hO 0 c).arrAt_in 1 rfl _).trans (A_eq m hO c 1)),
      ((hr c).1 2).trans (((dats m hO 0 c).arrAt_in 2 rfl _).trans (A_eq m hO c 2))⟩)
    (run_main m ρ hO)

end Kernel

/-- The kernel's sum is the reference's. -/
theorem sum_in : Cert.algebraic_SumInIdeal_SumInRefIdeal := fun m ρ m' ρ' hp hm =>
  have hw := words _ _ _ _ (hp 0)
  ⟨_, kernel_run m ρ hw.1.1 hw.2.1,
    (θ_run Cert.SumInRefIdeal.defs _ _).mono (fun r h c => ⟨by
      obtain rfl : c = 0 := Subsingleton.elim _ _
      rw [(h 0).1, (hm 0).1, (hm 0).2.1, (hm 0).2.2.1, (hm 0).2.2.2]
      exact host_total _ ⟨_, hw.2.1⟩ ⟨_, hw.1.1⟩ hw.2.2 hw.1.2 _ _ _, (h c).2⟩) (ref_run m' ρ')⟩

/-! ## The frames -/

theorem frames_sum_in : Cert.quiescent_SumIn ∧ Cert.quiescent_SumInIdeal ∧ Cert.quiescent_SumInRefIdeal
    ∧ Cert.quiescent_SumInRefIdeal_pre_names_a_device :=
  have ref : Cert.quiescent_SumInRefIdeal := fun m ρ _ =>
    (θ_run Cert.SumInRefIdeal.defs _ _).mono (fun r h => ⟨fun c => (h c).2, sem_eq_zero_of_no_sems (by decide) r.2⟩)
      (ref_run (F := Ideal) m ρ)
  ⟨fun m ρ h => Cert.SumIn.Gen.frame (F := Bits) m ρ (blocks_inside m (words _ _ _ _ (h 0)).1.1 (words _ _ _ _ (h 0)).2.1),
    fun m ρ h => Cert.SumInIdeal.Gen.frame (F := Ideal) m ρ (blocks_inside m (words _ _ _ _ (h 0)).1.1 (words _ _ _ _ (h 0)).2.1),
    ref, fun m ρ _ => ref m ρ trivial⟩

end Cert.InputSum
-- ==== Proof.PairSum.lean ====
/- The sum of the two cores' gradients of w_in: what the kernel adds is the reference's sum. -/
module

public import proofs.«01_k».proof.Defs
public import proofs.«01_k».proof.Proof.InputSum
public import proofs.«01_k».proof.Proof.Gen.PairSum.Frame
public import proofs.«01_k».proof.Proof.Gen.PairSumIdeal.Frame
public import proofs.«01_k».proof.Proof.Gen.PairSumRefIdeal
public import proofs.«01_k».proof.Proof.Gen.Pre_names_a_core

@[expose] public section

set_option maxRecDepth 16384

noncomputable section

namespace Cert.PairSumProof

open Idealize.ShloMosaic hiding ix1 ix2 ix3 ix4 eq_ix2 eq_ix3
open Idealize.ShloMosaic.TcCoe Idealize.ShloMosaic.ValueIdx Idealize.SL.Sem
open Cert.InputSum (word_below drop_one drop_two origin_3 origin_4)

/-! ## The reference's operations -/

section Reference

open Cert.PairSumRefIdeal Cert.PairSumRefIdeal.Gen Idealize.ShloMosaic.StableHlo

variable {F : FTy → Type} [FloatOps F]

/-- The operations of the reference, in their order. -/
abbrev refOps : List (HloOp τ sig (Elt F)) :=
  [unary main_arg0 main_v0 ((extractStridedSlice S1 ![0] · slices_S2_S1_0) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    nullary main_c_0 (constantI S_ 32 0#32),
    nullary main_c_1 (constantI S_ 32 0#32),
    unaryIndexed main_arg1 ![main_c, main_v1, main_c_0, main_c_1] ⟨S_, .i32⟩ main_v2 ((fun x i => Host.dynamicSlice S4x1x1088x1024 x (fun k => (i k (Shape.Idx.first h_S_)).toInt) sliceFits_S4x2x1088x1024_S4x1x1088x1024) : (⟨S4x2x1088x1024, .bf16⟩ : BufTy).Contents (Elt F) → (Fin 4 → (⟨S_, .i32⟩ : BufTy).Contents (Elt F)) → (⟨S4x1x1088x1024, .bf16⟩ : BufTy).Contents (Elt F)),
    reshape main_v2 main_v3 (rfl : (.bf16 : EltTy) = .bf16) shapeCasts_S4x1x1088x1024_S4x1088x1024,
    unary main_v3 main_v4 ((extf .f32 · bitsLt_bf16_f32) : (⟨S4x1088x1024, .bf16⟩ : BufTy).Contents (Elt F) → (⟨S4x1088x1024, .f32⟩ : BufTy).Contents (Elt F)),
    unary main_arg2 main_v5 ((extf .f32 · bitsLt_bf16_f32) : (⟨S4x1088x1024, .bf16⟩ : BufTy).Contents (Elt F) → (⟨S4x1088x1024, .f32⟩ : BufTy).Contents (Elt F)),
    binary main_v4 main_v5 main_v6 (addf : (⟨S4x1088x1024, .f32⟩ : BufTy).Contents (Elt F) → (⟨S4x1088x1024, .f32⟩ : BufTy).Contents (Elt F) → (⟨S4x1088x1024, .f32⟩ : BufTy).Contents (Elt F)),
    unary main_v6 main_v7 ((truncf .bf16 · bitsLt_bf16_f32) : (⟨S4x1088x1024, .f32⟩ : BufTy).Contents (Elt F) → (⟨S4x1088x1024, .bf16⟩ : BufTy).Contents (Elt F))]

/-- The word naming the core, as the reference reads it. -/
def refCore (w : IVec S2 32) : IVec S_ 32 := shapeCast S_ (extractStridedSlice S1 ![0] w slices_S2_S1_0) shapeCasts_S1_S_

/-- The core's own blocks, at that word. -/
def refOwn (w : IVec S2 32) (x : FVec F S4x2x1088x1024 .bf16) : FVec F S4x1x1088x1024 .bf16 :=
  Host.dynamicSlice S4x1x1088x1024 x (fun k => ((![constantI S_ 32 0#32, refCore w, constantI S_ 32 0#32, constantI S_ 32 0#32] : Fin 4 → IVec S_ 32) k
    (Shape.Idx.first h_S_)).toInt) sliceFits_S4x2x1088x1024_S4x1x1088x1024

/-- The reference's sum. -/
def refSum (w : IVec S2 32) (x : FVec F S4x2x1088x1024 .bf16) (y : FVec F S4x1088x1024 .bf16) : FVec F S4x1088x1024 .bf16 :=
  truncf .bf16 (addf (extf .f32 (shapeCast S4x1088x1024 (refOwn w x) shapeCasts_S4x1x1088x1024_S4x1088x1024) bitsLt_bf16_f32)
    (extf .f32 y bitsLt_bf16_f32)) bitsLt_bf16_f32

theorem refOps_sub : (refOps : List (HloOp τ sig (Elt F))).Forall fun op => op.bufs ⊆ tcRefs τ sig :=
  ⟨unary_bufs_sub .., reshape_bufs_sub .., nullary_bufs_sub .., nullary_bufs_sub .., nullary_bufs_sub .., unaryIndexed_bufs_sub .., reshape_bufs_sub .., unary_bufs_sub .., unary_bufs_sub .., binary_bufs_sub .., unary_bufs_sub ..⟩

theorem refOps_sum (V : Valuation τ sig (Elt F)) :
    after (refOps (F := F)) V (Proc.devRef .tc main_v7) = refSum (F := F) (V (Proc.devRef .tc main_arg0)) (V (Proc.devRef .tc main_arg1))
      (V (Proc.devRef .tc main_arg2)) := by
  after_results_entrywise []

/-- The operations leave the arguments as they were. -/
theorem refOps_args (V : Valuation τ sig (Elt F)) :
    after (refOps (F := F)) V (Proc.devRef .tc main_arg0) = V (Proc.devRef .tc main_arg0)
      ∧ after (refOps (F := F)) V (Proc.devRef .tc main_arg1) = V (Proc.devRef .tc main_arg1)
      ∧ after (refOps (F := F)) V (Proc.devRef .tc main_arg2) = V (Proc.devRef .tc main_arg2) := by
  refine ⟨?_, ?_, ?_⟩ <;> after_results_simp

theorem main_refOps (c : Dev nD) : main (F := F) c = seq refOps := rfl

/-- The reference ends with its sum at its result, and with its arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refSum (F := F) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (refOps_sum _), (h c main_arg0).trans (refOps_args _).1,
      (h c main_arg1).trans (refOps_args _).2.1, (h c main_arg2).trans (refOps_args _).2.2⟩)
    (run_seq (by decide) (by decide) defs main (fun _ => refOps) main_refOps (fun _ => refOps_sub) m ρ)

end Reference

/-! ## The word -/

variable {F : FTy → Type} [FloatOps F]

/-- What the precondition says of the first word. -/
theorem word (w : IVec (⟨1, ![2]⟩ : Shape) 32) (a : FVec F (⟨4, ![4, 2, 1088, 1024]⟩ : Shape) .bf16)
    (b : FVec F (⟨3, ![4, 1088, 1024]⟩ : Shape) .bf16) (h : Cert.Pre_names_a_core.fn (F := F) w a b = fun _ => 1#1) :
    (w (ix1 0)).toNat < 2 ∧ (w (ix1 0)).toInt = (w (ix1 0)).toNat := by
  have e : ∀ y, (extractStridedSlice (⟨1, ![1]⟩ : Shape) ![0] w Cert.Pre_names_a_core.Gen.slices_S2_S1_0) y = w (ix1 0) := fun y =>
    congrArg w (funext fun a => by
      obtain rfl : a = 0 := Subsingleton.elim _ _
      exact Fin.ext (Nat.add_eq_left.mpr (Nat.lt_one_iff.mp (Fin.isLt _))))
  have hy := congrFun h (ix1 0)
  have hz : IntOp.andi (IntOp.cmpi .sge (extractStridedSlice (⟨1, ![1]⟩ : Shape) ![0] w Cert.Pre_names_a_core.Gen.slices_S2_S1_0 (ix1 0)) 0#32)
      (IntOp.cmpi .slt (extractStridedSlice (⟨1, ![1]⟩ : Shape) ![0] w Cert.Pre_names_a_core.Gen.slices_S2_S1_0 (ix1 0)) 2#32) = 1#1 := hy
  rw [e] at hz
  exact word_below (w (ix1 0)) 2#32 (by decide) hz

section Run

open Cert.PairSumIdeal Cert.PairSumIdeal.Gen

variable (m : (ℓ : Loc nD τ sig) → Buf (Elt F) ℓ)

/-- The word naming the core. -/
def core : ℕ := ((m ((0 : Dev nD).tc.loc main_arg0) : IVec S2 32) (ix1 0)).toNat

/-- Where the first window stands at a grid point. -/
theorem index_0 (i : grid0.Coords) : cc0_transform_0 inb_S2_S1_0 numel1_S1 (tbl m) i = ![(i 0).val, core m, (i 1).val, 0] := by
  have hi : (i 0).val < 4 := (i 0).isLt
  have hj : (i 1).val < 4 := (i 1).isLt
  have e0 : ((Rect.unit (s := S2) ![0] S1.size inb_S2_S1_0).emb (Shape.Idx.first (numel1_S1.symm ▸ Nat.one_pos)) : S2.Idx) = ix1 0 :=
    funext fun a => by obtain rfl : a = 0 := Subsingleton.elim _ _; exact Fin.ext rfl
  have h0 : ((tbl m).at 0 (Rect.unit (s := S2) ![0] S1.size inb_S2_S1_0) numel1_S1 : BitVec 32).toNat = core m :=
    congrArg (fun y => ((m ((0 : Dev nD).tc.loc main_arg0) : IVec S2 32) y).toNat) e0
  have h1 : (BitVec.ofNat 32 (i 0).val).toNat = (i 0).val := by rw [BitVec.toNat_ofNat]; omega
  have h2 : (BitVec.ofNat 32 (i 1).val).toNat = (i 1).val := by rw [BitVec.toNat_ofNat]; omega
  unfold cc0_transform_0
  dsimp only
  rw [h0, h1, h2]
  rfl

/-- Where the word names a core, every block the grid reads lies in its array. -/
theorem blocks_inside (h : core m < 2) : Ok m := by
  refine fun i => ⟨?_, .inr (Affine.block_words_dvd (of_decide_eq_true rfl) (by decide))⟩
  have hi : (i 0).val < 4 := (i 0).isLt
  have hj : (i 1).val < 4 := (i 1).isLt
  rw [index_0]
  intro a
  match a with
  | ⟨0, _⟩ => show ((i 0).val + 1) * 1 ≤ 4; omega
  | ⟨1, _⟩ => show (core m + 1) * 1 ≤ 2; omega
  | ⟨2, _⟩ => show ((i 1).val + 1) * 272 ≤ 1088; omega
  | ⟨3, _⟩ => show (0 + 1) * 1024 ≤ 1024; omega

end Run

/-! ## The sum -/

/-- The blocks of one core and those that came from the other, added entry by entry. -/
def both {r n : ℕ} (h : Fin 2) (x : (⟨4, ![4, 2, r, n]⟩ : Shape).Idx → EReal) (y : (⟨3, ![4, r, n]⟩ : Shape).Idx → EReal) :
    (⟨3, ![4, r, n]⟩ : Shape).Idx → EReal :=
  fun j => x (ix4 (j 0) h (j 1) (j 2)) + y j

/-- A second axis of one dropped. -/
theorem drop_second {α : Type} {a r n : ℕ} (x : (⟨4, ![a, 1, r, n]⟩ : Shape).Idx → α)
    (h : (⟨4, ![a, 1, r, n]⟩ : Shape).ShapeCasts ⟨3, ![a, r, n]⟩) (j : (⟨3, ![a, r, n]⟩ : Shape).Idx) :
    shapeCast ⟨3, ![a, r, n]⟩ x h j = x (ix4 (j 0) 0 (j 1) (j 2)) := by
  refine congrArg x (Shape.reshapeEquiv_eq_of_rowMajor h (y := ix4 (j 0) 0 (j 1) (j 2)) ?_)
  rw [Shape.rowMajor_val_three, Shape.rowMajor_val_four]
  show ((((j 0).val * 1 + 0) * r + (j 1).val) * n + (j 2).val : ℕ) = ((j 0).val * r + (j 1).val) * n + (j 2).val
  rw [mul_one, add_zero]

/-- A first axis of one added. -/
theorem add_one_axis {α : Type} {r n : ℕ} (x : (⟨2, ![r, n]⟩ : Shape).Idx → α) (h : (⟨2, ![r, n]⟩ : Shape).ShapeCasts ⟨3, ![1, r, n]⟩)
    (j : (⟨3, ![1, r, n]⟩ : Shape).Idx) : shapeCast ⟨3, ![1, r, n]⟩ x h j = x (ix2 (j 1) (j 2)) := by
  refine congrArg x (Shape.reshapeEquiv_eq_of_rowMajor h (y := ix2 (j 1) (j 2)) ?_)
  rw [Shape.rowMajor_val_two, Shape.rowMajor_val_three]
  have h0 : (j 0).val = 0 := Nat.lt_one_iff.mp (j 0).isLt
  show ((j 1).val * n + (j 2).val : ℕ) = ((j 0).val * r + (j 1).val) * n + (j 2).val
  rw [h0, zero_mul, zero_add]

/-- Blocks of whole rows, taken at one position of the second axis. -/
theorem slice_second {α : Type} {a b r n : ℕ} (x : (⟨4, ![a, b, r, n]⟩ : Shape).Idx → α) (start : Fin 4 → ℤ)
    (hs : (⟨4, ![a, b, r, n]⟩ : Shape).Slices (fun _ => 0) ⟨4, ![a, 1, r, n]⟩) (h : Fin b) (e0 : start 0 = (0 : ℕ))
    (e1 : start 1 = h.val) (e2 : start 2 = (0 : ℕ)) (e3 : start 3 = (0 : ℕ)) (k : Fin a) (p : Fin r) (q : Fin n) :
    Host.dynamicSlice (⟨4, ![a, 1, r, n]⟩ : Shape) x start hs (ix4 k 0 p q) = x (ix4 k h p q) := by
  have hh := h.isLt
  have c0 : Host.clampedStart ⟨4, ![a, b, r, n]⟩ ⟨4, ![a, 1, r, n]⟩ hs.1 start (0 : Fin 4) = 0 :=
    Host.clampedStart_of_le hs.1 start (0 : Fin 4) 0 e0 (show 0 + a ≤ a by omega)
  have c1 : Host.clampedStart ⟨4, ![a, b, r, n]⟩ ⟨4, ![a, 1, r, n]⟩ hs.1 start (1 : Fin 4) = h.val :=
    Host.clampedStart_of_le hs.1 start (1 : Fin 4) h.val e1 (show h.val + 1 ≤ b from hh)
  have c2 : Host.clampedStart ⟨4, ![a, b, r, n]⟩ ⟨4, ![a, 1, r, n]⟩ hs.1 start (2 : Fin 4) = 0 :=
    Host.clampedStart_of_le hs.1 start (2 : Fin 4) 0 e2 (show 0 + r ≤ r by omega)
  have c3 : Host.clampedStart ⟨4, ![a, b, r, n]⟩ ⟨4, ![a, 1, r, n]⟩ hs.1 start (3 : Fin 4) = 0 :=
    Host.clampedStart_of_le hs.1 start (3 : Fin 4) 0 e3 (show 0 + n ≤ n by omega)
  rw [Host.dynamicSlice_apply]
  refine congrArg x (funext fun d => Fin.ext ?_)
  match d with
  | ⟨0, _⟩ => exact (congrArg (· + k.val) c0).trans (zero_add _)
  | ⟨1, _⟩ => exact (congrArg (· + 0) c1).trans (add_zero _)
  | ⟨2, _⟩ => exact (congrArg (· + p.val) c2).trans (zero_add _)
  | ⟨3, _⟩ => exact (congrArg (· + q.val) c3).trans (zero_add _)

section Host

open Cert.PairSumRefIdeal Cert.PairSumRefIdeal.Gen

variable (w : IVec S2 32) (h : Fin 2) (hh : (w (ix1 0)).toInt = h.val)

theorem refCore_eq (i : S_.Idx) : refCore w i = w (ix1 0) :=
  congrArg w (funext fun a => by
    obtain rfl : a = 0 := Subsingleton.elim _ _
    exact Fin.ext (Nat.add_eq_left.mpr (Nat.lt_one_iff.mp (Fin.isLt _))))

include hh in
/-- The reference's sum, where the word names core `h`. -/
theorem host_both (x : FVec Ideal S4x2x1088x1024 .bf16) (y : FVec Ideal S4x1088x1024 .bf16) :
    refSum w x y = both (r := 1088) (n := 1024) h x y := by
  funext j
  have ho : shapeCast S4x1088x1024 (refOwn w x) shapeCasts_S4x1x1088x1024_S4x1088x1024 j = x (ix4 (j 0) h (j 1) (j 2)) :=
    (drop_second (a := 4) (r := 1088) (n := 1024) (refOwn w x) shapeCasts_S4x1x1088x1024_S4x1088x1024 j).trans
      (slice_second (a := 4) (r := 1088) (n := 1024) x _ _ h rfl ((congrArg BitVec.toInt (refCore_eq w _)).trans hh) rfl rfl (j 0) (j 1) (j 2))
  exact congrArg (· + y j) ho

end Host

/-! ## The kernel's sum -/

section Kernel

open Cert.PairSumIdeal Cert.PairSumIdeal.Gen

/-- What the body computes of its blocks. -/
theorem body_both (x : FVec Ideal S1x1x272x1024 .bf16) (y : FVec Ideal S1x272x1024 .bf16) (j : S1x272x1024.Idx) :
    k0_pay1 (F := Ideal) x y j = x (ix4 0 0 (j 1) (j 2)) + y (ix3 0 (j 1) (j 2)) := by
  have h0 := drop_two (r := 272) (n := 1024) x shapeCasts_S1x1x272x1024_S272x1024 (ix2 (j 1) (j 2))
  have h1 := drop_one (r := 272) (n := 1024) y shapeCasts_S1x272x1024_S272x1024 (ix2 (j 1) (j 2))
  unfold k0_pay1
  exact (add_one_axis (r := 272) (n := 1024) _ shapeCasts_S272x1024_S1x272x1024 j).trans (congrArg₂ (· + ·) h0 h1)

theorem out_A (c : Dev nD) (i : grid0.Coords) (arg3 : Memref sig .tc .vmem S1x1x272x1024 .bf16) (h3 : arg3.IsWhole)
    (arg4 : Memref sig .tc .vmem S1x272x1024 .bf16) (h4 : arg4.IsWhole) (arg5 : Memref sig .tc .vmem S1x272x1024 .bf16) (h5 : arg5.IsWhole)
    (x : Vec Ideal S1x1x272x1024 .bf16) (y : Vec Ideal S1x272x1024 .bf16) (w) (j : S1x272x1024.Idx) :
    out0_A_2 (F := Ideal) c i arg3 h3 arg4 h4 arg5 h5 x y w j = x (ix4 0 0 (j 1) (j 2)) + y (ix3 0 (j 1) (j 2)) := by
  unfold out0_A_2
  rw [View.read_writes_junk_eq_canon]
  unfold kernelRun0_A
  dsimp only
  rw [View.canon_unit_zero origin_3]
  rw [View.readAt_eq_ld, View.readAt_eq_ld, h3.read_unread, h4.read_unread, View.ld_unit_zero origin_4, View.ld_unit_zero origin_3]
  exact body_both x y j

variable (m : (ℓ : Loc nD τ sig) → Buf (Elt Ideal) ℓ) (hO : Ok m) (c : Dev nD)

/-- A grid point's two coordinates. -/
theorem coords : ∀ t : Fin grid0.N, (grid0.coords t 0).val = t.val / 4 ∧ (grid0.coords t 1).val = t.val % 4 := by decide +kernel

theorem few (t : Fin (cfgM m hO).N) : t.val < 16 := t.isLt

/-- The chip of a grid point. -/
def chip (t : Fin (cfgM m hO).N) : Fin 4 := ⟨t.val / 4, by have := few m hO t; omega⟩

/-- Row `p` of a grid point's tile among all the rows. -/
def row (t : Fin (cfgM m hO).N) (p : Fin 272) : Fin 1088 := ⟨t.val % 4 * 272 + p.val, by omega⟩

theorem stand_0 (t : Fin (cfgM m hO).N) : ((cfgM m hO).win 0).index t = ![t.val / 4, core m, t.val % 4, 0] := by
  refine (index_0 m (grid0.coords t)).trans ?_
  rw [(coords t).1, (coords t).2]

theorem stand_1 (t : Fin (cfgM m hO).N) : ((cfgM m hO).win 1).index t = ![t.val / 4, t.val % 4, 0] :=
  (by decide +kernel : ∀ t : Fin grid0.N, cc0_transform_1 (grid0.coords t) = ![t.val / 4, t.val % 4, 0]) t

theorem stand_2 (t : Fin (cfgM m hO).N) : ((cfgM m hO).win 2).index t = ![t.val / 4, t.val % 4, 0] :=
  (by decide +kernel : ∀ t : Fin grid0.N, cc0_transform_2 (grid0.coords t) = ![t.val / 4, t.val % 4, 0]) t

theorem block_0 (h : core m < 2) (t : Fin (cfgM m hO).N) (p : Fin 272) (q : Fin 1024) :
    (iblk m hO c 0 t : S1x1x272x1024.Idx → EReal) (ix4 0 0 p q) = V m c main_arg1 (ix4 (chip m hO t) ⟨core m, h⟩ (row m hO t p) q) := by
  have e := stand_0 m hO t
  refine congrArg (V m c main_arg1) (funext fun a => Fin.ext ?_)
  match a with
  | ⟨0, _⟩ =>
    show ((cfgM m hO).win 0).index t (0 : Fin 4) * 1 + 1 * 0 = t.val / 4
    rw [e]; show t.val / 4 * 1 + 1 * 0 = t.val / 4; omega
  | ⟨1, _⟩ =>
    show ((cfgM m hO).win 0).index t (1 : Fin 4) * 1 + 1 * 0 = core m
    rw [e]; show core m * 1 + 1 * 0 = core m; omega
  | ⟨2, _⟩ =>
    show ((cfgM m hO).win 0).index t (2 : Fin 4) * 272 + 1 * p.val = t.val % 4 * 272 + p.val
    rw [e]; show t.val % 4 * 272 + 1 * p.val = t.val % 4 * 272 + p.val; omega
  | ⟨3, _⟩ =>
    show ((cfgM m hO).win 0).index t (3 : Fin 4) * 1024 + 1 * q.val = q.val
    rw [e]; show 0 * 1024 + 1 * q.val = q.val; omega

theorem block_1 (t : Fin (cfgM m hO).N) (p : Fin 272) (q : Fin 1024) :
    (iblk m hO c 1 t : S1x272x1024.Idx → EReal) (ix3 0 p q) = V m c main_arg2 (ix3 (chip m hO t) (row m hO t p) q) := by
  have e := stand_1 m hO t
  refine congrArg (V m c main_arg2) (funext fun a => Fin.ext ?_)
  match a with
  | ⟨0, _⟩ =>
    show ((cfgM m hO).win 1).index t (0 : Fin 3) * 1 + 1 * 0 = t.val / 4
    rw [e]; show t.val / 4 * 1 + 1 * 0 = t.val / 4; omega
  | ⟨1, _⟩ =>
    show ((cfgM m hO).win 1).index t (1 : Fin 3) * 272 + 1 * p.val = t.val % 4 * 272 + p.val
    rw [e]; show t.val % 4 * 272 + 1 * p.val = t.val % 4 * 272 + p.val; omega
  | ⟨2, _⟩ =>
    show ((cfgM m hO).win 1).index t (2 : Fin 3) * 1024 + 1 * q.val = q.val
    rw [e]; show 0 * 1024 + 1 * q.val = q.val; omega

/-- The sum of the launch's arguments. -/
abbrev sumOf (h : core m < 2) : S4x1088x1024.Idx → EReal :=
  both (r := 1088) (n := 1024) ⟨core m, h⟩ (V m c main_arg1) (V m c main_arg2)

/-- What a grid point writes back is its rows of the sum. -/
theorem flushed_2 (h : core m < 2) (t : Fin (cfgM m hO).N) :
    (dats m hO 0 c).flushed 2 t = (((cfgM m hO).win 2).blk t).view.read (Elt Ideal) (sumOf m c h) := by
  show ((cfgM m hO).win 2).cut (grid0.coords t) ((dats m hO 0 c).after 2 t) = _
  rw [after0_2]
  have e := stand_2 m hO t
  have key (j : S1x272x1024.Idx) : outsAt0 m hO c t j = sumOf m c h (ix3 (chip m hO t) (row m hO t (j 1)) (j 2)) := by
    unfold outsAt0
    refine (out_A c (grid0.coords t) _ _ _ _ _ _ (iblk m hO c 0 t) (iblk m hO c 1 t) _ j).trans ?_
    exact congrArg₂ (· + ·) (block_0 m hO c h t (j 1) (j 2)) (block_1 m hO c t (j 1) (j 2))
  refine funext fun (j : S1x272x1024.Idx) => (key j).trans ?_
  have h0 : (j 0).val = 0 := Nat.lt_one_iff.mp (j 0).isLt
  refine congrArg (sumOf m c h) (funext fun a => Fin.ext ?_)
  match a with
  | ⟨0, _⟩ =>
    show t.val / 4 = ((cfgM m hO).win 2).index t (0 : Fin 3) * 1 + 1 * (j 0).val
    rw [e, h0]; show t.val / 4 = t.val / 4 * 1 + 1 * 0; omega
  | ⟨1, _⟩ =>
    show t.val % 4 * 272 + (j 1).val = ((cfgM m hO).win 2).index t (1 : Fin 3) * 272 + 1 * (j 1).val
    rw [e]; show t.val % 4 * 272 + (j 1).val = t.val % 4 * 272 + 1 * (j 1).val; omega
  | ⟨2, _⟩ =>
    show (j 2).val = ((cfgM m hO).win 2).index t (2 : Fin 3) * 1024 + 1 * (j 2).val
    rw [e]; show (j 2).val = 0 * 1024 + 1 * (j 2).val; omega

/-- Every entry lies in the tile of some grid point. -/
theorem covered_2 (i : S4x1088x1024.Idx) :
    ∃ t : Fin (cfgM m hO).N, ((cfgM m hO).win 2).flush t = true ∧ i ∈ (((cfgM m hO).win 2).blk t).view.set := by
  have hi0 : (i 0).val < 4 := (i 0).isLt
  have hi1 : (i 1).val < 1088 := (i 1).isLt
  have hi2 : (i 2).val < 1024 := (i 2).isLt
  obtain ⟨t, ht⟩ : ∃ t : Fin (cfgM m hO).N, t.val = (i 0).val * 4 + (i 1).val / 272 :=
    ⟨⟨(i 0).val * 4 + (i 1).val / 272, show _ < 16 by omega⟩, rfl⟩
  have e := stand_2 m hO t
  refine ⟨t, flush0_2 (adm m hO) t, ?_⟩
  refine (congrArg (i ∈ ·) (View.set_slice_whole main_v0 (((cfgM m hO).win 2).rect t))).mpr ?_
  refine Rect.mem_set_unit.mpr fun a => ?_
  match a with
  | ⟨0, _⟩ =>
    show ((cfgM m hO).win 2).index t (0 : Fin 3) * 1 ≤ (i 0).val ∧ (i 0).val < ((cfgM m hO).win 2).index t (0 : Fin 3) * 1 + 1
    rw [e]; show t.val / 4 * 1 ≤ (i 0).val ∧ (i 0).val < t.val / 4 * 1 + 1; omega
  | ⟨1, _⟩ =>
    show ((cfgM m hO).win 2).index t (1 : Fin 3) * 272 ≤ (i 1).val ∧ (i 1).val < ((cfgM m hO).win 2).index t (1 : Fin 3) * 272 + 272
    rw [e]; show t.val % 4 * 272 ≤ (i 1).val ∧ (i 1).val < t.val % 4 * 272 + 272; omega
  | ⟨2, _⟩ =>
    show ((cfgM m hO).win 2).index t (2 : Fin 3) * 1024 ≤ (i 2).val ∧ (i 2).val < ((cfgM m hO).win 2).index t (2 : Fin 3) * 1024 + 1024
    rw [e]; show 0 * 1024 ≤ (i 2).val ∧ (i 2).val < 0 * 1024 + 1024; omega

theorem result_2 (h : core m < 2) : (dats m hO 0 c).arrAt 2 (cfgM m hO).N = sumOf m c h :=
  (dats m hO 0 c).arrAt_eq_of_cover 2 _ (fun t _ => flushed_2 m hO c h t) (covered_2 m hO)

/-- The kernel ends with the sum at its result, and with its arguments unchanged. -/
theorem kernel_run (ρ : Dev nD → PrngReg) (h : core m < 2) :
    θ_run defs (onTc (τ := τ) (main (F := Ideal))) ⟨m, fun _ => 0, ρ⟩ fun r => ∀ c : Dev nD,
      r.2.mem ((c.tc : Thread nD τ).loc main_v0) = sumOf m c h
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have hO := blocks_inside m h
  (θ_run defs _ _).mono (fun r hr c =>
    ⟨((hr c).1 2).trans (result_2 m hO c h),
      (hr c).2 main_arg0 (by decide : main_arg0 ∈ Pipeline.restRefs sig spec0),
      ((hr c).1 0).trans (((dats m hO 0 c).arrAt_in 0 rfl _).trans (A_eq m hO c 0)),
      ((hr c).1 1).trans (((dats m hO 0 c).arrAt_in 1 rfl _).trans (A_eq m hO c 1))⟩)
    (run_main m ρ hO)

end Kernel

/-- The kernel's sum is the reference's. -/
theorem pair_sum : Cert.algebraic_PairSumIdeal_PairSumRefIdeal := fun m ρ m' ρ' hp hm =>
  have hw := word _ _ _ (hp 0)
  ⟨_, kernel_run m ρ hw.1,
    (θ_run Cert.PairSumRefIdeal.defs _ _).mono (fun r h c => ⟨by
      obtain rfl : c = 0 := Subsingleton.elim _ _
      rw [(h 0).1, (hm 0).1, (hm 0).2.1, (hm 0).2.2]
      exact host_both _ ⟨_, hw.1⟩ hw.2 _ _, (h c).2⟩) (ref_run m' ρ')⟩

/-! ## The frames -/

theorem frames_pair_sum : Cert.quiescent_PairSum ∧ Cert.quiescent_PairSumIdeal ∧ Cert.quiescent_PairSumRefIdeal
    ∧ Cert.quiescent_PairSumRefIdeal_pre_names_a_core :=
  have ref : Cert.quiescent_PairSumRefIdeal := fun m ρ _ =>
    (θ_run Cert.PairSumRefIdeal.defs _ _).mono (fun r h => ⟨fun c => (h c).2, sem_eq_zero_of_no_sems (by decide) r.2⟩)
      (ref_run (F := Ideal) m ρ)
  ⟨fun m ρ h => Cert.PairSum.Gen.frame (F := Bits) m ρ (blocks_inside m (word _ _ _ (h 0)).1),
    fun m ρ h => Cert.PairSumIdeal.Gen.frame (F := Ideal) m ρ (blocks_inside m (word _ _ _ (h 0)).1),
    ref, fun m ρ _ => ref m ρ trivial⟩

end Cert.PairSumProof
-- ==== Proof.Sums.lean ====
/- The sum of the eight devices' slots of each gradient: what the kernel adds is the reference's sum. -/
module

public import proofs.«01_k».proof.Defs
public import proofs.«01_k».proof.Proof.PartLemmas
public import proofs.«01_k».proof.Proof.Gen.SumBranchIdeal.Value
public import proofs.«01_k».proof.Proof.Gen.SumBranchRefIdeal.Run
public import proofs.«01_k».proof.Proof.Gen.SumOutIdeal.Value
public import proofs.«01_k».proof.Proof.Gen.SumOutRefIdeal.Run
public import proofs.«01_k».proof.Proof.Gen.SumUpIdeal.Value
public import proofs.«01_k».proof.Proof.Gen.SumUpRefIdeal.Run
public import proofs.«01_k».proof.Proof.Gen.SumDownIdeal.Value
public import proofs.«01_k».proof.Proof.Gen.SumDownRefIdeal.Run
public import proofs.«01_k».proof.Proof.Gen.SumConvIdeal.Value
public import proofs.«01_k».proof.Proof.Gen.SumConvRefIdeal.Run
public import proofs.«01_k».proof.Proof.Gen.SumSmallIdeal.Value
public import proofs.«01_k».proof.Proof.Gen.SumSmallRefIdeal.Run

@[expose] public section

noncomputable section

namespace Cert.Parts

open Idealize.ShloMosaic Idealize.ShloMosaic.TcCoe Idealize.SL.Sem

/-! ## The gradients that one grid point adds -/

theorem kernel_sum_branch (x : (⟨3, ![8, 512, 128]⟩ : Shape).Idx → EReal) : Cert.SumBranchIdeal.Value.G1 (F := Ideal) x = slotSum x :=
  body_slotSum x (by decide) Cert.SumBranchIdeal.Gen.shapeCasts_S1x512x128_S512x128

theorem sum_branch : Cert.algebraic_SumBranchIdeal_SumBranchRefIdeal := fun m ρ m' ρ' _ hm =>
  ⟨_, Cert.SumBranchIdeal.Value.run m ρ,
    (θ_run Cert.SumBranchRefIdeal.defs _ _).mono (fun r h c => ⟨by
      rw [(h c).1, hm c]
      exact (host_slotSum _ _ _).trans (kernel_sum_branch _).symm, (h c).2⟩) (Cert.SumBranchRefIdeal.Value.run m' ρ')⟩

theorem kernel_sum_out (x : (⟨3, ![8, 128, 1024]⟩ : Shape).Idx → EReal) : Cert.SumOutIdeal.Value.G1 (F := Ideal) x = slotSum x :=
  body_slotSum x (by decide) Cert.SumOutIdeal.Gen.shapeCasts_S1x128x1024_S128x1024

theorem sum_out : Cert.algebraic_SumOutIdeal_SumOutRefIdeal := fun m ρ m' ρ' _ hm =>
  ⟨_, Cert.SumOutIdeal.Value.run m ρ,
    (θ_run Cert.SumOutRefIdeal.defs _ _).mono (fun r h c => ⟨by
      rw [(h c).1, hm c]
      exact (host_slotSum _ _ _).trans (kernel_sum_out _).symm, (h c).2⟩) (Cert.SumOutRefIdeal.Value.run m' ρ')⟩

theorem kernel_sum_down (x : (⟨3, ![8, 352, 1024]⟩ : Shape).Idx → EReal) : Cert.SumDownIdeal.Value.G1 (F := Ideal) x = slotSum x :=
  body_slotSum x (by decide) Cert.SumDownIdeal.Gen.shapeCasts_S1x352x1024_S352x1024

theorem sum_down : Cert.algebraic_SumDownIdeal_SumDownRefIdeal := fun m ρ m' ρ' _ hm =>
  ⟨_, Cert.SumDownIdeal.Value.run m ρ,
    (θ_run Cert.SumDownRefIdeal.defs _ _).mono (fun r h c => ⟨by
      rw [(h c).1, hm c]
      exact (host_slotSum _ _ _).trans (kernel_sum_down _).symm, (h c).2⟩) (Cert.SumDownRefIdeal.Value.run m' ρ')⟩

theorem kernel_sum_conv (x : (⟨3, ![8, 8, 704]⟩ : Shape).Idx → EReal) : Cert.SumConvIdeal.Value.G1 (F := Ideal) x = slotSum x :=
  body_slotSum x (by decide) Cert.SumConvIdeal.Gen.shapeCasts_S1x8x704_S8x704

theorem sum_conv : Cert.algebraic_SumConvIdeal_SumConvRefIdeal := fun m ρ m' ρ' _ hm =>
  ⟨_, Cert.SumConvIdeal.Value.run m ρ,
    (θ_run Cert.SumConvRefIdeal.defs _ _).mono (fun r h c => ⟨by
      rw [(h c).1, hm c]
      exact (host_slotSum _ _ _).trans (kernel_sum_conv _).symm, (h c).2⟩) (Cert.SumConvRefIdeal.Value.run m' ρ')⟩

theorem kernel_sum_small (x : (⟨3, ![8, 72, 1024]⟩ : Shape).Idx → EReal) : Cert.SumSmallIdeal.Value.G1 (F := Ideal) x = slotSum x :=
  body_slotSum x (by decide) Cert.SumSmallIdeal.Gen.shapeCasts_S1x72x1024_S72x1024

theorem sum_small : Cert.algebraic_SumSmallIdeal_SumSmallRefIdeal := fun m ρ m' ρ' _ hm =>
  ⟨_, Cert.SumSmallIdeal.Value.run m ρ,
    (θ_run Cert.SumSmallRefIdeal.defs _ _).mono (fun r h c => ⟨by
      rw [(h c).1, hm c]
      exact (host_slotSum _ _ _).trans (kernel_sum_small _).symm, (h c).2⟩) (Cert.SumSmallRefIdeal.Value.run m' ρ')⟩

/-! ## The gradient of `w_up`, which two grid points add -/

section Up

open Cert.SumUpIdeal Cert.SumUpIdeal.Gen Cert.SumUpIdeal.Value

variable (m : (ℓ : Loc nD τ sig) → Buf (Elt Ideal) ℓ)

theorem up_zero : (![0, 0] : Fin 2 → Nat) = fun _ => 0 := funext fun a => by fin_cases a <;> rfl

/-- Where the two windows stand: both at the rows of the grid point. -/
theorem up_index : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 :=
  (by decide +kernel : ∀ t : Fin grid0.N, _)

/-- Each half of the rows is some grid point's. -/
theorem up_onto : ∀ q : Fin 2, ∃ t : Fin cfg0.N, win0_1.index t (0 : Fin 2) = q.val :=
  (by decide +kernel : ∀ q : Fin 2, ∃ t : Fin grid0.N, win0_1.index t (0 : Fin 2) = q.val)

/-- What a grid point writes back is its rows of the sum. -/
theorem up_flushed (c : Dev nD) (t : Fin cfg0.N) :
    (dats m 0 c).flushed 1 t = ((cfg0.win 1).blk t).view.read (Elt Ideal) (slotSum (r := 704) (n := 1024) (V m c main_arg0)) := by
  show (cfg0.win 1).cut (grid0.coords t) ((dats m 0 c).after 1 t) = _
  rw [after0_1]
  unfold out0_1
  rw [View.canon_unit_zero up_zero]
  refine (body_slotSum (r := 352) (n := 1024) (iblk m c 0 t) (by decide) shapeCasts_S1x352x1024_S352x1024).trans ?_
  funext j
  obtain ⟨e0, e1, e2, e3⟩ := up_index t
  show slotSum (r := 352) (n := 1024) (iblk m c 0 t) j = slotSum (r := 704) (n := 1024) (V m c main_arg0) (((cfg0.win 1).blk t).view.emb j)
  unfold slotSum
  refine congrArg (fun f : Fin 8 → EReal => ∑ k, f k) (funext fun k => ?_)
  refine congrArg (V m c main_arg0) ?_
  funext a
  apply Fin.ext
  match a with
  | ⟨0, _⟩ => show win0_0.index t (0 : Fin 3) * 8 + 1 * k.val = k.val; omega
  | ⟨1, _⟩ => show win0_0.index t (1 : Fin 3) * 352 + 1 * (j 0).val = win0_1.index t (0 : Fin 2) * 352 + 1 * (j 0).val; omega
  | ⟨2, _⟩ => show win0_0.index t (2 : Fin 3) * 1024 + 1 * (j 1).val = win0_1.index t (1 : Fin 2) * 1024 + 1 * (j 1).val; omega

/-- Every entry lies in the rows of some grid point. -/
theorem up_covered (i : S704x1024.Idx) : ∃ t : Fin cfg0.N, (cfg0.win 1).flush t = true ∧ i ∈ ((cfg0.win 1).blk t).view.set := by
  have hi0 : (i 0).val < 704 := (i 0).isLt
  have hi1 : (i 1).val < 1024 := (i 1).isLt
  obtain ⟨t, ht⟩ := up_onto ⟨(i 0).val / 352, by omega⟩
  obtain ⟨-, -, -, e3⟩ := up_index t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 352 ≤ (i 0).val ∧ (i 0).val < win0_1.index t (0 : Fin 2) * 352 + 352; simp only at ht; omega
  | ⟨1, _⟩ => show win0_1.index t (1 : Fin 2) * 1024 ≤ (i 1).val ∧ (i 1).val < win0_1.index t (1 : Fin 2) * 1024 + 1024; omega

theorem kernel_sum_up (c : Dev nD) :
    (dats m 0 c).arrAt 1 cfg0.N = slotSum (r := 704) (n := 1024) (m ((c : Thread nD τ).loc main_arg0)) :=
  ((dats m 0 c).arrAt_eq_of_cover 1 _ (fun t _ => up_flushed m c t) up_covered).trans (by rw [V_main_arg0])

end Up

theorem sum_up : Cert.algebraic_SumUpIdeal_SumUpRefIdeal := fun m ρ m' ρ' _ hm =>
  ⟨_, Cert.SumUpIdeal.Value.run_blocks m ρ,
    (θ_run Cert.SumUpRefIdeal.defs _ _).mono (fun r h c => ⟨by
      rw [(h c).1, hm c]
      exact (host_slotSum _ _ _).trans (kernel_sum_up m c).symm, (h c).2⟩) (Cert.SumUpRefIdeal.Value.run m' ρ')⟩

end Cert.Parts
-- ==== Proof.Swap.Start.lean ====
/-
# How the exchange's program starts and ends

The program is one kernel call per device, with nothing before or after it, and the call stages nothing: its two arrays
stay where they are and every transfer is the kernel's own.  Since the devices write into one another's result arrays with
no signal beforehand, what a device may write must be handed out across all devices BEFORE any of them starts.  `run_of`
is that start: all devices' scoped semaphores and arrays go through one common step (`hglob`), the pieces come back
device by device, each device's body runs on its piece, and what the bodies leave is read against the final memory.
-/
module

public import proofs.«01_k».proof.Proof.Gen.SwapIdeal
public import proofs.«01_k».proof.Proof.Gen.SwapIdeal.Skeleton
public import proofs.«01_k».proof.Proof.Gen.SwapIdeal.Launch
public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.SwapProof

open Cert.SwapIdeal Cert.SwapIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-- The eight transfer semaphores of the call. -/
abbrev osem : Fin 8 → SemLoc sig := fun i => .dma i

theorem ownSemFacts : Pipeline.OwnSemFacts cfg0.spec osem := by decide

/-- A device's eight semaphores, all at zero. -/
abbrev sems0 (c : Dev nD) : sProp 𝕄 := Pipeline.ownSems0 osem c

/-- No other semaphore of the call, and none that stages. -/
abbrev idle0 (c : Dev nD) : sProp 𝕄 := Pipeline.idleSems0 cfgs cellOf_inj (0 : Fin 1) ownSemFacts c

omit [FloatOps F] in
theorem scoped_split (c : Dev nD) :
    (scopedSems0 (c.tc : Thread nD τ) : sProp 𝕄) = iprop((Pipeline.cellsSems0 cfgs (0 : Fin 1) c ∗ sems0 c) ∗ idle0 c) :=
  Pipeline.scopedSems0_split cfgs cellOf_inj (0 : Fin 1) winFacts0.to₀ ownSemFacts c

omit [FloatOps F] in
/-- One level per cell, set on every device at once. -/
theorem levels_set (L : GSem nD τ sig → Finset Unit) (lv : GSem nD τ sig → Unit → ℕ) (hL : ∀ g : GSem nD τ sig, g.1.2 ≠ .tc → L g = ∅) :
    (bigSep Finset.univ fun c : Dev nD => levels0 c) ⊢ (|==> levAts L lv : sProp 𝕄) := by
  have hoff : ∀ d : Dev nD, bigSep (Finset.univ.erase Proc.tc) (fun p => (coreLevAts ((d, p) : Thread nD τ) L lv : sProp 𝕄)) = BI.emp := fun d => by
    refine (bigSep_congr (Ψ := fun _ => (BI.emp : sProp 𝕄)) fun p hp => ?_).trans (BI.bigSep_emp_const _)
    unfold coreLevAts
    refine (bigSep_congr (Ψ := fun _ => (BI.emp : sProp 𝕄)) fun sm _ => ?_).trans (BI.bigSep_emp_const _)
    rw [hL ((d, p), sm) (Finset.ne_of_mem_erase hp), BI.bigSep_empty]
  have hall : (levAts L lv : sProp 𝕄) = iprop((bigSep Finset.univ fun d : Dev nD => coreLevAts (d.tc : Thread nD τ) L lv) ∗ BI.emp) := by
    rw [show (levAts L lv : sProp 𝕄) = bigSep Finset.univ fun c : Thread nD τ => coreLevAts c L lv
      from bigSep_univ_prod fun g : GSem nD τ sig => bigSep (L g) fun ι => levAt g ι (lv g ι), bigSep_threads (fun c : Thread nD τ => coreLevAts c L lv)]
    exact congrArg _ ((bigSep_congr fun d _ => hoff d).trans (BI.bigSep_emp_const _))
  have hfin : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_sep']
    iintro ⟨-, H⟩
    isplitl [H]; · iexact H
    iempintro
  exact (bigSep_mono fun c _ => lev_assign_cells (c.tc : Thread nD τ) L lv).trans ((BI.bigSep_bupd _ _).trans (BI.bupd_mono hfin))

omit [FloatOps F] in
/-- Nothing is staged: the call's entry needs no resource of a window. -/
theorem noWin (Φ : Fin cfg0.W → sProp 𝕄) : bigSep Finset.univ Φ = BI.emp := by
  rw [show (Finset.univ : Finset (Fin cfg0.W)) = ∅ from rfl, BI.bigSep_empty]

/-- THE START.  `hglob` deals the scoped semaphores and the arrays of ALL devices at once; then each device's body runs. -/
theorem run_of (dats : (p : Fin 1) → (c : Dev nD) → Dat τ (Elt F) Unit ℕ UU ℕ (cfgs p) c)
    (hbody : ∀ c, BodyObligation (dats 0 c) (defs₀ (F := F)) 𝒱₀ () Set.univ)
    (O₀ : Dev nD → CellTallies nD τ sig Unit) (howed₀ : ∀ c, (dats 0 c).owed 0 = O₀ c) (howedN : ∀ c, (dats 0 c).owed (Fin.last _) = 0)
    (L : GSem nD τ sig → Finset Unit) (lv : GSem nD τ sig → Unit → ℕ) (hL : ∀ g : GSem nD τ sig, g.1.2 ≠ .tc → L g = ∅)
    (G G' : Dev nD → sProp 𝕄) (u₀ : UU) (hu₀ : (ownU u₀ : sProp 𝕄) ⊢ |={Set.univ}=> bigSep Finset.univ G)
    (hglob : (bigSep Finset.univ fun c => iprop(sems0 c ∗ unscopedBufs c (fun b => m ((c.tc : Thread nD τ).loc b)) ∗ G c) : sProp 𝕄)
      ⊢ |={Set.univ}=> bigSep Finset.univ G')
    (hin : ∀ c, iprop(G' c ∗ levAts L lv ∗ Pipeline.launchCred O₀ c) ⊢ (dats 0 c).Φ 0)
    (Y : Dev nD → sProp 𝕄) (hout : ∀ c, (dats 0 c).Φ (Fin.last cfg0.N) ⊢ iprop(Y c ∗ sems0 c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s) → (∀ g' : GSem nD τ sig, (g'.1.2 ≠ .tc ∨ g'.2.isScoped .tc = true) → s.sem g' = 0) → Q (⟨⟩, s)) :
    θ_run defs (onTc (τ := τ) (main (F := F))) ⟨m, fun _ => 0, ρ⟩ Q := by
  classical
  let pre : Dev nD → sProp 𝕄 := fun c =>
    iprop(scopedBufs (c.tc : Thread nD τ) ∗ idle0 c ∗ owes (c.tc : Thread nD τ) (O₀ c) ∅ ∗ levAts L lv ∗ Pipeline.launchCred O₀ c ∗ G' c)
  let fin : Dev nD → sProp 𝕄 := fun c => iprop(Y c ∗ scopedSems0 (c.tc : Thread nD τ))
  refine (θ_run (Pipeline.defs pcfgs defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcfgs defs₀) _ _ _
      (reflect_intro_fupd_tc_sems (X := Unit) (Variants.lift 𝒱₀) (Pipeline.owing O₀) 0 (noBookings fun _ => le_rfl) (Pipeline.owing_of_ne O₀) u₀
        (fun _ => pre) (fun _ => fin) (fun _ => iprop(emp)) Set.univ ?_ (fun _ c => ?_) fun _ => ?_))
  · -- every device's holdings sorted by kind, the levels set, the common step taken
    have hone (c : Dev nD) :
        coreInit (Ix := Unit) (Name := ℕ) (U := UU) (Lvl := ℕ) (Pipeline.owing O₀) 0 (⟨m, fun _ => 0, ρ⟩ : MemSt nD τ sig (Elt F)) (c.tc : Thread nD τ)
          ⊢ iprop((scopedBufs (c.tc : Thread nD τ) ∗ idle0 c ∗ owes (c.tc : Thread nD τ) (O₀ c) ∅ ∗ Pipeline.launchCred O₀ c)
              ∗ levels0 c ∗ sems0 c ∗ unscopedBufs c (fun b => m ((c.tc : Thread nD τ).loc b))) := by
      refine (Pipeline.coreInit_boundary_owing O₀ m ρ c).trans ?_
      unfold boundary
      rw [scoped_split]
      iintro ⟨⟨Hsb, ⟨⟨-, Hown⟩, Hidle⟩, -⟩, Hub, -, Ho, Hlv, -, Hcr⟩
      isplitl [Hsb Hidle Ho Hcr]
      · isplitl [Hsb]; · iexact Hsb
        isplitl [Hidle]; · iexact Hidle
        isplitl [Ho] <;> iassumption
      isplitl [Hlv]; · iexact Hlv
      isplitl [Hown] <;> iassumption
    have hcores : (bigSep Finset.univ fun c : Dev nD =>
          coreInit (Ix := Unit) (Name := ℕ) (U := UU) (Lvl := ℕ) (Pipeline.owing O₀) 0 (⟨m, fun _ => 0, ρ⟩ : MemSt nD τ sig (Elt F)) (c.tc : Thread nD τ))
        ⊢ iprop((bigSep Finset.univ fun c : Dev nD => iprop(scopedBufs (c.tc : Thread nD τ) ∗ idle0 c ∗ owes (c.tc : Thread nD τ) (O₀ c) ∅ ∗ Pipeline.launchCred O₀ c))
            ∗ (bigSep Finset.univ fun c : Dev nD => levels0 c)
            ∗ (bigSep Finset.univ fun c : Dev nD => iprop(sems0 c ∗ unscopedBufs c (fun b => m ((c.tc : Thread nD τ).loc b)))) : sProp 𝕄) := by
      refine (bigSep_mono fun c _ => hone c).trans ?_
      simp only [bigSep_sep']
      exact BI.Entails.refl _
    iintro ⟨Hcores, Hu⟩
    ihave Hc := hcores $$ Hcores
    icases Hc with ⟨Hkeep, Hlv, Hown⟩
    imod (levels_set L lv hL) $$ Hlv with #Hla
    imod hu₀ $$ Hu with HG
    imod hglob $$ [Hown HG] with HG'
    · simp only [bigSep_sep']
      icases Hown with ⟨H1, H2⟩
      isplitl [H1]; · iexact H1
      isplitl [H2] <;> iassumption
    imodintro
    iexists ()
    isplitr []
    · simp only [pre, bigSep_sep']
      icases Hkeep with ⟨H1, H2, H3, H4⟩
      isplitl [H1]; · iexact H1
      isplitl [H2]; · iexact H2
      isplitl [H3]; · iexact H3
      isplitr
      · iapply (BI.bigSep_intro_persistent (S := Finset.univ) fun (c : Dev nD) _ => (BI.Entails.refl (levAts L lv : sProp 𝕄)))
        iexact Hla
      isplitl [H4] <;> iassumption
    · iempintro
  · -- one device: its call, then the return
    have hsb : (scopedBufs (c.tc : Thread nD τ) : sProp 𝕄) = iprop(Dat.staging cfg0 c ∗ Pipeline.scopedRest cfg0.spec c) :=
      Pipeline.scopedBufs_split cfgs (0 : Fin 1) winFacts0.stage_scoped winFacts0.stage_inj stage_whole0 c
    have hpost : Pipeline.EntryPost cfgs dats () (0 : Fin 1) c ⊢ iprop(∃ W, owes (c.tc : Thread nD τ) (0 : CellTallies nD τ sig Unit) W) := by
      unfold Pipeline.EntryPost Pipeline.PerCore.EntryPost Dat.owesAt Pipeline.owesWithin
      rw [howedN c]
      iintro ⟨-, ⟨%W, -, HW⟩⟩
      iexists W; iexact HW
    simp only [pre]
    rw [show main (F := F) c = .op (.customCall (Pipeline.entry 0) ()) fun _ => .ret ⟨⟩ from rfl]
    iintro ⟨Hsb, Hidle, Ho, #Hla, Hcr, HG⟩
    iapply (Pipeline.wp_customCall_entry_frame pcfgs (fun p => (cfgs p).toPCfg_adm) dats () EP (fun _ => 0) cellOf_inj (0 : Fin 1) defs₀ 𝒱₀ (fun _ => fullShare.right) c Set.univ
        (fun _ _ => Set.mem_univ _) (hbody c).loose block_pos0 none (fun u h => nomatch h)
        (X := iprop(G' c ∗ levAts L lv ∗ Pipeline.launchCred O₀ c)) (Y := Y c) (R := Pipeline.scopedRest cfg0.spec c) (I := idle0 c)
        (Entails.of_eq hsb) (by iintro ⟨HX, -, -⟩; iapply (hin c); iexact HX)
        (by
          rw [hsb, scoped_split, scopedRest0_eq]
          iintro ⟨HΦ, Hcells, Hst, Hidle⟩
          ihave H := (hout c) $$ HΦ
          icases H with ⟨HY, Hown⟩
          isplitl [HY]; · iexact HY
          isplitr [Hst]
          · isplitr [Hidle]
            · isplitl [Hcells] <;> iassumption
            iexact Hidle
          isplitl [Hst]; · iexact Hst
          iempintro)
        (k := fun _ => .ret ⟨⟩) (Q := fun _ => post (liftTc fin BI.emp) (c.tc : Thread nD τ))) $$ [Hsb Hidle Ho Hcr HG]
    · isplitl [Ho]
      · unfold Pipeline.EntryPre Pipeline.PerCore.EntryPre Dat.owesAt Pipeline.owesWithin
        rw [howed₀ c]
        unfold Dat.arrays Pipeline.PerCore.cellsWaits Pipeline.PerCore.cellsInit Pipeline.PerCore.toksInit
          Pipeline.PerCore.RDat.cellsWaits Pipeline.PerCore.RDat.cellsInit
        rw [noWin, noWin, noWin, noWin]
        isplitr; · iempintro
        isplitl [Ho]
        · iexists ∅; isplitr; · ipureintro; rw [Finset.coe_empty]; exact Set.empty_subset _
          iexact Ho
        isplitr; · iempintro
        isplitr <;> iempintro
      isplitr
      · unfold Pipeline.prefHeld
        rw [show (Finset.univ : Finset (Fin (pcfgs (F := F) 0).pre.K)) = ∅ from rfl, BI.bigSep_empty]
        iempintro
      isplitl [Hcr HG]
      · isplitl [HG]; · iexact HG
        isplitr; · iexact Hla
        iexact Hcr
      isplitl [Hidle]; · iexact Hidle
      iexact Hsb
    iintro ⟨Hpost, HY, Hss, -⟩
    rw [wp_ret]; imodintro
    unfold post; simp only [liftTc_tc, fin]
    isplitr [Hpost]
    · isplitl [HY] <;> iassumption
    · iapply hpost; iexact Hpost
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.SwapProof

end
-- ==== Proof.Swap.Plan.lean ====
/-
# The plan of the exchange between cores: who writes what where, and on which semaphore

Device `d = 4x + 2y + c` holds four pairs of blocks.  Write `flip a d` for the device whose number is `d` with the bits of `a`
turned over.  Transfer `k` of device `d` takes, of pair `k`, the block that the other core of the chip is to have, and brings
it into slot `k` of that core's result.

The source blocks of a device's transfers do not meet, and the slots of a result are all of it.  `outF` says what a device's
result holds in the end: at slot `k`, what its sender has at the source of transfer `k`.  Every semaphore counts one
transfer, and a device waits only after it has started all of its transfers.
-/
module

public import proofs.«01_k».proof.Proof.Swap.Start
public import Idealize.ShloMosaic.Lib.Ring

@[expose] public section

noncomputable section

namespace Cert.SwapProof

open Cert.SwapIdeal Cert.SwapIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices and slots -/

/-- The device whose number differs from `c`'s in the bits of `a`. -/
def flip (a : ℕ) (c : Dev nD) : Dev nD := ⟨(c.val ^^^ a) % 8, Nat.mod_lt _ (by decide)⟩

/-- Whom transfer `k` of a device goes to, and from whom transfer `k` comes. -/
def peer (k : Fin 4) (c : Dev nD) : Dev nD := flip ((![1, 1, 1, 1] : Fin 4 → ℕ) k) c

theorem peer_peer (k : Fin 4) (c : Dev nD) : peer k (peer k c) = c := by revert k c; decide

/-- The transfers paired with their senders, seen from their receivers. -/
def across : Dev nD × Fin 4 ≃ Dev nD × Fin 4 :=
  ⟨fun x => (peer x.2 x.1, x.2), fun x => (peer x.2 x.1, x.2), fun x => by simp only [peer_peer], fun x => by simp only [peer_peer]⟩

/-! ## Arrays -/

abbrev xM : Memref sig .tc .hbm S4x2x1088x1024 .bf16 := Memref.whole main_arg0
abbrev oM : Memref sig .tc .hbm S4x1088x1024 .bf16 := Memref.whole main_v1

/-- One block of the operand, at an offset. -/
abbrev srcM (off : Fin 4 → ℕ) (h : ∀ a, off a + S1x1x1088x1024.size a ≤ S4x2x1088x1024.size a) : Memref sig .tc .hbm S1088x1024 .bf16 :=
  (xM.slice (Rect.unit (s := S4x2x1088x1024) off S1x1x1088x1024.size h) (fun _ => rfl)).squeeze S1088x1024 squeezes_S1x1x1088x1024_S1088x1024

/-- One slot of the result, at an offset. -/
abbrev slotM (off : Fin 3 → ℕ) (h : ∀ a, off a + S1x1088x1024.size a ≤ S4x1088x1024.size a) : Memref sig .tc .hbm S1088x1024 .bf16 :=
  (oM.slice (Rect.unit (s := S4x1088x1024) off S1x1088x1024.size h) (fun _ => rfl)).squeeze S1088x1024 squeezes_S1x1088x1024_S1088x1024

/-- Where the block that transfer `k` of device `c` takes begins. -/
abbrev srcOff (k : Fin 4) (c : Dev nD) : Fin 4 → ℕ := ![k.val, 1 - c.val % 2, 0, 0]
theorem srcOff_inb (k : Fin 4) (c : Dev nD) : ∀ a, srcOff k c a + S1x1x1088x1024.size a ≤ S4x2x1088x1024.size a := by revert k c; decide

abbrev srcRect (k : Fin 4) (c : Dev nD) : Rect S4x2x1088x1024 := Rect.unit (s := S4x2x1088x1024) (srcOff k c) S1x1x1088x1024.size (srcOff_inb k c)
abbrev src (k : Fin 4) (c : Dev nD) : Memref sig .tc .hbm S1088x1024 .bf16 := srcM (srcOff k c) (srcOff_inb k c)

abbrev offJ (k : Fin 4) : Fin 3 → ℕ := ![k.val, 0, 0]
theorem offJ_inb (k : Fin 4) : ∀ a, offJ k a + S1x1088x1024.size a ≤ S4x1088x1024.size a := by revert k; decide

abbrev slotRect (k : Fin 4) : Rect S4x1088x1024 := Rect.unit (s := S4x1088x1024) (offJ k) S1x1088x1024.size (offJ_inb k)
abbrev slot (k : Fin 4) : Memref sig .tc .hbm S1088x1024 .bf16 := slotM (offJ k) (offJ_inb k)

theorem slot_set (k : Fin 4) : (slot k).view.set = (slotRect k).set := by
  have h1 := View.set_reshape ((View.whole main_v1).slice (slotRect k)) squeezes_S1x1088x1024_S1088x1024.numel_eq
  exact h1.trans (View.set_slice_whole main_v1 (slotRect k))

theorem src_set (k : Fin 4) (c : Dev nD) : (src k c).view.set = (srcRect k c).set := by
  have h1 := View.set_reshape ((View.whole main_arg0).slice (srcRect k c)) squeezes_S1x1x1088x1024_S1088x1024.numel_eq
  exact h1.trans (View.set_slice_whole main_arg0 (srcRect k c))

theorem slots_disjoint (j j' : Fin 4) (h : j ≠ j') : Disjoint (slotRect j).set (slotRect j').set :=
  Ring.lead_disjoint (NB := 4) (s := S4x1088x1024) 0 1 offJ S1x1088x1024.size offJ_inb (fun b => by show b.val = _; omega) rfl j j' h

theorem slots_cover : Finset.univ.biUnion (fun j : Fin 4 => (slotRect j).set) = Finset.univ :=
  Ring.lead_cover (NB := 4) (s := S4x1088x1024) 0 1 offJ S1x1088x1024.size offJ_inb (fun b => by show b.val = _; omega)
    (by intro b a ha; fin_cases a <;> first | exact absurd rfl ha | rfl) rfl (by intro a ha; fin_cases a <;> first | exact absurd rfl ha | rfl) rfl

theorem src_apart : ∀ (c : Dev nD) (k k' : Fin 4), k ≠ k' → srcOff k c 0 + 1 ≤ srcOff k' c 0 ∨ srcOff k' c 0 + 1 ≤ srcOff k c 0 := by decide

theorem src_disjoint (c : Dev nD) (k k' : Fin 4) (h : k ≠ k') : Disjoint (srcRect k c).set (srcRect k' c).set := by
  rw [Finset.disjoint_left]
  intro i hi hi'
  have h1 := (Rect.mem_set_unit.mp hi) 0
  have h2 := (Rect.mem_set_unit.mp hi') 0
  have e : S1x1x1088x1024.size 0 = 1 := rfl
  rw [e] at h1 h2
  rcases src_apart c k k' h with h | h <;> omega

/-- The blocks a device sends, and what is left of its operand. -/
def blockSet (c : Dev nD) : Fin 4 ⊕ Unit → Finset S4x2x1088x1024.Idx
  | .inl k => (srcRect k c).set
  | .inr _ => Finset.univ \ Finset.univ.biUnion fun k : Fin 4 => (srcRect k c).set

theorem blocks_disjoint (c : Dev nD) (b b' : Fin 4 ⊕ Unit) (h : b ≠ b') : Disjoint (blockSet c b) (blockSet c b') := by
  have hl (k : Fin 4) : Disjoint (srcRect k c).set (Finset.univ \ Finset.univ.biUnion fun k : Fin 4 => (srcRect k c).set) :=
    Finset.disjoint_left.mpr fun i hi hi' => (Finset.mem_sdiff.mp hi').2 (Finset.mem_biUnion.mpr ⟨k, Finset.mem_univ _, hi⟩)
  rcases b with k | u <;> rcases b' with k' | u'
  · exact src_disjoint c k k' fun e => h (congrArg Sum.inl e)
  · exact hl k
  · exact (hl k').symm
  · exact absurd rfl h

theorem blocks_cover (c : Dev nD) : Finset.univ.biUnion (blockSet c) = Finset.univ := by
  refine Finset.eq_univ_iff_forall.mpr fun i => Finset.mem_biUnion.mpr ?_
  by_cases hi : i ∈ Finset.univ.biUnion fun k : Fin 4 => (srcRect k c).set
  · obtain ⟨k, -, hk⟩ := Finset.mem_biUnion.mp hi
    exact ⟨.inl k, Finset.mem_univ _, hk⟩
  · exact ⟨.inr (), Finset.mem_univ _, Finset.mem_sdiff.mpr ⟨Finset.mem_univ _, hi⟩⟩

/-! ## Contents -/

/-- The slot of an element of the result … -/
def kOf (i : S4x1088x1024.Idx) : Fin 4 := ⟨(i (0 : Fin 3)).val, (i (0 : Fin 3)).isLt⟩
/-- … and its place in the slot. -/
def row (i : S4x1088x1024.Idx) : S1088x1024.Idx := fun a => i (Fin.succ a)

/-- What device `c` ends with: in slot `k`, the block that its sender takes for transfer `k`. -/
def outF (c : Dev nD) : (main_v1 : Ref sig .tc).ty.Contents (Elt F) := fun i =>
  (src (kOf i) (peer (kOf i) c)).view.read (Elt F) (m ((peer (kOf i) c : Thread nD τ).loc main_arg0)) (row i)

omit [FloatOps F] in
theorem outF_slot (k : Fin 4) (c : Dev nD) (y : S1088x1024.Idx) :
    outF m c ((slot k).view.emb y) = (src k (peer k c)).view.read (Elt F) (m ((peer k c : Thread nD τ).loc main_arg0)) y := by
  have he : ∀ a, ((slot k).view.emb y a).val = offJ k a + 1 * ((Fin.cons ⟨0, Nat.one_pos⟩ y : S1x1088x1024.Idx) a).val := fun a => by
    have e := Shape.reshapeEquiv_cons_one (d := ![1088, 1024]) squeezes_S1x1088x1024_S1088x1024.numel_eq y
    exact congrArg (fun z : S1x1088x1024.Idx => offJ k a + 1 * (z a).val) e
  have h0 : kOf ((slot k).view.emb y) = k := Fin.ext ((he 0).trans (by show k.val + 1 * 0 = k.val; omega))
  have hr : row ((slot k).view.emb y) = y := funext fun a => Fin.ext ((he a.succ).trans (by
    fin_cases a
    · show 0 + 1 * (y 0).val = (y 0).val; omega
    · show 0 + 1 * (y 1).val = (y 1).val; omega))
  unfold outF
  rw [h0, hr]

omit [FloatOps F] in
/-- A block landed in its slot. -/
theorem landed (k : Fin 4) (c : Dev nD) (fd : (main_v1 : Ref sig .tc).ty.Contents (Elt F)) (i) (hi : i ∈ (slot k).view.set) :
    (slot k).view.write (Elt F) fd ((src k c).view.read (Elt F) (m ((c : Thread nD τ).loc main_arg0))) Finset.univ i = outF m (peer k c) i := by
  obtain ⟨y, -, rfl⟩ := Finset.mem_map.mp hi
  rw [View.write_emb_of_mem _ _ (Finset.mem_univ y), outF_slot, peer_peer]; rfl

/-! ## What a device holds -/

/-- Slot `k` of device `c`'s result, whole, holding `f`. -/
def slotPts (c : Dev nD) (k : Fin 4) (f : (main_v1 : Ref sig .tc).ty.Contents (Elt F)) : sProp 𝕄 :=
  (slot k).view.loc (c : Thread nD τ) ↦[(slot k).view.set]{fullShare} f

/-- The block that device `c` sends by transfer `k`. -/
def srcPts (c : Dev nD) (k : Fin 4) : sProp 𝕄 :=
  (src k c).view.loc (c : Thread nD τ) ↦[(src k c).view.set]{fullShare} m ((c : Thread nD τ).loc main_arg0)

/-- What it does not send. -/
def restPts (c : Dev nD) : sProp 𝕄 :=
  ((c : Thread nD τ).loc main_arg0) ↦[blockSet c (.inr ())]{fullShare} m ((c : Thread nD τ).loc main_arg0)

omit [FloatOps F] in
instance slotPts_storable (c : Dev nD) (k : Fin 4) (f) : BI.Storable (upEmb : UEmb _ 𝕄) (slotPts (F := F) c k f) := by unfold slotPts; infer_instance
omit [FloatOps F] in
instance srcPts_storable (c : Dev nD) (k : Fin 4) : BI.Storable (upEmb : UEmb _ 𝕄) (srcPts (F := F) m c k) := by unfold srcPts; infer_instance

omit [FloatOps F] in
/-- The result held whole is held slot by slot. -/
theorem result_slots (c : Dev nD) (f : (main_v1 : Ref sig .tc).ty.Contents (Elt F)) :
    (((c : Thread nD τ).loc main_v1) ↦{fullShare} f : sProp 𝕄) = bigSep Finset.univ fun k : Fin 4 => slotPts c k f := by
  refine (Ring.pointsTo_blocks (ℓ := (c : Thread nD τ).loc main_v1) (fun j : Fin 4 => (slotRect j).set) slots_disjoint slots_cover f).trans ?_
  exact bigSep_congr fun j _ => by unfold slotPts; rw [slot_set]

omit [FloatOps F] in
/-- The operand held whole is held block by block. -/
theorem operand_blocks (c : Dev nD) :
    (((c : Thread nD τ).loc main_arg0) ↦{fullShare} m ((c : Thread nD τ).loc main_arg0) : sProp 𝕄)
      = iprop((bigSep Finset.univ fun k : Fin 4 => srcPts m c k) ∗ restPts m c) := by
  refine (Ring.pointsTo_blocks (ℓ := (c : Thread nD τ).loc main_arg0) (blockSet c) (blocks_disjoint c) (blocks_cover c) _).trans ?_
  rw [bigSep_univ_sum, bigSep_univ_of_subsingleton ()]
  refine congrArg₂ _ (bigSep_congr fun k _ => ?_) rfl
  unfold srcPts; rw [src_set]; rfl

/-! ## The semaphores -/

/-- Send and receive semaphores among the eight. -/
abbrev sI (k : Fin 4) : Fin 8 := ⟨k.val, by omega⟩
abbrev vI (k : Fin 4) : Fin 8 := ⟨4 + k.val, by omega⟩

def parts : Fin 4 ⊕ Fin 4 ≃ Fin 8 where
  toFun | .inl k => sI k | .inr k => vI k
  invFun i := if h : i.val < 4 then .inl ⟨i.val, h⟩ else .inr ⟨i.val - 4, by omega⟩
  left_inv := by decide
  right_inv := by decide

theorem bigSep_parts (Φ : Fin 8 → sProp 𝕄) :
    bigSep Finset.univ Φ = iprop((bigSep Finset.univ fun k : Fin 4 => Φ (sI k)) ∗ (bigSep Finset.univ fun k : Fin 4 => Φ (vI k))) := by
  rw [bigSep_univ_equiv parts Φ, bigSep_univ_sum]
  rfl

abbrev kcell (ck : Dev nD × Fin 8) : GSem nD τ sig := ((ck.1 : Thread nD τ), .dma ck.2)
abbrev sCell (k : Fin 4) (c : Dev nD) : GSem nD τ sig := kcell (c, sI k)
abbrev vCell (k : Fin 4) (c : Dev nD) : GSem nD τ sig := kcell (c, vI k)

theorem kcell_injective : Function.Injective kcell := by
  rintro ⟨c, i⟩ ⟨c', i'⟩ h
  have h1 : c = c' := congrArg (fun g : GSem nD τ sig => g.1.1) h
  have h2 : i = i' := SemLoc.dma.inj (congrArg Prod.snd h)
  rw [h1, h2]

/-- What one transfer counts. -/
theorem credit_exists : ∃ n : ℕ, 0 < n ∧ ∀ M : Memref sig .tc .hbm S1088x1024 .bf16, M.view.dmaCredit = n :=
  ⟨RefSig.tileCredit S1088x1024 .bf16, RefSig.tileCredit_pos _ _ (Shape.numel_pos (by decide)), fun _ => rfl⟩
def N : ℕ := credit_exists.choose
theorem N_pos : 0 < N := credit_exists.choose_spec.1
theorem credit_N (M : Memref sig .tc .hbm S1088x1024 .bf16) : M.view.dmaCredit = N := credit_exists.choose_spec.2 M

/-! ## The schedule -/

/-- What each semaphore hands its device: the block it had sent, or the slot that was filled. -/
def payOf (c : Dev nD) : Fin 4 ⊕ Fin 4 → sProp 𝕄
  | .inl k => srcPts m c k
  | .inr k => slotPts c k (outF m c)
def pay (c : Dev nD) (i : Fin 8) : sProp 𝕄 := payOf m c (parts.symm i)

omit [FloatOps F] in
theorem pay_s (c : Dev nD) (k : Fin 4) : pay m c (sI k) = srcPts m c k := congrArg (payOf m c) (parts.symm_apply_apply (.inl k))
omit [FloatOps F] in
theorem pay_v (c : Dev nD) (k : Fin 4) : pay m c (vI k) = slotPts c k (outF m c) := congrArg (payOf m c) (parts.symm_apply_apply (.inr k))

omit [FloatOps F] in
instance pay_storable (c : Dev nD) (i : Fin 8) : BI.Storable (upEmb : UEmb _ 𝕄) (pay (F := F) m c i) := by
  unfold pay payOf
  split <;> infer_instance

def isDma : SemLoc sig → Bool
  | .dma _ => true
  | _ => false

def Rd : Rounds.Schedule (GSem nD τ sig) Unit 𝕄 where
  duties g r := if r = 0 ∧ g.1.2 = .tc ∧ isDma g.2 = true then {()} else ∅
  unitless _ := False
  amount _ _ _ := N
  payload g _ _ := match g.2 with
    | .dma i => pay m g.1.1 i
    | _ => iprop(emp)
  amount_pos _ _ _ _ := N_pos

omit [FloatOps F] in
instance Rd_payload_storable (g : GSem nD τ sig) (r : ℕ) (d : Unit) : BI.Storable (upEmb : UEmb _ 𝕄) ((Rd (F := F) m).payload g r d) := by
  show BI.Storable upEmb (match g.2 with
    | .dma i => pay m g.1.1 i
    | _ => iprop(emp))
  split <;> infer_instance

omit [FloatOps F] in
theorem duties_0 (ck : Dev nD × Fin 8) : (Rd (F := F) m).duties (kcell ck) 0 = {()} := by
  unfold Rd; dsimp only; rw [if_pos ⟨rfl, rfl, rfl⟩]
omit [FloatOps F] in
theorem duties_mem (ck : Dev nD × Fin 8) : () ∈ (Rd (F := F) m).duties (kcell ck) 0 := by rw [duties_0]; exact Finset.mem_singleton_self _
omit [FloatOps F] in
theorem duties_later (g : GSem nD τ sig) : ∀ r, 1 ≤ r → (Rd (F := F) m).duties g r = ∅ :=
  fun r hr => by unfold Rd; dsimp only; rw [if_neg (fun h => absurd h.1 (Nat.ne_of_gt hr))]
omit [FloatOps F] in
theorem expect_0 (ck : Dev nD × Fin 8) : (Rd (F := F) m).expect (kcell ck) 0 = N := by
  unfold Schedule.expect Schedule.amountOf; rw [duties_0, Finset.sum_singleton]; rfl
omit [FloatOps F] in
theorem rest_0 (ck : Dev nD × Fin 8) :
    bigSep ((Rd (F := F) m).duties (kcell ck) 0 \ ∅) (fun u => (Rd (F := F) m).payload (kcell ck) 0 u) = pay m ck.1 ck.2 := by
  rw [Finset.sdiff_empty, duties_0, bigSep_singleton]; rfl

/-! ## What is owed, and the levels -/

/-- Still owed by device `c` when the transfers `ks` are yet to be started. -/
def ow (c : Dev nD) : List (Fin 4) → CellTallies nD τ sig Unit
  | [] => 0
  | k :: ks => ow c ks + tallyAt (vCell k (peer k c)) () N

def O₀ (c : Dev nD) : CellTallies nD τ sig Unit := ow c [0, 1, 2, 3]

def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

/-! ## The credit each device starts with -/

theorem vCell_eq_iff {k k' : Fin 4} {c c' : Dev nD} : Iff (vCell k c = vCell k' c') (k = k' ∧ c = c') :=
  ⟨fun h => by
    have := kcell_injective h
    have h2 : 4 + k.val = 4 + k'.val := congrArg (fun x : Dev nD × Fin 8 => x.2.val) this
    exact ⟨Fin.ext (by omega), congrArg Prod.fst this⟩, fun ⟨h, h'⟩ => by rw [h, h']⟩

theorem ow_at (d c : Dev nD) (k : Fin 4) (ks : List (Fin 4)) : ow d ks (vCell k c) () = if d = peer k c then ks.count k * N else 0 := by
  induction ks with
  | nil => simp only [ow, List.count_nil, Nat.zero_mul, ite_self]; rfl
  | cons k' ks ih =>
    unfold ow
    rw [Pi.add_apply, Finsupp.add_apply, ih, tallyAt_apply]
    by_cases hk : k' = k
    · subst hk
      by_cases hd : d = peer k' c
      · rw [if_pos hd, if_pos hd, if_pos ⟨vCell_eq_iff.mpr ⟨rfl, by rw [hd, peer_peer]⟩, rfl⟩, List.count_cons_self, Nat.succ_mul]
      · rw [if_neg hd, if_neg hd, if_neg (fun ⟨h, _⟩ => hd (by rw [(vCell_eq_iff.mp h).2, peer_peer]))]
    · have hne : ¬ (vCell k c = vCell k' (peer k' d) ∧ () = ()) := fun h => hk (vCell_eq_iff.mp h.1).1.symm
      rw [if_neg hne, List.count_cons_of_ne hk, Nat.add_zero]

omit [FloatOps F] in
theorem launch_v (c : Dev nD) (k : Fin 4) :
    tallyOn (vCell k c) (launchCredit (Pipeline.owing O₀) 0 (vCell k c)) = (tallyAt (vCell k c) () N : CellTallies nD τ sig Unit) := by
  unfold tallyAt; refine congrArg _ (Finsupp.ext fun u => ?_); cases u
  have hc : List.count k [0, 1, 2, 3] = 1 := by revert k; decide
  rw [Pipeline.launchCredit_owing, Finsupp.single_eq_same, Finset.sum_congr rfl fun d _ => show O₀ d (vCell k c) () = if d = peer k c then N else 0 by
      unfold O₀; rw [ow_at, hc, Nat.one_mul],
    Finset.sum_ite_eq' Finset.univ (peer k c) fun _ => N, if_pos (Finset.mem_univ _)]

omit [FloatOps F] in
theorem creds (c : Dev nD) : (Pipeline.launchCred O₀ c : sProp 𝕄) ⊢ bigSep Finset.univ fun k : Fin 4 => cred (tallyAt (vCell k c) () N) := by
  have hinj : Function.Injective fun k : Fin 4 => (SemLoc.dma (vI k) : SemLoc sig) := fun k k' h => by
    have : 4 + k.val = 4 + k'.val := congrArg Fin.val (SemLoc.dma.inj h)
    exact Fin.ext (by omega)
  unfold Pipeline.launchCred
  refine (BI.bigSep_subset (Finset.subset_univ (Finset.univ.map ⟨_, hinj⟩))).trans ?_
  rw [bigSep_map]
  exact Entails.of_eq (bigSep_congr fun k _ => by rw [← launch_v]; rfl)

end Cert.SwapProof

end
-- ==== Proof.Swap.Steps.lean ====
/-
# The steps of the kernel, each proved once

A transfer to another device and a wait — at any device, any transfer, any semaphore.  The
kernel's own offsets, devices and semaphores come in as equations.
-/
module

public import proofs.«01_k».proof.Proof.Swap.Plan

@[expose] public section

noncomputable section

namespace Cert.SwapProof

open Cert.SwapIdeal Cert.SwapIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What everybody knows of every semaphore. -/
def records (K : Dev nD × Fin 8 → ℕ) : sProp 𝕄 :=
  iprop((bigSep Finset.univ fun ck => cellInv ER (Rd m) (K ck) (kcell ck)) ∗ bigSep Finset.univ fun ck => reached ER (kcell ck) 0)

instance records_persistent (K : Dev nD × Fin 8 → ℕ) : BI.Persistent (records (F := F) m K) := by unfold records; infer_instance

theorem inv_at (K : Dev nD × Fin 8 → ℕ) (ck : Dev nD × Fin 8) : records m K ⊢ (cellInv ER (Rd m) (K ck) (kcell ck) : sProp 𝕄) := by
  unfold records
  exact sep_elim_left.trans (bigSep_elim (Finset.mem_univ ck))
theorem reached_at (K : Dev nD × Fin 8 → ℕ) (ck : Dev nD × Fin 8) : records m K ⊢ (reached ER (kcell ck) 0 : sProp 𝕄) := by
  unfold records
  exact sep_elim_right.trans (bigSep_elim (Finset.mem_univ ck))

/-- Transfer `k` of device `c`. -/
theorem send_step (K : Dev nD × Fin 8 → ℕ) (c : Dev nD) (k : Fin 4) (ks : List (Fin 4))
    {n : Dev nD} (hn : n = peer k c) {offs : Fin 4 → ℕ} {h' : ∀ a, offs a + S1x1x1088x1024.size a ≤ S4x2x1088x1024.size a} (hoffs : offs = srcOff k c)
    {off : Fin 3 → ℕ} {h : ∀ a, off a + S1x1088x1024.size a ≤ S4x1088x1024.size a} (hoff : off = offJ k)
    {sS sR : DmaSem sig} (hs : sS = sI k) (hv : sR = vI k)
    {hsc : (slotM off h : Memref sig (Dev.tc n : Thread nD τ).2.kind .hbm S1088x1024 .bf16).view.ref.isScScratch = false}
    {hsrc : (srcM offs h').view.WordExact} {hdst : (slotM off h).view.WordExact}
    {hsem : DmaTarget.Typed .hbm (.dma sR) (.remote (Dev.tc n : Thread nD τ) (slotM off h) (.dma sS) hsc)}
    (fd : (main_v1 : Ref sig .tc).ty.Contents (Elt F)) (W : Waits sig Unit)
    {α : Type} {Q : α → sProp 𝕄} {kk : PUnit → Prog (TpuEff nD τ sig (Elt F) Λ₀ .tc) α} :
    iprop(records m K ∗ srcPts m c k ∗ slotPts (peer k c) k fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcM offs h') (.remote (Dev.tc n : Thread nD τ) (slotM off h) (.dma sS) hsc) (.dma sR) hsrc hdst hsem) kk) Q) := by
  subst hn hoff hoffs hs hv
  refine BIBase.Entails.trans ?_ (Rounds.wp_send_pointsTo 𝒱₀ ER (Rd m) (c : Thread nD τ) none (c' := (peer k c : Thread nD τ)) (src := src k c) (dst := slot k)
    (hsc := hsc) (hsrc := hsrc) (hdst := hdst) (hsem := hsem) (k := kk) (Q := Q) (q := fullShare) (fs := m ((c : Thread nD τ).loc main_arg0))
    (κ₁ := K (c, sI k)) (κ₂ := K (peer k c, vI k)) (r₁ := 0) (r₂ := 0) (d₁ := ()) (d₂ := ()) (fd := fd) (Es := Set.univ)
    (duties_mem m (c, sI k)) (duties_mem m (peer k c, vI k)) () () N (credit_N _) rfl rfl (ow c ks) rfl (W := W)
    (by
      refine BIBase.Entails.trans ?_ (Entails.of_eq (pay_s m c k).symm)
      unfold srcPts
      exact Entails.of_eq rfl)
    (by
      refine BIBase.Entails.trans ?_ (Entails.of_eq (pay_v m (peer k c) k).symm)
      unfold slotPts
      exact Entails.of_eq (pointsTo_congr (landed m k c fd))))
  unfold slotPts srcPts
  iintro ⟨#HR, Hsrc, Hdst, Ho, Ht1, Ht2⟩
  isplitr; · iapply (inv_at m K (c, sI k)); iexact HR
  isplitr; · iapply (inv_at m K (peer k c, vI k)); iexact HR
  isplitl [Hsrc]; · iexact Hsrc
  isplitl [Hdst]; · iexact Hdst
  isplitl [Ho]; · iexact Ho
  isplitl [Ht1]; · iexact Ht1
  isplitr; · iapply (reached_at m K (c, sI k)); iexact HR
  isplitl [Ht2]; · iexact Ht2
  iapply (reached_at m K (peer k c, vI k)); iexact HR

/-- A wait for one transfer, on any of the eight semaphores: what it guards comes with it, and the semaphore is spent. -/
theorem wait_step (K : Dev nD × Fin 8 → ℕ) (c : Dev nD) (i : Fin 8) {s : DmaSem sig} (hs : s = i)
    {sp' : Space} {s' : Shape} {e' : EltTy} {src : Memref sig .tc sp' s' e'} {dst : Memref sig .tc .hbm S1088x1024 .bf16}
    {hsrc : src.view.WordExact} {hdst : dst.view.WordExact} (O : CellTallies nD τ sig Unit) (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) O W ∗ MayWait (c : Thread nD τ) (.dma i) () O
        ∗ atPos ER (kcell (c, i)) 0 ∅ 0)
      ⊢ iprop(((owes (c : Thread nD τ) O (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  iintro ⟨#HR, Hc, Ho, Hm, Hat⟩ Hk
  iapply (Rounds.wp_wait_rest_token 𝒱₀ ER (Rd m) (c : Thread nD τ) none (κ := K (c, s))
      (wpE_waitDma2_eq 𝒱₀ (c : Thread nD τ) none Set.univ) (Set.mem_univ _) () (O := O) (W := W) (R := 0) (m := 0) (T := ∅)
      (by rw [Nat.zero_add, credit_N, expect_0 m (c, s)])) $$ [Hc Ho Hm Hat]
  · isplitr; · iapply (inv_at m K (c, s)); iexact HR
    isplitl [Hc]; · rw [credit_N]; iexact Hc
    isplitl [Ho]; · iexact Ho
    isplitl [Hm]; · iexact Hm
    iexact Hat
  iintro ⟨Ho, Hat, -, Hpay⟩
  ihave Hp := (Entails.of_eq (rest_0 m (c, s))) $$ Hpay
  imod (Rounds.cell_close ER (Rd m) (Set.mem_univ (K (c, s))) (fun h => h) (R := 0 + 1) (duties_later m (kcell (c, s)))) $$ [Hat] with Hz
  · isplitr; · iapply (inv_at m K (c, s)); iexact HR
    iexact Hat
  iapply Hk
  isplitl [Ho]; · iexact Ho
  isplitl [Hp]; · iexact Hp
  iexact Hz

end Cert.SwapProof

end
-- ==== Proof.Swap.Walk.lean ====
/-
# The kernel's body, at any device

One walk through the body at a symbolic device `c`, from what the launch deals it (`Φ₀`) to the exchanged blocks with every
semaphore spent (`Φ₁`).
-/
module

public import proofs.«01_k».proof.Proof.Gen.SwapIdeal.Points
public import proofs.«01_k».proof.Proof.Swap.Steps

@[expose] public section

noncomputable section

namespace Cert.SwapProof

open Cert.SwapIdeal Cert.SwapIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's devices and offsets -/

theorem dev1_eq (c : Dev nD) : (⟨k0_dev1 c, k0_dev1_lt c⟩ : Dev nD) = peer 0 c := Fin.ext (by revert c; decide +kernel)
theorem dev2_eq (c : Dev nD) : (⟨k0_dev2 c, k0_dev2_lt c⟩ : Dev nD) = peer 1 c := Fin.ext (by revert c; decide +kernel)
theorem dev3_eq (c : Dev nD) : (⟨k0_dev3 c, k0_dev3_lt c⟩ : Dev nD) = peer 2 c := Fin.ext (by revert c; decide +kernel)
theorem dev4_eq (c : Dev nD) : (⟨k0_dev4 c, k0_dev4_lt c⟩ : Dev nD) = peer 3 c := Fin.ext (by revert c; decide +kernel)
theorem off1_eq (c : Dev nD) : k0_off1 c = srcOff 0 c := by revert c; decide +kernel
theorem off2_eq (c : Dev nD) : k0_off2 c = srcOff 1 c := by revert c; decide +kernel
theorem off3_eq (c : Dev nD) : k0_off3 c = srcOff 2 c := by revert c; decide +kernel
theorem off4_eq (c : Dev nD) : k0_off4 c = srcOff 3 c := by revert c; decide +kernel

/-! ## Before and after -/

/-- The right to pay each transfer, at its sender. -/
def toks (c : Dev nD) : sProp 𝕄 :=
  iprop((bigSep Finset.univ fun k : Fin 4 => dutyTok ER (sCell k c) 0 ()) ∗ (bigSep Finset.univ fun k : Fin 4 => dutyTok ER (vCell k (peer k c)) 0 ()))

/-- The slots a device will write, wherever they are, and its own operand. -/
def held (c : Dev nD) : sProp 𝕄 :=
  iprop((bigSep Finset.univ fun k : Fin 4 => slotPts (peer k c) k (m ((peer k c : Thread nD τ).loc main_v1)))
    ∗ (bigSep Finset.univ fun k : Fin 4 => srcPts m c k) ∗ restPts m c)

def linear (c : Dev nD) : sProp 𝕄 :=
  iprop((bigSep Finset.univ fun i : Fin 8 => atPos ER (kcell (c, i)) 0 ∅ 0) ∗ toks c ∗ held m c)

/-- What each device starts with, apart from credit and levels. -/
def G' (c : Dev nD) : sProp 𝕄 := iprop(∃ K, records m K ∗ linear m c)

def Φ₀ (c : Dev nD) : sProp 𝕄 :=
  iprop(G' m c ∗ levAts L lv ∗ bigSep Finset.univ fun k : Fin 4 => cred (tallyAt (vCell k c) () N))

def Φ₁ (c : Dev nD) : sProp 𝕄 :=
  iprop((((c : Thread nD τ).loc main_v1) ↦{fullShare} outF m c) ∗ (((c : Thread nD τ).loc main_arg0) ↦{fullShare} m ((c : Thread nD τ).loc main_arg0))
    ∗ bigSep Finset.univ fun i : Fin 8 => semVal (kcell (c, i)) 0)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_finK (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A wait when nothing is owed any more. -/
theorem wait_free (K : Dev nD × Fin 8 → ℕ) (c : Dev nD) (i : Fin 8) {s : DmaSem sig} (hs : s = i)
    {sp' : Space} {s' : Shape} {e' : EltTy} {src : Memref sig .tc sp' s' e'} {dst : Memref sig .tc .hbm S1088x1024 .bf16}
    {hsrc : src.view.WordExact} {hdst : dst.view.WordExact} (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) (ow c []) W ∗ atPos ER (kcell (c, i)) 0 ∅ 0)
      ⊢ iprop(((owes (c : Thread nD τ) (ow c []) (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  refine BIBase.Entails.trans ?_ (wait_step m K c i hs (ow c []) W)
  iintro ⟨#HR, Hc, Ho, Hat⟩
  isplitr; · iexact HR
  isplitl [Hc]; · iexact Hc
  isplitl [Ho]; · iexact Ho
  isplitr; · rw [show ow c [] = 0 from rfl, MayWait_zero]; iempintro
  iexact Hat

/-! ## The walk -/

set_option maxHeartbeats 2000000 in
set_option maxRecDepth 8000 in
theorem body_walk (K : Dev nD × Fin 8 → ℕ) (c : Dev nD) (W : Waits sig Unit) (Kt : PUnit → sProp 𝕄) :
    iprop((records m K ∗ linear m c ∗ levAts L lv ∗ (bigSep Finset.univ fun k : Fin 4 => cred (tallyAt (vCell k c) () N))
        ∗ owes (c : Thread nD τ) (O₀ c) W) ∗ (Φ₁ m c ∗ (∃ W', owes (c : Thread nD τ) 0 W') -∗ Kt ⟨⟩))
      ⊢ wp frame (wpE (defs₀ (F := F)) 𝒱₀ c none) Set.univ (bodyAt0 t0_0) Kt := by
  unfold bodyAt0
  simp only [cc0_swap_w_in_grads_eq_skeleton]
  unfold cc0_swap_w_in_grads_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold linear toks held
  rw [bigSep_parts]
  simp only [bigSep_finK]
  iintro ⟨⟨#HR, ⟨⟨⟨AS0, AS1, AS2, AS3⟩, ⟨AV0, AV1, AV2, AV3⟩⟩, ⟨⟨S0, S1, S2, S3⟩, ⟨V0, V1, V2, V3⟩⟩, ⟨D0, D1, D2, D3⟩, ⟨X0, X1, X2, X3⟩, HX⟩, #Hlev, ⟨C0, C1, C2, C3⟩, HO⟩, Hk⟩
  unfold O₀
  -- all transfers are started
  iapply (send_step m K c 0 [1, 2, 3] (dev1_eq c) (off1_eq c) rfl rfl rfl _ _) $$ [X0 D0 HO S0 V0]
  · isplitr; · iexact HR
    isplitl [X0]; · iexact X0
    isplitl [D0]; · iexact D0
    isplitl [HO]; · iexact HO
    isplitl [S0] <;> iassumption
  iintro ⟨E0, HO⟩
  iapply (send_step m K c 1 [2, 3] (dev2_eq c) (off2_eq c) rfl rfl rfl _ _) $$ [X1 D1 HO S1 V1]
  · isplitr; · iexact HR
    isplitl [X1]; · iexact X1
    isplitl [D1]; · iexact D1
    isplitl [HO]; · iexact HO
    isplitl [S1] <;> iassumption
  iintro ⟨E1, HO⟩
  iapply (send_step m K c 2 [3] (dev3_eq c) (off3_eq c) rfl rfl rfl _ _) $$ [X2 D2 HO S2 V2]
  · isplitr; · iexact HR
    isplitl [X2]; · iexact X2
    isplitl [D2]; · iexact D2
    isplitl [HO]; · iexact HO
    isplitl [S2] <;> iassumption
  iintro ⟨E2, HO⟩
  iapply (send_step m K c 3 [] (dev4_eq c) (off4_eq c) rfl rfl rfl _ _) $$ [X3 D3 HO S3 V3]
  · isplitr; · iexact HR
    isplitl [X3]; · iexact X3
    isplitl [D3]; · iexact D3
    isplitl [HO]; · iexact HO
    isplitl [S3] <;> iassumption
  iintro ⟨E3, HO⟩
  -- and waited for, first at the sending and then at the receiving end
  iapply (wait_free m K c (sI 0) rfl _) $$ [E0 HO AS0]
  · isplitr; · iexact HR
    isplitl [E0]; · iexact E0
    isplitl [HO] <;> iassumption
  iintro ⟨HO, Q0, ZS0⟩
  iapply (wait_free m K c (vI 0) rfl _) $$ [C0 HO AV0]
  · isplitr; · iexact HR
    isplitl [C0]; · iexact C0
    isplitl [HO] <;> iassumption
  iintro ⟨HO, P0, ZV0⟩
  iapply (wait_free m K c (sI 1) rfl _) $$ [E1 HO AS1]
  · isplitr; · iexact HR
    isplitl [E1]; · iexact E1
    isplitl [HO] <;> iassumption
  iintro ⟨HO, Q1, ZS1⟩
  iapply (wait_free m K c (vI 1) rfl _) $$ [C1 HO AV1]
  · isplitr; · iexact HR
    isplitl [C1]; · iexact C1
    isplitl [HO] <;> iassumption
  iintro ⟨HO, P1, ZV1⟩
  iapply (wait_free m K c (sI 2) rfl _) $$ [E2 HO AS2]
  · isplitr; · iexact HR
    isplitl [E2]; · iexact E2
    isplitl [HO] <;> iassumption
  iintro ⟨HO, Q2, ZS2⟩
  iapply (wait_free m K c (vI 2) rfl _) $$ [C2 HO AV2]
  · isplitr; · iexact HR
    isplitl [C2]; · iexact C2
    isplitl [HO] <;> iassumption
  iintro ⟨HO, P2, ZV2⟩
  iapply (wait_free m K c (sI 3) rfl _) $$ [E3 HO AS3]
  · isplitr; · iexact HR
    isplitl [E3]; · iexact E3
    isplitl [HO] <;> iassumption
  iintro ⟨HO, Q3, ZS3⟩
  iapply (wait_free m K c (vI 3) rfl _) $$ [C3 HO AV3]
  · isplitr; · iexact HR
    isplitl [C3]; · iexact C3
    isplitl [HO] <;> iassumption
  iintro ⟨HO, P3, ZV3⟩
  rw [wp_ret]; imodintro
  iapply Hk
  ihave P0 := (Entails.of_eq (pay_v m c 0)) $$ P0
  ihave Q0 := (Entails.of_eq (pay_s m c 0)) $$ Q0
  ihave P1 := (Entails.of_eq (pay_v m c 1)) $$ P1
  ihave Q1 := (Entails.of_eq (pay_s m c 1)) $$ Q1
  ihave P2 := (Entails.of_eq (pay_v m c 2)) $$ P2
  ihave Q2 := (Entails.of_eq (pay_s m c 2)) $$ Q2
  ihave P3 := (Entails.of_eq (pay_v m c 3)) $$ P3
  ihave Q3 := (Entails.of_eq (pay_s m c 3)) $$ Q3
  isplitr [HO]
  · unfold Φ₁
    rw [result_slots, operand_blocks, bigSep_parts]
    simp only [bigSep_finK]
    isplitl [P0 P1 P2 P3]
    · isplitl [P0]; · iexact P0
      isplitl [P1]; · iexact P1
      isplitl [P2]; · iexact P2
      iexact P3
    isplitl [Q0 Q1 Q2 Q3 HX]
    · isplitl [Q0 Q1 Q2 Q3]
      · isplitl [Q0]; · iexact Q0
        isplitl [Q1]; · iexact Q1
        isplitl [Q2]; · iexact Q2
        iexact Q3
      iexact HX
    isplitl [ZS0 ZS1 ZS2 ZS3]
    · isplitl [ZS0]; · iexact ZS0
      isplitl [ZS1]; · iexact ZS1
      isplitl [ZS2]; · iexact ZS2
      iexact ZS3
    isplitl [ZV0]; · iexact ZV0
    isplitl [ZV1]; · iexact ZV1
    isplitl [ZV2]; · iexact ZV2
    iexact ZV3
  iexists _; iexact HO

/-- The body's obligation to the launch. -/
theorem body_obligation (c : Dev nD) : BodyObligation (dats (F := F) m 0 c) (defs₀ (F := F)) 𝒱₀ () Set.univ := fun t => by
  rw [show t = t0_0 from fin_N0 t, noWin, noWin]
  show iprop(Φ₀ m c ∗ (dats (F := F) m 0 c).owesAt () (Fin.castSucc t0_0) ∗ BI.emp) ⊢ wp frame (wpE (defs₀ (F := F)) 𝒱₀ c none) Set.univ
    (bodyAt0 t0_0) (fun _ => iprop(Φ₁ m c ∗ (dats (F := F) m 0 c).owesAt () (Fin.succ t0_0) ∗ BI.emp))
  unfold Φ₀ G' Dat.owesAt Pipeline.owesWithin
  rw [show (dats (F := F) m 0 c).owed (Fin.castSucc t0_0) = O₀ c from rfl, show (dats (F := F) m 0 c).owed (Fin.succ t0_0) = 0 from rfl]
  iintro ⟨⟨⟨%K, #HR, Hlin⟩, #Hlev, Hcr⟩, ⟨%W, %hW, HO⟩, -⟩
  iapply (body_walk m K c W)
  isplitl [Hlin Hcr HO]
  · isplitr; · iexact HR
    isplitl [Hlin]; · iexact Hlin
    isplitr; · iexact Hlev
    isplitl [Hcr] <;> iassumption
  iintro ⟨H1, %W', HO⟩
  isplitl [H1]; · iexact H1
  isplitl [HO]
  · iexists W'
    isplitr; · ipureintro; exact fun _ _ => Or.inl trivial
    iexact HO
  iempintro

end Cert.SwapProof

end
-- ==== Proof.Swap.Run.lean ====
/-
# The exchange as a whole

The launch deals every device its eight semaphores, its operand and its result.  The result is dealt on slot by slot: a slot
that device `d` is to fill goes to `d`, whoever it belongs to, and so does the right to pay its receive semaphore.  Both are
one exchange along `across`.  Then every device walks its body, and the final memory is read off.
-/
module

public import proofs.«01_k».proof.Proof.Swap.Walk

@[expose] public section

noncomputable section

namespace Cert.SwapProof

open Cert.SwapIdeal Cert.SwapIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records -/

def ringCells : Finset (GSem nD τ sig) := Finset.univ.map ⟨kcell, kcell_injective⟩
def ringToks : Finset (GSem nD τ sig × ℕ × Unit) :=
  Finset.univ.map ⟨fun ck : Dev nD × Fin 8 => (kcell ck, 0, ()), fun _ _ h => kcell_injective (congrArg Prod.fst h)⟩

def u₀ : UU := (initOf ∅ ∅, initOf ringCells ringToks)

/-- What a device gets of the records. -/
def G (c : Dev nD) : sProp 𝕄 :=
  iprop((bigSep Finset.univ fun i : Fin 8 => roundState ER (Rd m) (kcell (c, i)) 0)
    ∗ (bigSep Finset.univ fun i : Fin 8 => reached ER (kcell (c, i)) 0)
    ∗ (bigSep Finset.univ fun i : Fin 8 => atPos ER (kcell (c, i)) 0 ∅ 0)
    ∗ bigSep Finset.univ fun i : Fin 8 => dutyTok ER (kcell (c, i)) 0 ())

theorem records_made : (ownU u₀ : sProp 𝕄) ⊢ |={Set.univ}=> bigSep Finset.univ (G m) := by
  have hc (Φ : GSem nD τ sig → sProp 𝕄) : bigSep ringCells Φ = bigSep Finset.univ fun c : Dev nD => bigSep Finset.univ fun i : Fin 8 => Φ (kcell (c, i)) := by
    unfold ringCells; rw [bigSep_map, bigSep_univ_prod]; rfl
  have ht : (bigSep ringToks fun x => dutyTok ER x.1 x.2.1 x.2.2 : sProp 𝕄)
      = bigSep Finset.univ fun c : Dev nD => bigSep Finset.univ fun i : Fin 8 => dutyTok ER (kcell (c, i)) 0 () := by
    unfold ringToks; rw [bigSep_map, bigSep_univ_prod]; rfl
  have hG : (bigSep Finset.univ (G m) : sProp 𝕄)
      = iprop((bigSep ringCells fun g => roundState ER (Rd m) g 0) ∗ (bigSep ringCells fun g => reached ER g 0)
        ∗ (bigSep ringCells fun g => atPos ER g 0 ∅ 0) ∗ bigSep ringToks fun x => dutyTok ER x.1 x.2.1 x.2.2) := by
    rw [hc, hc, hc, ht]
    unfold G
    simp only [bigSep_sep']
  unfold u₀
  iintro Hu
  ihave H := (ownU_pair (initOf ∅ ∅ : UR sig nD τ) (initOf ringCells ringToks : UR sig nD τ)) $$ Hu
  icases H with ⟨-, HX⟩
  imod (Rounds.fund ER (Rd m) ringCells ringToks) $$ HX with HF
  imodintro
  rw [hG]
  iexact HF

/-! ## Dealing -/

omit [FloatOps F] in
theorem sems0_eq (c : Dev nD) : (sems0 c : sProp 𝕄) = bigSep Finset.univ fun i : Fin 8 => semVal (kcell (c, i)) 0 := rfl

/-- A device's part of the invariants is set up. -/
theorem cells_made (c : Dev nD) :
    iprop(sems0 c ∗ bigSep Finset.univ fun i : Fin 8 => roundState ER (Rd (F := F) m) (kcell (c, i)) 0)
      ⊢ |={Set.univ}=> bigSep Finset.univ fun i : Fin 8 => iprop(∃ κ : ℕ, cellInv ER (Rd (F := F) m) κ (kcell (c, i))) := by
  rw [sems0_eq, ← bigSep_sep']
  exact (bigSep_mono fun i _ => (Rounds.body_intro ER (Rd m) (kcell (c, i))).trans inv_alloc).trans (bigSep_fupd _ _)

/-- Its memory: the operand block by block, and the result slot by slot. -/
theorem memory_split (c : Dev nD) :
    (unscopedBufs c (fun b => m ((c : Thread nD τ).loc b)) : sProp 𝕄)
      ⊢ iprop(((bigSep Finset.univ fun k : Fin 4 => srcPts m c k) ∗ restPts m c)
          ∗ (bigSep Finset.univ fun k : Fin 4 => slotPts c k (m ((c : Thread nD τ).loc main_v1)))) := by
  have h := Pipeline.unscopedBufs_split (Ix := Unit) (Name := ℕ) (U := UU) (Lvl := ℕ) cfgs (0 : Fin 1) winFacts0.arr_unscoped winFacts0.arr_inj c
    (fun b => m ((c : Thread nD τ).loc b))
  rw [h, unscopedRest0_eq, result_slots, operand_blocks]
  iintro ⟨-, Hx⟩
  iexact Hx

omit [FloatOps F] in
/-- What belongs to the receivers of the transfers, dealt to their senders. -/
theorem exchange (Φ : Dev nD → Fin 4 → sProp 𝕄) :
    (bigSep Finset.univ fun c : Dev nD => bigSep Finset.univ fun k : Fin 4 => Φ c k)
      = bigSep Finset.univ fun c : Dev nD => bigSep Finset.univ fun k : Fin 4 => Φ (peer k c) k := by
  have h1 := bigSep_univ_prod (M := 𝕄) fun ck : Dev nD × Fin 4 => Φ ck.1 ck.2
  have h2 := bigSep_univ_equiv across (fun ck : Dev nD × Fin 4 => Φ ck.1 ck.2)
  have h3 := bigSep_univ_prod (M := 𝕄) fun ck : Dev nD × Fin 4 => Φ (peer ck.2 ck.1) ck.2
  exact h1.symm.trans (h2.trans h3)

/-- A device's share of the dealing, before the exchange. -/
def got (c : Dev nD) : sProp 𝕄 :=
  iprop((bigSep Finset.univ fun i : Fin 8 => iprop(∃ κ : ℕ, cellInv ER (Rd (F := F) m) κ (kcell (c, i))))
    ∗ (bigSep Finset.univ fun i : Fin 8 => reached ER (kcell (c, i)) 0)
    ∗ (bigSep Finset.univ fun i : Fin 8 => atPos ER (kcell (c, i)) 0 ∅ 0)
    ∗ (bigSep Finset.univ fun k : Fin 4 => dutyTok ER (sCell k c) 0 ()) ∗ (bigSep Finset.univ fun k : Fin 4 => dutyTok ER (vCell k c) 0 ())
    ∗ ((bigSep Finset.univ fun k : Fin 4 => srcPts m c k) ∗ restPts m c)
    ∗ (bigSep Finset.univ fun k : Fin 4 => slotPts c k (m ((c : Thread nD τ).loc main_v1))))

/-- Everything dealt. -/
theorem dealt :
    (bigSep Finset.univ fun c => iprop(sems0 c ∗ unscopedBufs c (fun b => m ((c : Thread nD τ).loc b)) ∗ G m c) : sProp 𝕄)
      ⊢ |={Set.univ}=> bigSep Finset.univ (G' m) := by
  have hone (c : Dev nD) : iprop(sems0 c ∗ unscopedBufs c (fun b => m ((c : Thread nD τ).loc b)) ∗ G m c) ⊢ |={Set.univ}=> got m c := by
    have ht := bigSep_parts (F := F) fun i => dutyTok ER (kcell (c, i)) 0 ()
    unfold G got
    iintro ⟨Hs, Hm, Hst, Hr, Hat, Htok⟩
    imod (cells_made m c) $$ [Hs Hst] with HI
    · isplitl [Hs] <;> iassumption
    ihave Hm' := (memory_split m c) $$ Hm
    ihave Ht := (Entails.of_eq ht) $$ Htok
    icases Ht with ⟨Ht1, Ht2⟩
    imodintro
    isplitl [HI]; · iexact HI
    isplitl [Hr]; · iexact Hr
    isplitl [Hat]; · iexact Hat
    isplitl [Ht1]; · iexact Ht1
    isplitl [Ht2]; · iexact Ht2
    iexact Hm'
  have hall : (bigSep Finset.univ fun c => iprop(sems0 c ∗ unscopedBufs c (fun b => m ((c : Thread nD τ).loc b)) ∗ G m c) : sProp 𝕄)
      ⊢ |={Set.univ}=> bigSep Finset.univ (got m) := (bigSep_mono fun c _ => hone c).trans (bigSep_fupd Finset.univ (got m))
  suffices hre : (bigSep Finset.univ (got m) : sProp 𝕄) ⊢ bigSep Finset.univ (G' m) by
    exact hall.trans (BI.fupd_mono hre)
  have hI : (bigSep Finset.univ fun c : Dev nD => bigSep Finset.univ fun i : Fin 8 => iprop(∃ κ : ℕ, cellInv ER (Rd (F := F) m) κ (kcell (c, i))))
      = (bigSep Finset.univ fun ck : Dev nD × Fin 8 => iprop(∃ κ : ℕ, cellInv ER (Rd (F := F) m) κ (kcell ck)) : sProp 𝕄) :=
    (bigSep_univ_prod fun ck : Dev nD × Fin 8 => iprop(∃ κ : ℕ, cellInv ER (Rd (F := F) m) κ (kcell ck))).symm
  have hR : (bigSep Finset.univ fun c : Dev nD => bigSep Finset.univ fun i : Fin 8 => (reached ER (kcell (c, i)) 0 : sProp 𝕄))
      = (bigSep Finset.univ fun ck : Dev nD × Fin 8 => reached ER (kcell ck) 0 : sProp 𝕄) :=
    (bigSep_univ_prod fun ck : Dev nD × Fin 8 => reached ER (kcell ck) 0).symm
  have hT := exchange (F := F) fun c k => dutyTok ER (vCell k c) 0 ()
  have hS := exchange (F := F) fun c k => slotPts c k (m ((c : Thread nD τ).loc main_v1))
  have hpi : (bigSep Finset.univ fun ck : Dev nD × Fin 8 => iprop(∃ κ : ℕ, cellInv ER (Rd (F := F) m) κ (kcell ck)))
      ⊢ (iprop(∃ K : Dev nD × Fin 8 → ℕ, bigSep Finset.univ fun ck => cellInv ER (Rd (F := F) m) (K ck) (kcell ck)) : sProp 𝕄) :=
    BI.bigSep_exists_pi Finset.univ (fun ck κ => cellInv ER (Rd (F := F) m) κ (kcell ck))
  have hwith (K : Dev nD × Fin 8 → ℕ) :
      iprop(records m K ∗ bigSep Finset.univ fun c : Dev nD => linear m c) ⊢ (bigSep Finset.univ (G' m) : sProp 𝕄) := by
    refine (sep_mono_left (BI.bigSep_of_persistent (Finset.univ : Finset (Dev nD)) (records m K))).trans ?_
    rw [← bigSep_sep']
    refine bigSep_mono fun c _ => ?_
    have h : iprop(records m K ∗ linear m c) ⊢ (G' m c : sProp 𝕄) := by
      unfold G'
      iintro H
      iexists K
      iexact H
    exact h
  unfold got
  simp only [bigSep_sep']
  rw [hI, hR, hT, hS]
  iintro ⟨HI, Hr, Hat, Ht1, Ht2, ⟨Hx, Hrest⟩, Hsl⟩
  ihave HK := hpi $$ HI
  icases HK with ⟨%K, HI⟩
  iapply (hwith K)
  isplitl [HI Hr]
  · unfold records
    isplitl [HI] <;> iassumption
  unfold linear toks held
  simp only [bigSep_sep']
  isplitl [Hat]; · iexact Hat
  isplitl [Ht1 Ht2]
  · isplitl [Ht1] <;> iassumption
  isplitl [Hsl]; · iexact Hsl
  isplitl [Hx] <;> iassumption

/-! ## The run -/

/-- What each device ends with. -/
def Y (c : Dev nD) : sProp 𝕄 := iprop((((c : Thread nD τ).loc main_v1) ↦{fullShare} outF m c) ∗ (((c : Thread nD τ).loc main_arg0) ↦{fullShare} m ((c : Thread nD τ).loc main_arg0)))

theorem read_off (c : Dev nD) (s' : Phys nD τ sig (Elt F)) :
    iprop(Y m c ∗ SI s') ⊢ |={Set.univ}=>
      iprop(⌜s'.mem.mem ((c : Thread nD τ).loc main_v1) = outF m c ∧ s'.mem.mem ((c : Thread nD τ).loc main_arg0) = m ((c : Thread nD τ).loc main_arg0)⌝
        ∗ SI s' : sProp 𝕄) := by
  unfold Y
  iintro ⟨⟨Ho, Hx⟩, HSI⟩
  icombine HSI Ho gives %ho
  icombine HSI Hx gives %hx
  imodintro
  isplitr
  · ipureintro
    exact ⟨Buf.eq_of_forall_mem_univ ho, Buf.eq_of_forall_mem_univ hx⟩
  iexact HSI

/-- From any memory with all semaphores at zero, the exchange ends with every device's result being the blocks sent to it,
    the operands as they were, and all semaphores at zero. -/
theorem run_main : θ_run defs (onTc (τ := τ) (main (F := F))) ⟨m, fun _ => 0, ρ⟩ fun r =>
    (∀ c : Dev nD, r.2.mem ((c : Thread nD τ).loc main_v1) = outF m c ∧ r.2.mem ((c : Thread nD τ).loc main_arg0) = m ((c : Thread nD τ).loc main_arg0))
      ∧ r.2.sem = fun _ => 0 :=
  run_of m ρ (dats m) (body_obligation m) O₀ (fun _ => rfl) (fun _ => rfl) L lv L_of_ne (G m) (G' m) u₀ (records_made m) (dealt m)
    (fun c => by
      show _ ⊢ Φ₀ m c
      unfold Φ₀
      exact sep_mono_right (sep_mono_right (creds c)))
    (Y m)
    (fun c => by
      show Φ₁ m c ⊢ _
      unfold Φ₁ Y
      iintro ⟨Ho, Hx, Hs⟩
      isplitr [Hs]
      · isplitl [Ho] <;> iassumption
      rw [sems0_eq]
      iexact Hs)
    (fun c s => s.mem ((c : Thread nD τ).loc main_v1) = outF m c ∧ s.mem ((c : Thread nD τ).loc main_arg0) = m ((c : Thread nD τ).loc main_arg0))
    (read_off m)
    (fun s h hs => ⟨h, sem_eq_zero_of_scoped (by decide) hs⟩)

end Cert.SwapProof

end
-- ==== Proof.Swap.Value.lean ====
/-
# What the exchange between cores computes

The reference cuts the operands of all devices into chips, cores, pairs and halves, takes for either core the other core's half
of every pair, and stacks the two.  Read at one place, that is one element of the operands (`reference_at`), and it is the one that
the exchange brings there (`swapped`).
-/
module

public import proofs.«01_k».proof.Defs
public import proofs.«01_k».proof.Proof.Gen.Swap
public import proofs.«01_k».proof.Proof.Gen.SwapRefIdeal
public import proofs.«01_k».proof.Proof.Gen.SwapRef
public import proofs.«01_k».proof.Proof.Gen.SwapRefIdeal.Run
public import proofs.«01_k».proof.Proof.Gen.SwapRef.Run
public import proofs.«01_k».proof.Proof.Swap.Run
public import Idealize.ShloMosaic.Lib.ValueIdx
public import Idealize.ShloMosaic.Lib.ValueIdxRank6
public import Idealize.ShloMosaic.Lib.Pipeline.Value

@[expose] public section

noncomputable section

namespace Cert.SwapProof

open Idealize.ShloMosaic
open Idealize.ShloMosaic.TcCoe Idealize.ShloMosaic.ValueIdx Idealize.SL.Sem

/-! ## The reference at one place -/

section
variable {α : Type} {r n : ℕ}

/-- The half of every pair that the devices of one core hold for the devices of one core. -/
def half (v : (⟨4, ![32, 2, r, n]⟩ : Shape).Idx → α) (h0 : (⟨4, ![32, 2, r, n]⟩ : Shape).ShapeCasts ⟨6, ![4, 2, 4, 2, r, n]⟩)
    (off : Fin 6 → ℕ) (s : (⟨6, ![4, 2, 4, 2, r, n]⟩ : Shape).Slices off ⟨6, ![4, 1, 4, 1, r, n]⟩)
    (h1 : (⟨6, ![4, 1, 4, 1, r, n]⟩ : Shape).ShapeCasts ⟨4, ![4, 4, r, n]⟩)
    (b : (⟨4, ![4, 4, r, n]⟩ : Shape).BroadcastsInDim ⟨5, ![4, 1, 4, r, n]⟩ ![0, 2, 3, 4]) : (⟨5, ![4, 1, 4, r, n]⟩ : Shape).Idx → α :=
  broadcastInDim ⟨5, ![4, 1, 4, r, n]⟩ ![0, 2, 3, 4] b
    (shapeCast ⟨4, ![4, 4, r, n]⟩ (extractStridedSlice ⟨6, ![4, 1, 4, 1, r, n]⟩ off (shapeCast ⟨6, ![4, 2, 4, 2, r, n]⟩ v h0) s) h1)

theorem half_at (v : (⟨4, ![32, 2, r, n]⟩ : Shape).Idx → α) (h0) (off : Fin 6 → ℕ) (s) (h1) (b) (t : Fin 4) (w w' : Fin 2) (j : Fin 4) (p : Fin r)
    (q : Fin n) (hr : off = ![0, w.val, 0, w'.val, 0, 0]) (e : Fin 32) (he : e.val = 8 * t.val + 4 * w.val + j.val) :
    half v h0 off s h1 b (ix5 t 0 j p q) = v (ix4 e w' p q) := by
  subst hr
  unfold half
  refine (broadcastInDim_apply _ b _ _ (ix4 t j p q) ?_).trans ?_
  · intro a
    match a with
    | ⟨0, _⟩ => rfl
    | ⟨1, _⟩ => rfl
    | ⟨2, _⟩ =>
      show p.val = if r = 1 then 0 else p.val
      split <;> have := p.isLt <;> omega
    | ⟨3, _⟩ =>
      show q.val = if n = 1 then 0 else q.val
      split <;> have := q.isLt <;> omega
  refine (shapeCast_apply _ h1 _ (ix6 t 0 j 0 p q) ?_).trans ?_
  · rw [Shape.rowMajor_val_six, Shape.rowMajor_val_four]
    show ((((t.val * 1 + 0) * 4 + j.val) * 1 + 0) * r + p.val) * n + q.val = ((t.val * 4 + j.val) * r + p.val) * n + q.val
    simp only [mul_one, add_zero]
  refine (extractStridedSlice_apply _ _ s _ (ix6 t w j w' p q) ?_).trans ?_
  · intro a
    match a with
    | ⟨0, _⟩ => show t.val = 0 + t.val; omega
    | ⟨1, _⟩ => show w.val = w.val + 0; omega
    | ⟨2, _⟩ => show j.val = 0 + j.val; omega
    | ⟨3, _⟩ => show w'.val = w'.val + 0; omega
    | ⟨4, _⟩ => show p.val = 0 + p.val; omega
    | ⟨5, _⟩ => show q.val = 0 + q.val; omega
  refine shapeCast_apply _ h0 _ (ix4 e w' p q) ?_
  rw [Shape.rowMajor_val_six, Shape.rowMajor_val_four]
  show ((e.val * 2 + w'.val) * r + p.val) * n + q.val = ((((t.val * 2 + w.val) * 4 + j.val) * 2 + w'.val) * r + p.val) * n + q.val
  have : e.val * 2 + w'.val = ((t.val * 2 + w.val) * 4 + j.val) * 2 + w'.val := by omega
  rw [this]

/-- The reference's result at one place: pair `j` of the other core of the chip, the half for this core. -/
theorem reference_at (v : (⟨4, ![32, 2, r, n]⟩ : Shape).Idx → α) (h0) (s0) (s1) (h1) (b)
    (hc : Shape.Concatenates [⟨5, ![4, 1, 4, r, n]⟩, ⟨5, ![4, 1, 4, r, n]⟩] ⟨5, ![4, 2, 4, r, n]⟩ 1)
    (h3 : (⟨5, ![4, 2, 4, r, n]⟩ : Shape).ShapeCasts ⟨3, ![32, r, n]⟩) (t : Fin 4) (w : Fin 2) (j : Fin 4) (p : Fin r) (q : Fin n)
    (d e : Fin 32) (hd : d.val = 8 * t.val + 4 * w.val + j.val) (he : e.val = 8 * t.val + 4 * (1 - w.val) + j.val) :
    shapeCast ⟨3, ![32, r, n]⟩ (concatenate ⟨5, ![4, 2, 4, r, n]⟩ 1
        [⟨⟨5, ![4, 1, 4, r, n]⟩, half v h0 ![0, 1, 0, 0, 0, 0] s0 h1 b⟩, ⟨⟨5, ![4, 1, 4, r, n]⟩, half v h0 ![0, 0, 0, 1, 0, 0] s1 h1 b⟩] hc) h3 (ix3 d p q)
      = v (ix4 e w p q) := by
  refine (shapeCast_apply _ h3 _ (ix5 t w j p q) ?_).trans ?_
  · rw [Shape.rowMajor_val_five, Shape.rowMajor_val_three]
    show (((t.val * 2 + w.val) * 4 + j.val) * r + p.val) * n + q.val = (d.val * r + p.val) * n + q.val
    rw [show (t.val * 2 + w.val) * 4 + j.val = d.val by omega]
  match w, hd, he with
  | ⟨0, _⟩, hd, he =>
    refine (concatenate_pair_apply_left 1 _ _ hc _ rfl (ix5 t 0 j p q) ?_).trans (half_at v h0 _ s0 h1 b t 1 0 j p q rfl e (by
      have : e.val = 8 * t.val + 4 * (1 - 0) + j.val := he
      show e.val = 8 * t.val + 4 * 1 + j.val; omega))
    intro a
    match a with
    | ⟨0, _⟩ => rfl
    | ⟨1, _⟩ => rfl
    | ⟨2, _⟩ => rfl
    | ⟨3, _⟩ => rfl
    | ⟨4, _⟩ => rfl
  | ⟨1, _⟩, hd, he =>
    refine (concatenate_pair_apply_right 1 _ _ hc _ rfl rfl (ix5 t 0 j p q) ?_ rfl).trans (half_at v h0 _ s1 h1 b t 0 1 j p q rfl e (by
      have : e.val = 8 * t.val + 4 * (1 - 1) + j.val := he
      show e.val = 8 * t.val + 4 * 0 + j.val; omega))
    intro a ha
    match a with
    | ⟨0, _⟩ => rfl
    | ⟨1, _⟩ => exact absurd rfl ha
    | ⟨2, _⟩ => rfl
    | ⟨3, _⟩ => rfl
    | ⟨4, _⟩ => rfl

end

/-! ## The exchange's result -/

open Cert.SwapIdeal Cert.SwapIdeal.Gen

theorem peer_val : ∀ (k : Fin 4) (c : Dev nD), (peer k c).val = 2 * (c.val / 2) + (1 - c.val % 2) := by decide

theorem src_at (k : Fin 4) (c : Dev nD) (y : S1088x1024.Idx) (a : Fin 4) :
    ((src k c).view.emb y a).val = srcOff k c a + 1 * ((ix4 0 0 (y 0) (y 1) : S1x1x1088x1024.Idx) a).val := by
  have e : Shape.reshapeEquiv squeezes_S1x1x1088x1024_S1088x1024.numel_eq y = (ix4 0 0 (y 0) (y 1) : S1x1x1088x1024.Idx) := by
    refine Shape.reshapeEquiv_eq_of_rowMajor _ ?_
    rw [Shape.rowMajor_val_two, Shape.rowMajor_val_four]
    show (((0 * 1 + 0) * 1088 + (y 0).val) * 1024 + (y 1).val : ℕ) = (y 0).val * 1024 + (y 1).val
    rw [zero_mul, zero_add, zero_mul, zero_add]
  exact congrArg (fun z : S1x1x1088x1024.Idx => srcOff k c a + 1 * (z a).val) e

variable {F : FTy → Type} [FloatOps F]

/-- What the exchange leaves on every device is its block of the reference's result. -/
theorem swapped (m : (ℓ : Loc nD τ sig) → Buf (Elt F) ℓ) (v : (⟨4, ![32, 2, 1088, 1024]⟩ : Shape).Idx → Elt F .bf16)
    (hm : ∀ c : Dev nD, m ((c : Thread nD τ).loc main_arg0) = Layout.block ⟨4, ![4, 2, 1088, 1024]⟩ ⟨4, ![32, 2, 1088, 1024]⟩ 0 8 c v)
    (h0) (s0) (s1) (h1) (b)
    (hc : Shape.Concatenates [⟨5, ![4, 1, 4, 1088, 1024]⟩, ⟨5, ![4, 1, 4, 1088, 1024]⟩] ⟨5, ![4, 2, 4, 1088, 1024]⟩ 1)
    (h3 : (⟨5, ![4, 2, 4, 1088, 1024]⟩ : Shape).ShapeCasts ⟨3, ![32, 1088, 1024]⟩) (c : Dev nD) :
    outF m c = Layout.block ⟨3, ![4, 1088, 1024]⟩ ⟨3, ![32, 1088, 1024]⟩ 0 8 c
      (shapeCast ⟨3, ![32, 1088, 1024]⟩ (concatenate ⟨5, ![4, 2, 4, 1088, 1024]⟩ 1
        [⟨⟨5, ![4, 1, 4, 1088, 1024]⟩, half v h0 ![0, 1, 0, 0, 0, 0] s0 h1 b⟩,
          ⟨⟨5, ![4, 1, 4, 1088, 1024]⟩, half v h0 ![0, 0, 0, 1, 0, 0] s1 h1 b⟩] hc) h3) := by
  funext i
  have hT : Layout.Tiles ⟨3, ![4, 1088, 1024]⟩ ⟨3, ![32, 1088, 1024]⟩ 0 8 := by decide
  have hS : Layout.Tiles ⟨4, ![4, 2, 1088, 1024]⟩ ⟨4, ![32, 2, 1088, 1024]⟩ 0 8 := by decide
  have hlt : c.val < 8 := c.isLt
  have hj : (i 0).val < 4 := (i 0).isLt
  have hp := peer_val (kOf i) c
  let t : Fin 4 := ⟨c.val / 2, by omega⟩
  let w : Fin 2 := ⟨c.val % 2, by omega⟩
  let j : Fin 4 := ⟨(i 0).val, hj⟩
  let d : Fin 32 := ⟨8 * (c.val / 2) + 4 * (c.val % 2) + (i 0).val, by omega⟩
  let e : Fin 32 := ⟨8 * (c.val / 2) + 4 * (1 - c.val % 2) + (i 0).val, by omega⟩
  have hplace : hT.idx c i = ix3 d (i 1) (i 2) := funext fun a => Fin.ext (by
    match a with
    | ⟨0, _⟩ => show c.val * 4 + (i 0).val = 8 * (c.val / 2) + 4 * (c.val % 2) + (i 0).val; omega
    | ⟨1, _⟩ => rfl
    | ⟨2, _⟩ => rfl)
  have hfrom : hS.idx (peer (kOf i) c) ((src (kOf i) (peer (kOf i) c)).view.emb (row i)) = ix4 e w (i 1) (i 2) := funext fun a => Fin.ext (by
    match a with
    | ⟨0, _⟩ =>
      have hs : ((src (kOf i) (peer (kOf i) c)).view.emb (row i) 0).val = (i 0).val + 1 * 0 := src_at (kOf i) (peer (kOf i) c) (row i) 0
      show (peer (kOf i) c).val * 4 + ((src (kOf i) (peer (kOf i) c)).view.emb (row i) 0).val = 8 * (c.val / 2) + 4 * (1 - c.val % 2) + (i 0).val
      omega
    | ⟨1, _⟩ =>
      have hs : ((src (kOf i) (peer (kOf i) c)).view.emb (row i) 1).val = 1 - (peer (kOf i) c).val % 2 + 1 * 0 := src_at (kOf i) (peer (kOf i) c) (row i) 1
      show ((src (kOf i) (peer (kOf i) c)).view.emb (row i) 1).val = c.val % 2
      omega
    | ⟨2, _⟩ =>
      have hs : ((src (kOf i) (peer (kOf i) c)).view.emb (row i) 2).val = 0 + 1 * (i 1).val := src_at (kOf i) (peer (kOf i) c) (row i) 2
      show ((src (kOf i) (peer (kOf i) c)).view.emb (row i) 2).val = (i 1).val
      omega
    | ⟨3, _⟩ =>
      have hs : ((src (kOf i) (peer (kOf i) c)).view.emb (row i) 3).val = 0 + 1 * (i 2).val := src_at (kOf i) (peer (kOf i) c) (row i) 3
      show ((src (kOf i) (peer (kOf i) c)).view.emb (row i) 3).val = (i 2).val
      omega)
  unfold outF
  rw [hm]
  show v (hS.idx (peer (kOf i) c) ((src (kOf i) (peer (kOf i) c)).view.emb (row i))) = _
  rw [hfrom, Layout.block_apply, hplace]
  exact (reference_at v h0 s0 s1 h1 b hc h3 t w j (i 1) (i 2) d e rfl rfl).symm

/-! ## The claims -/

theorem bitexact_swap : Cert.bitexact_Swap_SwapRef := fun m ρ m' ρ' _ hm =>
  ⟨_, (θ_run Cert.SwapIdeal.defs _ _).mono (fun _ h c => ⟨(h.1 c).1.trans (swapped m _ hm _ _ _ _ _ _ _ c), (h.1 c).2⟩) (run_main (F := Bits) m ρ),
    (θ_run Cert.SwapRef.defs _ _).mono (fun _ h => h 0) (Cert.SwapRef.Value.run (F := Bits) m' ρ')⟩

theorem algebraic_swap : Cert.algebraic_SwapIdeal_SwapRefIdeal := fun m ρ m' ρ' _ hm =>
  ⟨_, (θ_run Cert.SwapIdeal.defs _ _).mono (fun _ h c => ⟨(h.1 c).1.trans (swapped m _ hm _ _ _ _ _ _ _ c), (h.1 c).2⟩) (run_main (F := Ideal) m ρ),
    (θ_run Cert.SwapRefIdeal.defs _ _).mono (fun _ h => h 0) (Cert.SwapRefIdeal.Value.run (F := Ideal) m' ρ')⟩

theorem frames_swap : Cert.quiescent_Swap ∧ Cert.quiescent_SwapIdeal ∧ Cert.quiescent_SwapRefIdeal ∧ Cert.quiescent_SwapRef :=
  ⟨fun m ρ _ => (θ_run Cert.SwapIdeal.defs _ _).mono (fun _ h => ⟨fun c => (h.1 c).2, h.2⟩) (run_main (F := Bits) m ρ),
    fun m ρ _ => (θ_run Cert.SwapIdeal.defs _ _).mono (fun _ h => ⟨fun c => (h.1 c).2, h.2⟩) (run_main (F := Ideal) m ρ),
    fun m ρ _ => (θ_run Cert.SwapRefIdeal.defs _ _).mono (fun r h => ⟨fun c => (h c).2, sem_eq_zero_of_no_sems (by decide) r.2⟩)
      (Cert.SwapRefIdeal.Value.run (F := Ideal) m ρ),
    fun m ρ _ => (θ_run Cert.SwapRef.defs _ _).mono (fun r h => ⟨fun c => (h c).2, sem_eq_zero_of_no_sems (by decide) r.2⟩)
      (Cert.SwapRef.Value.run (F := Bits) m ρ)⟩

end Cert.SwapProof

end
-- ==== Proof.Chips.Start.lean ====
/-
# How the exchange's program starts and ends

The program is one kernel call per device, with nothing before or after it, and the call stages nothing: its two arrays
stay where they are and every transfer is the kernel's own.  Since the devices write into one another's result arrays with
no signal beforehand, what a device may write must be handed out across all devices BEFORE any of them starts.  `run_of`
is that start: all devices' scoped semaphores and arrays go through one common step (`hglob`), the pieces come back
device by device, each device's body runs on its piece, and what the bodies leave is read against the final memory.
-/
module

public import proofs.«01_k».proof.Proof.Gen.ChipsIdeal
public import proofs.«01_k».proof.Proof.Gen.ChipsIdeal.Skeleton
public import proofs.«01_k».proof.Proof.Gen.ChipsIdeal.Launch
public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.ChipsProof

open Cert.ChipsIdeal Cert.ChipsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-- The six transfer semaphores of the call. -/
abbrev osem : Fin 6 → SemLoc sig := fun i => .dma i

theorem ownSemFacts : Pipeline.OwnSemFacts cfg0.spec osem := by decide

/-- A device's six semaphores, all at zero. -/
abbrev sems0 (c : Dev nD) : sProp 𝕄 := Pipeline.ownSems0 osem c

/-- No other semaphore of the call, and none that stages. -/
abbrev idle0 (c : Dev nD) : sProp 𝕄 := Pipeline.idleSems0 cfgs cellOf_inj (0 : Fin 1) ownSemFacts c

omit [FloatOps F] in
theorem scoped_split (c : Dev nD) :
    (scopedSems0 (c.tc : Thread nD τ) : sProp 𝕄) = iprop((Pipeline.cellsSems0 cfgs (0 : Fin 1) c ∗ sems0 c) ∗ idle0 c) :=
  Pipeline.scopedSems0_split cfgs cellOf_inj (0 : Fin 1) winFacts0.to₀ ownSemFacts c

omit [FloatOps F] in
/-- One level per cell, set on every device at once. -/
theorem levels_set (L : GSem nD τ sig → Finset Unit) (lv : GSem nD τ sig → Unit → ℕ) (hL : ∀ g : GSem nD τ sig, g.1.2 ≠ .tc → L g = ∅) :
    (bigSep Finset.univ fun c : Dev nD => levels0 c) ⊢ (|==> levAts L lv : sProp 𝕄) := by
  have hoff : ∀ d : Dev nD, bigSep (Finset.univ.erase Proc.tc) (fun p => (coreLevAts ((d, p) : Thread nD τ) L lv : sProp 𝕄)) = BI.emp := fun d => by
    refine (bigSep_congr (Ψ := fun _ => (BI.emp : sProp 𝕄)) fun p hp => ?_).trans (BI.bigSep_emp_const _)
    unfold coreLevAts
    refine (bigSep_congr (Ψ := fun _ => (BI.emp : sProp 𝕄)) fun sm _ => ?_).trans (BI.bigSep_emp_const _)
    rw [hL ((d, p), sm) (Finset.ne_of_mem_erase hp), BI.bigSep_empty]
  have hall : (levAts L lv : sProp 𝕄) = iprop((bigSep Finset.univ fun d : Dev nD => coreLevAts (d.tc : Thread nD τ) L lv) ∗ BI.emp) := by
    rw [show (levAts L lv : sProp 𝕄) = bigSep Finset.univ fun c : Thread nD τ => coreLevAts c L lv
      from bigSep_univ_prod fun g : GSem nD τ sig => bigSep (L g) fun ι => levAt g ι (lv g ι), bigSep_threads (fun c : Thread nD τ => coreLevAts c L lv)]
    exact congrArg _ ((bigSep_congr fun d _ => hoff d).trans (BI.bigSep_emp_const _))
  have hfin : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_sep']
    iintro ⟨-, H⟩
    isplitl [H]; · iexact H
    iempintro
  exact (bigSep_mono fun c _ => lev_assign_cells (c.tc : Thread nD τ) L lv).trans ((BI.bigSep_bupd _ _).trans (BI.bupd_mono hfin))

omit [FloatOps F] in
/-- Nothing is staged: the call's entry needs no resource of a window. -/
theorem noWin (Φ : Fin cfg0.W → sProp 𝕄) : bigSep Finset.univ Φ = BI.emp := by
  rw [show (Finset.univ : Finset (Fin cfg0.W)) = ∅ from rfl, BI.bigSep_empty]

/-- THE START.  `hglob` deals the scoped semaphores and the arrays of ALL devices at once; then each device's body runs. -/
theorem run_of (dats : (p : Fin 1) → (c : Dev nD) → Dat τ (Elt F) Unit ℕ UU ℕ (cfgs p) c)
    (hbody : ∀ c, BodyObligation (dats 0 c) (defs₀ (F := F)) 𝒱₀ () Set.univ)
    (O₀ : Dev nD → CellTallies nD τ sig Unit) (howed₀ : ∀ c, (dats 0 c).owed 0 = O₀ c) (howedN : ∀ c, (dats 0 c).owed (Fin.last _) = 0)
    (L : GSem nD τ sig → Finset Unit) (lv : GSem nD τ sig → Unit → ℕ) (hL : ∀ g : GSem nD τ sig, g.1.2 ≠ .tc → L g = ∅)
    (G G' : Dev nD → sProp 𝕄) (u₀ : UU) (hu₀ : (ownU u₀ : sProp 𝕄) ⊢ |={Set.univ}=> bigSep Finset.univ G)
    (hglob : (bigSep Finset.univ fun c => iprop(sems0 c ∗ unscopedBufs c (fun b => m ((c.tc : Thread nD τ).loc b)) ∗ G c) : sProp 𝕄)
      ⊢ |={Set.univ}=> bigSep Finset.univ G')
    (hin : ∀ c, iprop(G' c ∗ levAts L lv ∗ Pipeline.launchCred O₀ c) ⊢ (dats 0 c).Φ 0)
    (Y : Dev nD → sProp 𝕄) (hout : ∀ c, (dats 0 c).Φ (Fin.last cfg0.N) ⊢ iprop(Y c ∗ sems0 c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s) → (∀ g' : GSem nD τ sig, (g'.1.2 ≠ .tc ∨ g'.2.isScoped .tc = true) → s.sem g' = 0) → Q (⟨⟩, s)) :
    θ_run defs (onTc (τ := τ) (main (F := F))) ⟨m, fun _ => 0, ρ⟩ Q := by
  classical
  let pre : Dev nD → sProp 𝕄 := fun c =>
    iprop(scopedBufs (c.tc : Thread nD τ) ∗ idle0 c ∗ owes (c.tc : Thread nD τ) (O₀ c) ∅ ∗ levAts L lv ∗ Pipeline.launchCred O₀ c ∗ G' c)
  let fin : Dev nD → sProp 𝕄 := fun c => iprop(Y c ∗ scopedSems0 (c.tc : Thread nD τ))
  refine (θ_run (Pipeline.defs pcfgs defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcfgs defs₀) _ _ _
      (reflect_intro_fupd_tc_sems (X := Unit) (Variants.lift 𝒱₀) (Pipeline.owing O₀) 0 (noBookings fun _ => le_rfl) (Pipeline.owing_of_ne O₀) u₀
        (fun _ => pre) (fun _ => fin) (fun _ => iprop(emp)) Set.univ ?_ (fun _ c => ?_) fun _ => ?_))
  · -- every device's holdings sorted by kind, the levels set, the common step taken
    have hone (c : Dev nD) :
        coreInit (Ix := Unit) (Name := ℕ) (U := UU) (Lvl := ℕ) (Pipeline.owing O₀) 0 (⟨m, fun _ => 0, ρ⟩ : MemSt nD τ sig (Elt F)) (c.tc : Thread nD τ)
          ⊢ iprop((scopedBufs (c.tc : Thread nD τ) ∗ idle0 c ∗ owes (c.tc : Thread nD τ) (O₀ c) ∅ ∗ Pipeline.launchCred O₀ c)
              ∗ levels0 c ∗ sems0 c ∗ unscopedBufs c (fun b => m ((c.tc : Thread nD τ).loc b))) := by
      refine (Pipeline.coreInit_boundary_owing O₀ m ρ c).trans ?_
      unfold boundary
      rw [scoped_split]
      iintro ⟨⟨Hsb, ⟨⟨-, Hown⟩, Hidle⟩, -⟩, Hub, -, Ho, Hlv, -, Hcr⟩
      isplitl [Hsb Hidle Ho Hcr]
      · isplitl [Hsb]; · iexact Hsb
        isplitl [Hidle]; · iexact Hidle
        isplitl [Ho] <;> iassumption
      isplitl [Hlv]; · iexact Hlv
      isplitl [Hown] <;> iassumption
    have hcores : (bigSep Finset.univ fun c : Dev nD =>
          coreInit (Ix := Unit) (Name := ℕ) (U := UU) (Lvl := ℕ) (Pipeline.owing O₀) 0 (⟨m, fun _ => 0, ρ⟩ : MemSt nD τ sig (Elt F)) (c.tc : Thread nD τ))
        ⊢ iprop((bigSep Finset.univ fun c : Dev nD => iprop(scopedBufs (c.tc : Thread nD τ) ∗ idle0 c ∗ owes (c.tc : Thread nD τ) (O₀ c) ∅ ∗ Pipeline.launchCred O₀ c))
            ∗ (bigSep Finset.univ fun c : Dev nD => levels0 c)
            ∗ (bigSep Finset.univ fun c : Dev nD => iprop(sems0 c ∗ unscopedBufs c (fun b => m ((c.tc : Thread nD τ).loc b)))) : sProp 𝕄) := by
      refine (bigSep_mono fun c _ => hone c).trans ?_
      simp only [bigSep_sep']
      exact BI.Entails.refl _
    iintro ⟨Hcores, Hu⟩
    ihave Hc := hcores $$ Hcores
    icases Hc with ⟨Hkeep, Hlv, Hown⟩
    imod (levels_set L lv hL) $$ Hlv with #Hla
    imod hu₀ $$ Hu with HG
    imod hglob $$ [Hown HG] with HG'
    · simp only [bigSep_sep']
      icases Hown with ⟨H1, H2⟩
      isplitl [H1]; · iexact H1
      isplitl [H2] <;> iassumption
    imodintro
    iexists ()
    isplitr []
    · simp only [pre, bigSep_sep']
      icases Hkeep with ⟨H1, H2, H3, H4⟩
      isplitl [H1]; · iexact H1
      isplitl [H2]; · iexact H2
      isplitl [H3]; · iexact H3
      isplitr
      · iapply (BI.bigSep_intro_persistent (S := Finset.univ) fun (c : Dev nD) _ => (BI.Entails.refl (levAts L lv : sProp 𝕄)))
        iexact Hla
      isplitl [H4] <;> iassumption
    · iempintro
  · -- one device: its call, then the return
    have hsb : (scopedBufs (c.tc : Thread nD τ) : sProp 𝕄) = iprop(Dat.staging cfg0 c ∗ Pipeline.scopedRest cfg0.spec c) :=
      Pipeline.scopedBufs_split cfgs (0 : Fin 1) winFacts0.stage_scoped winFacts0.stage_inj stage_whole0 c
    have hpost : Pipeline.EntryPost cfgs dats () (0 : Fin 1) c ⊢ iprop(∃ W, owes (c.tc : Thread nD τ) (0 : CellTallies nD τ sig Unit) W) := by
      unfold Pipeline.EntryPost Pipeline.PerCore.EntryPost Dat.owesAt Pipeline.owesWithin
      rw [howedN c]
      iintro ⟨-, ⟨%W, -, HW⟩⟩
      iexists W; iexact HW
    simp only [pre]
    rw [show main (F := F) c = .op (.customCall (Pipeline.entry 0) ()) fun _ => .ret ⟨⟩ from rfl]
    iintro ⟨Hsb, Hidle, Ho, #Hla, Hcr, HG⟩
    iapply (Pipeline.wp_customCall_entry_frame pcfgs (fun p => (cfgs p).toPCfg_adm) dats () EP (fun _ => 0) cellOf_inj (0 : Fin 1) defs₀ 𝒱₀ (fun _ => fullShare.right) c Set.univ
        (fun _ _ => Set.mem_univ _) (hbody c).loose block_pos0 none (fun u h => nomatch h)
        (X := iprop(G' c ∗ levAts L lv ∗ Pipeline.launchCred O₀ c)) (Y := Y c) (R := Pipeline.scopedRest cfg0.spec c) (I := idle0 c)
        (Entails.of_eq hsb) (by iintro ⟨HX, -, -⟩; iapply (hin c); iexact HX)
        (by
          rw [hsb, scoped_split, scopedRest0_eq]
          iintro ⟨HΦ, Hcells, Hst, Hidle⟩
          ihave H := (hout c) $$ HΦ
          icases H with ⟨HY, Hown⟩
          isplitl [HY]; · iexact HY
          isplitr [Hst]
          · isplitr [Hidle]
            · isplitl [Hcells] <;> iassumption
            iexact Hidle
          isplitl [Hst]; · iexact Hst
          iempintro)
        (k := fun _ => .ret ⟨⟩) (Q := fun _ => post (liftTc fin BI.emp) (c.tc : Thread nD τ))) $$ [Hsb Hidle Ho Hcr HG]
    · isplitl [Ho]
      · unfold Pipeline.EntryPre Pipeline.PerCore.EntryPre Dat.owesAt Pipeline.owesWithin
        rw [howed₀ c]
        unfold Dat.arrays Pipeline.PerCore.cellsWaits Pipeline.PerCore.cellsInit Pipeline.PerCore.toksInit
          Pipeline.PerCore.RDat.cellsWaits Pipeline.PerCore.RDat.cellsInit
        rw [noWin, noWin, noWin, noWin]
        isplitr; · iempintro
        isplitl [Ho]
        · iexists ∅; isplitr; · ipureintro; rw [Finset.coe_empty]; exact Set.empty_subset _
          iexact Ho
        isplitr; · iempintro
        isplitr <;> iempintro
      isplitr
      · unfold Pipeline.prefHeld
        rw [show (Finset.univ : Finset (Fin (pcfgs (F := F) 0).pre.K)) = ∅ from rfl, BI.bigSep_empty]
        iempintro
      isplitl [Hcr HG]
      · isplitl [HG]; · iexact HG
        isplitr; · iexact Hla
        iexact Hcr
      isplitl [Hidle]; · iexact Hidle
      iexact Hsb
    iintro ⟨Hpost, HY, Hss, -⟩
    rw [wp_ret]; imodintro
    unfold post; simp only [liftTc_tc, fin]
    isplitr [Hpost]
    · isplitl [HY] <;> iassumption
    · iapply hpost; iexact Hpost
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.ChipsProof

end
-- ==== Proof.Chips.Plan.lean ====
/-
# The plan of the exchange between chips: who writes what where, and on which semaphore

Device `d = 4x + 2y + c` holds four blocks, one for each chip.  Write `flip a d` for the device whose number is `d` with the
bits of `a` turned over.  Transfer `k` of device `d` goes to the same core of one of the three other chips (`flip 2`,
`flip 4`, `flip 6`): it takes the block of that chip and brings it into slot `k` of that device's result.

The source blocks of a device's transfers do not meet, and the slots of a result are all of it.  `outF` says what a device's
result holds in the end: at slot `k`, what its sender has at the source of transfer `k`.  Every semaphore counts one
transfer, and a device waits only after it has started all of its transfers.
-/
module

public import proofs.«01_k».proof.Proof.Chips.Start
public import Idealize.ShloMosaic.Lib.Ring

@[expose] public section

noncomputable section

namespace Cert.ChipsProof

open Cert.ChipsIdeal Cert.ChipsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices and slots -/

/-- The device whose number differs from `c`'s in the bits of `a`. -/
def flip (a : ℕ) (c : Dev nD) : Dev nD := ⟨(c.val ^^^ a) % 8, Nat.mod_lt _ (by decide)⟩

/-- Whom transfer `k` of a device goes to, and from whom transfer `k` comes. -/
def peer (k : Fin 3) (c : Dev nD) : Dev nD := flip ((![2, 4, 6] : Fin 3 → ℕ) k) c

theorem peer_peer (k : Fin 3) (c : Dev nD) : peer k (peer k c) = c := by revert k c; decide

/-- The transfers paired with their senders, seen from their receivers. -/
def across : Dev nD × Fin 3 ≃ Dev nD × Fin 3 :=
  ⟨fun x => (peer x.2 x.1, x.2), fun x => (peer x.2 x.1, x.2), fun x => by simp only [peer_peer], fun x => by simp only [peer_peer]⟩

/-! ## Arrays -/

abbrev xM : Memref sig .tc .hbm S4x1088x1024 .bf16 := Memref.whole main_arg0
abbrev oM : Memref sig .tc .hbm S3x1088x1024 .bf16 := Memref.whole main_v1

/-- One block of the operand, at an offset. -/
abbrev srcM (off : Fin 3 → ℕ) (h : ∀ a, off a + S1x1088x1024.size a ≤ S4x1088x1024.size a) : Memref sig .tc .hbm S1088x1024 .bf16 :=
  (xM.slice (Rect.unit (s := S4x1088x1024) off S1x1088x1024.size h) (fun _ => rfl)).squeeze S1088x1024 squeezes_S1x1088x1024_S1088x1024

/-- One slot of the result, at an offset. -/
abbrev slotM (off : Fin 3 → ℕ) (h : ∀ a, off a + S1x1088x1024.size a ≤ S3x1088x1024.size a) : Memref sig .tc .hbm S1088x1024 .bf16 :=
  (oM.slice (Rect.unit (s := S3x1088x1024) off S1x1088x1024.size h) (fun _ => rfl)).squeeze S1088x1024 squeezes_S1x1088x1024_S1088x1024

/-- Where the block that transfer `k` of device `c` takes begins. -/
abbrev srcOff (k : Fin 3) (c : Dev nD) : Fin 3 → ℕ := ![(peer k c).val / 2, 0, 0]
theorem srcOff_inb (k : Fin 3) (c : Dev nD) : ∀ a, srcOff k c a + S1x1088x1024.size a ≤ S4x1088x1024.size a := by revert k c; decide

abbrev srcRect (k : Fin 3) (c : Dev nD) : Rect S4x1088x1024 := Rect.unit (s := S4x1088x1024) (srcOff k c) S1x1088x1024.size (srcOff_inb k c)
abbrev src (k : Fin 3) (c : Dev nD) : Memref sig .tc .hbm S1088x1024 .bf16 := srcM (srcOff k c) (srcOff_inb k c)

abbrev offJ (k : Fin 3) : Fin 3 → ℕ := ![k.val, 0, 0]
theorem offJ_inb (k : Fin 3) : ∀ a, offJ k a + S1x1088x1024.size a ≤ S3x1088x1024.size a := by revert k; decide

abbrev slotRect (k : Fin 3) : Rect S3x1088x1024 := Rect.unit (s := S3x1088x1024) (offJ k) S1x1088x1024.size (offJ_inb k)
abbrev slot (k : Fin 3) : Memref sig .tc .hbm S1088x1024 .bf16 := slotM (offJ k) (offJ_inb k)

theorem slot_set (k : Fin 3) : (slot k).view.set = (slotRect k).set := by
  have h1 := View.set_reshape ((View.whole main_v1).slice (slotRect k)) squeezes_S1x1088x1024_S1088x1024.numel_eq
  exact h1.trans (View.set_slice_whole main_v1 (slotRect k))

theorem src_set (k : Fin 3) (c : Dev nD) : (src k c).view.set = (srcRect k c).set := by
  have h1 := View.set_reshape ((View.whole main_arg0).slice (srcRect k c)) squeezes_S1x1088x1024_S1088x1024.numel_eq
  exact h1.trans (View.set_slice_whole main_arg0 (srcRect k c))

theorem slots_disjoint (j j' : Fin 3) (h : j ≠ j') : Disjoint (slotRect j).set (slotRect j').set :=
  Ring.lead_disjoint (NB := 3) (s := S3x1088x1024) 0 1 offJ S1x1088x1024.size offJ_inb (fun b => by show b.val = _; omega) rfl j j' h

theorem slots_cover : Finset.univ.biUnion (fun j : Fin 3 => (slotRect j).set) = Finset.univ :=
  Ring.lead_cover (NB := 3) (s := S3x1088x1024) 0 1 offJ S1x1088x1024.size offJ_inb (fun b => by show b.val = _; omega)
    (by intro b a ha; fin_cases a <;> first | exact absurd rfl ha | rfl) rfl (by intro a ha; fin_cases a <;> first | exact absurd rfl ha | rfl) rfl

theorem src_apart : ∀ (c : Dev nD) (k k' : Fin 3), k ≠ k' → srcOff k c 0 + 1 ≤ srcOff k' c 0 ∨ srcOff k' c 0 + 1 ≤ srcOff k c 0 := by decide

theorem src_disjoint (c : Dev nD) (k k' : Fin 3) (h : k ≠ k') : Disjoint (srcRect k c).set (srcRect k' c).set := by
  rw [Finset.disjoint_left]
  intro i hi hi'
  have h1 := (Rect.mem_set_unit.mp hi) 0
  have h2 := (Rect.mem_set_unit.mp hi') 0
  have e : S1x1088x1024.size 0 = 1 := rfl
  rw [e] at h1 h2
  rcases src_apart c k k' h with h | h <;> omega

/-- The blocks a device sends, and what is left of its operand. -/
def blockSet (c : Dev nD) : Fin 3 ⊕ Unit → Finset S4x1088x1024.Idx
  | .inl k => (srcRect k c).set
  | .inr _ => Finset.univ \ Finset.univ.biUnion fun k : Fin 3 => (srcRect k c).set

theorem blocks_disjoint (c : Dev nD) (b b' : Fin 3 ⊕ Unit) (h : b ≠ b') : Disjoint (blockSet c b) (blockSet c b') := by
  have hl (k : Fin 3) : Disjoint (srcRect k c).set (Finset.univ \ Finset.univ.biUnion fun k : Fin 3 => (srcRect k c).set) :=
    Finset.disjoint_left.mpr fun i hi hi' => (Finset.mem_sdiff.mp hi').2 (Finset.mem_biUnion.mpr ⟨k, Finset.mem_univ _, hi⟩)
  rcases b with k | u <;> rcases b' with k' | u'
  · exact src_disjoint c k k' fun e => h (congrArg Sum.inl e)
  · exact hl k
  · exact (hl k').symm
  · exact absurd rfl h

theorem blocks_cover (c : Dev nD) : Finset.univ.biUnion (blockSet c) = Finset.univ := by
  refine Finset.eq_univ_iff_forall.mpr fun i => Finset.mem_biUnion.mpr ?_
  by_cases hi : i ∈ Finset.univ.biUnion fun k : Fin 3 => (srcRect k c).set
  · obtain ⟨k, -, hk⟩ := Finset.mem_biUnion.mp hi
    exact ⟨.inl k, Finset.mem_univ _, hk⟩
  · exact ⟨.inr (), Finset.mem_univ _, Finset.mem_sdiff.mpr ⟨Finset.mem_univ _, hi⟩⟩

/-! ## Contents -/

/-- The slot of an element of the result … -/
def kOf (i : S3x1088x1024.Idx) : Fin 3 := ⟨(i (0 : Fin 3)).val, (i (0 : Fin 3)).isLt⟩
/-- … and its place in the slot. -/
def row (i : S3x1088x1024.Idx) : S1088x1024.Idx := fun a => i (Fin.succ a)

/-- What device `c` ends with: in slot `k`, the block that its sender takes for transfer `k`. -/
def outF (c : Dev nD) : (main_v1 : Ref sig .tc).ty.Contents (Elt F) := fun i =>
  (src (kOf i) (peer (kOf i) c)).view.read (Elt F) (m ((peer (kOf i) c : Thread nD τ).loc main_arg0)) (row i)

omit [FloatOps F] in
theorem outF_slot (k : Fin 3) (c : Dev nD) (y : S1088x1024.Idx) :
    outF m c ((slot k).view.emb y) = (src k (peer k c)).view.read (Elt F) (m ((peer k c : Thread nD τ).loc main_arg0)) y := by
  have he : ∀ a, ((slot k).view.emb y a).val = offJ k a + 1 * ((Fin.cons ⟨0, Nat.one_pos⟩ y : S1x1088x1024.Idx) a).val := fun a => by
    have e := Shape.reshapeEquiv_cons_one (d := ![1088, 1024]) squeezes_S1x1088x1024_S1088x1024.numel_eq y
    exact congrArg (fun z : S1x1088x1024.Idx => offJ k a + 1 * (z a).val) e
  have h0 : kOf ((slot k).view.emb y) = k := Fin.ext ((he 0).trans (by show k.val + 1 * 0 = k.val; omega))
  have hr : row ((slot k).view.emb y) = y := funext fun a => Fin.ext ((he a.succ).trans (by
    fin_cases a
    · show 0 + 1 * (y 0).val = (y 0).val; omega
    · show 0 + 1 * (y 1).val = (y 1).val; omega))
  unfold outF
  rw [h0, hr]

omit [FloatOps F] in
/-- A block landed in its slot. -/
theorem landed (k : Fin 3) (c : Dev nD) (fd : (main_v1 : Ref sig .tc).ty.Contents (Elt F)) (i) (hi : i ∈ (slot k).view.set) :
    (slot k).view.write (Elt F) fd ((src k c).view.read (Elt F) (m ((c : Thread nD τ).loc main_arg0))) Finset.univ i = outF m (peer k c) i := by
  obtain ⟨y, -, rfl⟩ := Finset.mem_map.mp hi
  rw [View.write_emb_of_mem _ _ (Finset.mem_univ y), outF_slot, peer_peer]; rfl

/-! ## What a device holds -/

/-- Slot `k` of device `c`'s result, whole, holding `f`. -/
def slotPts (c : Dev nD) (k : Fin 3) (f : (main_v1 : Ref sig .tc).ty.Contents (Elt F)) : sProp 𝕄 :=
  (slot k).view.loc (c : Thread nD τ) ↦[(slot k).view.set]{fullShare} f

/-- The block that device `c` sends by transfer `k`. -/
def srcPts (c : Dev nD) (k : Fin 3) : sProp 𝕄 :=
  (src k c).view.loc (c : Thread nD τ) ↦[(src k c).view.set]{fullShare} m ((c : Thread nD τ).loc main_arg0)

/-- What it does not send. -/
def restPts (c : Dev nD) : sProp 𝕄 :=
  ((c : Thread nD τ).loc main_arg0) ↦[blockSet c (.inr ())]{fullShare} m ((c : Thread nD τ).loc main_arg0)

omit [FloatOps F] in
instance slotPts_storable (c : Dev nD) (k : Fin 3) (f) : BI.Storable (upEmb : UEmb _ 𝕄) (slotPts (F := F) c k f) := by unfold slotPts; infer_instance
omit [FloatOps F] in
instance srcPts_storable (c : Dev nD) (k : Fin 3) : BI.Storable (upEmb : UEmb _ 𝕄) (srcPts (F := F) m c k) := by unfold srcPts; infer_instance

omit [FloatOps F] in
/-- The result held whole is held slot by slot. -/
theorem result_slots (c : Dev nD) (f : (main_v1 : Ref sig .tc).ty.Contents (Elt F)) :
    (((c : Thread nD τ).loc main_v1) ↦{fullShare} f : sProp 𝕄) = bigSep Finset.univ fun k : Fin 3 => slotPts c k f := by
  refine (Ring.pointsTo_blocks (ℓ := (c : Thread nD τ).loc main_v1) (fun j : Fin 3 => (slotRect j).set) slots_disjoint slots_cover f).trans ?_
  exact bigSep_congr fun j _ => by unfold slotPts; rw [slot_set]

omit [FloatOps F] in
/-- The operand held whole is held block by block. -/
theorem operand_blocks (c : Dev nD) :
    (((c : Thread nD τ).loc main_arg0) ↦{fullShare} m ((c : Thread nD τ).loc main_arg0) : sProp 𝕄)
      = iprop((bigSep Finset.univ fun k : Fin 3 => srcPts m c k) ∗ restPts m c) := by
  refine (Ring.pointsTo_blocks (ℓ := (c : Thread nD τ).loc main_arg0) (blockSet c) (blocks_disjoint c) (blocks_cover c) _).trans ?_
  rw [bigSep_univ_sum, bigSep_univ_of_subsingleton ()]
  refine congrArg₂ _ (bigSep_congr fun k _ => ?_) rfl
  unfold srcPts; rw [src_set]; rfl

/-! ## The semaphores -/

/-- Send and receive semaphores among the six. -/
abbrev sI (k : Fin 3) : Fin 6 := ⟨k.val, by omega⟩
abbrev vI (k : Fin 3) : Fin 6 := ⟨3 + k.val, by omega⟩

def parts : Fin 3 ⊕ Fin 3 ≃ Fin 6 where
  toFun | .inl k => sI k | .inr k => vI k
  invFun i := if h : i.val < 3 then .inl ⟨i.val, h⟩ else .inr ⟨i.val - 3, by omega⟩
  left_inv := by decide
  right_inv := by decide

theorem bigSep_parts (Φ : Fin 6 → sProp 𝕄) :
    bigSep Finset.univ Φ = iprop((bigSep Finset.univ fun k : Fin 3 => Φ (sI k)) ∗ (bigSep Finset.univ fun k : Fin 3 => Φ (vI k))) := by
  rw [bigSep_univ_equiv parts Φ, bigSep_univ_sum]
  rfl

abbrev kcell (ck : Dev nD × Fin 6) : GSem nD τ sig := ((ck.1 : Thread nD τ), .dma ck.2)
abbrev sCell (k : Fin 3) (c : Dev nD) : GSem nD τ sig := kcell (c, sI k)
abbrev vCell (k : Fin 3) (c : Dev nD) : GSem nD τ sig := kcell (c, vI k)

theorem kcell_injective : Function.Injective kcell := by
  rintro ⟨c, i⟩ ⟨c', i'⟩ h
  have h1 : c = c' := congrArg (fun g : GSem nD τ sig => g.1.1) h
  have h2 : i = i' := SemLoc.dma.inj (congrArg Prod.snd h)
  rw [h1, h2]

/-- What one transfer counts. -/
theorem credit_exists : ∃ n : ℕ, 0 < n ∧ ∀ M : Memref sig .tc .hbm S1088x1024 .bf16, M.view.dmaCredit = n :=
  ⟨RefSig.tileCredit S1088x1024 .bf16, RefSig.tileCredit_pos _ _ (Shape.numel_pos (by decide)), fun _ => rfl⟩
def N : ℕ := credit_exists.choose
theorem N_pos : 0 < N := credit_exists.choose_spec.1
theorem credit_N (M : Memref sig .tc .hbm S1088x1024 .bf16) : M.view.dmaCredit = N := credit_exists.choose_spec.2 M

/-! ## The schedule -/

/-- What each semaphore hands its device: the block it had sent, or the slot that was filled. -/
def payOf (c : Dev nD) : Fin 3 ⊕ Fin 3 → sProp 𝕄
  | .inl k => srcPts m c k
  | .inr k => slotPts c k (outF m c)
def pay (c : Dev nD) (i : Fin 6) : sProp 𝕄 := payOf m c (parts.symm i)

omit [FloatOps F] in
theorem pay_s (c : Dev nD) (k : Fin 3) : pay m c (sI k) = srcPts m c k := congrArg (payOf m c) (parts.symm_apply_apply (.inl k))
omit [FloatOps F] in
theorem pay_v (c : Dev nD) (k : Fin 3) : pay m c (vI k) = slotPts c k (outF m c) := congrArg (payOf m c) (parts.symm_apply_apply (.inr k))

omit [FloatOps F] in
instance pay_storable (c : Dev nD) (i : Fin 6) : BI.Storable (upEmb : UEmb _ 𝕄) (pay (F := F) m c i) := by
  unfold pay payOf
  split <;> infer_instance

def isDma : SemLoc sig → Bool
  | .dma _ => true
  | _ => false

def Rd : Rounds.Schedule (GSem nD τ sig) Unit 𝕄 where
  duties g r := if r = 0 ∧ g.1.2 = .tc ∧ isDma g.2 = true then {()} else ∅
  unitless _ := False
  amount _ _ _ := N
  payload g _ _ := match g.2 with
    | .dma i => pay m g.1.1 i
    | _ => iprop(emp)
  amount_pos _ _ _ _ := N_pos

omit [FloatOps F] in
instance Rd_payload_storable (g : GSem nD τ sig) (r : ℕ) (d : Unit) : BI.Storable (upEmb : UEmb _ 𝕄) ((Rd (F := F) m).payload g r d) := by
  show BI.Storable upEmb (match g.2 with
    | .dma i => pay m g.1.1 i
    | _ => iprop(emp))
  split <;> infer_instance

omit [FloatOps F] in
theorem duties_0 (ck : Dev nD × Fin 6) : (Rd (F := F) m).duties (kcell ck) 0 = {()} := by
  unfold Rd; dsimp only; rw [if_pos ⟨rfl, rfl, rfl⟩]
omit [FloatOps F] in
theorem duties_mem (ck : Dev nD × Fin 6) : () ∈ (Rd (F := F) m).duties (kcell ck) 0 := by rw [duties_0]; exact Finset.mem_singleton_self _
omit [FloatOps F] in
theorem duties_later (g : GSem nD τ sig) : ∀ r, 1 ≤ r → (Rd (F := F) m).duties g r = ∅ :=
  fun r hr => by unfold Rd; dsimp only; rw [if_neg (fun h => absurd h.1 (Nat.ne_of_gt hr))]
omit [FloatOps F] in
theorem expect_0 (ck : Dev nD × Fin 6) : (Rd (F := F) m).expect (kcell ck) 0 = N := by
  unfold Schedule.expect Schedule.amountOf; rw [duties_0, Finset.sum_singleton]; rfl
omit [FloatOps F] in
theorem rest_0 (ck : Dev nD × Fin 6) :
    bigSep ((Rd (F := F) m).duties (kcell ck) 0 \ ∅) (fun u => (Rd (F := F) m).payload (kcell ck) 0 u) = pay m ck.1 ck.2 := by
  rw [Finset.sdiff_empty, duties_0, bigSep_singleton]; rfl

/-! ## What is owed, and the levels -/

/-- Still owed by device `c` when the transfers `ks` are yet to be started. -/
def ow (c : Dev nD) : List (Fin 3) → CellTallies nD τ sig Unit
  | [] => 0
  | k :: ks => ow c ks + tallyAt (vCell k (peer k c)) () N

def O₀ (c : Dev nD) : CellTallies nD τ sig Unit := ow c [0, 1, 2]

def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

/-! ## The credit each device starts with -/

theorem vCell_eq_iff {k k' : Fin 3} {c c' : Dev nD} : Iff (vCell k c = vCell k' c') (k = k' ∧ c = c') :=
  ⟨fun h => by
    have := kcell_injective h
    have h2 : 3 + k.val = 3 + k'.val := congrArg (fun x : Dev nD × Fin 6 => x.2.val) this
    exact ⟨Fin.ext (by omega), congrArg Prod.fst this⟩, fun ⟨h, h'⟩ => by rw [h, h']⟩

theorem ow_at (d c : Dev nD) (k : Fin 3) (ks : List (Fin 3)) : ow d ks (vCell k c) () = if d = peer k c then ks.count k * N else 0 := by
  induction ks with
  | nil => simp only [ow, List.count_nil, Nat.zero_mul, ite_self]; rfl
  | cons k' ks ih =>
    unfold ow
    rw [Pi.add_apply, Finsupp.add_apply, ih, tallyAt_apply]
    by_cases hk : k' = k
    · subst hk
      by_cases hd : d = peer k' c
      · rw [if_pos hd, if_pos hd, if_pos ⟨vCell_eq_iff.mpr ⟨rfl, by rw [hd, peer_peer]⟩, rfl⟩, List.count_cons_self, Nat.succ_mul]
      · rw [if_neg hd, if_neg hd, if_neg (fun ⟨h, _⟩ => hd (by rw [(vCell_eq_iff.mp h).2, peer_peer]))]
    · have hne : ¬ (vCell k c = vCell k' (peer k' d) ∧ () = ()) := fun h => hk (vCell_eq_iff.mp h.1).1.symm
      rw [if_neg hne, List.count_cons_of_ne hk, Nat.add_zero]

omit [FloatOps F] in
theorem launch_v (c : Dev nD) (k : Fin 3) :
    tallyOn (vCell k c) (launchCredit (Pipeline.owing O₀) 0 (vCell k c)) = (tallyAt (vCell k c) () N : CellTallies nD τ sig Unit) := by
  unfold tallyAt; refine congrArg _ (Finsupp.ext fun u => ?_); cases u
  have hc : List.count k [0, 1, 2] = 1 := by revert k; decide
  rw [Pipeline.launchCredit_owing, Finsupp.single_eq_same, Finset.sum_congr rfl fun d _ => show O₀ d (vCell k c) () = if d = peer k c then N else 0 by
      unfold O₀; rw [ow_at, hc, Nat.one_mul],
    Finset.sum_ite_eq' Finset.univ (peer k c) fun _ => N, if_pos (Finset.mem_univ _)]

omit [FloatOps F] in
theorem creds (c : Dev nD) : (Pipeline.launchCred O₀ c : sProp 𝕄) ⊢ bigSep Finset.univ fun k : Fin 3 => cred (tallyAt (vCell k c) () N) := by
  have hinj : Function.Injective fun k : Fin 3 => (SemLoc.dma (vI k) : SemLoc sig) := fun k k' h => by
    have : 3 + k.val = 3 + k'.val := congrArg Fin.val (SemLoc.dma.inj h)
    exact Fin.ext (by omega)
  unfold Pipeline.launchCred
  refine (BI.bigSep_subset (Finset.subset_univ (Finset.univ.map ⟨_, hinj⟩))).trans ?_
  rw [bigSep_map]
  exact Entails.of_eq (bigSep_congr fun k _ => by rw [← launch_v]; rfl)

end Cert.ChipsProof

end
-- ==== Proof.Chips.Steps.lean ====
/-
# The steps of the kernel, each proved once

A transfer to another device and a wait — at any device, any transfer, any semaphore.  The
kernel's own offsets, devices and semaphores come in as equations.
-/
module

public import proofs.«01_k».proof.Proof.Chips.Plan

@[expose] public section

noncomputable section

namespace Cert.ChipsProof

open Cert.ChipsIdeal Cert.ChipsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What everybody knows of every semaphore. -/
def records (K : Dev nD × Fin 6 → ℕ) : sProp 𝕄 :=
  iprop((bigSep Finset.univ fun ck => cellInv ER (Rd m) (K ck) (kcell ck)) ∗ bigSep Finset.univ fun ck => reached ER (kcell ck) 0)

instance records_persistent (K : Dev nD × Fin 6 → ℕ) : BI.Persistent (records (F := F) m K) := by unfold records; infer_instance

theorem inv_at (K : Dev nD × Fin 6 → ℕ) (ck : Dev nD × Fin 6) : records m K ⊢ (cellInv ER (Rd m) (K ck) (kcell ck) : sProp 𝕄) := by
  unfold records
  exact sep_elim_left.trans (bigSep_elim (Finset.mem_univ ck))
theorem reached_at (K : Dev nD × Fin 6 → ℕ) (ck : Dev nD × Fin 6) : records m K ⊢ (reached ER (kcell ck) 0 : sProp 𝕄) := by
  unfold records
  exact sep_elim_right.trans (bigSep_elim (Finset.mem_univ ck))

/-- Transfer `k` of device `c`. -/
theorem send_step (K : Dev nD × Fin 6 → ℕ) (c : Dev nD) (k : Fin 3) (ks : List (Fin 3))
    {n : Dev nD} (hn : n = peer k c) {offs : Fin 3 → ℕ} {h' : ∀ a, offs a + S1x1088x1024.size a ≤ S4x1088x1024.size a} (hoffs : offs = srcOff k c)
    {off : Fin 3 → ℕ} {h : ∀ a, off a + S1x1088x1024.size a ≤ S3x1088x1024.size a} (hoff : off = offJ k)
    {sS sR : DmaSem sig} (hs : sS = sI k) (hv : sR = vI k)
    {hsc : (slotM off h : Memref sig (Dev.tc n : Thread nD τ).2.kind .hbm S1088x1024 .bf16).view.ref.isScScratch = false}
    {hsrc : (srcM offs h').view.WordExact} {hdst : (slotM off h).view.WordExact}
    {hsem : DmaTarget.Typed .hbm (.dma sR) (.remote (Dev.tc n : Thread nD τ) (slotM off h) (.dma sS) hsc)}
    (fd : (main_v1 : Ref sig .tc).ty.Contents (Elt F)) (W : Waits sig Unit)
    {α : Type} {Q : α → sProp 𝕄} {kk : PUnit → Prog (TpuEff nD τ sig (Elt F) Λ₀ .tc) α} :
    iprop(records m K ∗ srcPts m c k ∗ slotPts (peer k c) k fd
        ∗ owes (c : Thread nD τ) (ow c (k :: ks)) W ∗ dutyTok ER (sCell k c) 0 () ∗ dutyTok ER (vCell k (peer k c)) 0 ())
      ⊢ iprop(((cred (tallyAt (sCell k c) () N) ∗ owes (c : Thread nD τ) (ow c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcM offs h') (.remote (Dev.tc n : Thread nD τ) (slotM off h) (.dma sS) hsc) (.dma sR) hsrc hdst hsem) kk) Q) := by
  subst hn hoff hoffs hs hv
  refine BIBase.Entails.trans ?_ (Rounds.wp_send_pointsTo 𝒱₀ ER (Rd m) (c : Thread nD τ) none (c' := (peer k c : Thread nD τ)) (src := src k c) (dst := slot k)
    (hsc := hsc) (hsrc := hsrc) (hdst := hdst) (hsem := hsem) (k := kk) (Q := Q) (q := fullShare) (fs := m ((c : Thread nD τ).loc main_arg0))
    (κ₁ := K (c, sI k)) (κ₂ := K (peer k c, vI k)) (r₁ := 0) (r₂ := 0) (d₁ := ()) (d₂ := ()) (fd := fd) (Es := Set.univ)
    (duties_mem m (c, sI k)) (duties_mem m (peer k c, vI k)) () () N (credit_N _) rfl rfl (ow c ks) rfl (W := W)
    (by
      refine BIBase.Entails.trans ?_ (Entails.of_eq (pay_s m c k).symm)
      unfold srcPts
      exact Entails.of_eq rfl)
    (by
      refine BIBase.Entails.trans ?_ (Entails.of_eq (pay_v m (peer k c) k).symm)
      unfold slotPts
      exact Entails.of_eq (pointsTo_congr (landed m k c fd))))
  unfold slotPts srcPts
  iintro ⟨#HR, Hsrc, Hdst, Ho, Ht1, Ht2⟩
  isplitr; · iapply (inv_at m K (c, sI k)); iexact HR
  isplitr; · iapply (inv_at m K (peer k c, vI k)); iexact HR
  isplitl [Hsrc]; · iexact Hsrc
  isplitl [Hdst]; · iexact Hdst
  isplitl [Ho]; · iexact Ho
  isplitl [Ht1]; · iexact Ht1
  isplitr; · iapply (reached_at m K (c, sI k)); iexact HR
  isplitl [Ht2]; · iexact Ht2
  iapply (reached_at m K (peer k c, vI k)); iexact HR

/-- A wait for one transfer, on any of the six semaphores: what it guards comes with it, and the semaphore is spent. -/
theorem wait_step (K : Dev nD × Fin 6 → ℕ) (c : Dev nD) (i : Fin 6) {s : DmaSem sig} (hs : s = i)
    {sp' : Space} {s' : Shape} {e' : EltTy} {src : Memref sig .tc sp' s' e'} {dst : Memref sig .tc .hbm S1088x1024 .bf16}
    {hsrc : src.view.WordExact} {hdst : dst.view.WordExact} (O : CellTallies nD τ sig Unit) (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) O W ∗ MayWait (c : Thread nD τ) (.dma i) () O
        ∗ atPos ER (kcell (c, i)) 0 ∅ 0)
      ⊢ iprop(((owes (c : Thread nD τ) O (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  iintro ⟨#HR, Hc, Ho, Hm, Hat⟩ Hk
  iapply (Rounds.wp_wait_rest_token 𝒱₀ ER (Rd m) (c : Thread nD τ) none (κ := K (c, s))
      (wpE_waitDma2_eq 𝒱₀ (c : Thread nD τ) none Set.univ) (Set.mem_univ _) () (O := O) (W := W) (R := 0) (m := 0) (T := ∅)
      (by rw [Nat.zero_add, credit_N, expect_0 m (c, s)])) $$ [Hc Ho Hm Hat]
  · isplitr; · iapply (inv_at m K (c, s)); iexact HR
    isplitl [Hc]; · rw [credit_N]; iexact Hc
    isplitl [Ho]; · iexact Ho
    isplitl [Hm]; · iexact Hm
    iexact Hat
  iintro ⟨Ho, Hat, -, Hpay⟩
  ihave Hp := (Entails.of_eq (rest_0 m (c, s))) $$ Hpay
  imod (Rounds.cell_close ER (Rd m) (Set.mem_univ (K (c, s))) (fun h => h) (R := 0 + 1) (duties_later m (kcell (c, s)))) $$ [Hat] with Hz
  · isplitr; · iapply (inv_at m K (c, s)); iexact HR
    iexact Hat
  iapply Hk
  isplitl [Ho]; · iexact Ho
  isplitl [Hp]; · iexact Hp
  iexact Hz

end Cert.ChipsProof

end
-- ==== Proof.Chips.Walk.lean ====
/-
# The kernel's body, at any device

One walk through the body at a symbolic device `c`, from what the launch deals it (`Φ₀`) to the exchanged blocks with every
semaphore spent (`Φ₁`).
-/
module

public import proofs.«01_k».proof.Proof.Gen.ChipsIdeal.Points
public import proofs.«01_k».proof.Proof.Chips.Steps

@[expose] public section

noncomputable section

namespace Cert.ChipsProof

open Cert.ChipsIdeal Cert.ChipsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's devices and offsets -/

theorem dev1_eq (c : Dev nD) : (⟨k0_dev1 c, k0_dev1_lt c⟩ : Dev nD) = peer 0 c := Fin.ext (by revert c; decide +kernel)
theorem dev2_eq (c : Dev nD) : (⟨k0_dev2 c, k0_dev2_lt c⟩ : Dev nD) = peer 1 c := Fin.ext (by revert c; decide +kernel)
theorem dev3_eq (c : Dev nD) : (⟨k0_dev3 c, k0_dev3_lt c⟩ : Dev nD) = peer 2 c := Fin.ext (by revert c; decide +kernel)
theorem off1_eq (c : Dev nD) : k0_off1 c 0#32 1#32 = srcOff 0 c := by revert c; decide +kernel
theorem off2_eq (c : Dev nD) : k0_off1 c 1#32 0#32 = srcOff 1 c := by revert c; decide +kernel
theorem off3_eq (c : Dev nD) : k0_off1 c 1#32 1#32 = srcOff 2 c := by revert c; decide +kernel

/-! ## Before and after -/

/-- The right to pay each transfer, at its sender. -/
def toks (c : Dev nD) : sProp 𝕄 :=
  iprop((bigSep Finset.univ fun k : Fin 3 => dutyTok ER (sCell k c) 0 ()) ∗ (bigSep Finset.univ fun k : Fin 3 => dutyTok ER (vCell k (peer k c)) 0 ()))

/-- The slots a device will write, wherever they are, and its own operand. -/
def held (c : Dev nD) : sProp 𝕄 :=
  iprop((bigSep Finset.univ fun k : Fin 3 => slotPts (peer k c) k (m ((peer k c : Thread nD τ).loc main_v1)))
    ∗ (bigSep Finset.univ fun k : Fin 3 => srcPts m c k) ∗ restPts m c)

def linear (c : Dev nD) : sProp 𝕄 :=
  iprop((bigSep Finset.univ fun i : Fin 6 => atPos ER (kcell (c, i)) 0 ∅ 0) ∗ toks c ∗ held m c)

/-- What each device starts with, apart from credit and levels. -/
def G' (c : Dev nD) : sProp 𝕄 := iprop(∃ K, records m K ∗ linear m c)

def Φ₀ (c : Dev nD) : sProp 𝕄 :=
  iprop(G' m c ∗ levAts L lv ∗ bigSep Finset.univ fun k : Fin 3 => cred (tallyAt (vCell k c) () N))

def Φ₁ (c : Dev nD) : sProp 𝕄 :=
  iprop((((c : Thread nD τ).loc main_v1) ↦{fullShare} outF m c) ∗ (((c : Thread nD τ).loc main_arg0) ↦{fullShare} m ((c : Thread nD τ).loc main_arg0))
    ∗ bigSep Finset.univ fun i : Fin 6 => semVal (kcell (c, i)) 0)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_finK (Φ : Fin 3 → sProp 𝕄) : bigSep Finset.univ Φ = iprop(Φ 0 ∗ Φ 1 ∗ Φ 2) :=
  bigSep_univ_eq_bigSepL [0, 1, 2] (by decide) (by decide) Φ

/-- A wait when nothing is owed any more. -/
theorem wait_free (K : Dev nD × Fin 6 → ℕ) (c : Dev nD) (i : Fin 6) {s : DmaSem sig} (hs : s = i)
    {sp' : Space} {s' : Shape} {e' : EltTy} {src : Memref sig .tc sp' s' e'} {dst : Memref sig .tc .hbm S1088x1024 .bf16}
    {hsrc : src.view.WordExact} {hdst : dst.view.WordExact} (W : Waits sig Unit)
    {α : Type} {Q : α → sProp 𝕄} {kk : PUnit → Prog (TpuEff nD τ sig (Elt F) Λ₀ .tc) α} :
    iprop(records m K ∗ cred (tallyAt (kcell (c, i)) () N) ∗ owes (c : Thread nD τ) (ow c []) W ∗ atPos ER (kcell (c, i)) 0 ∅ 0)
      ⊢ iprop(((owes (c : Thread nD τ) (ow c []) (insert (.dma i, ()) W) ∗ pay m c i ∗ semVal (kcell (c, i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  refine BIBase.Entails.trans ?_ (wait_step m K c i hs (ow c []) W)
  iintro ⟨#HR, Hc, Ho, Hat⟩
  isplitr; · iexact HR
  isplitl [Hc]; · iexact Hc
  isplitl [Ho]; · iexact Ho
  isplitr; · rw [show ow c [] = 0 from rfl, MayWait_zero]; iempintro
  iexact Hat

/-! ## The walk -/

set_option maxHeartbeats 2000000 in
set_option maxRecDepth 8000 in
theorem body_walk (K : Dev nD × Fin 6 → ℕ) (c : Dev nD) (W : Waits sig Unit) (Kt : PUnit → sProp 𝕄) :
    iprop((records m K ∗ linear m c ∗ levAts L lv ∗ (bigSep Finset.univ fun k : Fin 3 => cred (tallyAt (vCell k c) () N))
        ∗ owes (c : Thread nD τ) (O₀ c) W) ∗ (Φ₁ m c ∗ (∃ W', owes (c : Thread nD τ) 0 W') -∗ Kt ⟨⟩))
      ⊢ wp frame (wpE (defs₀ (F := F)) 𝒱₀ c none) Set.univ (bodyAt0 t0_0) Kt := by
  unfold bodyAt0
  simp only [cc0_exchange_w_in_grads_eq_skeleton]
  unfold cc0_exchange_w_in_grads_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold linear toks held
  rw [bigSep_parts]
  simp only [bigSep_finK]
  iintro ⟨⟨#HR, ⟨⟨⟨AS0, AS1, AS2⟩, ⟨AV0, AV1, AV2⟩⟩, ⟨⟨S0, S1, S2⟩, ⟨V0, V1, V2⟩⟩, ⟨D0, D1, D2⟩, ⟨X0, X1, X2⟩, HX⟩, #Hlev, ⟨C0, C1, C2⟩, HO⟩, Hk⟩
  unfold O₀
  -- all transfers are started
  iapply (send_step m K c 0 [1, 2] (dev1_eq c) (off1_eq c) rfl rfl rfl _ _) $$ [X0 D0 HO S0 V0]
  · isplitr; · iexact HR
    isplitl [X0]; · iexact X0
    isplitl [D0]; · iexact D0
    isplitl [HO]; · iexact HO
    isplitl [S0] <;> iassumption
  iintro ⟨E0, HO⟩
  iapply (send_step m K c 1 [2] (dev2_eq c) (off2_eq c) rfl rfl rfl _ _) $$ [X1 D1 HO S1 V1]
  · isplitr; · iexact HR
    isplitl [X1]; · iexact X1
    isplitl [D1]; · iexact D1
    isplitl [HO]; · iexact HO
    isplitl [S1] <;> iassumption
  iintro ⟨E1, HO⟩
  iapply (send_step m K c 2 [] (dev3_eq c) (off3_eq c) rfl rfl rfl _ _) $$ [X2 D2 HO S2 V2]
  · isplitr; · iexact HR
    isplitl [X2]; · iexact X2
    isplitl [D2]; · iexact D2
    isplitl [HO]; · iexact HO
    isplitl [S2] <;> iassumption
  iintro ⟨E2, HO⟩
  -- and waited for, first at the sending and then at the receiving end
  iapply (wait_free m K c (sI 0) rfl _) $$ [E0 HO AS0]
  · isplitr; · iexact HR
    isplitl [E0]; · iexact E0
    isplitl [HO] <;> iassumption
  iintro ⟨HO, Q0, ZS0⟩
  iapply (wait_free m K c (vI 0) rfl _) $$ [C0 HO AV0]
  · isplitr; · iexact HR
    isplitl [C0]; · iexact C0
    isplitl [HO] <;> iassumption
  iintro ⟨HO, P0, ZV0⟩
  iapply (wait_free m K c (sI 1) rfl _) $$ [E1 HO AS1]
  · isplitr; · iexact HR
    isplitl [E1]; · iexact E1
    isplitl [HO] <;> iassumption
  iintro ⟨HO, Q1, ZS1⟩
  iapply (wait_free m K c (vI 1) rfl _) $$ [C1 HO AV1]
  · isplitr; · iexact HR
    isplitl [C1]; · iexact C1
    isplitl [HO] <;> iassumption
  iintro ⟨HO, P1, ZV1⟩
  iapply (wait_free m K c (sI 2) rfl _) $$ [E2 HO AS2]
  · isplitr; · iexact HR
    isplitl [E2]; · iexact E2
    isplitl [HO] <;> iassumption
  iintro ⟨HO, Q2, ZS2⟩
  iapply (wait_free m K c (vI 2) rfl _) $$ [C2 HO AV2]
  · isplitr; · iexact HR
    isplitl [C2]; · iexact C2
    isplitl [HO] <;> iassumption
  iintro ⟨HO, P2, ZV2⟩
  rw [wp_ret]; imodintro
  iapply Hk
  ihave P0 := (Entails.of_eq (pay_v m c 0)) $$ P0
  ihave Q0 := (Entails.of_eq (pay_s m c 0)) $$ Q0
  ihave P1 := (Entails.of_eq (pay_v m c 1)) $$ P1
  ihave Q1 := (Entails.of_eq (pay_s m c 1)) $$ Q1
  ihave P2 := (Entails.of_eq (pay_v m c 2)) $$ P2
  ihave Q2 := (Entails.of_eq (pay_s m c 2)) $$ Q2
  isplitr [HO]
  · unfold Φ₁
    rw [result_slots, operand_blocks, bigSep_parts]
    simp only [bigSep_finK]
    isplitl [P0 P1 P2]
    · isplitl [P0]; · iexact P0
      isplitl [P1]; · iexact P1
      iexact P2
    isplitl [Q0 Q1 Q2 HX]
    · isplitl [Q0 Q1 Q2]
      · isplitl [Q0]; · iexact Q0
        isplitl [Q1]; · iexact Q1
        iexact Q2
      iexact HX
    isplitl [ZS0 ZS1 ZS2]
    · isplitl [ZS0]; · iexact ZS0
      isplitl [ZS1]; · iexact ZS1
      iexact ZS2
    isplitl [ZV0]; · iexact ZV0
    isplitl [ZV1]; · iexact ZV1
    iexact ZV2
  iexists _; iexact HO

/-- The body's obligation to the launch. -/
theorem body_obligation (c : Dev nD) : BodyObligation (dats (F := F) m 0 c) (defs₀ (F := F)) 𝒱₀ () Set.univ := fun t => by
  rw [show t = t0_0 from fin_N0 t, noWin, noWin]
  show iprop(Φ₀ m c ∗ (dats (F := F) m 0 c).owesAt () (Fin.castSucc t0_0) ∗ BI.emp) ⊢ wp frame (wpE (defs₀ (F := F)) 𝒱₀ c none) Set.univ
    (bodyAt0 t0_0) (fun _ => iprop(Φ₁ m c ∗ (dats (F := F) m 0 c).owesAt () (Fin.succ t0_0) ∗ BI.emp))
  unfold Φ₀ G' Dat.owesAt Pipeline.owesWithin
  rw [show (dats (F := F) m 0 c).owed (Fin.castSucc t0_0) = O₀ c from rfl, show (dats (F := F) m 0 c).owed (Fin.succ t0_0) = 0 from rfl]
  iintro ⟨⟨⟨%K, #HR, Hlin⟩, #Hlev, Hcr⟩, ⟨%W, %hW, HO⟩, -⟩
  iapply (body_walk m K c W)
  isplitl [Hlin Hcr HO]
  · isplitr; · iexact HR
    isplitl [Hlin]; · iexact Hlin
    isplitr; · iexact Hlev
    isplitl [Hcr] <;> iassumption
  iintro ⟨H1, %W', HO⟩
  isplitl [H1]; · iexact H1
  isplitl [HO]
  · iexists W'
    isplitr; · ipureintro; exact fun _ _ => Or.inl trivial
    iexact HO
  iempintro

end Cert.ChipsProof

end
-- ==== Proof.Chips.Run.lean ====
/-
# The exchange as a whole

The launch deals every device its six semaphores, its operand and its result.  The result is dealt on slot by slot: a slot
that device `d` is to fill goes to `d`, whoever it belongs to, and so does the right to pay its receive semaphore.  Both are
one exchange along `across`.  Then every device walks its body, and the final memory is read off.
-/
module

public import proofs.«01_k».proof.Proof.Chips.Walk

@[expose] public section

noncomputable section

namespace Cert.ChipsProof

open Cert.ChipsIdeal Cert.ChipsIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records -/

def ringCells : Finset (GSem nD τ sig) := Finset.univ.map ⟨kcell, kcell_injective⟩
def ringToks : Finset (GSem nD τ sig × ℕ × Unit) :=
  Finset.univ.map ⟨fun ck : Dev nD × Fin 6 => (kcell ck, 0, ()), fun _ _ h => kcell_injective (congrArg Prod.fst h)⟩

def u₀ : UU := (initOf ∅ ∅, initOf ringCells ringToks)

/-- What a device gets of the records. -/
def G (c : Dev nD) : sProp 𝕄 :=
  iprop((bigSep Finset.univ fun i : Fin 6 => roundState ER (Rd m) (kcell (c, i)) 0)
    ∗ (bigSep Finset.univ fun i : Fin 6 => reached ER (kcell (c, i)) 0)
    ∗ (bigSep Finset.univ fun i : Fin 6 => atPos ER (kcell (c, i)) 0 ∅ 0)
    ∗ bigSep Finset.univ fun i : Fin 6 => dutyTok ER (kcell (c, i)) 0 ())

theorem records_made : (ownU u₀ : sProp 𝕄) ⊢ |={Set.univ}=> bigSep Finset.univ (G m) := by
  have hc (Φ : GSem nD τ sig → sProp 𝕄) : bigSep ringCells Φ = bigSep Finset.univ fun c : Dev nD => bigSep Finset.univ fun i : Fin 6 => Φ (kcell (c, i)) := by
    unfold ringCells; rw [bigSep_map, bigSep_univ_prod]; rfl
  have ht : (bigSep ringToks fun x => dutyTok ER x.1 x.2.1 x.2.2 : sProp 𝕄)
      = bigSep Finset.univ fun c : Dev nD => bigSep Finset.univ fun i : Fin 6 => dutyTok ER (kcell (c, i)) 0 () := by
    unfold ringToks; rw [bigSep_map, bigSep_univ_prod]; rfl
  have hG : (bigSep Finset.univ (G m) : sProp 𝕄)
      = iprop((bigSep ringCells fun g => roundState ER (Rd m) g 0) ∗ (bigSep ringCells fun g => reached ER g 0)
        ∗ (bigSep ringCells fun g => atPos ER g 0 ∅ 0) ∗ bigSep ringToks fun x => dutyTok ER x.1 x.2.1 x.2.2) := by
    rw [hc, hc, hc, ht]
    unfold G
    simp only [bigSep_sep']
  unfold u₀
  iintro Hu
  ihave H := (ownU_pair (initOf ∅ ∅ : UR sig nD τ) (initOf ringCells ringToks : UR sig nD τ)) $$ Hu
  icases H with ⟨-, HX⟩
  imod (Rounds.fund ER (Rd m) ringCells ringToks) $$ HX with HF
  imodintro
  rw [hG]
  iexact HF

/-! ## Dealing -/

omit [FloatOps F] in
theorem sems0_eq (c : Dev nD) : (sems0 c : sProp 𝕄) = bigSep Finset.univ fun i : Fin 6 => semVal (kcell (c, i)) 0 := rfl

/-- A device's part of the invariants is set up. -/
theorem cells_made (c : Dev nD) :
    iprop(sems0 c ∗ bigSep Finset.univ fun i : Fin 6 => roundState ER (Rd (F := F) m) (kcell (c, i)) 0)
      ⊢ |={Set.univ}=> bigSep Finset.univ fun i : Fin 6 => iprop(∃ κ : ℕ, cellInv ER (Rd (F := F) m) κ (kcell (c, i))) := by
  rw [sems0_eq, ← bigSep_sep']
  exact (bigSep_mono fun i _ => (Rounds.body_intro ER (Rd m) (kcell (c, i))).trans inv_alloc).trans (bigSep_fupd _ _)

/-- Its memory: the operand block by block, and the result slot by slot. -/
theorem memory_split (c : Dev nD) :
    (unscopedBufs c (fun b => m ((c : Thread nD τ).loc b)) : sProp 𝕄)
      ⊢ iprop(((bigSep Finset.univ fun k : Fin 3 => srcPts m c k) ∗ restPts m c)
          ∗ (bigSep Finset.univ fun k : Fin 3 => slotPts c k (m ((c : Thread nD τ).loc main_v1)))) := by
  have h := Pipeline.unscopedBufs_split (Ix := Unit) (Name := ℕ) (U := UU) (Lvl := ℕ) cfgs (0 : Fin 1) winFacts0.arr_unscoped winFacts0.arr_inj c
    (fun b => m ((c : Thread nD τ).loc b))
  rw [h, unscopedRest0_eq, result_slots, operand_blocks]
  iintro ⟨-, Hx⟩
  iexact Hx

omit [FloatOps F] in
/-- What belongs to the receivers of the transfers, dealt to their senders. -/
theorem exchange (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (peer k c) k := by
  have h1 := bigSep_univ_prod (M := 𝕄) fun ck : Dev nD × Fin 3 => Φ ck.1 ck.2
  have h2 := bigSep_univ_equiv across (fun ck : Dev nD × Fin 3 => Φ ck.1 ck.2)
  have h3 := bigSep_univ_prod (M := 𝕄) fun ck : Dev nD × Fin 3 => Φ (peer ck.2 ck.1) ck.2
  exact h1.symm.trans (h2.trans h3)

/-- A device's share of the dealing, before the exchange. -/
def got (c : Dev nD) : sProp 𝕄 :=
  iprop((bigSep Finset.univ fun i : Fin 6 => iprop(∃ κ : ℕ, cellInv ER (Rd (F := F) m) κ (kcell (c, i))))
    ∗ (bigSep Finset.univ fun i : Fin 6 => reached ER (kcell (c, i)) 0)
    ∗ (bigSep Finset.univ fun i : Fin 6 => atPos ER (kcell (c, i)) 0 ∅ 0)
    ∗ (bigSep Finset.univ fun k : Fin 3 => dutyTok ER (sCell k c) 0 ()) ∗ (bigSep Finset.univ fun k : Fin 3 => dutyTok ER (vCell k c) 0 ())
    ∗ ((bigSep Finset.univ fun k : Fin 3 => srcPts m c k) ∗ restPts m c)
    ∗ (bigSep Finset.univ fun k : Fin 3 => slotPts c k (m ((c : Thread nD τ).loc main_v1))))

/-- Everything dealt. -/
theorem dealt :
    (bigSep Finset.univ fun c => iprop(sems0 c ∗ unscopedBufs c (fun b => m ((c : Thread nD τ).loc b)) ∗ G m c) : sProp 𝕄)
      ⊢ |={Set.univ}=> bigSep Finset.univ (G' m) := by
  have hone (c : Dev nD) : iprop(sems0 c ∗ unscopedBufs c (fun b => m ((c : Thread nD τ).loc b)) ∗ G m c) ⊢ |={Set.univ}=> got m c := by
    have ht := bigSep_parts (F := F) fun i => dutyTok ER (kcell (c, i)) 0 ()
    unfold G got
    iintro ⟨Hs, Hm, Hst, Hr, Hat, Htok⟩
    imod (cells_made m c) $$ [Hs Hst] with HI
    · isplitl [Hs] <;> iassumption
    ihave Hm' := (memory_split m c) $$ Hm
    ihave Ht := (Entails.of_eq ht) $$ Htok
    icases Ht with ⟨Ht1, Ht2⟩
    imodintro
    isplitl [HI]; · iexact HI
    isplitl [Hr]; · iexact Hr
    isplitl [Hat]; · iexact Hat
    isplitl [Ht1]; · iexact Ht1
    isplitl [Ht2]; · iexact Ht2
    iexact Hm'
  have hall : (bigSep Finset.univ fun c => iprop(sems0 c ∗ unscopedBufs c (fun b => m ((c : Thread nD τ).loc b)) ∗ G m c) : sProp 𝕄)
      ⊢ |={Set.univ}=> bigSep Finset.univ (got m) := (bigSep_mono fun c _ => hone c).trans (bigSep_fupd Finset.univ (got m))
  suffices hre : (bigSep Finset.univ (got m) : sProp 𝕄) ⊢ bigSep Finset.univ (G' m) by
    exact hall.trans (BI.fupd_mono hre)
  have hI : (bigSep Finset.univ fun c : Dev nD => bigSep Finset.univ fun i : Fin 6 => iprop(∃ κ : ℕ, cellInv ER (Rd (F := F) m) κ (kcell (c, i))))
      = (bigSep Finset.univ fun ck : Dev nD × Fin 6 => iprop(∃ κ : ℕ, cellInv ER (Rd (F := F) m) κ (kcell ck)) : sProp 𝕄) :=
    (bigSep_univ_prod fun ck : Dev nD × Fin 6 => iprop(∃ κ : ℕ, cellInv ER (Rd (F := F) m) κ (kcell ck))).symm
  have hR : (bigSep Finset.univ fun c : Dev nD => bigSep Finset.univ fun i : Fin 6 => (reached ER (kcell (c, i)) 0 : sProp 𝕄))
      = (bigSep Finset.univ fun ck : Dev nD × Fin 6 => reached ER (kcell ck) 0 : sProp 𝕄) :=
    (bigSep_univ_prod fun ck : Dev nD × Fin 6 => reached ER (kcell ck) 0).symm
  have hT := exchange (F := F) fun c k => dutyTok ER (vCell k c) 0 ()
  have hS := exchange (F := F) fun c k => slotPts c k (m ((c : Thread nD τ).loc main_v1))
  have hpi : (bigSep Finset.univ fun ck : Dev nD × Fin 6 => iprop(∃ κ : ℕ, cellInv ER (Rd (F := F) m) κ (kcell ck)))
      ⊢ (iprop(∃ K : Dev nD × Fin 6 → ℕ, bigSep Finset.univ fun ck => cellInv ER (Rd (F := F) m) (K ck) (kcell ck)) : sProp 𝕄) :=
    BI.bigSep_exists_pi Finset.univ (fun ck κ => cellInv ER (Rd (F := F) m) κ (kcell ck))
  have hwith (K : Dev nD × Fin 6 → ℕ) :
      iprop(records m K ∗ bigSep Finset.univ fun c : Dev nD => linear m c) ⊢ (bigSep Finset.univ (G' m) : sProp 𝕄) := by
    refine (sep_mono_left (BI.bigSep_of_persistent (Finset.univ : Finset (Dev nD)) (records m K))).trans ?_
    rw [← bigSep_sep']
    refine bigSep_mono fun c _ => ?_
    have h : iprop(records m K ∗ linear m c) ⊢ (G' m c : sProp 𝕄) := by
      unfold G'
      iintro H
      iexists K
      iexact H
    exact h
  unfold got
  simp only [bigSep_sep']
  rw [hI, hR, hT, hS]
  iintro ⟨HI, Hr, Hat, Ht1, Ht2, ⟨Hx, Hrest⟩, Hsl⟩
  ihave HK := hpi $$ HI
  icases HK with ⟨%K, HI⟩
  iapply (hwith K)
  isplitl [HI Hr]
  · unfold records
    isplitl [HI] <;> iassumption
  unfold linear toks held
  simp only [bigSep_sep']
  isplitl [Hat]; · iexact Hat
  isplitl [Ht1 Ht2]
  · isplitl [Ht1] <;> iassumption
  isplitl [Hsl]; · iexact Hsl
  isplitl [Hx] <;> iassumption

/-! ## The run -/

/-- What each device ends with. -/
def Y (c : Dev nD) : sProp 𝕄 := iprop((((c : Thread nD τ).loc main_v1) ↦{fullShare} outF m c) ∗ (((c : Thread nD τ).loc main_arg0) ↦{fullShare} m ((c : Thread nD τ).loc main_arg0)))

theorem read_off (c : Dev nD) (s' : Phys nD τ sig (Elt F)) :
    iprop(Y m c ∗ SI s') ⊢ |={Set.univ}=>
      iprop(⌜s'.mem.mem ((c : Thread nD τ).loc main_v1) = outF m c ∧ s'.mem.mem ((c : Thread nD τ).loc main_arg0) = m ((c : Thread nD τ).loc main_arg0)⌝
        ∗ SI s' : sProp 𝕄) := by
  unfold Y
  iintro ⟨⟨Ho, Hx⟩, HSI⟩
  icombine HSI Ho gives %ho
  icombine HSI Hx gives %hx
  imodintro
  isplitr
  · ipureintro
    exact ⟨Buf.eq_of_forall_mem_univ ho, Buf.eq_of_forall_mem_univ hx⟩
  iexact HSI

/-- From any memory with all semaphores at zero, the exchange ends with every device's result being the blocks sent to it,
    the operands as they were, and all semaphores at zero. -/
theorem run_main : θ_run defs (onTc (τ := τ) (main (F := F))) ⟨m, fun _ => 0, ρ⟩ fun r =>
    (∀ c : Dev nD, r.2.mem ((c : Thread nD τ).loc main_v1) = outF m c ∧ r.2.mem ((c : Thread nD τ).loc main_arg0) = m ((c : Thread nD τ).loc main_arg0))
      ∧ r.2.sem = fun _ => 0 :=
  run_of m ρ (dats m) (body_obligation m) O₀ (fun _ => rfl) (fun _ => rfl) L lv L_of_ne (G m) (G' m) u₀ (records_made m) (dealt m)
    (fun c => by
      show _ ⊢ Φ₀ m c
      unfold Φ₀
      exact sep_mono_right (sep_mono_right (creds c)))
    (Y m)
    (fun c => by
      show Φ₁ m c ⊢ _
      unfold Φ₁ Y
      iintro ⟨Ho, Hx, Hs⟩
      isplitr [Hs]
      · isplitl [Ho] <;> iassumption
      rw [sems0_eq]
      iexact Hs)
    (fun c s => s.mem ((c : Thread nD τ).loc main_v1) = outF m c ∧ s.mem ((c : Thread nD τ).loc main_arg0) = m ((c : Thread nD τ).loc main_arg0))
    (read_off m)
    (fun s h hs => ⟨h, sem_eq_zero_of_scoped (by decide) hs⟩)

end Cert.ChipsProof

end
-- ==== Proof.Chips.Value.lean ====
/-
# What the exchange between chips computes

The reference cuts the operands of all devices into the chip and the core that hold a block and the chip that it is for, takes for
every chip what each of the three others holds for it, and stacks the twelve pieces.  Read at one place, that is one element
of the operands (`reference_at`), and it is the one that the exchange brings there (`exchanged`).
-/
module

public import proofs.«01_k».proof.Defs
public import proofs.«01_k».proof.Proof.Gen.Chips
public import proofs.«01_k».proof.Proof.Gen.ChipsRefIdeal
public import proofs.«01_k».proof.Proof.Gen.ChipsRef
public import proofs.«01_k».proof.Proof.Gen.ChipsRefIdeal.Run
public import proofs.«01_k».proof.Proof.Gen.ChipsRef.Run
public import proofs.«01_k».proof.Proof.Chips.Run
public import Idealize.ShloMosaic.Lib.ValueIdx
public import Idealize.ShloMosaic.Lib.Pipeline.Value

@[expose] public section

noncomputable section

namespace Cert.ChipsProof

open Idealize.ShloMosaic
open Idealize.ShloMosaic.TcCoe Idealize.ShloMosaic.ValueIdx Idealize.SL.Sem

/-! ## The reference at one place -/

section
variable {α : Type} {r n : ℕ}

/-- What chip `s` holds for chip `t`, on both cores. -/
def slab (v : (⟨3, ![32, r, n]⟩ : Shape).Idx → α) (h0 : (⟨3, ![32, r, n]⟩ : Shape).ShapeCasts ⟨5, ![4, 2, 4, r, n]⟩) (s t : ℕ)
    (hs : (⟨5, ![4, 2, 4, r, n]⟩ : Shape).Slices ![s, 0, t, 0, 0] ⟨5, ![1, 2, 1, r, n]⟩)
    (h1 : (⟨5, ![1, 2, 1, r, n]⟩ : Shape).ShapeCasts ⟨3, ![2, r, n]⟩)
    (b : (⟨3, ![2, r, n]⟩ : Shape).BroadcastsInDim ⟨4, ![2, 1, r, n]⟩ ![0, 2, 3]) : (⟨4, ![2, 1, r, n]⟩ : Shape).Idx → α :=
  broadcastInDim ⟨4, ![2, 1, r, n]⟩ ![0, 2, 3] b
    (shapeCast ⟨3, ![2, r, n]⟩ (extractStridedSlice ⟨5, ![1, 2, 1, r, n]⟩ ![s, 0, t, 0, 0] (shapeCast ⟨5, ![4, 2, 4, r, n]⟩ v h0) hs) h1)

theorem slab_at (v : (⟨3, ![32, r, n]⟩ : Shape).Idx → α) (h0) (s t : Fin 4) (hs) (h1) (b) (w : Fin 2) (p : Fin r) (q : Fin n)
    (e : Fin 32) (he : e.val = 8 * s.val + 4 * w.val + t.val) :
    slab v h0 s.val t.val hs h1 b (ix4 w 0 p q) = v (ix3 e p q) := by
  unfold slab
  refine (broadcastInDim_apply _ b _ _ (ix3 w p q) ?_).trans ?_
  · intro a
    match a with
    | ⟨0, _⟩ => rfl
    | ⟨1, _⟩ =>
      show p.val = if r = 1 then 0 else p.val
      split <;> have := p.isLt <;> omega
    | ⟨2, _⟩ =>
      show q.val = if n = 1 then 0 else q.val
      split <;> have := q.isLt <;> omega
  refine (shapeCast_apply _ h1 _ (ix5 0 w 0 p q) ?_).trans ?_
  · rw [Shape.rowMajor_val_five, Shape.rowMajor_val_three]
    show (((0 * 2 + w.val) * 1 + 0) * r + p.val) * n + q.val = (w.val * r + p.val) * n + q.val
    rw [zero_mul, zero_add, mul_one, add_zero]
  refine (extractStridedSlice_apply _ _ hs _ (ix5 s w t p q) ?_).trans ?_
  · intro a
    match a with
    | ⟨0, _⟩ => show s.val = s.val + 0; omega
    | ⟨1, _⟩ => show w.val = 0 + w.val; omega
    | ⟨2, _⟩ => show t.val = t.val + 0; omega
    | ⟨3, _⟩ => show p.val = 0 + p.val; omega
    | ⟨4, _⟩ => show q.val = 0 + q.val; omega
  refine shapeCast_apply _ h0 _ (ix3 e p q) ?_
  rw [Shape.rowMajor_val_five, Shape.rowMajor_val_three]
  show (e.val * r + p.val) * n + q.val = (((s.val * 2 + w.val) * 4 + t.val) * r + p.val) * n + q.val
  rw [show (s.val * 2 + w.val) * 4 + t.val = e.val by omega]

/-- Three pieces put side by side, with a first axis of one. -/
def three (x : Fin 3 → (⟨4, ![2, 1, r, n]⟩ : Shape).Idx → α)
    (hc : Shape.Concatenates [⟨4, ![2, 1, r, n]⟩, ⟨4, ![2, 1, r, n]⟩, ⟨4, ![2, 1, r, n]⟩] ⟨4, ![2, 3, r, n]⟩ 1)
    (hb : (⟨4, ![2, 3, r, n]⟩ : Shape).BroadcastsInDim ⟨5, ![1, 2, 3, r, n]⟩ ![1, 2, 3, 4]) : (⟨5, ![1, 2, 3, r, n]⟩ : Shape).Idx → α :=
  broadcastInDim ⟨5, ![1, 2, 3, r, n]⟩ ![1, 2, 3, 4] hb (concatenate ⟨4, ![2, 3, r, n]⟩ 1
    [⟨⟨4, ![2, 1, r, n]⟩, x 0⟩, ⟨⟨4, ![2, 1, r, n]⟩, x 1⟩, ⟨⟨4, ![2, 1, r, n]⟩, x 2⟩] hc)

theorem three_at (x : Fin 3 → (⟨4, ![2, 1, r, n]⟩ : Shape).Idx → α) (hc) (hb) (w : Fin 2) (k : Fin 3) (p : Fin r) (q : Fin n) :
    three x hc hb (ix5 0 w k p q) = x k (ix4 w 0 p q) := by
  unfold three
  refine (broadcastInDim_apply _ hb _ _ (ix4 w k p q) ?_).trans ?_
  · intro a
    match a with
    | ⟨0, _⟩ => rfl
    | ⟨1, _⟩ => rfl
    | ⟨2, _⟩ =>
      show p.val = if r = 1 then 0 else p.val
      split <;> have := p.isLt <;> omega
    | ⟨3, _⟩ =>
      show q.val = if n = 1 then 0 else q.val
      split <;> have := q.isLt <;> omega
  have hi (k : Fin 3) (a : Fin 4) (ha : a ≠ 1) : ((ix4 w 0 p q : (⟨4, ![2, 1, r, n]⟩ : Shape).Idx) a).val
      = ((ix4 w k p q : (⟨4, ![2, 3, r, n]⟩ : Shape).Idx) a).val := by
    match a, ha with
    | ⟨0, _⟩, _ => rfl
    | ⟨1, _⟩, ha => exact absurd rfl ha
    | ⟨2, _⟩, _ => rfl
    | ⟨3, _⟩, _ => rfl
  let xs : List ((s : Shape) × (s.Idx → α)) := [⟨⟨4, ![2, 1, r, n]⟩, x 0⟩, ⟨⟨4, ![2, 1, r, n]⟩, x 1⟩, ⟨⟨4, ![2, 1, r, n]⟩, x 2⟩]
  match k with
  | ⟨0, _⟩ => exact concatenate_apply_piece 1 xs hc _ 0 (by show 0 < 3; decide) _ (x 0) rfl rfl 0 rfl _ (hi 0) rfl
  | ⟨1, _⟩ => exact concatenate_apply_piece 1 xs hc _ 1 (by show 1 < 3; decide) _ (x 1) rfl rfl 1 rfl _ (hi 1) rfl
  | ⟨2, _⟩ => exact concatenate_apply_piece 1 xs hc _ 2 (by show 2 < 3; decide) _ (x 2) rfl rfl 2 rfl _ (hi 2) rfl

/-- Four such stacked, and the first three axes joined. -/
def four (y : Fin 4 → (⟨5, ![1, 2, 3, r, n]⟩ : Shape).Idx → α)
    (hd : Shape.Concatenates [⟨5, ![1, 2, 3, r, n]⟩, ⟨5, ![1, 2, 3, r, n]⟩, ⟨5, ![1, 2, 3, r, n]⟩, ⟨5, ![1, 2, 3, r, n]⟩] ⟨5, ![4, 2, 3, r, n]⟩ 0)
    (h3 : (⟨5, ![4, 2, 3, r, n]⟩ : Shape).ShapeCasts ⟨3, ![24, r, n]⟩) : (⟨3, ![24, r, n]⟩ : Shape).Idx → α :=
  shapeCast ⟨3, ![24, r, n]⟩ (concatenate ⟨5, ![4, 2, 3, r, n]⟩ 0
    [⟨⟨5, ![1, 2, 3, r, n]⟩, y 0⟩, ⟨⟨5, ![1, 2, 3, r, n]⟩, y 1⟩, ⟨⟨5, ![1, 2, 3, r, n]⟩, y 2⟩, ⟨⟨5, ![1, 2, 3, r, n]⟩, y 3⟩] hd) h3

theorem four_at (y : Fin 4 → (⟨5, ![1, 2, 3, r, n]⟩ : Shape).Idx → α) (hd) (h3) (t : Fin 4) (w : Fin 2) (k : Fin 3) (p : Fin r) (q : Fin n)
    (d : Fin 24) (hv : d.val = 6 * t.val + 3 * w.val + k.val) :
    four y hd h3 (ix3 d p q) = y t (ix5 0 w k p q) := by
  unfold four
  refine (shapeCast_apply _ h3 _ (ix5 t w k p q) ?_).trans ?_
  · rw [Shape.rowMajor_val_five, Shape.rowMajor_val_three]
    show (((t.val * 2 + w.val) * 3 + k.val) * r + p.val) * n + q.val = (d.val * r + p.val) * n + q.val
    rw [show (t.val * 2 + w.val) * 3 + k.val = d.val by omega]
  have hi (t : Fin 4) (a : Fin 5) (ha : a ≠ 0) : ((ix5 0 w k p q : (⟨5, ![1, 2, 3, r, n]⟩ : Shape).Idx) a).val
      = ((ix5 t w k p q : (⟨5, ![4, 2, 3, r, n]⟩ : Shape).Idx) a).val := by
    match a, ha with
    | ⟨0, _⟩, ha => exact absurd rfl ha
    | ⟨1, _⟩, _ => rfl
    | ⟨2, _⟩, _ => rfl
    | ⟨3, _⟩, _ => rfl
    | ⟨4, _⟩, _ => rfl
  let xs : List ((s : Shape) × (s.Idx → α)) := [⟨⟨5, ![1, 2, 3, r, n]⟩, y 0⟩, ⟨⟨5, ![1, 2, 3, r, n]⟩, y 1⟩, ⟨⟨5, ![1, 2, 3, r, n]⟩, y 2⟩, ⟨⟨5, ![1, 2, 3, r, n]⟩, y 3⟩]
  match t with
  | ⟨0, _⟩ => exact concatenate_apply_piece 0 xs hd _ 0 (by show 0 < 4; decide) _ (y 0) rfl rfl 0 rfl _ (hi 0) rfl
  | ⟨1, _⟩ => exact concatenate_apply_piece 0 xs hd _ 1 (by show 1 < 4; decide) _ (y 1) rfl rfl 1 rfl _ (hi 1) rfl
  | ⟨2, _⟩ => exact concatenate_apply_piece 0 xs hd _ 2 (by show 2 < 4; decide) _ (y 2) rfl rfl 2 rfl _ (hi 2) rfl
  | ⟨3, _⟩ => exact concatenate_apply_piece 0 xs hd _ 3 (by show 3 < 4; decide) _ (y 3) rfl rfl 3 rfl _ (hi 3) rfl

/-- Which chip the piece in slot `k` for chip `t` comes from. -/
abbrev other (t : Fin 4) (k : Fin 3) : Fin 4 := (![![1, 2, 3], ![0, 3, 2], ![3, 0, 1], ![2, 1, 0]] : Fin 4 → Fin 3 → Fin 4) t k

/-- All of the reference. -/
def total (v : (⟨3, ![32, r, n]⟩ : Shape).Idx → α) (h0 : (⟨3, ![32, r, n]⟩ : Shape).ShapeCasts ⟨5, ![4, 2, 4, r, n]⟩)
    (sl : ∀ s t : Fin 4, (⟨5, ![4, 2, 4, r, n]⟩ : Shape).Slices ![s.val, 0, t.val, 0, 0] ⟨5, ![1, 2, 1, r, n]⟩)
    (h1 : (⟨5, ![1, 2, 1, r, n]⟩ : Shape).ShapeCasts ⟨3, ![2, r, n]⟩)
    (b : (⟨3, ![2, r, n]⟩ : Shape).BroadcastsInDim ⟨4, ![2, 1, r, n]⟩ ![0, 2, 3])
    (hc : Shape.Concatenates [⟨4, ![2, 1, r, n]⟩, ⟨4, ![2, 1, r, n]⟩, ⟨4, ![2, 1, r, n]⟩] ⟨4, ![2, 3, r, n]⟩ 1)
    (hb : (⟨4, ![2, 3, r, n]⟩ : Shape).BroadcastsInDim ⟨5, ![1, 2, 3, r, n]⟩ ![1, 2, 3, 4])
    (hd : Shape.Concatenates [⟨5, ![1, 2, 3, r, n]⟩, ⟨5, ![1, 2, 3, r, n]⟩, ⟨5, ![1, 2, 3, r, n]⟩, ⟨5, ![1, 2, 3, r, n]⟩] ⟨5, ![4, 2, 3, r, n]⟩ 0)
    (h3 : (⟨5, ![4, 2, 3, r, n]⟩ : Shape).ShapeCasts ⟨3, ![24, r, n]⟩) : (⟨3, ![24, r, n]⟩ : Shape).Idx → α :=
  four (fun t => three (fun k => slab v h0 (other t k).val t.val (sl (other t k) t) h1 b) hc hb) hd h3

theorem reference_at (v : (⟨3, ![32, r, n]⟩ : Shape).Idx → α) (h0) (sl) (h1) (b) (hc) (hb) (hd) (h3) (t : Fin 4) (w : Fin 2) (k : Fin 3) (p : Fin r)
    (q : Fin n) (d : Fin 24) (hv : d.val = 6 * t.val + 3 * w.val + k.val) (e : Fin 32) (he : e.val = 8 * (other t k).val + 4 * w.val + t.val) :
    total v h0 sl h1 b hc hb hd h3 (ix3 d p q) = v (ix3 e p q) :=
  (four_at _ hd h3 t w k p q d hv).trans ((three_at _ hc hb w k p q).trans (slab_at v h0 (other t k) t _ h1 b w p q e he))

end

/-! ## The exchange's result -/

open Cert.ChipsIdeal Cert.ChipsIdeal.Gen

theorem peer_val : ∀ (k : Fin 3) (c : Dev nD), (peer k c).val = 2 * (other ⟨c.val / 2, by have : c.val < 8 := c.isLt; omega⟩ k).val + c.val % 2 := by decide

theorem src_at (k : Fin 3) (c : Dev nD) (y : S1088x1024.Idx) (a : Fin 3) :
    ((src k c).view.emb y a).val = srcOff k c a + 1 * ((Fin.cons ⟨0, Nat.one_pos⟩ y : S1x1088x1024.Idx) a).val := by
  have e := Shape.reshapeEquiv_cons_one (d := ![1088, 1024]) squeezes_S1x1088x1024_S1088x1024.numel_eq y
  exact congrArg (fun z : S1x1088x1024.Idx => srcOff k c a + 1 * (z a).val) e

variable {F : FTy → Type} [FloatOps F]

/-- What the exchange leaves on every device is its block of the reference's result. -/
theorem exchanged (m : (ℓ : Loc nD τ sig) → Buf (Elt F) ℓ) (v : (⟨3, ![32, 1088, 1024]⟩ : Shape).Idx → Elt F .bf16)
    (hm : ∀ c : Dev nD, m ((c : Thread nD τ).loc main_arg0) = Layout.block ⟨3, ![4, 1088, 1024]⟩ ⟨3, ![32, 1088, 1024]⟩ 0 8 c v)
    (h0) (sl) (h1) (b) (hc) (hb) (hd) (h3) (c : Dev nD) :
    outF m c = Layout.block ⟨3, ![3, 1088, 1024]⟩ ⟨3, ![24, 1088, 1024]⟩ 0 8 c (total v h0 sl h1 b hc hb hd h3) := by
  funext i
  have hT : Layout.Tiles ⟨3, ![3, 1088, 1024]⟩ ⟨3, ![24, 1088, 1024]⟩ 0 8 := by decide
  have hS : Layout.Tiles ⟨3, ![4, 1088, 1024]⟩ ⟨3, ![32, 1088, 1024]⟩ 0 8 := by decide
  have hlt : c.val < 8 := c.isLt
  have hk : (i 0).val < 3 := (i 0).isLt
  have hp := peer_val (kOf i) c
  let t : Fin 4 := ⟨c.val / 2, by omega⟩
  let w : Fin 2 := ⟨c.val % 2, by omega⟩
  have ho : (other t (kOf i)).val < 4 := (other t (kOf i)).isLt
  let d : Fin 24 := ⟨6 * (c.val / 2) + 3 * (c.val % 2) + (i 0).val, by omega⟩
  let e : Fin 32 := ⟨8 * (other t (kOf i)).val + 4 * (c.val % 2) + c.val / 2, by omega⟩
  have hplace : hT.idx c i = ix3 d (i 1) (i 2) := funext fun a => Fin.ext (by
    match a with
    | ⟨0, _⟩ => show c.val * 3 + (i 0).val = 6 * (c.val / 2) + 3 * (c.val % 2) + (i 0).val; omega
    | ⟨1, _⟩ => rfl
    | ⟨2, _⟩ => rfl)
  have hfrom : hS.idx (peer (kOf i) c) ((src (kOf i) (peer (kOf i) c)).view.emb (row i)) = ix3 e (i 1) (i 2) := funext fun a => Fin.ext (by
    match a with
    | ⟨0, _⟩ =>
      have hs : ((src (kOf i) (peer (kOf i) c)).view.emb (row i) 0).val = (peer (kOf i) (peer (kOf i) c)).val / 2 + 1 * 0 :=
        src_at (kOf i) (peer (kOf i) c) (row i) 0
      rw [peer_peer] at hs
      show (peer (kOf i) c).val * 4 + ((src (kOf i) (peer (kOf i) c)).view.emb (row i) 0).val
        = 8 * (other t (kOf i)).val + 4 * (c.val % 2) + c.val / 2
      have hp : (peer (kOf i) c).val = 2 * (other t (kOf i)).val + c.val % 2 := hp
      omega
    | ⟨1, _⟩ =>
      have hs : ((src (kOf i) (peer (kOf i) c)).view.emb (row i) 1).val = 0 + 1 * (i 1).val := src_at (kOf i) (peer (kOf i) c) (row i) 1
      show ((src (kOf i) (peer (kOf i) c)).view.emb (row i) 1).val = (i 1).val
      omega
    | ⟨2, _⟩ =>
      have hs : ((src (kOf i) (peer (kOf i) c)).view.emb (row i) 2).val = 0 + 1 * (i 2).val := src_at (kOf i) (peer (kOf i) c) (row i) 2
      show ((src (kOf i) (peer (kOf i) c)).view.emb (row i) 2).val = (i 2).val
      omega)
  unfold outF
  rw [hm]
  show v (hS.idx (peer (kOf i) c) ((src (kOf i) (peer (kOf i) c)).view.emb (row i))) = _
  rw [hfrom, Layout.block_apply, hplace]
  exact (reference_at v h0 sl h1 b hc hb hd h3 t w (kOf i) (i 1) (i 2) d rfl e rfl).symm

/-- The twelve places where the reference cuts lie inside. -/
theorem cuts : ∀ s t : Fin 4, (⟨5, ![4, 2, 4, 1088, 1024]⟩ : Shape).Slices ![s.val, 0, t.val, 0, 0] ⟨5, ![1, 2, 1, 1088, 1024]⟩ := by decide

/-! ## The claims -/

theorem bitexact_chips : Cert.bitexact_Chips_ChipsRef := fun m ρ m' ρ' _ hm =>
  ⟨_, (θ_run Cert.ChipsIdeal.defs _ _).mono (fun _ h c => ⟨(h.1 c).1.trans (exchanged m _ hm Cert.ChipsRef.Gen.shapeCasts_S32x1088x1024_S4x2x4x1088x1024 cuts Cert.ChipsRef.Gen.shapeCasts_S1x2x1x1088x1024_S2x1088x1024
        Cert.ChipsRef.Gen.bcast_S2x1088x1024_S2x1x1088x1024_0_2_3 Cert.ChipsRef.Gen.concatenates_S2x1x1088x1024_S2x1x1088x1024_S2x1x1088x1024_S2x3x1088x1024_d1 Cert.ChipsRef.Gen.bcast_S2x3x1088x1024_S1x2x3x1088x1024_1_2_3_4 Cert.ChipsRef.Gen.concatenates_S1x2x3x1088x1024_S1x2x3x1088x1024_S1x2x3x1088x1024_S1x2x3x1088x1024_S4x2x3x1088x1024_d0
        Cert.ChipsRef.Gen.shapeCasts_S4x2x3x1088x1024_S24x1088x1024 c), (h.1 c).2⟩) (run_main (F := Bits) m ρ),
    (θ_run Cert.ChipsRef.defs _ _).mono (fun _ h => h 0) (Cert.ChipsRef.Value.run (F := Bits) m' ρ')⟩

theorem algebraic_chips : Cert.algebraic_ChipsIdeal_ChipsRefIdeal := fun m ρ m' ρ' _ hm =>
  ⟨_, (θ_run Cert.ChipsIdeal.defs _ _).mono (fun _ h c => ⟨(h.1 c).1.trans (exchanged m _ hm Cert.ChipsRefIdeal.Gen.shapeCasts_S32x1088x1024_S4x2x4x1088x1024 cuts Cert.ChipsRefIdeal.Gen.shapeCasts_S1x2x1x1088x1024_S2x1088x1024
        Cert.ChipsRefIdeal.Gen.bcast_S2x1088x1024_S2x1x1088x1024_0_2_3 Cert.ChipsRefIdeal.Gen.concatenates_S2x1x1088x1024_S2x1x1088x1024_S2x1x1088x1024_S2x3x1088x1024_d1 Cert.ChipsRefIdeal.Gen.bcast_S2x3x1088x1024_S1x2x3x1088x1024_1_2_3_4 Cert.ChipsRefIdeal.Gen.concatenates_S1x2x3x1088x1024_S1x2x3x1088x1024_S1x2x3x1088x1024_S1x2x3x1088x1024_S4x2x3x1088x1024_d0
        Cert.ChipsRefIdeal.Gen.shapeCasts_S4x2x3x1088x1024_S24x1088x1024 c), (h.1 c).2⟩) (run_main (F := Ideal) m ρ),
    (θ_run Cert.ChipsRefIdeal.defs _ _).mono (fun _ h => h 0) (Cert.ChipsRefIdeal.Value.run (F := Ideal) m' ρ')⟩

theorem frames_chips : Cert.quiescent_Chips ∧ Cert.quiescent_ChipsIdeal ∧ Cert.quiescent_ChipsRefIdeal ∧ Cert.quiescent_ChipsRef :=
  ⟨fun m ρ _ => (θ_run Cert.ChipsIdeal.defs _ _).mono (fun _ h => ⟨fun c => (h.1 c).2, h.2⟩) (run_main (F := Bits) m ρ),
    fun m ρ _ => (θ_run Cert.ChipsIdeal.defs _ _).mono (fun _ h => ⟨fun c => (h.1 c).2, h.2⟩) (run_main (F := Ideal) m ρ),
    fun m ρ _ => (θ_run Cert.ChipsRefIdeal.defs _ _).mono (fun r h => ⟨fun c => (h c).2, sem_eq_zero_of_no_sems (by decide) r.2⟩)
      (Cert.ChipsRefIdeal.Value.run (F := Ideal) m ρ),
    fun m ρ _ => (θ_run Cert.ChipsRef.defs _ _).mono (fun r h => ⟨fun c => (h c).2, sem_eq_zero_of_no_sems (by decide) r.2⟩)
      (Cert.ChipsRef.Value.run (F := Bits) m ρ)⟩

end Cert.ChipsProof

end
-- ==== Proof.Frames.lean ====
/- The calls without an exchange end as they should: the frames of each, of its ideal reading and of its reference. -/
module

public import proofs.«01_k».proof.Defs
public import proofs.«01_k».proof.Proof.Sums
public import proofs.«01_k».proof.Proof.Updates
public import proofs.«01_k».proof.Proof.Gen.SumBranch.Frame
public import proofs.«01_k».proof.Proof.Gen.SumOut.Frame
public import proofs.«01_k».proof.Proof.Gen.SumUp.Frame
public import proofs.«01_k».proof.Proof.Gen.SumDown.Frame
public import proofs.«01_k».proof.Proof.Gen.SumConv.Frame
public import proofs.«01_k».proof.Proof.Gen.SumSmall.Frame
public import proofs.«01_k».proof.Proof.Gen.AdamIn.Frame
public import proofs.«01_k».proof.Proof.Gen.AdamBranch.Frame
public import proofs.«01_k».proof.Proof.Gen.AdamOut.Frame
public import proofs.«01_k».proof.Proof.Gen.AdamUp.Frame
public import proofs.«01_k».proof.Proof.Gen.AdamConv.Frame
public import proofs.«01_k».proof.Proof.Gen.AdamDown.Frame
public import proofs.«01_k».proof.Proof.Gen.AdamSmall.Frame

@[expose] public section

noncomputable section

namespace Cert.Parts

open Idealize.ShloMosaic Idealize.ShloMosaic.TcCoe Idealize.SL.Sem

/-! The frames of a kernel and of its ideal reading are the generated ones. The references have no semaphores. -/

theorem frames_sum_branch : Cert.quiescent_SumBranch ∧ Cert.quiescent_SumBranchIdeal ∧ Cert.quiescent_SumBranchRefIdeal :=
  ⟨fun m ρ _ => Cert.SumBranch.Gen.frame m ρ, fun m ρ _ => Cert.SumBranchIdeal.Gen.frame (F := Ideal) m ρ, fun m ρ _ =>
    (θ_run Cert.SumBranchRefIdeal.defs _ _).mono (fun r h => ⟨fun c => (h c).2, sem_eq_zero_of_no_sems (by decide) r.2⟩)
      (Cert.SumBranchRefIdeal.Value.run (F := Ideal) m ρ)⟩

theorem frames_sum_out : Cert.quiescent_SumOut ∧ Cert.quiescent_SumOutIdeal ∧ Cert.quiescent_SumOutRefIdeal :=
  ⟨fun m ρ _ => Cert.SumOut.Gen.frame m ρ, fun m ρ _ => Cert.SumOutIdeal.Gen.frame (F := Ideal) m ρ, fun m ρ _ =>
    (θ_run Cert.SumOutRefIdeal.defs _ _).mono (fun r h => ⟨fun c => (h c).2, sem_eq_zero_of_no_sems (by decide) r.2⟩)
      (Cert.SumOutRefIdeal.Value.run (F := Ideal) m ρ)⟩

theorem frames_sum_up : Cert.quiescent_SumUp ∧ Cert.quiescent_SumUpIdeal ∧ Cert.quiescent_SumUpRefIdeal :=
  ⟨fun m ρ _ => Cert.SumUp.Gen.frame m ρ, fun m ρ _ => Cert.SumUpIdeal.Gen.frame (F := Ideal) m ρ, fun m ρ _ =>
    (θ_run Cert.SumUpRefIdeal.defs _ _).mono (fun r h => ⟨fun c => (h c).2, sem_eq_zero_of_no_sems (by decide) r.2⟩)
      (Cert.SumUpRefIdeal.Value.run (F := Ideal) m ρ)⟩

theorem frames_sum_down : Cert.quiescent_SumDown ∧ Cert.quiescent_SumDownIdeal ∧ Cert.quiescent_SumDownRefIdeal :=
  ⟨fun m ρ _ => Cert.SumDown.Gen.frame m ρ, fun m ρ _ => Cert.SumDownIdeal.Gen.frame (F := Ideal) m ρ, fun m ρ _ =>
    (θ_run Cert.SumDownRefIdeal.defs _ _).mono (fun r h => ⟨fun c => (h c).2, sem_eq_zero_of_no_sems (by decide) r.2⟩)
      (Cert.SumDownRefIdeal.Value.run (F := Ideal) m ρ)⟩

theorem frames_sum_conv : Cert.quiescent_SumConv ∧ Cert.quiescent_SumConvIdeal ∧ Cert.quiescent_SumConvRefIdeal :=
  ⟨fun m ρ _ => Cert.SumConv.Gen.frame m ρ, fun m ρ _ => Cert.SumConvIdeal.Gen.frame (F := Ideal) m ρ, fun m ρ _ =>
    (θ_run Cert.SumConvRefIdeal.defs _ _).mono (fun r h => ⟨fun c => (h c).2, sem_eq_zero_of_no_sems (by decide) r.2⟩)
      (Cert.SumConvRefIdeal.Value.run (F := Ideal) m ρ)⟩

theorem frames_sum_small : Cert.quiescent_SumSmall ∧ Cert.quiescent_SumSmallIdeal ∧ Cert.quiescent_SumSmallRefIdeal :=
  ⟨fun m ρ _ => Cert.SumSmall.Gen.frame m ρ, fun m ρ _ => Cert.SumSmallIdeal.Gen.frame (F := Ideal) m ρ, fun m ρ _ =>
    (θ_run Cert.SumSmallRefIdeal.defs _ _).mono (fun r h => ⟨fun c => (h c).2, sem_eq_zero_of_no_sems (by decide) r.2⟩)
      (Cert.SumSmallRefIdeal.Value.run (F := Ideal) m ρ)⟩

theorem frames_adam_in : Cert.quiescent_AdamIn ∧ Cert.quiescent_AdamInIdeal ∧ Cert.quiescent_AdamInRefIdeal :=
  ⟨fun m ρ _ => Cert.AdamIn.Gen.frame m ρ, fun m ρ _ => Cert.AdamInIdeal.Gen.frame (F := Ideal) m ρ, fun m ρ _ =>
    (θ_run Cert.AdamInRefIdeal.defs _ _).mono (fun r h => ⟨fun c => (h c).2.2.2, sem_eq_zero_of_no_sems (by decide) r.2⟩)
      (Cert.AdamInRefIdeal.Value.run (F := Ideal) m ρ)⟩

theorem frames_adam_branch : Cert.quiescent_AdamBranch ∧ Cert.quiescent_AdamBranchIdeal ∧ Cert.quiescent_AdamBranchRefIdeal :=
  ⟨fun m ρ _ => Cert.AdamBranch.Gen.frame m ρ, fun m ρ _ => Cert.AdamBranchIdeal.Gen.frame (F := Ideal) m ρ, fun m ρ _ =>
    (θ_run Cert.AdamBranchRefIdeal.defs _ _).mono (fun r h => ⟨fun c => (h c).2.2.2, sem_eq_zero_of_no_sems (by decide) r.2⟩)
      (Cert.AdamBranchRefIdeal.Value.run (F := Ideal) m ρ)⟩

theorem frames_adam_out : Cert.quiescent_AdamOut ∧ Cert.quiescent_AdamOutIdeal ∧ Cert.quiescent_AdamOutRefIdeal :=
  ⟨fun m ρ _ => Cert.AdamOut.Gen.frame m ρ, fun m ρ _ => Cert.AdamOutIdeal.Gen.frame (F := Ideal) m ρ, fun m ρ _ =>
    (θ_run Cert.AdamOutRefIdeal.defs _ _).mono (fun r h => ⟨fun c => (h c).2.2.2, sem_eq_zero_of_no_sems (by decide) r.2⟩)
      (Cert.AdamOutRefIdeal.Value.run (F := Ideal) m ρ)⟩

theorem frames_adam_up : Cert.quiescent_AdamUp ∧ Cert.quiescent_AdamUpIdeal ∧ Cert.quiescent_AdamUpRefIdeal :=
  ⟨fun m ρ _ => Cert.AdamUp.Gen.frame m ρ, fun m ρ _ => Cert.AdamUpIdeal.Gen.frame (F := Ideal) m ρ, fun m ρ _ =>
    (θ_run Cert.AdamUpRefIdeal.defs _ _).mono (fun r h => ⟨fun c => (h c).2.2.2, sem_eq_zero_of_no_sems (by decide) r.2⟩)
      (Cert.AdamUpRefIdeal.Value.run (F := Ideal) m ρ)⟩

theorem frames_adam_conv : Cert.quiescent_AdamConv ∧ Cert.quiescent_AdamConvIdeal ∧ Cert.quiescent_AdamConvRefIdeal :=
  ⟨fun m ρ _ => Cert.AdamConv.Gen.frame m ρ, fun m ρ _ => Cert.AdamConvIdeal.Gen.frame (F := Ideal) m ρ, fun m ρ _ =>
    (θ_run Cert.AdamConvRefIdeal.defs _ _).mono (fun r h => ⟨fun c => (h c).2.2.2, sem_eq_zero_of_no_sems (by decide) r.2⟩)
      (Cert.AdamConvRefIdeal.Value.run (F := Ideal) m ρ)⟩

theorem frames_adam_down : Cert.quiescent_AdamDown ∧ Cert.quiescent_AdamDownIdeal ∧ Cert.quiescent_AdamDownRefIdeal :=
  ⟨fun m ρ _ => Cert.AdamDown.Gen.frame m ρ, fun m ρ _ => Cert.AdamDownIdeal.Gen.frame (F := Ideal) m ρ, fun m ρ _ =>
    (θ_run Cert.AdamDownRefIdeal.defs _ _).mono (fun r h => ⟨fun c => (h c).2.2.2, sem_eq_zero_of_no_sems (by decide) r.2⟩)
      (Cert.AdamDownRefIdeal.Value.run (F := Ideal) m ρ)⟩

theorem frames_adam_small : Cert.quiescent_AdamSmall ∧ Cert.quiescent_AdamSmallIdeal ∧ Cert.quiescent_AdamSmallRefIdeal :=
  ⟨fun m ρ _ => Cert.AdamSmall.Gen.frame m ρ, fun m ρ _ => Cert.AdamSmallIdeal.Gen.frame (F := Ideal) m ρ, fun m ρ _ =>
    (θ_run Cert.AdamSmallRefIdeal.defs _ _).mono (fun r h => ⟨fun c => (h c).2.2.2, sem_eq_zero_of_no_sems (by decide) r.2⟩)
      (Cert.AdamSmallRefIdeal.Value.run (F := Ideal) m ρ)⟩

end Cert.Parts
-- ==== Proof.lean ====
/- The gather of the input projection's weight, and the calls of the training step that exchange nothing, do what their
   references say. The modules under Proof/ hold the work: Start, Plan, Steps, Walk and Run follow the gather's copies and
   signals; Small/, Swap/ and Chips/ do so for the gather of the small gradients and for the two exchanges of the gradient of w_in;
   PartLemmas and Sums treat the sums over the eight slots; Updates the Adam step; Frames the frames of both; ProductLemmas
   and Products/ the products of the forward and the backward pass; SlabLemmas, NormLemmas and InputGrad the gradient of the
   norm before the branches; InputSumRef, InputSum and PairSum the two sums of the gradient of w_in.
   This file states the gather's value and puts everything together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Small
public import proofs.«01_k».proof.Proof.Gen.SmallRefIdeal
public import proofs.«01_k».proof.Proof.Gen.SmallRef
public import proofs.«01_k».proof.Proof.Gen.SmallRefIdeal.Run
public import proofs.«01_k».proof.Proof.Gen.SmallRef.Run
public import proofs.«01_k».proof.Proof.Run
public import proofs.«01_k».proof.Proof.Small.Run
public import proofs.«01_k».proof.Proof.Updates
public import proofs.«01_k».proof.Proof.Products.Forward
public import proofs.«01_k».proof.Proof.Products.Backward
public import proofs.«01_k».proof.Proof.Products.Attention
public import proofs.«01_k».proof.Proof.Products.TwoStep
public import proofs.«01_k».proof.Proof.Products.Frames
public import proofs.«01_k».proof.Proof.InputGrad
public import proofs.«01_k».proof.Proof.InputSum
public import proofs.«01_k».proof.Proof.PairSum
public import proofs.«01_k».proof.Proof.Sums
public import proofs.«01_k».proof.Proof.Swap.Value
public import proofs.«01_k».proof.Proof.Chips.Value
public import proofs.«01_k».proof.Proof.Frames
public import Idealize.ShloMosaic.Adequacy
public import Idealize.ShloMosaic.Init

@[expose] public section

noncomputable section

namespace Cert.Proof

open Idealize.ShloMosaic Idealize.ShloMosaic.TcCoe Idealize.SL.Sem
open Cert.GatherProof (outF)

/-! ## The value

  Both sides reorder numbers and compute nothing, so one argument serves any reading of them. -/

/-- A matrix cut into eight blocks of rows, read block by block, is the matrix reshaped. -/
theorem blocks_reshape {r n : ℕ} {α : Type} (v : (⟨2, ![n, 1024]⟩ : Shape).Idx → α)
    (hb : Layout.Tiles ⟨2, ![r, 1024]⟩ ⟨2, ![n, 1024]⟩ 0 8) (h : (⟨2, ![n, 1024]⟩ : Shape).ShapeCasts ⟨3, ![8, r, 1024]⟩)
    (i : (⟨3, ![8, r, 1024]⟩ : Shape).Idx) :
    Layout.block ⟨2, ![r, 1024]⟩ ⟨2, ![n, 1024]⟩ 0 8 ⟨(i 0).val, (i 0).isLt⟩ v hb (fun a => i (Fin.succ a))
      = shapeCast ⟨3, ![8, r, 1024]⟩ v h i := by
  refine congrArg v (Shape.reshapeEquiv_eq_of_rowMajor h ?_).symm
  rw [Shape.rowMajor_val_two, Shape.rowMajor_val_three]
  rfl

/-- What the gather leaves on every device is the reference's result. -/
theorem gathered {F : FTy → Type} (m : (ℓ : Loc Cert.KernelIdeal.nD Cert.KernelIdeal.τ Cert.KernelIdeal.sig) → Buf (Elt F) ℓ)
    (v : (⟨2, ![8704, 1024]⟩ : Shape).Idx → Elt F .bf16)
    (hm : ∀ c : Dev Cert.KernelIdeal.nD, m ((c : Thread Cert.KernelIdeal.nD Cert.KernelIdeal.τ).loc Cert.KernelIdeal.main_arg0)
      = Layout.block ⟨2, ![1088, 1024]⟩ ⟨2, ![8704, 1024]⟩ 0 8 c v)
    (h : (⟨2, ![8704, 1024]⟩ : Shape).ShapeCasts ⟨3, ![8, 1088, 1024]⟩) :
    outF m = shapeCast ⟨3, ![8, 1088, 1024]⟩ v h := by
  funext i
  refine Eq.trans ?_ (blocks_reshape v (by decide) h i)
  unfold outF
  rw [hm]
  rfl

/-- What the gather of the small gradients leaves on every device is the reference's result. -/
theorem gathered_small {F : FTy → Type} (m : (ℓ : Loc Cert.SmallIdeal.nD Cert.SmallIdeal.τ Cert.SmallIdeal.sig) → Buf (Elt F) ℓ)
    (v : (⟨2, ![576, 1024]⟩ : Shape).Idx → Elt F .f32)
    (hm : ∀ c : Dev Cert.SmallIdeal.nD, m ((c : Thread Cert.SmallIdeal.nD Cert.SmallIdeal.τ).loc Cert.SmallIdeal.main_arg0)
      = Layout.block ⟨2, ![72, 1024]⟩ ⟨2, ![576, 1024]⟩ 0 8 c v)
    (h : (⟨2, ![576, 1024]⟩ : Shape).ShapeCasts ⟨3, ![8, 72, 1024]⟩) :
    Cert.SmallProof.outF m = shapeCast ⟨3, ![8, 72, 1024]⟩ v h := by
  funext i
  refine Eq.trans ?_ (blocks_reshape v (by decide) h i)
  unfold Cert.SmallProof.outF
  rw [hm]
  rfl

/-! ## The frames -/

theorem frame_kernel : Cert.quiescent_Kernel := fun m ρ _ =>
  (θ_run Cert.KernelIdeal.defs _ _).mono (fun _ h => ⟨fun c => (h.1 c).2, h.2⟩) (Cert.GatherProof.run_main (F := Bits) m ρ)

theorem frame_kernelIdeal : Cert.quiescent_KernelIdeal := fun m ρ _ =>
  (θ_run Cert.KernelIdeal.defs _ _).mono (fun _ h => ⟨fun c => (h.1 c).2, h.2⟩) (Cert.GatherProof.run_main (F := Ideal) m ρ)

/-- The references have no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem frame_small : Cert.quiescent_Small := fun m ρ _ =>
  (θ_run Cert.SmallIdeal.defs _ _).mono (fun _ h => ⟨fun c => (h.1 c).2, h.2⟩) (Cert.SmallProof.run_main (F := Bits) m ρ)

theorem frame_smallIdeal : Cert.quiescent_SmallIdeal := fun m ρ _ =>
  (θ_run Cert.SmallIdeal.defs _ _).mono (fun _ h => ⟨fun c => (h.1 c).2, h.2⟩) (Cert.SmallProof.run_main (F := Ideal) m ρ)

theorem frame_smallRefIdeal : Cert.quiescent_SmallRefIdeal := fun m ρ _ =>
  (θ_run Cert.SmallRefIdeal.defs _ _).mono (fun r h => ⟨fun c => (h c).2, sem_eq_zero_of_no_sems (by decide) r.2⟩) (Cert.SmallRefIdeal.Value.run (F := Ideal) m ρ)

theorem frame_smallRef : Cert.quiescent_SmallRef := fun m ρ _ =>
  (θ_run Cert.SmallRef.defs _ _).mono (fun r h => ⟨fun c => (h c).2, sem_eq_zero_of_no_sems (by decide) r.2⟩) (Cert.SmallRef.Value.run (F := Bits) m ρ)

/-! ## The values -/

theorem bitexact : Cert.bitexact_Kernel_Reference := fun m ρ m' ρ' _ hm =>
  ⟨_, (θ_run Cert.KernelIdeal.defs _ _).mono
      (fun _ h c => ⟨(h.1 c).1.trans (gathered m _ hm Cert.Reference.Gen.shapeCasts_S8704x1024_S8x1088x1024), (h.1 c).2⟩)
      (Cert.GatherProof.run_main (F := Bits) m ρ),
    (θ_run Cert.Reference.defs _ _).mono (fun _ h => h 0) (Cert.Reference.Value.run (F := Bits) m' ρ')⟩

theorem algebraic : Cert.algebraic_KernelIdeal_ReferenceIdeal := fun m ρ m' ρ' _ hm =>
  ⟨_, (θ_run Cert.KernelIdeal.defs _ _).mono
      (fun _ h c => ⟨(h.1 c).1.trans (gathered m _ hm Cert.ReferenceIdeal.Gen.shapeCasts_S8704x1024_S8x1088x1024), (h.1 c).2⟩)
      (Cert.GatherProof.run_main (F := Ideal) m ρ),
    (θ_run Cert.ReferenceIdeal.defs _ _).mono (fun _ h => h 0) (Cert.ReferenceIdeal.Value.run (F := Ideal) m' ρ')⟩

theorem bitexact_small : Cert.bitexact_Small_SmallRef := fun m ρ m' ρ' _ hm =>
  ⟨_, (θ_run Cert.SmallIdeal.defs _ _).mono
      (fun _ h c => ⟨(h.1 c).1.trans (gathered_small m _ hm Cert.SmallRef.Gen.shapeCasts_S576x1024_S8x72x1024), (h.1 c).2⟩)
      (Cert.SmallProof.run_main (F := Bits) m ρ),
    (θ_run Cert.SmallRef.defs _ _).mono (fun _ h => h 0) (Cert.SmallRef.Value.run (F := Bits) m' ρ')⟩

theorem algebraic_small : Cert.algebraic_SmallIdeal_SmallRefIdeal := fun m ρ m' ρ' _ hm =>
  ⟨_, (θ_run Cert.SmallIdeal.defs _ _).mono
      (fun _ h c => ⟨(h.1 c).1.trans (gathered_small m _ hm Cert.SmallRefIdeal.Gen.shapeCasts_S576x1024_S8x72x1024), (h.1 c).2⟩)
      (Cert.SmallProof.run_main (F := Ideal) m ρ),
    (θ_run Cert.SmallRefIdeal.defs _ _).mono (fun _ h => h 0) (Cert.SmallRefIdeal.Value.run (F := Ideal) m' ρ')⟩

theorem claim : Cert.Claim :=
  ⟨Cert.Kernel.Gen.facts, Cert.KernelIdeal.Gen.facts, Cert.ReferenceIdeal.Gen.facts, Cert.Reference.Gen.facts,
    Cert.Small.Gen.facts, Cert.SmallIdeal.Gen.facts, Cert.SmallRefIdeal.Gen.facts, Cert.SmallRef.Gen.facts, Cert.Swap.Gen.facts, Cert.SwapIdeal.Gen.facts, Cert.SwapRefIdeal.Gen.facts, Cert.SwapRef.Gen.facts,
    Cert.Chips.Gen.facts, Cert.ChipsIdeal.Gen.facts, Cert.ChipsRefIdeal.Gen.facts, Cert.ChipsRef.Gen.facts,
    Cert.SumBranch.Gen.facts, Cert.SumBranchIdeal.Gen.facts, Cert.SumBranchRefIdeal.Gen.facts,
    Cert.SumOut.Gen.facts, Cert.SumOutIdeal.Gen.facts, Cert.SumOutRefIdeal.Gen.facts,
    Cert.SumUp.Gen.facts, Cert.SumUpIdeal.Gen.facts, Cert.SumUpRefIdeal.Gen.facts,
    Cert.SumDown.Gen.facts, Cert.SumDownIdeal.Gen.facts, Cert.SumDownRefIdeal.Gen.facts,
    Cert.SumConv.Gen.facts, Cert.SumConvIdeal.Gen.facts, Cert.SumConvRefIdeal.Gen.facts,
    Cert.SumSmall.Gen.facts, Cert.SumSmallIdeal.Gen.facts, Cert.SumSmallRefIdeal.Gen.facts,
    Cert.AdamIn.Gen.facts, Cert.AdamInIdeal.Gen.facts, Cert.AdamInRefIdeal.Gen.facts,
    Cert.AdamBranch.Gen.facts, Cert.AdamBranchIdeal.Gen.facts, Cert.AdamBranchRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamConv.Gen.facts, Cert.AdamConvIdeal.Gen.facts, Cert.AdamConvRefIdeal.Gen.facts,
    Cert.AdamDown.Gen.facts, Cert.AdamDownIdeal.Gen.facts, Cert.AdamDownRefIdeal.Gen.facts,
    Cert.AdamSmall.Gen.facts, Cert.AdamSmallIdeal.Gen.facts, Cert.AdamSmallRefIdeal.Gen.facts,
    Cert.InProjAttn0.Gen.facts, Cert.InProjAttn0Ideal.Gen.facts, Cert.InProjAttn0RefIdeal.Gen.facts,
    Cert.InProjAttn1.Gen.facts, Cert.InProjAttn1Ideal.Gen.facts, Cert.InProjAttn1RefIdeal.Gen.facts,
    Cert.InProjAttn2.Gen.facts, Cert.InProjAttn2Ideal.Gen.facts, Cert.InProjAttn2RefIdeal.Gen.facts,
    Cert.InProjRest.Gen.facts, Cert.InProjRestIdeal.Gen.facts, Cert.InProjRestRefIdeal.Gen.facts,
    Cert.Branch.Gen.facts, Cert.BranchIdeal.Gen.facts, Cert.BranchRefIdeal.Gen.facts,
    Cert.OutProj.Gen.facts, Cert.OutProjIdeal.Gen.facts, Cert.OutProjRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.FfnDownDx.Gen.facts, Cert.FfnDownDxIdeal.Gen.facts, Cert.FfnDownDxRefIdeal.Gen.facts,
    Cert.FfnDownDw.Gen.facts, Cert.FfnDownDwIdeal.Gen.facts, Cert.FfnDownDwRefIdeal.Gen.facts,
    Cert.FfnUpDx.Gen.facts, Cert.FfnUpDxIdeal.Gen.facts, Cert.FfnUpDxRefIdeal.Gen.facts,
    Cert.FfnUpDw.Gen.facts, Cert.FfnUpDwIdeal.Gen.facts, Cert.FfnUpDwRefIdeal.Gen.facts,
    Cert.OutProjDx.Gen.facts, Cert.OutProjDxIdeal.Gen.facts, Cert.OutProjDxRefIdeal.Gen.facts,
    Cert.OutProjDw.Gen.facts, Cert.OutProjDwIdeal.Gen.facts, Cert.OutProjDwRefIdeal.Gen.facts,
    Cert.BranchDx.Gen.facts, Cert.BranchDxIdeal.Gen.facts, Cert.BranchDxRefIdeal.Gen.facts,
    Cert.BranchDw.Gen.facts, Cert.BranchDwIdeal.Gen.facts, Cert.BranchDwRefIdeal.Gen.facts,
    Cert.InProjDxAttn1.Gen.facts, Cert.InProjDxAttn1Ideal.Gen.facts, Cert.InProjDxAttn1RefIdeal.Gen.facts,
    Cert.InProjDxAttn2.Gen.facts, Cert.InProjDxAttn2Ideal.Gen.facts, Cert.InProjDxAttn2RefIdeal.Gen.facts,
    Cert.NormBwd.Gen.facts, Cert.NormBwdIdeal.Gen.facts, Cert.NormBwdRefIdeal.Gen.facts,
    Cert.SumIn.Gen.facts, Cert.SumInIdeal.Gen.facts, Cert.SumInRefIdeal.Gen.facts,
    Cert.PairSum.Gen.facts, Cert.PairSumIdeal.Gen.facts, Cert.PairSumRefIdeal.Gen.facts,
    Cert.Pre_names_a_device.Gen.facts, Cert.Pre_names_a_core.Gen.facts,
    frame_kernel, frame_kernelIdeal, frame_referenceIdeal, frame_reference,
    frame_small, frame_smallIdeal, frame_smallRefIdeal, frame_smallRef,
    Cert.SwapProof.frames_swap.1, Cert.SwapProof.frames_swap.2.1, Cert.SwapProof.frames_swap.2.2.1, Cert.SwapProof.frames_swap.2.2.2,
    Cert.ChipsProof.frames_chips.1, Cert.ChipsProof.frames_chips.2.1, Cert.ChipsProof.frames_chips.2.2.1, Cert.ChipsProof.frames_chips.2.2.2,
    Cert.Parts.frames_sum_branch.1, Cert.Parts.frames_sum_branch.2.1, Cert.Parts.frames_sum_branch.2.2,
    Cert.Parts.frames_sum_out.1, Cert.Parts.frames_sum_out.2.1, Cert.Parts.frames_sum_out.2.2,
    Cert.Parts.frames_sum_up.1, Cert.Parts.frames_sum_up.2.1, Cert.Parts.frames_sum_up.2.2,
    Cert.Parts.frames_sum_down.1, Cert.Parts.frames_sum_down.2.1, Cert.Parts.frames_sum_down.2.2,
    Cert.Parts.frames_sum_conv.1, Cert.Parts.frames_sum_conv.2.1, Cert.Parts.frames_sum_conv.2.2,
    Cert.Parts.frames_sum_small.1, Cert.Parts.frames_sum_small.2.1, Cert.Parts.frames_sum_small.2.2,
    Cert.Parts.frames_adam_in.1, Cert.Parts.frames_adam_in.2.1, Cert.Parts.frames_adam_in.2.2,
    Cert.Parts.frames_adam_branch.1, Cert.Parts.frames_adam_branch.2.1, Cert.Parts.frames_adam_branch.2.2,
    Cert.Parts.frames_adam_out.1, Cert.Parts.frames_adam_out.2.1, Cert.Parts.frames_adam_out.2.2,
    Cert.Parts.frames_adam_up.1, Cert.Parts.frames_adam_up.2.1, Cert.Parts.frames_adam_up.2.2,
    Cert.Parts.frames_adam_conv.1, Cert.Parts.frames_adam_conv.2.1, Cert.Parts.frames_adam_conv.2.2,
    Cert.Parts.frames_adam_down.1, Cert.Parts.frames_adam_down.2.1, Cert.Parts.frames_adam_down.2.2,
    Cert.Parts.frames_adam_small.1, Cert.Parts.frames_adam_small.2.1, Cert.Parts.frames_adam_small.2.2,
    Cert.Products.frames_attn0.1, Cert.Products.frames_attn0.2.1, Cert.Products.frames_attn0.2.2,
    Cert.Products.frames_attn1.1, Cert.Products.frames_attn1.2.1, Cert.Products.frames_attn1.2.2,
    Cert.Products.frames_attn2.1, Cert.Products.frames_attn2.2.1, Cert.Products.frames_attn2.2.2,
    Cert.Products.frames_rest.1, Cert.Products.frames_rest.2.1, Cert.Products.frames_rest.2.2,
    Cert.Products.frames_branch.1, Cert.Products.frames_branch.2.1, Cert.Products.frames_branch.2.2,
    Cert.Products.frames_out.1, Cert.Products.frames_out.2.1, Cert.Products.frames_out.2.2,
    Cert.Products.frames_up.1, Cert.Products.frames_up.2.1, Cert.Products.frames_up.2.2,
    Cert.Products.frames_down.1, Cert.Products.frames_down.2.1, Cert.Products.frames_down.2.2,
    Cert.Products.frames_downDx.1, Cert.Products.frames_downDx.2.1, Cert.Products.frames_downDx.2.2,
    Cert.Products.frames_downDw.1, Cert.Products.frames_downDw.2.1, Cert.Products.frames_downDw.2.2,
    Cert.Products.frames_upDx.1, Cert.Products.frames_upDx.2.1, Cert.Products.frames_upDx.2.2,
    Cert.Products.frames_upDw.1, Cert.Products.frames_upDw.2.1, Cert.Products.frames_upDw.2.2,
    Cert.Products.frames_outDx.1, Cert.Products.frames_outDx.2.1, Cert.Products.frames_outDx.2.2,
    Cert.Products.frames_outDw.1, Cert.Products.frames_outDw.2.1, Cert.Products.frames_outDw.2.2,
    Cert.Products.frames_branchDx.1, Cert.Products.frames_branchDx.2.1, Cert.Products.frames_branchDx.2.2,
    Cert.Products.frames_branchDw.1, Cert.Products.frames_branchDw.2.1, Cert.Products.frames_branchDw.2.2,
    Cert.Products.frames_dxAttn1.1, Cert.Products.frames_dxAttn1.2.1, Cert.Products.frames_dxAttn1.2.2,
    Cert.Products.frames_dxAttn2.1, Cert.Products.frames_dxAttn2.2.1, Cert.Products.frames_dxAttn2.2.2,
    Cert.Norm.frames_input_grad.1, Cert.Norm.frames_input_grad.2.1, Cert.Norm.frames_input_grad.2.2,
    Cert.InputSum.frames_sum_in.1, Cert.InputSum.frames_sum_in.2.1, Cert.InputSum.frames_sum_in.2.2.1, Cert.InputSum.frames_sum_in.2.2.2,
    Cert.PairSumProof.frames_pair_sum.1, Cert.PairSumProof.frames_pair_sum.2.1, Cert.PairSumProof.frames_pair_sum.2.2.1,
    Cert.PairSumProof.frames_pair_sum.2.2.2,
    trivial, bitexact, algebraic, trivial, bitexact_small, algebraic_small,
    trivial, Cert.SwapProof.bitexact_swap, Cert.SwapProof.algebraic_swap, trivial, Cert.ChipsProof.bitexact_chips, Cert.ChipsProof.algebraic_chips,
    trivial, Cert.Parts.sum_branch,
    trivial, Cert.Parts.sum_out,
    trivial, Cert.Parts.sum_up,
    trivial, Cert.Parts.sum_down,
    trivial, Cert.Parts.sum_conv,
    trivial, Cert.Parts.sum_small,
    trivial, Cert.Parts.adam_in,
    trivial, Cert.Parts.adam_branch,
    trivial, Cert.Parts.adam_out,
    trivial, Cert.Parts.adam_up,
    trivial, Cert.Parts.adam_conv,
    trivial, Cert.Parts.adam_down,
    trivial, Cert.Parts.adam_small,
    trivial, Cert.Products.product_attn0,
    trivial, Cert.Products.product_attn1,
    trivial, Cert.Products.product_attn2,
    trivial, Cert.Products.product_rest,
    trivial, Cert.Products.product_branch,
    trivial, Cert.Products.product_out,
    trivial, Cert.Products.product_up,
    trivial, Cert.Products.product_down,
    trivial, Cert.Products.product_downDx,
    trivial, Cert.Products.product_downDw,
    trivial, Cert.Products.product_upDx,
    trivial, Cert.Products.product_upDw,
    trivial, Cert.Products.product_outDx,
    trivial, Cert.Products.product_outDw,
    trivial, Cert.Products.product_branchDx,
    trivial, Cert.Products.product_branchDw,
    trivial, Cert.Products.product_dxAttn1,
    trivial, Cert.Products.product_dxAttn2,
    trivial, Cert.Norm.input_grad,
    trivial, Cert.InputSum.sum_in,
    trivial, Cert.PairSumProof.pair_sum⟩

end Cert.Proof

end
